-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_attn [hPre_finite_attn : Cert.Pre_finite_attn.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_attn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_attn [hPre_finite_attn : Cert.Pre_finite_attn.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_attn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite_attn0 [hPre_finite_attn0 : Cert.Pre_finite_attn0.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite_attn0.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite_attn0 [hPre_finite_attn0 : Cert.Pre_finite_attn0.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite_attn0.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))) = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_attn [hKernel7Ideal : Cert.Kernel7Ideal.Facts] [hPre_finite_attn : Cert.Pre_finite_attn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_attn m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_attn [hReference7Ideal : Cert.Reference7Ideal.Facts] [hPre_finite_attn : Cert.Pre_finite_attn.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_attn m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Kernel28Ideal_pre_finite_attn0 [hKernel28Ideal : Cert.Kernel28Ideal.Facts] [hPre_finite_attn0 : Cert.Pre_finite_attn0.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite_attn0 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Reference28Ideal_pre_finite_attn0 [hReference28Ideal : Cert.Reference28Ideal.Facts] [hPre_finite_attn0 : Cert.Pre_finite_attn0.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite_attn0 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  IdealRules.named_const.Statement Cert.KernelIdeal.κ "inv_sqrt_2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1792]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v2_0) i = v0 c i)
          ∧ (∀ i : (⟨3, ![6, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v2_1) i = v1 c i)
          ∧ (∀ i : (⟨3, ![6, 128, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v2_2) i = v2 c i)
          ∧ (∀ i : (⟨2, ![1, 768]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v2_3) i = v3 c i)
          ∧ (∀ i : (⟨2, ![1, 768]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.KernelIdeal.nD Cert.KernelIdeal.τ).loc Cert.KernelIdeal.main_v2_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1792]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v129) i = v0 c i)
          ∧ (∀ i : (⟨3, ![6, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v80) i = v1 c i)
          ∧ (∀ i : (⟨3, ![6, 128, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v130) i = v2 c i)
          ∧ (∀ i : (⟨2, ![1, 768]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v131) i = v3 c i)
          ∧ (∀ i : (⟨2, ![1, 768]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.ReferenceIdeal.nD Cert.ReferenceIdeal.τ).loc Cert.ReferenceIdeal.main_v132) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_attn [hKernel7Ideal : Cert.Kernel7Ideal.Facts] [hReference7Ideal : Cert.Reference7Ideal.Facts] [hPre_finite_attn : Cert.Pre_finite_attn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_attn m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v74) = v0 c
          ∧ r.2.mem ((c.tc : Thread Cert.Reference7Ideal.nD Cert.Reference7Ideal.τ).loc Cert.Reference7Ideal.main_v75) = v1 c
          ∧ r.2.mem ((c.tc : Thread Cert.Reference7Ideal.nD Cert.Reference7Ideal.τ).loc Cert.Reference7Ideal.main_v76) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v17) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "inv_sqrt_2" .f32 0x3F3504F3#32 (((Real.sqrt 2)⁻¹ : ℝ) : EReal)

def algebraic_Kernel18Ideal_Reference18Ideal_on_written_fwd [hKernel18Ideal : Cert.Kernel18Ideal.Facts] [hReference18Ideal : Cert.Reference18Ideal.Facts] [hOn_written_fwd : Cert.On_written_fwd.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          (∀ i : (⟨2, ![4096, 1024]⟩ : Shape).Idx, (Cert.On_written_fwd.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) i = 1#1 → r.2.mem ((c.tc : Thread Cert.Kernel18Ideal.nD Cert.Kernel18Ideal.τ).loc Cert.Kernel18Ideal.main_v2) i = v0 c i)
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          (∀ i : (⟨2, ![4096, 1024]⟩ : Shape).Idx, (Cert.On_written_fwd.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) i = 1#1 → r.2.mem ((c.tc : Thread Cert.Reference18Ideal.nD Cert.Reference18Ideal.τ).loc Cert.Reference18Ideal.main_v55) i = v0 c i)
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v28) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v54) = v0 c
          ∧ r.2.mem ((c.tc : Thread Cert.Reference20Ideal.nD Cert.Reference20Ideal.τ).loc Cert.Reference20Ideal.main_v55) = v1 c
          ∧ r.2.mem ((c.tc : Thread Cert.Reference20Ideal.nD Cert.Reference20Ideal.τ).loc Cert.Reference20Ideal.main_v56) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v14) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v36) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v28) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal_pre_finite_attn0 [hKernel28Ideal : Cert.Kernel28Ideal.Facts] [hReference28Ideal : Cert.Reference28Ideal.Facts] [hPre_finite_attn0 : Cert.Pre_finite_attn0.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite_attn0 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v74) = v0 c
          ∧ r.2.mem ((c.tc : Thread Cert.Reference28Ideal.nD Cert.Reference28Ideal.τ).loc Cert.Reference28Ideal.main_v75) = v1 c
          ∧ r.2.mem ((c.tc : Thread Cert.Reference28Ideal.nD Cert.Reference28Ideal.τ).loc Cert.Reference28Ideal.main_v76) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite_gate : Cert.Pre_finite_gate.Facts) (hPre_finite_attn : Cert.Pre_finite_attn.Facts) (hPre_finite_attn0 : Cert.Pre_finite_attn0.Facts) (hOn_written : Cert.On_written.Facts) (hOn_written_fwd : Cert.On_written_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_attn (hKernel7Ideal := hKernel7Ideal) (hPre_finite_attn := hPre_finite_attn)
    ∧ quiescent_Reference7Ideal (hReference7Ideal := hReference7Ideal)
    ∧ quiescent_Reference7Ideal_pre_finite_attn (hReference7Ideal := hReference7Ideal) (hPre_finite_attn := hPre_finite_attn)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite_attn0 (hKernel28Ideal := hKernel28Ideal) (hPre_finite_attn0 := hPre_finite_attn0)
    ∧ quiescent_Reference28Ideal (hReference28Ideal := hReference28Ideal)
    ∧ quiescent_Reference28Ideal_pre_finite_attn0 (hReference28Ideal := hReference28Ideal) (hPre_finite_attn0 := hPre_finite_attn0)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_attn (hKernel7Ideal := hKernel7Ideal) (hReference7Ideal := hReference7Ideal) (hPre_finite_attn := hPre_finite_attn)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_on_written_fwd (hKernel18Ideal := hKernel18Ideal) (hReference18Ideal := hReference18Ideal) (hOn_written_fwd := hOn_written_fwd)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite_attn0 (hKernel28Ideal := hKernel28Ideal) (hReference28Ideal := hReference28Ideal) (hPre_finite_attn0 := hPre_finite_attn0)
    ∧ preserves_Kernel29_Kernel29Ideal
    ∧ algebraic_Kernel29Ideal_Reference29Ideal (hKernel29Ideal := hKernel29Ideal) (hReference29Ideal := hReference29Ideal)
-- ==== On_written.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1024 : Shape := ⟨2, ![4096, 1024]⟩
abbrev S_ : Shape := ⟨0, ![]⟩
abbrev S6x128x1 : Shape := ⟨3, ![6, 128, 1]⟩

class Facts : Prop where
  bcast_S_S4096x1792 : S_.BroadcastsInDim S4096x1792 (![] : Fin 0 → Fin S4096x1792.rank)
  bcast_S_S6x128x128 : S_.BroadcastsInDim S6x128x128 (![] : Fin 0 → Fin S6x128x128.rank)
  bcast_S_S6x128x1 : S_.BroadcastsInDim S6x128x1 (![] : Fin 0 → Fin S6x128x1.rank)
  bcast_S_S1x768 : S_.BroadcastsInDim S1x768 (![] : Fin 0 → Fin S1x768.rank)

variable [Facts]

def fn {F : FTy → Type} [FloatOps F] (main_arg0 : FVec F S4096x1792 .f32) (main_arg1 : FVec F S1x768 .f32) (main_arg2 : FVec F S1x768 .f32) (main_arg3 : FVec F S6x128x128 .f32) (main_arg4 : FVec F S6x128 .f32) (main_arg5 : FVec F S4096x1024 .f32) : IVec S4096x1792 1 × IVec S6x128x128 1 × IVec S6x128x1 1 × IVec S1x768 1 × IVec S1x768 1 :=
  let main_v0 : IVec S4096x1792 32 := iotaInDim S4096x1792 32 1
  let main_c : IVec S_ 32 := constantI S_ 32 1536#32
  let main_v1 : IVec S4096x1792 32 := broadcastInDim S4096x1792 ![] bcast_S_S4096x1792 main_c
  let main_v2 : IVec S4096x1792 1 := cmpi .slt main_v0 main_v1
  let main_c_0 : IVec S_ 1 := constantI S_ 1 1#1
  let main_v3 : IVec S6x128x128 1 := broadcastInDim S6x128x128 ![] bcast_S_S6x128x128 main_c_0
  let main_c_1 : IVec S_ 1 := constantI S_ 1 1#1
  let main_v4 : IVec S6x128x1 1 := broadcastInDim S6x128x1 ![] bcast_S_S6x128x1 main_c_1
  let main_c_2 : IVec S_ 1 := constantI S_ 1 1#1
  let main_v5 : IVec S1x768 1 := broadcastInDim S1x768 ![] bcast_S_S1x768 main_c_2
  let main_c_3 : IVec S_ 1 := constantI S_ 1 1#1
  let main_v6 : IVec S1x768 1 := broadcastInDim S1x768 ![] bcast_S_S1x768 main_c_3
  (main_v2, main_v3, main_v4, main_v5, main_v6)
-- ==== On_written_fwd.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1792 .f32) (main_arg1 : FVec F S1x768 .f32) (main_arg2 : FVec F S1x768 .f32) (main_arg3 : FVec F S6x128x128 .f32) (main_arg4 : FVec F S6x128 .f32) : IVec S4096x1024 1 :=
  let main_v0 : IVec S4096x1024 32 := iotaInDim S4096x1024 32 1
  let main_c : IVec S_ 32 := constantI S_ 32 768#32
  let main_v1 : IVec S4096x1024 32 := broadcastInDim S4096x1024 ![] bcast_S_S4096x1024 main_c
  let main_v2 : IVec S4096x1024 1 := cmpi .slt main_v0 main_v1
  main_v2
-- ==== Pre_finite.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1024 : Shape := ⟨2, ![4096, 1024]⟩
abbrev S4096x1536 : Shape := ⟨2, ![4096, 1536]⟩
abbrev S_ : Shape := ⟨0, ![]⟩
abbrev S4096x768 : Shape := ⟨2, ![4096, 768]⟩

class Facts : Prop where
  slices_S4096x1792_S4096x1536_0_0 : S4096x1792.Slices ![0, 0] S4096x1536
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1x768 : S_.BroadcastsInDim S1x768 (![] : Fin 0 → Fin S1x768.rank)
  reducesTo_S1x768_S_d0_1 : S1x768.ReducesTo [0, 1] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  slices_S4096x1024_S4096x768_0_0 : S4096x1024.Slices ![0, 0] S4096x768
  bcast_S_S4096x768 : S_.BroadcastsInDim S4096x768 (![] : Fin 0 → Fin S4096x768.rank)
  reducesTo_S4096x768_S_d0_1 : S4096x768.ReducesTo [0, 1] S_

variable [Facts]

def fn_part1 {F : FTy → Type} [FloatOps F] (main_arg4 : FVec F S6x128 .f32) (main_arg5 : FVec F S4096x1024 .f32) (main_v14 : IVec S_ 1) (main_v15 : FVec F S6x128x128 .f32) (main_v16 : FVec F S6x128x128 .f32) : IVec S_ 1 :=
  let main_v17 : IVec S6x128x128 1 := cmpf .olt main_v15 main_v16
  let main_c_5 : IVec S_ 1 := constantI S_ 1 1#1
  let main_v18 : IVec S_ 1 := (fun x v => Host.reduce IntOp.andi x v reducesTo_S6x128x128_S_d0_1_2 h_S_) main_v17 main_c_5
  let main_v19 : IVec S_ 1 := andi main_v14 main_v18
  let main_v20 : FVec F S6x128 .f32 := Host.absf main_arg4
  let main_cst_6 : FVec F S_ .f32 := constant S_ .f32 0x7F800000#32
  let main_v21 : FVec F S6x128 .f32 := broadcastInDim S6x128 ![] bcast_S_S6x128 main_cst_6
  let main_v22 : IVec S6x128 1 := cmpf .olt main_v20 main_v21
  let main_c_7 : IVec S_ 1 := constantI S_ 1 1#1
  let main_v23 : IVec S_ 1 := (fun x v => Host.reduce IntOp.andi x v reducesTo_S6x128_S_d0_1 h_S_) main_v22 main_c_7
  let main_v24 : IVec S_ 1 := andi main_v19 main_v23
  let main_v25 : FVec F S4096x768 .f32 := (extractStridedSlice S4096x768 ![0, 0] · slices_S4096x1024_S4096x768_0_0) main_arg5
  let main_v26 : FVec F S4096x768 .f32 := Host.absf main_v25
  let main_cst_8 : FVec F S_ .f32 := constant S_ .f32 0x7F800000#32
  let main_v27 : FVec F S4096x768 .f32 := broadcastInDim S4096x768 ![] bcast_S_S4096x768 main_cst_8
  let main_v28 : IVec S4096x768 1 := cmpf .olt main_v26 main_v27
  let main_c_9 : IVec S_ 1 := constantI S_ 1 1#1
  let main_v29 : IVec S_ 1 := (fun x v => Host.reduce IntOp.andi x v reducesTo_S4096x768_S_d0_1 h_S_) main_v28 main_c_9
  let main_v30 : IVec S_ 1 := andi main_v24 main_v29
  main_v30

def fn {F : FTy → Type} [FloatOps F] (main_arg0 : FVec F S4096x1792 .f32) (main_arg1 : FVec F S1x768 .f32) (main_arg2 : FVec F S1x768 .f32) (main_arg3 : FVec F S6x128x128 .f32) (main_arg4 : FVec F S6x128 .f32) (main_arg5 : FVec F S4096x1024 .f32) : IVec S_ 1 :=
  let main_v0 : FVec F S4096x1536 .f32 := (extractStridedSlice S4096x1536 ![0, 0] · slices_S4096x1792_S4096x1536_0_0) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S1x768 .f32 := Host.absf main_arg1
  let main_cst_0 : FVec F S_ .f32 := constant S_ .f32 0x7F800000#32
  let main_v6 : FVec F S1x768 .f32 := broadcastInDim S1x768 ![] bcast_S_S1x768 main_cst_0
  let main_v7 : IVec S1x768 1 := cmpf .olt main_v5 main_v6
  let main_c_1 : IVec S_ 1 := constantI S_ 1 1#1
  let main_v8 : IVec S_ 1 := (fun x v => Host.reduce IntOp.andi x v reducesTo_S1x768_S_d0_1 h_S_) main_v7 main_c_1
  let main_v9 : IVec S_ 1 := andi main_v4 main_v8
  let main_v10 : FVec F S1x768 .f32 := Host.absf main_arg2
  let main_cst_2 : FVec F S_ .f32 := constant S_ .f32 0x7F800000#32
  let main_v11 : FVec F S1x768 .f32 := broadcastInDim S1x768 ![] bcast_S_S1x768 main_cst_2
  let main_v12 : IVec S1x768 1 := cmpf .olt main_v10 main_v11
  let main_c_3 : IVec S_ 1 := constantI S_ 1 1#1
  let main_v13 : IVec S_ 1 := (fun x v => Host.reduce IntOp.andi x v reducesTo_S1x768_S_d0_1 h_S_) main_v12 main_c_3
  let main_v14 : IVec S_ 1 := andi main_v9 main_v13
  let main_v15 : FVec F S6x128x128 .f32 := Host.absf main_arg3
  let main_cst_4 : FVec F S_ .f32 := constant S_ .f32 0x7F800000#32
  let main_v16 : FVec F S6x128x128 .f32 := broadcastInDim S6x128x128 ![] bcast_S_S6x128x128 main_cst_4
  fn_part1 (F := F) main_arg4 main_arg5 main_v14 main_v15 main_v16
-- ==== Pre_finite_attn.lean ====
abbrev S4096x1792 : Shape := ⟨2, ![4096, 1792]⟩
abbrev S256x512 : Shape := ⟨2, ![256, 512]⟩
abbrev S4096x1024 : Shape := ⟨2, ![4096, 1024]⟩
abbrev S4096x256 : Shape := ⟨2, ![4096, 256]⟩
abbrev S_ : Shape := ⟨0, ![]⟩

class Facts : Prop where
  slices_S4096x1792_S4096x256_0_1536 : S4096x1792.Slices ![0, 1536] S4096x256
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  slices_S4096x1024_S4096x256_0_768 : S4096x1024.Slices ![0, 768] S4096x256

variable [Facts]

def fn {F : FTy → Type} [FloatOps F] (main_arg0 : FVec F S4096x1792 .f32) (main_arg1 : FVec F S256x512 .f32) (main_arg2 : FVec F S4096x1024 .f32) (main_arg3 : FVec F S4096x1792 .bf16) : IVec S_ 1 :=
  let main_v0 : FVec F S4096x256 .f32 := (extractStridedSlice S4096x256 ![0, 1536] · slices_S4096x1792_S4096x256_0_1536) main_arg0
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_c : IVec S_ 1 := constantI S_ 1 1#1
  let main_v4 : IVec S_ 1 := (fun x v => Host.reduce IntOp.andi x v reducesTo_S4096x256_S_d0_1 h_S_) main_v3 main_c
  let main_v5 : FVec F S256x512 .f32 := Host.absf main_arg1
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v4 main_v8
  let main_v10 : FVec F S4096x256 .f32 := (extractStridedSlice S4096x256 ![0, 768] · slices_S4096x1024_S4096x256_0_768) main_arg2
  let main_v11 : FVec F S4096x256 .f32 := Host.absf main_v10
  let main_cst_2 : FVec F S_ .f32 := constant S_ .f32 0x7F800000#32
  let main_v12 : FVec F S4096x256 .f32 := broadcastInDim S4096x256 ![] bcast_S_S4096x256 main_cst_2
  let main_v13 : IVec S4096x256 1 := cmpf .olt main_v11 main_v12
  let main_c_3 : IVec S_ 1 := constantI S_ 1 1#1
  let main_v14 : IVec S_ 1 := (fun x v => Host.reduce IntOp.andi x v reducesTo_S4096x256_S_d0_1 h_S_) main_v13 main_c_3
  let main_v15 : IVec S_ 1 := andi main_v9 main_v14
  main_v15
-- ==== Pre_finite_attn0.lean ====
abbrev S4096x3328 : Shape := ⟨2, ![4096, 3328]⟩
abbrev S256x512 : Shape := ⟨2, ![256, 512]⟩
abbrev S4096x1024 : Shape := ⟨2, ![4096, 1024]⟩
abbrev S4096x256 : Shape := ⟨2, ![4096, 256]⟩
abbrev S_ : Shape := ⟨0, ![]⟩

class Facts : Prop where
  slices_S4096x3328_S4096x256_0_3072 : S4096x3328.Slices ![0, 3072] S4096x256
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  slices_S4096x1024_S4096x256_0_768 : S4096x1024.Slices ![0, 768] S4096x256

variable [Facts]

def fn {F : FTy → Type} [FloatOps F] (main_arg0 : FVec F S4096x3328 .f32) (main_arg1 : FVec F S256x512 .f32) (main_arg2 : FVec F S4096x1024 .f32) (main_arg3 : FVec F S4096x3328 .bf16) : IVec S_ 1 :=
  let main_v0 : FVec F S4096x256 .f32 := (extractStridedSlice S4096x256 ![0, 3072] · slices_S4096x3328_S4096x256_0_3072) main_arg0
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_c : IVec S_ 1 := constantI S_ 1 1#1
  let main_v4 : IVec S_ 1 := (fun x v => Host.reduce IntOp.andi x v reducesTo_S4096x256_S_d0_1 h_S_) main_v3 main_c
  let main_v5 : FVec F S256x512 .f32 := Host.absf main_arg1
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v4 main_v8
  let main_v10 : FVec F S4096x256 .f32 := (extractStridedSlice S4096x256 ![0, 768] · slices_S4096x1024_S4096x256_0_768) main_arg2
  let main_v11 : FVec F S4096x256 .f32 := Host.absf main_v10
  let main_cst_2 : FVec F S_ .f32 := constant S_ .f32 0x7F800000#32
  let main_v12 : FVec F S4096x256 .f32 := broadcastInDim S4096x256 ![] bcast_S_S4096x256 main_cst_2
  let main_v13 : IVec S4096x256 1 := cmpf .olt main_v11 main_v12
  let main_c_3 : IVec S_ 1 := constantI S_ 1 1#1
  let main_v14 : IVec S_ 1 := (fun x v => Host.reduce IntOp.andi x v reducesTo_S4096x256_S_d0_1 h_S_) main_v13 main_c_3
  let main_v15 : IVec S_ 1 := andi main_v9 main_v14
  main_v15
-- ==== Pre_finite_gate.lean ====
abbrev S4096x1024 : Shape := ⟨2, ![4096, 1024]⟩
abbrev S2816x1024 : Shape := ⟨2, ![2816, 1024]⟩
abbrev S2x4096x2816 : Shape := ⟨3, ![2, 4096, 2816]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn {F : FTy → Type} [FloatOps F] (main_arg0 : FVec F S4096x1024 .f32) (main_arg1 : FVec F S2816x1024 .f32) (main_arg2 : FVec F S2x4096x2816 .bf16) (main_arg3 : FVec F S1x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2x4096x2816 .f32 := (extf .f32 · bitsLt_bf16_f32) main_arg2
  let main_v10 : FVec F S2x4096x2816 .f32 := Host.absf main_v9
  let main_cst_2 : FVec F S_ .f32 := constant S_ .f32 0x7F800000#32
  let main_v11 : FVec F S2x4096x2816 .f32 := broadcastInDim S2x4096x2816 ![] bcast_S_S2x4096x2816 main_cst_2
  let main_v12 : IVec S2x4096x2816 1 := cmpf .olt main_v10 main_v11
  let main_c_3 : IVec S_ 1 := constantI S_ 1 1#1
  let main_v13 : IVec S_ 1 := (fun x v => Host.reduce IntOp.andi x v reducesTo_S2x4096x2816_S_d0_1_2 h_S_) main_v12 main_c_3
  let main_v14 : IVec S_ 1 := andi main_v8 main_v13
  main_v14
-- ==== Kernel.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1024 : Shape := ⟨2, ![4096, 1024]⟩
abbrev S6x128x1 : Shape := ⟨3, ![6, 128, 1]⟩
abbrev S256x768 : Shape := ⟨2, ![256, 768]⟩
abbrev S256x1536 : Shape := ⟨2, ![256, 1536]⟩
abbrev S128x768 : Shape := ⟨2, ![128, 768]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1 : Shape := ⟨3, ![1, 128, 1]⟩
abbrev S768 : Shape := ⟨1, ![768]⟩

abbrev nBuf : Space → Nat
  | .hbm => 13
  | .vmem => 16
  | .smem => 0
  | _ => 0

abbrev bufTy : (tb : Table) → Fin (tcTables nBuf tb) → BufTy
  | .hbm, ⟨0, _⟩ => ⟨S4096x1792, .f32⟩
  | .hbm, ⟨1, _⟩ => ⟨S1x768, .f32⟩
  | .hbm, ⟨2, _⟩ => ⟨S1x768, .f32⟩
  | .hbm, ⟨3, _⟩ => ⟨S6x128x128, .f32⟩
  | .hbm, ⟨4, _⟩ => ⟨S6x128, .f32⟩
  | .hbm, ⟨5, _⟩ => ⟨S4096x1024, .f32⟩
  | .hbm, ⟨6, _⟩ => ⟨S6x128x1, .f32⟩
  | .hbm, ⟨7, _⟩ => ⟨S6x128x128, .f32⟩
  | .hbm, ⟨8, _⟩ => ⟨S4096x1792, .bf16⟩
  | .hbm, ⟨9, _⟩ => ⟨S6x128x128, .f32⟩
  | .hbm, ⟨10, _⟩ => ⟨S6x128x1, .f32⟩
  | .hbm, ⟨11, _⟩ => ⟨S1x768, .f32⟩
  | .hbm, ⟨12, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x768, .f32⟩
  | .local _ .vmem, ⟨5, _⟩ => ⟨S1x768, .f32⟩
  | .local _ .vmem, ⟨6, _⟩ => ⟨S6x128x128, .f32⟩
  | .local _ .vmem, ⟨7, _⟩ => ⟨S6x128x128, .f32⟩
  | .local _ .vmem, ⟨8, _⟩ => ⟨S256x768, .f32⟩
  | .local _ .vmem, ⟨9, _⟩ => ⟨S256x768, .f32⟩
  | .local _ .vmem, ⟨10, _⟩ => ⟨S256x1536, .bf16⟩
  | .local _ .vmem, ⟨11, _⟩ => ⟨S256x1536, .bf16⟩
  | .local _ .vmem, ⟨12, _⟩ => ⟨S6x128x128, .f32⟩
  | .local _ .vmem, ⟨13, _⟩ => ⟨S6x128x1, .f32⟩
  | .local _ .vmem, ⟨14, _⟩ => ⟨S1x768, .f32⟩
  | .local _ .vmem, ⟨15, _⟩ => ⟨S1x768, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S6x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_sqrt_2" => some (((Real.sqrt 2)⁻¹ : ℝ) : EReal)
  | "inv_sqrt_2pi" => some (((Real.sqrt (2 * Real.pi))⁻¹ : ℝ) : EReal)
  | _ => none
-- ==== ReferenceIdeal.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1024 : Shape := ⟨2, ![4096, 1024]⟩
abbrev S4096x1536 : Shape := ⟨2, ![4096, 1536]⟩
abbrev S1x4096x1536 : Shape := ⟨3, ![1, 4096, 1536]⟩
abbrev S768 : Shape := ⟨1, ![768]⟩
abbrev S_ : Shape := ⟨0, ![]⟩
abbrev S1x4096x768 : Shape := ⟨3, ![1, 4096, 768]⟩
abbrev S1x4096 : Shape := ⟨2, ![1, 4096]⟩
abbrev S1x4096x1 : Shape := ⟨3, ![1, 4096, 1]⟩
abbrev S1x1x768 : Shape := ⟨3, ![1, 1, 768]⟩
abbrev S1x32x128x6x128 : Shape := ⟨5, ![1, 32, 128, 6, 128]⟩
abbrev S128x128 : Shape := ⟨2, ![128, 128]⟩
abbrev S1x128x128 : Shape := ⟨3, ![1, 128, 128]⟩
abbrev S6x1x32x128x128 : Shape := ⟨5, ![6, 1, 32, 128, 128]⟩
abbrev S128x6 : Shape := ⟨2, ![128, 6]⟩
abbrev S1x1x128x6x1 : Shape := ⟨5, ![1, 1, 128, 6, 1]⟩
abbrev S4096x768 : Shape := ⟨2, ![4096, 768]⟩
abbrev S1x128x6 : Shape := ⟨3, ![1, 128, 6]⟩
abbrev S4096 : Shape := ⟨1, ![4096]⟩
abbrev S4096x256 : Shape := ⟨2, ![4096, 256]⟩
abbrev S6x128x1 : Shape := ⟨3, ![6, 128, 1]⟩

abbrev nBuf : Space → Nat
  | .hbm => 175
  | .vmem => 0
  | .smem => 0
  | _ => 0

abbrev hbmTy0_0 (i : Nat) : BufTy := match i % 128 with
  | 0 => ⟨S4096x1792, .f32⟩
  | 1 => ⟨S1x768, .f32⟩
  | 2 => ⟨S1x768, .f32⟩
  | 3 => ⟨S6x128x128, .f32⟩
  | 4 => ⟨S6x128, .f32⟩
  | 5 => ⟨S4096x1024, .f32⟩
  | 6 => ⟨S4096x1536, .f32⟩
  | 7 => ⟨S1x4096x1536, .f32⟩
  | 8 => ⟨S768, .f32⟩
  | 9 => ⟨S768, .f32⟩
  | 10 => ⟨S_, .f32⟩
  | 11 => ⟨S1x4096x1536, .f32⟩
  | 12 => ⟨S1x4096x1536, .f32⟩
  | 13 => ⟨S_, .f32⟩
  | 14 => ⟨S_, .f32⟩
  | 15 => ⟨S1x4096x1536, .f32⟩
  | 16 => ⟨S1x4096x1536, .f32⟩
  | 17 => ⟨S1x4096x1536, .f32⟩
  | 18 => ⟨S_, .f32⟩
  | 19 => ⟨S_, .f32⟩
  | 20 => ⟨S_, .f32⟩
  | 21 => ⟨S_, .f32⟩
  | 22 => ⟨S_, .f32⟩
  | 23 => ⟨S1x4096x1536, .f32⟩
  | 24 => ⟨S1x4096x1536, .f32⟩
  | 25 => ⟨S1x4096x1536, .f32⟩
  | 26 => ⟨S1x4096x1536, .f32⟩
  | 27 => ⟨S1x4096x1536, .f32⟩
  | 28 => ⟨S_, .f32⟩
  | 29 => ⟨S1x4096x1536, .f32⟩
  | 30 => ⟨S1x4096x1536, .f32⟩
  | 31 => ⟨S1x4096x1536, .f32⟩
  | 32 => ⟨S1x4096x768, .f32⟩
  | 33 => ⟨S1x4096x768, .f32⟩
  | 34 => ⟨S_, .f32⟩
  | 35 => ⟨S1x4096, .f32⟩
  | 36 => ⟨S1x4096x1, .f32⟩
  | 37 => ⟨S_, .f32⟩
  | 38 => ⟨S1x4096x1, .f32⟩
  | 39 => ⟨S1x4096x1, .f32⟩
  | 40 => ⟨S1x4096x768, .f32⟩
  | 41 => ⟨S1x4096x768, .f32⟩
  | 42 => ⟨S1x4096x768, .f32⟩
  | 43 => ⟨S_, .f32⟩
  | 44 => ⟨S1x4096x768, .f32⟩
  | 45 => ⟨S1x4096x768, .f32⟩
  | 46 => ⟨S_, .f32⟩
  | 47 => ⟨S1x4096, .f32⟩
  | 48 => ⟨S1x4096x1, .f32⟩
  | 49 => ⟨S_, .f32⟩
  | 50 => ⟨S1x4096x1, .f32⟩
  | 51 => ⟨S1x4096x1, .f32⟩
  | 52 => ⟨S1x4096x768, .f32⟩
  | 53 => ⟨S1x4096x768, .f32⟩
  | 54 => ⟨S_, .f32⟩
  | 55 => ⟨S1x4096x1, .f32⟩
  | 56 => ⟨S1x4096x1, .f32⟩
  | 57 => ⟨S1x4096x1, .f32⟩
  | 58 => ⟨S1x4096x1, .f32⟩
  | 59 => ⟨S_, .f32⟩
  | 60 => ⟨S1x4096x1, .f32⟩
  | 61 => ⟨S1x4096x1, .f32⟩
  | 62 => ⟨S1x4096x768, .f32⟩
  | 63 => ⟨S1x4096x768, .f32⟩
  | 64 => ⟨S1x1x768, .f32⟩
  | 65 => ⟨S1x4096x768, .f32⟩
  | 66 => ⟨S1x4096x768, .f32⟩
  | 67 => ⟨S1x1x768, .f32⟩
  | 68 => ⟨S1x4096x768, .f32⟩
  | 69 => ⟨S1x4096x768, .f32⟩
  | 70 => ⟨S1x32x128x6x128, .f32⟩
  | 71 => ⟨S_, .f32⟩
  | 72 => ⟨S128x128, .f32⟩
  | 73 => ⟨S128x128, .i32⟩
  | 74 => ⟨S_, .i32⟩
  | 75 => ⟨S128x128, .i32⟩
  | 76 => ⟨S128x128, .i32⟩
  | 77 => ⟨S128x128, .i32⟩
  | 78 => ⟨S128x128, .i1⟩
  | 79 => ⟨S_, .f32⟩
  | 80 => ⟨S128x128, .f32⟩
  | 81 => ⟨S128x128, .f32⟩
  | 82 => ⟨S1x128x128, .f32⟩
  | 83 => ⟨S6x128x128, .f32⟩
  | 84 => ⟨S6x128x128, .f32⟩
  | 85 => ⟨S6x1x32x128x128, .f32⟩
  | 86 => ⟨S1x32x128x6x128, .f32⟩
  | 87 => ⟨S128x6, .f32⟩
  | 88 => ⟨S1x1x128x6x1, .f32⟩
  | 89 => ⟨S1x32x128x6x128, .f32⟩
  | 90 => ⟨S1x32x128x6x128, .f32⟩
  | 91 => ⟨S1x4096x768, .f32⟩
  | 92 => ⟨S1x4096x768, .f32⟩
  | 93 => ⟨S4096x768, .f32⟩
  | 94 => ⟨S1x4096x768, .f32⟩
  | 95 => ⟨S1x4096x768, .f32⟩
  | 96 => ⟨S1x4096x768, .f32⟩
  | 97 => ⟨S1x32x128x6x128, .f32⟩
  | 98 => ⟨S_, .f32⟩
  | 99 => ⟨S1x128x6, .f32⟩
  | 100 => ⟨S1x1x128x6x1, .f32⟩
  | 101 => ⟨S_, .f32⟩
  | 102 => ⟨S128x6, .f32⟩
  | 103 => ⟨S6x128, .f32⟩
  | 104 => ⟨S6x1x32x128x128, .f32⟩
  | 105 => ⟨S6x128x128, .f32⟩
  | 106 => ⟨S6x1x32x128x128, .f32⟩
  | 107 => ⟨S1x32x128x6x128, .f32⟩
  | 108 => ⟨S6x128x128, .f32⟩
  | 109 => ⟨S6x128x128, .f32⟩
  | 110 => ⟨S1x4096x768, .f32⟩
  | 111 => ⟨S_, .f32⟩
  | 112 => ⟨S1x768, .f32⟩
  | 113 => ⟨S1x1x768, .f32⟩
  | 114 => ⟨S_, .f32⟩
  | 115 => ⟨S768, .f32⟩
  | 116 => ⟨S1x4096x768, .f32⟩
  | 117 => ⟨S_, .f32⟩
  | 118 => ⟨S1x768, .f32⟩
  | 119 => ⟨S1x1x768, .f32⟩
  | 120 => ⟨S1x4096x768, .f32⟩
  | 121 => ⟨S1x4096x768, .f32⟩
  | 122 => ⟨S_, .f32⟩
  | 123 => ⟨S768, .f32⟩
  | 124 => ⟨S1x4096x768, .f32⟩
  | 125 => ⟨S_, .f32⟩
  | 126 => ⟨S1x4096, .f32⟩
  | 127 => ⟨S1x4096x1, .f32⟩
  | _ => ⟨S4096x1792, .f32⟩

abbrev hbmTy0_1 (i : Nat) : BufTy := match i % 128 with
  | 0 => ⟨S1x4096x768, .f32⟩
  | 1 => ⟨S1x4096x768, .f32⟩
  | 2 => ⟨S1x4096x1, .f32⟩
  | 3 => ⟨S1x4096x768, .f32⟩
  | 4 => ⟨S_, .f32⟩
  | 5 => ⟨S1x4096, .f32⟩
  | 6 => ⟨S1x4096x1, .f32⟩
  | 7 => ⟨S_, .f32⟩
  | 8 => ⟨S1x4096x1, .f32⟩
  | 9 => ⟨S1x4096x1, .f32⟩
  | 10 => ⟨S_, .f32⟩
  | 11 => ⟨S4096, .f32⟩
  | 12 => ⟨S1x4096, .f32⟩
  | 13 => ⟨S1x4096x768, .f32⟩
  | 14 => ⟨S1x4096x768, .f32⟩
  | 15 => ⟨S1x4096x768, .f32⟩
  | 16 => ⟨S_, .f32⟩
  | 17 => ⟨S1x4096, .f32⟩
  | 18 => ⟨S1x4096x1, .f32⟩
  | 19 => ⟨S1x4096x768, .f32⟩
  | 20 => ⟨S1x4096x1, .f32⟩
  | 21 => ⟨S_, .f32⟩
  | 22 => ⟨S1x4096x1, .f32⟩
  | 23 => ⟨S1x4096x1, .f32⟩
  | 24 => ⟨S_, .f32⟩
  | 25 => ⟨S4096, .f32⟩
  | 26 => ⟨S1x4096, .f32⟩
  | 27 => ⟨S1x4096x768, .f32⟩
  | 28 => ⟨S1x4096x768, .f32⟩
  | 29 => ⟨S1x4096x1536, .f32⟩
  | 30 => ⟨S1x4096x1536, .f32⟩
  | 31 => ⟨S1x4096x1536, .f32⟩
  | 32 => ⟨S1x4096x1536, .f32⟩
  | 33 => ⟨S1x4096x1536, .f32⟩
  | 34 => ⟨S1x4096x1536, .f32⟩
  | 35 => ⟨S_, .f32⟩
  | 36 => ⟨S1x4096x1536, .f32⟩
  | 37 => ⟨S1x4096x1536, .f32⟩
  | 38 => ⟨S1x4096x1536, .f32⟩
  | 39 => ⟨S4096x1536, .f32⟩
  | 40 => ⟨S_, .f32⟩
  | 41 => ⟨S4096x256, .f32⟩
  | 42 => ⟨S4096x1792, .f32⟩
  | 43 => ⟨S4096x1792, .bf16⟩
  | 44 => ⟨S6x128x1, .f32⟩
  | 45 => ⟨S1x768, .f32⟩
  | 46 => ⟨S1x768, .f32⟩
  | _ => ⟨S4096x1792, .f32⟩

abbrev hbmTy (i : Nat) : BufTy := match i / 128 with
  | 0 => hbmTy0_0 i
  | 1 => hbmTy0_1 i
  | _ => ⟨S4096x1792, .f32⟩

abbrev bufTy : (tb : Table) → Fin (tcTables nBuf tb) → BufTy
  | .hbm, ⟨i, _⟩ => hbmTy i
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_cst : Ref sig .tc := ⟨.hbm, 79, rfl⟩
abbrev main_call0_v5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_cst_18 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_19 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_v101 : Ref sig .tc := ⟨.hbm, 137, rfl⟩
abbrev main_cst_21 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_23 : Ref sig .tc := ⟨.hbm, 149, rfl⟩
abbrev main_v111 : Ref sig .tc := ⟨.hbm, 150, rfl⟩
abbrev main_v112 : Ref sig .tc := ⟨.hbm, 151, rfl⟩
abbrev main_cst_24 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_25 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_26 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S2x4096x2816 : Shape := ⟨3, ![2, 4096, 2816]⟩
abbrev S1x128 : Shape := ⟨2, ![1, 128]⟩
abbrev S1024x1024 : Shape := ⟨2, ![1024, 1024]⟩
abbrev S1408x1024 : Shape := ⟨2, ![1408, 1024]⟩
abbrev S2x1024x1408 : Shape := ⟨3, ![2, 1024, 1408]⟩
abbrev S256x1024 : Shape := ⟨2, ![256, 1024]⟩
abbrev S1024x256 : Shape := ⟨2, ![1024, 256]⟩
abbrev S1x1024x256 : Shape := ⟨3, ![1, 1024, 256]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2x4096x2816, .bf16⟩
  | .hbm, ⟨3, _⟩ => ⟨S1x128, .f32⟩
  | .hbm, ⟨4, _⟩ => ⟨S2816x1024, .bf16⟩
  | .hbm, ⟨5, _⟩ => ⟨S2x4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S2816x1024 : Shape := ⟨2, ![2816, 1024]⟩
abbrev S2x4096x2816 : Shape := ⟨3, ![2, 4096, 2816]⟩
abbrev S1x128 : Shape := ⟨2, ![1, 128]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2x4096x2816, .bf16⟩
  | .hbm, ⟨3, _⟩ => ⟨S1x128, .f32⟩
  | .hbm, ⟨4, _⟩ => ⟨S1x4096x2816, .bf16⟩
  | .hbm, ⟨5, _⟩ => ⟨S4096x2816, .bf16⟩
  | .hbm, ⟨6, _⟩ => ⟨S1x4096x2816, .bf16⟩
  | .hbm, ⟨7, _⟩ => ⟨S4096x2816, .bf16⟩
  | .hbm, ⟨8, _⟩ => ⟨S4096x5632, .bf16⟩
  | .hbm, ⟨9, _⟩ => ⟨S4096x5632, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S1x4096x2816, .f32⟩
  | .hbm, ⟨38, _⟩ => ⟨S1x4096x2816, .f32⟩
  | .hbm, ⟨39, _⟩ => ⟨S2x4096x2816, .f32⟩
  | .hbm, ⟨40, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S5632x1024 : Shape := ⟨2, ![5632, 1024]⟩
abbrev S1x1024x1408 : Shape := ⟨3, ![1, 1024, 1408]⟩
abbrev S1408x1024 : Shape := ⟨2, ![1408, 1024]⟩
abbrev S1024x1024 : Shape := ⟨2, ![1024, 1024]⟩
abbrev S1024x1408 : Shape := ⟨2, ![1024, 1408]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S5632x1024, .f32⟩
  | .hbm, ⟨6, _⟩ => ⟨S5632x1024, .bf16⟩
  | .hbm, ⟨7, _⟩ => ⟨S4096x1024, .f32⟩
  | .hbm, ⟨8, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_20 : BitVec 32 := 0#32
  let c8_i32 : BitVec 32 := 8#32
  let v28 : BitVec 32 := Scalar.addi c0_i32_20 c8_i32
  let c1_i32 : BitVec 32 := 1#32
  ⟨c0_i32_20, v28, c1_i32⟩
def k0_mult1 (k0_t1 : Fin k0_t1_loop.trips) : BitVec 32 :=
  let c0_i32_20 : BitVec 32 := 0#32
  let c1_i32 : BitVec 32 := 1#32
  let arg11 : BitVec 32 := Scf.iv c0_i32_20 c1_i32 k0_t1
  let c128_i32 : BitVec 32 := 128#32
  let v32 : BitVec 32 := Scalar.muli arg11 c128_i32
  v32
def k0_off1 (k0_t1 : Fin k0_t1_loop.trips) : Fin 2 → Nat :=
  let c0_i32_20 : BitVec 32 := 0#32
  let c1_i32 : BitVec 32 := 1#32
  let arg11 : BitVec 32 := Scf.iv c0_i32_20 c1_i32 k0_t1
  let c128_i32 : BitVec 32 := 128#32
  let v32 : BitVec 32 := Scalar.muli arg11 c128_i32
  let v33 : BitVec 32 := v32
  let v34 : Index := Scalar.indexCast v33
  let c0_24 : Index := 0#32
  ![v34.toNat, 0]
def k0_cond4 (i : grid0.Coords) : BitVec 1 :=
  let arg0 : BitVec 32 := BitVec.ofNat 32 (i 0).val
  let c0_i32_11 : BitVec 32 := 0#32
  let v18 : BitVec 1 := Scalar.cmpi .eq arg0 c0_i32_11
  let v19 : BitVec 32 := Scalar.extui v18
  let c0_i32_12 : BitVec 32 := 0#32
  let v20 : BitVec 1 := Scalar.cmpi .ne v19 c0_i32_12
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference3Ideal.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S1x4096x2816 : Shape := ⟨3, ![1, 4096, 2816]⟩
abbrev S4096x2816 : Shape := ⟨2, ![4096, 2816]⟩
abbrev S4096x5632 : Shape := ⟨2, ![4096, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S4096x5632, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel4.lean ====
abbrev S2x4096x2816 : Shape := ⟨3, ![2, 4096, 2816]⟩
abbrev S4096x1024 : Shape := ⟨2, ![4096, 1024]⟩
abbrev S5632x1024 : Shape := ⟨2, ![5632, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S1024x5632, .f32⟩
  | .hbm, ⟨10, _⟩ => ⟨S4096x1024, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S5632x1024 : Shape := ⟨2, ![5632, 1024]⟩
abbrev S2x4096x2816 : Shape := ⟨3, ![2, 4096, 2816]⟩
abbrev S4096x2816 : Shape := ⟨2, ![4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S256x1024 : Shape := ⟨2, ![256, 1024]⟩
abbrev S512x256 : Shape := ⟨2, ![512, 256]⟩
abbrev S1x512x256 : Shape := ⟨3, ![1, 512, 256]⟩
abbrev S128x1024 : Shape := ⟨2, ![128, 1024]⟩
abbrev S512x128 : Shape := ⟨2, ![512, 128]⟩
abbrev S1x512x128 : Shape := ⟨3, ![1, 512, 128]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S2x4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S1x4096x2816, .f32⟩
  | .hbm, ⟨7, _⟩ => ⟨S1x4096x2816, .f32⟩
  | .hbm, ⟨8, _⟩ => ⟨S2x4096x2816, .f32⟩
  | .hbm, ⟨9, _⟩ => ⟨S2x4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel7.lean ====
abbrev S4096x1792 : Shape := ⟨2, ![4096, 1792]⟩
abbrev S256x512 : Shape := ⟨2, ![256, 512]⟩
abbrev S4096x1024 : Shape := ⟨2, ![4096, 1024]⟩
abbrev S256x256 : Shape := ⟨2, ![256, 256]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1792, .f32⟩
  | .hbm, ⟨1, _⟩ => ⟨S256x512, .f32⟩
  | .hbm, ⟨2, _⟩ => ⟨S4096x1024, .f32⟩
  | .hbm, ⟨3, _⟩ => ⟨S4096x1792, .bf16⟩
  | .hbm, ⟨4, _⟩ => ⟨S4096x1792, .bf16⟩
  | .hbm, ⟨5, _⟩ => ⟨S256x256, .f32⟩
  | .hbm, ⟨6, _⟩ => ⟨S256x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S256x256, .f32⟩
  | .local _ .vmem, ⟨9, _⟩ => ⟨S256x256, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x1792 : Shape := ⟨2, ![4096, 1792]⟩
abbrev S256x512 : Shape := ⟨2, ![256, 512]⟩
abbrev S4096x1024 : Shape := ⟨2, ![4096, 1024]⟩
abbrev S1x256x512 : Shape := ⟨3, ![1, 256, 512]⟩
abbrev S1x256x256 : Shape := ⟨3, ![1, 256, 256]⟩
abbrev S4096x256 : Shape := ⟨2, ![4096, 256]⟩
abbrev S1x4096x256 : Shape := ⟨3, ![1, 4096, 256]⟩
abbrev S1x4096x4x64 : Shape := ⟨4, ![1, 4096, 4, 64]⟩
abbrev S1x256x4x64 : Shape := ⟨4, ![1, 256, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S1x4x64x256 : Shape := ⟨4, ![1, 4, 64, 256]⟩
abbrev S4x4096 : Shape := ⟨2, ![4, 4096]⟩
abbrev S1x4x256x64 : Shape := ⟨4, ![1, 4, 256, 64]⟩
abbrev S1x4x4096x64 : Shape := ⟨4, ![1, 4, 4096, 64]⟩
abbrev S4096x1536 : Shape := ⟨2, ![4096, 1536]⟩
abbrev S256x256 : Shape := ⟨2, ![256, 256]⟩

abbrev nBuf : Space → Nat
  | .hbm => 95
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S256x512, .f32⟩
  | .hbm, ⟨2, _⟩ => ⟨S4096x1024, .f32⟩
  | .hbm, ⟨3, _⟩ => ⟨S4096x1792, .bf16⟩
  | .hbm, ⟨4, _⟩ => ⟨S1x256x512, .f32⟩
  | .hbm, ⟨5, _⟩ => ⟨S1x256x256, .f32⟩
  | .hbm, ⟨6, _⟩ => ⟨S1x256x256, .f32⟩
  | .hbm, ⟨7, _⟩ => ⟨S4096x256, .f32⟩
  | .hbm, ⟨8, _⟩ => ⟨S1x4096x256, .f32⟩
  | .hbm, ⟨9, _⟩ => ⟨S1x4096x4x64, .f32⟩
  | .hbm, ⟨10, _⟩ => ⟨S1x256x4x64, .f32⟩
  | .hbm, ⟨11, _⟩ => ⟨S1x256x4x64, .f32⟩
  | .hbm, ⟨12, _⟩ => ⟨S1x4x4096x256, .f32⟩
  | .hbm, ⟨13, _⟩ => ⟨S_, .f32⟩
  | .hbm, ⟨14, _⟩ => ⟨S1x4x4096x256, .f32⟩
  | .hbm, ⟨15, _⟩ => ⟨S1x4x4096x256, .f32⟩
  | .hbm, ⟨16, _⟩ => ⟨S_, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .i1⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S_, .f32⟩
  | .hbm, ⟨25, _⟩ => ⟨S1x4x4096, .f32⟩
  | .hbm, ⟨26, _⟩ => ⟨S1x4x4096, .f32⟩
  | .hbm, ⟨27, _⟩ => ⟨S_, .f32⟩
  | .hbm, ⟨28, _⟩ => ⟨S1x4x4096, .f32⟩
  | .hbm, ⟨29, _⟩ => ⟨S1x4x4096, .i1⟩
  | .hbm, ⟨30, _⟩ => ⟨S_, .f32⟩
  | .hbm, ⟨31, _⟩ => ⟨S1x4x4096, .f32⟩
  | .hbm, ⟨32, _⟩ => ⟨S1x4x4096, .i1⟩
  | .hbm, ⟨33, _⟩ => ⟨S_, .f32⟩
  | .hbm, ⟨34, _⟩ => ⟨S1x4x4096, .f32⟩
  | .hbm, ⟨35, _⟩ => ⟨S_, .f32⟩
  | .hbm, ⟨36, _⟩ => ⟨S1x4x4096, .f32⟩
  | .hbm, ⟨37, _⟩ => ⟨S_, .f32⟩
  | .hbm, ⟨38, _⟩ => ⟨S1x4x4096, .f32⟩
  | .hbm, ⟨39, _⟩ => ⟨S1x4x4096, .f32⟩
  | .hbm, ⟨40, _⟩ => ⟨S1x4x4096, .f32⟩
  | .hbm, ⟨41, _⟩ => ⟨S1x4x4096x1, .f32⟩
  | .hbm, ⟨42, _⟩ => ⟨S1x4x4096x256, .f32⟩
  | .hbm, ⟨43, _⟩ => ⟨S1x4x4096x256, .f32⟩
  | .hbm, ⟨44, _⟩ => ⟨S1x4x4096x256, .f32⟩
  | .hbm, ⟨45, _⟩ => ⟨S_, .f32⟩
  | .hbm, ⟨46, _⟩ => ⟨S1x4x4096, .f32⟩
  | .hbm, ⟨47, _⟩ => ⟨S1x4x4096x1, .f32⟩
  | .hbm, ⟨48, _⟩ => ⟨S1x4x4096x256, .f32⟩
  | .hbm, ⟨49, _⟩ => ⟨S1x4x4096x256, .f32⟩
  | .hbm, ⟨50, _⟩ => ⟨S1x4x4096x1, .f32⟩
  | .hbm, ⟨51, _⟩ => ⟨S_, .f32⟩
  | .hbm, ⟨52, _⟩ => ⟨S1x4x4096x1, .f32⟩
  | .hbm, ⟨53, _⟩ => ⟨S1x4x4096x1, .f32⟩
  | .hbm, ⟨54, _⟩ => ⟨S1x4x64x4096, .f32⟩
  | .hbm, ⟨55, _⟩ => ⟨S1x4096x4x64, .f32⟩
  | .hbm, ⟨56, _⟩ => ⟨S1x4096x256, .f32⟩
  | .hbm, ⟨57, _⟩ => ⟨S4096x256, .f32⟩
  | .hbm, ⟨58, _⟩ => ⟨S1x4096x256, .f32⟩
  | .hbm, ⟨59, _⟩ => ⟨S1x4096x4x64, .f32⟩
  | .hbm, ⟨60, _⟩ => ⟨S1x4x64x4096, .f32⟩
  | .hbm, ⟨61, _⟩ => ⟨S1x4x4096x256, .f32⟩
  | .hbm, ⟨62, _⟩ => ⟨S1x4x64x256, .f32⟩
  | .hbm, ⟨63, _⟩ => ⟨S1x256x4x64, .f32⟩
  | .hbm, ⟨64, _⟩ => ⟨S1x4x4096x256, .f32⟩
  | .hbm, ⟨65, _⟩ => ⟨S1x4x4096x256, .f32⟩
  | .hbm, ⟨66, _⟩ => ⟨S1x4x4096x256, .f32⟩
  | .hbm, ⟨67, _⟩ => ⟨S_, .f32⟩
  | .hbm, ⟨68, _⟩ => ⟨S1x4x4096, .f32⟩
  | .hbm, ⟨69, _⟩ => ⟨S1x4x4096x1, .f32⟩
  | .hbm, ⟨70, _⟩ => ⟨S1x4x4096x1, .f32⟩
  | .hbm, ⟨71, _⟩ => ⟨S1x4x4096x256, .f32⟩
  | .hbm, ⟨72, _⟩ => ⟨S1x4x4096x256, .f32⟩
  | .hbm, ⟨73, _⟩ => ⟨S_, .f32⟩
  | .hbm, ⟨74, _⟩ => ⟨S4x4096, .f32⟩
  | .hbm, ⟨75, _⟩ => ⟨S1x4x4096, .f32⟩
  | .hbm, ⟨76, _⟩ => ⟨S1x4x4096x256, .f32⟩
  | .hbm, ⟨77, _⟩ => ⟨S1x4x4096x256, .f32⟩
  | .hbm, ⟨78, _⟩ => ⟨S1x4x4096x256, .f32⟩
  | .hbm, ⟨79, _⟩ => ⟨S_, .f32⟩
  | .hbm, ⟨80, _⟩ => ⟨S1x4x4096x256, .f32⟩
  | .hbm, ⟨81, _⟩ => ⟨S1x4x4096x256, .f32⟩
  | .hbm, ⟨82, _⟩ => ⟨S1x4x256x64, .f32⟩
  | .hbm, ⟨83, _⟩ => ⟨S1x256x4x64, .f32⟩
  | .hbm, ⟨84, _⟩ => ⟨S1x4x4096x64, .f32⟩
  | .hbm, ⟨85, _⟩ => ⟨S1x4096x4x64, .f32⟩
  | .hbm, ⟨86, _⟩ => ⟨S1x256x256, .f32⟩
  | .hbm, ⟨87, _⟩ => ⟨S1x256x256, .f32⟩
  | .hbm, ⟨88, _⟩ => ⟨S1x4096x256, .f32⟩
  | .hbm, ⟨89, _⟩ => ⟨S4096x1536, .bf16⟩
  | .hbm, ⟨90, _⟩ => ⟨S4096x256, .f32⟩
  | .hbm, ⟨91, _⟩ => ⟨S4096x256, .bf16⟩
  | .hbm, ⟨92, _⟩ => ⟨S4096x1792, .bf16⟩
  | .hbm, ⟨93, _⟩ => ⟨S256x256, .f32⟩
  | .hbm, ⟨94, _⟩ => ⟨S256x256, .f32⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Kernel8.lean ====
abbrev S4096x1792 : Shape := ⟨2, ![4096, 1792]⟩
abbrev S1024x1792 : Shape := ⟨2, ![1024, 1792]⟩
abbrev S4096x1024 : Shape := ⟨2, ![4096, 1024]⟩
abbrev S1x1024 : Shape := ⟨2, ![1, 1024]⟩
abbrev S1792x1024 : Shape := ⟨2, ![1792, 1024]⟩
abbrev S1024x896 : Shape := ⟨2, ![1024, 896]⟩
abbrev S896x1024 : Shape := ⟨2, ![896, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1792, .bf16⟩
  | .hbm, ⟨1, _⟩ => ⟨S1024x1792, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1792x1024, .f32⟩
  | .hbm, ⟨6, _⟩ => ⟨S1792x1024, .bf16⟩
  | .hbm, ⟨7, _⟩ => ⟨S4096x1024, .f32⟩
  | .hbm, ⟨8, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S896x1024, .bf16⟩
  | .local _ .vmem, ⟨3, _⟩ => ⟨S896x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_19 : BitVec 32 := 0#32
  let c8_i32 : BitVec 32 := 8#32
  let v27 : BitVec 32 := Scalar.addi c0_i32_19 c8_i32
  let c1_i32_20 : BitVec 32 := 1#32
  ⟨c0_i32_19, v27, c1_i32_20⟩
def k0_mult1 (k0_t1 : Fin k0_t1_loop.trips) : BitVec 32 :=
  let c0_i32_19 : BitVec 32 := 0#32
  let c1_i32_20 : BitVec 32 := 1#32
  let arg11 : BitVec 32 := Scf.iv c0_i32_19 c1_i32_20 k0_t1
  let c128_i32 : BitVec 32 := 128#32
  let v31 : BitVec 32 := Scalar.muli arg11 c128_i32
  v31
def k0_off1 (k0_t1 : Fin k0_t1_loop.trips) : Fin 2 → Nat :=
  let c0_i32_19 : BitVec 32 := 0#32
  let c1_i32_20 : BitVec 32 := 1#32
  let arg11 : BitVec 32 := Scf.iv c0_i32_19 c1_i32_20 k0_t1
  let c128_i32 : BitVec 32 := 128#32
  let v31 : BitVec 32 := Scalar.muli arg11 c128_i32
  let v32 : BitVec 32 := v31
  let v33 : Index := Scalar.indexCast v32
  let c0_24 : Index := 0#32
  ![v33.toNat, 0]
def k0_cond4 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference8Ideal.lean ====
abbrev S4096x1792 : Shape := ⟨2, ![4096, 1792]⟩
abbrev S1024x1792 : Shape := ⟨2, ![1024, 1792]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S1024x1792, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1792, .f32⟩
  | .hbm, ⟨27, _⟩ => ⟨S4096x1792, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel9.lean ====
abbrev S4096x3328 : Shape := ⟨2, ![4096, 3328]⟩
abbrev S1024x3328 : Shape := ⟨2, ![1024, 3328]⟩
abbrev S4096x1024 : Shape := ⟨2, ![4096, 1024]⟩
abbrev S1x1024 : Shape := ⟨2, ![1, 1024]⟩
abbrev S8x128 : Shape := ⟨2, ![8, 128]⟩
abbrev S3328x1024 : Shape := ⟨2, ![3328, 1024]⟩
abbrev S1024x1664 : Shape := ⟨2, ![1024, 1664]⟩
abbrev S1664x1024 : Shape := ⟨2, ![1664, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x3328, .bf16⟩
  | .hbm, ⟨1, _⟩ => ⟨S1024x3328, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S3328x1024, .f32⟩
  | .hbm, ⟨7, _⟩ => ⟨S3328x1024, .bf16⟩
  | .hbm, ⟨8, _⟩ => ⟨S4096x1024, .f32⟩
  | .hbm, ⟨9, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_19 : BitVec 32 := 0#32
  let c8_i32 : BitVec 32 := 8#32
  let v27 : BitVec 32 := Scalar.addi c0_i32_19 c8_i32
  let c1_i32_20 : BitVec 32 := 1#32
  ⟨c0_i32_19, v27, c1_i32_20⟩
def k0_mult1 (k0_t1 : Fin k0_t1_loop.trips) : BitVec 32 :=
  let c0_i32_19 : BitVec 32 := 0#32
  let c1_i32_20 : BitVec 32 := 1#32
  let arg12 : BitVec 32 := Scf.iv c0_i32_19 c1_i32_20 k0_t1
  let c128_i32 : BitVec 32 := 128#32
  let v31 : BitVec 32 := Scalar.muli arg12 c128_i32
  v31
def k0_off1 (k0_t1 : Fin k0_t1_loop.trips) : Fin 2 → Nat :=
  let c0_i32_19 : BitVec 32 := 0#32
  let c1_i32_20 : BitVec 32 := 1#32
  let arg12 : BitVec 32 := Scf.iv c0_i32_19 c1_i32_20 k0_t1
  let c128_i32 : BitVec 32 := 128#32
  let v31 : BitVec 32 := Scalar.muli arg12 c128_i32
  let v32 : BitVec 32 := v31
  let v33 : Index := Scalar.indexCast v32
  let c0_24 : Index := 0#32
  ![v33.toNat, 0]
def k0_cond4 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference9Ideal.lean ====
abbrev S4096x3328 : Shape := ⟨2, ![4096, 3328]⟩
abbrev S1024x3328 : Shape := ⟨2, ![1024, 3328]⟩
abbrev S4096x1024 : Shape := ⟨2, ![4096, 1024]⟩
abbrev S1x1024 : Shape := ⟨2, ![1, 1024]⟩
abbrev S8x128 : Shape := ⟨2, ![8, 128]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S1024x3328, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x3328, .f32⟩
  | .hbm, ⟨28, _⟩ => ⟨S4096x3328, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel10.lean ====
abbrev S4096x1792 : Shape := ⟨2, ![4096, 1792]⟩
abbrev S4096x1024 : Shape := ⟨2, ![4096, 1024]⟩
abbrev S1792x1024 : Shape := ⟨2, ![1792, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S1792x1024, .bf16⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1792 : Shape := ⟨2, ![4096, 1792]⟩
abbrev S4096x1024 : Shape := ⟨2, ![4096, 1024]⟩
abbrev S_ : Shape := ⟨0, ![]⟩
abbrev S1024x1792 : Shape := ⟨2, ![1024, 1792]⟩
abbrev S1792x1024 : Shape := ⟨2, ![1792, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S_, .f32⟩
  | .hbm, ⟨3, _⟩ => ⟨S1024x1792, .f32⟩
  | .hbm, ⟨4, _⟩ => ⟨S4096x1024, .f32⟩
  | .hbm, ⟨5, _⟩ => ⟨S4096x1792, .f32⟩
  | .hbm, ⟨6, _⟩ => ⟨S4096x1792, .f32⟩
  | .hbm, ⟨7, _⟩ => ⟨S1792x1024, .f32⟩
  | .hbm, ⟨8, _⟩ => ⟨S1024x1792, .f32⟩
  | .hbm, ⟨9, _⟩ => ⟨S1792x1024, .f32⟩
  | .hbm, ⟨10, _⟩ => ⟨S1792x1024, .bf16⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x3328 : Shape := ⟨2, ![4096, 3328]⟩
abbrev S4096x1024 : Shape := ⟨2, ![4096, 1024]⟩
abbrev S3328x1024 : Shape := ⟨2, ![3328, 1024]⟩
abbrev S1024x1664 : Shape := ⟨2, ![1024, 1664]⟩
abbrev S1024x1024 : Shape := ⟨2, ![1024, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3328, .bf16⟩
  | .hbm, ⟨1, _⟩ => ⟨S4096x1024, .bf16⟩
  | .hbm, ⟨2, _⟩ => ⟨S3328x1024, .bf16⟩
  | .local _ .vmem, ⟨0, _⟩ => ⟨S1024x1664, .bf16⟩
  | .local _ .vmem, ⟨1, _⟩ => ⟨S1024x1664, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x3328 : Shape := ⟨2, ![4096, 3328]⟩
abbrev S4096x1024 : Shape := ⟨2, ![4096, 1024]⟩
abbrev S_ : Shape := ⟨0, ![]⟩
abbrev S1024x3328 : Shape := ⟨2, ![1024, 3328]⟩
abbrev S3328x1024 : Shape := ⟨2, ![3328, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S4096x1024, .bf16⟩
  | .hbm, ⟨2, _⟩ => ⟨S_, .f32⟩
  | .hbm, ⟨3, _⟩ => ⟨S1024x3328, .f32⟩
  | .hbm, ⟨4, _⟩ => ⟨S4096x1024, .f32⟩
  | .hbm, ⟨5, _⟩ => ⟨S4096x3328, .f32⟩
  | .hbm, ⟨6, _⟩ => ⟨S4096x3328, .f32⟩
  | .hbm, ⟨7, _⟩ => ⟨S3328x1024, .f32⟩
  | .hbm, ⟨8, _⟩ => ⟨S1024x3328, .f32⟩
  | .hbm, ⟨9, _⟩ => ⟨S3328x1024, .f32⟩
  | .hbm, ⟨10, _⟩ => ⟨S3328x1024, .bf16⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S1024x1792 : Shape := ⟨2, ![1024, 1792]⟩
abbrev S1792x1024 : Shape := ⟨2, ![1792, 1024]⟩
abbrev S4096x1792 : Shape := ⟨2, ![4096, 1792]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1792, .f32⟩
  | .hbm, ⟨2, _⟩ => ⟨S1792x1024, .f32⟩
  | .hbm, ⟨3, _⟩ => ⟨S1792x1024, .bf16⟩
  | .hbm, ⟨4, _⟩ => ⟨S4096x1792, .f32⟩
  | .local _ .vmem, ⟨0, _⟩ => ⟨S1024x1024, .bf16⟩
  | .local _ .vmem, ⟨1, _⟩ => ⟨S1024x1024, .bf16⟩
  | .local _ .vmem, ⟨2, _⟩ => ⟨S1792x1024, .bf16⟩
  | .local _ .vmem, ⟨3, _⟩ => ⟨S1024x1792, .f32⟩
  | .local _ .vmem, ⟨4, _⟩ => ⟨S1024x1792, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1792 : Shape := ⟨2, ![1024, 1792]⟩
abbrev S4096x1792 : Shape := ⟨2, ![4096, 1792]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1792, .f32⟩
  | .hbm, ⟨2, _⟩ => ⟨S4096x1024, .f32⟩
  | .hbm, ⟨3, _⟩ => ⟨S4096x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4096x1024 : Shape := ⟨2, ![4096, 1024]⟩
abbrev S1024x3328 : Shape := ⟨2, ![1024, 3328]⟩
abbrev S3328x1024 : Shape := ⟨2, ![3328, 1024]⟩
abbrev S4096x3328 : Shape := ⟨2, ![4096, 3328]⟩
abbrev S1024x1024 : Shape := ⟨2, ![1024, 1024]⟩
abbrev S1664x1024 : Shape := ⟨2, ![1664, 1024]⟩
abbrev S1024x1664 : Shape := ⟨2, ![1024, 1664]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3328, .f32⟩
  | .hbm, ⟨2, _⟩ => ⟨S3328x1024, .f32⟩
  | .hbm, ⟨3, _⟩ => ⟨S3328x1024, .bf16⟩
  | .hbm, ⟨4, _⟩ => ⟨S4096x3328, .f32⟩
  | .local _ .vmem, ⟨0, _⟩ => ⟨S1024x1024, .bf16⟩
  | .local _ .vmem, ⟨1, _⟩ => ⟨S1024x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1664, .f32⟩
  | .local _ .vmem, ⟨5, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x3328 : Shape := ⟨2, ![1024, 3328]⟩
abbrev S4096x3328 : Shape := ⟨2, ![4096, 3328]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3328, .f32⟩
  | .hbm, ⟨2, _⟩ => ⟨S4096x1024, .f32⟩
  | .hbm, ⟨3, _⟩ => ⟨S4096x3328, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference16Ideal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel17.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S2816x1024, .bf16⟩
  | .hbm, ⟨5, _⟩ => ⟨S4096x1024, .f32⟩
  | .hbm, ⟨6, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference17Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel18.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S6x128x1 : Shape := ⟨3, ![6, 128, 1]⟩
abbrev S4096x1024 : Shape := ⟨2, ![4096, 1024]⟩
abbrev S512x768 : Shape := ⟨2, ![512, 768]⟩
abbrev S128x768 : Shape := ⟨2, ![128, 768]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 8
  | .vmem => 10
  | .smem => 0
  | _ => 0

abbrev bufTy : (tb : Table) → Fin (tcTables nBuf tb) → BufTy
  | .hbm, ⟨0, _⟩ => ⟨S4096x1792, .f32⟩
  | .hbm, ⟨1, _⟩ => ⟨S1x768, .f32⟩
  | .hbm, ⟨2, _⟩ => ⟨S1x768, .f32⟩
  | .hbm, ⟨3, _⟩ => ⟨S6x128x128, .f32⟩
  | .hbm, ⟨4, _⟩ => ⟨S6x128, .f32⟩
  | .hbm, ⟨5, _⟩ => ⟨S6x128x1, .f32⟩
  | .hbm, ⟨6, _⟩ => ⟨S6x128x128, .f32⟩
  | .hbm, ⟨7, _⟩ => ⟨S4096x1024, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S1x768, .f32⟩
  | .local _ .vmem, ⟨6, _⟩ => ⟨S6x128x128, .f32⟩
  | .local _ .vmem, ⟨7, _⟩ => ⟨S6x128x128, .f32⟩
  | .local _ .vmem, ⟨8, _⟩ => ⟨S512x768, .bf16⟩
  | .local _ .vmem, ⟨9, _⟩ => ⟨S512x768, .bf16⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
variable {F : FTy → Type} [FloatOps F] [Named F]
def κ : String → Option EReal := fun
  | "inv_sqrt_2" => some (((Real.sqrt 2)⁻¹ : ℝ) : EReal)
  | "inv_sqrt_2pi" => some (((Real.sqrt (2 * Real.pi))⁻¹ : ℝ) : EReal)
  | _ => none
-- ==== Reference18Ideal.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1536 : Shape := ⟨2, ![4096, 1536]⟩
abbrev S1x4096x1536 : Shape := ⟨3, ![1, 4096, 1536]⟩
abbrev S768 : Shape := ⟨1, ![768]⟩
abbrev S_ : Shape := ⟨0, ![]⟩
abbrev S1x4096x768 : Shape := ⟨3, ![1, 4096, 768]⟩
abbrev S1x4096 : Shape := ⟨2, ![1, 4096]⟩
abbrev S1x4096x1 : Shape := ⟨3, ![1, 4096, 1]⟩
abbrev S1x1x768 : Shape := ⟨3, ![1, 1, 768]⟩
abbrev S1x32x128x6x128 : Shape := ⟨5, ![1, 32, 128, 6, 128]⟩
abbrev S128x128 : Shape := ⟨2, ![128, 128]⟩
abbrev S1x128x128 : Shape := ⟨3, ![1, 128, 128]⟩
abbrev S6x1x32x128x128 : Shape := ⟨5, ![6, 1, 32, 128, 128]⟩
abbrev S128x6 : Shape := ⟨2, ![128, 6]⟩
abbrev S1x1x128x6x1 : Shape := ⟨5, ![1, 1, 128, 6, 1]⟩
abbrev S4096x768 : Shape := ⟨2, ![4096, 768]⟩
abbrev S4096x1024 : Shape := ⟨2, ![4096, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S1x768, .f32⟩
  | .hbm, ⟨2, _⟩ => ⟨S1x768, .f32⟩
  | .hbm, ⟨3, _⟩ => ⟨S6x128x128, .f32⟩
  | .hbm, ⟨4, _⟩ => ⟨S6x128, .f32⟩
  | .hbm, ⟨5, _⟩ => ⟨S4096x1536, .f32⟩
  | .hbm, ⟨6, _⟩ => ⟨S1x4096x1536, .f32⟩
  | .hbm, ⟨7, _⟩ => ⟨S768, .f32⟩
  | .hbm, ⟨8, _⟩ => ⟨S768, .f32⟩
  | .hbm, ⟨9, _⟩ => ⟨S_, .f32⟩
  | .hbm, ⟨10, _⟩ => ⟨S1x4096x1536, .f32⟩
  | .hbm, ⟨11, _⟩ => ⟨S1x4096x1536, .f32⟩
  | .hbm, ⟨12, _⟩ => ⟨S_, .f32⟩
  | .hbm, ⟨13, _⟩ => ⟨S_, .f32⟩
  | .hbm, ⟨14, _⟩ => ⟨S1x4096x1536, .f32⟩
  | .hbm, ⟨15, _⟩ => ⟨S1x4096x1536, .f32⟩
  | .hbm, ⟨16, _⟩ => ⟨S1x4096x1536, .f32⟩
  | .hbm, ⟨17, _⟩ => ⟨S_, .f32⟩
  | .hbm, ⟨18, _⟩ => ⟨S1x4096x1536, .f32⟩
  | .hbm, ⟨19, _⟩ => ⟨S1x4096x1536, .f32⟩
  | .hbm, ⟨20, _⟩ => ⟨S1x4096x1536, .f32⟩
  | .hbm, ⟨21, _⟩ => ⟨S1x4096x768, .f32⟩
  | .hbm, ⟨22, _⟩ => ⟨S1x4096x768, .f32⟩
  | .hbm, ⟨23, _⟩ => ⟨S_, .f32⟩
  | .hbm, ⟨24, _⟩ => ⟨S1x4096, .f32⟩
  | .hbm, ⟨25, _⟩ => ⟨S1x4096x1, .f32⟩
  | .hbm, ⟨26, _⟩ => ⟨S_, .f32⟩
  | .hbm, ⟨27, _⟩ => ⟨S1x4096x1, .f32⟩
  | .hbm, ⟨28, _⟩ => ⟨S1x4096x1, .f32⟩
  | .hbm, ⟨29, _⟩ => ⟨S1x4096x768, .f32⟩
  | .hbm, ⟨30, _⟩ => ⟨S1x4096x768, .f32⟩
  | .hbm, ⟨31, _⟩ => ⟨S1x4096x768, .f32⟩
  | .hbm, ⟨32, _⟩ => ⟨S_, .f32⟩
  | .hbm, ⟨33, _⟩ => ⟨S1x4096, .f32⟩
  | .hbm, ⟨34, _⟩ => ⟨S1x4096x1, .f32⟩
  | .hbm, ⟨35, _⟩ => ⟨S_, .f32⟩
  | .hbm, ⟨36, _⟩ => ⟨S1x4096x1, .f32⟩
  | .hbm, ⟨37, _⟩ => ⟨S1x4096x1, .f32⟩
  | .hbm, ⟨38, _⟩ => ⟨S1x4096x768, .f32⟩
  | .hbm, ⟨39, _⟩ => ⟨S1x4096x768, .f32⟩
  | .hbm, ⟨40, _⟩ => ⟨S_, .f32⟩
  | .hbm, ⟨41, _⟩ => ⟨S1x4096x1, .f32⟩
  | .hbm, ⟨42, _⟩ => ⟨S1x4096x1, .f32⟩
  | .hbm, ⟨43, _⟩ => ⟨S1x4096x1, .f32⟩
  | .hbm, ⟨44, _⟩ => ⟨S1x4096x768, .f32⟩
  | .hbm, ⟨45, _⟩ => ⟨S1x4096x768, .f32⟩
  | .hbm, ⟨46, _⟩ => ⟨S1x1x768, .f32⟩
  | .hbm, ⟨47, _⟩ => ⟨S1x4096x768, .f32⟩
  | .hbm, ⟨48, _⟩ => ⟨S1x4096x768, .f32⟩
  | .hbm, ⟨49, _⟩ => ⟨S1x1x768, .f32⟩
  | .hbm, ⟨50, _⟩ => ⟨S1x4096x768, .f32⟩
  | .hbm, ⟨51, _⟩ => ⟨S1x4096x768, .f32⟩
  | .hbm, ⟨52, _⟩ => ⟨S1x32x128x6x128, .f32⟩
  | .hbm, ⟨53, _⟩ => ⟨S_, .f32⟩
  | .hbm, ⟨54, _⟩ => ⟨S128x128, .f32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .f32⟩
  | .hbm, ⟨62, _⟩ => ⟨S128x128, .f32⟩
  | .hbm, ⟨63, _⟩ => ⟨S128x128, .f32⟩
  | .hbm, ⟨64, _⟩ => ⟨S1x128x128, .f32⟩
  | .hbm, ⟨65, _⟩ => ⟨S6x128x128, .f32⟩
  | .hbm, ⟨66, _⟩ => ⟨S6x128x128, .f32⟩
  | .hbm, ⟨67, _⟩ => ⟨S6x1x32x128x128, .f32⟩
  | .hbm, ⟨68, _⟩ => ⟨S1x32x128x6x128, .f32⟩
  | .hbm, ⟨69, _⟩ => ⟨S128x6, .f32⟩
  | .hbm, ⟨70, _⟩ => ⟨S1x1x128x6x1, .f32⟩
  | .hbm, ⟨71, _⟩ => ⟨S1x32x128x6x128, .f32⟩
  | .hbm, ⟨72, _⟩ => ⟨S1x32x128x6x128, .f32⟩
  | .hbm, ⟨73, _⟩ => ⟨S1x4096x768, .f32⟩
  | .hbm, ⟨74, _⟩ => ⟨S1x4096x768, .f32⟩
  | .hbm, ⟨75, _⟩ => ⟨S4096x768, .f32⟩
  | .hbm, ⟨76, _⟩ => ⟨S_, .i32⟩
  | .hbm, ⟨77, _⟩ => ⟨S_, .f32⟩
  | .hbm, ⟨78, _⟩ => ⟨S4096x1024, .f32⟩
  | .hbm, ⟨79, _⟩ => ⟨S4096x1024, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_cst : Ref sig .tc := ⟨.hbm, 61, rfl⟩
abbrev main_call0_v5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Kernel19.lean ====
abbrev S4096x1792 : Shape := ⟨2, ![4096, 1792]⟩
abbrev S256x512 : Shape := ⟨2, ![256, 512]⟩
abbrev S4096x1024 : Shape := ⟨2, ![4096, 1024]⟩
abbrev S2048x256 : Shape := ⟨2, ![2048, 256]⟩
abbrev S256x256 : Shape := ⟨2, ![256, 256]⟩
abbrev S1x256 : Shape := ⟨2, ![1, 256]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1792, .f32⟩
  | .hbm, ⟨1, _⟩ => ⟨S256x512, .f32⟩
  | .hbm, ⟨2, _⟩ => ⟨S4096x1024, .bf16⟩
  | .hbm, ⟨3, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S2048x256, .bf16⟩
  | .local _ .vmem, ⟨5, _⟩ => ⟨S2048x256, .bf16⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S4096x1792 : Shape := ⟨2, ![4096, 1792]⟩
abbrev S256x512 : Shape := ⟨2, ![256, 512]⟩
abbrev S4096x1024 : Shape := ⟨2, ![4096, 1024]⟩
abbrev S1x256x512 : Shape := ⟨3, ![1, 256, 512]⟩
abbrev S1x256x256 : Shape := ⟨3, ![1, 256, 256]⟩
abbrev S4096x256 : Shape := ⟨2, ![4096, 256]⟩
abbrev S1x4096x256 : Shape := ⟨3, ![1, 4096, 256]⟩
abbrev S1x4096x4x64 : Shape := ⟨4, ![1, 4096, 4, 64]⟩
abbrev S1x256x4x64 : Shape := ⟨4, ![1, 256, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S4096x768 : Shape := ⟨2, ![4096, 768]⟩

abbrev nBuf : Space → Nat
  | .hbm => 36
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S256x512, .f32⟩
  | .hbm, ⟨2, _⟩ => ⟨S4096x1024, .bf16⟩
  | .hbm, ⟨3, _⟩ => ⟨S1x256x512, .f32⟩
  | .hbm, ⟨4, _⟩ => ⟨S1x256x256, .f32⟩
  | .hbm, ⟨5, _⟩ => ⟨S1x256x256, .f32⟩
  | .hbm, ⟨6, _⟩ => ⟨S4096x256, .f32⟩
  | .hbm, ⟨7, _⟩ => ⟨S1x4096x256, .f32⟩
  | .hbm, ⟨8, _⟩ => ⟨S1x4096x4x64, .f32⟩
  | .hbm, ⟨9, _⟩ => ⟨S1x256x4x64, .f32⟩
  | .hbm, ⟨10, _⟩ => ⟨S1x256x4x64, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S_, .f32⟩
  | .hbm, ⟨18, _⟩ => ⟨S1x4x4096, .f32⟩
  | .hbm, ⟨19, _⟩ => ⟨S1x4x4096, .f32⟩
  | .hbm, ⟨20, _⟩ => ⟨S1x4x4096x1, .f32⟩
  | .hbm, ⟨21, _⟩ => ⟨S1x4x4096x256, .f32⟩
  | .hbm, ⟨22, _⟩ => ⟨S1x4x4096x256, .f32⟩
  | .hbm, ⟨23, _⟩ => ⟨S1x4x4096x256, .f32⟩
  | .hbm, ⟨24, _⟩ => ⟨S_, .f32⟩
  | .hbm, ⟨25, _⟩ => ⟨S1x4x4096, .f32⟩
  | .hbm, ⟨26, _⟩ => ⟨S1x4x4096x1, .f32⟩
  | .hbm, ⟨27, _⟩ => ⟨S1x4x4096x256, .f32⟩
  | .hbm, ⟨28, _⟩ => ⟨S1x4x4096x256, .f32⟩
  | .hbm, ⟨29, _⟩ => ⟨S1x4x64x4096, .f32⟩
  | .hbm, ⟨30, _⟩ => ⟨S1x4096x4x64, .f32⟩
  | .hbm, ⟨31, _⟩ => ⟨S1x4096x256, .f32⟩
  | .hbm, ⟨32, _⟩ => ⟨S4096x256, .f32⟩
  | .hbm, ⟨33, _⟩ => ⟨S4096x768, .bf16⟩
  | .hbm, ⟨34, _⟩ => ⟨S4096x256, .bf16⟩
  | .hbm, ⟨35, _⟩ => ⟨S4096x1024, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel20.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S1024x1408 : Shape := ⟨2, ![1024, 1408]⟩
abbrev S1408x1024 : Shape := ⟨2, ![1408, 1024]⟩
abbrev S1024x1024 : Shape := ⟨2, ![1024, 1024]⟩
abbrev S1x1 : Shape := ⟨2, ![1, 1]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2816x1024, .bf16⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x128, .f32⟩
  | .local _ .vmem, ⟨13, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_20 : BitVec 32 := 0#32
  let c8_i32 : BitVec 32 := 8#32
  let v28 : BitVec 32 := Scalar.addi c0_i32_20 c8_i32
  let c1_i32_21 : BitVec 32 := 1#32
  ⟨c0_i32_20, v28, c1_i32_21⟩
def k0_mult1 (k0_t1 : Fin k0_t1_loop.trips) : BitVec 32 :=
  let c0_i32_20 : BitVec 32 := 0#32
  let c1_i32_21 : BitVec 32 := 1#32
  let arg12 : BitVec 32 := Scf.iv c0_i32_20 c1_i32_21 k0_t1
  let c128_i32 : BitVec 32 := 128#32
  let v40 : BitVec 32 := Scalar.muli arg12 c128_i32
  v40
def k0_off1 (k0_t1 : Fin k0_t1_loop.trips) : Fin 2 → Nat :=
  let c0_i32_20 : BitVec 32 := 0#32
  let c1_i32_21 : BitVec 32 := 1#32
  let arg12 : BitVec 32 := Scf.iv c0_i32_20 c1_i32_21 k0_t1
  let c128_i32 : BitVec 32 := 128#32
  let v40 : BitVec 32 := Scalar.muli arg12 c128_i32
  let v41 : BitVec 32 := v40
  let v42 : Index := Scalar.indexCast v41
  let c0_31 : Index := 0#32
  ![v42.toNat, 0]
def k0_cond4 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference20Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel21.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x512, .f32⟩
  | .hbm, ⟨2, _⟩ => ⟨S1024x512, .bf16⟩
  | .hbm, ⟨3, _⟩ => ⟨S256x512, .f32⟩
  | .local _ .vmem, ⟨0, _⟩ => ⟨S256x1024, .bf16⟩
  | .local _ .vmem, ⟨1, _⟩ => ⟨S1024x512, .bf16⟩
  | .local _ .vmem, ⟨2, _⟩ => ⟨S256x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .f32⟩
  | .hbm, ⟨2, _⟩ => ⟨S256x1024, .f32⟩
  | .hbm, ⟨3, _⟩ => ⟨S256x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S1024x512, .bf16⟩
  | .local _ .vmem, ⟨0, _⟩ => ⟨S256x1024, .bf16⟩
  | .local _ .vmem, ⟨1, _⟩ => ⟨S256x512, .f32⟩
  | .local _ .vmem, ⟨2, _⟩ => ⟨S1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S_, .f32⟩
  | .hbm, ⟨3, _⟩ => ⟨S1024x512, .f32⟩
  | .hbm, ⟨4, _⟩ => ⟨S256x1024, .f32⟩
  | .hbm, ⟨5, _⟩ => ⟨S256x512, .f32⟩
  | .hbm, ⟨6, _⟩ => ⟨S512x1024, .f32⟩
  | .hbm, ⟨7, _⟩ => ⟨S1024x512, .f32⟩
  | .hbm, ⟨8, _⟩ => ⟨S1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S256x512 : Shape := ⟨2, ![256, 512]⟩
abbrev S1024x512 : Shape := ⟨2, ![1024, 512]⟩
abbrev S256x1024 : Shape := ⟨2, ![256, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S1024x512, .f32⟩
  | .hbm, ⟨2, _⟩ => ⟨S1024x512, .bf16⟩
  | .hbm, ⟨3, _⟩ => ⟨S256x1024, .f32⟩
  | .local _ .vmem, ⟨0, _⟩ => ⟨S256x512, .f32⟩
  | .local _ .vmem, ⟨1, _⟩ => ⟨S1024x512, .bf16⟩
  | .local _ .vmem, ⟨2, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S256x512 : Shape := ⟨2, ![256, 512]⟩
abbrev S1024x512 : Shape := ⟨2, ![1024, 512]⟩
abbrev S_ : Shape := ⟨0, ![]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S1024x512, .f32⟩
  | .hbm, ⟨2, _⟩ => ⟨S_, .f32⟩
  | .hbm, ⟨3, _⟩ => ⟨S256x1024, .f32⟩
  | .hbm, ⟨4, _⟩ => ⟨S256x512, .f32⟩
  | .hbm, ⟨5, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel25.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel26.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference26Ideal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel27.lean ====
abbrev S4096x3328 : Shape := ⟨2, ![4096, 3328]⟩
abbrev S256x512 : Shape := ⟨2, ![256, 512]⟩
abbrev S4096x1024 : Shape := ⟨2, ![4096, 1024]⟩
abbrev S2048x256 : Shape := ⟨2, ![2048, 256]⟩
abbrev S256x256 : Shape := ⟨2, ![256, 256]⟩
abbrev S1x256 : Shape := ⟨2, ![1, 256]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x3328, .f32⟩
  | .hbm, ⟨1, _⟩ => ⟨S256x512, .f32⟩
  | .hbm, ⟨2, _⟩ => ⟨S4096x1024, .bf16⟩
  | .hbm, ⟨3, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S2048x256, .bf16⟩
  | .local _ .vmem, ⟨5, _⟩ => ⟨S2048x256, .bf16⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S4096x3328 : Shape := ⟨2, ![4096, 3328]⟩
abbrev S256x512 : Shape := ⟨2, ![256, 512]⟩
abbrev S4096x1024 : Shape := ⟨2, ![4096, 1024]⟩
abbrev S1x256x512 : Shape := ⟨3, ![1, 256, 512]⟩
abbrev S1x256x256 : Shape := ⟨3, ![1, 256, 256]⟩
abbrev S4096x256 : Shape := ⟨2, ![4096, 256]⟩
abbrev S1x4096x256 : Shape := ⟨3, ![1, 4096, 256]⟩
abbrev S1x4096x4x64 : Shape := ⟨4, ![1, 4096, 4, 64]⟩
abbrev S1x256x4x64 : Shape := ⟨4, ![1, 256, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S4096x768 : Shape := ⟨2, ![4096, 768]⟩

abbrev nBuf : Space → Nat
  | .hbm => 36
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S256x512, .f32⟩
  | .hbm, ⟨2, _⟩ => ⟨S4096x1024, .bf16⟩
  | .hbm, ⟨3, _⟩ => ⟨S1x256x512, .f32⟩
  | .hbm, ⟨4, _⟩ => ⟨S1x256x256, .f32⟩
  | .hbm, ⟨5, _⟩ => ⟨S1x256x256, .f32⟩
  | .hbm, ⟨6, _⟩ => ⟨S4096x256, .f32⟩
  | .hbm, ⟨7, _⟩ => ⟨S1x4096x256, .f32⟩
  | .hbm, ⟨8, _⟩ => ⟨S1x4096x4x64, .f32⟩
  | .hbm, ⟨9, _⟩ => ⟨S1x256x4x64, .f32⟩
  | .hbm, ⟨10, _⟩ => ⟨S1x256x4x64, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S_, .f32⟩
  | .hbm, ⟨18, _⟩ => ⟨S1x4x4096, .f32⟩
  | .hbm, ⟨19, _⟩ => ⟨S1x4x4096, .f32⟩
  | .hbm, ⟨20, _⟩ => ⟨S1x4x4096x1, .f32⟩
  | .hbm, ⟨21, _⟩ => ⟨S1x4x4096x256, .f32⟩
  | .hbm, ⟨22, _⟩ => ⟨S1x4x4096x256, .f32⟩
  | .hbm, ⟨23, _⟩ => ⟨S1x4x4096x256, .f32⟩
  | .hbm, ⟨24, _⟩ => ⟨S_, .f32⟩
  | .hbm, ⟨25, _⟩ => ⟨S1x4x4096, .f32⟩
  | .hbm, ⟨26, _⟩ => ⟨S1x4x4096x1, .f32⟩
  | .hbm, ⟨27, _⟩ => ⟨S1x4x4096x256, .f32⟩
  | .hbm, ⟨28, _⟩ => ⟨S1x4x4096x256, .f32⟩
  | .hbm, ⟨29, _⟩ => ⟨S1x4x64x4096, .f32⟩
  | .hbm, ⟨30, _⟩ => ⟨S1x4096x4x64, .f32⟩
  | .hbm, ⟨31, _⟩ => ⟨S1x4096x256, .f32⟩
  | .hbm, ⟨32, _⟩ => ⟨S4096x256, .f32⟩
  | .hbm, ⟨33, _⟩ => ⟨S4096x768, .bf16⟩
  | .hbm, ⟨34, _⟩ => ⟨S4096x256, .bf16⟩
  | .hbm, ⟨35, _⟩ => ⟨S4096x1024, .bf16⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel28.lean ====
abbrev S4096x3328 : Shape := ⟨2, ![4096, 3328]⟩
abbrev S256x512 : Shape := ⟨2, ![256, 512]⟩
abbrev S4096x1024 : Shape := ⟨2, ![4096, 1024]⟩
abbrev S256x256 : Shape := ⟨2, ![256, 256]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x3328, .f32⟩
  | .hbm, ⟨1, _⟩ => ⟨S256x512, .f32⟩
  | .hbm, ⟨2, _⟩ => ⟨S4096x1024, .f32⟩
  | .hbm, ⟨3, _⟩ => ⟨S4096x3328, .bf16⟩
  | .hbm, ⟨4, _⟩ => ⟨S4096x3328, .bf16⟩
  | .hbm, ⟨5, _⟩ => ⟨S256x256, .f32⟩
  | .hbm, ⟨6, _⟩ => ⟨S256x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S256x256, .f32⟩
  | .local _ .vmem, ⟨9, _⟩ => ⟨S256x256, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S4096x3328 : Shape := ⟨2, ![4096, 3328]⟩
abbrev S256x512 : Shape := ⟨2, ![256, 512]⟩
abbrev S4096x1024 : Shape := ⟨2, ![4096, 1024]⟩
abbrev S1x256x512 : Shape := ⟨3, ![1, 256, 512]⟩
abbrev S1x256x256 : Shape := ⟨3, ![1, 256, 256]⟩
abbrev S4096x256 : Shape := ⟨2, ![4096, 256]⟩
abbrev S1x4096x256 : Shape := ⟨3, ![1, 4096, 256]⟩
abbrev S1x4096x4x64 : Shape := ⟨4, ![1, 4096, 4, 64]⟩
abbrev S1x256x4x64 : Shape := ⟨4, ![1, 256, 4, 64]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x64x4096 : Shape := ⟨4, ![1, 4, 64, 4096]⟩
abbrev S1x4x64x256 : Shape := ⟨4, ![1, 4, 64, 256]⟩
abbrev S4x4096 : Shape := ⟨2, ![4, 4096]⟩
abbrev S1x4x256x64 : Shape := ⟨4, ![1, 4, 256, 64]⟩
abbrev S1x4x4096x64 : Shape := ⟨4, ![1, 4, 4096, 64]⟩
abbrev S4096x3072 : Shape := ⟨2, ![4096, 3072]⟩
abbrev S256x256 : Shape := ⟨2, ![256, 256]⟩

abbrev nBuf : Space → Nat
  | .hbm => 95
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S256x512, .f32⟩
  | .hbm, ⟨2, _⟩ => ⟨S4096x1024, .f32⟩
  | .hbm, ⟨3, _⟩ => ⟨S4096x3328, .bf16⟩
  | .hbm, ⟨4, _⟩ => ⟨S1x256x512, .f32⟩
  | .hbm, ⟨5, _⟩ => ⟨S1x256x256, .f32⟩
  | .hbm, ⟨6, _⟩ => ⟨S1x256x256, .f32⟩
  | .hbm, ⟨7, _⟩ => ⟨S4096x256, .f32⟩
  | .hbm, ⟨8, _⟩ => ⟨S1x4096x256, .f32⟩
  | .hbm, ⟨9, _⟩ => ⟨S1x4096x4x64, .f32⟩
  | .hbm, ⟨10, _⟩ => ⟨S1x256x4x64, .f32⟩
  | .hbm, ⟨11, _⟩ => ⟨S1x256x4x64, .f32⟩
  | .hbm, ⟨12, _⟩ => ⟨S1x4x4096x256, .f32⟩
  | .hbm, ⟨13, _⟩ => ⟨S_, .f32⟩
  | .hbm, ⟨14, _⟩ => ⟨S1x4x4096x256, .f32⟩
  | .hbm, ⟨15, _⟩ => ⟨S1x4x4096x256, .f32⟩
  | .hbm, ⟨16, _⟩ => ⟨S_, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .i1⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S_, .f32⟩
  | .hbm, ⟨25, _⟩ => ⟨S1x4x4096, .f32⟩
  | .hbm, ⟨26, _⟩ => ⟨S1x4x4096, .f32⟩
  | .hbm, ⟨27, _⟩ => ⟨S_, .f32⟩
  | .hbm, ⟨28, _⟩ => ⟨S1x4x4096, .f32⟩
  | .hbm, ⟨29, _⟩ => ⟨S1x4x4096, .i1⟩
  | .hbm, ⟨30, _⟩ => ⟨S_, .f32⟩
  | .hbm, ⟨31, _⟩ => ⟨S1x4x4096, .f32⟩
  | .hbm, ⟨32, _⟩ => ⟨S1x4x4096, .i1⟩
  | .hbm, ⟨33, _⟩ => ⟨S_, .f32⟩
  | .hbm, ⟨34, _⟩ => ⟨S1x4x4096, .f32⟩
  | .hbm, ⟨35, _⟩ => ⟨S_, .f32⟩
  | .hbm, ⟨36, _⟩ => ⟨S1x4x4096, .f32⟩
  | .hbm, ⟨37, _⟩ => ⟨S_, .f32⟩
  | .hbm, ⟨38, _⟩ => ⟨S1x4x4096, .f32⟩
  | .hbm, ⟨39, _⟩ => ⟨S1x4x4096, .f32⟩
  | .hbm, ⟨40, _⟩ => ⟨S1x4x4096, .f32⟩
  | .hbm, ⟨41, _⟩ => ⟨S1x4x4096x1, .f32⟩
  | .hbm, ⟨42, _⟩ => ⟨S1x4x4096x256, .f32⟩
  | .hbm, ⟨43, _⟩ => ⟨S1x4x4096x256, .f32⟩
  | .hbm, ⟨44, _⟩ => ⟨S1x4x4096x256, .f32⟩
  | .hbm, ⟨45, _⟩ => ⟨S_, .f32⟩
  | .hbm, ⟨46, _⟩ => ⟨S1x4x4096, .f32⟩
  | .hbm, ⟨47, _⟩ => ⟨S1x4x4096x1, .f32⟩
  | .hbm, ⟨48, _⟩ => ⟨S1x4x4096x256, .f32⟩
  | .hbm, ⟨49, _⟩ => ⟨S1x4x4096x256, .f32⟩
  | .hbm, ⟨50, _⟩ => ⟨S1x4x4096x1, .f32⟩
  | .hbm, ⟨51, _⟩ => ⟨S_, .f32⟩
  | .hbm, ⟨52, _⟩ => ⟨S1x4x4096x1, .f32⟩
  | .hbm, ⟨53, _⟩ => ⟨S1x4x4096x1, .f32⟩
  | .hbm, ⟨54, _⟩ => ⟨S1x4x64x4096, .f32⟩
  | .hbm, ⟨55, _⟩ => ⟨S1x4096x4x64, .f32⟩
  | .hbm, ⟨56, _⟩ => ⟨S1x4096x256, .f32⟩
  | .hbm, ⟨57, _⟩ => ⟨S4096x256, .f32⟩
  | .hbm, ⟨58, _⟩ => ⟨S1x4096x256, .f32⟩
  | .hbm, ⟨59, _⟩ => ⟨S1x4096x4x64, .f32⟩
  | .hbm, ⟨60, _⟩ => ⟨S1x4x64x4096, .f32⟩
  | .hbm, ⟨61, _⟩ => ⟨S1x4x4096x256, .f32⟩
  | .hbm, ⟨62, _⟩ => ⟨S1x4x64x256, .f32⟩
  | .hbm, ⟨63, _⟩ => ⟨S1x256x4x64, .f32⟩
  | .hbm, ⟨64, _⟩ => ⟨S1x4x4096x256, .f32⟩
  | .hbm, ⟨65, _⟩ => ⟨S1x4x4096x256, .f32⟩
  | .hbm, ⟨66, _⟩ => ⟨S1x4x4096x256, .f32⟩
  | .hbm, ⟨67, _⟩ => ⟨S_, .f32⟩
  | .hbm, ⟨68, _⟩ => ⟨S1x4x4096, .f32⟩
  | .hbm, ⟨69, _⟩ => ⟨S1x4x4096x1, .f32⟩
  | .hbm, ⟨70, _⟩ => ⟨S1x4x4096x1, .f32⟩
  | .hbm, ⟨71, _⟩ => ⟨S1x4x4096x256, .f32⟩
  | .hbm, ⟨72, _⟩ => ⟨S1x4x4096x256, .f32⟩
  | .hbm, ⟨73, _⟩ => ⟨S_, .f32⟩
  | .hbm, ⟨74, _⟩ => ⟨S4x4096, .f32⟩
  | .hbm, ⟨75, _⟩ => ⟨S1x4x4096, .f32⟩
  | .hbm, ⟨76, _⟩ => ⟨S1x4x4096x256, .f32⟩
  | .hbm, ⟨77, _⟩ => ⟨S1x4x4096x256, .f32⟩
  | .hbm, ⟨78, _⟩ => ⟨S1x4x4096x256, .f32⟩
  | .hbm, ⟨79, _⟩ => ⟨S_, .f32⟩
  | .hbm, ⟨80, _⟩ => ⟨S1x4x4096x256, .f32⟩
  | .hbm, ⟨81, _⟩ => ⟨S1x4x4096x256, .f32⟩
  | .hbm, ⟨82, _⟩ => ⟨S1x4x256x64, .f32⟩
  | .hbm, ⟨83, _⟩ => ⟨S1x256x4x64, .f32⟩
  | .hbm, ⟨84, _⟩ => ⟨S1x4x4096x64, .f32⟩
  | .hbm, ⟨85, _⟩ => ⟨S1x4096x4x64, .f32⟩
  | .hbm, ⟨86, _⟩ => ⟨S1x256x256, .f32⟩
  | .hbm, ⟨87, _⟩ => ⟨S1x256x256, .f32⟩
  | .hbm, ⟨88, _⟩ => ⟨S1x4096x256, .f32⟩
  | .hbm, ⟨89, _⟩ => ⟨S4096x3072, .bf16⟩
  | .hbm, ⟨90, _⟩ => ⟨S4096x256, .f32⟩
  | .hbm, ⟨91, _⟩ => ⟨S4096x256, .bf16⟩
  | .hbm, ⟨92, _⟩ => ⟨S4096x3328, .bf16⟩
  | .hbm, ⟨93, _⟩ => ⟨S256x256, .f32⟩
  | .hbm, ⟨94, _⟩ => ⟨S256x256, .f32⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Kernel29.lean ====
abbrev S2x352x1024 : Shape := ⟨3, ![2, 352, 1024]⟩
abbrev S704x1024 : Shape := ⟨2, ![704, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S2x352x1024 : Shape := ⟨3, ![2, 352, 1024]⟩
abbrev S_ : Shape := ⟨0, ![]⟩
abbrev S704x1024 : Shape := ⟨2, ![704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S704x1024, .f32⟩
  | .hbm, ⟨38, _⟩ => ⟨S704x1024, .f32⟩
  | .hbm, ⟨39, _⟩ => ⟨S704x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Frames.lean ====
/- The three programs run to completion, leave their arguments as they found them and every semaphore at zero: the kernel
   as written, the kernel with its two constants named, and the reference. The kernel's two frames are the generated ones;
   the reference's is its generated run read for its arguments only. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Init

@[expose] public section

noncomputable section

open Idealize.ShloMosaic Idealize.SL.Sem

namespace Cert.Gmlp

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The two named constants denote `1 / √2` and `1 / √(2π)`. -/
theorem preserves : Cert.preserves_Kernel_KernelIdeal :=
  ⟨IdealRules.named_const.statement Cert.KernelIdeal.κ "inv_sqrt_2" .f32 0x3F3504F3#32 (((Real.sqrt 2)⁻¹ : ℝ) : EReal) rfl,
   IdealRules.named_const.statement Cert.KernelIdeal.κ "inv_sqrt_2pi" .f32 0x3ECC422A#32
     (((Real.sqrt (2 * Real.pi))⁻¹ : ℝ) : EReal) rfl⟩

end Cert.Gmlp

end
-- ==== Proof.Spec.lean ====
module

public import Idealize.ShloMosaic.PureOps.Ideal

/-!
The gradient of the gMLP's spatial gate over the real numbers.

The gate is `u · (W v̂ + b)`: `u` and `v` are the two halves of `gelu p`, `v̂` is the row-wise layer norm of `v`, and
`W` mixes the 128 rows of one chunk, head by head, through its lower triangle. Everything is a function of natural
numbers here (a row, a column, a head), so that the kernel's blocks and the reference's reshaped arrays read the same
functions.
-/

@[expose] public section

noncomputable section

namespace Cert.Gmlp

open scoped BigOperators

/-- The error function, by its integral. -/
def erfR (x : ℝ) : ℝ := 2 / Real.sqrt Real.pi * ∫ t in (0 : ℝ)..x, Real.exp (-(t ^ 2))

/-- The Gaussian's distribution function. -/
def cdf (x : ℝ) : ℝ := 1 / 2 * (1 + erfR (x * (Real.sqrt 2)⁻¹))

/-- `gelu x = x Φ(x)`. -/
def gelu (x : ℝ) : ℝ := x * cdf x

/-- The derivative of `gelu`: `Φ(x) + x φ(x)`. -/
def dgelu (x : ℝ) : ℝ := cdf x + x * Real.exp (-1 / 2 * x * x) * (Real.sqrt (2 * Real.pi))⁻¹

/-- The small number under the layer norm's root: the `f32` word the programs hold. -/
def eps : ℝ := 8796093 / 8796093022208

theorem eps_pos : 0 < eps := by unfold eps; norm_num

/-- What the gradient takes: the projection `p`, the norm's gain and offset, the mixing weights and offsets of each
head, and the cotangent `t` of the gate. -/
structure Args where
  p : ℕ → ℕ → ℝ
  lg : ℕ → ℝ
  lb : ℕ → ℝ
  w : ℕ → ℕ → ℕ → ℝ
  b : ℕ → ℕ → ℝ
  t : ℕ → ℕ → ℝ

namespace Args

variable (D : Args)

/-- The gate's two operands before the norm. -/
def zu (r c : ℕ) : ℝ := gelu (D.p r c)
def zv (r c : ℕ) : ℝ := gelu (D.p r (768 + c))

/-- The layer norm of a row of `zv`. -/
def mu (r : ℕ) : ℝ := (∑ c : Fin 768, D.zv r c.val) / 768
def cen (r c : ℕ) : ℝ := D.zv r c - D.mu r
def var (r : ℕ) : ℝ := (∑ c : Fin 768, D.cen r c.val * D.cen r c.val) / 768
def rs (r : ℕ) : ℝ := (Real.sqrt (D.var r + eps))⁻¹
def vh (r c : ℕ) : ℝ := D.cen r c * D.rs r
def vn (r c : ℕ) : ℝ := D.vh r c * D.lg c + D.lb c

/-- A head's mixing weights: the lower triangle. -/
def wm (g t s : ℕ) : ℝ := if s ≤ t then D.w g t s else 0

/-- The mixed rows: row `t` of a chunk is the weighted sum of the chunk's rows, plus the head's offset. -/
def sv (r c : ℕ) : ℝ :=
  (∑ s : Fin 128, D.wm (c / 128) (r % 128) s.val * D.vn (128 * (r / 128) + s.val) c) + D.b (c / 128) (r % 128)

/-- The gradient at the mixed rows, and at the normed ones. -/
def dsv (r c : ℕ) : ℝ := D.t r c * D.zu r c
def dvn (r c : ℕ) : ℝ :=
  ∑ t : Fin 128, D.wm (c / 128) t.val (r % 128) * D.dsv (128 * (r / 128) + t.val) c

/-- The gradient through the layer norm. -/
def dvh (r c : ℕ) : ℝ := D.dvn r c * D.lg c
def mdvh (r : ℕ) : ℝ := (∑ c : Fin 768, D.dvh r c.val) / 768
def mdvhv (r : ℕ) : ℝ := (∑ c : Fin 768, D.dvh r c.val * D.vh r c.val) / 768
def dzv (r c : ℕ) : ℝ := D.rs r * (D.dvh r c - D.mdvh r - D.vh r c * D.mdvhv r)

/-- The gradient of the projection. -/
def dpu (r c : ℕ) : ℝ := D.t r c * D.sv r c * dgelu (D.p r c)
def dpv (r c : ℕ) : ℝ := D.dzv r c * dgelu (D.p r (768 + c))
def dp (r c : ℕ) : ℝ := if c < 768 then D.dpu r c else D.dpv r (c - 768)

/-- What one chunk gives to each of the gradients that are summed over the chunks. -/
def dwc (n g t s : ℕ) : ℝ :=
  if s ≤ t then ∑ c : Fin 128, D.dsv (128 * n + t) (128 * g + c.val) * D.vn (128 * n + s) (128 * g + c.val) else 0
def dbc (n g t : ℕ) : ℝ := ∑ c : Fin 128, D.dsv (128 * n + t) (128 * g + c.val)
def dgc (n c : ℕ) : ℝ := ∑ s : Fin 128, D.dvn (128 * n + s.val) c * D.vh (128 * n + s.val) c
def dlc (n c : ℕ) : ℝ := ∑ s : Fin 128, D.dvn (128 * n + s.val) c

/-- The gradients of the mixing weights and offsets, of the norm's gain and of its offset. -/
def dw (g t s : ℕ) : ℝ := ∑ n : Fin 32, D.dwc n.val g t s
def db (g t : ℕ) : ℝ := ∑ n : Fin 32, D.dbc n.val g t
def dlg (c : ℕ) : ℝ := ∑ n : Fin 32, D.dgc n.val c
def dlb (c : ℕ) : ℝ := ∑ n : Fin 32, D.dlc n.val c

theorem var_nonneg (r : ℕ) : 0 ≤ D.var r :=
  div_nonneg (Finset.sum_nonneg fun _ _ => mul_self_nonneg _) (by norm_num)

theorem var_eps_pos (r : ℕ) : 0 < D.var r + eps := add_pos_of_nonneg_of_pos (D.var_nonneg r) eps_pos

end Args

end Cert.Gmlp
-- ==== Proof.Consts.lean ====
module

public import proofs.«01_k».proof.Proof.Spec
public import proofs.«01_k».proof.KernelIdeal
public import Idealize.ShloMosaic.Lib.Pipeline.ValueKit
public import Idealize.ShloMosaic.PureOps.Ideal.Laws

/-! The numbers the two programs write down, as real numbers. -/

@[expose] public section

noncomputable section

namespace Cert.Gmlp

open Idealize.ShloMosaic

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_768 : Ideal.ofBits .f32 0x44400000#32 = ((768 : ℝ) : EReal) := by
  simp [Ideal.ofBits, Ideal.ieee, -EReal.coe_mul]; norm_num

theorem ofBits_eps : Ideal.ofBits .f32 0x358637BD#32 = ((eps : ℝ) : EReal) := by
  unfold eps
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

theorem ofBits_top : Ideal.ofBits .f32 0x7F800000#32 = (⊤ : EReal) := by
  simp [Ideal.ofBits, Ideal.ieee]

theorem named_inv_sqrt_2 : Named.named (F := Ideal) Cert.KernelIdeal.κ "inv_sqrt_2" (φ := .f32) 0x3F3504F3#32
    = (((Real.sqrt 2)⁻¹ : ℝ) : EReal) := IdealRules.named_const.ideal_named_scalar _ _ _ _ rfl

theorem named_inv_sqrt_2pi : Named.named (F := Ideal) Cert.KernelIdeal.κ "inv_sqrt_2pi" (φ := .f32) 0x3ECC422A#32
    = (((Real.sqrt (2 * Real.pi))⁻¹ : ℝ) : EReal) := IdealRules.named_const.ideal_named_scalar _ _ _ _ rfl

end Cert.Gmlp
-- ==== Proof.Calc.lean ====
module

public import proofs.«01_k».proof.Proof.Consts

/-! Arrays whose entries are real numbers, and what the operations do to them. -/

@[expose] public section

set_option maxRecDepth 16384

noncomputable section

namespace Cert.Gmlp

open Idealize.ShloMosaic Idealize.ShloMosaic.TcCoe

/-- The array `x` holds the real numbers `f`. -/
def Is {S : Shape} (x : S.Idx → EReal) (f : S.Idx → ℝ) : Prop := ∀ j, x j = ((f j : ℝ) : EReal)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem erf_coe (r : ℝ) : Ideal.erf ((r : ℝ) : EReal) = ((erfR r : ℝ) : EReal) := rfl

theorem div_coe_coe (a b : ℝ) (h : b ≠ 0) : Ideal.div ((a : ℝ) : EReal) ((b : ℝ) : EReal) = ((a / b : ℝ) : EReal) := by
  rw [Ideal.div_coe h, ← EReal.coe_mul]; congr 1; ring

theorem rsqrt_coe_pos (a : ℝ) (h : 0 < a) : Ideal.rsqrt ((a : ℝ) : EReal) = (((Real.sqrt a)⁻¹ : ℝ) : EReal) := by
  rw [Ideal.rsqrt_coe, if_neg (not_lt.2 h.le), if_neg h.ne']

namespace Is

variable {S : Shape} {φ : FTy} {x y : FVec Ideal S φ} {f g : S.Idx → ℝ}

theorem congr (hx : Is x f) (h : ∀ j, f j = g j) : Is x g := fun j => (hx j).trans (by rw [h j])

theorem mulf (hx : Is x f) (hy : Is y g) : Is (mulf x y) (fun j => f j * g j) := fun j => by
  show x j * y j = _
  rw [hx j, hy j, EReal.coe_mul]

theorem addf (hx : Is x f) (hy : Is y g) : Is (addf x y) (fun j => f j + g j) := fun j => by
  show x j + y j = _
  rw [hx j, hy j, EReal.coe_add]

theorem subf (hx : Is x f) (hy : Is y g) : Is (subf x y) (fun j => f j - g j) := fun j => by
  show x j - y j = _
  rw [hx j, hy j, EReal.coe_sub]

theorem divf (hx : Is x f) (hy : Is y g) (h : ∀ j, g j ≠ 0) : Is (divf x y) (fun j => f j / g j) := fun j => by
  show Ideal.div (x j) (y j) = _
  rw [hx j, hy j, div_coe_coe _ _ (h j)]

theorem rsqrt (hx : Is x f) (h : ∀ j, 0 < f j) : Is (rsqrt x) (fun j => (Real.sqrt (f j))⁻¹) := fun j => by
  show Ideal.rsqrt (x j) = _
  rw [hx j, rsqrt_coe_pos _ (h j)]

theorem exp (hx : Is x f) : Is (exp x) (fun j => Real.exp (f j)) := fun j => by
  show Ideal.exp (x j) = _
  rw [hx j, Ideal.exp_coe]

theorem erf (hx : Is x f) : Is (erf x) (fun j => erfR (f j)) := fun j => by
  show Ideal.erf (x j) = _
  rw [hx j, erf_coe]

theorem splat {a : EReal} {r : ℝ} (h : a = ((r : ℝ) : EReal)) : Is (broadcast S a) (fun _ => r) := fun _ => h

theorem truncf {x : FVec Ideal S .f32} (hx : Is x f) (h : FTy.bits .bf16 < FTy.bits .f32) :
    Is (S := S) (truncf .bf16 x h) f := fun j => hx j

/-- An operation that reads `x` at one index for every index of its result. -/
theorem reads {T : Shape} {z : T.Idx → EReal} {k : T.Idx → S.Idx} (hx : Is x f) (h : ∀ j, z j = x (k j)) :
    Is z (fun j => f (k j)) := fun j => (h j).trans (hx (k j))

end Is

end Cert.Gmlp
-- ==== Proof.Chunk.lean ====
module

public import proofs.«01_k».proof.Proof.Consts
public import proofs.«01_k».proof.Proof.Gen.KernelIdeal.Skeleton

/-!
What the kernel computes of one chunk of 128 rows, as functions of the chunk's blocks of `p` (its two halves), of the
cotangent, of the norm's gain and offset and of the heads' weights and offsets. The kernel's stored values are these
functions: its text spells each of them out for every chunk and every head.
-/

@[expose] public section

set_option maxRecDepth 16384

noncomputable section

namespace Cert.Gmlp.Chunk

open Cert.KernelIdeal Cert.KernelIdeal.Gen Idealize.ShloMosaic Idealize.ShloMosaic.TcCoe

variable {F : FTy → Type} [FloatOps F] [Named F]

/-- The Gaussian's distribution function, entry by entry. -/
def cdf (x : FVec F S128x768 .f32) : FVec F S128x768 .f32 :=
  mulf (broadcast S128x768 (Scalar.ofBits .f32 0x3F000000#32))
    (addf (broadcast S128x768 (Scalar.ofBits .f32 0x3F800000#32))
      (erf (mulf x (broadcast S128x768 (Named.named κ "inv_sqrt_2" 0x3F3504F3#32)))))

def gelu (x : FVec F S128x768 .f32) : FVec F S128x768 .f32 := mulf x (cdf x)

def dgelu (x : FVec F S128x768 .f32) : FVec F S128x768 .f32 :=
  addf (cdf x) (mulf (mulf x (exp (mulf (mulf (broadcast S128x768 (Scalar.ofBits .f32 0xBF000000#32)) x) x)))
    (broadcast S128x768 (Named.named κ "inv_sqrt_2pi" 0x3ECC422A#32)))

/-- The mean of every row. -/
def mean (x : FVec F S128x768 .f32) : FVec F S128x1 .f32 :=
  divf (shapeCast S128x1 (multiReduction .add [1] S128 x 0x00000000#32 reduces_S128x768_S128 (.inl rfl) rfl)
    shapeCasts_S128_S128x1) (broadcast S128x1 (Scalar.ofBits .f32 0x44400000#32))

def cols (x : FVec F S128x1 .f32) : FVec F S128x768 .f32 := broadcastTo S128x768 x broadcasts_S128x1_S128x768
def rows (x : FVec F S1x768 .f32) : FVec F S128x768 .f32 := broadcastTo S128x768 x broadcasts_S1x768_S128x768

/-- The layer norm of every row of `z`. -/
def cen (z : FVec F S128x768 .f32) : FVec F S128x768 .f32 := subf z (cols (mean z))
def rs (z : FVec F S128x768 .f32) : FVec F S128x1 .f32 :=
  rsqrt (addf (mean (mulf (cen z) (cen z))) (broadcast S128x1 (Scalar.ofBits .f32 0x358637BD#32)))
def vh (z : FVec F S128x768 .f32) : FVec F S128x768 .f32 := mulf (cen z) (cols (rs z))
def vn (z : FVec F S128x768 .f32) (lg lb : FVec F S1x768 .f32) : FVec F S128x768 .f32 :=
  addf (mulf (vh z) (rows lg)) (rows lb)

/-- The lower triangle, and the mixing weights cut to it. -/
def tril : IVec S128x128 1 :=
  cmpi .sge (iota .tc S128x128 32 [0] iota_S128x128_d0_w32) (iota .tc S128x128 32 [1] iota_S128x128_d1_w32)
def low (w : FVec F S128x128 .f32) : FVec F S128x128 .f32 :=
  select tril w (broadcast S128x128 (Scalar.ofBits .f32 0x00000000#32))
def wm (w : FVec F S1x128x128 .f32) : FVec F S128x128 .bf16 :=
  truncf .bf16 (low (shapeCast S128x128 w shapeCasts_S1x128x128_S128x128)) bitsLt_bf16_f32

section Head

variable (o : Nat) (h : S128x768.Slices ![0, o] S128x128)

/-- The columns of the head that begins at column `o`. -/
def head (x : FVec F S128x768 .f32) : FVec F S128x128 .f32 := extractStridedSlice S128x128 ![0, o] x h

def vnx (v : FVec F S128x768 .f32) : FVec F S128x128 .bf16 := truncf .bf16 (head o h v) bitsLt_bf16_f32

/-- The mixed rows of a head. -/
def sv (v : FVec F S128x768 .f32) (w b : FVec F S1x128x128 .f32) : FVec F S128x128 .f32 :=
  addf (matmul dot_S128x128_S128x128_S128x128_1_0_0_1_n_n none (wm w) (vnx o h v)
    (constant S128x128 .f32 0x00000000#32)) (shapeCast S128x128 b shapeCasts_S1x128x128_S128x128)

def dsv (t z : FVec F S128x768 .f32) : FVec F S128x128 .f32 := mulf (head o h t) (head o h z)
def dsx (t z : FVec F S128x768 .f32) : FVec F S128x128 .bf16 := truncf .bf16 (dsv o h t z) bitsLt_bf16_f32

/-- The head's columns of the gradient of `p`'s first half, from the derivative `d` of `gelu` there. -/
def dpu (t d v : FVec F S128x768 .f32) (w b : FVec F S1x128x128 .f32) : FVec F S128x128 .bf16 :=
  truncf .bf16 (mulf (mulf (head o h t) (sv o h v w b)) (head o h d)) bitsLt_bf16_f32

/-- The head's gradient of the mixing weights, added to the one before. -/
def dw (t z v : FVec F S128x768 .f32) (a : FVec F S1x128x128 .f32) : FVec F S1x128x128 .f32 :=
  shapeCast S1x128x128 (addf (shapeCast S128x128 a shapeCasts_S1x128x128_S128x128)
    (low (matmul dot_S128x128_S128x128_S128x128_1_1_0_0_n_n none (dsx o h t z) (vnx o h v)
      (constant S128x128 .f32 0x00000000#32)))) shapeCasts_S128x128_S1x128x128

/-- The head's gradient of the mixing offsets, added to the one before. -/
def db (t z : FVec F S128x768 .f32) (a : FVec F S1x128x1 .f32) : FVec F S1x128x1 .f32 :=
  shapeCast S1x128x1 (addf (shapeCast S128x1 a shapeCasts_S1x128x1_S128x1)
    (shapeCast S128x1 (multiReduction .add [1] S128 (dsv o h t z) 0x00000000#32 reduces_S128x128_S128 (.inl rfl) rfl)
      shapeCasts_S128_S128x1)) shapeCasts_S128x1_S1x128x1

/-- The head's columns of the gradient at the normed rows. -/
def dvnx (t z : FVec F S128x768 .f32) (w : FVec F S1x128x128 .f32) : FVec F S128x128 .f32 :=
  matmul dot_S128x128_S128x128_S128x128_0_0_1_1_n_n none (wm w) (dsx o h t z) (constant S128x128 .f32 0x00000000#32)

end Head

/-- The gradient at the normed rows, all heads side by side. -/
def dvn (t z : FVec F S128x768 .f32) (w0 w1 w2 w3 w4 w5 : FVec F S1x128x128 .f32) : FVec F S128x768 .f32 :=
  concatenate S128x768 1
    [⟨S128x128, dvnx 0 slices_S128x768_o0_0_S128x128 t z w0⟩, ⟨S128x128, dvnx 128 slices_S128x768_o0_128_S128x128 t z w1⟩,
     ⟨S128x128, dvnx 256 slices_S128x768_o0_256_S128x128 t z w2⟩, ⟨S128x128, dvnx 384 slices_S128x768_o0_384_S128x128 t z w3⟩,
     ⟨S128x128, dvnx 512 slices_S128x768_o0_512_S128x128 t z w4⟩, ⟨S128x128, dvnx 640 slices_S128x768_o0_640_S128x128 t z w5⟩]
    concatenates_S128x128_S128x128_S128x128_S128x128_S128x128_S128x128_S128x768_d1

/-- The column sums of `x`, added to the ones before. -/
def sumTo (x : FVec F S128x768 .f32) (a : FVec F S1x768 .f32) : FVec F S1x768 .f32 :=
  addf (shapeCast S1x768 a shapeCasts_S1x768_S1x768)
    (shapeCast S1x768 (multiReduction .add [0] S768 x 0x00000000#32 reduces_S128x768_S768 (.inl rfl) rfl)
      shapeCasts_S768_S1x768)

/-- The gradient of `p`'s second half: `e` is the gradient at the normed rows, `z` the rows before the norm, `d` the
derivative of `gelu` there. -/
def dpv (e z d : FVec F S128x768 .f32) (lg : FVec F S1x768 .f32) : FVec F S128x768 .bf16 :=
  truncf .bf16 (mulf (mulf (cols (rs z)) (subf (subf (mulf e (rows lg)) (cols (mean (mulf e (rows lg)))))
    (mulf (vh z) (cols (mean (mulf (mulf e (rows lg)) (vh z))))))) d) bitsLt_bf16_f32

end Cert.Gmlp.Chunk
-- ==== Proof.ChunkValue.lean ====
module

public import proofs.«01_k».proof.Proof.Calc
public import proofs.«01_k».proof.Proof.Chunk
public import Idealize.ShloMosaic.Lib.Pointwise.Tactic
public import Idealize.ShloMosaic.Lib.WordCmp

/-!
One chunk's arrays over the reals: with the blocks of `p`, the cotangent and the parameters real numbers, each function
of `Chunk` holds the numbers that `Args` names, at the chunk's rows `128 n, …, 128 n + 127`.
-/

@[expose] public section

set_option maxRecDepth 16384

noncomputable section

namespace Cert.Gmlp.Chunk

open Cert.KernelIdeal Cert.KernelIdeal.Gen Idealize.ShloMosaic Idealize.ShloMosaic.TcCoe

/-! ## The operations at an index -/

theorem mean_is {x : FVec Ideal S128x768 .f32} {f : ℕ → ℕ → ℝ} (hx : Is x fun j => f (j 0).val (j 1).val) :
    Is (mean x) fun j => (∑ c : Fin 768, f (j 0).val c.val) / 768 := fun j => by
  have e : mean x j = Ideal.div (∑ c : Fin 768, x (ix2 (j 0) c)) (Ideal.ofBits .f32 0x44400000#32) := by
    unfold mean; pointwise
  rw [e, ofBits_768, Finset.sum_congr rfl fun c _ => hx (ix2 (j 0) c), coe_sum, div_coe_coe _ _ (by norm_num)]
  rfl

theorem cols_is {x : FVec Ideal S128x1 .f32} {f : ℕ → ℝ} (hx : Is x fun j => f (j 0).val) :
    Is (cols x) fun j => f (j 0).val := fun j => by
  have e : cols x j = x (ix2 (j 0) 0) := by unfold cols; pointwise
  rw [e, hx]; rfl

theorem rows_is {x : FVec Ideal S1x768 .f32} {f : ℕ → ℝ} (hx : Is x fun j => f (j 1).val) :
    Is (rows x) fun j => f (j 1).val := fun j => by
  have e : rows x j = x (ix2 0 (j 1)) := by unfold rows; pointwise
  rw [e, hx]; rfl

theorem head_is (o : Nat) (h : S128x768.Slices ![0, o] S128x128) {x : FVec Ideal S128x768 .f32} {f : ℕ → ℕ → ℝ}
    (hx : Is x fun j => f (j 0).val (j 1).val) : Is (head o h x) fun j => f (j 0).val (o + (j 1).val) := fun j => by
  have hb : o + (j 1).val < 768 := by
    have h1 : o + 128 ≤ 768 := h.2 1
    have h2 : (j 1).val < 128 := (j 1).isLt
    omega
  have e : head o h x j = x (ix2 (j 0) ⟨o + (j 1).val, hb⟩) := by unfold head; pointwise
  rw [e, hx]; rfl

theorem select_tril {a b : ℕ} (ha : a < 128) (hb : b < 128) (x y : EReal) :
    Scalar.select (IntOp.cmpi .sge (BitVec.ofNat 32 a) (BitVec.ofNat 32 b)) x y = if b ≤ a then x else y := by
  rw [WordCmp.cmpi_sge_ofNat (by omega) (by omega)]
  unfold Scalar.select
  by_cases h : b ≤ a <;> simp [h]

theorem low_is {x : FVec Ideal S128x128 .f32} {f : ℕ → ℕ → ℝ} (hx : Is x fun j => f (j 0).val (j 1).val) :
    Is (low x) fun j => if (j 1).val ≤ (j 0).val then f (j 0).val (j 1).val else 0 := fun j => by
  have e : low x j = Scalar.select (IntOp.cmpi .sge (BitVec.ofNat 32 (j 0).val) (BitVec.ofNat 32 (j 1).val)) (x j) 0 := by
    unfold low tril; pointwise
  rw [e, select_tril (j 0).isLt (j 1).isLt, hx j]
  show _ = (((if (j 1).val ≤ (j 0).val then f (j 0).val (j 1).val else 0 : ℝ)) : EReal)
  split <;> rfl

theorem flat_is {x : FVec Ideal S1x128x128 .f32} {f : ℕ → ℕ → ℝ} (hx : Is x fun j => f (j 1).val (j 2).val) :
    Is (shapeCast S128x128 x shapeCasts_S1x128x128_S128x128) fun j => f (j 0).val (j 1).val := fun j => by
  have e : shapeCast S128x128 x shapeCasts_S1x128x128_S128x128 j = x (ix3 0 (j 0) (j 1)) := by pointwise
  rw [e, hx]; rfl

/-- The three products of two 128 × 128 arrays, by the axes they contract. -/
theorem mul10_is {φ₁ φ₂ : FTy} {x : FVec Ideal S128x128 φ₁} {y : FVec Ideal S128x128 φ₂} {f g : ℕ → ℕ → ℝ}
    (hx : Is x fun j => f (j 0).val (j 1).val) (hy : Is y fun j => g (j 0).val (j 1).val) :
    Is (matmul dot_S128x128_S128x128_S128x128_1_0_0_1_n_n none x y (constant S128x128 .f32 0x00000000#32))
      fun j => ∑ k : Fin 128, f (j 0).val k.val * g k.val (j 1).val := fun j => by
  have e : matmul dot_S128x128_S128x128_S128x128_1_0_0_1_n_n none x y (constant S128x128 .f32 0x00000000#32) j
      = ∑ k : Fin 128, x (ix2 (j 0) k) * y (ix2 k (j 1)) := by pointwise
  rw [e, ← coe_sum]
  refine Finset.sum_congr rfl fun k _ => ?_
  rw [hx, hy, EReal.coe_mul]; rfl

theorem mul11_is {φ₁ φ₂ : FTy} {x : FVec Ideal S128x128 φ₁} {y : FVec Ideal S128x128 φ₂} {f g : ℕ → ℕ → ℝ}
    (hx : Is x fun j => f (j 0).val (j 1).val) (hy : Is y fun j => g (j 0).val (j 1).val) :
    Is (matmul dot_S128x128_S128x128_S128x128_1_1_0_0_n_n none x y (constant S128x128 .f32 0x00000000#32))
      fun j => ∑ k : Fin 128, f (j 0).val k.val * g (j 1).val k.val := fun j => by
  have e : matmul dot_S128x128_S128x128_S128x128_1_1_0_0_n_n none x y (constant S128x128 .f32 0x00000000#32) j
      = ∑ k : Fin 128, x (ix2 (j 0) k) * y (ix2 (j 1) k) := by pointwise
  rw [e, ← coe_sum]
  refine Finset.sum_congr rfl fun k _ => ?_
  rw [hx, hy, EReal.coe_mul]; rfl

theorem mul00_is {φ₁ φ₂ : FTy} {x : FVec Ideal S128x128 φ₁} {y : FVec Ideal S128x128 φ₂} {f g : ℕ → ℕ → ℝ}
    (hx : Is x fun j => f (j 0).val (j 1).val) (hy : Is y fun j => g (j 0).val (j 1).val) :
    Is (matmul dot_S128x128_S128x128_S128x128_0_0_1_1_n_n none x y (constant S128x128 .f32 0x00000000#32))
      fun j => ∑ k : Fin 128, f k.val (j 0).val * g k.val (j 1).val := fun j => by
  have e : matmul dot_S128x128_S128x128_S128x128_0_0_1_1_n_n none x y (constant S128x128 .f32 0x00000000#32) j
      = ∑ k : Fin 128, x (ix2 k (j 0)) * y (ix2 k (j 1)) := by pointwise
  rw [e, ← coe_sum]
  refine Finset.sum_congr rfl fun k _ => ?_
  rw [hx, hy, EReal.coe_mul]; rfl

/-! ## gelu and its derivative -/

theorem cdf_is {x : FVec Ideal S128x768 .f32} {f : S128x768.Idx → ℝ} (hx : Is x f) :
    Is (cdf x) fun j => Gmlp.cdf (f j) :=
  (Is.splat ofBits_half).mulf ((Is.splat ofBits_one).addf (hx.mulf (Is.splat named_inv_sqrt_2)).erf)

theorem gelu_is {x : FVec Ideal S128x768 .f32} {f : S128x768.Idx → ℝ} (hx : Is x f) :
    Is (gelu x) fun j => Gmlp.gelu (f j) := hx.mulf (cdf_is hx)

theorem dgelu_is {x : FVec Ideal S128x768 .f32} {f : S128x768.Idx → ℝ} (hx : Is x f) :
    Is (dgelu x) fun j => Gmlp.dgelu (f j) :=
  (cdf_is hx).addf ((hx.mulf (((Is.splat ofBits_neg_half).mulf hx).mulf hx).exp).mulf (Is.splat named_inv_sqrt_2pi))

/-! ## The layer norm -/

section Norm

variable (D : Args) (n : ℕ) {z : FVec Ideal S128x768 .f32} {lg lb : FVec Ideal S1x768 .f32}
  (hz : Is z fun j => D.zv (128 * n + (j 0).val) (j 1).val)
  (hlg : Is lg fun j => D.lg (j 1).val) (hlb : Is lb fun j => D.lb (j 1).val)

include hz

theorem cen_is : Is (cen z) fun j => D.cen (128 * n + (j 0).val) (j 1).val :=
  hz.subf (cols_is (f := fun r => D.mu (128 * n + r)) (mean_is (f := fun r c => D.zv (128 * n + r) c) hz))

theorem rs_is : Is (rs z) fun j => D.rs (128 * n + (j 0).val) :=
  ((mean_is (f := fun r c => D.cen (128 * n + r) c * D.cen (128 * n + r) c)
    ((cen_is D n hz).mulf (cen_is D n hz))).addf (Is.splat ofBits_eps)).rsqrt fun j => D.var_eps_pos _

theorem vh_is : Is (vh z) fun j => D.vh (128 * n + (j 0).val) (j 1).val :=
  (cen_is D n hz).mulf (cols_is (f := fun r => D.rs (128 * n + r)) (rs_is D n hz))

include hlg hlb in
theorem vn_is : Is (vn z lg lb) fun j => D.vn (128 * n + (j 0).val) (j 1).val :=
  ((vh_is D n hz).mulf (rows_is hlg)).addf (rows_is hlb)

include hlg in
/-- The gradient of `p`'s second half. -/
theorem dpv_is {e d : FVec Ideal S128x768 .f32}
    (he : Is e fun j => D.dvn (128 * n + (j 0).val) (j 1).val)
    (hd : Is d fun j => Gmlp.dgelu (D.p (128 * n + (j 0).val) (768 + (j 1).val))) :
    Is (dpv e z d lg) fun j => D.dpv (128 * n + (j 0).val) (j 1).val := by
  have h1 : Is (mulf e (rows lg)) fun j => D.dvh (128 * n + (j 0).val) (j 1).val := he.mulf (rows_is hlg)
  have h2 := vh_is D n hz
  exact ((((cols_is (f := fun r => D.rs (128 * n + r)) (rs_is D n hz)).mulf
    ((h1.subf (cols_is (f := fun r => D.mdvh (128 * n + r)) (mean_is (f := fun r c => D.dvh (128 * n + r) c) h1))).subf
      (h2.mulf (cols_is (f := fun r => D.mdvhv (128 * n + r))
        (mean_is (f := fun r c => D.dvh (128 * n + r) c * D.vh (128 * n + r) c) (h1.mulf h2)))))).mulf hd)).truncf _

end Norm

/-! ## One head -/

section Head

variable (D : Args) (n g o : ℕ) (h : S128x768.Slices ![0, o] S128x128) (ho : o = 128 * g)
  {t z v d : FVec Ideal S128x768 .f32} {w b : FVec Ideal S1x128x128 .f32}
  (ht : Is t fun j => D.t (128 * n + (j 0).val) (j 1).val)
  (hz : Is z fun j => D.zu (128 * n + (j 0).val) (j 1).val)
  (hv : Is v fun j => D.vn (128 * n + (j 0).val) (j 1).val)
  (hd : Is d fun j => Gmlp.dgelu (D.p (128 * n + (j 0).val) (j 1).val))
  (hw : Is w fun j => D.w g (j 1).val (j 2).val)
  (hb : Is b fun j => D.b g (j 1).val)

include hw in
theorem wm_is : Is (wm w) fun j => D.wm g (j 0).val (j 1).val :=
  ((low_is (f := fun r c => D.w g r c) (flat_is (f := fun r c => D.w g r c) hw)).truncf _)

include hv ho in
theorem vnx_is : Is (vnx o h v) fun j => D.vn (128 * n + (j 0).val) (128 * g + (j 1).val) := by
  subst ho
  exact (head_is _ h (f := fun r c => D.vn (128 * n + r) c) hv).truncf _

include hv hw hb ho in
theorem sv_is : Is (sv o h v w b) fun j => D.sv (128 * n + (j 0).val) (128 * g + (j 1).val) :=
  ((mul10_is (f := fun r c => D.wm g r c) (g := fun r c => D.vn (128 * n + r) (128 * g + c)) (wm_is D g hw)
    (vnx_is D n g o h ho hv)).addf (flat_is (f := fun r _ => D.b g r) hb)).congr fun j => by
    have h0 : (j 0).val < 128 := (j 0).isLt
    have h1 : (j 1).val < 128 := (j 1).isLt
    have e1 : (128 * g + (j 1).val) / 128 = g := by omega
    have e2 : (128 * n + (j 0).val) / 128 = n := by omega
    have e3 : (128 * n + (j 0).val) % 128 = (j 0).val := by omega
    simp only [Args.sv, e1, e2, e3]

include ht hz ho in
theorem dsv_is : Is (dsv o h t z) fun j => D.dsv (128 * n + (j 0).val) (128 * g + (j 1).val) := by
  subst ho
  exact (head_is _ h (f := fun r c => D.t (128 * n + r) c) ht).mulf
    (head_is _ h (f := fun r c => D.zu (128 * n + r) c) hz)

include ht hd hv hw hb ho in
theorem dpu_is : Is (dpu o h t d v w b) fun j => D.dpu (128 * n + (j 0).val) (128 * g + (j 1).val) := by
  have h1 := sv_is D n g o h ho hv hw hb
  subst ho
  exact (((head_is _ h (f := fun r c => D.t (128 * n + r) c) ht).mulf h1).mulf
    (head_is _ h (f := fun r c => Gmlp.dgelu (D.p (128 * n + r) c)) hd)).truncf _

include ht hz hv ho in
theorem dw_is {a : FVec Ideal S1x128x128 .f32} {f : ℕ → ℕ → ℝ} (ha : Is a fun j => f (j 1).val (j 2).val) :
    Is (dw o h t z v a) fun j => f (j 1).val (j 2).val + D.dwc n g (j 1).val (j 2).val := fun j => by
  have h1 := low_is (f := fun t s => ∑ c : Fin 128, D.dsv (128 * n + t) (128 * g + c.val) * D.vn (128 * n + s) (128 * g + c.val))
    (mul11_is (f := fun t c => D.dsv (128 * n + t) (128 * g + c)) (g := fun s c => D.vn (128 * n + s) (128 * g + c))
      ((dsv_is D n g o h ho ht hz).truncf bitsLt_bf16_f32) (vnx_is D n g o h ho hv))
  have e : dw o h t z v a j = a j + low (matmul dot_S128x128_S128x128_S128x128_1_1_0_0_n_n none (dsx o h t z) (vnx o h v)
      (constant S128x128 .f32 0x00000000#32)) (ix2 (j 1) (j 2)) := by unfold dw; pointwise
  rw [e, ha j]
  refine (congrArg _ (h1 (ix2 (j 1) (j 2)))).trans ?_
  rw [← EReal.coe_add]; rfl

include ht hz ho in
theorem db_is {a : FVec Ideal S1x128x1 .f32} {f : ℕ → ℝ} (ha : Is a fun j => f (j 1).val) :
    Is (db o h t z a) fun j => f (j 1).val + D.dbc n g (j 1).val := fun j => by
  have h1 := dsv_is D n g o h ho ht hz
  have e : db o h t z a j = a j + ∑ c : Fin 128, dsv o h t z (ix2 (j 1) c) := by unfold db; pointwise
  rw [e, ha j, Finset.sum_congr rfl fun c _ => h1 (ix2 (j 1) c), coe_sum, ← EReal.coe_add]; rfl

include ht hz hw ho in
theorem dvnx_is : Is (dvnx o h t z w) fun j => D.dvn (128 * n + (j 0).val) (128 * g + (j 1).val) :=
  (mul00_is (f := fun r c => D.wm g r c) (g := fun r c => D.dsv (128 * n + r) (128 * g + c)) (wm_is D g hw)
    ((dsv_is D n g o h ho ht hz).truncf bitsLt_bf16_f32)).congr fun j => by
    have h0 : (j 0).val < 128 := (j 0).isLt
    have h1 : (j 1).val < 128 := (j 1).isLt
    have e1 : (128 * g + (j 1).val) / 128 = g := by omega
    have e2 : (128 * n + (j 0).val) / 128 = n := by omega
    have e3 : (128 * n + (j 0).val) % 128 = (j 0).val := by omega
    simp only [Args.dvn, e1, e2, e3]

end Head

/-- The gradient at the normed rows, all heads. -/
theorem dvn_is (D : Args) (n : ℕ) {t z : FVec Ideal S128x768 .f32} {w0 w1 w2 w3 w4 w5 : FVec Ideal S1x128x128 .f32}
    (ht : Is t fun j => D.t (128 * n + (j 0).val) (j 1).val)
    (hz : Is z fun j => D.zu (128 * n + (j 0).val) (j 1).val)
    (h0 : Is w0 fun j => D.w 0 (j 1).val (j 2).val) (h1 : Is w1 fun j => D.w 1 (j 1).val (j 2).val)
    (h2 : Is w2 fun j => D.w 2 (j 1).val (j 2).val) (h3 : Is w3 fun j => D.w 3 (j 1).val (j 2).val)
    (h4 : Is w4 fun j => D.w 4 (j 1).val (j 2).val) (h5 : Is w5 fun j => D.w 5 (j 1).val (j 2).val) :
    Is (dvn t z w0 w1 w2 w3 w4 w5) fun j => D.dvn (128 * n + (j 0).val) (j 1).val := fun j => by
  have hj : (j 1).val < 768 := (j 1).isLt
  unfold dvn
  pointwise
  have key : ∀ (g k : ℕ) (_ : 128 * g + k = (j 1).val) (o : ℕ) (h : S128x768.Slices ![0, o] S128x128) (ho : o = 128 * g)
      (w : FVec Ideal S1x128x128 .f32) (hw : Is w fun j => D.w g (j 1).val (j 2).val) (hk : k < 128),
      dvnx o h t z w (ix2 (j 0) ⟨k, hk⟩) = ((D.dvn (128 * n + (j 0).val) (j 1).val : ℝ) : EReal) := by
    intro g k e o h ho w hw hk
    rw [dvnx_is D n g o h ho ht hz hw, ← e]; rfl
  split
  · exact key 0 _ (by omega) _ _ rfl _ h0 _
  split
  · exact key 1 _ (by omega) _ _ rfl _ h1 _
  split
  · exact key 2 _ (by omega) _ _ rfl _ h2 _
  split
  · exact key 3 _ (by omega) _ _ rfl _ h3 _
  split
  · exact key 4 _ (by omega) _ _ rfl _ h4 _
  · exact key 5 _ (by omega) _ _ rfl _ h5 _

/-- Column sums added to the ones before. -/
theorem sumTo_is {x : FVec Ideal S128x768 .f32} {a : FVec Ideal S1x768 .f32} {f : ℕ → ℕ → ℝ} {q : ℕ → ℝ}
    (hx : Is x fun j => f (j 0).val (j 1).val) (ha : Is a fun j => q (j 1).val) :
    Is (sumTo x a) fun j => q (j 1).val + ∑ s : Fin 128, f s.val (j 1).val := fun j => by
  have e : sumTo x a j = a j + ∑ s : Fin 128, x (ix2 s (j 1)) := by unfold sumTo; pointwise
  rw [e, ha j, Finset.sum_congr rfl fun s _ => hx (ix2 s (j 1)), coe_sum, ← EReal.coe_add]; rfl

end Cert.Gmlp.Chunk
-- ==== Proof.Blocks.lean ====
module

public import proofs.«01_k».proof.Proof.Gen.KernelIdeal.Value
public import proofs.«01_k».proof.Proof.ChunkValue
public import Idealize.ShloMosaic.Lib.Pipeline.ValueKit

/-!
The blocks that a grid point reads, as real numbers: point `t` has the rows `256 t, …, 256 t + 255` of `p` and of the
cotangent, in two chunks of 128, and the whole of every parameter.
-/

@[expose] public section

set_option maxRecDepth 16384

noncomputable section

namespace Cert.Gmlp

open Cert.KernelIdeal Cert.KernelIdeal.Gen Cert.KernelIdeal.Value Idealize.ShloMosaic Idealize.ShloMosaic.TcCoe
open Idealize.SL.Sem

/-- The six arguments hold the real numbers `D`, wherever the gradient reads them. -/
structure Num (D : Args) (x0 : S4096x1792.Idx → EReal) (x1 x2 : S1x768.Idx → EReal) (x3 : S6x128x128.Idx → EReal)
    (x4 : S6x128.Idx → EReal) (x5 : S4096x1024.Idx → EReal) : Prop where
  p : ∀ j, (j 1).val < 1536 → x0 j = ((D.p (j 0).val (j 1).val : ℝ) : EReal)
  lg : ∀ j, x1 j = ((D.lg (j 1).val : ℝ) : EReal)
  lb : ∀ j, x2 j = ((D.lb (j 1).val : ℝ) : EReal)
  w : ∀ j, x3 j = ((D.w (j 0).val (j 1).val (j 2).val : ℝ) : EReal)
  b : ∀ j, x4 j = ((D.b (j 0).val (j 1).val : ℝ) : EReal)
  t : ∀ j, (j 1).val < 768 → x5 j = ((D.t (j 0).val (j 1).val : ℝ) : EReal)

section Blocks

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![t.val, 0] := (by decide +kernel : ∀ t : Fin grid0.N, _)

/-- The host's broadcast of the offsets over the chunk's columns. -/
theorem bsb_apply (j : S6x128x128.Idx) : (V m c main_v1 : S6x128x128.Idx → EReal) j
    = (m ((c : Thread nD τ).loc main_arg4) : S6x128.Idx → EReal) (ix2 (j 0) (j 1)) := by
  entry_read
  pointwise

/-- Window 0's block at a point is a block of rows of its array. -/
theorem block0 (t : Fin cfg0.N) (j : S256x768.Idx) : ∃ k : S4096x1792.Idx,
    X0_0 m c t j = (m ((c : Thread nD τ).loc main_arg0) : S4096x1792.Idx → EReal) k
      ∧ (k 0).val = 256 * t.val + (j 0).val ∧ (k 1).val = (j 1).val := by
  have e := index0 t
  unfold X0_0 Pipeline.Window.fill
  rw [dif_pos (moved0_0 t j), ← V_main_arg0 m c]
  unfold iblk
  blk_simp
  refine ⟨_, rfl, ?_, ?_⟩
  · blk_simp [e]; exact congrArg (· + _) (Nat.mul_comm _ _)
  · blk_simp [e]

/-- Window 1's block at a point is a block of rows of its array. -/
theorem block1 (t : Fin cfg0.N) (j : S256x768.Idx) : ∃ k : S4096x1792.Idx,
    X0_1 m c t j = (m ((c : Thread nD τ).loc main_arg0) : S4096x1792.Idx → EReal) k
      ∧ (k 0).val = 256 * t.val + (j 0).val ∧ (k 1).val = 768 + (j 1).val := by
  have e := index1 t
  unfold X0_1 Pipeline.Window.fill
  rw [dif_pos (moved0_1 t j), ← V_main_arg0 m c]
  unfold iblk
  blk_simp
  refine ⟨_, rfl, ?_, ?_⟩
  · blk_simp [e]; exact congrArg (· + _) (Nat.mul_comm _ _)
  · blk_simp [e]

/-- Window 6's block at a point is a block of rows of its array. -/
theorem block6 (t : Fin cfg0.N) (j : S256x768.Idx) : ∃ k : S4096x1024.Idx,
    X0_6 m c t j = (m ((c : Thread nD τ).loc main_arg5) : S4096x1024.Idx → EReal) k
      ∧ (k 0).val = 256 * t.val + (j 0).val ∧ (k 1).val = (j 1).val := by
  have e := index6 t
  unfold X0_6 Pipeline.Window.fill
  rw [dif_pos (moved0_6 t j), ← V_main_arg5 m c]
  unfold iblk
  blk_simp
  refine ⟨_, rfl, ?_, ?_⟩
  · blk_simp [e]; exact congrArg (· + _) (Nat.mul_comm _ _)
  · blk_simp [e]

/-- Window 2's block is its whole array. -/
theorem block2 (t : Fin cfg0.N) (j : S1x768.Idx) : iblk m c 2 t j = (V m c main_arg1 : S1x768.Idx → EReal) j := by
  have e := index2 t
  unfold iblk
  blk_simp
  refine congrArg _ (funext fun a => Fin.ext ?_)
  match a with
  | ⟨0, _⟩ => blk_simp [e]
  | ⟨1, _⟩ => blk_simp [e]

/-- Window 3's block is its whole array. -/
theorem block3 (t : Fin cfg0.N) (j : S1x768.Idx) : iblk m c 3 t j = (V m c main_arg2 : S1x768.Idx → EReal) j := by
  have e := index3 t
  unfold iblk
  blk_simp
  refine congrArg _ (funext fun a => Fin.ext ?_)
  match a with
  | ⟨0, _⟩ => blk_simp [e]
  | ⟨1, _⟩ => blk_simp [e]

/-- Window 4's block is its whole array. -/
theorem block4 (t : Fin cfg0.N) (j : S6x128x128.Idx) : iblk m c 4 t j = (V m c main_arg3 : S6x128x128.Idx → EReal) j := by
  have e := index4 t
  unfold iblk
  blk_simp
  refine congrArg _ (funext fun a => Fin.ext ?_)
  match a with
  | ⟨0, _⟩ => blk_simp [e]
  | ⟨1, _⟩ => blk_simp [e]
  | ⟨2, _⟩ => blk_simp [e]

/-- Window 5's block is its whole array. -/
theorem block5 (t : Fin cfg0.N) (j : S6x128x128.Idx) : iblk m c 5 t j = (V m c main_v1 : S6x128x128.Idx → EReal) j := by
  have e := index5 t
  unfold iblk
  blk_simp
  refine congrArg _ (funext fun a => Fin.ext ?_)
  match a with
  | ⟨0, _⟩ => blk_simp [e]
  | ⟨1, _⟩ => blk_simp [e]
  | ⟨2, _⟩ => blk_simp [e]

variable {D : Args} (N : Num D (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))) (t : Fin cfg0.N)

include N

theorem u_is : Is (S := S256x768) (X0_0 m c t) fun j => D.p (256 * t.val + (j 0).val) (j 1).val := fun j => by
  obtain ⟨k, h, h0, h1⟩ := block0 m c t j
  have hj : (j 1).val < 768 := (j 1).isLt
  rw [h, N.p k (by omega), h0, h1]

theorem v_is : Is (S := S256x768) (X0_1 m c t) fun j => D.p (256 * t.val + (j 0).val) (768 + (j 1).val) := fun j => by
  obtain ⟨k, h, h0, h1⟩ := block1 m c t j
  have hj : (j 1).val < 768 := (j 1).isLt
  rw [h, N.p k (by omega), h0, h1]

theorem t_is : Is (S := S256x768) (X0_6 m c t) fun j => D.t (256 * t.val + (j 0).val) (j 1).val := fun j => by
  obtain ⟨k, h, h0, h1⟩ := block6 m c t j
  have hj : (j 1).val < 768 := (j 1).isLt
  rw [h, N.t k (by omega), h0, h1]

theorem lg_is : Is (S := S1x768) (iblk m c 2 t) fun j => D.lg (j 1).val := fun j => by
  rw [block2, V_main_arg1, N.lg]

theorem lb_is : Is (S := S1x768) (iblk m c 3 t) fun j => D.lb (j 1).val := fun j => by
  rw [block3, V_main_arg2, N.lb]

theorem w_is : Is (S := S6x128x128) (iblk m c 4 t) fun j => D.w (j 0).val (j 1).val (j 2).val := fun j => by
  rw [block4, V_main_arg3, N.w]

theorem b_is : Is (S := S6x128x128) (iblk m c 5 t) fun j => D.b (j 0).val (j 1).val := fun j => by
  rw [block5, bsb_apply, N.b]; rfl

end Blocks

end Cert.Gmlp
-- ==== Proof.Pieces.lean ====
module

public import proofs.«01_k».proof.Proof.Calc
public import Idealize.ShloMosaic.Lib.Pipeline.ValueKit

/-!
What an array holds that is written head by head, or by rows and columns, entry by entry: each written piece holds the
entries of its place.
-/

@[expose] public section

set_option maxRecDepth 16384

noncomputable section

namespace Cert.Gmlp

open Idealize.ShloMosaic Idealize.SL Idealize.SL.Sem

/-- Six heads of 128 rows of `n`, and one head of them. -/
abbrev Heads (n : ℕ) : Shape := ⟨3, ![6, 128, n]⟩
abbrev OneHead (n : ℕ) : Shape := ⟨3, ![1, 128, n]⟩

variable {e : EltTy} {Val : EltTy → Type} [∀ e, Nonempty (Val e)]

theorem idx_head {n : ℕ} (g : ℕ) (inb : ∀ a, (![g, 0, 0] : Fin 3 → ℕ) a + (![1, 128, n] : Fin 3 → ℕ) a ≤ (Heads n).size a)
    (x : (OneHead n).Idx) : ((Rect.unit ![g, 0, 0] ![1, 128, n] inb : Rect (Heads n)).idx x 0).val = g
      ∧ ((Rect.unit ![g, 0, 0] ![1, 128, n] inb : Rect (Heads n)).idx x 1).val = (x 1).val
      ∧ ((Rect.unit ![g, 0, 0] ![1, 128, n] inb : Rect (Heads n)).idx x 2).val = (x 2).val := by
  have hx : (x 0).val < 1 := (x 0).isLt
  refine ⟨?_, ?_, ?_⟩ <;> rw [Rect.idx_unit_val]
  · show g + (x 0).val = g; omega
  · show 0 + (x 1).val = _; omega
  · show 0 + (x 2).val = _; omega

/-- The newest piece is head `g`: it settles the indices of that head. -/
theorem canon_head {n : ℕ} {f : ℕ → ℕ → ℕ → Val e} (g : ℕ) (inb : ∀ a, (![g, 0, 0] : Fin 3 → ℕ) a + (![1, 128, n] : Fin 3 → ℕ) a ≤ (Heads n).size a)
    {P : (OneHead n).Idx → Val e} (hP : ∀ j, P j = f g (j 1).val (j 2).val)
    (L : List (View.Piece Val (Heads n) e)) (y : (Heads n).Idx)
    (hL : (y 0).val ≠ g → View.canon L y = f (y 0).val (y 1).val (y 2).val) :
    View.canon ((⟨Rect.unit ![g, 0, 0] ![1, 128, n] inb, P⟩ : View.Piece Val (Heads n) e) :: L) y
      = f (y 0).val (y 1).val (y 2).val := by
  by_cases hm : y ∈ (Rect.unit ![g, 0, 0] ![1, 128, n] inb : Rect (Heads n)).set
  · obtain ⟨x, hx⟩ := (Rect.unit ![g, 0, 0] ![1, 128, n] inb : Rect (Heads n)).exists_idx_of_mem hm
    obtain ⟨e0, e1, e2⟩ := idx_head g inb x
    have h := View.canon_cons_emb (Val := Val) (Rect.unit ![g, 0, 0] ![1, 128, n] inb : Rect (Heads n)) P L x
    rw [hx] at e0 e1 e2
    rw [show (Rect.unit ![g, 0, 0] ![1, 128, n] inb : Rect (Heads n)).emb x = y from hx] at h
    rw [h, e0, e1, e2]
    exact hP x
  · rw [View.canon_cons_of_not_mem (⟨Rect.unit ![g, 0, 0] ![1, 128, n] inb, P⟩ : View.Piece Val (Heads n) e) L hm]
    rw [Rect.mem_set_unit] at hm
    refine hL fun h0 => hm fun a => ?_
    have h1 : (y 1).val < 128 := (y 1).isLt
    have h2 : (y 2).val < n := (y 2).isLt
    match a with
    | ⟨0, _⟩ => show g ≤ (y 0).val ∧ (y 0).val < g + 1; omega
    | ⟨1, _⟩ => show 0 ≤ (y 1).val ∧ (y 1).val < 0 + 128; omega
    | ⟨2, _⟩ => show 0 ≤ (y 2).val ∧ (y 2).val < 0 + n; omega

/-- All six heads written newest, last head first: nothing older is seen. -/
theorem heads_is {n : ℕ} {f : ℕ → ℕ → ℕ → Val e} (i5 i4 i3 i2 i1 i0) {P5 P4 P3 P2 P1 P0 : (OneHead n).Idx → Val e}
    (L : List (View.Piece Val (Heads n) e))
    (h5 : ∀ j, P5 j = f 5 (j 1).val (j 2).val) (h4 : ∀ j, P4 j = f 4 (j 1).val (j 2).val)
    (h3 : ∀ j, P3 j = f 3 (j 1).val (j 2).val) (h2 : ∀ j, P2 j = f 2 (j 1).val (j 2).val)
    (h1 : ∀ j, P1 j = f 1 (j 1).val (j 2).val) (h0 : ∀ j, P0 j = f 0 (j 1).val (j 2).val) (y : (Heads n).Idx) :
    View.canon ((⟨Rect.unit ![5, 0, 0] ![1, 128, n] i5, P5⟩ : View.Piece Val (Heads n) e)
        :: ⟨Rect.unit ![4, 0, 0] ![1, 128, n] i4, P4⟩ :: ⟨Rect.unit ![3, 0, 0] ![1, 128, n] i3, P3⟩
        :: ⟨Rect.unit ![2, 0, 0] ![1, 128, n] i2, P2⟩ :: ⟨Rect.unit ![1, 0, 0] ![1, 128, n] i1, P1⟩
        :: ⟨Rect.unit ![0, 0, 0] ![1, 128, n] i0, P0⟩ :: L) y
      = f (y 0).val (y 1).val (y 2).val :=
  canon_head 5 i5 h5 _ y fun n5 => canon_head 4 i4 h4 _ y fun n4 => canon_head 3 i3 h3 _ y fun n3 =>
    canon_head 2 i2 h2 _ y fun n2 => canon_head 1 i1 h1 _ y fun n1 => canon_head 0 i0 h0 _ y fun n0 => by
      have hy : (y 0).val < 6 := (y 0).isLt
      omega

/-- One head read out of six. -/
theorem ld_head_is {n : ℕ} {X : (Heads n).Idx → Val e} {f : ℕ → ℕ → ℕ → Val e} (hX : ∀ j, X j = f (j 0).val (j 1).val (j 2).val)
    (g : ℕ) (inb : ∀ a, (![g, 0, 0] : Fin 3 → ℕ) a + (![1, 128, n] : Fin 3 → ℕ) a ≤ (Heads n).size a) :
    ∀ x : (OneHead n).Idx, View.ld (Val := Val) (e' := e) X (Rect.unit ![g, 0, 0] ![1, 128, n] inb) x
      = f g (x 1).val (x 2).val := fun x => by
  obtain ⟨e0, e1, e2⟩ := idx_head g inb x
  refine (hX _).trans ?_
  rw [e0, e1, e2]

section Band

variable {R C r c : ℕ} (o q : ℕ)
  (inb : ∀ a, (![o, q] : Fin 2 → ℕ) a + (![r, c] : Fin 2 → ℕ) a ≤ (⟨2, ![R, C]⟩ : Shape).size a)

theorem idx_band (x : (⟨2, ![r, c]⟩ : Shape).Idx) :
    ((Rect.unit ![o, q] ![r, c] inb : Rect (⟨2, ![R, C]⟩ : Shape)).idx x 0).val = o + (x 0).val
      ∧ ((Rect.unit ![o, q] ![r, c] inb : Rect (⟨2, ![R, C]⟩ : Shape)).idx x 1).val = q + (x 1).val := by
  refine ⟨?_, ?_⟩ <;> rw [Rect.idx_unit_val] <;> rfl

/-- A band of rows and columns read out of a table. -/
theorem ld_band_is {X : (⟨2, ![R, C]⟩ : Shape).Idx → Val e} {f : ℕ → ℕ → Val e}
    (hX : ∀ j, X j = f (j 0).val (j 1).val) (x : (⟨2, ![r, c]⟩ : Shape).Idx) :
    View.ld (Val := Val) (e' := e) X (Rect.unit ![o, q] ![r, c] inb) x = f (o + (x 0).val) (q + (x 1).val) := by
  obtain ⟨e0, e1⟩ := idx_band o q inb x
  refine (hX _).trans ?_
  rw [e0, e1]

/-- The newest piece is a band of a table: it settles the indices of that band. -/
theorem canon_band {f : ℕ → ℕ → Val e} {P : (⟨2, ![r, c]⟩ : Shape).Idx → Val e}
    (hP : ∀ j, P j = f (o + (j 0).val) (q + (j 1).val)) (L : List (View.Piece Val (⟨2, ![R, C]⟩ : Shape) e))
    (y : (⟨2, ![R, C]⟩ : Shape).Idx)
    (hL : ¬ ((o ≤ (y 0).val ∧ (y 0).val < o + r) ∧ q ≤ (y 1).val ∧ (y 1).val < q + c)
      → View.canon L y = f (y 0).val (y 1).val) :
    View.canon ((⟨Rect.unit ![o, q] ![r, c] inb, P⟩ : View.Piece Val (⟨2, ![R, C]⟩ : Shape) e) :: L) y
      = f (y 0).val (y 1).val := by
  by_cases hm : y ∈ (Rect.unit ![o, q] ![r, c] inb : Rect (⟨2, ![R, C]⟩ : Shape)).set
  · obtain ⟨x, hx⟩ := (Rect.unit ![o, q] ![r, c] inb : Rect (⟨2, ![R, C]⟩ : Shape)).exists_idx_of_mem hm
    obtain ⟨e0, e1⟩ := idx_band o q inb x
    have h := View.canon_cons_emb (Val := Val) (Rect.unit ![o, q] ![r, c] inb : Rect (⟨2, ![R, C]⟩ : Shape)) P L x
    rw [hx] at e0 e1
    rw [show (Rect.unit ![o, q] ![r, c] inb : Rect (⟨2, ![R, C]⟩ : Shape)).emb x = y from hx] at h
    rw [h, e0, e1]
    exact hP x
  · rw [View.canon_cons_of_not_mem (⟨Rect.unit ![o, q] ![r, c] inb, P⟩ : View.Piece Val (⟨2, ![R, C]⟩ : Shape) e) L hm]
    rw [Rect.mem_set_unit] at hm
    refine hL fun h0 => hm fun a => ?_
    match a with
    | ⟨0, _⟩ => exact h0.1
    | ⟨1, _⟩ => exact h0.2

end Band

end Cert.Gmlp
-- ==== Proof.Block.lean ====
module

public import proofs.«01_k».proof.Proof.Blocks
public import proofs.«01_k».proof.Proof.Pieces
public import Idealize.ShloMosaic.Lib.Pipeline.ReadBack

/-!
What a grid point leaves in its output blocks, as real numbers: the gradient of its rows of `p`, and its two chunks'
parts of the summed gradients added to what the point before left (at the first point, to zero).
-/

@[expose] public section

set_option maxRecDepth 16384

noncomputable section

namespace Cert.Gmlp

open Cert.KernelIdeal Cert.KernelIdeal.Gen Cert.KernelIdeal.Value Idealize.ShloMosaic Idealize.ShloMosaic.TcCoe
open Idealize.SL Idealize.SL.Sem

section Block

variable (m : (ℓ : Loc nD τ sig) → Buf (Elt Ideal) ℓ) (c : Dev nD) (t : Fin cfg0.N)

/-- The 128 rows of a point's blocks that begin at row `o`, and head `g` of the mixing parameters. -/
abbrev FitsRows (o : ℕ) : Prop := ∀ a, (![o, 0] : Fin 2 → ℕ) a + (![128, 768] : Fin 2 → ℕ) a ≤ S256x768.size a
abbrev FitsHead (g n : ℕ) : Prop := ∀ a, (![g, 0, 0] : Fin 3 → ℕ) a + (![1, 128, n] : Fin 3 → ℕ) a ≤ (Heads n).size a

def uB (o : ℕ) (h : FitsRows o) : FVec Ideal S128x768 .f32 := View.ld (X0_0 m c t) (Rect.unit ![o, 0] ![128, 768] h)
def vB (o : ℕ) (h : FitsRows o) : FVec Ideal S128x768 .f32 := View.ld (X0_1 m c t) (Rect.unit ![o, 0] ![128, 768] h)
def tB (o : ℕ) (h : FitsRows o) : FVec Ideal S128x768 .f32 := View.ld (X0_6 m c t) (Rect.unit ![o, 0] ![128, 768] h)
def wB (g : ℕ) (h : FitsHead g 128) : FVec Ideal S1x128x128 .f32 := View.ld (iblk m c 4 t) (Rect.unit ![g, 0, 0] ![1, 128, 128] h)
def bB (g : ℕ) (h : FitsHead g 128) : FVec Ideal S1x128x128 .f32 := View.ld (iblk m c 5 t) (Rect.unit ![g, 0, 0] ![1, 128, 128] h)

/-- The gate's operands at those rows, and the normed rows. -/
def zuB (o : ℕ) (h : FitsRows o) : FVec Ideal S128x768 .f32 := Chunk.gelu (uB m c t o h)
def zvB (o : ℕ) (h : FitsRows o) : FVec Ideal S128x768 .f32 := Chunk.gelu (vB m c t o h)
def vnB (o : ℕ) (h : FitsRows o) : FVec Ideal S128x768 .f32 := Chunk.vn (zvB m c t o h) (iblk m c 2 t) (iblk m c 3 t)

/-- The gradient at the normed rows. -/
def dvnB (o : ℕ) (h : FitsRows o) (i0 : FitsHead 0 128) (i1 : FitsHead 1 128) (i2 : FitsHead 2 128) (i3 : FitsHead 3 128)
    (i4 : FitsHead 4 128) (i5 : FitsHead 5 128) : FVec Ideal S128x768 .f32 :=
  Chunk.dvn (tB m c t o h) (zuB m c t o h) (wB m c t 0 i0) (wB m c t 1 i1) (wB m c t 2 i2) (wB m c t 3 i3)
    (wB m c t 4 i4) (wB m c t 5 i5)

variable {D : Args} (N : Num D (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)))
include N

section Chunk

variable (n o : ℕ) (h : FitsRows o) (hn : 256 * t.val + o = 128 * n)
include hn

theorem uB_is : Is (uB m c t o h) fun j => D.p (128 * n + (j 0).val) (j 1).val := fun j => by
  refine (ld_band_is (Val := Elt Ideal) (e := .f32) (f := fun r k => ((D.p (256 * t.val + r) k : ℝ) : EReal)) o 0 h (u_is m c N t) j).trans ?_
  dsimp only
  rw [← Nat.add_assoc, hn, Nat.zero_add]

theorem vB_is : Is (vB m c t o h) fun j => D.p (128 * n + (j 0).val) (768 + (j 1).val) := fun j => by
  refine (ld_band_is (Val := Elt Ideal) (e := .f32) (f := fun r k => ((D.p (256 * t.val + r) (768 + k) : ℝ) : EReal)) o 0 h (v_is m c N t) j).trans ?_
  dsimp only
  rw [← Nat.add_assoc, hn, Nat.zero_add]

theorem tB_is : Is (tB m c t o h) fun j => D.t (128 * n + (j 0).val) (j 1).val := fun j => by
  refine (ld_band_is (Val := Elt Ideal) (e := .f32) (f := fun r k => ((D.t (256 * t.val + r) k : ℝ) : EReal)) o 0 h (t_is m c N t) j).trans ?_
  dsimp only
  rw [← Nat.add_assoc, hn, Nat.zero_add]

theorem zuB_is : Is (zuB m c t o h) fun j => D.zu (128 * n + (j 0).val) (j 1).val := Chunk.gelu_is (uB_is m c t N n o h hn)

theorem zvB_is : Is (zvB m c t o h) fun j => D.zv (128 * n + (j 0).val) (j 1).val := Chunk.gelu_is (vB_is m c t N n o h hn)

theorem vnB_is : Is (vnB m c t o h) fun j => D.vn (128 * n + (j 0).val) (j 1).val :=
  Chunk.vn_is D n (zvB_is m c t N n o h hn) (lg_is m c N t) (lb_is m c N t)

omit hn in
theorem wB_is (g : ℕ) (hg : FitsHead g 128) : Is (wB m c t g hg) fun j => D.w g (j 1).val (j 2).val :=
  ld_head_is (Val := Elt Ideal) (e := .f32) (f := fun g r s => ((D.w g r s : ℝ) : EReal)) (w_is m c N t) g hg

omit hn in
theorem bB_is (g : ℕ) (hg : FitsHead g 128) : Is (bB m c t g hg) fun j => D.b g (j 1).val :=
  ld_head_is (Val := Elt Ideal) (e := .f32) (f := fun g r _ => ((D.b g r : ℝ) : EReal)) (b_is m c N t) g hg

theorem dvnB_is (i0 i1 i2 i3 i4 i5) :
    Is (dvnB m c t o h i0 i1 i2 i3 i4 i5) fun j => D.dvn (128 * n + (j 0).val) (j 1).val :=
  Chunk.dvn_is D n (tB_is m c t N n o h hn) (zuB_is m c t N n o h hn) (wB_is m c t N 0 i0) (wB_is m c t N 1 i1)
    (wB_is m c t N 2 i2) (wB_is m c t N 3 i3) (wB_is m c t N 4 i4) (wB_is m c t N 5 i5)

end Chunk

/-! ## The two chunks of a point, one after the other -/

section Two

variable (h0 : FitsRows 0) (h1 : FitsRows 128)

omit N in
theorem first : 256 * t.val + 0 = 128 * (2 * t.val) := by omega
omit N in
theorem second : 256 * t.val + 128 = 128 * (2 * t.val + 1) := by omega

theorem dw_two (g o : ℕ) (ho : o = 128 * g) (hs : S128x768.Slices ![0, o] S128x128) {a : FVec Ideal S1x128x128 .f32}
    {f : ℕ → ℕ → ℝ} (ha : Is a fun j => f (j 1).val (j 2).val) :
    Is (Chunk.dw o hs (tB m c t 128 h1) (zuB m c t 128 h1) (vnB m c t 128 h1)
        (Chunk.dw o hs (tB m c t 0 h0) (zuB m c t 0 h0) (vnB m c t 0 h0) a))
      fun j => f (j 1).val (j 2).val + D.dwc (2 * t.val) g (j 1).val (j 2).val + D.dwc (2 * t.val + 1) g (j 1).val (j 2).val :=
  Chunk.dw_is D (2 * t.val + 1) g o hs ho (f := fun r s => f r s + D.dwc (2 * t.val) g r s)
    (tB_is m c t N _ 128 h1 (second t)) (zuB_is m c t N _ 128 h1 (second t)) (vnB_is m c t N _ 128 h1 (second t))
    (Chunk.dw_is D (2 * t.val) g o hs ho (f := f) (tB_is m c t N _ 0 h0 (first t)) (zuB_is m c t N _ 0 h0 (first t))
      (vnB_is m c t N _ 0 h0 (first t)) ha)

theorem db_two (g o : ℕ) (ho : o = 128 * g) (hs : S128x768.Slices ![0, o] S128x128) {a : FVec Ideal S1x128x1 .f32}
    {f : ℕ → ℝ} (ha : Is a fun j => f (j 1).val) :
    Is (Chunk.db o hs (tB m c t 128 h1) (zuB m c t 128 h1) (Chunk.db o hs (tB m c t 0 h0) (zuB m c t 0 h0) a))
      fun j => f (j 1).val + D.dbc (2 * t.val) g (j 1).val + D.dbc (2 * t.val + 1) g (j 1).val :=
  Chunk.db_is D (2 * t.val + 1) g o hs ho (f := fun r => f r + D.dbc (2 * t.val) g r)
    (tB_is m c t N _ 128 h1 (second t)) (zuB_is m c t N _ 128 h1 (second t))
    (Chunk.db_is D (2 * t.val) g o hs ho (f := f) (tB_is m c t N _ 0 h0 (first t)) (zuB_is m c t N _ 0 h0 (first t)) ha)

variable (i0 : FitsHead 0 128) (i1 : FitsHead 1 128) (i2 : FitsHead 2 128) (i3 : FitsHead 3 128) (i4 : FitsHead 4 128)
  (i5 : FitsHead 5 128)

theorem dlg_two {a : FVec Ideal S1x768 .f32} {q : ℕ → ℝ} (ha : Is a fun j => q (j 1).val) :
    Is (Chunk.sumTo (mulf (dvnB m c t 128 h1 i0 i1 i2 i3 i4 i5) (Chunk.vh (zvB m c t 128 h1)))
        (Chunk.sumTo (mulf (dvnB m c t 0 h0 i0 i1 i2 i3 i4 i5) (Chunk.vh (zvB m c t 0 h0))) a))
      fun j => q (j 1).val + D.dgc (2 * t.val) (j 1).val + D.dgc (2 * t.val + 1) (j 1).val :=
  Chunk.sumTo_is (f := fun r k => D.dvn (128 * (2 * t.val + 1) + r) k * D.vh (128 * (2 * t.val + 1) + r) k)
    (q := fun k => q k + D.dgc (2 * t.val) k)
    ((dvnB_is m c t N _ 128 h1 (second t) i0 i1 i2 i3 i4 i5).mulf (Chunk.vh_is D _ (zvB_is m c t N _ 128 h1 (second t))))
    (Chunk.sumTo_is (f := fun r k => D.dvn (128 * (2 * t.val) + r) k * D.vh (128 * (2 * t.val) + r) k) (q := q)
      ((dvnB_is m c t N _ 0 h0 (first t) i0 i1 i2 i3 i4 i5).mulf (Chunk.vh_is D _ (zvB_is m c t N _ 0 h0 (first t)))) ha)

theorem dlb_two {a : FVec Ideal S1x768 .f32} {q : ℕ → ℝ} (ha : Is a fun j => q (j 1).val) :
    Is (Chunk.sumTo (dvnB m c t 128 h1 i0 i1 i2 i3 i4 i5) (Chunk.sumTo (dvnB m c t 0 h0 i0 i1 i2 i3 i4 i5) a))
      fun j => q (j 1).val + D.dlc (2 * t.val) (j 1).val + D.dlc (2 * t.val + 1) (j 1).val :=
  Chunk.sumTo_is (f := fun r k => D.dvn (128 * (2 * t.val + 1) + r) k) (q := fun k => q k + D.dlc (2 * t.val) k)
    (dvnB_is m c t N _ 128 h1 (second t) i0 i1 i2 i3 i4 i5)
    (Chunk.sumTo_is (f := fun r k => D.dvn (128 * (2 * t.val) + r) k) (q := q)
      (dvnB_is m c t N _ 0 h0 (first t) i0 i1 i2 i3 i4 i5) ha)

end Two

/-! ## The output blocks that are summed over the points

After the point `t` they hold the sums over the chunks `0, …, 2 t + 1`. -/

omit N in
theorem before (t : Fin cfg0.N) : t.val - 1 < cfg0.N := lt_of_le_of_lt (Nat.sub_le _ _) t.isLt

/-- The gradient of the mixing weights. -/
theorem dw_first (h : t.val % 16 = 0) : Is (S := S6x128x128) (outsAt0 m c t.val t.isLt).2.1
    fun j => 0 + D.dwc (2 * t.val) (j 0).val (j 1).val (j 2).val + D.dwc (2 * t.val + 1) (j 0).val (j 1).val (j 2).val := fun i => by
  have hz : Is (S := S6x128x128) (k0_pay2 (F := Ideal)) fun _ => 0 := Is.splat ofBits_zero
  rw [outsAt0_A m c t h]
  dsimp only
  frame_open
  simp (disch := decide) only [↓ View.readCov_skip, ↓ View.readCov_cons_toLoadRect, ↓ View.readCov_fill]
  frame_out
  refine heads_is (Val := Elt Ideal) (e := .f32) (f := fun g r s => ((0 + D.dwc (2 * t.val) g r s + D.dwc (2 * t.val + 1) g r s : ℝ) : EReal)) _ _ _ _ _ _ _
    ?_ ?_ ?_ ?_ ?_ ?_ i
  · exact dw_two m c t N _ _ 5 640 rfl _ (f := fun r s => 0) (ld_head_is (Val := Elt Ideal) (e := .f32) (f := fun g r s => ((0 : ℝ) : EReal)) hz 5 _)
  · exact dw_two m c t N _ _ 4 512 rfl _ (f := fun r s => 0) (ld_head_is (Val := Elt Ideal) (e := .f32) (f := fun g r s => ((0 : ℝ) : EReal)) hz 4 _)
  · exact dw_two m c t N _ _ 3 384 rfl _ (f := fun r s => 0) (ld_head_is (Val := Elt Ideal) (e := .f32) (f := fun g r s => ((0 : ℝ) : EReal)) hz 3 _)
  · exact dw_two m c t N _ _ 2 256 rfl _ (f := fun r s => 0) (ld_head_is (Val := Elt Ideal) (e := .f32) (f := fun g r s => ((0 : ℝ) : EReal)) hz 2 _)
  · exact dw_two m c t N _ _ 1 128 rfl _ (f := fun r s => 0) (ld_head_is (Val := Elt Ideal) (e := .f32) (f := fun g r s => ((0 : ℝ) : EReal)) hz 1 _)
  · exact dw_two m c t N _ _ 0 0 rfl _ (f := fun r s => 0) (ld_head_is (Val := Elt Ideal) (e := .f32) (f := fun g r s => ((0 : ℝ) : EReal)) hz 0 _)

theorem dw_next (h : ¬ t.val % 16 = 0) {q : ℕ → ℕ → ℕ → ℝ}
    (hq : Is (S := S6x128x128) (outsAt0 m c (t.val - 1) (before t)).2.1 fun j => q (j 0).val (j 1).val (j 2).val) :
    Is (S := S6x128x128) (outsAt0 m c t.val t.isLt).2.1
      fun j => q (j 0).val (j 1).val (j 2).val + D.dwc (2 * t.val) (j 0).val (j 1).val (j 2).val + D.dwc (2 * t.val + 1) (j 0).val (j 1).val (j 2).val := fun i => by
  rw [outsAt0_B m c t h]
  dsimp only
  frame_open
  simp (disch := decide) only [↓ View.readCov_skip, ↓ View.readCov_cons_toLoadRect, ↓ View.readCov_fill]
  frame_out
  refine heads_is (Val := Elt Ideal) (e := .f32) (f := fun g r s => ((q g r s + D.dwc (2 * t.val) g r s + D.dwc (2 * t.val + 1) g r s : ℝ) : EReal)) _ _ _ _ _ _ _
    ?_ ?_ ?_ ?_ ?_ ?_ i
  · exact dw_two m c t N _ _ 5 640 rfl _ (f := fun r s => q 5 r s) (ld_head_is (Val := Elt Ideal) (e := .f32) (f := fun g r s => ((q g r s : ℝ) : EReal)) hq 5 _)
  · exact dw_two m c t N _ _ 4 512 rfl _ (f := fun r s => q 4 r s) (ld_head_is (Val := Elt Ideal) (e := .f32) (f := fun g r s => ((q g r s : ℝ) : EReal)) hq 4 _)
  · exact dw_two m c t N _ _ 3 384 rfl _ (f := fun r s => q 3 r s) (ld_head_is (Val := Elt Ideal) (e := .f32) (f := fun g r s => ((q g r s : ℝ) : EReal)) hq 3 _)
  · exact dw_two m c t N _ _ 2 256 rfl _ (f := fun r s => q 2 r s) (ld_head_is (Val := Elt Ideal) (e := .f32) (f := fun g r s => ((q g r s : ℝ) : EReal)) hq 2 _)
  · exact dw_two m c t N _ _ 1 128 rfl _ (f := fun r s => q 1 r s) (ld_head_is (Val := Elt Ideal) (e := .f32) (f := fun g r s => ((q g r s : ℝ) : EReal)) hq 1 _)
  · exact dw_two m c t N _ _ 0 0 rfl _ (f := fun r s => q 0 r s) (ld_head_is (Val := Elt Ideal) (e := .f32) (f := fun g r s => ((q g r s : ℝ) : EReal)) hq 0 _)

omit t in
theorem dw_upto : ∀ (k : ℕ) (hk : k < cfg0.N), Is (S := S6x128x128) (outsAt0 m c k hk).2.1
    fun j => ∑ n ∈ Finset.range (2 * (k + 1)), D.dwc n (j 0).val (j 1).val (j 2).val
  | 0, hk => fun j => (dw_first m c ⟨0, hk⟩ N rfl j).trans (by simp [Finset.sum_range_succ])
  | k + 1, hk => by
    have hN : cfg0.N = 16 := rfl
    refine fun j => (dw_next m c ⟨k + 1, hk⟩ N (by show ¬ (k + 1) % 16 = 0; omega)
      (q := fun g r s => ∑ n ∈ Finset.range (2 * (k + 1)), D.dwc n g r s) (dw_upto k (by omega)) j).trans ?_
    dsimp only
    rw [show 2 * (k + 1 + 1) = 2 * (k + 1) + 1 + 1 by ring, Finset.sum_range_succ, Finset.sum_range_succ]

/-- The gradient of the mixing offsets. -/
theorem db_first (h : t.val % 16 = 0) : Is (S := S6x128x1) (outsAt0 m c t.val t.isLt).2.2.1
    fun j => 0 + D.dbc (2 * t.val) (j 0).val (j 1).val + D.dbc (2 * t.val + 1) (j 0).val (j 1).val := fun i => by
  have hz : Is (S := S6x128x1) (k0_pay3 (F := Ideal)) fun _ => 0 := Is.splat ofBits_zero
  rw [outsAt0_A m c t h]
  dsimp only
  frame_open
  simp (disch := decide) only [↓ View.readCov_skip, ↓ View.readCov_cons_toLoadRect, ↓ View.readCov_fill]
  frame_out
  refine heads_is (Val := Elt Ideal) (e := .f32) (f := fun g r _ => ((0 + D.dbc (2 * t.val) g r + D.dbc (2 * t.val + 1) g r : ℝ) : EReal)) _ _ _ _ _ _ _
    ?_ ?_ ?_ ?_ ?_ ?_ i
  · exact db_two m c t N _ _ 5 640 rfl _ (f := fun r => 0) (ld_head_is (Val := Elt Ideal) (e := .f32) (f := fun g r _ => ((0 : ℝ) : EReal)) hz 5 _)
  · exact db_two m c t N _ _ 4 512 rfl _ (f := fun r => 0) (ld_head_is (Val := Elt Ideal) (e := .f32) (f := fun g r _ => ((0 : ℝ) : EReal)) hz 4 _)
  · exact db_two m c t N _ _ 3 384 rfl _ (f := fun r => 0) (ld_head_is (Val := Elt Ideal) (e := .f32) (f := fun g r _ => ((0 : ℝ) : EReal)) hz 3 _)
  · exact db_two m c t N _ _ 2 256 rfl _ (f := fun r => 0) (ld_head_is (Val := Elt Ideal) (e := .f32) (f := fun g r _ => ((0 : ℝ) : EReal)) hz 2 _)
  · exact db_two m c t N _ _ 1 128 rfl _ (f := fun r => 0) (ld_head_is (Val := Elt Ideal) (e := .f32) (f := fun g r _ => ((0 : ℝ) : EReal)) hz 1 _)
  · exact db_two m c t N _ _ 0 0 rfl _ (f := fun r => 0) (ld_head_is (Val := Elt Ideal) (e := .f32) (f := fun g r _ => ((0 : ℝ) : EReal)) hz 0 _)

theorem db_next (h : ¬ t.val % 16 = 0) {q : ℕ → ℕ → ℝ}
    (hq : Is (S := S6x128x1) (outsAt0 m c (t.val - 1) (before t)).2.2.1 fun j => q (j 0).val (j 1).val) :
    Is (S := S6x128x1) (outsAt0 m c t.val t.isLt).2.2.1
      fun j => q (j 0).val (j 1).val + D.dbc (2 * t.val) (j 0).val (j 1).val + D.dbc (2 * t.val + 1) (j 0).val (j 1).val := fun i => by
  rw [outsAt0_B m c t h]
  dsimp only
  frame_open
  simp (disch := decide) only [↓ View.readCov_skip, ↓ View.readCov_cons_toLoadRect, ↓ View.readCov_fill]
  frame_out
  refine heads_is (Val := Elt Ideal) (e := .f32) (f := fun g r _ => ((q g r + D.dbc (2 * t.val) g r + D.dbc (2 * t.val + 1) g r : ℝ) : EReal)) _ _ _ _ _ _ _
    ?_ ?_ ?_ ?_ ?_ ?_ i
  · exact db_two m c t N _ _ 5 640 rfl _ (f := fun r => q 5 r) (ld_head_is (Val := Elt Ideal) (e := .f32) (f := fun g r _ => ((q g r : ℝ) : EReal)) hq 5 _)
  · exact db_two m c t N _ _ 4 512 rfl _ (f := fun r => q 4 r) (ld_head_is (Val := Elt Ideal) (e := .f32) (f := fun g r _ => ((q g r : ℝ) : EReal)) hq 4 _)
  · exact db_two m c t N _ _ 3 384 rfl _ (f := fun r => q 3 r) (ld_head_is (Val := Elt Ideal) (e := .f32) (f := fun g r _ => ((q g r : ℝ) : EReal)) hq 3 _)
  · exact db_two m c t N _ _ 2 256 rfl _ (f := fun r => q 2 r) (ld_head_is (Val := Elt Ideal) (e := .f32) (f := fun g r _ => ((q g r : ℝ) : EReal)) hq 2 _)
  · exact db_two m c t N _ _ 1 128 rfl _ (f := fun r => q 1 r) (ld_head_is (Val := Elt Ideal) (e := .f32) (f := fun g r _ => ((q g r : ℝ) : EReal)) hq 1 _)
  · exact db_two m c t N _ _ 0 0 rfl _ (f := fun r => q 0 r) (ld_head_is (Val := Elt Ideal) (e := .f32) (f := fun g r _ => ((q g r : ℝ) : EReal)) hq 0 _)

omit t in
theorem db_upto : ∀ (k : ℕ) (hk : k < cfg0.N), Is (S := S6x128x1) (outsAt0 m c k hk).2.2.1
    fun j => ∑ n ∈ Finset.range (2 * (k + 1)), D.dbc n (j 0).val (j 1).val
  | 0, hk => fun j => (db_first m c ⟨0, hk⟩ N rfl j).trans (by simp [Finset.sum_range_succ])
  | k + 1, hk => by
    have hN : cfg0.N = 16 := rfl
    refine fun j => (db_next m c ⟨k + 1, hk⟩ N (by show ¬ (k + 1) % 16 = 0; omega)
      (q := fun g r => ∑ n ∈ Finset.range (2 * (k + 1)), D.dbc n g r) (db_upto k (by omega)) j).trans ?_
    dsimp only
    rw [show 2 * (k + 1 + 1) = 2 * (k + 1) + 1 + 1 by ring, Finset.sum_range_succ, Finset.sum_range_succ]

/-- The gradient of the norm's gain. -/
theorem dlg_first (h : t.val % 16 = 0) : Is (S := S1x768) (outsAt0 m c t.val t.isLt).2.2.2.1
    fun j => 0 + D.dgc (2 * t.val) (j 1).val + D.dgc (2 * t.val + 1) (j 1).val := fun i => by
  have hz : Is (S := S1x768) (k0_pay4 (F := Ideal)) fun _ => 0 := Is.splat ofBits_zero
  rw [outsAt0_A m c t h]
  dsimp only
  frame_out
  exact dlg_two m c t N _ _ _ _ _ _ _ _ (q := fun _ => 0) hz i

theorem dlg_next (h : ¬ t.val % 16 = 0) {q : ℕ → ℝ}
    (hq : Is (S := S1x768) (outsAt0 m c (t.val - 1) (before t)).2.2.2.1 fun j => q (j 1).val) :
    Is (S := S1x768) (outsAt0 m c t.val t.isLt).2.2.2.1
      fun j => q (j 1).val + D.dgc (2 * t.val) (j 1).val + D.dgc (2 * t.val + 1) (j 1).val := fun i => by
  rw [outsAt0_B m c t h]
  dsimp only
  frame_out
  exact dlg_two m c t N _ _ _ _ _ _ _ _ hq i

omit t in
theorem dlg_upto : ∀ (k : ℕ) (hk : k < cfg0.N), Is (S := S1x768) (outsAt0 m c k hk).2.2.2.1
    fun j => ∑ n ∈ Finset.range (2 * (k + 1)), D.dgc n (j 1).val
  | 0, hk => fun j => (dlg_first m c ⟨0, hk⟩ N rfl j).trans (by simp [Finset.sum_range_succ])
  | k + 1, hk => by
    have hN : cfg0.N = 16 := rfl
    refine fun j => (dlg_next m c ⟨k + 1, hk⟩ N (by show ¬ (k + 1) % 16 = 0; omega)
      (q := fun x => ∑ n ∈ Finset.range (2 * (k + 1)), D.dgc n x) (dlg_upto k (by omega)) j).trans ?_
    dsimp only
    rw [show 2 * (k + 1 + 1) = 2 * (k + 1) + 1 + 1 by ring, Finset.sum_range_succ, Finset.sum_range_succ]

/-- The gradient of the norm's offset. -/
theorem dlb_first (h : t.val % 16 = 0) : Is (S := S1x768) (outsAt0 m c t.val t.isLt).2.2.2.2
    fun j => 0 + D.dlc (2 * t.val) (j 1).val + D.dlc (2 * t.val + 1) (j 1).val := fun i => by
  have hz : Is (S := S1x768) (k0_pay5 (F := Ideal)) fun _ => 0 := Is.splat ofBits_zero
  rw [outsAt0_A m c t h]
  dsimp only
  frame_out
  exact dlb_two m c t N _ _ _ _ _ _ _ _ (q := fun _ => 0) hz i

theorem dlb_next (h : ¬ t.val % 16 = 0) {q : ℕ → ℝ}
    (hq : Is (S := S1x768) (outsAt0 m c (t.val - 1) (before t)).2.2.2.2 fun j => q (j 1).val) :
    Is (S := S1x768) (outsAt0 m c t.val t.isLt).2.2.2.2
      fun j => q (j 1).val + D.dlc (2 * t.val) (j 1).val + D.dlc (2 * t.val + 1) (j 1).val := fun i => by
  rw [outsAt0_B m c t h]
  dsimp only
  frame_out
  exact dlb_two m c t N _ _ _ _ _ _ _ _ hq i

omit t in
theorem dlb_upto : ∀ (k : ℕ) (hk : k < cfg0.N), Is (S := S1x768) (outsAt0 m c k hk).2.2.2.2
    fun j => ∑ n ∈ Finset.range (2 * (k + 1)), D.dlc n (j 1).val
  | 0, hk => fun j => (dlb_first m c ⟨0, hk⟩ N rfl j).trans (by simp [Finset.sum_range_succ])
  | k + 1, hk => by
    have hN : cfg0.N = 16 := rfl
    refine fun j => (dlb_next m c ⟨k + 1, hk⟩ N (by show ¬ (k + 1) % 16 = 0; omega)
      (q := fun x => ∑ n ∈ Finset.range (2 * (k + 1)), D.dlc n x) (dlb_upto k (by omega)) j).trans ?_
    dsimp only
    rw [show 2 * (k + 1 + 1) = 2 * (k + 1) + 1 + 1 by ring, Finset.sum_range_succ, Finset.sum_range_succ]

/-! ## The block of the gradient of the projection -/

section Rows

variable (n o : ℕ) (h : FitsRows o) (hn : 256 * t.val + o = 128 * n)
include hn

/-- Head `g`'s columns at the rows from `o` on. -/
theorem dpu_rows (g q : ℕ) (hq : q = 128 * g) (hg : g < 6) (hs : S128x768.Slices ![0, q] S128x128) (iw : FitsHead g 128)
    (ib : FitsHead g 128) :
    Is (Chunk.dpu q hs (tB m c t o h) (Chunk.dgelu (uB m c t o h)) (vnB m c t o h) (wB m c t g iw) (bB m c t g ib))
      fun j => D.dp (256 * t.val + (o + (j 0).val)) (q + (j 1).val) := fun j => by
  have h1 : (j 1).val < 128 := (j 1).isLt
  refine (Chunk.dpu_is D n g q hs hq (tB_is m c t N n o h hn)
    (vnB_is m c t N n o h hn) (Chunk.dgelu_is (uB_is m c t N n o h hn)) (wB_is m c t N g iw) (bB_is m c t N g ib) j).trans ?_
  dsimp only
  rw [← Nat.add_assoc, hn, Args.dp, if_pos (by omega), hq]

/-- The second half's columns at those rows. -/
theorem dpv_rows (i0 i1 i2 i3 i4 i5) :
    Is (Chunk.dpv (dvnB m c t o h i0 i1 i2 i3 i4 i5) (zvB m c t o h) (Chunk.dgelu (vB m c t o h)) (iblk m c 2 t))
      fun j => D.dp (256 * t.val + (o + (j 0).val)) (768 + (j 1).val) := fun j => by
  refine (Chunk.dpv_is D n (zvB_is m c t N n o h hn) (lg_is m c N t) (dvnB_is m c t N n o h hn i0 i1 i2 i3 i4 i5)
    (Chunk.dgelu_is (vB_is m c t N n o h hn)) j).trans ?_
  dsimp only
  rw [← Nat.add_assoc, hn, Args.dp, if_neg (by omega), Nat.add_sub_cancel_left]

end Rows

omit N t in
/-- The 14 pieces cover the block. -/
theorem dp_cover {a b : ℕ} (ha : a < 256) (hb : b < 1536)
    (h0 : ¬ ((128 ≤ a ∧ a < 128 + 128) ∧ 768 ≤ b ∧ b < 768 + 768))
    (h1 : ¬ ((128 ≤ a ∧ a < 128 + 128) ∧ 640 ≤ b ∧ b < 640 + 128))
    (h2 : ¬ ((128 ≤ a ∧ a < 128 + 128) ∧ 512 ≤ b ∧ b < 512 + 128))
    (h3 : ¬ ((128 ≤ a ∧ a < 128 + 128) ∧ 384 ≤ b ∧ b < 384 + 128))
    (h4 : ¬ ((128 ≤ a ∧ a < 128 + 128) ∧ 256 ≤ b ∧ b < 256 + 128))
    (h5 : ¬ ((128 ≤ a ∧ a < 128 + 128) ∧ 128 ≤ b ∧ b < 128 + 128))
    (h6 : ¬ ((128 ≤ a ∧ a < 128 + 128) ∧ 0 ≤ b ∧ b < 0 + 128))
    (h7 : ¬ ((0 ≤ a ∧ a < 0 + 128) ∧ 768 ≤ b ∧ b < 768 + 768))
    (h8 : ¬ ((0 ≤ a ∧ a < 0 + 128) ∧ 640 ≤ b ∧ b < 640 + 128))
    (h9 : ¬ ((0 ≤ a ∧ a < 0 + 128) ∧ 512 ≤ b ∧ b < 512 + 128))
    (h10 : ¬ ((0 ≤ a ∧ a < 0 + 128) ∧ 384 ≤ b ∧ b < 384 + 128))
    (h11 : ¬ ((0 ≤ a ∧ a < 0 + 128) ∧ 256 ≤ b ∧ b < 256 + 128))
    (h12 : ¬ ((0 ≤ a ∧ a < 0 + 128) ∧ 128 ≤ b ∧ b < 128 + 128))
    (h13 : ¬ ((0 ≤ a ∧ a < 0 + 128) ∧ 0 ≤ b ∧ b < 0 + 128)) : False := by
  omega

theorem dp_block : Is (S := S256x1536) (outsAt0 m c t.val t.isLt).1
    fun j => D.dp (256 * t.val + (j 0).val) (j 1).val := fun i => by
  let f := fun r k => ((D.dp (256 * t.val + r) k : ℝ) : EReal)
  by_cases h : t.val % 16 = 0
  · rw [outsAt0_A m c t h]
    dsimp only
    frame_out
    refine canon_band (Val := Elt Ideal) (e := .bf16) (f := f) 128 768 _
      (dpv_rows m c t N _ 128 _ (second t) _ _ _ _ _ _) _ i fun h0 => ?_
    refine canon_band (Val := Elt Ideal) (e := .bf16) (f := f) 128 640 _
      (dpu_rows m c t N _ 128 _ (second t) 5 640 rfl (by decide) _ _ _) _ i fun h1 => ?_
    refine canon_band (Val := Elt Ideal) (e := .bf16) (f := f) 128 512 _
      (dpu_rows m c t N _ 128 _ (second t) 4 512 rfl (by decide) _ _ _) _ i fun h2 => ?_
    refine canon_band (Val := Elt Ideal) (e := .bf16) (f := f) 128 384 _
      (dpu_rows m c t N _ 128 _ (second t) 3 384 rfl (by decide) _ _ _) _ i fun h3 => ?_
    refine canon_band (Val := Elt Ideal) (e := .bf16) (f := f) 128 256 _
      (dpu_rows m c t N _ 128 _ (second t) 2 256 rfl (by decide) _ _ _) _ i fun h4 => ?_
    refine canon_band (Val := Elt Ideal) (e := .bf16) (f := f) 128 128 _
      (dpu_rows m c t N _ 128 _ (second t) 1 128 rfl (by decide) _ _ _) _ i fun h5 => ?_
    refine canon_band (Val := Elt Ideal) (e := .bf16) (f := f) 128 0 _
      (dpu_rows m c t N _ 128 _ (second t) 0 0 rfl (by decide) _ _ _) _ i fun h6 => ?_
    refine canon_band (Val := Elt Ideal) (e := .bf16) (f := f) 0 768 _
      (dpv_rows m c t N _ 0 _ (first t) _ _ _ _ _ _) _ i fun h7 => ?_
    refine canon_band (Val := Elt Ideal) (e := .bf16) (f := f) 0 640 _
      (dpu_rows m c t N _ 0 _ (first t) 5 640 rfl (by decide) _ _ _) _ i fun h8 => ?_
    refine canon_band (Val := Elt Ideal) (e := .bf16) (f := f) 0 512 _
      (dpu_rows m c t N _ 0 _ (first t) 4 512 rfl (by decide) _ _ _) _ i fun h9 => ?_
    refine canon_band (Val := Elt Ideal) (e := .bf16) (f := f) 0 384 _
      (dpu_rows m c t N _ 0 _ (first t) 3 384 rfl (by decide) _ _ _) _ i fun h10 => ?_
    refine canon_band (Val := Elt Ideal) (e := .bf16) (f := f) 0 256 _
      (dpu_rows m c t N _ 0 _ (first t) 2 256 rfl (by decide) _ _ _) _ i fun h11 => ?_
    refine canon_band (Val := Elt Ideal) (e := .bf16) (f := f) 0 128 _
      (dpu_rows m c t N _ 0 _ (first t) 1 128 rfl (by decide) _ _ _) _ i fun h12 => ?_
    refine canon_band (Val := Elt Ideal) (e := .bf16) (f := f) 0 0 _
      (dpu_rows m c t N _ 0 _ (first t) 0 0 rfl (by decide) _ _ _) _ i fun h13 => ?_
    have b0 : (i 0).val < 256 := (i 0).isLt
    have b1 : (i 1).val < 1536 := (i 1).isLt
    exact (dp_cover b0 b1 h0 h1 h2 h3 h4 h5 h6 h7 h8 h9 h10 h11 h12 h13).elim
  · rw [outsAt0_B m c t h]
    dsimp only
    frame_out
    refine canon_band (Val := Elt Ideal) (e := .bf16) (f := f) 128 768 _
      (dpv_rows m c t N _ 128 _ (second t) _ _ _ _ _ _) _ i fun h0 => ?_
    refine canon_band (Val := Elt Ideal) (e := .bf16) (f := f) 128 640 _
      (dpu_rows m c t N _ 128 _ (second t) 5 640 rfl (by decide) _ _ _) _ i fun h1 => ?_
    refine canon_band (Val := Elt Ideal) (e := .bf16) (f := f) 128 512 _
      (dpu_rows m c t N _ 128 _ (second t) 4 512 rfl (by decide) _ _ _) _ i fun h2 => ?_
    refine canon_band (Val := Elt Ideal) (e := .bf16) (f := f) 128 384 _
      (dpu_rows m c t N _ 128 _ (second t) 3 384 rfl (by decide) _ _ _) _ i fun h3 => ?_
    refine canon_band (Val := Elt Ideal) (e := .bf16) (f := f) 128 256 _
      (dpu_rows m c t N _ 128 _ (second t) 2 256 rfl (by decide) _ _ _) _ i fun h4 => ?_
    refine canon_band (Val := Elt Ideal) (e := .bf16) (f := f) 128 128 _
      (dpu_rows m c t N _ 128 _ (second t) 1 128 rfl (by decide) _ _ _) _ i fun h5 => ?_
    refine canon_band (Val := Elt Ideal) (e := .bf16) (f := f) 128 0 _
      (dpu_rows m c t N _ 128 _ (second t) 0 0 rfl (by decide) _ _ _) _ i fun h6 => ?_
    refine canon_band (Val := Elt Ideal) (e := .bf16) (f := f) 0 768 _
      (dpv_rows m c t N _ 0 _ (first t) _ _ _ _ _ _) _ i fun h7 => ?_
    refine canon_band (Val := Elt Ideal) (e := .bf16) (f := f) 0 640 _
      (dpu_rows m c t N _ 0 _ (first t) 5 640 rfl (by decide) _ _ _) _ i fun h8 => ?_
    refine canon_band (Val := Elt Ideal) (e := .bf16) (f := f) 0 512 _
      (dpu_rows m c t N _ 0 _ (first t) 4 512 rfl (by decide) _ _ _) _ i fun h9 => ?_
    refine canon_band (Val := Elt Ideal) (e := .bf16) (f := f) 0 384 _
      (dpu_rows m c t N _ 0 _ (first t) 3 384 rfl (by decide) _ _ _) _ i fun h10 => ?_
    refine canon_band (Val := Elt Ideal) (e := .bf16) (f := f) 0 256 _
      (dpu_rows m c t N _ 0 _ (first t) 2 256 rfl (by decide) _ _ _) _ i fun h11 => ?_
    refine canon_band (Val := Elt Ideal) (e := .bf16) (f := f) 0 128 _
      (dpu_rows m c t N _ 0 _ (first t) 1 128 rfl (by decide) _ _ _) _ i fun h12 => ?_
    refine canon_band (Val := Elt Ideal) (e := .bf16) (f := f) 0 0 _
      (dpu_rows m c t N _ 0 _ (first t) 0 0 rfl (by decide) _ _ _) _ i fun h13 => ?_
    have b0 : (i 0).val < 256 := (i 0).isLt
    have b1 : (i 1).val < 1536 := (i 1).isLt
    exact (dp_cover b0 b1 h0 h1 h2 h3 h4 h5 h6 h7 h8 h9 h10 h11 h12 h13).elim

end Block

end Cert.Gmlp
-- ==== Proof.Array.lean ====
module

public import proofs.«01_k».proof.Proof.Block

/-!
The kernel's results, as real numbers: the gradient of the projection in its written columns, and the gradients of the
mixing weights and offsets and of the norm's gain and offset whole.
-/

@[expose] public section

set_option maxRecDepth 16384

noncomputable section

namespace Cert.Gmlp

open Cert.KernelIdeal Cert.KernelIdeal.Gen Cert.KernelIdeal.Value Idealize.ShloMosaic Idealize.ShloMosaic.TcCoe
open Idealize.SL Idealize.SL.Sem

variable (m : (ℓ : Loc nD τ sig) → Buf (Elt Ideal) ℓ) (c : Dev nD)
variable {D : Args} (N : Num D (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)))

theorem index7 : ∀ t : Fin cfg0.N, win0_7.index t = ![t.val, 0] := (by decide +kernel : ∀ t : Fin grid0.N, _)

theorem xsize7 : ∀ t : Fin cfg0.N, win0_7.xsize (grid0.coords t) = ![256, 1536] := (by decide +kernel : ∀ t : Fin grid0.N, _)

include N

theorem dp_array (i : S4096x1792.Idx) (hi : (i 1).val < 1536) :
    ((dats m 0 c).arrAt 7 cfg0.N i : EReal) = ((D.dp (i 0).val (i 1).val : ℝ) : EReal) := by
  have hN : cfg0.N = 16 := rfl
  have h0 : (i 0).val < 4096 := (i 0).isLt
  obtain ⟨t, ht⟩ : ∃ t : Fin cfg0.N, t.val = (i 0).val / 256 := ⟨⟨(i 0).val / 256, by omega⟩, rfl⟩
  have e := index7 t
  have hm : i ∈ ((cfg0.win 7).blk t).view.set := by
    have x0 : win0_7.xsize (grid0.coords t) 0 = 256 := congrFun (xsize7 t) 0
    have x1 : win0_7.xsize (grid0.coords t) 1 = 1536 := congrFun (xsize7 t) 1
    mem_blk [e]
    omega
  obtain ⟨y, rfl⟩ := View.exists_emb_of_mem_set _ hm
  refine (Pipeline.Dat.arrAt_emb_eq_flushed _ 7 disjoint7 t (flush0_7 t) y).trans ?_
  rw [flushed7]
  refine (dp_block m c t N _).trans ?_
  blk_simp [e]
  rw [Nat.mul_comm 256]

theorem dw_array (i : S6x128x128.Idx) : ((dats m 0 c).arrAt 8 cfg0.N i : EReal) = ((D.dw (i 0).val (i 1).val (i 2).val : ℝ) : EReal) := by
  refine ((dats m 0 c).arrAt_emb_eq_after_last 8 ⟨15, by decide⟩ (by decide +kernel) i).trans ?_
  rw [after0_8]
  refine (dw_upto m c N 15 (by decide) i).trans ?_
  exact congrArg _ (Finset.sum_range _)

theorem db_array (i : S6x128x1.Idx) : ((dats m 0 c).arrAt 9 cfg0.N i : EReal) = ((D.db (i 0).val (i 1).val : ℝ) : EReal) := by
  refine ((dats m 0 c).arrAt_emb_eq_after_last 9 ⟨15, by decide⟩ (by decide +kernel) i).trans ?_
  rw [after0_9]
  refine (db_upto m c N 15 (by decide) i).trans ?_
  exact congrArg _ (Finset.sum_range _)

theorem dlg_array (i : S1x768.Idx) : ((dats m 0 c).arrAt 10 cfg0.N i : EReal) = ((D.dlg (i 1).val : ℝ) : EReal) := by
  refine ((dats m 0 c).arrAt_emb_eq_after_last 10 ⟨15, by decide⟩ (by decide +kernel) i).trans ?_
  rw [after0_10]
  refine (dlg_upto m c N 15 (by decide) i).trans ?_
  exact congrArg _ (Finset.sum_range _)

theorem dlb_array (i : S1x768.Idx) : ((dats m 0 c).arrAt 11 cfg0.N i : EReal) = ((D.dlb (i 1).val : ℝ) : EReal) := by
  refine ((dats m 0 c).arrAt_emb_eq_after_last 11 ⟨15, by decide⟩ (by decide +kernel) i).trans ?_
  rw [after0_11]
  refine (dlb_upto m c N 15 (by decide) i).trans ?_
  exact congrArg _ (Finset.sum_range _)

end Cert.Gmlp
-- ==== Proof.Sums.lean ====
module

public import proofs.«01_k».proof.Proof.Calc
public import Idealize.ShloMosaic.PureOps.Ideal.Laws

/-! Sums of real numbers as the host forms them: from a zero, over some of an array's axes. -/

@[expose] public section

noncomputable section

namespace Cert.Gmlp

open Idealize.ShloMosaic

/-- A sum of real numbers onto zero. -/
theorem sum_is {ι : Type} [Fintype ι] {z e : EReal} {a : ι → EReal} {f : ι → ℝ} (h : z = e + ∑ k, a k)
    (he : e = ((0 : ℝ) : EReal)) (hf : ∀ k, a k = ((f k : ℝ) : EReal)) : z = ((∑ k, f k : ℝ) : EReal) := by
  rw [h, he, Finset.sum_congr rfl fun k _ => hf k, coe_sum, EReal.coe_zero, zero_add]

/-- A sum of products of real numbers. -/
theorem dot_is {ι : Type} [Fintype ι] {z : EReal} {a b : ι → EReal} {f g : ι → ℝ} (h : z = ∑ k, a k * b k)
    (hf : ∀ k, a k = ((f k : ℝ) : EReal)) (hg : ∀ k, b k = ((g k : ℝ) : EReal)) :
    z = ((∑ k, f k * g k : ℝ) : EReal) := by
  rw [h, ← coe_sum]
  exact Finset.sum_congr rfl fun k _ => by rw [hf k, hg k, EReal.coe_mul]

/-- A host sum whose terms at the result index `j` are those at the indices `k n`. -/
theorem reduce_range {s t : Shape} {axes : List (Fin s.rank)} (h : s.ReducesTo axes t) (x : s.Idx → EReal) (e : EReal)
    (j : t.Idx) {ι : Type} [Fintype ι] (k : ι → s.Idx) (inj : Function.Injective k) (hj : ∀ n, h.drop (k n) = j)
    (back : ∀ i, h.drop i = j → ∃ n, k n = i) : Ideal.hostReduceAdd h x e j = e + ∑ n, x (k n) := by
  unfold Ideal.hostReduceAdd
  congr 1
  symm
  refine Finset.sum_bij (fun n _ => k n) (fun n _ => by simp [hj n]) (fun _ _ _ _ e => inj e) (fun i hi => ?_)
    (fun _ _ => rfl)
  obtain ⟨n, hn⟩ := back i (by simpa using hi)
  exact ⟨n, Finset.mem_univ _, hn⟩

/-- A host sum over axes of length one. -/
theorem reduce_one {s t : Shape} {axes : List (Fin s.rank)} (h : s.ReducesTo axes t) (x : s.Idx → EReal) (e : EReal)
    (j : t.Idx) (k : s.Idx) (hj : h.drop k = j) (back : ∀ i, h.drop i = j → k = i) :
    Ideal.hostReduceAdd h x e j = e + x k := by
  rw [reduce_range h x e j (fun _ : Unit => k) (fun _ _ _ => rfl) (fun _ => hj) fun i hi => ⟨(), back i hi⟩]
  simp

/-- The 4096 rows are 32 chunks of 128. -/
theorem sum_rows (f : ℕ → ℝ) : ∑ r : Fin 4096, f r.val = ∑ n : Fin 32, ∑ s : Fin 128, f (128 * n.val + s.val) := by
  rw [← Fintype.sum_prod_type']
  refine (Equiv.sum_comp (finProdFinEquiv : Fin 32 × Fin 128 ≃ Fin (32 * 128)) fun r => f r.val).symm.trans ?_
  exact Finset.sum_congr rfl fun p _ => congrArg f (Nat.add_comm _ _)

end Cert.Gmlp
-- ==== Proof.RefGelu.lean ====
module

public import proofs.«01_k».proof.Proof.Blocks
public import proofs.«01_k».proof.Proof.Sums
public import proofs.«01_k».proof.Proof.Gen.ReferenceIdeal.Read

/-! The reference's `gelu`, and the factors of its derivative. -/

@[expose] public section

set_option maxRecDepth 16384

noncomputable section

namespace Cert.Gmlp

open Idealize.ShloMosaic Cert.ReferenceIdeal Cert.ReferenceIdeal.Read

variable {D : Args} {x0 : S4096x1792.Idx → EReal} {x1 x2 : S1x768.Idx → EReal} {x3 : S6x128x128.Idx → EReal}
  {x4 : S6x128.Idx → EReal} {x5 : S4096x1024.Idx → EReal} (N : Num D x0 x1 x2 x3 x4 x5)

theorem sqrt_coe_nonneg (a : ℝ) (h : 0 ≤ a) : Ideal.sqrt ((a : ℝ) : EReal) = ((Real.sqrt a : ℝ) : EReal) := by
  rw [Ideal.sqrt_coe, if_neg (not_lt.2 h)]

include N in
theorem v1_is : Is (val_main_v1 (F := Ideal) x0) fun i => D.p (i 1).val (i 2).val := fun i =>
  (val_main_v1_apply (F := Ideal) x0 i).trans ((val_main_v0_apply (F := Ideal) x0 _).trans (N.p _ (i 2).isLt))

include N in
theorem v5_is : Is (val_main_v5 (F := Ideal) x0) fun i => 1 / 2 * D.p (i 1).val (i 2).val :=
  Is.mulf (φ := .f32) (fun i => (val_main_v4_apply (F := Ideal) i).trans ofBits_half) (v1_is N)

theorem v6_is : Is (val_main_v6 (F := Ideal)) fun _ => Real.sqrt 2 := fun i => by
  show Ideal.sqrt (Ideal.ofBits .f32 0x40000000#32) = _
  rw [ofBits_two, sqrt_coe_nonneg _ (by norm_num)]

theorem sqrt_two_ne : Real.sqrt 2 ≠ 0 := (Real.sqrt_pos.2 (by norm_num)).ne'
theorem sqrt_pi_ne : Real.sqrt Real.pi ≠ 0 := (Real.sqrt_pos.2 Real.pi_pos).ne'

include N in
theorem v8_is : Is (val_main_v8 (F := Ideal) x0) fun i => D.p (i 1).val (i 2).val / Real.sqrt 2 :=
  Is.divf (φ := .f32) (v1_is N) (fun i => (val_main_v7_apply (F := Ideal) i).trans (v6_is _)) fun _ => sqrt_two_ne

include N in
theorem v9_is : Is (val_main_v9 (F := Ideal) x0) fun i => erfR (D.p (i 1).val (i 2).val / Real.sqrt 2) := fun i => by
  show Ideal.erf (val_main_v8 (F := Ideal) x0 i) = _
  rw [v8_is N i, erf_coe]

theorem v10_is : Is (val_main_v10 (F := Ideal)) fun _ => Real.pi := fun i => by
  show Ideal.acos (Ideal.ofBits .f32 0xBF800000#32) = _
  rw [ofBits_neg_one, Ideal.acos_coe, if_pos (by norm_num), Real.arccos_neg_one]

theorem v12_is : Is (val_main_v12 (F := Ideal)) fun _ => 2 / Real.sqrt Real.pi := fun i => by
  show Ideal.div (Ideal.ofBits .f32 0x40000000#32) (Ideal.sqrt (val_main_v10 (F := Ideal) i)) = _
  rw [ofBits_two, v10_is i, sqrt_coe_nonneg _ Real.pi_pos.le, div_coe_coe _ _ sqrt_pi_ne]

include N in
theorem v17_is : Is (val_main_v17 (F := Ideal) x0) fun i => 2 / Real.sqrt Real.pi *
    Real.exp (-(D.p (i 1).val (i 2).val / Real.sqrt 2) * (D.p (i 1).val (i 2).val / Real.sqrt 2)) :=
  Is.mulf (φ := .f32) (fun i => (val_main_v16_apply (F := Ideal) i).trans (v12_is _)) fun i => by
    show Ideal.exp (-(val_main_v8 (F := Ideal) x0 i) * val_main_v8 (F := Ideal) x0 i) = _
    rw [v8_is N i, ← EReal.coe_neg, ← EReal.coe_mul, Ideal.exp_coe]

include N in
theorem v19_is : Is (val_main_v19 (F := Ideal) x0) fun i => 1 + erfR (D.p (i 1).val (i 2).val / Real.sqrt 2) :=
  Is.addf (φ := .f32) (fun i => (val_main_v18_apply (F := Ideal) i).trans ofBits_one) (v9_is N)

include N in
theorem v20_is : Is (val_main_v20 (F := Ideal) x0) fun i => gelu (D.p (i 1).val (i 2).val) :=
  Is.congr (φ := .f32) (Is.mulf (φ := .f32) (v5_is N) (v19_is N)) fun i => by
    unfold gelu cdf; rw [← div_eq_mul_inv (D.p _ _) (Real.sqrt 2)]; ring

include N in
theorem v21_is : Is (val_main_v21 (F := Ideal) x0) fun i => D.zu (i 1).val (i 2).val := fun i =>
  (val_main_v21_apply (F := Ideal) x0 i).trans (v20_is N _)

include N in
theorem v22_is : Is (val_main_v22 (F := Ideal) x0) fun i => D.zv (i 1).val (i 2).val := fun i =>
  (val_main_v22_apply (F := Ideal) x0 i).trans (v20_is N _)

/-- The reference's product rule for `gelu` is `dgelu`. -/
theorem dgelu_eq (x g : ℝ) :
    1 / 2 * x * g * (2 / Real.sqrt Real.pi * Real.exp (-(x / Real.sqrt 2) * (x / Real.sqrt 2))) / Real.sqrt 2
      + 1 / 2 * (g * (1 + erfR (x / Real.sqrt 2))) = g * dgelu x := by
  have e : -(x / Real.sqrt 2) * (x / Real.sqrt 2) = -1 / 2 * x * x := by
    have h := Real.mul_self_sqrt (show (0 : ℝ) ≤ 2 by norm_num)
    field_simp
    rw [Real.sq_sqrt (by norm_num)]
  unfold dgelu cdf
  rw [e, Real.sqrt_mul (by norm_num), ← div_eq_mul_inv x]
  have h2 := sqrt_two_ne
  have hp := sqrt_pi_ne
  field_simp
  ring

end Cert.Gmlp
-- ==== Proof.RefNorm.lean ====
module

public import proofs.«01_k».proof.Proof.RefGelu

/-! The reference's layer norm, and its mixing weights. -/

@[expose] public section

set_option maxRecDepth 16384

noncomputable section

namespace Cert.Gmlp

open Idealize.ShloMosaic Cert.ReferenceIdeal Cert.ReferenceIdeal.Read

variable {D : Args} {x0 : S4096x1792.Idx → EReal} {x1 x2 : S1x768.Idx → EReal} {x3 : S6x128x128.Idx → EReal}
  {x4 : S6x128.Idx → EReal} {x5 : S4096x1024.Idx → EReal} (N : Num D x0 x1 x2 x3 x4 x5)

include N in
theorem v26_is : Is (val_main_v26 (F := Ideal) x0) fun i => D.mu (i 1).val :=
  Is.divf (φ := .f32)
    (fun i => (val_main_v24_apply (F := Ideal) x0 i).trans
      (sum_is (val_main_v23_apply x0 _) ofBits_zero fun _ => v22_is N _))
    (fun i => (val_main_v25_apply (F := Ideal) i).trans ofBits_768) fun _ => by norm_num

include N in
theorem v28_is : Is (val_main_v28 (F := Ideal) x0) fun i => D.cen (i 1).val (i 2).val :=
  Is.subf (φ := .f32) (v22_is N) fun i => (val_main_v27_apply (F := Ideal) x0 i).trans (v26_is N _)

include N in
theorem v31_is : Is (val_main_v31 (F := Ideal) x0) fun i => 2 * D.cen (i 1).val (i 2).val :=
  Is.mulf (φ := .f32) (fun i => (val_main_v30_apply (F := Ideal) i).trans ofBits_two) (v28_is N)

include N in
theorem v35_is : Is (val_main_v35 (F := Ideal) x0) fun i => D.var (i 1).val :=
  Is.divf (φ := .f32)
    (fun i => (val_main_v33_apply (F := Ideal) x0 i).trans
      (sum_is (val_main_v32_apply x0 _) ofBits_zero fun _ => Is.mulf (φ := .f32) (v28_is N) (v28_is N) _))
    (fun i => (val_main_v34_apply (F := Ideal) i).trans ofBits_768) fun _ => by norm_num

include N in
theorem v37_is : Is (val_main_v37 (F := Ideal) x0) fun i => D.cen (i 1).val (i 2).val :=
  Is.subf (φ := .f32) (v22_is N) fun i => (val_main_v36_apply (F := Ideal) x0 i).trans (v26_is N _)

include N in
theorem v39_is : Is (val_main_v39 (F := Ideal) x0) fun i => D.var (i 1).val + eps :=
  Is.addf (φ := .f32) (v35_is N) fun i => (val_main_v38_apply (F := Ideal) i).trans ofBits_eps

include N in
theorem v40_is : Is (val_main_v40 (F := Ideal) x0) fun i => D.rs (i 1).val :=
  Is.rsqrt (φ := .f32) (v39_is N) fun i => D.var_eps_pos _

include N in
theorem v43_is : Is (val_main_v43 (F := Ideal) x0) fun i => -1 / 2 * (D.rs (i 1).val / (D.var (i 1).val + eps)) :=
  Is.mulf (φ := .f32) (fun i => (val_main_v42_apply (F := Ideal) i).trans ofBits_neg_half)
    (Is.divf (φ := .f32) (v40_is N) (v39_is N) fun i => (D.var_eps_pos _).ne')

include N in
theorem v45_is : Is (val_main_v45 (F := Ideal) x0) fun i => D.vh (i 1).val (i 2).val :=
  Is.mulf (φ := .f32) (v37_is N) fun i => (val_main_v44_apply (F := Ideal) x0 i).trans (v40_is N _)

theorem mod_768 {a : ℕ} (h : a < 768) : a % 768 = a := Nat.mod_eq_of_lt h

include N in
theorem v46_is : Is (val_main_v46 (F := Ideal) x1) fun i => D.lg (i 2).val := fun i =>
  (val_main_v46_apply (F := Ideal) x1 i).trans ((val_main_v2_apply (F := Ideal) x1 _).trans ((N.lg _).trans
    (congrArg (fun a : ℕ => ((D.lg a : ℝ) : EReal)) (mod_768 (i 2).isLt))))

include N in
theorem v50_is : Is (val_main_v50 (F := Ideal) x2) fun i => D.lb (i 2).val := fun i =>
  (val_main_v50_apply (F := Ideal) x2 i).trans ((val_main_v49_apply (F := Ideal) x2 _).trans
    ((val_main_v3_apply (F := Ideal) x2 _).trans ((N.lb _).trans
    (congrArg (fun a : ℕ => ((D.lb a : ℝ) : EReal)) (mod_768 (i 2).isLt)))))

include N in
theorem v51_is : Is (val_main_v51 (F := Ideal) x0 x1 x2) fun i => D.vn (i 1).val (i 2).val :=
  Is.addf (φ := .f32) (Is.mulf (φ := .f32) (v45_is N)
    fun i => (val_main_v47_apply (F := Ideal) x1 i).trans (v46_is N _)) (v50_is N)

/-- The position of chunk `n`, row `t`, head `g`, column `c` in the row-major order, as a row and a column. -/
theorem chunk_row {z n t g c : ℕ} (hz : z < 1) (hn : n < 32) (ht : t < 128) (hg : g < 6) (hc : c < 128) :
    ((((z * 32 + n) * 128 + t) * 6 + g) * 128 + c) / 768 % 4096 = 128 * n + t := by omega
theorem chunk_col {z n t g c : ℕ} (hz : z < 1) (hn : n < 32) (ht : t < 128) (hg : g < 6) (hc : c < 128) :
    ((((z * 32 + n) * 128 + t) * 6 + g) * 128 + c) % 768 = 128 * g + c := by omega

theorem congr₂ (f : ℕ → ℕ → ℝ) {a b a' b' : ℕ} (ha : a = a') (hb : b = b') :
    ((f a b : ℝ) : EReal) = ((f a' b' : ℝ) : EReal) := by rw [ha, hb]

include N in
theorem v52_is : Is (val_main_v52 (F := Ideal) x0 x1 x2) fun i =>
    D.vn (128 * (i 1).val + (i 2).val) (128 * (i 3).val + (i 4).val) := fun i =>
  (val_main_v52_apply (F := Ideal) x0 x1 x2 i).trans ((v51_is N _).trans (congr₂ D.vn
    (chunk_row (i 0).isLt (i 1).isLt (i 2).isLt (i 3).isLt (i 4).isLt)
    (chunk_col (i 0).isLt (i 1).isLt (i 2).isLt (i 3).isLt (i 4).isLt)))

/-- The lower triangle of ones. -/
theorem v54_is : Is (val_main_v54 (F := Ideal)) fun i => if (i 1).val ≤ (i 0).val then 1 else 0 := fun i => by
  have e : val_main_v54 (F := Ideal) i =
      Scalar.select (IntOp.cmpi .sge (BitVec.ofNat 32 (i 0).val) (BitVec.ofNat 32 (i 1).val))
        (Ideal.ofBits .f32 0x3F800000#32) (Ideal.ofBits .f32 0x00000000#32) := by
    rw [val_main_v54_apply, val_main_call0_v4_apply, val_main_call0_v2_apply, val_main_call0_v1_apply,
      val_main_call0_c_apply, val_main_call0_v0_apply, val_main_call0_v3_apply, val_main_v53_apply,
      val_main_call0_v5_apply]
    unfold IntOp.addi
    rw [BitVec.add_zero]
    rfl
  rw [e, Chunk.select_tril (i 0).isLt (i 1).isLt, ofBits_one, ofBits_zero]
  exact (apply_ite (fun a : ℝ => (a : EReal)) _ _ _).symm

include N in
theorem v57_is : Is (val_main_v57 (F := Ideal) x3) fun i => D.wm (i 0).val (i 1).val (i 2).val :=
  Is.congr (φ := .f32) (Is.mulf (φ := .f32) N.w fun i => (val_main_v56_apply (F := Ideal) i).trans
    ((val_main_v55_apply (F := Ideal) _).trans (v54_is _))) fun i => by
    unfold Args.wm
    show _ * (if (i 2).val ≤ (i 1).val then (1 : ℝ) else 0) = _
    split <;> simp

end Cert.Gmlp
-- ==== Proof.RefMix.lean ====
module

public import proofs.«01_k».proof.Proof.RefNorm

/-! The reference's mixing of rows, and the gradients through it. -/

@[expose] public section

set_option maxRecDepth 16384

noncomputable section

namespace Cert.Gmlp

open Idealize.ShloMosaic Cert.ReferenceIdeal Cert.ReferenceIdeal.Gen Cert.ReferenceIdeal.Read

variable {D : Args} {x0 : S4096x1792.Idx → EReal} {x1 x2 : S1x768.Idx → EReal} {x3 : S6x128x128.Idx → EReal}
  {x4 : S6x128.Idx → EReal} {x5 : S4096x1024.Idx → EReal} (N : Num D x0 x1 x2 x3 x4 x5)

/-- The position of row `r`, column `c` in the row-major order, as a chunk, a row of it, a head and a column of it. -/
theorem row_chunk {z r c : ℕ} (hz : z < 1) (hr : r < 4096) (hc : c < 768) :
    ((z * 4096 + r) * 768 + c) / 98304 % 32 = r / 128 := by omega
theorem row_row {z r c : ℕ} (hz : z < 1) (hr : r < 4096) (hc : c < 768) :
    ((z * 4096 + r) * 768 + c) / 768 % 128 = r % 128 := by omega
theorem row_head {z r c : ℕ} (hz : z < 1) (hr : r < 4096) (hc : c < 768) :
    ((z * 4096 + r) * 768 + c) / 128 % 6 = c / 128 := by omega
theorem row_col {z r c : ℕ} (hz : z < 1) (hr : r < 4096) (hc : c < 768) :
    ((z * 4096 + r) * 768 + c) % 128 = c % 128 := by omega

include N in
theorem v58_is : Is (val_main_v58 (F := Ideal) x0 x1 x2 x3) fun i => ∑ s : Fin 128,
    D.vn (128 * (i 2).val + s.val) (128 * (i 0).val + (i 3).val) * D.wm (i 0).val (i 4).val s.val := fun i =>
  dot_is (val_main_v58_apply x0 x1 x2 x3 i) (fun _ => v52_is N _) fun _ => v57_is N _

include N in
theorem v62_is : Is (val_main_v62 (F := Ideal) x4) fun i => D.b (i 3).val (i 2).val := fun i =>
  (val_main_v62_apply (F := Ideal) x4 i).trans ((val_main_v61_apply (F := Ideal) x4 _).trans
    ((val_main_v60_apply (F := Ideal) x4 _).trans (N.b _)))

include N in
theorem v63_is : Is (val_main_v63 (F := Ideal) x0 x1 x2 x3 x4) fun i => (∑ s : Fin 128,
    D.vn (128 * (i 1).val + s.val) (128 * (i 3).val + (i 4).val) * D.wm (i 3).val (i 2).val s.val)
      + D.b (i 3).val (i 2).val :=
  Is.addf (φ := .f32) (fun i => (val_main_v59_apply (F := Ideal) x0 x1 x2 x3 i).trans (v58_is N _)) (v62_is N)

/-- The mixed value of row `t` of chunk `n`, at column `c` of head `g`. -/
def mixed (D : Args) (n t g c : ℕ) : ℝ :=
  (∑ s : Fin 128, D.vn (128 * n + s.val) (128 * g + c) * D.wm g t s.val) + D.b g t

theorem mixed_eq (D : Args) (r c : ℕ) : mixed D (r / 128) (r % 128) (c / 128) (c % 128) = D.sv r c := by
  unfold mixed Args.sv
  rw [show 128 * (c / 128) + c % 128 = c by omega]
  exact congrArg (· + _) (Finset.sum_congr rfl fun s _ => mul_comm _ _)

theorem congr₄ (f : ℕ → ℕ → ℕ → ℕ → ℝ) {a b c d a' b' c' d' : ℕ} (ha : a = a') (hb : b = b') (hc : c = c')
    (hd : d = d') : ((f a b c d : ℝ) : EReal) = ((f a' b' c' d' : ℝ) : EReal) := by rw [ha, hb, hc, hd]

include N in
theorem v64_is : Is (val_main_v64 (F := Ideal) x0 x1 x2 x3 x4) fun i => D.sv (i 1).val (i 2).val := fun i =>
  (val_main_v64_apply (F := Ideal) x0 x1 x2 x3 x4 i).trans ((v63_is N _).trans
    ((congr₄ (mixed D) (row_chunk (i 0).isLt (i 1).isLt (i 2).isLt) (row_row (i 0).isLt (i 1).isLt (i 2).isLt)
      (row_head (i 0).isLt (i 1).isLt (i 2).isLt) (row_col (i 0).isLt (i 1).isLt (i 2).isLt)).trans
      (congrArg _ (mixed_eq D _ _))))

include N in
theorem v67_is : Is (val_main_v67 (F := Ideal) x5) fun i => D.t (i 1).val (i 2).val := fun i =>
  (val_main_v67_apply (F := Ideal) x5 i).trans ((val_main_v66_apply (F := Ideal) x5 _).trans (N.t _ (i 2).isLt))

include N in
theorem v68_is : Is (val_main_v68 (F := Ideal) x0 x5) fun i => D.dsv (i 1).val (i 2).val :=
  Is.congr (φ := .f32) (Is.mulf (φ := .f32) (v21_is N) (v67_is N)) fun _ => mul_comm _ _

include N in
theorem v69_is : Is (val_main_v69 (F := Ideal) x0 x1 x2 x3 x4 x5) fun i =>
    D.t (i 1).val (i 2).val * D.sv (i 1).val (i 2).val := Is.mulf (φ := .f32) (v67_is N) (v64_is N)

include N in
theorem v70_is : Is (val_main_v70 (F := Ideal) x0 x5) fun i =>
    D.dsv (128 * (i 1).val + (i 2).val) (128 * (i 3).val + (i 4).val) := fun i =>
  (val_main_v70_apply (F := Ideal) x0 x5 i).trans ((v68_is N _).trans (congr₂ D.dsv
    (chunk_row (i 0).isLt (i 1).isLt (i 2).isLt (i 3).isLt (i 4).isLt)
    (chunk_col (i 0).isLt (i 1).isLt (i 2).isLt (i 3).isLt (i 4).isLt)))

include N in
theorem v75_is : Is (val_main_v75 (F := Ideal) x0 x5) fun i =>
    D.dsv (128 * (i 2).val + (i 4).val) (128 * (i 0).val + (i 3).val) := fun i =>
  (val_main_v75_apply (F := Ideal) x0 x5 i).trans (v70_is N _)

include N in
theorem v77_is : Is (val_main_v77 (F := Ideal) x0 x3 x5) fun i => ∑ t : Fin 128,
    D.dsv (128 * (i 2).val + t.val) (128 * (i 0).val + (i 3).val) * D.wm (i 0).val t.val (i 4).val := fun i =>
  dot_is (val_main_v77_apply x0 x3 x5 i) (fun _ => v75_is N _) fun _ => v57_is N _

/-- The gradient at the normed row `s` of chunk `n`, at column `c` of head `g`. -/
def dmixed (D : Args) (n s g c : ℕ) : ℝ := ∑ t : Fin 128, D.dsv (128 * n + t.val) (128 * g + c) * D.wm g t.val s

theorem dmixed_eq (D : Args) (r c : ℕ) : dmixed D (r / 128) (r % 128) (c / 128) (c % 128) = D.dvn r c := by
  unfold dmixed Args.dvn
  rw [show 128 * (c / 128) + c % 128 = c by omega]
  exact Finset.sum_congr rfl fun s _ => mul_comm _ _

include N in
theorem v81_is : Is (val_main_v81 (F := Ideal) x0 x3 x5) fun i => D.dvn (i 1).val (i 2).val := fun i =>
  (val_main_v81_apply (F := Ideal) x0 x3 x5 i).trans ((val_main_v78_apply (F := Ideal) x0 x3 x5 _).trans
    ((v77_is N _).trans ((congr₄ (dmixed D) (row_chunk (i 0).isLt (i 1).isLt (i 2).isLt)
      (row_row (i 0).isLt (i 1).isLt (i 2).isLt) (row_head (i 0).isLt (i 1).isLt (i 2).isLt)
      (row_col (i 0).isLt (i 1).isLt (i 2).isLt)).trans (congrArg _ (dmixed_eq D _ _)))))

/-! The gradient of the offsets: a sum over the chunks and a head's columns. -/

/-- The index of chunk `n`, row `t`, head `g`, column `c`. -/
def at5 (t : Fin 128) (g : Fin 6) (p : Fin 32 × Fin 128) : S1x32x128x6x128.Idx := fun a => match a with
  | ⟨0, _⟩ => ⟨0, Nat.one_pos⟩
  | ⟨1, _⟩ => p.1
  | ⟨2, _⟩ => t
  | ⟨3, _⟩ => g
  | ⟨4, _⟩ => p.2

theorem at5_inj (t : Fin 128) (g : Fin 6) : Function.Injective (at5 t g) := fun p q h =>
  Prod.ext (congrFun h 1) (congrFun h 4)

include N in
theorem v71_is : Is (val_main_v71 (F := Ideal) x0 x5) fun i => D.db (i 2).val (i 1).val := fun i => by
  have e := sum_is (reduce_range reducesTo_S1x32x128x6x128_S1x128x6_d1_4 (val_main_v70 (F := Ideal) x0 x5)
    (Ideal.ofBits .f32 0x00000000#32) i (at5 (i 1) (i 2)) (at5_inj _ _) (fun p => funext fun b => Fin.ext (by
      match b with
      | ⟨0, _⟩ => have h := (i 0).isLt; change (i 0).val < 1 at h; show 0 = (i 0).val; omega
      | ⟨1, _⟩ => rfl
      | ⟨2, _⟩ => rfl)) fun k hk => ⟨(k 1, k 4), funext fun b => Fin.ext (by
      match b with
      | ⟨0, _⟩ => have h := (k 0).isLt; change (k 0).val < 1 at h; show 0 = (k 0).val; omega
      | ⟨1, _⟩ => rfl
      | ⟨2, _⟩ => exact (congrArg Fin.val (congrFun hk 1)).symm
      | ⟨3, _⟩ => exact (congrArg Fin.val (congrFun hk 2)).symm
      | ⟨4, _⟩ => rfl)⟩) ofBits_zero fun p => v70_is N _
  refine Eq.trans ?_ (e.trans (congrArg _ ?_))
  · rfl
  · unfold Args.db Args.dbc
    exact Fintype.sum_prod_type' fun (n : Fin 32) (c : Fin 128) =>
      D.dsv (128 * n.val + (i 1).val) (128 * (i 2).val + c.val)

include N in
theorem v73_is : Is (val_main_v73 (F := Ideal) x0 x5) fun i => D.db (i 1).val (i 0).val := fun i => by
  let k : S1x1x128x6x1.Idx := fun a => match a with
    | ⟨0, _⟩ => ⟨0, Nat.one_pos⟩
    | ⟨1, _⟩ => ⟨0, Nat.one_pos⟩
    | ⟨2, _⟩ => i 0
    | ⟨3, _⟩ => i 1
    | ⟨4, _⟩ => ⟨0, Nat.one_pos⟩
  have e : val_main_v73 (F := Ideal) x0 x5 i = Ideal.ofBits .f32 0x00000000#32 + val_main_v72 (F := Ideal) x0 x5 k :=
    reduce_one reducesTo_S1x1x128x6x1_S128x6_d0_1_4 (val_main_v72 (F := Ideal) x0 x5) (Ideal.ofBits .f32 0x00000000#32) i k
      (funext fun b => Fin.ext (by
        match b with
        | ⟨0, _⟩ => rfl
        | ⟨1, _⟩ => rfl)) fun q hq => funext fun b => Fin.ext (by
        match b with
        | ⟨0, _⟩ => have h := (q 0).isLt; change (q 0).val < 1 at h; show 0 = (q 0).val; omega
        | ⟨1, _⟩ => have h := (q 1).isLt; change (q 1).val < 1 at h; show 0 = (q 1).val; omega
        | ⟨2, _⟩ => exact (congrArg Fin.val (congrFun hq 0)).symm
        | ⟨3, _⟩ => exact (congrArg Fin.val (congrFun hq 1)).symm
        | ⟨4, _⟩ => have h := (q 4).isLt; change (q 4).val < 1 at h; show 0 = (q 4).val; omega)
  rw [e, val_main_v72_apply, v71_is N, ofBits_zero, EReal.coe_zero, zero_add]
  refine congr₂ D.db ?_ ?_
  · have h0 : (i 0).val < 128 := (i 0).isLt
    have h1 : (i 1).val < 6 := (i 1).isLt
    show ((((0 * 1 + 0) * 128 + (i 0).val) * 6 + (i 1).val) * 1 + 0) % 6 = (i 1).val
    omega
  · have h0 : (i 0).val < 128 := (i 0).isLt
    have h1 : (i 1).val < 6 := (i 1).isLt
    show ((((0 * 1 + 0) * 128 + (i 0).val) * 6 + (i 1).val) * 1 + 0) / 6 % 128 = (i 0).val
    omega

include N in
theorem v130_is : Is (val_main_v130 (F := Ideal) x0 x5) fun i => D.db (i 0).val (i 1).val := fun i =>
  (val_main_v130_apply (F := Ideal) x0 x5 i).trans ((val_main_v74_apply (F := Ideal) x0 x5 _).trans (v73_is N _))

/-! The gradient of the weights: a product contracted over the chunks and a head's columns. -/

abbrev d76 := dot_S6x1x32x128x128_S1x32x128x6x128_S6x128x128_123_014_4_2_0_3

/-- The contraction's index of chunk `n` and column `c`. -/
def atC (p : Fin 32 × Fin 128) : d76.contr.Idx := fun a => match a with
  | ⟨0, _⟩ => ⟨0, Nat.one_pos⟩
  | ⟨1, _⟩ => p.1
  | ⟨2, _⟩ => p.2

theorem atC_bij : Function.Bijective atC := by
  refine ⟨fun p q h => Prod.ext (congrFun h ⟨1, by decide⟩) (congrFun h ⟨2, by decide⟩), fun q => ?_⟩
  refine ⟨(q ⟨1, by decide⟩, q ⟨2, by decide⟩), funext fun a => Fin.ext ?_⟩
  match a with
  | ⟨0, _⟩ => have h := (q ⟨0, by decide⟩).isLt; change (q ⟨0, by decide⟩).val < 1 at h; show 0 = (q ⟨0, by decide⟩).val; omega
  | ⟨1, _⟩ => rfl
  | ⟨2, _⟩ => rfl

theorem lhs76 (i : S6x128x128.Idx) (p : Fin 32 × Fin 128) :
    (d76.lhsIdx i (atC p) 0).val = (i 0).val ∧ (d76.lhsIdx i (atC p) 2).val = p.1.val
      ∧ (d76.lhsIdx i (atC p) 3).val = p.2.val ∧ (d76.lhsIdx i (atC p) 4).val = (i 1).val := ⟨rfl, rfl, rfl, rfl⟩

theorem rhs76 (i : S6x128x128.Idx) (p : Fin 32 × Fin 128) :
    (d76.rhsIdx i (atC p) 1).val = p.1.val ∧ (d76.rhsIdx i (atC p) 2).val = (i 2).val
      ∧ (d76.rhsIdx i (atC p) 3).val = (i 0).val ∧ (d76.rhsIdx i (atC p) 4).val = p.2.val := ⟨rfl, rfl, rfl, rfl⟩

include N in
theorem v76_is : Is (val_main_v76 (F := Ideal) x0 x1 x2 x5) fun i => ∑ n : Fin 32, ∑ c : Fin 128,
    D.dsv (128 * n.val + (i 1).val) (128 * (i 0).val + c.val) *
      D.vn (128 * n.val + (i 2).val) (128 * (i 0).val + c.val) := fun i => by
  have e : val_main_v76 (F := Ideal) x0 x1 x2 x5 i = ∑ p : Fin 32 × Fin 128,
      val_main_v75 (F := Ideal) x0 x5 (d76.lhsIdx i (atC p)) * val_main_v52 (F := Ideal) x0 x1 x2 (d76.rhsIdx i (atC p)) := by
    unfold val_main_v76
    simp only [Host.dotGeneral]
    rw [Ideal.dotGeneral_apply]
    exact (Function.Bijective.sum_comp atC_bij fun q =>
      val_main_v75 (F := Ideal) x0 x5 (d76.lhsIdx i q) * val_main_v52 (F := Ideal) x0 x1 x2 (d76.rhsIdx i q)).symm
  refine (dot_is e (fun _ => v75_is N _) fun _ => v52_is N _).trans (congrArg _ ?_)
  refine Eq.trans (Finset.sum_congr rfl fun p _ => ?_) (Fintype.sum_prod_type' fun (n : Fin 32) (c : Fin 128) =>
    D.dsv (128 * n.val + (i 1).val) (128 * (i 0).val + c.val) *
      D.vn (128 * n.val + (i 2).val) (128 * (i 0).val + c.val))
  dsimp only
  obtain ⟨l0, l2, l3, l4⟩ := lhs76 i p
  obtain ⟨r1, r2, r3, r4⟩ := rhs76 i p
  rw [l0, l2, l3, l4, r1, r2, r3, r4]

include N in
theorem v80_is : Is (val_main_v80 (F := Ideal) x0 x1 x2 x5) fun i => D.dw (i 0).val (i 1).val (i 2).val :=
  Is.congr (φ := .f32) (Is.mulf (φ := .f32) (v76_is N) fun i => (val_main_v79_apply (F := Ideal) i).trans
    ((val_main_v55_apply (F := Ideal) _).trans (v54_is _))) fun i => by
    unfold Args.dw Args.dwc
    show _ * (if (i 2).val ≤ (i 1).val then (1 : ℝ) else 0) = _
    by_cases h : (i 2).val ≤ (i 1).val <;> simp [h]

end Cert.Gmlp
-- ==== Proof.RefGrad.lean ====
module

public import proofs.«01_k».proof.Proof.RefMix

/-! The reference's gradient through the layer norm, and its five results. -/

@[expose] public section

set_option maxRecDepth 16384

noncomputable section

namespace Cert.Gmlp

open Idealize.ShloMosaic Cert.ReferenceIdeal Cert.ReferenceIdeal.Gen Cert.ReferenceIdeal.Read

/-! The equation: the reference differentiates the mean and the variance one by one, the gradient written out has them
together. -/

section Norm

variable (D : Args)

theorem rs_mul_rs (r : ℕ) : D.rs r * D.rs r = 1 / (D.var r + eps) := by
  unfold Args.rs
  rw [← mul_inv, Real.mul_self_sqrt (D.var_eps_pos r).le, one_div]

theorem sum_cen (r : ℕ) : ∑ c : Fin 768, D.cen r c.val = 0 := by
  unfold Args.cen
  rw [Finset.sum_sub_distrib, Finset.sum_const, Finset.card_univ, Fintype.card_fin]
  unfold Args.mu
  rw [nsmul_eq_mul]
  push_cast
  ring

/-- The part of the gradient that comes from the variance. -/
def dvar (r c : ℕ) : ℝ :=
  (∑ k : Fin 768, D.cen r k.val * D.dvh r k.val) * (-1 / 2 * (D.rs r / (D.var r + eps))) / 768 * (2 * D.cen r c)

theorem dvar_eq (r c : ℕ) : dvar D r c = -(D.rs r * (D.vh r c * D.mdvhv r)) := by
  have e : ∑ k : Fin 768, D.dvh r k.val * D.vh r k.val = D.rs r * ∑ k : Fin 768, D.cen r k.val * D.dvh r k.val := by
    rw [Finset.mul_sum]
    exact Finset.sum_congr rfl fun k _ => by unfold Args.vh; ring
  unfold dvar Args.mdvhv
  rw [e, div_eq_mul_one_div (D.rs r), ← rs_mul_rs]
  unfold Args.vh
  ring

theorem sum_dvar (r : ℕ) : ∑ c : Fin 768, -dvar D r c.val = 0 := by
  have e : ∀ c : Fin 768, -dvar D r c.val = D.rs r * D.rs r * D.mdvhv r * D.cen r c.val := fun c => by
    rw [dvar_eq]; unfold Args.vh; ring
  rw [Finset.sum_congr rfl fun c _ => e c, ← Finset.mul_sum, sum_cen, mul_zero]

theorem dzv_eq (r c : ℕ) : D.dvh r c * D.rs r + dvar D r c +
    ((∑ k : Fin 768, -(D.dvh r k.val * D.rs r)) + ∑ k : Fin 768, -dvar D r k.val) / 768 = D.dzv r c := by
  rw [sum_dvar, dvar_eq, Finset.sum_neg_distrib, ← Finset.sum_mul]
  unfold Args.dzv Args.mdvh
  ring

end Norm

variable {D : Args} {x0 : S4096x1792.Idx → EReal} {x1 x2 : S1x768.Idx → EReal} {x3 : S6x128x128.Idx → EReal}
  {x4 : S6x128.Idx → EReal} {x5 : S4096x1024.Idx → EReal} (N : Num D x0 x1 x2 x3 x4 x5)

/-- A host sum over axes of length one, around the row's axis or before the column's. -/
theorem row_one (h : S1x4096x1.ReducesTo [0, 2] S4096) (x : S1x4096x1.Idx → EReal) (e : EReal) (i : S4096.Idx)
    (k : S1x4096x1.Idx) (hk : (k 1).val = (i 0).val) : Ideal.hostReduceAdd h x e i = e + x k :=
  reduce_one h x e i k (funext fun b => Fin.ext (by
    match b with
    | ⟨0, _⟩ => exact hk)) fun q hq => funext fun b => Fin.ext (by
    match b with
    | ⟨0, _⟩ => have h := (q 0).isLt; have h' := (k 0).isLt; change (q 0).val < 1 at h; change (k 0).val < 1 at h'; show (k 0).val = (q 0).val; omega
    | ⟨1, _⟩ => exact hk.trans (congrArg Fin.val (congrFun hq 0)).symm
    | ⟨2, _⟩ => have h := (q 2).isLt; have h' := (k 2).isLt; change (q 2).val < 1 at h; change (k 2).val < 1 at h'; show (k 2).val = (q 2).val; omega)

theorem col_one (h : S1x1x768.ReducesTo [0, 1] S768) (x : S1x1x768.Idx → EReal) (e : EReal) (i : S768.Idx)
    (k : S1x1x768.Idx) (hk : (k 2).val = (i 0).val) : Ideal.hostReduceAdd h x e i = e + x k :=
  reduce_one h x e i k (funext fun b => Fin.ext (by
    match b with
    | ⟨0, _⟩ => exact hk)) fun q hq => funext fun b => Fin.ext (by
    match b with
    | ⟨0, _⟩ => have h := (q 0).isLt; have h' := (k 0).isLt; change (q 0).val < 1 at h; change (k 0).val < 1 at h'; show (k 0).val = (q 0).val; omega
    | ⟨1, _⟩ => have h := (q 1).isLt; have h' := (k 1).isLt; change (q 1).val < 1 at h; change (k 1).val < 1 at h'; show (k 1).val = (q 1).val; omega
    | ⟨2, _⟩ => exact hk.trans (congrArg Fin.val (congrFun hq 0)).symm)

/-- The index of row `r` in an array of rows, and of column `c` in an array of columns. -/
def rowAt (i : S4096.Idx) : S1x4096x1.Idx := fun a => match a with
  | ⟨0, _⟩ => ⟨0, Nat.one_pos⟩
  | ⟨1, _⟩ => i 0
  | ⟨2, _⟩ => ⟨0, Nat.one_pos⟩
def colAt (i : S768.Idx) : S1x1x768.Idx := fun a => match a with
  | ⟨0, _⟩ => ⟨0, Nat.one_pos⟩
  | ⟨1, _⟩ => ⟨0, Nat.one_pos⟩
  | ⟨2, _⟩ => i 0

theorem zero_add_is {z e a : EReal} {r : ℝ} (h : z = e + a) (he : e = ((0 : ℝ) : EReal)) (ha : a = (r : EReal)) :
    z = (r : EReal) := by rw [h, he, ha, EReal.coe_zero, zero_add]

theorem row_mod {z r k : ℕ} (hz : z < 1) (hr : r < 4096) (hk : k < 1) : ((z * 4096 + r) * 1 + k) % 4096 = r := by omega
theorem col_mod {z k c : ℕ} (hz : z < 1) (hk : k < 1) (hc : c < 768) : ((z * 1 + k) * 768 + c) % 768 = c := by omega

theorem congr₁ (f : ℕ → ℝ) {a b : ℕ} (h : a = b) : ((f a : ℝ) : EReal) = ((f b : ℝ) : EReal) := by rw [h]

include N in
theorem v132_is : Is (val_main_v132 (F := Ideal) x0 x3 x5) fun i => D.dlb (i 1).val := fun i => by
  rw [val_main_v132_apply]
  refine zero_add_is (col_one reducesTo_S1x1x768_S768_d0_1 (val_main_v83 (F := Ideal) x0 x3 x5)
    (Ideal.ofBits .f32 0x00000000#32) (idx_main_v132 i) (colAt (idx_main_v132 i)) rfl) ofBits_zero ?_
  rw [val_main_v83_apply]
  refine (sum_is (val_main_v82_apply x0 x3 x5 _) ofBits_zero fun k => v81_is N _).trans
    ((congrArg _ (sum_rows fun r => D.dvn r _)).trans (congr₁ D.dlb (col_mod Nat.one_pos Nat.one_pos (i 1).isLt)))

include N in
theorem v131_is : Is (val_main_v131 (F := Ideal) x0 x3 x5) fun i => D.dlg (i 1).val := fun i => by
  rw [val_main_v131_apply]
  refine zero_add_is (col_one reducesTo_S1x1x768_S768_d0_1 (val_main_v87 (F := Ideal) x0 x3 x5)
    (Ideal.ofBits .f32 0x00000000#32) (idx_main_v131 i) (colAt (idx_main_v131 i)) rfl) ofBits_zero ?_
  rw [val_main_v87_apply]
  refine (sum_is (val_main_v86_apply x0 x3 x5 _) ofBits_zero fun k =>
      Is.mulf (φ := .f32) (v45_is N) (v81_is N) _).trans
    ((congrArg _ (sum_rows fun r => D.vh r _ * D.dvn r _)).trans ((congrArg _ ?_).trans
      (congr₁ D.dlg (col_mod Nat.one_pos Nat.one_pos (i 1).isLt))))
  unfold Args.dlg Args.dgc
  exact Finset.sum_congr rfl fun _ _ => Finset.sum_congr rfl fun _ _ => mul_comm _ _

include N in
theorem v89_is : Is (val_main_v89 (F := Ideal) x0 x1 x3 x5) fun i => D.dvh (i 1).val (i 2).val :=
  Is.mulf (φ := .f32) (v81_is N) fun i => (val_main_v88_apply (F := Ideal) x1 i).trans (v46_is N _)

include N in
theorem v93_is : Is (val_main_v93 (F := Ideal) x0 x1 x3 x5) fun i =>
    ∑ c : Fin 768, D.cen (i 1).val c.val * D.dvh (i 1).val c.val := fun i =>
  (val_main_v93_apply (F := Ideal) x0 x1 x3 x5 i).trans
    ((sum_is (val_main_v92_apply x0 x1 x3 x5 _) ofBits_zero fun _ => Is.mulf (φ := .f32) (v37_is N) (v89_is N) _).trans
      (congr₁ (fun r => ∑ c : Fin 768, D.cen r c.val * D.dvh r c.val) (row_mod (i 0).isLt (i 1).isLt (i 2).isLt)))

include N in
theorem v95_is : Is (val_main_v95 (F := Ideal) x0 x1 x3 x5) fun i => D.dvh (i 1).val (i 2).val * D.rs (i 1).val :=
  Is.mulf (φ := .f32) (v89_is N) fun i => (val_main_v94_apply (F := Ideal) x0 i).trans (v40_is N _)

include N in
theorem v101_is : Is (val_main_v101 (F := Ideal) x0 x1 x3 x5) fun i =>
    (∑ k : Fin 768, D.cen (i 1).val k.val * D.dvh (i 1).val k.val) *
      (-1 / 2 * (D.rs (i 1).val / (D.var (i 1).val + eps))) / 768 :=
  Is.divf (φ := .f32) (Is.mulf (φ := .f32) (v93_is N) (v43_is N))
    (fun i => (val_main_v100_apply (F := Ideal) i).trans ofBits_768) fun _ => by norm_num

include N in
theorem v102_is : Is (val_main_v102 (F := Ideal) x0 x1 x3 x5) fun i =>
    (∑ k : Fin 768, D.cen (i 0).val k.val * D.dvh (i 0).val k.val) *
      (-1 / 2 * (D.rs (i 0).val / (D.var (i 0).val + eps))) / 768 := fun i =>
  zero_add_is (row_one reducesTo_S1x4096x1_S4096_d0_2 (val_main_v101 (F := Ideal) x0 x1 x3 x5)
    (Ideal.ofBits .f32 0x00000000#32) i (rowAt i) rfl) ofBits_zero (v101_is N (rowAt i))

include N in
theorem v105_is : Is (val_main_v105 (F := Ideal) x0 x1 x3 x5) fun i => dvar D (i 1).val (i 2).val :=
  Is.mulf (φ := .f32) (fun i => (val_main_v104_apply (F := Ideal) x0 x1 x3 x5 i).trans
    ((val_main_v103_apply (F := Ideal) x0 x1 x3 x5 _).trans (v102_is N _))) (v31_is N)

theorem neg_is {S : Shape} {x : S.Idx → EReal} {f : S.Idx → ℝ} (h : Is x f) : Is (fun i => -x i) fun i => -f i :=
  fun i => by
  show -x i = _
  rw [h i, EReal.coe_neg]

include N in
theorem v99_is : Is (val_main_v99 (F := Ideal) x0 x1 x3 x5) fun i =>
    ∑ k : Fin 768, -(D.dvh (i 1).val k.val * D.rs (i 1).val) := fun i =>
  (val_main_v99_apply (F := Ideal) x0 x1 x3 x5 i).trans
    ((sum_is (val_main_v98_apply x0 x1 x3 x5 _) ofBits_zero fun _ => neg_is (v95_is N) _).trans
      (congr₁ (fun r => ∑ k : Fin 768, -(D.dvh r k.val * D.rs r)) (row_mod (i 0).isLt (i 1).isLt (i 2).isLt)))

include N in
theorem v108_is : Is (val_main_v108 (F := Ideal) x0 x1 x3 x5) fun i =>
    ∑ k : Fin 768, -dvar D (i 1).val k.val := fun i =>
  (val_main_v108_apply (F := Ideal) x0 x1 x3 x5 i).trans
    ((sum_is (val_main_v107_apply x0 x1 x3 x5 _) ofBits_zero fun _ => neg_is (v105_is N) _).trans
      (congr₁ (fun r => ∑ k : Fin 768, -dvar D r k.val) (row_mod (i 0).isLt (i 1).isLt (i 2).isLt)))

include N in
theorem v112_is : Is (val_main_v112 (F := Ideal) x0 x1 x3 x5) fun i =>
    ((∑ k : Fin 768, -(D.dvh (i 1).val k.val * D.rs (i 1).val)) + ∑ k : Fin 768, -dvar D (i 1).val k.val) / 768 :=
  Is.divf (φ := .f32) (Is.addf (φ := .f32) (v99_is N) (v108_is N))
    (fun i => (val_main_v111_apply (F := Ideal) i).trans ofBits_768) fun _ => by norm_num

include N in
theorem v113_is : Is (val_main_v113 (F := Ideal) x0 x1 x3 x5) fun i =>
    ((∑ k : Fin 768, -(D.dvh (i 0).val k.val * D.rs (i 0).val)) + ∑ k : Fin 768, -dvar D (i 0).val k.val) / 768 :=
  fun i => zero_add_is (row_one reducesTo_S1x4096x1_S4096_d0_2 (val_main_v112 (F := Ideal) x0 x1 x3 x5)
    (Ideal.ofBits .f32 0x00000000#32) i (rowAt i) rfl) ofBits_zero (v112_is N (rowAt i))

include N in
theorem v116_is : Is (val_main_v116 (F := Ideal) x0 x1 x3 x5) fun i => D.dzv (i 1).val (i 2).val :=
  Is.congr (φ := .f32) (Is.addf (φ := .f32) (Is.addf (φ := .f32) (v95_is N) (v105_is N))
    fun i => (val_main_v115_apply (F := Ideal) x0 x1 x3 x5 i).trans
      ((val_main_v114_apply (F := Ideal) x0 x1 x3 x5 _).trans (v113_is N _)))
    fun i => dzv_eq D _ _

/-- The two halves side by side. -/
theorem v117_eq (i : S1x4096x1536.Idx) : val_main_v117 (F := Ideal) x0 x1 x2 x3 x4 x5 i =
    if h : (i 2).val < 768 then val_main_v69 (F := Ideal) x0 x1 x2 x3 x4 x5 (ix3 0 (i 1) ⟨(i 2).val, h⟩)
    else val_main_v116 (F := Ideal) x0 x1 x3 x5 (ix3 0 (i 1)
      ⟨(i 2).val - 768, by have := (i 2).isLt; change (i 2).val < 1536 at this; omega⟩) := by
  unfold val_main_v117
  generalize val_main_v69 (F := Ideal) x0 x1 x2 x3 x4 x5 = a
  generalize val_main_v116 (F := Ideal) x0 x1 x3 x5 = b
  pointwise

/-- The gradient at `gelu`'s result. -/
def dz (D : Args) (r c : ℕ) : ℝ := if c < 768 then D.t r c * D.sv r c else D.dzv r (c - 768)

include N in
theorem v117_is : Is (val_main_v117 (F := Ideal) x0 x1 x2 x3 x4 x5) fun i => dz D (i 1).val (i 2).val := fun i => by
  rw [v117_eq]
  show _ = ((if (i 2).val < 768 then _ else _ : ℝ) : EReal)
  by_cases h : (i 2).val < 768
  · rw [dif_pos h, if_pos h]
    exact v69_is N _
  · rw [dif_neg h, if_neg h]
    exact v116_is N _

include N in
theorem v125_is : Is (val_main_v125 (F := Ideal) x0 x1 x2 x3 x4 x5) fun i => D.dp (i 1).val (i 2).val :=
  Is.congr (φ := .f32) (Is.addf (φ := .f32)
    (Is.divf (φ := .f32) (Is.mulf (φ := .f32) (Is.mulf (φ := .f32) (v5_is N) (v117_is N)) (v17_is N))
      (fun i => (val_main_v121_apply (F := Ideal) i).trans (v6_is _)) fun _ => sqrt_two_ne)
    (Is.mulf (φ := .f32) (fun i => (val_main_v123_apply (F := Ideal) i).trans ofBits_half)
      (Is.mulf (φ := .f32) (v117_is N) (v19_is N)))) fun i => by
    refine (dgelu_eq _ _).trans ?_
    unfold dz Args.dp Args.dpu Args.dpv
    split
    · rfl
    · rw [show 768 + ((i 2).val - 768) = (i 2).val by omega]

theorem flat_row {r c : ℕ} (hr : r < 4096) (hc : c < 1536) : (r * 1536 + c) / 1536 % 4096 = r := by omega
theorem flat_col {r c : ℕ} (hc : c < 1536) : (r * 1536 + c) % 1536 = c := by omega

include N in
theorem v126_is : Is (val_main_v126 (F := Ideal) x0 x1 x2 x3 x4 x5) fun i => D.dp (i 0).val (i 1).val := fun i =>
  (val_main_v126_apply (F := Ideal) x0 x1 x2 x3 x4 x5 i).trans ((v125_is N _).trans
    (congr₂ D.dp (flat_row (i 0).isLt (i 1).isLt) (flat_col (i 1).isLt)))

theorem v128_eq (i : S4096x1792.Idx) (h : (i 1).val < 1536) : val_main_v128 (F := Ideal) x0 x1 x2 x3 x4 x5 i =
    val_main_v126 (F := Ideal) x0 x1 x2 x3 x4 x5 (ix2 (i 0) ⟨(i 1).val, h⟩) := by
  unfold val_main_v128
  generalize val_main_v126 (F := Ideal) x0 x1 x2 x3 x4 x5 = a
  generalize val_main_v127 (F := Ideal) = b
  have e : concatenate S4096x1792 1 [⟨S4096x1536, a⟩, ⟨S4096x256, b⟩] concatenates_S4096x1536_S4096x256_S4096x1792_d1 i
      = if h : (i 1).val < 1536 then a (ix2 (i 0) ⟨(i 1).val, h⟩) else b (ix2 (i 0)
        ⟨(i 1).val - 1536, by have := (i 1).isLt; change (i 1).val < 1792 at this; omega⟩) := by pointwise
  rw [e, dif_pos h]

include N in
theorem v129_is (i : S4096x1792.Idx) (h : (i 1).val < 1536) :
    (val_main_v129 (F := Ideal) x0 x1 x2 x3 x4 x5 i : EReal) = ((D.dp (i 0).val (i 1).val : ℝ) : EReal) :=
  (v128_eq i h).trans (v126_is N _)

end Cert.Gmlp
-- ==== Proof.Finite.lean ====
module

public import proofs.«01_k».proof.Pre_finite
public import proofs.«01_k».proof.Proof.Blocks
public import Idealize.ShloMosaic.Lib.ReduceAll

/-! The precondition: arguments that are finite wherever the gradient reads them hold real numbers there. -/

@[expose] public section

set_option maxRecDepth 16384

noncomputable section

namespace Cert.Gmlp

open Idealize.ShloMosaic Cert.Pre_finite

instance pre_facts : Cert.Pre_finite.Facts := by constructor <;> decide

theorem ofBool_one {p : Prop} [Decidable p] (h : BitVec.ofBool (decide p) = 1#1) : p := by
  by_contra hp
  rw [decide_eq_false hp] at h
  exact absurd h (by decide)

/-- A number whose absolute value is below infinity is real. -/
theorem real_of_lt {x : EReal} (h : max x (-x) < ⊤) : x = ((x.toReal : ℝ) : EReal) := by
  refine (EReal.coe_toReal (fun e => ?_) fun e => ?_).symm
  · rw [e] at h; simp at h
  · rw [e] at h; simp at h

instance : Subsingleton S_.Idx := ⟨fun a b => funext fun k => k.elim0⟩

/-- `all (|x| < ∞)` gives each entry. -/
theorem all_real {S : Shape} {axes : List (Fin S.rank)} {x y : S.Idx → EReal} (hy : ∀ i, y i = ⊤) (h : S.ReducesTo axes S_)
    (hu : 0 < S_.numel) (k : S_.Idx → BitVec 1) (j : S_.Idx)
    (e : Host.reduce IntOp.andi (cmpf (F := Ideal) (φ := .f32) .olt (Host.absf (F := Ideal) (φ := .f32) x) y) k h hu j = 1#1)
    (i : S.Idx) : x i = (((x i).toReal : ℝ) : EReal) := by
  have a := Host.reduce_andi_all _ _ _ _ _ e i
  refine real_of_lt ?_
  have b : max (x i) (-x i) < y i := ofBool_one a
  rwa [hy i] at b

theorem top_is {S : Shape} (dims : Fin 0 → Fin S.rank) (h : S_.BroadcastsInDim S dims) (i : S.Idx) :
    (broadcastInDim S dims h (constant (F := Ideal) S_ .f32 0x7F800000#32) i : EReal) = ⊤ := ofBits_top

section Entries

variable (x0 : S4096x1792.Idx → EReal) (x1 x2 : S1x768.Idx → EReal) (x3 : S6x128x128.Idx → EReal)
  (x4 : S6x128.Idx → EReal) (x5 : S4096x1024.Idx → EReal)

/-- The real numbers that the arguments hold. -/
def args : Args where
  p r c := if h : r < 4096 ∧ c < 1792 then (x0 (ix2 ⟨r, h.1⟩ ⟨c, h.2⟩)).toReal else 0
  lg c := if h : c < 768 then (x1 (ix2 0 ⟨c, h⟩)).toReal else 0
  lb c := if h : c < 768 then (x2 (ix2 0 ⟨c, h⟩)).toReal else 0
  w g t s := if h : g < 6 ∧ t < 128 ∧ s < 128 then (x3 (ix3 ⟨g, h.1⟩ ⟨t, h.2.1⟩ ⟨s, h.2.2⟩)).toReal else 0
  b g t := if h : g < 6 ∧ t < 128 then (x4 (ix2 ⟨g, h.1⟩ ⟨t, h.2⟩)).toReal else 0
  t r c := if h : r < 4096 ∧ c < 1024 then (x5 (ix2 ⟨r, h.1⟩ ⟨c, h.2⟩)).toReal else 0

variable {x0 x1 x2 x3 x4 x5}

theorem num_of_finite (h : fn (F := Ideal) x0 x1 x2 x3 x4 x5 = fun _ => 1#1) :
    Num (args x0 x1 x2 x3 x4 x5) x0 x1 x2 x3 x4 x5 := by
  have e := congrFun h (fun k => k.elim0)
  dsimp only [fn, fn_part1] at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  have r0 := all_real (top_is _ _) _ _ _ _ h0
  have r1 := all_real (top_is _ _) _ _ _ _ h1
  have r2 := all_real (top_is _ _) _ _ _ _ h2
  have r3 := all_real (top_is _ _) _ _ _ _ h3
  have r4 := all_real (top_is _ _) _ _ _ _ h4
  have r5 := all_real (top_is _ _) _ _ _ _ h5
  have k2 : ∀ {a b : ℕ} (j : (⟨2, ![a, b]⟩ : Shape).Idx), ix2 (j 0) (j 1) = j := fun j => funext fun a => by
    match a with
    | ⟨0, _⟩ => rfl
    | ⟨1, _⟩ => rfl
  have k3 : ∀ {a b d : ℕ} (j : (⟨3, ![a, b, d]⟩ : Shape).Idx), ix3 (j 0) (j 1) (j 2) = j := fun j => funext fun a => by
    match a with
    | ⟨0, _⟩ => rfl
    | ⟨1, _⟩ => rfl
    | ⟨2, _⟩ => rfl
  have k1 : ∀ {b : ℕ} (j : (⟨2, ![1, b]⟩ : Shape).Idx), ix2 0 (j 1) = j := fun j => funext fun a => by
    match a with
    | ⟨0, _⟩ => exact Subsingleton.elim (α := Fin 1) _ _
    | ⟨1, _⟩ => rfl
  refine ⟨fun j hj => ?_, fun j => ?_, fun j => ?_, fun j => ?_, fun j => ?_, fun j hj => ?_⟩
  · show x0 j = ((if h : _ then _ else _ : ℝ) : EReal)
    rw [dif_pos (show (j 0).val < 4096 ∧ (j 1).val < 1792 from ⟨(j 0).isLt, (j 1).isLt⟩)]
    refine Eq.trans ?_ ((r0 (ix2 (j 0) ⟨(j 1).val, hj⟩)).trans ?_)
    · refine Eq.trans (congrArg x0 (k2 j).symm) (Eq.symm ?_)
      exact extractStridedSlice_apply _ _ _ _ _ fun a => by
        match a with
        | ⟨0, _⟩ => exact (Nat.zero_add _).symm
        | ⟨1, _⟩ => exact (Nat.zero_add _).symm
    · refine congrArg (fun x : EReal => ((x.toReal : ℝ) : EReal)) ?_
      exact extractStridedSlice_apply _ _ _ _ _ fun a => by
        match a with
        | ⟨0, _⟩ => exact (Nat.zero_add _).symm
        | ⟨1, _⟩ => exact (Nat.zero_add _).symm
  · show x1 j = ((if h : _ then _ else _ : ℝ) : EReal)
    rw [dif_pos (show (j 1).val < 768 from (j 1).isLt)]
    exact (r1 j).trans (congrArg (fun k => (((x1 k).toReal : ℝ) : EReal)) (k1 j).symm)
  · show x2 j = ((if h : _ then _ else _ : ℝ) : EReal)
    rw [dif_pos (show (j 1).val < 768 from (j 1).isLt)]
    exact (r2 j).trans (congrArg (fun k => (((x2 k).toReal : ℝ) : EReal)) (k1 j).symm)
  · show x3 j = ((if h : _ then _ else _ : ℝ) : EReal)
    rw [dif_pos (show (j 0).val < 6 ∧ (j 1).val < 128 ∧ (j 2).val < 128 from ⟨(j 0).isLt, (j 1).isLt, (j 2).isLt⟩)]
    exact (r3 j).trans (congrArg (fun k => (((x3 k).toReal : ℝ) : EReal)) (k3 j).symm)
  · show x4 j = ((if h : _ then _ else _ : ℝ) : EReal)
    rw [dif_pos (show (j 0).val < 6 ∧ (j 1).val < 128 from ⟨(j 0).isLt, (j 1).isLt⟩)]
    exact (r4 j).trans (congrArg (fun k => (((x4 k).toReal : ℝ) : EReal)) (k2 j).symm)
  · show x5 j = ((if h : _ then _ else _ : ℝ) : EReal)
    rw [dif_pos (show (j 0).val < 4096 ∧ (j 1).val < 1024 from ⟨(j 0).isLt, (j 1).isLt⟩)]
    refine Eq.trans ?_ ((r5 (ix2 (j 0) ⟨(j 1).val, hj⟩)).trans ?_)
    · refine Eq.trans (congrArg x5 (k2 j).symm) (Eq.symm ?_)
      exact extractStridedSlice_apply _ _ _ _ _ fun a => by
        match a with
        | ⟨0, _⟩ => exact (Nat.zero_add _).symm
        | ⟨1, _⟩ => exact (Nat.zero_add _).symm
    · refine congrArg (fun x : EReal => ((x.toReal : ℝ) : EReal)) ?_
      exact extractStridedSlice_apply _ _ _ _ _ fun a => by
        match a with
        | ⟨0, _⟩ => exact (Nat.zero_add _).symm
        | ⟨1, _⟩ => exact (Nat.zero_add _).symm

end Entries

end Cert.Gmlp
-- ==== Proof.Value.lean ====
module

public import proofs.«01_k».proof.Defs
public import proofs.«01_k».proof.Proof.Array
public import proofs.«01_k».proof.Proof.RefGrad
public import proofs.«01_k».proof.Proof.Finite
public import proofs.«01_k».proof.Proof.Gen.ReferenceIdeal.Run
public import Idealize.ShloMosaic.Lib.WordCmp

/-! The value claim: on finite arguments the kernel's five arrays and the reference's hold the same real numbers. -/

@[expose] public section

set_option maxRecDepth 16384

noncomputable section

namespace Cert.Gmlp

open Idealize.ShloMosaic Idealize.ShloMosaic.TcCoe Idealize.SL.Sem

instance written_facts : Cert.On_written.Facts := by constructor <;> decide

/-- The first result is claimed on its first 1536 columns. -/
theorem written_col {x0 : Cert.On_written.S4096x1792.Idx → EReal} {x1 x2 : Cert.On_written.S1x768.Idx → EReal}
    {x3 : Cert.On_written.S6x128x128.Idx → EReal} {x4 : Cert.On_written.S6x128.Idx → EReal}
    {x5 : Cert.On_written.S4096x1024.Idx → EReal} {i : Cert.On_written.S4096x1792.Idx}
    (h : (Cert.On_written.fn (F := Ideal) x0 x1 x2 x3 x4 x5).1 i = 1#1) : (i 1).val < 1536 := by
  have e : IntOp.cmpi .slt (BitVec.ofNat 32 (i 1).val) (BitVec.ofNat 32 1536) = 1#1 := h
  have h1 : (i 1).val < 1792 := (i 1).isLt
  exact (WordCmp.cmpi_slt_ofNat_eq_one_iff (by omega) (by omega)).1 e

theorem algebraic : Cert.algebraic_KernelIdeal_ReferenceIdeal_on_written_pre_finite := by
  intro m ρ m' ρ' hpre hag
  have N := fun c => num_of_finite (hpre c)
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    (θ_run _ _ _).mono (fun r h c => ?_) (Cert.KernelIdeal.Value.run_blocks m ρ),
    (θ_run _ _ _).mono (fun r h c => ?_) (Cert.ReferenceIdeal.Value.run m' ρ')⟩
  · obtain ⟨h0, h1, h2, h3, h4, hk⟩ := h c
    exact ⟨fun i _ => congrFun h0 i, fun i _ => congrFun h1 i, fun i _ => congrFun h2 i, fun i _ => congrFun h3 i,
      fun i _ => congrFun h4 i, hk⟩
  · obtain ⟨h0, h1, h2, h3, h4, hk⟩ := h c
    obtain ⟨a0, a1, a2, a3, a4, a5⟩ := hag c
    obtain ⟨D, K⟩ : ∃ D, Num D _ _ _ _ _ _ := ⟨_, N c⟩
    have M := K
    rw [← a0, ← a1, ← a2, ← a3, ← a4, ← a5] at M
    refine ⟨fun i hi => ?_, fun i _ => ?_, fun i _ => ?_, fun i _ => ?_, fun i _ => ?_, hk⟩
    · have hc := written_col hi
      exact (congrFun (h0.trans (Cert.ReferenceIdeal.Read.val_main_v129_eq _)) i).trans
        ((v129_is M i hc).trans (dp_array m c K i hc).symm)
    · exact (congrFun (h1.trans (Cert.ReferenceIdeal.Read.val_main_v80_eq _)) i).trans
        ((v80_is M i).trans (dw_array m c K i).symm)
    · exact (congrFun (h2.trans (Cert.ReferenceIdeal.Read.val_main_v130_eq _)) i).trans
        ((v130_is M i).trans (db_array m c K i).symm)
    · exact (congrFun (h3.trans (Cert.ReferenceIdeal.Read.val_main_v131_eq _)) i).trans
        ((v131_is M i).trans (dlg_array m c K i).symm)
    · exact (congrFun (h4.trans (Cert.ReferenceIdeal.Read.val_main_v132_eq _)) i).trans
        ((v132_is M i).trans (dlb_array m c K i).symm)

end Cert.Gmlp
-- ==== Proof.Table.lean ====
module

public import proofs.«01_k».proof.Proof.Pieces

/-!
Arrays as tables over the natural numbers: an array's entry at an index is its table's entry at the index's coordinates,
and a table is zero outside the array. Blocks, bands and cubes of an array then read from one table.
-/

@[expose] public section

set_option maxRecDepth 16384

noncomputable section

namespace Cert.Tab

open Idealize.ShloMosaic Idealize.SL Idealize.SL.Sem

section Tables

variable {a b c : ℕ}

def tab2 (x : (⟨2, ![a, b]⟩ : Shape).Idx → EReal) (r s : ℕ) : EReal :=
  if h : r < a ∧ s < b then x (ix2 ⟨r, h.1⟩ ⟨s, h.2⟩) else 0

def tab3 (x : (⟨3, ![a, b, c]⟩ : Shape).Idx → EReal) (q r s : ℕ) : EReal :=
  if h : q < a ∧ r < b ∧ s < c then x (ix3 ⟨q, h.1⟩ ⟨r, h.2.1⟩ ⟨s, h.2.2⟩) else 0

theorem eq_tab2 (x : (⟨2, ![a, b]⟩ : Shape).Idx → EReal) (j : (⟨2, ![a, b]⟩ : Shape).Idx) :
    x j = tab2 x (j 0).val (j 1).val := by
  have h0 : (j 0).val < a := (j 0).isLt
  have h1 : (j 1).val < b := (j 1).isLt
  rw [tab2, dif_pos ⟨h0, h1⟩]
  exact congrArg x (funext fun i => match i with | ⟨0, _⟩ => rfl | ⟨1, _⟩ => rfl)

theorem eq_tab3 (x : (⟨3, ![a, b, c]⟩ : Shape).Idx → EReal) (j : (⟨3, ![a, b, c]⟩ : Shape).Idx) :
    x j = tab3 x (j 0).val (j 1).val (j 2).val := by
  have h0 : (j 0).val < a := (j 0).isLt
  have h1 : (j 1).val < b := (j 1).isLt
  have h2 : (j 2).val < c := (j 2).isLt
  rw [tab3, dif_pos ⟨h0, h1, h2⟩]
  exact congrArg x (funext fun i => match i with | ⟨0, _⟩ => rfl | ⟨1, _⟩ => rfl | ⟨2, _⟩ => rfl)

/-- A table of an array of numbers is a table of numbers. -/
theorem tab2_real {x : (⟨2, ![a, b]⟩ : Shape).Idx → EReal} (h : ∀ j, ∃ r : ℝ, x j = ((r : ℝ) : EReal)) :
    ∃ f : ℕ → ℕ → ℝ, ∀ r s, tab2 x r s = ((f r s : ℝ) : EReal) := by
  have e : ∀ r s, ∃ v : ℝ, tab2 x r s = ((v : ℝ) : EReal) := fun r s => by
    unfold tab2
    split
    · exact h _
    · exact ⟨0, rfl⟩
  exact ⟨fun r s => (e r s).choose, fun r s => (e r s).choose_spec⟩

theorem tab3_real {x : (⟨3, ![a, b, c]⟩ : Shape).Idx → EReal} (h : ∀ j, ∃ r : ℝ, x j = ((r : ℝ) : EReal)) :
    ∃ f : ℕ → ℕ → ℕ → ℝ, ∀ q r s, tab3 x q r s = ((f q r s : ℝ) : EReal) := by
  have e : ∀ q r s, ∃ v : ℝ, tab3 x q r s = ((v : ℝ) : EReal) := fun q r s => by
    unfold tab3
    split
    · exact h _
    · exact ⟨0, rfl⟩
  exact ⟨fun q r s => (e q r s).choose, fun q r s => (e q r s).choose_spec⟩

end Tables

section Cube

variable {e : EltTy} {Val : EltTy → Type} [∀ e, Nonempty (Val e)]
variable {Q R C q r c : ℕ} (o p s : ℕ)
  (inb : ∀ a, (![o, p, s] : Fin 3 → ℕ) a + (![q, r, c] : Fin 3 → ℕ) a ≤ (⟨3, ![Q, R, C]⟩ : Shape).size a)

theorem idx_cube (x : (⟨3, ![q, r, c]⟩ : Shape).Idx) :
    ((Rect.unit ![o, p, s] ![q, r, c] inb : Rect (⟨3, ![Q, R, C]⟩ : Shape)).idx x 0).val = o + (x 0).val
      ∧ ((Rect.unit ![o, p, s] ![q, r, c] inb : Rect (⟨3, ![Q, R, C]⟩ : Shape)).idx x 1).val = p + (x 1).val
      ∧ ((Rect.unit ![o, p, s] ![q, r, c] inb : Rect (⟨3, ![Q, R, C]⟩ : Shape)).idx x 2).val = s + (x 2).val := by
  refine ⟨?_, ?_, ?_⟩ <;> rw [Rect.idx_unit_val] <;> rfl

/-- A cube read out of an array. -/
theorem ld_cube {X : (⟨3, ![Q, R, C]⟩ : Shape).Idx → Val e} {f : ℕ → ℕ → ℕ → Val e}
    (hX : ∀ j, X j = f (j 0).val (j 1).val (j 2).val) (x : (⟨3, ![q, r, c]⟩ : Shape).Idx) :
    View.ld (Val := Val) (e' := e) X (Rect.unit ![o, p, s] ![q, r, c] inb) x
      = f (o + (x 0).val) (p + (x 1).val) (s + (x 2).val) := by
  obtain ⟨e0, e1, e2⟩ := idx_cube o p s inb x
  refine (hX _).trans ?_
  rw [e0, e1, e2]

/-- The newest piece is a cube of an array: it settles the indices of that cube. -/
theorem canon_cube {f : ℕ → ℕ → ℕ → Val e} {P : (⟨3, ![q, r, c]⟩ : Shape).Idx → Val e}
    (hP : ∀ j, P j = f (o + (j 0).val) (p + (j 1).val) (s + (j 2).val))
    (L : List (View.Piece Val (⟨3, ![Q, R, C]⟩ : Shape) e)) (y : (⟨3, ![Q, R, C]⟩ : Shape).Idx)
    (hL : ¬ ((o ≤ (y 0).val ∧ (y 0).val < o + q) ∧ (p ≤ (y 1).val ∧ (y 1).val < p + r)
        ∧ s ≤ (y 2).val ∧ (y 2).val < s + c) → View.canon L y = f (y 0).val (y 1).val (y 2).val) :
    View.canon ((⟨Rect.unit ![o, p, s] ![q, r, c] inb, P⟩ : View.Piece Val (⟨3, ![Q, R, C]⟩ : Shape) e) :: L) y
      = f (y 0).val (y 1).val (y 2).val := by
  by_cases hm : y ∈ (Rect.unit ![o, p, s] ![q, r, c] inb : Rect (⟨3, ![Q, R, C]⟩ : Shape)).set
  · obtain ⟨x, hx⟩ := (Rect.unit ![o, p, s] ![q, r, c] inb : Rect (⟨3, ![Q, R, C]⟩ : Shape)).exists_idx_of_mem hm
    obtain ⟨e0, e1, e2⟩ := idx_cube o p s inb x
    have h := View.canon_cons_emb (Val := Val) (Rect.unit ![o, p, s] ![q, r, c] inb : Rect (⟨3, ![Q, R, C]⟩ : Shape)) P L x
    rw [hx] at e0 e1 e2
    rw [show (Rect.unit ![o, p, s] ![q, r, c] inb : Rect (⟨3, ![Q, R, C]⟩ : Shape)).emb x = y from hx] at h
    rw [h, e0, e1, e2]
    exact hP x
  · rw [View.canon_cons_of_not_mem (⟨Rect.unit ![o, p, s] ![q, r, c] inb, P⟩ : View.Piece Val (⟨3, ![Q, R, C]⟩ : Shape) e) L hm]
    rw [Rect.mem_set_unit] at hm
    refine hL fun h0 => hm fun a => ?_
    match a with
    | ⟨0, _⟩ => exact h0.1
    | ⟨1, _⟩ => exact h0.2.1
    | ⟨2, _⟩ => exact h0.2.2

end Cube

end Cert.Tab
-- ==== Proof.GateTile.lean ====
module

public import proofs.«01_k».proof.Proof.Table
public import proofs.«01_k».proof.Proof.Gen.Kernel2Ideal.Value
public import Idealize.ShloMosaic.Lib.Pointwise.Tactic

/-!
The gradient of the gate at one place: from the cotangent's product with a row of the output weights, and from the gate
and the factor beside it. Each strip of columns that the kernel works on holds these numbers.
-/

@[expose] public section

set_option maxRecDepth 16384

noncomputable section

namespace Cert.Gate

open Cert.Kernel2Ideal Cert.Kernel2Ideal.Gen Cert.Kernel2Ideal.Value Idealize.ShloMosaic Idealize.ShloMosaic.TcCoe

/-- The logistic function as the kernel spells it. -/
def sg (g : EReal) : EReal := Ideal.div 1 (1 + Ideal.exp (0 - g))

/-- The gradient at the gate `g`, with the product `a` of the cotangent and the factor `u` beside the gate. -/
def dgate (a g u : EReal) : EReal := a * u * sg g * (1 + g * (1 - sg g))

/-- The gradient at the factor beside the gate. -/
def dup (a g : EReal) : EReal := a * g * sg g

section Strip

variable (x : Vec Ideal S1024x1024 .f32) (w : Vec Ideal S256x1024 .bf16) (g u : Vec Ideal S1x1024x256 .bf16)
  (j : S1x1024x256.Idx)

theorem gate0 : k0_pay8 x w g u j
    = dgate (∑ k : Fin 1024, x (ix2 (j 1) k) * w (ix2 (j 2) k)) (g j) (u j) := by
  unfold k0_pay8 k0_pay7 k0_pay6 k0_pay5 k0_pay4
  pointwise
  rfl

theorem up0 : k0_pay10 (k0_pay9 x w g) j
    = dup (∑ k : Fin 1024, x (ix2 (j 1) k) * w (ix2 (j 2) k)) (g j) := by
  unfold k0_pay10 k0_pay9 k0_pay7 k0_pay6 k0_pay5 k0_pay4
  pointwise
  rfl

theorem gate1 : k0_pay14 (k0_pay4 x) w g u j
    = dgate (∑ k : Fin 1024, x (ix2 (j 1) k) * w (ix2 (j 2) k)) (g j) (u j) := by
  unfold k0_pay14 k0_pay13 k0_pay12 k0_pay11 k0_pay4
  pointwise
  rfl

theorem up1 : k0_pay15 (k0_pay4 x) w g j
    = dup (∑ k : Fin 1024, x (ix2 (j 1) k) * w (ix2 (j 2) k)) (g j) := by
  unfold k0_pay15 k0_pay13 k0_pay12 k0_pay11 k0_pay4
  pointwise
  rfl

theorem gate2 : k0_pay19 (k0_pay4 x) w g u j
    = dgate (∑ k : Fin 1024, x (ix2 (j 1) k) * w (ix2 (j 2) k)) (g j) (u j) := by
  unfold k0_pay19 k0_pay18 k0_pay17 k0_pay16 k0_pay4
  pointwise
  rfl

theorem up2 : k0_pay20 (k0_pay4 x) w g j
    = dup (∑ k : Fin 1024, x (ix2 (j 1) k) * w (ix2 (j 2) k)) (g j) := by
  unfold k0_pay20 k0_pay18 k0_pay17 k0_pay16 k0_pay4
  pointwise
  rfl

theorem gate3 : k0_pay24 (k0_pay21 (k0_pay4 x) w) g u j
    = dgate (∑ k : Fin 1024, x (ix2 (j 1) k) * w (ix2 (j 2) k)) (g j) (u j) := by
  unfold k0_pay24 k0_pay23 k0_pay22 k0_pay21 k0_pay4
  pointwise
  rfl

theorem up3 : k0_pay25 (k0_pay21 (k0_pay4 x) w) g j
    = dup (∑ k : Fin 1024, x (ix2 (j 1) k) * w (ix2 (j 2) k)) (g j) := by
  unfold k0_pay25 k0_pay23 k0_pay22 k0_pay21 k0_pay4
  pointwise
  rfl

theorem gate4 : k0_pay29 (k0_pay26 (k0_pay4 x) w) g u j
    = dgate (∑ k : Fin 1024, x (ix2 (j 1) k) * w (ix2 (j 2) k)) (g j) (u j) := by
  unfold k0_pay29 k0_pay28 k0_pay27 k0_pay26 k0_pay4
  pointwise
  rfl

theorem up4 : k0_pay30 (k0_pay26 (k0_pay4 x) w) g j
    = dup (∑ k : Fin 1024, x (ix2 (j 1) k) * w (ix2 (j 2) k)) (g j) := by
  unfold k0_pay30 k0_pay28 k0_pay27 k0_pay26 k0_pay4
  pointwise
  rfl

end Strip

/-! The last strip is half as wide. -/

section Last

variable (x : Vec Ideal S1024x1024 .f32) (w : Vec Ideal S128x1024 .bf16) (g u : Vec Ideal S1x1024x128 .bf16)
  (j : S1x1024x128.Idx)

theorem gate5 : k0_pay2 (k0_pay31 (k0_pay4 x) w) (k0_pay32 g) u j
    = dgate (∑ k : Fin 1024, x (ix2 (j 1) k) * w (ix2 (j 2) k)) (g j) (u j) := by
  unfold k0_pay2 k0_pay1 k0_pay31 k0_pay32 k0_pay4
  pointwise
  rfl

theorem up5 : k0_pay3 (k0_pay31 (k0_pay4 x) w) (k0_pay32 g) j
    = dup (∑ k : Fin 1024, x (ix2 (j 1) k) * w (ix2 (j 2) k)) (g j) := by
  unfold k0_pay3 k0_pay1 k0_pay31 k0_pay32 k0_pay4
  pointwise
  rfl

end Last

end Cert.Gate
-- ==== Proof.GateBlocks.lean ====
module

public import proofs.«01_k».proof.Proof.GateTile
public import Idealize.ShloMosaic.Lib.Pipeline.ReadBack

/-!
What the gate's gradient holds: at every place of its two halves the numbers of `GateTile`, from the tables of the
cotangent, the output weights and the two halves of the gated activations.
-/

@[expose] public section

set_option maxRecDepth 16384

noncomputable section

namespace Cert.Gate

open Cert.Kernel2Ideal Cert.Kernel2Ideal.Gen Cert.Kernel2Ideal.Value Idealize.ShloMosaic Idealize.ShloMosaic.TcCoe
open Idealize.SL Idealize.SL.Sem Cert.Tab Cert.Gmlp

/-- The result from the tables of the arguments. -/
def out (A W : ℕ → ℕ → EReal) (G : ℕ → ℕ → ℕ → EReal) (h r s : ℕ) : EReal :=
  if h = 0 then dgate (∑ k : Fin 1024, A r k.val * W s k.val) (G 0 r s) (G 1 r s)
  else dup (∑ k : Fin 1024, A r k.val * W s k.val) (G 0 r s)

section Strip

variable {n : ℕ} {X : S1024x1024.Idx → EReal} {Y : S1408x1024.Idx → EReal} {Z : S2x1024x1408.Idx → EReal}
  {A W : ℕ → ℕ → EReal} {G : ℕ → ℕ → ℕ → EReal} {R C : ℕ}
  (hX : ∀ j, X j = A (R + (j 0).val) (j 1).val) (hY : ∀ j, Y j = W (C + (j 0).val) (j 1).val)
  (hZ : ∀ j, Z j = G (j 0).val (R + (j 1).val) (C + (j 2).val))
  (q : ℕ) (iw : ∀ a, (![q, 0] : Fin 2 → ℕ) a + (![n, 1024] : Fin 2 → ℕ) a ≤ S1408x1024.size a)
  (ig : ∀ a, (![0, 0, q] : Fin 3 → ℕ) a + (![1, 1024, n] : Fin 3 → ℕ) a ≤ S2x1024x1408.size a)
  (iu : ∀ a, (![1, 0, q] : Fin 3 → ℕ) a + (![1, 1024, n] : Fin 3 → ℕ) a ≤ S2x1024x1408.size a)
  (j : (⟨3, ![1, 1024, n]⟩ : Shape).Idx)

include hX hY in
theorem strip_dot : (∑ k : Fin 1024, X (ix2 (j 1) k) * View.ld (Val := Elt Ideal) (e' := .bf16) Y (Rect.unit ![q, 0] ![n, 1024] iw) (ix2 (j 2) k))
    = ∑ k : Fin 1024, A (R + (j 1).val) k.val * W (C + (q + (j 2).val)) k.val :=
  Finset.sum_congr rfl fun k _ => by
    rw [hX, ld_band_is (Val := Elt Ideal) (e := .bf16) (f := fun a b => W (C + a) b) q 0 iw hY (ix2 (j 2) k)]
    exact congrArg₂ (fun a b => A (R + (j 1).val) k.val * W a b) rfl (Nat.zero_add _)

include hX hY hZ in
theorem strip_gate : dgate (∑ k : Fin 1024, X (ix2 (j 1) k) * View.ld (Val := Elt Ideal) (e' := .bf16) Y (Rect.unit ![q, 0] ![n, 1024] iw) (ix2 (j 2) k))
      (View.ld (Val := Elt Ideal) (e' := .bf16) Z (Rect.unit ![0, 0, q] ![1, 1024, n] ig) j)
      (View.ld (Val := Elt Ideal) (e' := .bf16) Z (Rect.unit ![1, 0, q] ![1, 1024, n] iu) j)
    = out A W G (0 + (j 0).val) (R + (0 + (j 1).val)) (C + (q + (j 2).val)) := by
  have h0 : (j 0).val = 0 := by have := (j 0).isLt; exact Nat.lt_one_iff.1 this
  rw [strip_dot hX hY q iw j, ld_cube (Val := Elt Ideal) (e := .bf16) (f := fun a b d => G a (R + b) (C + d)) 0 0 q ig hZ j,
    ld_cube (Val := Elt Ideal) (e := .bf16) (f := fun a b d => G a (R + b) (C + d)) 1 0 q iu hZ j]
  simp only [h0, Nat.zero_add, Nat.add_zero, out, if_pos]

include hX hY hZ in
theorem strip_up : dup (∑ k : Fin 1024, X (ix2 (j 1) k) * View.ld (Val := Elt Ideal) (e' := .bf16) Y (Rect.unit ![q, 0] ![n, 1024] iw) (ix2 (j 2) k))
      (View.ld (Val := Elt Ideal) (e' := .bf16) Z (Rect.unit ![0, 0, q] ![1, 1024, n] ig) j)
    = out A W G (1 + (j 0).val) (R + (0 + (j 1).val)) (C + (q + (j 2).val)) := by
  have h0 : (j 0).val = 0 := by have := (j 0).isLt; exact Nat.lt_one_iff.1 this
  rw [strip_dot hX hY q iw j, ld_cube (Val := Elt Ideal) (e := .bf16) (f := fun a b d => G a (R + b) (C + d)) 0 0 q ig hZ j]
  simp only [h0, Nat.zero_add, Nat.add_zero, out, if_neg one_ne_zero]

end Strip

variable (m : (ℓ : Loc nD τ sig) → Buf (Elt Ideal) ℓ) (c : Dev nD) (t : Fin cfg0.N)

abbrev A : ℕ → ℕ → EReal := tab2 (m ((c : Thread nD τ).loc main_arg0) : S4096x1024.Idx → EReal)
abbrev W : ℕ → ℕ → EReal := tab2 (m ((c : Thread nD τ).loc main_arg1) : S2816x1024.Idx → EReal)
abbrev G : ℕ → ℕ → ℕ → EReal := tab3 (m ((c : Thread nD τ).loc main_arg2) : S2x4096x2816.Idx → EReal)

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![0, t.val / 2, t.val % 2] := (by decide +kernel : ∀ t : Fin grid0.N, _)
theorem index3 : ∀ t : Fin cfg0.N, win0_3.index t = ![0, t.val / 2, t.val % 2] := (by decide +kernel : ∀ t : Fin grid0.N, _)

/-- The weights as the host hands them over. -/
theorem w_apply (j : S2816x1024.Idx) : (V m c main_v0 : S2816x1024.Idx → EReal) j
    = (m ((c : Thread nD τ).loc main_arg1) : S2816x1024.Idx → EReal) j := by
  entry_read
  pointwise

theorem block0 (j : S1024x1024.Idx) : iblk m c 0 t j = A m c (1024 * (t.val / 2) + (j 0).val) (j 1).val := by
  have e := index0 t
  unfold iblk
  blk_simp
  rw [V_main_arg0]
  refine (eq_tab2 _ _).trans ?_
  blk_simp [e]
  rw [Nat.mul_comm 1024]

theorem block1 (j : S1408x1024.Idx) : iblk m c 1 t j = W m c (1408 * (t.val % 2) + (j 0).val) (j 1).val := by
  have e := index1 t
  unfold iblk
  blk_simp
  refine (w_apply m c _).trans ((eq_tab2 _ _).trans ?_)
  blk_simp [e]
  rw [Nat.mul_comm 1408]

theorem block2 (j : S2x1024x1408.Idx) : iblk m c 2 t j
    = G m c (j 0).val (1024 * (t.val / 2) + (j 1).val) (1408 * (t.val % 2) + (j 2).val) := by
  have e := index2 t
  unfold iblk
  blk_simp
  rw [V_main_arg2]
  refine (eq_tab3 _ _).trans ?_
  blk_simp [e]
  rw [Nat.mul_comm 1024, Nat.mul_comm 1408]

theorem tile (i : S2x1024x1408.Idx) : (outsAt0 m c t i : EReal)
    = out (A m c) (W m c) (G m c) (i 0).val (1024 * (t.val / 2) + (i 1).val) (1408 * (t.val % 2) + (i 2).val) := by
  have g : ∀ {n : ℕ} q iw ig iu (j : (⟨3, ![1, 1024, n]⟩ : Shape).Idx), _ :=
    fun {n} q iw ig iu j => strip_gate (n := n) (block0 m c t) (block1 m c t) (block2 m c t) q iw ig iu j
  have u : ∀ {n : ℕ} q iw ig (j : (⟨3, ![1, 1024, n]⟩ : Shape).Idx), _ :=
    fun {n} q iw ig j => strip_up (n := n) (block0 m c t) (block1 m c t) (block2 m c t) q iw ig j
  unfold outsAt0
  frame_out
  have k := fun {n : ℕ} o q inb {P} hP L => canon_cube (Val := Elt Ideal) (e := .bf16) (q := 1) (r := 1024) (c := n) o 0 q inb (P := P)
    (f := fun h r s => out (A m c) (W m c) (G m c) h (1024 * (t.val / 2) + r) (1408 * (t.val % 2) + s)) hP L i
  refine k 1 1280 _ (fun j => (up5 _ _ _ j).trans (u 1280 _ _ j)) _ fun n1 => ?_
  refine k 0 1280 _ (fun j => (gate5 _ _ _ _ j).trans (g 1280 _ _ _ j)) _ fun n2 => ?_
  refine k 1 1024 _ (fun j => (up4 _ _ _ j).trans (u 1024 _ _ j)) _ fun n3 => ?_
  refine k 0 1024 _ (fun j => (gate4 _ _ _ _ j).trans (g 1024 _ _ _ j)) _ fun n4 => ?_
  refine k 1 768 _ (fun j => (up3 _ _ _ j).trans (u 768 _ _ j)) _ fun n5 => ?_
  refine k 0 768 _ (fun j => (gate3 _ _ _ _ j).trans (g 768 _ _ _ j)) _ fun n6 => ?_
  refine k 1 512 _ (fun j => (up2 _ _ _ j).trans (u 512 _ _ j)) _ fun n7 => ?_
  refine k 0 512 _ (fun j => (gate2 _ _ _ _ j).trans (g 512 _ _ _ j)) _ fun n8 => ?_
  refine k 1 256 _ (fun j => (up1 _ _ _ j).trans (u 256 _ _ j)) _ fun n9 => ?_
  refine k 0 256 _ (fun j => (gate1 _ _ _ _ j).trans (g 256 _ _ _ j)) _ fun n10 => ?_
  refine k 1 0 _ (fun j => (up0 _ _ _ j).trans (u 0 _ _ j)) _ fun n11 => ?_
  refine k 0 0 _ (fun j => (gate0 _ _ _ _ j).trans (g 0 _ _ _ j)) _ fun n12 => ?_
  have h0 : (i 0).val < 2 := (i 0).isLt
  have h1 : (i 1).val < 1024 := (i 1).isLt
  have h2 : (i 2).val < 1408 := (i 2).isLt
  omega

end Cert.Gate
-- ==== Proof.GateArray.lean ====
module

public import proofs.«01_k».proof.Proof.GateBlocks
public import Idealize.ShloMosaic.Lib.Pipeline.ReadBack

/-! The gate's gradient as a whole array. -/

@[expose] public section

set_option maxRecDepth 16384

noncomputable section

namespace Cert.Gate

open Cert.Kernel2Ideal Cert.Kernel2Ideal.Gen Cert.Kernel2Ideal.Value Idealize.ShloMosaic Idealize.ShloMosaic.TcCoe
open Idealize.SL Idealize.SL.Sem Cert.Tab Cert.Gmlp

/-- The whole array. -/
theorem array (m : (ℓ : Loc nD τ sig) → Buf (Elt Ideal) ℓ) (c : Dev nD) (i : S2x4096x2816.Idx) : ((dats m 0 c).arrAt 3 cfg0.N i : EReal)
    = out (A m c) (W m c) (G m c) (i 0).val (i 1).val (i 2).val := by
  have hN : cfg0.N = 8 := rfl
  have h0 : (i 0).val < 2 := (i 0).isLt
  have h1 : (i 1).val < 4096 := (i 1).isLt
  have h2 : (i 2).val < 2816 := (i 2).isLt
  obtain ⟨t, ht⟩ : ∃ t : Fin cfg0.N, t.val = 2 * ((i 1).val / 1024) + (i 2).val / 1408 := ⟨⟨_, by omega⟩, rfl⟩
  have e := index3 t
  have hm : i ∈ ((cfg0.win 3).blk t).view.set := by
    mem_blk [e]
    omega
  obtain ⟨y, rfl⟩ := View.exists_emb_of_mem_set _ hm
  refine (Pipeline.Dat.arrAt_emb_eq_flushed _ 3 disjoint3 t (flush0_3 t) y).trans ?_
  rw [flushed3]
  have T := tile m c t
  generalize outsAt0 m c t = z at T ⊢
  refine (T _).trans ?_
  blk_simp [e]
  rw [Nat.mul_comm 1024, Nat.mul_comm 1408]

end Cert.Gate
-- ==== Proof.RefGate.lean ====
module

public import proofs.«01_k».proof.Proof.Table
public import proofs.«01_k».proof.Proof.Calc
public import proofs.«01_k».proof.Proof.GateTile
public import proofs.«01_k».proof.Proof.Gen.Reference2Ideal.Read
public import Idealize.ShloMosaic.Lib.Pointwise.Tactic

/-! The reference's gradients of the gate and of the up projection, entry by entry, and their agreement with the kernel's. -/

@[expose] public section

set_option maxRecDepth 16384

noncomputable section

namespace Cert.Gate.Ref

open Idealize.ShloMosaic Cert.Reference2Ideal Cert.Reference2Ideal.Read Cert.Tab

/-- The sigmoid with the reference's negation. -/
def sr (g : EReal) : EReal := Ideal.div 1 (1 + Ideal.exp (-g))

def rgate (a g u : EReal) : EReal := a * u * sr g + g * (a * u) * (sr g * (1 - sr g))

def rup (a g : EReal) : EReal := g * sr g * a

section Real

variable (a g u : ℝ)

theorem sr_coe : sr ((g : ℝ) : EReal) = ((1 / (1 + Real.exp (-g)) : ℝ) : EReal) := by
  have p : (1 + Real.exp (-g) : ℝ) ≠ 0 := by positivity
  rw [sr, ← EReal.coe_neg, Ideal.exp_coe, ← EReal.coe_one, ← EReal.coe_add, Cert.Gmlp.div_coe_coe _ _ p]

theorem sg_coe : sg ((g : ℝ) : EReal) = ((1 / (1 + Real.exp (-g)) : ℝ) : EReal) := by
  rw [sg, zero_sub]
  exact sr_coe g

/-- The product rule in the reference's order and in the kernel's. -/
theorem rgate_eq : rgate a g u = dgate a g u := by
  rw [rgate, dgate, sr_coe, sg_coe, ← EReal.coe_one]
  simp only [← EReal.coe_mul, ← EReal.coe_sub, ← EReal.coe_add]
  congr 1
  ring

theorem rup_eq : rup a g = dup a g := by
  rw [rup, dup, sr_coe, sg_coe]
  simp only [← EReal.coe_mul]
  congr 1
  ring

end Real

variable (x0 : (⟨S4096x1024, .f32⟩ : BufTy).Contents (Elt Ideal)) (x1 : (⟨S2816x1024, .f32⟩ : BufTy).Contents (Elt Ideal))
  (x2 : (⟨S2x4096x2816, .bf16⟩ : BufTy).Contents (Elt Ideal))

theorem gate_apply (i : S4096x2816.Idx) : (val_main_v6 (F := Ideal) x2 i : EReal) = tab3 x2 0 (i 0).val (i 1).val := by
  have h0 : (i 0).val < 4096 := (i 0).isLt
  have h1 : (i 1).val < 2816 := (i 1).isLt
  have e : val_main_v4 (F := Ideal) x2 (idx_main_v6 i) = val_main_v1 (F := Ideal) x2 i := by
    refine concatenate_pair_apply_left (t := S4096x5632) (1 : Fin 2) (val_main_v1 (F := Ideal) x2)
      (val_main_v3 (F := Ideal) x2) _ (idx_main_v6 i) rfl i (fun a => ?_)
    match a with
    | ⟨0, _⟩ => rfl
    | ⟨1, _⟩ => rfl
  refine (val_main_v6_apply x2 i).trans (Eq.trans e ?_)
  rw [val_main_v1_apply, val_main_v0_apply]
  refine (eq_tab3 x2 _).trans ?_
  congr 1
  · show ((i 0).val * 2816 + (i 1).val) / 2816 % 4096 = (i 0).val
    omega
  · show ((i 0).val * 2816 + (i 1).val) % 2816 = (i 1).val
    omega

theorem up_apply (i : S4096x2816.Idx) : (val_main_v7 (F := Ideal) x2 i : EReal) = tab3 x2 1 (i 0).val (i 1).val := by
  have h0 : (i 0).val < 4096 := (i 0).isLt
  have h1 : (i 1).val < 2816 := (i 1).isLt
  have e : val_main_v4 (F := Ideal) x2 (idx_main_v7 i) = val_main_v3 (F := Ideal) x2 i := by
    refine concatenate_pair_apply_right (t := S4096x5632) (1 : Fin 2) (val_main_v1 (F := Ideal) x2)
      (val_main_v3 (F := Ideal) x2) _ (idx_main_v7 i) rfl rfl i (fun a ha => ?_) (Nat.add_comm _ _)
    match a with
    | ⟨0, _⟩ => rfl
    | ⟨1, _⟩ => exact absurd rfl ha
  refine (val_main_v7_apply x2 i).trans (Eq.trans e ?_)
  rw [val_main_v3_apply, val_main_v2_apply]
  refine (eq_tab3 x2 _).trans ?_
  congr 1
  · show ((i 0).val * 2816 + (i 1).val) / 2816 % 4096 = (i 0).val
    omega
  · show ((i 0).val * 2816 + (i 1).val) % 2816 = (i 1).val
    omega

theorem sum_apply (i : S4096x2816.Idx) : (val_main_v11 (F := Ideal) x0 x1 i : EReal)
    = ∑ k : Fin 1024, tab2 x0 (i 0).val k.val * tab2 x1 (i 1).val k.val := by
  rw [val_main_v11_apply]
  exact Finset.sum_congr rfl fun k _ => congrArg₂ (· * ·) (eq_tab2 x0 _) (eq_tab2 x1 _)

theorem sig_apply (i : S4096x2816.Idx) :
    (val_main_v8_2 (F := Ideal) x2 i : EReal) = sr (val_main_v6 (F := Ideal) x2 i) := by
  have e : (FloatOps.ofBits (F := Ideal) .f32 0x3F800000#32 : EReal) = 1 := Cert.Gmlp.ofBits_one
  rw [val_main_v8_2_apply, val_main_call0_v4_apply, val_main_call0_cst_0_apply, val_main_call0_v3_apply,
    val_main_call0_v2_apply, val_main_call0_cst_apply]
  show Ideal.div (FloatOps.ofBits (F := Ideal) .f32 0x3F800000#32)
    ((FloatOps.ofBits (F := Ideal) .f32 0x3F800000#32 : EReal) + Ideal.exp (-(val_main_v6 (F := Ideal) x2 i))) = _
  rw [e]
  rfl

theorem dgate_apply (i : S4096x2816.Idx) : (val_main_v14 (F := Ideal) x0 x1 x2 i : EReal)
    = rgate (val_main_v11 (F := Ideal) x0 x1 i) (val_main_v6 (F := Ideal) x2 i) (val_main_v7 (F := Ideal) x2 i) := by
  have e : (FloatOps.ofBits (F := Ideal) .f32 0x3F800000#32 : EReal) = 1 := Cert.Gmlp.ofBits_one
  have e1 : (val_main_v8_1 (F := Ideal) x2 i : EReal)
      = sr (val_main_v6 (F := Ideal) x2 i) * (1 - sr (val_main_v6 (F := Ideal) x2 i)) := by
    rw [val_main_v8_1_apply, val_main_call0_v7_apply, val_main_call0_v6_apply, val_main_call0_cst_1_apply, sig_apply]
    show sr _ * ((FloatOps.ofBits (F := Ideal) .f32 0x3F800000#32 : EReal) - sr _) = _
    rw [e]
  rw [val_main_v14_apply, val_main_call1_v1_apply, val_main_call1_v2_apply, val_main_call1_v0_apply, e1, sig_apply]
  rfl

theorem dup_apply (i : S4096x2816.Idx) : (val_main_v12 (F := Ideal) x0 x1 x2 i : EReal)
    = rup (val_main_v11 (F := Ideal) x0 x1 i) (val_main_v6 (F := Ideal) x2 i) := by
  rw [val_main_v12_apply, val_main_v8_0_apply, sig_apply]
  rfl

/-- The two gradients in one array, as two halves of the columns and then as two planes. -/
theorem plane0 (i : S1x4096x2816.Idx) (j : S4096x2816.Idx) (h0 : (j 0).val = (i 1).val) (h1 : (j 1).val = (i 2).val) :
    val_main_v18 (F := Ideal) x0 x1 x2 i = val_main_v14 (F := Ideal) x0 x1 x2 j := by
  rw [val_main_v18_apply, val_main_v16_apply]
  refine concatenate_pair_apply_left (t := S4096x5632) (1 : Fin 2) (val_main_v14 (F := Ideal) x0 x1 x2) (val_main_v12 (F := Ideal) x0 x1 x2)
    _ _ rfl j (fun a => ?_)
  match a with
  | ⟨0, _⟩ => exact h0
  | ⟨1, _⟩ => exact h1

theorem plane1 (i : S1x4096x2816.Idx) (j : S4096x2816.Idx) (h0 : (j 0).val = (i 1).val) (h1 : (j 1).val = (i 2).val) :
    val_main_v19 (F := Ideal) x0 x1 x2 i = val_main_v12 (F := Ideal) x0 x1 x2 j := by
  rw [val_main_v19_apply, val_main_v17_apply]
  refine concatenate_pair_apply_right (t := S4096x5632) (1 : Fin 2) (val_main_v14 (F := Ideal) x0 x1 x2) (val_main_v12 (F := Ideal) x0 x1 x2)
    _ _ rfl rfl j (fun a ha => ?_) ?_
  · match a with
    | ⟨0, _⟩ => exact h0
    | ⟨1, _⟩ => exact absurd rfl ha
  · show (j 1).val + 2816 = 2816 + (i 2).val
    rw [h1, Nat.add_comm]

end Cert.Gate.Ref

end
-- ==== Proof.GateValue.lean ====
module

public import proofs.«01_k».proof.Defs
public import proofs.«01_k».proof.Proof.GateArray
public import proofs.«01_k».proof.Proof.RefGate
public import proofs.«01_k».proof.Proof.Finite
public import proofs.«01_k».proof.Proof.Gen.Kernel2.Frame
public import proofs.«01_k».proof.Proof.Gen.Kernel2Ideal.Frame
public import proofs.«01_k».proof.Proof.Gen.Reference2Ideal.Run
public import Idealize.ShloMosaic.Init

/-!
The gradient of the feed-forward layer's gate: on finite arguments the kernel's array and the reference's hold the same
numbers, and the three programs leave their arguments as they found them.
-/

@[expose] public section

set_option maxRecDepth 16384

noncomputable section

namespace Cert.Gate

open Idealize.ShloMosaic Idealize.ShloMosaic.TcCoe Idealize.SL.Sem Cert.Tab Cert.Gmlp

instance pre_facts : Cert.Pre_finite_gate.Facts := by constructor <;> decide

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

section Real

open Cert.Pre_finite_gate

variable {x0 : S4096x1024.Idx → EReal} {x1 : S2816x1024.Idx → EReal} {x2 : S2x4096x2816.Idx → EReal} {x3 : S1x128.Idx → EReal}

/-- Finite arguments are arrays of numbers. -/
theorem numbers (h : Cert.Pre_finite_gate.fn (F := Ideal) x0 x1 x2 x3 = fun _ => 1#1) :
    (∀ j, ∃ r : ℝ, x0 j = ((r : ℝ) : EReal)) ∧ (∀ j, ∃ r : ℝ, x1 j = ((r : ℝ) : EReal))
      ∧ ∀ j, ∃ r : ℝ, x2 j = ((r : ℝ) : EReal) := by
  have e := congrFun h (fun k => k.elim0)
  dsimp only [fn] at e
  obtain ⟨e, h2⟩ := IntOp.andi_eq_one.1 e
  obtain ⟨h0, h1⟩ := IntOp.andi_eq_one.1 e
  exact ⟨fun j => ⟨_, all_real (top_is _ _) _ _ _ _ h0 j⟩, fun j => ⟨_, all_real (top_is _ _) _ _ _ _ h1 j⟩,
    fun j => ⟨_, all_real (top_is _ _) _ _ _ _ h2 j⟩⟩

end Real

/-- The reference's array, entry by entry. -/
theorem ref_apply (x0 : Cert.Reference2Ideal.S4096x1024.Idx → EReal) (x1 : Cert.Reference2Ideal.S2816x1024.Idx → EReal)
    (x2 : Cert.Reference2Ideal.S2x4096x2816.Idx → EReal) (h0 : ∀ j, ∃ r : ℝ, x0 j = ((r : ℝ) : EReal))
    (h1 : ∀ j, ∃ r : ℝ, x1 j = ((r : ℝ) : EReal)) (h2 : ∀ j, ∃ r : ℝ, x2 j = ((r : ℝ) : EReal))
    (i : Cert.Reference2Ideal.S2x4096x2816.Idx) :
    (Cert.Reference2Ideal.Read.val_main_v21 (F := Ideal) x0 x1 x2 i : EReal)
      = out (tab2 x0) (tab2 x1) (tab3 x2) (i 0).val (i 1).val (i 2).val := by
  obtain ⟨A, hA⟩ := tab2_real h0
  obtain ⟨W, hW⟩ := tab2_real h1
  obtain ⟨G, hG⟩ := tab3_real h2
  have b0 : (i 0).val < 2 := (i 0).isLt
  have hs : ∀ r s : ℕ, (∑ k : Fin 1024, tab2 x0 r k.val * tab2 x1 s k.val)
      = ((∑ k : Fin 1024, A r k.val * W s k.val : ℝ) : EReal) := fun r s => by
    rw [← coe_sum]
    exact Finset.sum_congr rfl fun k _ => by rw [hA, hW, EReal.coe_mul]
  let j : Cert.Reference2Ideal.S4096x2816.Idx := ix2 ⟨(i 1).val, (i 1).isLt⟩ ⟨(i 2).val, (i 2).isLt⟩
  let k : Cert.Reference2Ideal.S1x4096x2816.Idx := ix3 0 ⟨(i 1).val, (i 1).isLt⟩ ⟨(i 2).val, (i 2).isLt⟩
  have p0 := Ref.plane0 x0 x1 x2 k j rfl rfl
  have p1 := Ref.plane1 x0 x1 x2 k j rfl rfl
  rw [Ref.dgate_apply, Ref.sum_apply, Ref.gate_apply, Ref.up_apply, hs, hG, hG, Ref.rgate_eq] at p0
  rw [Ref.dup_apply, Ref.sum_apply, Ref.gate_apply, hs, hG, Ref.rup_eq] at p1
  unfold out
  rw [hs, hG, hG]
  by_cases h : (i 0).val = 0
  · rw [if_pos h]
    refine Eq.trans ?_ p0
    show Cert.Reference2Ideal.Read.val_main_v20 (F := Ideal) x0 x1 x2 i = _
    refine concatenate_pair_apply_left (t := Cert.Reference2Ideal.S2x4096x2816) (0 : Fin 3)
      (Cert.Reference2Ideal.Read.val_main_v18 (F := Ideal) x0 x1 x2)
      (Cert.Reference2Ideal.Read.val_main_v19 (F := Ideal) x0 x1 x2) _ i rfl k (fun a => ?_)
    match a with
    | ⟨0, _⟩ => exact h.symm
    | ⟨1, _⟩ => rfl
    | ⟨2, _⟩ => rfl
  · rw [if_neg h]
    refine Eq.trans ?_ p1
    show Cert.Reference2Ideal.Read.val_main_v20 (F := Ideal) x0 x1 x2 i = _
    refine concatenate_pair_apply_right (t := Cert.Reference2Ideal.S2x4096x2816) (0 : Fin 3)
      (Cert.Reference2Ideal.Read.val_main_v18 (F := Ideal) x0 x1 x2)
      (Cert.Reference2Ideal.Read.val_main_v19 (F := Ideal) x0 x1 x2) _ i rfl rfl k (fun a ha => ?_) ?_
    · match a with
      | ⟨0, _⟩ => exact absurd rfl ha
      | ⟨1, _⟩ => rfl
      | ⟨2, _⟩ => rfl
    · show 0 + 1 = (i 0).val
      omega

theorem preserves : Cert.preserves_Kernel2_Kernel2Ideal := trivial

theorem algebraic : Cert.algebraic_Kernel2Ideal_Reference2Ideal_pre_finite_gate := by
  intro m ρ m' ρ' hpre hag
  refine ⟨fun c => (Cert.Kernel2Ideal.Gen.dats m 0 c).arrAt 3 Cert.Kernel2Ideal.cfg0.N,
    Cert.Kernel2Ideal.Value.run_blocks m ρ,
    (θ_run _ _ _).mono (fun r h c => ?_) (Cert.Reference2Ideal.Value.run m' ρ')⟩
  obtain ⟨h0, hk⟩ := h c
  obtain ⟨a0, a1, a2, _⟩ := hag c
  obtain ⟨n0, n1, n2⟩ := numbers (hpre c)
  refine ⟨funext fun i => ?_, hk⟩
  refine (congrFun (h0.trans (Cert.Reference2Ideal.Read.val_main_v21_eq m' c)) i).trans ?_
  rw [a0, a1, a2]
  exact (ref_apply _ _ _ n0 n1 n2 i).trans (array m c i).symm

end Cert.Gate

end
-- ==== Proof.NormRow.lean ====
module

public import proofs.«01_k».proof.Proof.Calc
public import proofs.«01_k».proof.Proof.Table

/-!
One row of the backward pass of the norm, over the extended reals. The two ways to write it, the one with the normalised
row and the one that differentiates the inverse root by itself, agree for every row: where an entry is infinite the
inverse root is zero and both leave what is added alone; where all are numbers the inverse root is a positive number,
and a positive number goes in and out of every sum.
-/

@[expose] public section

noncomputable section

namespace Cert.NormRow

open Idealize.ShloMosaic Cert.Gmlp

/-- The width of a row and the number added to its mean square, as they are written down. -/
abbrev width : EReal := Ideal.ofBits .f32 0x44800000#32
abbrev small : EReal := Ideal.ofBits .f32 0x358637BD#32

theorem width_eq : width = ((1024 : ℝ) : EReal) := by
  simp [width, Ideal.ofBits, Ideal.ieee, -EReal.coe_mul]; norm_num

/-- The mean square of a row, with the small number added. -/
def msq (x : ℕ → EReal) : EReal := Ideal.div (∑ k : Fin 1024, x k * x k) width + small

/-- The inverse root of the mean square. -/
def inv (x : ℕ → EReal) : EReal := Ideal.rsqrt (msq x)

/-- The gradient of the row at `j`: `x` the row, `v` the gradient of the normalised row times its gain, `g` the gain,
`d` what is added. -/
def grad (d : EReal) (x v g : ℕ → EReal) (j : ℕ) : EReal :=
  d + inv x * (v j * g j - x j * inv x * Ideal.div (∑ k : Fin 1024, v k * g k * (x k * inv x)) width)

/-- The same with the inverse root differentiated by itself. -/
def grad' (d : EReal) (x v g : ℕ → EReal) (j : ℕ) : EReal :=
  d + v j * g j * inv x
    + x j * Ideal.div ((∑ k : Fin 1024, x k * (v k * g k)) * (Ideal.ofBits .f32 0xBF000000#32 * Ideal.div (inv x) (msq x))) width
    + Ideal.div ((∑ k : Fin 1024, x k * (v k * g k)) * (Ideal.ofBits .f32 0xBF000000#32 * Ideal.div (inv x) (msq x))) width * x j

theorem div_width (a : EReal) : Ideal.div a width = a * ((1 / 1024 : ℝ) : EReal) := by
  rw [width_eq, Ideal.div_coe (by norm_num)]

theorem sum_mul_coe {n : ℕ} (f : Fin n → EReal) {r : ℝ} (h : 0 ≤ r) :
    (∑ k, f k) * ((r : ℝ) : EReal) = ∑ k, f k * ((r : ℝ) : EReal) := by
  classical
  have key : ∀ s : Finset (Fin n), (∑ k ∈ s, f k) * ((r : ℝ) : EReal) = ∑ k ∈ s, f k * ((r : ℝ) : EReal) := fun s => by
    induction s using Finset.induction_on with
    | empty => simp
    | insert a s ha ih =>
      rw [Finset.sum_insert ha, Finset.sum_insert ha, ← ih,
        EReal.right_distrib_of_nonneg_of_ne_top (EReal.coe_nonneg.2 h) (EReal.coe_ne_top r)]
  exact key _

theorem twice (y : EReal) : y + y = ((2 : ℝ) : EReal) * y := by
  induction y with
  | bot => rw [EReal.coe_mul_bot_of_pos (by norm_num)]; rfl
  | top => rw [EReal.coe_mul_top_of_pos (by norm_num)]; rfl
  | coe r => rw [← EReal.coe_add, ← EReal.coe_mul, two_mul]

theorem sq_nonneg' (y : EReal) : 0 ≤ y * y := by
  induction y with
  | bot => simp
  | top => simp
  | coe r => rw [← EReal.coe_mul]; exact EReal.coe_nonneg.2 (mul_self_nonneg r)

/-- An infinite entry makes the sum of the squares infinite. -/
theorem squares_top {x : ℕ → EReal} {k : Fin 1024} (h : x k * x k = ⊤) : (∑ k : Fin 1024, x k * x k) = ⊤ := by
  rw [← Finset.add_sum_erase _ _ (Finset.mem_univ k), h]
  refine EReal.top_add_of_ne_bot fun e => ?_
  have p : (0 : EReal) ≤ ∑ k ∈ Finset.univ.erase k, x k * x k := Finset.sum_nonneg fun _ _ => sq_nonneg' _
  rw [e] at p
  exact absurd p (by simp)

/-- The two ways agree. -/
theorem grad_eq (d : EReal) (x v g : ℕ → EReal) (j : ℕ) (hj : j < 1024) : grad d x v g j = grad' d x v g j := by
  by_cases hr : ∀ k : Fin 1024, ∃ r : ℝ, x k = ((r : ℝ) : EReal)
  · choose f hf using hr
    have hx : x j = ((f ⟨j, hj⟩ : ℝ) : EReal) := hf ⟨j, hj⟩
    have hm : msq x = (((∑ k, f k * f k) * (1 / 1024) + eps : ℝ) : EReal) := by
      rw [msq, div_width, Finset.sum_congr rfl fun (k : Fin 1024) _ => show x k * x k = ((f k * f k : ℝ) : EReal) by rw [hf k, EReal.coe_mul],
        coe_sum, ← EReal.coe_mul, small, ofBits_eps, ← EReal.coe_add]
    have hp : 0 < (∑ k, f k * f k) * (1 / 1024) + eps := by
      have : 0 ≤ ∑ k, f k * f k := Finset.sum_nonneg fun k _ => mul_self_nonneg _
      have he : 0 < eps := by unfold eps; norm_num
      positivity
    generalize (∑ k, f k * f k) * (1 / 1024) + eps = A at hm hp
    have hi : inv x = (((Real.sqrt A)⁻¹ : ℝ) : EReal) := by rw [inv, hm, rsqrt_coe_pos _ hp]
    have hs : 0 < (Real.sqrt A)⁻¹ := inv_pos.2 (Real.sqrt_pos.2 hp)
    have hd : Ideal.div (inv x) (msq x) = (((Real.sqrt A)⁻¹ * ((Real.sqrt A)⁻¹ * (Real.sqrt A)⁻¹) : ℝ) : EReal) := by
      rw [hi, hm, div_coe_coe _ _ hp.ne', ← mul_inv, Real.mul_self_sqrt hp.le, div_eq_mul_inv]
    have hsum : (∑ k : Fin 1024, v k * g k * (x k * inv x)) = (∑ k : Fin 1024, x k * (v k * g k)) * inv x := by
      rw [hi, sum_mul_coe _ hs.le]
      refine Finset.sum_congr rfl fun k _ => ?_
      rw [← mul_assoc, mul_comm (v k * g k)]
    unfold grad grad'
    rw [hsum, hd, div_width, div_width, ofBits_neg_half, hi, hx]
    generalize (∑ k : Fin 1024, x k * (v k * g k)) = U
    generalize v j * g j = u
    generalize (Real.sqrt A)⁻¹ = s at hs
    generalize f ⟨j, hj⟩ = y
    rw [sub_eq_add_neg, EReal.left_distrib_of_nonneg_of_ne_top (EReal.coe_nonneg.2 hs.le) (EReal.coe_ne_top s),
      mul_comm (s : EReal) u, add_assoc (d + u * s), mul_comm (_ * ((1 / 1024 : ℝ) : EReal)) (y : EReal), twice, add_assoc d]
    refine congrArg (fun z => d + (u * s + z)) ?_
    rw [← EReal.coe_mul (-1 / 2)]
    have e1 : (s : EReal) * -((y : EReal) * s * (U * s * ((1 / 1024 : ℝ) : EReal))) = U * ((-(s * (y * s * (s * (1 / 1024)))) : ℝ) : EReal) := by
      rw [EReal.coe_neg, mul_neg, mul_neg]
      simp only [EReal.coe_mul]
      congr 1
      ac_rfl
    have e2 : ((2 : ℝ) : EReal) * ((y : EReal) * (U * ((-1 / 2 * (s * (s * s)) : ℝ) : EReal) * ((1 / 1024 : ℝ) : EReal)))
        = U * ((2 * (y * (-1 / 2 * (s * (s * s)) * (1 / 1024))) : ℝ) : EReal) := by
      simp only [EReal.coe_mul]
      ac_rfl
    rw [e1, e2]
    congr 2
    ring
  · push Not at hr
    obtain ⟨k, hk⟩ := hr
    have ht : x k * x k = ⊤ := by
      generalize x k = y at hk
      induction y with
      | bot => simp
      | top => simp
      | coe r => exact absurd rfl (hk r)
    have hm : msq x = ⊤ := by
      rw [msq, squares_top ht, div_width, EReal.top_mul_coe_of_pos (by norm_num), small, ofBits_eps]
      exact EReal.top_add_coe _
    have hi : inv x = 0 := by rw [inv, hm]; exact Ideal.rsqrt_top
    have hd : Ideal.div (inv x) (msq x) = 0 := by
      rw [hi, hm]
      simp [Ideal.div]
    unfold grad grad'
    rw [hd, hi, div_width]
    simp [div_width]

end Cert.NormRow
-- ==== Proof.Strip.lean ====
module

public import proofs.«01_k».proof.Proof.Table
public import proofs.«01_k».proof.Proof.NormRow

/-!
A band of an array at offsets that are known by an equation, as a counted loop computes them; and the rows of a strip of
an array under the backward pass of the norm.
-/

@[expose] public section

noncomputable section

namespace Cert.Strip

open Idealize.ShloMosaic Idealize.SL Idealize.SL.Sem Cert.Gmlp Cert.NormRow

section Band

variable {e : EltTy} {Val : EltTy → Type} [∀ e, Nonempty (Val e)] {R C r c o q : ℕ} {off : Fin 2 → ℕ}
  (h : off = ![o, q]) (inb : ∀ a, off a + (![r, c] : Fin 2 → ℕ) a ≤ (⟨2, ![R, C]⟩ : Shape).size a)

include h in
theorem ld_band {X : (⟨2, ![R, C]⟩ : Shape).Idx → Val e} {f : ℕ → ℕ → Val e}
    (hX : ∀ j, X j = f (j 0).val (j 1).val) (x : (⟨2, ![r, c]⟩ : Shape).Idx) :
    View.ld (Val := Val) (e' := e) X (Rect.unit off ![r, c] inb) x = f (o + (x 0).val) (q + (x 1).val) := by
  subst h
  exact ld_band_is o q inb hX x

include h in
theorem canon_band' {f : ℕ → ℕ → Val e} {P : (⟨2, ![r, c]⟩ : Shape).Idx → Val e}
    (hP : ∀ j, P j = f (o + (j 0).val) (q + (j 1).val)) (L : List (View.Piece Val (⟨2, ![R, C]⟩ : Shape) e))
    (y : (⟨2, ![R, C]⟩ : Shape).Idx)
    (hL : ¬ ((o ≤ (y 0).val ∧ (y 0).val < o + r) ∧ q ≤ (y 1).val ∧ (y 1).val < q + c)
      → View.canon L y = f (y 0).val (y 1).val) :
    View.canon ((⟨Rect.unit off ![r, c] inb, P⟩ : View.Piece Val (⟨2, ![R, C]⟩ : Shape) e) :: L) y
      = f (y 0).val (y 1).val := by
  subst h
  exact canon_band o q inb hP L y hL

end Band

end Cert.Strip
-- ==== Proof.Part.lean ====
module

public import proofs.«01_k».proof.Proof.Table

/-!
The sum of products of two columns over their first rows, and how it grows by a block of rows: what a kernel that walks
over the rows block by block keeps in its running sum.
-/

@[expose] public section

noncomputable section

namespace Cert.Part

/-- The products of column `s` of `A` with column `u` of `D`, over the first `n` rows. -/
def part (A D : ℕ → ℕ → EReal) (n s u : ℕ) : EReal := ∑ k ∈ Finset.range n, A k s * D k u

/-- One more block of `q` rows. -/
theorem part_add {A D : ℕ → ℕ → EReal} {q : ℕ} {X Y : Fin q → EReal} {R s u : ℕ}
    (hX : ∀ k : Fin q, X k = A (R + k.val) s) (hY : ∀ k : Fin q, Y k = D (R + k.val) u) :
    part A D R s u + ∑ k : Fin q, X k * Y k = part A D (R + q) s u := by
  have e : (∑ k : Fin q, X k * Y k) = ∑ k ∈ Finset.range q, A (R + k) s * D (R + k) u := by
    rw [Finset.sum_range]
    exact Finset.sum_congr rfl fun k _ => congrArg₂ (· * ·) (hX k) (hY k)
  rw [e, part, part, Finset.sum_range_add]

/-- The first block, from nothing. -/
theorem part_first {A D : ℕ → ℕ → EReal} {q : ℕ} {X Y : Fin q → EReal} {s u : ℕ}
    (hX : ∀ k : Fin q, X k = A k.val s) (hY : ∀ k : Fin q, Y k = D k.val u) :
    ∑ k : Fin q, X k * Y k = part A D q s u := by
  rw [part, Finset.sum_range]
  exact Finset.sum_congr rfl fun k _ => congrArg₂ (· * ·) (hX k) (hY k)

end Cert.Part
-- ==== Proof.NormLoop.lean ====
module

public import proofs.«01_k».proof.Proof.Strip
public import proofs.«01_k».proof.Proof.Part
public import proofs.«01_k».proof.Proof.Gen.Kernel3Ideal.Value
public import Idealize.ShloMosaic.Lib.Pipeline.ReadBack
public import Idealize.ShloMosaic.Lib.Pointwise.Tactic

/-!
The backward pass of the norm inside the gradient of the feed-forward layer's input: the loop over the eight strips of
rows of a block, what it leaves in the block, and the sum over the rows it carries.
-/

@[expose] public section

set_option maxRecDepth 16384

noncomputable section

namespace Cert.Norm

open Cert.Kernel3Ideal Cert.Kernel3Ideal.Gen Cert.Kernel3Ideal.Value Idealize.ShloMosaic Idealize.ShloMosaic.TcCoe
open Idealize.SL Idealize.SL.Sem Cert.Tab Cert.Gmlp Cert.Part Cert.NormRow Cert.Strip

section Pay

variable (g a : Vec Ideal S1x1024 .f32) (v x o : Vec Ideal S128x1024 .f32) {r : ℕ} {V X O G : ℕ → ℕ → EReal}
  (hv : ∀ j, v j = V (r + (j 0).val) (j 1).val) (hx : ∀ j, x j = X (r + (j 0).val) (j 1).val)
  (ho : ∀ j, o j = O (r + (j 0).val) (j 1).val) (hg : ∀ j, g j = G (j 0).val (j 1).val)

include hv hx ho hg in
theorem strip_out (j : S128x1024.Idx) : k0_pay8 g v x o j
    = grad (O (r + (j 0).val) (j 1).val) (X (r + (j 0).val)) (V (r + (j 0).val)) (G 0) (j 1).val := by
  unfold k0_pay8 k0_pay7 k0_pay6
  pointwise
  simp only [hv, hx, ho, hg]
  rfl

include hv hx in
theorem strip_sum (j : S1x1024.Idx) : k0_pay9 a v x j
    = a j + ∑ k : Fin 128, V (r + k.val) (j 1).val * (X (r + k.val) (j 1).val * inv (X (r + k.val))) := by
  unfold k0_pay9 k0_pay7 k0_pay6
  pointwise
  simp only [hv, hx]
  rfl

end Pay

theorem off_eq : ∀ k : Fin k0_t1_loop.trips, k0_off1 k = ![128 * k.val, 0] := by decide +kernel

theorem trips_eq : k0_t1_loop.trips = 8 := by decide +kernel

section Loop

variable (𝒱 : Variants) (c : Dev nD) (bd : Option 𝒱.V) (i : grid0.Coords) (arg3 : Memref sig .tc .vmem S1x1024x1408 .bf16) (harg3 : arg3.IsWhole) (arg4 : Memref sig .tc .vmem S1408x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (k0_h3 : k0_cond3 i = 1#1) (v24 : Vec Ideal S1x1024 .f32) (X_arg5 : BufTy.Contents (Elt Ideal) arg5.view.ty) (X_arg7 : BufTy.Contents (Elt Ideal) arg7.view.ty) (X_arg10 : BufTy.Contents (Elt Ideal) arg10.view.ty) (init : FVec Ideal S1x1024 .f32)
  {V X O G : ℕ → ℕ → EReal}
  (hv : ∀ j : S1024x1024.Idx, (arg10.view.read (Elt Ideal) X_arg10 j : EReal) = V (j 0).val (j 1).val)
  (hx : ∀ j : S1024x1024.Idx, (arg7.view.read (Elt Ideal) X_arg7 j : EReal) = X (j 0).val (j 1).val)
  (ho : ∀ j : S1024x1024.Idx, (arg5.view.read (Elt Ideal) X_arg5 j : EReal) = O (j 0).val (j 1).val)
  (hg : ∀ j : S1x1024.Idx, (v24 j : EReal) = G (j 0).val (j 1).val)

theorem strip {arg : Memref sig .tc .vmem S1024x1024 .f32} {f : BufTy.Contents (Elt Ideal) arg.view.ty} {T : ℕ → ℕ → EReal}
    (h : ∀ j : S1024x1024.Idx, (arg.view.read (Elt Ideal) f j : EReal) = T (j 0).val (j 1).val)
    (k : Fin k0_t1_loop.trips) (inb : ∀ a, k0_off1 k a + (![128, 1024] : Fin 2 → ℕ) a ≤ S1024x1024.size a) (j : S128x1024.Idx) :
    (View.readAt (Elt Ideal) arg.view (Rect.unit (s := S1024x1024) (k0_off1 k) ![128, 1024] inb).toLoadRect f j : EReal)
      = T (128 * k.val + (j 0).val) (j 1).val := by
  refine (ld_band (Val := Elt Ideal) (e := .f32) (off_eq k) inb h j).trans ?_
  rw [Nat.zero_add]

include hv hx in
/-- The sum over the rows of the strips before the `k`-th. -/
theorem carried : ∀ k : ℕ, k ≤ 8 → ∀ j : S1x1024.Idx,
    ((st_k0_t1 𝒱 c bd i arg3 harg3 arg4 harg4 arg5 harg5 arg6 harg6 arg7 harg7 arg8 harg8 arg9 harg9 arg10 harg10 k0_h3 v24 X_arg5 X_arg7 X_arg10 init k).1 j : EReal)
      = init j + part V (fun r s => X r s * inv (X r)) (128 * k) (j 1).val (j 1).val := by
  intro k
  induction k with
  | zero =>
    intro _ j
    rw [st_k0_t1_zero, part, Nat.mul_zero, Finset.range_zero, Finset.sum_empty]
    exact (add_zero _).symm
  | succ k ih =>
    intro hk j
    have hk' : k < k0_t1_loop.trips := by rw [trips_eq]; omega
    rw [show k + 1 = (⟨k, hk'⟩ : Fin k0_t1_loop.trips).val + 1 from rfl, st_k0_t1_succ]
    unfold tripR_k0_t1 trip_k0_t1
    dsimp only
    refine (strip_sum _ _ _ (strip hv ⟨k, hk'⟩ _) (strip hx ⟨k, hk'⟩ _) j).trans ?_
    rw [ih (by omega) j, add_assoc]
    refine congrArg (init j + ·) ?_
    rw [show 128 * (k + 1) = 128 * k + 128 by omega]
    exact part_add (q := 128) (fun _ => rfl) (fun _ => rfl)

include hv hx ho hg in
/-- The rows of the strips before the `k`-th are settled. -/
theorem pieces : ∀ k : ℕ, k ≤ 8 → ∀ j : S1024x1024.Idx, (j 0).val < 128 * k →
    (View.canon (st_k0_t1 𝒱 c bd i arg3 harg3 arg4 harg4 arg5 harg5 arg6 harg6 arg7 harg7 arg8 harg8 arg9 harg9 arg10 harg10 k0_h3 v24 X_arg5 X_arg7 X_arg10 init k).2 j : EReal)
      = grad (O (j 0).val (j 1).val) (X (j 0).val) (V (j 0).val) (G 0) (j 1).val := by
  intro k
  induction k with
  | zero =>
    intro _ j h
    omega
  | succ k ih =>
    intro hk j h
    have hk' : k < k0_t1_loop.trips := by rw [trips_eq]; omega
    rw [show k + 1 = (⟨k, hk'⟩ : Fin k0_t1_loop.trips).val + 1 from rfl, st_k0_t1_succ]
    unfold tripL_k0_t1 trip_k0_t1
    dsimp only
    refine canon_band' (Val := Elt Ideal) (e := .f32) (off_eq ⟨k, hk'⟩) _
      (f := fun r s => grad (O r s) (X r) (V r) (G 0) s) (fun y => ?_) _ j fun hn => ?_
    · refine (strip_out _ _ _ _ (strip hv ⟨k, hk'⟩ _) (strip hx ⟨k, hk'⟩ _) (strip ho ⟨k, hk'⟩ _) hg y).trans ?_
      dsimp only
      rw [Nat.zero_add]
    · have h1 : (j 1).val < 1024 := (j 1).isLt
      dsimp only at hn
      exact ih (by omega) j (by omega)

end Loop

end Cert.Norm
-- ==== Proof.NormBlocks.lean ====
module

public import proofs.«01_k».proof.Proof.NormLoop

/-!
The gradient of the feed-forward layer's input: a block of rows of the product is built up over four blocks of columns,
and after the last of them goes through the backward pass of the norm. The gradient of the gain is carried over the
blocks of rows.
-/

@[expose] public section

set_option maxRecDepth 16384

noncomputable section

namespace Cert.Norm

open Cert.Kernel3Ideal Cert.Kernel3Ideal.Gen Cert.Kernel3Ideal.Value Idealize.ShloMosaic Idealize.ShloMosaic.TcCoe
open Idealize.SL Idealize.SL.Sem Cert.Tab Cert.Gmlp Cert.Part Cert.NormRow

section Pay

variable (a : Vec Ideal S1024x1024 .f32) (x : Vec Ideal S1x1024x1408 .bf16) (y : Vec Ideal S1408x1024 .bf16) (j : S1024x1024.Idx)

theorem pay1 : k0_pay1 x y j = ∑ k : Fin 1408, x (ix3 0 (j 0) k) * y (ix2 k (j 1)) := by
  unfold k0_pay1
  pointwise

theorem pay2 : k0_pay2 a x y j = a j + ∑ k : Fin 1408, x (ix3 0 (j 0) k) * y (ix2 k (j 1)) := by
  unfold k0_pay2
  pointwise

theorem pay4 : k0_pay4 a x y j = a j + ∑ k : Fin 1408, x (ix3 0 (j 0) k) * y (ix2 k (j 1)) := by
  unfold k0_pay4
  pointwise

theorem pay3 (j : S1x1024.Idx) : k0_pay3 (F := Ideal) j = 0 := by
  unfold k0_pay3
  pointwise

theorem pay5 (j : S1x1024.Idx) : k0_pay5 (F := Ideal) j = 0 := by
  unfold k0_pay5
  pointwise

theorem pay10 (a b : Vec Ideal S1x1024 .f32) (j : S1x1024.Idx) : k0_pay10 a b j = a j + b j := by
  unfold k0_pay10
  pointwise

end Pay

variable (m : (ℓ : Loc nD τ sig) → Buf (Elt Ideal) ℓ) (c : Dev nD) (t : Fin cfg0.N)

/-- The gradient of the gated halves, side by side, at column `k` and row `r`. -/
def D (k r : ℕ) : EReal := tab3 (m ((c : Thread nD τ).loc main_arg0) : S2x4096x2816.Idx → EReal) (k / 2816) r (k % 2816)

/-- The weights at column `k` and row `u`. -/
def W (k u : ℕ) : EReal := tab2 (m ((c : Thread nD τ).loc main_arg1) : S1024x5632.Idx → EReal) u k

abbrev O : ℕ → ℕ → EReal := tab2 (m ((c : Thread nD τ).loc main_arg2) : S4096x1024.Idx → EReal)
abbrev X : ℕ → ℕ → EReal := tab2 (m ((c : Thread nD τ).loc main_arg3) : S4096x1024.Idx → EReal)
abbrev G : ℕ → ℕ → EReal := tab2 (m ((c : Thread nD τ).loc main_arg4) : S1x1024.Idx → EReal)

/-- The gradient of the norm's result. -/
def U (r u : ℕ) : EReal := part (D m c) (W m c) 5632 r u

theorem index0 : ∀ t : Fin cfg0.N, win0_0.index t = ![t.val % 4 / 2, t.val / 4, t.val % 4 % 2] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, 0] := (by decide +kernel : ∀ t : Fin grid0.N, _)
theorem index5 : ∀ t : Fin cfg0.N, win0_5.index t = ![t.val / 4, 0] := (by decide +kernel : ∀ t : Fin grid0.N, _)

/-- The weights as the host hands them over: transposed. -/
theorem w_apply (j : S5632x1024.Idx) : (V m c main_v1 : S5632x1024.Idx → EReal) j = W m c (j 0).val (j 1).val := by
  have e : (V m c main_v1 : S5632x1024.Idx → EReal) j
      = (m ((c : Thread nD τ).loc main_arg1) : S1024x5632.Idx → EReal) (ix2 (j 1) (j 0)) := by
    entry_read
    pointwise
  exact e.trans (eq_tab2 _ _)

theorem block0 (j : S1x1024x1408.Idx) :
    iblk m c 0 t j = D m c (1408 * (t.val % 4) + (j 2).val) (1024 * (t.val / 4) + (j 1).val) := by
  have e := index0 t
  have h0 : (j 0).val < 1 := (j 0).isLt
  have h2 : (j 2).val < 1408 := (j 2).isLt
  unfold iblk
  blk_simp
  rw [V_main_arg0]
  refine (eq_tab3 _ _).trans ?_
  blk_simp [e]
  unfold D
  congr 1 <;> omega

theorem block1 (j : S1408x1024.Idx) : iblk m c 1 t j = W m c (1408 * (t.val % 4) + (j 0).val) (j 1).val := by
  have e := index1 t
  unfold iblk
  blk_simp
  refine (w_apply m c _).trans ?_
  blk_simp [e]
  rw [Nat.mul_comm 1408]

theorem block2 (j : S1024x1024.Idx) : iblk m c 2 t j = O m c (1024 * (t.val / 4) + (j 0).val) (j 1).val := by
  have e := index2 t
  unfold iblk
  blk_simp
  rw [V_main_arg2]
  refine (eq_tab2 _ _).trans ?_
  blk_simp [e]
  rw [Nat.mul_comm 1024]

theorem block3 (j : S1x1024.Idx) : iblk m c 3 t j = G m c (j 0).val (j 1).val := by
  have e := index3 t
  unfold iblk
  blk_simp
  rw [V_main_arg4]
  refine (eq_tab2 _ _).trans ?_
  blk_simp [e]

theorem block4 (j : S1024x1024.Idx) : iblk m c 4 t j = X m c (1024 * (t.val / 4) + (j 0).val) (j 1).val := by
  have e := index4 t
  unfold iblk
  blk_simp
  rw [V_main_arg3]
  refine (eq_tab2 _ _).trans ?_
  blk_simp [e]
  rw [Nat.mul_comm 1024]

/-- One more block of columns added to the sum over the columns before it. -/
theorem step (n : ℕ) {P : S1x1024x1408.Idx → EReal} {Q : S1408x1024.Idx → EReal}
    (hP : ∀ j, P j = D m c (1408 * (n % 4) + (j 2).val) (1024 * (n / 4) + (j 1).val))
    (hQ : ∀ j, Q j = W m c (1408 * (n % 4) + (j 0).val) (j 1).val) (i : S1024x1024.Idx) :
    part (D m c) (W m c) (1408 * (n % 4)) (1024 * (n / 4) + (i 0).val) (i 1).val
      + ∑ k : Fin 1408, P (ix3 0 (i 0) k) * Q (ix2 k (i 1))
    = part (D m c) (W m c) (1408 * (n % 4) + 1408) (1024 * (n / 4) + (i 0).val) (i 1).val :=
  part_add (fun k => hP (ix3 0 (i 0) k)) (fun k => hQ (ix2 k (i 1)))

/-- The running sum after the first, second and third block of columns. -/
theorem upto : ∀ (n : ℕ) (h : n < cfg0.N), n % 4 ≤ 2 → ∀ i : S1024x1024.Idx, ((outsAt0 m c n h).2.2 i : EReal)
    = part (D m c) (W m c) (1408 * (n % 4) + 1408) (1024 * (n / 4) + (i 0).val) (i 1).val := by
  intro n
  induction n with
  | zero =>
    intro h _ i
    rw [outsAt0_A m c ⟨0, h⟩ rfl (by dsimp only; omega) (by dsimp only; omega)]
    dsimp only
    frame_out
    refine (pay1 _ _ i).trans ((zero_add _).symm.trans ?_)
    exact step m c 0 (block0 m c ⟨0, h⟩) (block1 m c ⟨0, h⟩) i
  | succ n ih =>
    intro h hn i
    by_cases h0 : (n + 1) % 4 = 0
    · rw [outsAt0_A m c ⟨n + 1, h⟩ h0 (by dsimp only; omega) (by dsimp only; omega)]
      dsimp only
      frame_out
      refine (pay1 _ _ i).trans ((zero_add _).symm.trans ?_)
      have e := step m c (n + 1) (block0 m c ⟨n + 1, h⟩) (block1 m c ⟨n + 1, h⟩) i
      dsimp only at e
      rw [h0] at e ⊢
      exact e
    · rw [outsAt0_B m c ⟨n + 1, h⟩ h0 (by dsimp only; omega) (by dsimp only; omega)]
      dsimp only
      frame_out
      refine (pay2 _ _ _ i).trans ?_
      have e := step m c (n + 1) (block0 m c ⟨n + 1, h⟩) (block1 m c ⟨n + 1, h⟩) i
      dsimp only at e
      refine Eq.trans (congrArg (· + _) ?_) e
      rw [(Memref.isWhole_whole _).read_unread]
      refine (ih (Nat.lt_of_succ_lt h) (by omega) i).trans ?_
      rw [show 1408 * (n % 4) + 1408 = 1408 * ((n + 1) % 4) by omega, show n / 4 = (n + 1) / 4 by omega]

/-- The whole sum over the columns, at the last block of them. -/
theorem full (ht : t.val % 4 = 3) {P : Vec Ideal S1024x1024 .f32}
    (hP : ∀ i, (P i : EReal) = ((outsAt0 m c (t.val - 1) (by omega)).2.2 i : EReal)) (i : S1024x1024.Idx) :
    k0_pay4 P (iblk m c 0 t) (iblk m c 1 t) i = U m c (1024 * (t.val / 4) + (i 0).val) (i 1).val := by
  refine (pay4 _ _ _ i).trans ?_
  have e := step m c t.val (block0 m c t) (block1 m c t) i
  rw [ht] at e
  refine Eq.trans (congrArg (· + _) ?_) e
  refine (hP i).trans ((upto m c (t.val - 1) _ (by omega) i).trans ?_)
  rw [show 1408 * ((t.val - 1) % 4) + 1408 = 1408 * 3 by omega, show (t.val - 1) / 4 = t.val / 4 by omega]

/-- What the last block of columns writes back. -/
theorem last (ht : t.val % 4 = 3) (i : S1024x1024.Idx) : ((outsAt0 m c t.val t.isLt).1 i : EReal)
    = grad (O m c (1024 * (t.val / 4) + (i 0).val) (i 1).val) (X m c (1024 * (t.val / 4) + (i 0).val))
        (U m c (1024 * (t.val / 4) + (i 0).val)) (G m c 0) (i 1).val := by
  have h1 : (i 0).val < 1024 := (i 0).isLt
  by_cases h3 : t.val < 4
  · rw [outsAt0_C m c t (by omega) (by omega) ht h3]
    dsimp only
    frame_out
    refine pieces (V := fun r => U m c (1024 * (t.val / 4) + r)) (X := fun r => X m c (1024 * (t.val / 4) + r))
      (O := fun r => O m c (1024 * (t.val / 4) + r)) (G := G m c) _ _ _ _ _ _ _ _ _ _ _ _ _ _ _ _ _ _ _ _ _ _ _ _ _ _
      (fun j => ?_) (fun j => ?_) (fun j => ?_) (block3 m c t) 8 le_rfl i (by omega)
    · frame_out
      exact full m c t ht (fun i => by rw [(Memref.isWhole_whole _).read_unread]) j
    · rw [Memref.IsWhole.read_unread]
      exact block4 m c t j
    · rw [Memref.IsWhole.read_unread]
      exact block2 m c t j
  · rw [outsAt0_D m c t (by omega) (by omega) ht h3]
    dsimp only
    frame_out
    refine pieces (V := fun r => U m c (1024 * (t.val / 4) + r)) (X := fun r => X m c (1024 * (t.val / 4) + r))
      (O := fun r => O m c (1024 * (t.val / 4) + r)) (G := G m c) _ _ _ _ _ _ _ _ _ _ _ _ _ _ _ _ _ _ _ _ _ _ _ _ _ _
      (fun j => ?_) (fun j => ?_) (fun j => ?_) (block3 m c t) 8 le_rfl i (by omega)
    · frame_out
      exact full m c t ht (fun i => by rw [(Memref.isWhole_whole _).read_unread]) j
    · rw [Memref.IsWhole.read_unread]
      exact block4 m c t j
    · rw [Memref.IsWhole.read_unread]
      exact block2 m c t j

/-- The normalised row. -/
def N (r u : ℕ) : EReal := X m c r u * inv (X m c r)

/-- The sum over the rows of a block of rows. -/
abbrev rows (b j : ℕ) : EReal := part (fun r => U m c (1024 * b + r)) (fun r => N m c (1024 * b + r)) 1024 j j

theorem first (ht : t.val % 4 = 3) (h3 : t.val < 4) (j : S1x1024.Idx) :
    ((outsAt0 m c t.val t.isLt).2.1 j : EReal) = 0 + rows m c (t.val / 4) (j 1).val := by
    rw [outsAt0_C m c t (by omega) (by omega) ht h3]
    dsimp only
    frame_out
    refine (pay10 _ _ j).trans ?_
    refine congrArg₂ (· + ·) (pay3 j) ((carried (V := fun r => U m c (1024 * (t.val / 4) + r)) (X := fun r => X m c (1024 * (t.val / 4) + r))
      _ _ _ _ _ _ _ _ _ _ _ _ _ _ _ _ _ _ _ _ _ _ _ _ _ _ (fun j => ?_) (fun j => ?_) 8 le_rfl j).trans ?_)
    · frame_out
      exact full m c t ht (fun i => by rw [(Memref.isWhole_whole _).read_unread]) j
    · rw [Memref.IsWhole.read_unread]
      exact block4 m c t j
    · exact (congrArg (· + _) (pay5 j)).trans (zero_add _)

theorem next (ht : t.val % 4 = 3) (h3 : ¬ t.val < 4) (j : S1x1024.Idx) : ((outsAt0 m c t.val t.isLt).2.1 j : EReal)
    = (outsAt0 m c (t.val - 1) (by omega)).2.1 j + rows m c (t.val / 4) (j 1).val := by
    rw [outsAt0_D m c t (by omega) (by omega) ht h3]
    dsimp only
    frame_out
    refine (pay10 _ _ j).trans ?_
    refine congrArg (_ + ·) ((carried (V := fun r => U m c (1024 * (t.val / 4) + r)) (X := fun r => X m c (1024 * (t.val / 4) + r))
      _ _ _ _ _ _ _ _ _ _ _ _ _ _ _ _ _ _ _ _ _ _ _ _ _ _ (fun j => ?_) (fun j => ?_) 8 le_rfl j).trans ?_)
    · frame_out
      exact full m c t ht (fun i => by rw [(Memref.isWhole_whole _).read_unread]) j
    · rw [Memref.IsWhole.read_unread]
      exact block4 m c t j
    · exact (congrArg (· + _) (pay5 j)).trans (zero_add _)

theorem keep (n : ℕ) (h : n + 1 < cfg0.N) (hn : (n + 1) % 4 ≤ 2) :
    (outsAt0 m c (n + 1) h).2.1 = (outsAt0 m c n (Nat.lt_of_succ_lt h)).2.1 := by
  by_cases h0 : (n + 1) % 4 = 0
  · rw [outsAt0_A m c ⟨n + 1, h⟩ h0 (by dsimp only; omega) (by dsimp only; omega)]
    rfl
  · rw [outsAt0_B m c ⟨n + 1, h⟩ h0 (by dsimp only; omega) (by dsimp only; omega)]
    rfl

/-- The gradient of the gain after a whole number of blocks of rows. -/
theorem gain : ∀ (b : ℕ) (h : 4 * b + 3 < cfg0.N) (j : S1x1024.Idx), ((outsAt0 m c (4 * b + 3) h).2.1 j : EReal)
    = part (U m c) (N m c) (1024 * b + 1024) (j 1).val (j 1).val := by
  intro b
  induction b with
  | zero =>
    intro h j
    refine (first m c ⟨4 * 0 + 3, h⟩ rfl (by dsimp only; omega) j).trans ((zero_add _).trans ?_)
    simp [part]
  | succ b ih =>
    intro h j
    refine (next m c ⟨4 * (b + 1) + 3, h⟩ (by dsimp only; omega) (by dsimp only; omega) j).trans ?_
    have k : (outsAt0 m c (4 * b + 3 + 1 + 1 + 1) (by omega)).2.1 = (outsAt0 m c (4 * b + 3) (by omega)).2.1 :=
      (keep m c _ _ (by omega)).trans ((keep m c _ _ (by omega)).trans (keep m c _ _ (by omega)))
    have k' := congrFun k j
    have e : (4 * (b + 1) + 3) / 4 = b + 1 := by omega
    dsimp only
    rw [e]
    refine (congrArg (· + _) (k'.trans (ih _ j))).trans ?_
    unfold rows part
    rw [show 1024 * (b + 1) = 1024 * b + 1024 by omega]
    exact (Finset.sum_range_add _ _ _).symm

/-- Two points that write back write to different places. -/
theorem apart (t t' : Fin cfg0.N) (h : (cfg0.win 5).flush t = true) (h' : (cfg0.win 5).flush t' = true) (hne : t ≠ t') :
    Disjoint ((cfg0.win 5).blk t).view.set ((cfg0.win 5).blk t').view.set := by
  refine (cfg0.win 5).disjoint_blk fun e => hne (Fin.ext ?_)
  have q := (flush0_5 t).1 h
  have q' := (flush0_5 t').1 h'
  have e0 : t.val / 4 = t'.val / 4 := congrFun ((index5 t).symm.trans (e.trans (index5 t'))) 0
  omega

/-- The whole array. -/
theorem array (i : S4096x1024.Idx) : ((dats m 0 c).arrAt 5 cfg0.N i : EReal)
    = grad (O m c (i 0).val (i 1).val) (X m c (i 0).val) (U m c (i 0).val) (G m c 0) (i 1).val := by
  have hN : cfg0.N = 16 := rfl
  have h0 : (i 0).val < 4096 := (i 0).isLt
  have h1 : (i 1).val < 1024 := (i 1).isLt
  obtain ⟨t, ht⟩ : ∃ t : Fin cfg0.N, t.val = 4 * ((i 0).val / 1024) + 3 := ⟨⟨_, by omega⟩, rfl⟩
  have e := index5 t
  have hm : i ∈ ((cfg0.win 5).blk t).view.set := by
    mem_blk [e]
    omega
  obtain ⟨y, rfl⟩ := View.exists_emb_of_mem_set _ hm
  refine (Pipeline.Dat.arrAt_emb_eq_flushed _ 5 apart t ((flush0_5 t).2 (by omega)) y).trans ?_
  rw [flushed5]
  have T := last m c t (by omega)
  generalize (outsAt0 m c t.val t.isLt).1 = z at T ⊢
  refine (T _).trans ?_
  blk_simp [e]
  rw [Nat.mul_comm 1024]

/-- The gradient of the gain. -/
theorem gain_array (i : S1x1024.Idx) : ((dats m 0 c).arrAt 6 cfg0.N i : EReal)
    = part (U m c) (N m c) 4096 (i 1).val (i 1).val := by
  refine ((dats m 0 c).arrAt_emb_eq_after_last 6 ⟨15, by decide⟩ (by decide +kernel) i).trans ?_
  rw [after0_6]
  exact gain m c 3 (by decide) i

end Cert.Norm
-- ==== Proof.InDwBlocks.lean ====
module

public import proofs.«01_k».proof.Proof.Part
public import proofs.«01_k».proof.Proof.Gen.Kernel4Ideal.Value
public import Idealize.ShloMosaic.Lib.Pipeline.ReadBack
public import Idealize.ShloMosaic.Lib.Pointwise.Tactic

/-!
The gradient of the feed-forward layer's input weights: a block of the result, a range of columns of one of the two halves
against all of the inputs, is built up over four blocks of rows, and after the last of them holds the whole sum over the rows.
-/

@[expose] public section

set_option maxRecDepth 16384

noncomputable section

namespace Cert.InDw

open Cert.Kernel4Ideal Cert.Kernel4Ideal.Gen Cert.Kernel4Ideal.Value Idealize.ShloMosaic Idealize.ShloMosaic.TcCoe
open Idealize.SL Idealize.SL.Sem Cert.Tab Cert.Gmlp Cert.Part

section Pay

variable (a : Vec Ideal S1408x1024 .f32) (x : Vec Ideal S1x1024x1408 .bf16) (y : Vec Ideal S1024x1024 .bf16) (j : S1408x1024.Idx)

theorem pay1 : k0_pay1 x y j = ∑ k : Fin 1024, x (ix3 0 k (j 0)) * y (ix2 k (j 1)) := by
  unfold k0_pay1
  pointwise

theorem pay2 : k0_pay2 a x y j = a j + ∑ k : Fin 1024, x (ix3 0 k (j 0)) * y (ix2 k (j 1)) := by
  unfold k0_pay2
  pointwise

theorem pay3 : k0_pay3 a x y j = a j + ∑ k : Fin 1024, x (ix3 0 k (j 0)) * y (ix2 k (j 1)) := by
  unfold k0_pay3
  pointwise

end Pay

variable (m : (ℓ : Loc nD τ sig) → Buf (Elt Ideal) ℓ) (c : Dev nD) (t : Fin cfg0.N)

abbrev A (h : ℕ) : ℕ → ℕ → EReal := tab3 (m ((c : Thread nD τ).loc main_arg0) : S2x4096x2816.Idx → EReal) h
abbrev D : ℕ → ℕ → EReal := tab2 (m ((c : Thread nD τ).loc main_arg1) : S4096x1024.Idx → EReal)

theorem index0 : ∀ t : Fin cfg0.N, win0_0.index t = ![t.val / 4 / 2, t.val % 4, t.val / 4 % 2] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

theorem block0 (j : S1x1024x1408.Idx) :
    iblk m c 0 t j = A m c (t.val / 4 / 2) (1024 * (t.val % 4) + (j 1).val) (1408 * (t.val / 4 % 2) + (j 2).val) := by
  have e := index0 t
  unfold iblk
  blk_simp
  rw [V_main_arg0]
  refine (eq_tab3 _ _).trans ?_
  blk_simp [e]
  rw [Nat.mul_comm 1024, Nat.mul_comm 1408]

theorem block1 (j : S1024x1024.Idx) : iblk m c 1 t j = D m c (1024 * (t.val % 4) + (j 0).val) (j 1).val := by
  have e := index1 t
  unfold iblk
  blk_simp
  rw [V_main_arg1]
  refine (eq_tab2 _ _).trans ?_
  blk_simp [e]
  rw [Nat.mul_comm 1024]

/-- One more block of rows added to the sum over the rows above it. -/
theorem step (n : ℕ) {X : S1x1024x1408.Idx → EReal} {Y : S1024x1024.Idx → EReal}
    (hX : ∀ j, X j = A m c (n / 4 / 2) (1024 * (n % 4) + (j 1).val) (1408 * (n / 4 % 2) + (j 2).val))
    (hY : ∀ j, Y j = D m c (1024 * (n % 4) + (j 0).val) (j 1).val) (i : S1408x1024.Idx) :
    part (A m c (n / 4 / 2)) (D m c) (1024 * (n % 4)) (1408 * (n / 4 % 2) + (i 0).val) (i 1).val
      + ∑ k : Fin 1024, X (ix3 0 k (i 0)) * Y (ix2 k (i 1))
    = part (A m c (n / 4 / 2)) (D m c) (1024 * (n % 4) + 1024) (1408 * (n / 4 % 2) + (i 0).val) (i 1).val :=
  part_add (fun k => hX (ix3 0 k (i 0))) (fun k => hY (ix2 k (i 1)))

/-- The running sum after the first, second and third block of rows. -/
theorem upto : ∀ (n : ℕ) (h : n < cfg0.N), n % 4 ≤ 2 → ∀ i : S1408x1024.Idx, ((outsAt0 m c n h).2 i : EReal)
    = part (A m c (n / 4 / 2)) (D m c) (1024 * (n % 4) + 1024) (1408 * (n / 4 % 2) + (i 0).val) (i 1).val := by
  intro n
  induction n with
  | zero =>
    intro h _ i
    rw [outsAt0_A m c ⟨0, h⟩ rfl (by dsimp only; omega) (by dsimp only; omega)]
    dsimp only
    frame_out
    refine (pay1 _ _ i).trans ((zero_add _).symm.trans ?_)
    exact step m c 0 (block0 m c ⟨0, h⟩) (block1 m c ⟨0, h⟩) i
  | succ n ih =>
    intro h hn i
    by_cases h0 : (n + 1) % 4 = 0
    · rw [outsAt0_A m c ⟨n + 1, h⟩ h0 (by dsimp only; omega) (by dsimp only; omega)]
      dsimp only
      frame_out
      refine (pay1 _ _ i).trans ((zero_add _).symm.trans ?_)
      have e := step m c (n + 1) (block0 m c ⟨n + 1, h⟩) (block1 m c ⟨n + 1, h⟩) i
      dsimp only at e
      rw [h0] at e ⊢
      exact e
    · rw [outsAt0_B m c ⟨n + 1, h⟩ h0 (by dsimp only; omega) (by dsimp only; omega)]
      dsimp only
      frame_out
      refine (pay2 _ _ _ i).trans ?_
      have e := step m c (n + 1) (block0 m c ⟨n + 1, h⟩) (block1 m c ⟨n + 1, h⟩) i
      dsimp only at e
      refine Eq.trans (congrArg (· + _) ?_) e
      rw [(Memref.isWhole_whole _).read_unread]
      refine (ih (Nat.lt_of_succ_lt h) (by omega) i).trans ?_
      rw [show 1024 * (n % 4) + 1024 = 1024 * ((n + 1) % 4) by omega, show n / 4 = (n + 1) / 4 by omega]

/-- What the last block of rows writes back. -/
theorem last (ht : t.val % 4 = 3) (i : S1408x1024.Idx) : ((outsAt0 m c t.val t.isLt).1 i : EReal)
    = part (A m c (t.val / 4 / 2)) (D m c) 4096 (1408 * (t.val / 4 % 2) + (i 0).val) (i 1).val := by
  rw [outsAt0_C m c t (by omega) (by omega) ht]
  dsimp only
  frame_out
  refine (pay3 _ _ _ i).trans ?_
  have e := step m c t.val (block0 m c t) (block1 m c t) i
  rw [ht] at e
  refine Eq.trans (congrArg (· + _) ?_) e
  rw [(Memref.isWhole_whole _).read_unread]
  refine (upto m c (t.val - 1) _ (by omega) i).trans ?_
  rw [show 1024 * ((t.val - 1) % 4) + 1024 = 1024 * 3 by omega, show (t.val - 1) / 4 = t.val / 4 by omega]

/-- Two points that write back write to different places. -/
theorem apart (t t' : Fin cfg0.N) (h : (cfg0.win 2).flush t = true) (h' : (cfg0.win 2).flush t' = true) (hne : t ≠ t') :
    Disjoint ((cfg0.win 2).blk t).view.set ((cfg0.win 2).blk t').view.set := by
  refine (cfg0.win 2).disjoint_blk fun e => hne (Fin.ext ?_)
  have q := (flush0_2 t).1 h
  have q' := (flush0_2 t').1 h'
  have e0 : t.val / 4 = t'.val / 4 := congrFun ((index2 t).symm.trans (e.trans (index2 t'))) 0
  omega

/-- The whole array. -/
theorem array (i : S5632x1024.Idx) : ((dats m 0 c).arrAt 2 cfg0.N i : EReal)
    = part (A m c ((i 0).val / 2816)) (D m c) 4096 ((i 0).val % 2816) (i 1).val := by
  have hN : cfg0.N = 16 := rfl
  have h0 : (i 0).val < 5632 := (i 0).isLt
  have h1 : (i 1).val < 1024 := (i 1).isLt
  obtain ⟨t, ht⟩ : ∃ t : Fin cfg0.N, t.val = 4 * ((i 0).val / 1408) + 3 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 apart t ((flush0_2 t).2 (by omega)) y).trans ?_
  rw [flushed2]
  have hy : (y 0).val < 1408 := (y 0).isLt
  have T := last m c t (by omega)
  generalize (outsAt0 m c t.val t.isLt).1 = z at T ⊢
  refine (T _).trans ?_
  blk_simp [e]
  rw [show (t.val / 4 * 1408 + (y 0).val) / 2816 = t.val / 4 / 2 by omega,
    show (t.val / 4 * 1408 + (y 0).val) % 2816 = 1408 * (t.val / 4 % 2) + (y 0).val by omega]

end Cert.InDw
-- ==== Proof.InDwValue.lean ====
module

public import proofs.«01_k».proof.Defs
public import proofs.«01_k».proof.Proof.InDwBlocks
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import Idealize.ShloMosaic.Init

/-!
The gradient of the feed-forward layer's input weights: both programs sum the same products over the 4096 rows, the
reference with the two halves of the incoming gradient side by side, so they agree on all arguments, finite or not.
-/

@[expose] public section

set_option maxRecDepth 16384

noncomputable section

namespace Cert.InDw

open Idealize.ShloMosaic Idealize.ShloMosaic.TcCoe Idealize.SL.Sem Cert.Tab Cert.Part

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

namespace Ref

open Cert.Reference4Ideal Cert.Reference4Ideal.Read

variable (x0 : (⟨S2x4096x2816, .bf16⟩ : BufTy).Contents (Elt Ideal)) (x1 : (⟨S4096x1024, .bf16⟩ : BufTy).Contents (Elt Ideal))

/-- The two halves side by side, read in the first. -/
theorem left_apply (i : S4096x5632.Idx) (h : (i 1).val < 2816) :
    (val_main_v4 (F := Ideal) x0 i : EReal) = tab3 x0 0 (i 0).val (i 1).val := by
  have h0 : (i 0).val < 4096 := (i 0).isLt
  have e : val_main_v4 (F := Ideal) x0 i = val_main_v1 (F := Ideal) x0 (ValueIdx.ix2 (i 0) ⟨(i 1).val, h⟩) := by
    refine concatenate_pair_apply_left (t := S4096x5632) (1 : Fin 2) (val_main_v1 (F := Ideal) x0)
      (val_main_v3 (F := Ideal) x0) _ i rfl _ (fun a => ?_)
    match a with
    | ⟨0, _⟩ => rfl
    | ⟨1, _⟩ => rfl
  refine Eq.trans e ?_
  rw [val_main_v1_apply, val_main_v0_apply]
  refine (eq_tab3 x0 _).trans ?_
  congr 1
  · show ((i 0).val * 2816 + (i 1).val) / 2816 % 4096 = (i 0).val
    omega
  · show ((i 0).val * 2816 + (i 1).val) % 2816 = (i 1).val
    omega

/-- … and in the second. -/
theorem right_apply (i : S4096x5632.Idx) (h : ¬(i 1).val < 2816) :
    (val_main_v4 (F := Ideal) x0 i : EReal) = tab3 x0 1 (i 0).val ((i 1).val - 2816) := by
  have h0 : (i 0).val < 4096 := (i 0).isLt
  have h1 : (i 1).val < 5632 := (i 1).isLt
  have e : val_main_v4 (F := Ideal) x0 i = val_main_v3 (F := Ideal) x0 (ValueIdx.ix2 (i 0) ⟨(i 1).val - 2816, by omega⟩) := by
    refine concatenate_pair_apply_right (t := S4096x5632) (1 : Fin 2) (val_main_v1 (F := Ideal) x0)
      (val_main_v3 (F := Ideal) x0) _ i rfl rfl _ (fun a ha => ?_) (show (i 1).val - 2816 + 2816 = (i 1).val by omega)
    match a with
    | ⟨0, _⟩ => rfl
    | ⟨1, _⟩ => exact absurd rfl ha
  refine Eq.trans e ?_
  rw [val_main_v3_apply, val_main_v2_apply]
  refine (eq_tab3 x0 _).trans ?_
  congr 1
  · show ((i 0).val * 2816 + ((i 1).val - 2816)) / 2816 % 4096 = (i 0).val
    omega
  · show ((i 0).val * 2816 + ((i 1).val - 2816)) % 2816 = (i 1).val - 2816
    omega

theorem halves_apply (i : S4096x5632.Idx) :
    (val_main_v4 (F := Ideal) x0 i : EReal) = tab3 x0 ((i 1).val / 2816) (i 0).val ((i 1).val % 2816) := by
  have h1 : (i 1).val < 5632 := (i 1).isLt
  by_cases h : (i 1).val < 2816
  · rw [left_apply x0 i h, Nat.div_eq_of_lt h, Nat.mod_eq_of_lt h]
  · rw [right_apply x0 i h, show (i 1).val / 2816 = 1 by omega, show (i 1).val % 2816 = (i 1).val - 2816 by omega]

theorem apply (i : S5632x1024.Idx) : (val_main_v12 (F := Ideal) x0 x1 i : EReal)
    = part (tab3 x0 ((i 0).val / 2816)) (tab2 x1) 4096 ((i 0).val % 2816) (i 1).val := by
  rw [part, Finset.sum_range]
  show (val_main_v11 (F := Ideal) x0 x1 i : EReal) = _
  rw [val_main_v11_apply, val_main_v10_apply, val_main_v9_apply]
  exact Finset.sum_congr rfl fun k _ => congrArg₂ (· * ·) (halves_apply x0 _) (eq_tab2 x1 _)

end Ref

theorem preserves : Cert.preserves_Kernel4_Kernel4Ideal := trivial

/-- The kernel's array is the reference's. -/
theorem algebraic : Cert.algebraic_Kernel4Ideal_Reference4Ideal := by
  intro m ρ m' ρ' _ hag
  refine ⟨fun c => (Cert.Kernel4Ideal.Gen.dats m 0 c).arrAt 2 Cert.Kernel4Ideal.cfg0.N,
    Cert.Kernel4Ideal.Value.run_blocks m ρ,
    (θ_run _ _ _).mono (fun r h c => ?_) (Cert.Reference4Ideal.Value.run m' ρ')⟩
  obtain ⟨h0, hk⟩ := h c
  obtain ⟨a0, a1⟩ := hag c
  refine ⟨funext fun i => ?_, hk⟩
  refine (congrFun (h0.trans (Cert.Reference4Ideal.Read.val_main_v12_eq _ _)) i).trans ?_
  rw [a0, a1]
  exact (Ref.apply _ _ i).trans (array m c i).symm

end Cert.InDw

end
-- ==== Proof.NormValue.lean ====
module

public import proofs.«01_k».proof.Defs
public import proofs.«01_k».proof.Proof.NormBlocks
public import proofs.«01_k».proof.Proof.InDwValue
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import Idealize.ShloMosaic.Init

/-!
The gradient of the feed-forward layer's input with the backward pass of the norm before it. Both programs take
the same product; the reference differentiates the inverse root by itself and the kernel goes through the normalised row.
They agree on all arguments, finite or not.
-/

@[expose] public section

set_option maxRecDepth 16384

noncomputable section

namespace Cert.Norm

open Idealize.ShloMosaic Idealize.ShloMosaic.TcCoe Idealize.SL.Sem Cert.Tab Cert.Part Cert.NormRow

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

namespace Ref

open Cert.Reference3Ideal Cert.Reference3Ideal.Read

variable (x0 : (⟨S2x4096x2816, .bf16⟩ : BufTy).Contents (Elt Ideal)) (x1 : (⟨S1024x5632, .f32⟩ : BufTy).Contents (Elt Ideal))
  (x2 x3 : (⟨S4096x1024, .f32⟩ : BufTy).Contents (Elt Ideal)) (x4 : (⟨S1x1024, .f32⟩ : BufTy).Contents (Elt Ideal))

def D (k r : ℕ) : EReal := tab3 x0 (k / 2816) r (k % 2816)
def W (k u : ℕ) : EReal := tab2 x1 u k
def U (r u : ℕ) : EReal := part (D x0) (W x1) 5632 r u
def N (r u : ℕ) : EReal := tab2 x3 r u * inv (tab2 x3 r)

theorem d_apply : ∀ i : S4096x5632.Idx, (val_main_v5 (F := Ideal) x0 i : EReal) = D x0 (i 1).val (i 0).val :=
  fun i => Cert.InDw.Ref.halves_apply x0 i

theorem product_apply (i : S4096x1024.Idx) : (val_main_v24 (F := Ideal) x0 x1 i : EReal) = U x0 x1 (i 0).val (i 1).val := by
  rw [val_main_v24_apply, U, part, Finset.sum_range]
  exact Finset.sum_congr rfl fun k _ => congrArg₂ (· * ·) (d_apply x0 _) (eq_tab2 x1 _)

theorem zero_word : Ideal.ofBits .f32 0x00000000#32 = 0 := by rw [Cert.Gmlp.ofBits_zero]; rfl

theorem msq_apply (i : S4096x1.Idx) : (val_main_v13 (F := Ideal) x3 i : EReal) = msq (tab2 x3 (i 0).val) := by
  have e : (val_main_v8 (F := Ideal) x3 (idx_main_v9 i) : EReal)
      = ∑ k : Fin 1024, tab2 x3 (i 0).val k.val * tab2 x3 (i 0).val k.val := by
    rw [val_main_v8_apply]
    refine (congrArg (· + _) zero_word).trans ((zero_add _).trans ?_)
    exact Finset.sum_congr rfl fun k _ => congrArg₂ (· * ·) (eq_tab2 x3 _) (eq_tab2 x3 _)
  rw [val_main_v13_apply, val_main_v11_apply, val_main_v9_apply, val_main_v10_apply, val_main_v12_apply, e]
  rfl

theorem inv_apply (i : S4096x1.Idx) : (val_main_v14 (F := Ideal) x3 i : EReal) = inv (tab2 x3 (i 0).val) :=
  (val_main_v14_apply x3 i).trans (congrArg Ideal.rsqrt (msq_apply x3 i))

theorem slope_apply (i : S4096x1.Idx) : (val_main_v17 (F := Ideal) x3 i : EReal)
    = Ideal.ofBits .f32 0xBF000000#32 * Ideal.div (inv (tab2 x3 (i 0).val)) (msq (tab2 x3 (i 0).val)) := by
  rw [val_main_v17_apply, val_main_v16_apply, val_main_v15_apply]
  exact congrArg (Ideal.ofBits .f32 0xBF000000#32 * ·) (congrArg₂ Ideal.div (inv_apply x3 i) (msq_apply x3 i))

theorem n_apply (i : S4096x1024.Idx) : (val_main_v19 (F := Ideal) x3 i : EReal) = N x3 (i 0).val (i 1).val := by
  rw [val_main_v19_apply, val_main_v18_apply]
  exact congrArg₂ (· * ·) (eq_tab2 x3 i) (inv_apply x3 _)

theorem gain_apply (i : S4096x1024.Idx) : (val_main_v29 (F := Ideal) x0 x1 x4 i : EReal)
    = U x0 x1 (i 0).val (i 1).val * tab2 x4 0 (i 1).val := by
  rw [val_main_v29_apply, val_main_v28_apply, val_main_v20_apply, val_main_v6_apply]
  refine congrArg₂ (· * ·) (product_apply x0 x1 i) ((eq_tab2 x4 _).trans ?_)
  have h1 : (i 1).val < 1024 := (i 1).isLt
  congr 1
  exact Nat.mod_eq_of_lt h1

theorem chain_apply (i : S4096x1.Idx) : (val_main_v39 (F := Ideal) x0 x1 x3 x4 i : EReal)
    = Ideal.div ((∑ k : Fin 1024, tab2 x3 (i 0).val k.val * (U x0 x1 (i 0).val k.val * tab2 x4 0 k.val))
        * (Ideal.ofBits .f32 0xBF000000#32 * Ideal.div (inv (tab2 x3 (i 0).val)) (msq (tab2 x3 (i 0).val)))) width := by
  have h0 : (i 0).val < 4096 := (i 0).isLt
  have h1 : (i 1).val < 1 := (i 1).isLt
  have e : (val_main_v33 (F := Ideal) x0 x1 x3 x4 i : EReal)
      = ∑ k : Fin 1024, tab2 x3 (i 0).val k.val * (U x0 x1 (i 0).val k.val * tab2 x4 0 k.val) := by
    rw [val_main_v33_apply, val_main_v32_apply]
    refine (congrArg (· + _) zero_word).trans ((zero_add _).trans ?_)
    refine Finset.sum_congr rfl fun k _ => ?_
    rw [val_main_v31_apply]
    refine (congrArg₂ (· * ·) (eq_tab2 x3 _) (gain_apply x0 x1 x4 _)).trans ?_
    show tab2 x3 ((i 0).val * 1 + (i 1).val) k.val * (U x0 x1 ((i 0).val * 1 + (i 1).val) k.val * tab2 x4 0 k.val) = _
    rw [show (i 0).val * 1 + (i 1).val = (i 0).val by omega]
  rw [val_main_v39_apply, val_main_v37_apply, val_main_v38_apply, e]
  exact congrArg (fun z => Ideal.div (_ * z) width) (slope_apply x3 i)

theorem row_apply (i : S4096x1024.Idx) : (val_main_v41 (F := Ideal) x0 x1 x3 x4 i : EReal)
    = Ideal.div ((∑ k : Fin 1024, tab2 x3 (i 0).val k.val * (U x0 x1 (i 0).val k.val * tab2 x4 0 k.val))
        * (Ideal.ofBits .f32 0xBF000000#32 * Ideal.div (inv (tab2 x3 (i 0).val)) (msq (tab2 x3 (i 0).val)))) width := by
  rw [val_main_v41_apply, val_main_v40_apply]
  refine (congrArg (· + _) zero_word).trans ((zero_add _).trans ?_)
  rw [Fin.sum_univ_one]
  exact chain_apply x0 x1 x3 x4 _

theorem apply (i : S4096x1024.Idx) : (val_main_v45 (F := Ideal) x0 x1 x2 x3 x4 i : EReal)
    = grad (tab2 x2 (i 0).val (i 1).val) (tab2 x3 (i 0).val) (U x0 x1 (i 0).val) (tab2 x4 0) (i 1).val := by
  rw [grad_eq _ _ _ _ _ (i 1).isLt, val_main_v45_apply, val_main_v43_apply, val_main_v44_apply, val_main_v42_apply, val_main_v36_apply, val_main_v35_apply, val_main_v34_apply]
  exact congrArg₂ (· + ·) (congrArg₂ (· + ·) (congrArg₂ (· + ·) (eq_tab2 x2 i)
    (congrArg₂ (· * ·) (gain_apply x0 x1 x4 i) (inv_apply x3 _)))
    (congrArg₂ (· * ·) (eq_tab2 x3 i) (row_apply x0 x1 x3 x4 i)))
    (congrArg₂ (· * ·) (row_apply x0 x1 x3 x4 i) (eq_tab2 x3 i))

theorem gain_grad_apply (i : S1x1024.Idx) : (val_main_v46 (F := Ideal) x0 x1 x3 i : EReal)
    = part (U x0 x1) (N x3) 4096 (i 1).val (i 1).val := by
  have h1 : (i 1).val < 1024 := (i 1).isLt
  rw [val_main_v46_apply, val_main_v30_apply]
  refine (congrArg (· + _) zero_word).trans ((zero_add _).trans ?_)
  rw [Fin.sum_univ_one, val_main_v27_apply, val_main_v26_apply]
  refine (congrArg (· + _) zero_word).trans ((zero_add _).trans ?_)
  rw [part, Finset.sum_range]
  refine Finset.sum_congr rfl fun k _ => ?_
  rw [val_main_v25_apply]
  refine (congrArg₂ (· * ·) (n_apply x3 _) (product_apply x0 x1 _)).trans ((mul_comm _ _).trans ?_)
  show U x0 x1 k.val (0 * 1024 + (i 1).val) * N x3 k.val (0 * 1024 + (i 1).val) = _
  rw [Nat.zero_mul, Nat.zero_add]

end Ref

theorem preserves : Cert.preserves_Kernel3_Kernel3Ideal := trivial

/-- The kernel's arrays are the reference's. -/
theorem algebraic : Cert.algebraic_Kernel3Ideal_Reference3Ideal := by
  intro m ρ m' ρ' _ hag
  refine ⟨fun c => (Cert.Kernel3Ideal.Gen.dats m 0 c).arrAt 5 Cert.Kernel3Ideal.cfg0.N,
    fun c => (Cert.Kernel3Ideal.Gen.dats m 0 c).arrAt 6 Cert.Kernel3Ideal.cfg0.N,
    Cert.Kernel3Ideal.Value.run_blocks m ρ,
    (θ_run _ _ _).mono (fun r h c => ?_) (Cert.Reference3Ideal.Value.run m' ρ')⟩
  obtain ⟨h0, h1, hk⟩ := h c
  obtain ⟨a0, a1, a2, a3, a4⟩ := hag c
  refine ⟨funext fun i => ?_, funext fun i => ?_, hk⟩
  · refine (congrFun (h0.trans (Cert.Reference3Ideal.Read.val_main_v45_eq _ _)) i).trans ?_
    rw [a0, a1, a2, a3, a4]
    exact (Ref.apply _ _ _ _ _ i).trans (array m c i).symm
  · refine (congrFun (h1.trans (Cert.Reference3Ideal.Read.val_main_v46_eq _ _ _)) i).trans ?_
    rw [a0, a1, a3]
    exact (Ref.gain_grad_apply _ _ _ i).trans (gain_array m c i).symm

end Cert.Norm

end
-- ==== Proof.OutDwBlocks.lean ====
module

public import proofs.«01_k».proof.Proof.Part
public import proofs.«01_k».proof.Proof.Gen.Kernel5Ideal.Value
public import Idealize.ShloMosaic.Lib.Pipeline.ReadBack
public import Idealize.ShloMosaic.Lib.Pointwise.Tactic

/-!
The gradient of the feed-forward layer's output weights: a block of the result is built up over four blocks of rows, and
after the last of them holds the whole sum over the rows.
-/

@[expose] public section

set_option maxRecDepth 16384

noncomputable section

namespace Cert.OutDw

open Cert.Kernel5Ideal Cert.Kernel5Ideal.Gen Cert.Kernel5Ideal.Value Idealize.ShloMosaic Idealize.ShloMosaic.TcCoe
open Idealize.SL Idealize.SL.Sem Cert.Tab Cert.Gmlp Cert.Part

section Pay

variable (a : Vec Ideal S1408x1024 .f32) (x : Vec Ideal S1024x1408 .bf16) (y : Vec Ideal S1024x1024 .f32) (j : S1408x1024.Idx)

theorem pay1 : k0_pay1 x y j = ∑ k : Fin 1024, x (ix2 k (j 0)) * y (ix2 k (j 1)) := by
  unfold k0_pay1
  pointwise

theorem pay2 : k0_pay2 a x y j = a j + ∑ k : Fin 1024, x (ix2 k (j 0)) * y (ix2 k (j 1)) := by
  unfold k0_pay2
  pointwise

theorem pay3 : k0_pay3 a x y j = a j + ∑ k : Fin 1024, x (ix2 k (j 0)) * y (ix2 k (j 1)) := by
  unfold k0_pay3
  pointwise

end Pay

variable (m : (ℓ : Loc nD τ sig) → Buf (Elt Ideal) ℓ) (c : Dev nD) (t : Fin cfg0.N)

abbrev A : ℕ → ℕ → EReal := tab2 (m ((c : Thread nD τ).loc main_arg0) : S4096x2816.Idx → EReal)
abbrev D : ℕ → ℕ → EReal := tab2 (m ((c : Thread nD τ).loc main_arg1) : S4096x1024.Idx → EReal)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

theorem block0 (j : S1024x1408.Idx) : iblk m c 0 t j = A m c (1024 * (t.val % 4) + (j 0).val) (1408 * (t.val / 4) + (j 1).val) := by
  have e := index0 t
  unfold iblk
  blk_simp
  rw [V_main_arg0]
  refine (eq_tab2 _ _).trans ?_
  blk_simp [e]
  rw [Nat.mul_comm 1024, Nat.mul_comm 1408]

theorem block1 (j : S1024x1024.Idx) : iblk m c 1 t j = D m c (1024 * (t.val % 4) + (j 0).val) (j 1).val := by
  have e := index1 t
  unfold iblk
  blk_simp
  rw [V_main_arg1]
  refine (eq_tab2 _ _).trans ?_
  blk_simp [e]
  rw [Nat.mul_comm 1024]

/-- One more block of rows added to the sum over the rows above it. -/
theorem step (n : ℕ) {X : S1024x1408.Idx → EReal} {Y : S1024x1024.Idx → EReal}
    (hX : ∀ j, X j = A m c (1024 * (n % 4) + (j 0).val) (1408 * (n / 4) + (j 1).val))
    (hY : ∀ j, Y j = D m c (1024 * (n % 4) + (j 0).val) (j 1).val) (i : S1408x1024.Idx) :
    part (A m c) (D m c) (1024 * (n % 4)) (1408 * (n / 4) + (i 0).val) (i 1).val
      + ∑ k : Fin 1024, X (ix2 k (i 0)) * Y (ix2 k (i 1))
    = part (A m c) (D m c) (1024 * (n % 4) + 1024) (1408 * (n / 4) + (i 0).val) (i 1).val :=
  part_add (fun k => hX (ix2 k (i 0))) (fun k => hY (ix2 k (i 1)))

/-- The running sum after the first, second and third block of rows. -/
theorem upto : ∀ (n : ℕ) (h : n < cfg0.N), n % 4 ≤ 2 → ∀ i : S1408x1024.Idx, ((outsAt0 m c n h).2 i : EReal)
    = part (A m c) (D m c) (1024 * (n % 4) + 1024) (1408 * (n / 4) + (i 0).val) (i 1).val := by
  intro n
  induction n with
  | zero =>
    intro h _ i
    rw [outsAt0_A m c ⟨0, h⟩ rfl (by dsimp only; omega) (by dsimp only; omega)]
    dsimp only
    frame_out
    refine (pay1 _ _ i).trans ((zero_add _).symm.trans ?_)
    exact step m c 0 (block0 m c ⟨0, h⟩) (block1 m c ⟨0, h⟩) i
  | succ n ih =>
    intro h hn i
    by_cases h0 : (n + 1) % 4 = 0
    · rw [outsAt0_A m c ⟨n + 1, h⟩ h0 (by dsimp only; omega) (by dsimp only; omega)]
      dsimp only
      frame_out
      refine (pay1 _ _ i).trans ((zero_add _).symm.trans ?_)
      have e := step m c (n + 1) (block0 m c ⟨n + 1, h⟩) (block1 m c ⟨n + 1, h⟩) i
      dsimp only at e
      rw [h0] at e ⊢
      exact e
    · rw [outsAt0_B m c ⟨n + 1, h⟩ h0 (by dsimp only; omega) (by dsimp only; omega)]
      dsimp only
      frame_out
      refine (pay2 _ _ _ i).trans ?_
      have e := step m c (n + 1) (block0 m c ⟨n + 1, h⟩) (block1 m c ⟨n + 1, h⟩) i
      dsimp only at e
      refine Eq.trans (congrArg (· + _) ?_) e
      rw [(Memref.isWhole_whole _).read_unread]
      refine (ih (Nat.lt_of_succ_lt h) (by omega) i).trans ?_
      rw [show 1024 * (n % 4) + 1024 = 1024 * ((n + 1) % 4) by omega, show n / 4 = (n + 1) / 4 by omega]

/-- What the last block of rows writes back. -/
theorem last (ht : t.val % 4 = 3) (i : S1408x1024.Idx) : ((outsAt0 m c t.val t.isLt).1 i : EReal)
    = part (A m c) (D m c) 4096 (1408 * (t.val / 4) + (i 0).val) (i 1).val := by
  rw [outsAt0_C m c t (by omega) (by omega) ht]
  dsimp only
  frame_out
  refine (pay3 _ _ _ i).trans ?_
  have e := step m c t.val (block0 m c t) (block1 m c t) i
  rw [ht] at e
  refine Eq.trans (congrArg (· + _) ?_) e
  rw [(Memref.isWhole_whole _).read_unread]
  refine (upto m c (t.val - 1) _ (by omega) i).trans ?_
  rw [show 1024 * ((t.val - 1) % 4) + 1024 = 1024 * 3 by omega, show (t.val - 1) / 4 = t.val / 4 by omega]

/-- Two points that write back write to different places. -/
theorem apart (t t' : Fin cfg0.N) (h : (cfg0.win 2).flush t = true) (h' : (cfg0.win 2).flush t' = true) (hne : t ≠ t') :
    Disjoint ((cfg0.win 2).blk t).view.set ((cfg0.win 2).blk t').view.set := by
  refine (cfg0.win 2).disjoint_blk fun e => hne (Fin.ext ?_)
  have q := (flush0_2 t).1 h
  have q' := (flush0_2 t').1 h'
  have e0 : t.val / 4 = t'.val / 4 := congrFun ((index2 t).symm.trans (e.trans (index2 t'))) 0
  omega

/-- The whole array. -/
theorem array (i : S2816x1024.Idx) : ((dats m 0 c).arrAt 2 cfg0.N i : EReal)
    = part (A m c) (D m c) 4096 (i 0).val (i 1).val := by
  have hN : cfg0.N = 8 := rfl
  have h0 : (i 0).val < 2816 := (i 0).isLt
  have h1 : (i 1).val < 1024 := (i 1).isLt
  obtain ⟨t, ht⟩ : ∃ t : Fin cfg0.N, t.val = 4 * ((i 0).val / 1408) + 3 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 apart t ((flush0_2 t).2 (by omega)) y).trans ?_
  rw [flushed2]
  have T := last m c t (by omega)
  generalize (outsAt0 m c t.val t.isLt).1 = z at T ⊢
  refine (T _).trans ?_
  blk_simp [e]
  rw [Nat.mul_comm 1408]

end Cert.OutDw
-- ==== Proof.OutDwValue.lean ====
module

public import proofs.«01_k».proof.Defs
public import proofs.«01_k».proof.Proof.OutDwBlocks
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import Idealize.ShloMosaic.Init

/-!
The gradient of the feed-forward layer's output weights: both programs sum the same products over the 4096 rows, so they agree
on all arguments, finite or not.
-/

@[expose] public section

set_option maxRecDepth 16384

noncomputable section

namespace Cert.OutDw

open Idealize.ShloMosaic Idealize.ShloMosaic.TcCoe Idealize.SL.Sem Cert.Tab Cert.Part

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

namespace Ref

open Cert.Reference5Ideal Cert.Reference5Ideal.Read

theorem apply (x0 : (⟨S4096x2816, .bf16⟩ : BufTy).Contents (Elt Ideal)) (x1 : (⟨S4096x1024, .f32⟩ : BufTy).Contents (Elt Ideal))
    (i : S2816x1024.Idx) : (val_main_v5 (F := Ideal) x0 x1 i : EReal) = part (tab2 x0) (tab2 x1) 4096 (i 0).val (i 1).val := by
  rw [part, Finset.sum_range]
  show (val_main_v4 (F := Ideal) x0 x1 i : EReal) = _
  rw [val_main_v4_apply, val_main_v3_apply]
  refine Finset.sum_congr rfl fun k _ => (mul_comm _ _).trans (congrArg₂ (· * ·) ?_ (eq_tab2 x1 _))
  exact eq_tab2 x0 _

end Ref

theorem preserves : Cert.preserves_Kernel5_Kernel5Ideal := trivial

/-- The kernel's array is the reference's. -/
theorem algebraic : Cert.algebraic_Kernel5Ideal_Reference5Ideal := by
  intro m ρ m' ρ' _ hag
  refine ⟨fun c => (Cert.Kernel5Ideal.Gen.dats m 0 c).arrAt 2 Cert.Kernel5Ideal.cfg0.N,
    Cert.Kernel5Ideal.Value.run_blocks m ρ,
    (θ_run _ _ _).mono (fun r h c => ?_) (Cert.Reference5Ideal.Value.run m' ρ')⟩
  obtain ⟨h0, hk⟩ := h c
  obtain ⟨a0, a1⟩ := hag c
  refine ⟨funext fun i => ?_, hk⟩
  refine (congrFun (h0.trans (Cert.Reference5Ideal.Read.val_main_v5_eq _ _)) i).trans ?_
  rw [a0, a1]
  exact (Ref.apply _ _ i).trans (array m c i).symm

end Cert.OutDw

end
-- ==== Proof.FwdTile.lean ====
module

public import proofs.«01_k».proof.Proof.GateTile
public import proofs.«01_k».proof.Proof.Gen.Kernel6Ideal.Value
public import Idealize.ShloMosaic.Lib.Pointwise.Tactic

/-!
The feed-forward layer's first product at one place: the gate and the factor beside it are two products with rows of the
weights, and the activation is their gated product. Each strip of columns that the kernel works on holds these numbers.
-/

@[expose] public section

set_option maxRecDepth 16384

noncomputable section

namespace Cert.Fwd

open Cert.Kernel6Ideal Cert.Kernel6Ideal.Gen Cert.Kernel6Ideal.Value Idealize.ShloMosaic Idealize.ShloMosaic.TcCoe

/-- The gated product of a gate `g` and the factor `u` beside it. -/
def glu (g u : EReal) : EReal := g * Cert.Gate.sg g * u

section Strip

variable (x : Vec Ideal S512x1024 .bf16) (v w : Vec Ideal S256x1024 .bf16) (j : S1x512x256.Idx) (i : S512x256.Idx)

theorem gate0 : k0_pay7 x v j = ∑ k : Fin 1024, x (ix2 (j 1) k) * v (ix2 (j 2) k) := by
  unfold k0_pay7 k0_pay5
  pointwise

theorem up0 : k0_pay8 x w j = ∑ k : Fin 1024, x (ix2 (j 1) k) * w (ix2 (j 2) k) := by
  unfold k0_pay8 k0_pay6
  pointwise

theorem act0 : k0_pay9 x v w i
    = glu (∑ k : Fin 1024, x (ix2 (i 0) k) * v (ix2 (i 1) k)) (∑ k : Fin 1024, x (ix2 (i 0) k) * w (ix2 (i 1) k)) := by
  unfold k0_pay9 k0_pay6 k0_pay5
  pointwise
  rfl

theorem gate1 : k0_pay13 (k0_pay10 x v) j = ∑ k : Fin 1024, x (ix2 (j 1) k) * v (ix2 (j 2) k) := by
  unfold k0_pay13 k0_pay10
  pointwise

theorem up1 : k0_pay14 x (k0_pay11 w) j = ∑ k : Fin 1024, x (ix2 (j 1) k) * w (ix2 (j 2) k) := by
  unfold k0_pay14 k0_pay12 k0_pay11
  pointwise

theorem act1 : k0_pay15 x (k0_pay10 x v) (k0_pay11 w) i
    = glu (∑ k : Fin 1024, x (ix2 (i 0) k) * v (ix2 (i 1) k)) (∑ k : Fin 1024, x (ix2 (i 0) k) * w (ix2 (i 1) k)) := by
  unfold k0_pay15 k0_pay12 k0_pay11 k0_pay10
  pointwise
  rfl

theorem gate2 : k0_pay18 x v j = ∑ k : Fin 1024, x (ix2 (j 1) k) * v (ix2 (j 2) k) := by
  unfold k0_pay18 k0_pay16
  pointwise

theorem up2 : k0_pay20 (k0_pay19 x w) j = ∑ k : Fin 1024, x (ix2 (j 1) k) * w (ix2 (j 2) k) := by
  unfold k0_pay20 k0_pay19 k0_pay17
  pointwise

theorem act2 : k0_pay21 (k0_pay16 x v) (k0_pay17 x w) i
    = glu (∑ k : Fin 1024, x (ix2 (i 0) k) * v (ix2 (i 1) k)) (∑ k : Fin 1024, x (ix2 (i 0) k) * w (ix2 (i 1) k)) := by
  unfold k0_pay21 k0_pay17 k0_pay16
  pointwise
  rfl

theorem gate3 : k0_pay24 x v j = ∑ k : Fin 1024, x (ix2 (j 1) k) * v (ix2 (j 2) k) := by
  unfold k0_pay24 k0_pay22
  pointwise

theorem up3 : k0_pay25 x w j = ∑ k : Fin 1024, x (ix2 (j 1) k) * w (ix2 (j 2) k) := by
  unfold k0_pay25 k0_pay23
  pointwise

theorem act3 : k0_pay27 (k0_pay26 x v w) i
    = glu (∑ k : Fin 1024, x (ix2 (i 0) k) * v (ix2 (i 1) k)) (∑ k : Fin 1024, x (ix2 (i 0) k) * w (ix2 (i 1) k)) := by
  unfold k0_pay27 k0_pay26 k0_pay23 k0_pay22
  pointwise
  rfl

theorem gate4 : k0_pay30 x v j = ∑ k : Fin 1024, x (ix2 (j 1) k) * v (ix2 (j 2) k) := by
  unfold k0_pay30 k0_pay28
  pointwise

theorem up4 : k0_pay31 x w j = ∑ k : Fin 1024, x (ix2 (j 1) k) * w (ix2 (j 2) k) := by
  unfold k0_pay31 k0_pay29
  pointwise

theorem act4 : k0_pay32 x v w i
    = glu (∑ k : Fin 1024, x (ix2 (i 0) k) * v (ix2 (i 1) k)) (∑ k : Fin 1024, x (ix2 (i 0) k) * w (ix2 (i 1) k)) := by
  unfold k0_pay32 k0_pay29 k0_pay28
  pointwise
  rfl

end Strip

section Strip

variable (x : Vec Ideal S512x1024 .bf16) (v w : Vec Ideal S128x1024 .bf16) (j : S1x512x128.Idx) (i : S512x128.Idx)

theorem gate5 : k0_pay2 (k0_pay33 x v) j = ∑ k : Fin 1024, x (ix2 (j 1) k) * v (ix2 (j 2) k) := by
  unfold k0_pay2 k0_pay33
  pointwise

theorem up5 : k0_pay3 x (k0_pay34 w) j = ∑ k : Fin 1024, x (ix2 (j 1) k) * w (ix2 (j 2) k) := by
  unfold k0_pay3 k0_pay1 k0_pay34
  pointwise

theorem act5 : k0_pay4 x (k0_pay33 x v) (k0_pay34 w) i
    = glu (∑ k : Fin 1024, x (ix2 (i 0) k) * v (ix2 (i 1) k)) (∑ k : Fin 1024, x (ix2 (i 0) k) * w (ix2 (i 1) k)) := by
  unfold k0_pay4 k0_pay1 k0_pay33 k0_pay34
  pointwise
  rfl

end Strip

end Cert.Fwd
-- ==== Proof.FwdBlocks.lean ====
module

public import proofs.«01_k».proof.Proof.FwdTile
public import Idealize.ShloMosaic.Lib.Pipeline.ReadBack

/-!
What the feed-forward layer's first product writes: the gate, the factor beside it and the gated activation, from the
tables of the normalised activations and of the weights whose columns are the gate's and then the other factor's.
-/

@[expose] public section

set_option maxRecDepth 16384

noncomputable section

namespace Cert.Fwd

open Cert.Kernel6Ideal Cert.Kernel6Ideal.Gen Cert.Kernel6Ideal.Value Idealize.ShloMosaic Idealize.ShloMosaic.TcCoe
open Idealize.SL Idealize.SL.Sem Cert.Tab Cert.Gmlp

/-- The product of row `r` of `A` with column `s` of `W`. -/
def dot (A W : ℕ → ℕ → EReal) (r s : ℕ) : EReal := ∑ k : Fin 1024, A r k.val * W k.val s

/-- The two halves of the product, one after the other. -/
def halves (A W : ℕ → ℕ → EReal) (h r s : ℕ) : EReal := dot A W r (2816 * h + s)

def act (A W : ℕ → ℕ → EReal) (r s : ℕ) : EReal := glu (dot A W r s) (dot A W r (2816 + s))

section Strip

variable {n : ℕ} {X : S512x1024.Idx → EReal} {Y Z : S1408x1024.Idx → EReal} {A W : ℕ → ℕ → EReal} {R C D : ℕ}
  (hX : ∀ j, X j = A (R + (j 0).val) (j 1).val) (hY : ∀ j, Y j = W (j 1).val (C + (j 0).val))
  (q : ℕ) (iw : ∀ a, (![q, 0] : Fin 2 → ℕ) a + (![n, 1024] : Fin 2 → ℕ) a ≤ S1408x1024.size a)

include hX hY in
theorem strip_dot (r : Fin 512) (s : Fin n) :
    (∑ k : Fin 1024, X (ix2 r k) * View.ld (Val := Elt Ideal) (e' := .bf16) Y (Rect.unit ![q, 0] ![n, 1024] iw) (ix2 s k))
      = dot A W (R + r.val) (C + (q + s.val)) :=
  Finset.sum_congr rfl fun k _ => by
    rw [hX, ld_band_is (Val := Elt Ideal) (e := .bf16) (f := fun a b => W b (C + a)) q 0 iw hY (ix2 s k)]
    exact congrArg₂ (fun a b => A (R + r.val) k.val * W a b) (Nat.zero_add _) rfl

end Strip

variable (m : (ℓ : Loc nD τ sig) → Buf (Elt Ideal) ℓ) (c : Dev nD) (t : Fin cfg0.N)

abbrev A : ℕ → ℕ → EReal := tab2 (m ((c : Thread nD τ).loc main_arg0) : S4096x1024.Idx → EReal)
abbrev W : ℕ → ℕ → EReal := tab2 (m ((c : Thread nD τ).loc main_arg1) : S1024x5632.Idx → EReal)

theorem index0 : ∀ t : Fin cfg0.N, win0_0.index t = ![t.val % 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![t.val / 8 + 2, 0] := (by decide +kernel : ∀ t : Fin grid0.N, _)
theorem index3 : ∀ t : Fin cfg0.N, win0_3.index t = ![0, t.val % 8, t.val / 8] := (by decide +kernel : ∀ t : Fin grid0.N, _)
theorem index4 : ∀ t : Fin cfg0.N, win0_4.index t = ![t.val % 8, t.val / 8] := (by decide +kernel : ∀ t : Fin grid0.N, _)

/-- The weights as the host hands them over: transposed. -/
theorem w_apply (j : S5632x1024.Idx) : (V m c main_v1 : S5632x1024.Idx → EReal) j = W m c (j 1).val (j 0).val := by
  have e : (V m c main_v1 : S5632x1024.Idx → EReal) j
      = (m ((c : Thread nD τ).loc main_arg1) : S1024x5632.Idx → EReal) (ix2 (j 1) (j 0)) := by
    entry_read
    pointwise
  exact e.trans (eq_tab2 _ _)

theorem block0 (j : S512x1024.Idx) : iblk m c 0 t j = A m c (512 * (t.val % 8) + (j 0).val) (j 1).val := by
  have e := index0 t
  unfold iblk
  blk_simp
  rw [V_main_arg0]
  refine (eq_tab2 _ _).trans ?_
  blk_simp [e]
  rw [Nat.mul_comm 512]

theorem block1 (j : S1408x1024.Idx) : iblk m c 1 t j = W m c (j 1).val (1408 * (t.val / 8) + (j 0).val) := by
  have e := index1 t
  unfold iblk
  blk_simp
  refine (w_apply m c _).trans ?_
  blk_simp [e]
  rw [Nat.mul_comm 1408]

theorem block2 (j : S1408x1024.Idx) : iblk m c 2 t j = W m c (j 1).val (2816 + 1408 * (t.val / 8) + (j 0).val) := by
  have e := index2 t
  unfold iblk
  blk_simp
  refine (w_apply m c _).trans ?_
  blk_simp [e]
  congr 1
  omega

theorem tile3 (i : S2x512x1408.Idx) : ((outsAt0 m c t).1 i : EReal)
    = halves (A m c) (W m c) (i 0).val (512 * (t.val % 8) + (i 1).val) (1408 * (t.val / 8) + (i 2).val) := by
  have g : ∀ {n : ℕ} q iw (j : (⟨3, ![1, 512, n]⟩ : Shape).Idx), _ = halves (A m c) (W m c) (0 + (j 0).val)
      (512 * (t.val % 8) + (0 + (j 1).val)) (1408 * (t.val / 8) + (q + (j 2).val)) := fun {n} q iw j =>
    (strip_dot (block0 m c t) (block1 m c t) q iw (j 1) (j 2)).trans (by
      have h0 : (j 0).val < 1 := (j 0).isLt
      unfold halves
      congr 1 <;> omega)
  have u : ∀ {n : ℕ} q iw (j : (⟨3, ![1, 512, n]⟩ : Shape).Idx), _ = halves (A m c) (W m c) (1 + (j 0).val)
      (512 * (t.val % 8) + (0 + (j 1).val)) (1408 * (t.val / 8) + (q + (j 2).val)) := fun {n} q iw j =>
    (strip_dot (block0 m c t) (block2 m c t) q iw (j 1) (j 2)).trans (by
      have h0 : (j 0).val < 1 := (j 0).isLt
      unfold halves
      congr 1 <;> omega)
  unfold outsAt0
  frame_out
  have k := fun {n : ℕ} o q inb {P} hP L => canon_cube (Val := Elt Ideal) (e := .bf16) (q := 1) (r := 512) (c := n) o 0 q inb (P := P)
    (f := fun h r s => halves (A m c) (W m c) h (512 * (t.val % 8) + r) (1408 * (t.val / 8) + s)) hP L i
  refine k 1 1280 _ (fun j => (up5 _ _ j).trans (u 1280 _ j)) _ fun n1 => ?_
  refine k 0 1280 _ (fun j => (gate5 _ _ j).trans (g 1280 _ j)) _ fun n2 => ?_
  refine k 1 1024 _ (fun j => (up4 _ _ j).trans (u 1024 _ j)) _ fun n3 => ?_
  refine k 0 1024 _ (fun j => (gate4 _ _ j).trans (g 1024 _ j)) _ fun n4 => ?_
  refine k 1 768 _ (fun j => (up3 _ _ j).trans (u 768 _ j)) _ fun n5 => ?_
  refine k 0 768 _ (fun j => (gate3 _ _ j).trans (g 768 _ j)) _ fun n6 => ?_
  refine k 1 512 _ (fun j => (up2 _ _ j).trans (u 512 _ j)) _ fun n7 => ?_
  refine k 0 512 _ (fun j => (gate2 _ _ j).trans (g 512 _ j)) _ fun n8 => ?_
  refine k 1 256 _ (fun j => (up1 _ _ j).trans (u 256 _ j)) _ fun n9 => ?_
  refine k 0 256 _ (fun j => (gate1 _ _ j).trans (g 256 _ j)) _ fun n10 => ?_
  refine k 1 0 _ (fun j => (up0 _ _ j).trans (u 0 _ j)) _ fun n11 => ?_
  refine k 0 0 _ (fun j => (gate0 _ _ j).trans (g 0 _ j)) _ fun n12 => ?_
  have h0 : (i 0).val < 2 := (i 0).isLt
  have h1 : (i 1).val < 512 := (i 1).isLt
  have h2 : (i 2).val < 1408 := (i 2).isLt
  omega

theorem tile4 (i : S512x1408.Idx) : ((outsAt0 m c t).2 i : EReal)
    = act (A m c) (W m c) (512 * (t.val % 8) + (i 0).val) (1408 * (t.val / 8) + (i 1).val) := by
  have a : ∀ {n : ℕ} q iw (j : (⟨2, ![512, n]⟩ : Shape).Idx), glu _ _ = act (A m c) (W m c)
      (512 * (t.val % 8) + (0 + (j 0).val)) (1408 * (t.val / 8) + (q + (j 1).val)) := fun {n} q iw j =>
    congrArg₂ glu (strip_dot (block0 m c t) (block1 m c t) q iw (j 0) (j 1))
      (strip_dot (block0 m c t) (block2 m c t) q iw (j 0) (j 1)) |>.trans (by
      unfold act
      rw [Nat.zero_add, Nat.add_assoc 2816])
  unfold outsAt0
  frame_out
  have k := fun {n : ℕ} q inb {P} hP L => canon_band (Val := Elt Ideal) (e := .bf16) (r := 512) (c := n) 0 q inb (P := P)
    (f := fun r s => act (A m c) (W m c) (512 * (t.val % 8) + r) (1408 * (t.val / 8) + s)) hP L i
  refine k 1280 _ (fun j => (act5 _ _ _ j).trans (a 1280 _ j)) _ fun n1 => ?_
  refine k 1024 _ (fun j => (act4 _ _ _ j).trans (a 1024 _ j)) _ fun n2 => ?_
  refine k 768 _ (fun j => (act3 _ _ _ j).trans (a 768 _ j)) _ fun n3 => ?_
  refine k 512 _ (fun j => (act2 _ _ _ j).trans (a 512 _ j)) _ fun n4 => ?_
  refine k 256 _ (fun j => (act1 _ _ _ j).trans (a 256 _ j)) _ fun n5 => ?_
  refine k 0 _ (fun j => (act0 _ _ _ j).trans (a 0 _ j)) _ fun n6 => ?_
  have h0 : (i 0).val < 512 := (i 0).isLt
  have h1 : (i 1).val < 1408 := (i 1).isLt
  omega

/-- The two products as a whole array. -/
theorem array3 (i : S2x4096x2816.Idx) : ((dats m 0 c).arrAt 3 cfg0.N i : EReal)
    = halves (A m c) (W m c) (i 0).val (i 1).val (i 2).val := by
  have hN : cfg0.N = 16 := rfl
  have h0 : (i 0).val < 2 := (i 0).isLt
  have h1 : (i 1).val < 4096 := (i 1).isLt
  have h2 : (i 2).val < 2816 := (i 2).isLt
  obtain ⟨t, ht⟩ : ∃ t : Fin cfg0.N, t.val = 8 * ((i 2).val / 1408) + (i 1).val / 512 := ⟨⟨_, by omega⟩, rfl⟩
  have e := index3 t
  have hm : i ∈ ((cfg0.win 3).blk t).view.set := by
    mem_blk [e]
    omega
  obtain ⟨y, rfl⟩ := View.exists_emb_of_mem_set _ hm
  refine (Pipeline.Dat.arrAt_emb_eq_flushed _ 3 disjoint3 t (flush0_3 t) y).trans ?_
  rw [flushed3]
  have T := tile3 m c t
  generalize (outsAt0 m c t).1 = z at T ⊢
  refine (T _).trans ?_
  blk_simp [e]
  rw [Nat.mul_comm 512, Nat.mul_comm 1408]

/-- The gated activations as a whole array. -/
theorem array4 (i : S4096x2816.Idx) : ((dats m 0 c).arrAt 4 cfg0.N i : EReal) = act (A m c) (W m c) (i 0).val (i 1).val := by
  have hN : cfg0.N = 16 := rfl
  have h0 : (i 0).val < 4096 := (i 0).isLt
  have h1 : (i 1).val < 2816 := (i 1).isLt
  obtain ⟨t, ht⟩ : ∃ t : Fin cfg0.N, t.val = 8 * ((i 1).val / 1408) + (i 0).val / 512 := ⟨⟨_, by omega⟩, rfl⟩
  have e := index4 t
  have hm : i ∈ ((cfg0.win 4).blk t).view.set := by
    mem_blk [e]
    omega
  obtain ⟨y, rfl⟩ := View.exists_emb_of_mem_set _ hm
  refine (Pipeline.Dat.arrAt_emb_eq_flushed _ 4 disjoint4 t (flush0_4 t) y).trans ?_
  rw [flushed4]
  have T := tile4 m c t
  generalize (outsAt0 m c t).2 = z at T ⊢
  refine (T _).trans ?_
  blk_simp [e]
  rw [Nat.mul_comm 512, Nat.mul_comm 1408]

end Cert.Fwd
-- ==== Proof.FwdValue.lean ====
module

public import proofs.«01_k».proof.Defs
public import proofs.«01_k».proof.Proof.FwdBlocks
public import proofs.«01_k».proof.Proof.Consts
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import Idealize.ShloMosaic.Init

/-!
The feed-forward layer's first product and its gated activation: the kernel's two arrays and the reference's are the same
sums and the same operations, so they agree on all arguments, finite or not.
-/

@[expose] public section

set_option maxRecDepth 16384

noncomputable section

namespace Cert.Fwd

open Idealize.ShloMosaic Idealize.ShloMosaic.TcCoe Idealize.SL.Sem Cert.Tab

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

namespace Ref

open Cert.Reference6Ideal Cert.Reference6Ideal.Read

variable (x0 : (⟨S4096x1024, .bf16⟩ : BufTy).Contents (Elt Ideal)) (x1 : (⟨S1024x5632, .f32⟩ : BufTy).Contents (Elt Ideal))

theorem dot_apply (i : S4096x5632.Idx) : (val_main_v1 (F := Ideal) x0 x1 i : EReal)
    = dot (tab2 x0) (tab2 x1) (i 0).val (i 1).val := by
  rw [val_main_v1_apply]
  exact Finset.sum_congr rfl fun k _ => congrArg₂ (· * ·) (eq_tab2 x0 _) (eq_tab2 x1 _)

theorem gate_apply (i : S4096x2816.Idx) : (val_main_v2 (F := Ideal) x0 x1 i : EReal)
    = dot (tab2 x0) (tab2 x1) (i 0).val (i 1).val := by
  rw [val_main_v2_apply, dot_apply]

theorem up_apply (i : S4096x2816.Idx) : (val_main_v3 (F := Ideal) x0 x1 i : EReal)
    = dot (tab2 x0) (tab2 x1) (i 0).val (2816 + (i 1).val) := by
  rw [val_main_v3_apply, dot_apply]

theorem act_apply (i : S4096x2816.Idx) : (val_main_v10 (F := Ideal) x0 x1 i : EReal)
    = act (tab2 x0) (tab2 x1) (i 0).val (i 1).val := by
  have e : (FloatOps.ofBits (F := Ideal) .f32 0x3F800000#32 : EReal) = 1 := Cert.Gmlp.ofBits_one
  have s : (val_main_call0_v5 (F := Ideal) x0 x1 i : EReal) = Cert.Gate.sg (val_main_v2 (F := Ideal) x0 x1 i) := by
    rw [val_main_call0_v5_apply, val_main_call0_v4_apply, val_main_call0_cst_0_apply, val_main_call0_v3_apply,
      val_main_call0_v2_apply, val_main_call0_cst_apply]
    show Ideal.div (FloatOps.ofBits (F := Ideal) .f32 0x3F800000#32)
      ((FloatOps.ofBits (F := Ideal) .f32 0x3F800000#32 : EReal) + Ideal.exp (-(val_main_v2 (F := Ideal) x0 x1 i))) = _
    rw [e, Cert.Gate.sg, zero_sub]
  rw [val_main_v10_apply, val_main_v9_apply, val_main_v8_apply, s, gate_apply, up_apply]
  rfl

theorem halves_apply (i : S2x4096x2816.Idx) : (val_main_v7 (F := Ideal) x0 x1 i : EReal)
    = halves (tab2 x0) (tab2 x1) (i 0).val (i 1).val (i 2).val := by
  have b0 : (i 0).val < 2 := (i 0).isLt
  let k : S1x4096x2816.Idx := ix3 0 ⟨(i 1).val, (i 1).isLt⟩ ⟨(i 2).val, (i 2).isLt⟩
  by_cases h : (i 0).val = 0
  · have e : val_main_v6 (F := Ideal) x0 x1 i = val_main_v4 (F := Ideal) x0 x1 k := by
      refine concatenate_pair_apply_left (t := S2x4096x2816) (0 : Fin 3) (val_main_v4 (F := Ideal) x0 x1)
        (val_main_v5 (F := Ideal) x0 x1) _ i rfl k (fun a => ?_)
      match a with
      | ⟨0, _⟩ => exact h.symm
      | ⟨1, _⟩ => rfl
      | ⟨2, _⟩ => rfl
    refine Eq.trans e ((val_main_v4_apply x0 x1 k).trans ((gate_apply x0 x1 _).trans ?_))
    show dot _ _ (i 1).val (i 2).val = dot _ _ (i 1).val (2816 * (i 0).val + (i 2).val)
    rw [h, Nat.mul_zero, Nat.zero_add]
  · have h1 : (i 0).val = 1 := by omega
    have e : val_main_v6 (F := Ideal) x0 x1 i = val_main_v5 (F := Ideal) x0 x1 k := by
      refine concatenate_pair_apply_right (t := S2x4096x2816) (0 : Fin 3) (val_main_v4 (F := Ideal) x0 x1)
        (val_main_v5 (F := Ideal) x0 x1) _ i rfl rfl k (fun a ha => ?_) ?_
      · match a with
        | ⟨0, _⟩ => exact absurd rfl ha
        | ⟨1, _⟩ => rfl
        | ⟨2, _⟩ => rfl
      · show 0 + 1 = (i 0).val
        omega
    refine Eq.trans e ((val_main_v5_apply x0 x1 k).trans ((up_apply x0 x1 _).trans ?_))
    show dot _ _ (i 1).val (2816 + (i 2).val) = dot _ _ (i 1).val (2816 * (i 0).val + (i 2).val)
    rw [h1, Nat.mul_one]

end Ref

theorem preserves : Cert.preserves_Kernel6_Kernel6Ideal := trivial

theorem algebraic : Cert.algebraic_Kernel6Ideal_Reference6Ideal := by
  intro m ρ m' ρ' _ hag
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    Cert.Kernel6Ideal.Value.run_blocks m ρ,
    (θ_run _ _ _).mono (fun r h c => ?_) (Cert.Reference6Ideal.Value.run m' ρ')⟩
  obtain ⟨h0, h1, hk⟩ := h c
  obtain ⟨a0, a1⟩ := hag c
  refine ⟨funext fun i => ?_, funext fun i => ?_, hk⟩
  · refine (congrFun (h0.trans (Cert.Reference6Ideal.Read.val_main_v7_eq _ _)) i).trans ?_
    rw [a0, a1]
    exact (Ref.halves_apply _ _ i).trans (array3 m c i).symm
  · refine (congrFun (h1.trans (Cert.Reference6Ideal.Read.val_main_v10_eq _ _)) i).trans ?_
    rw [a0, a1]
    exact (Ref.act_apply _ _ i).trans (array4 m c i).symm

end Cert.Fwd

end
-- ==== Proof.AttnSpec.lean ====
module

public import proofs.«01_k».proof.Proof.Table
public import Idealize.ShloMosaic.Lib.Pointwise.Tactic

/-!
Attention over a small memory with four heads of 64 columns, and its gradient, as functions of tables of entries: the
queries `Q`, the keys `K`, the values `V`, and the gradient `O` of the output. Head `h` has the columns from `64 * h`.
-/

@[expose] public section

noncomputable section

namespace Cert.Attn

open Idealize.ShloMosaic

/-- One over the square root of 64, as the programs have it. -/
abbrev eighth : EReal := Ideal.ofBits FTy.f32 0x3E000000#32

abbrev bottom : EReal := Ideal.ofBits FTy.f32 0xFF800000#32

variable (Q K V O : ℕ → ℕ → EReal)

/-- The product of row `r` of `X` with row `m` of `Y` over the columns of head `h`. -/
def dotHead (X Y : ℕ → ℕ → EReal) (h r m : ℕ) : EReal := ∑ d : Fin 64, X r (64 * h + d.val) * Y m (64 * h + d.val)

def score (h r m : ℕ) : EReal := dotHead Q K h r m * eighth

def top (h r : ℕ) : EReal := Finset.fold max bottom (fun m : Fin 256 => score Q K h r m.val) Finset.univ

def ex (h r m : ℕ) : EReal := Ideal.exp (score Q K h r m - top Q K h r)

def tot (h r : ℕ) : EReal := ∑ m : Fin 256, ex Q K h r m.val

def prob (h r m : ℕ) : EReal := Ideal.div (ex Q K h r m) (tot Q K h r)

/-- The gradient of the score. -/
def dscore (h r m : ℕ) : EReal :=
  prob Q K h r m * (dotHead O V h r m - ∑ x : Fin 256, dotHead O V h r x.val * prob Q K h r x.val) * eighth

/-- The gradients of the queries, and of the keys and the values over the `n` rows from `R`. -/
def dq (r c : ℕ) : EReal := ∑ m : Fin 256, dscore Q K V O (c / 64) r m.val * K m.val c

def dk (n R m c : ℕ) : EReal := ∑ r : Fin n, dscore Q K V O (c / 64) (R + r.val) m * Q (R + r.val) c

def dv (n R m c : ℕ) : EReal := ∑ r : Fin n, prob Q K (c / 64) (R + r.val) m * O (R + r.val) c

/-! ## The masks -/

theorem select_bool (b : Bool) (x y : EReal) : Scalar.select (BitVec.ofBool b) x y = if b then x else y := by
  cases b <;> rfl

/-- A sum over 256 columns of the entries of one head. -/
theorem sum_head {h : ℕ} (hh : h < 4) (g : ℕ → EReal) :
    (∑ x : Fin 256, if x.val / 64 = h then g x.val else 0) = ∑ d : Fin 64, g (64 * h + d.val) := by
  have e : (∑ x : Fin 256, if x.val / 64 = h then g x.val else 0)
      = ∑ y : Fin 4 × Fin 64, if (finProdFinEquiv y).val / 64 = h then g (finProdFinEquiv y).val else 0 :=
    (Equiv.sum_comp (finProdFinEquiv (m := 4) (n := 64)) fun x => if x.val / 64 = h then g x.val else 0).symm
  rw [e, Fintype.sum_prod_type]
  have v : ∀ (a : Fin 4) (d : Fin 64), (finProdFinEquiv (a, d)).val = d.val + 64 * a.val := fun _ _ => rfl
  refine (Finset.sum_eq_single (⟨h, hh⟩ : Fin 4) (fun a _ ha => ?_) (fun n => absurd (Finset.mem_univ _) n)).trans ?_
  · refine Finset.sum_eq_zero fun d _ => if_neg ?_
    rw [v]
    intro q
    exact ha (Fin.ext (by dsimp only; omega))
  · refine Finset.sum_congr rfl fun d _ => ?_
    rw [v, if_pos (by dsimp only; omega), Nat.add_comm]

/-- Of the four heads' contributions to column `c` only its own head's counts. -/
theorem heads (a : EReal) (f : ℕ → EReal) {c : ℕ} (hc : c < 256) :
    a + (if c / 64 = 0 then f 0 else 0) + (if c / 64 = 1 then f 1 else 0) + (if c / 64 = 2 then f 2 else 0)
      + (if c / 64 = 3 then f 3 else 0) = a + f (c / 64) := by
  have h : c / 64 < 4 := by omega
  generalize c / 64 = n at h
  interval_cases n <;> simp

end Cert.Attn
-- ==== Proof.AttnTile.lean ====
module

public import proofs.«01_k».proof.Proof.AttnSpec
public import proofs.«01_k».proof.Proof.Gen.Kernel7Ideal.Value
public import Idealize.ShloMosaic.Lib.Pipeline.ReadBack
public import Idealize.ShloMosaic.Lib.Pointwise.Tactic

/-!
What one point of the kernel computes from its block of queries and of the output's gradient, and from the keys and the
values. The kernel masks the columns of the other heads with zeros; a product with a zero is zero whatever the other factor is,
so each masked sum is the sum over the head's own columns.
-/

@[expose] public section

set_option maxRecDepth 16384

noncomputable section

namespace Cert.Attn

open Cert.Kernel7Ideal Cert.Kernel7Ideal.Gen Cert.Kernel7Ideal.Value Idealize.ShloMosaic Idealize.ShloMosaic.TcCoe
open Idealize.SL Idealize.SL.Sem Cert.Tab Cert.Gmlp

/-- The mask of head `h`. -/
def Mask (M : IVec S1x256 1) (h : ℕ) : Prop := ∀ x : Fin 256, M (ix2 0 x) = BitVec.ofBool (decide (x.val / 64 = h))

theorem mask0 : Mask k0_pay10 0 := by
  intro x
  unfold k0_pay10
  pointwise
  revert x
  decide +kernel

theorem mask1 : Mask (k0_pay18 (iota Kind.tc S1x256 32 [1] iota_S1x256_d1_w32) k0_pay17 128#32) 1 := by
  intro x
  unfold k0_pay17 k0_pay18
  pointwise
  revert x
  decide +kernel

theorem mask2 : Mask k0_pay26 2 := by
  intro x
  unfold k0_pay26
  pointwise
  revert x
  decide +kernel

theorem mask3 : Mask (k0_pay35 (iota Kind.tc S1x256 32 [1] iota_S1x256_d1_w32) k0_pay34) 3 := by
  intro x
  unfold k0_pay34 k0_pay35
  pointwise
  revert x
  decide +kernel

section

variable {M : IVec S1x256 1} {h : ℕ} (hM : Mask M h) (hh : h < 4)

include hM hh in
theorem masked (f : Fin 256 → EReal) (g : ℕ → EReal) (e : ∀ x, f x = g x.val) :
    (∑ x : Fin 256, Scalar.select (M (ix2 0 x)) (f x) 0) = ∑ d : Fin 64, g (64 * h + d.val) := by
  rw [← sum_head hh g]
  refine Finset.sum_congr rfl fun x _ => ?_
  rw [hM x, select_bool, e]
  by_cases hx : x.val / 64 = h <;> simp [hx]

include hM in
theorem column (c : Fin 256) (y : EReal) : Scalar.select (M (ix2 0 c)) y 0 = if c.val / 64 = h then y else 0 := by
  rw [hM c, select_bool]
  by_cases hx : c.val / 64 = h <;> simp [hx]

variable {Q K V O : ℕ → ℕ → EReal} {R : ℕ} {q o : S2048x256.Idx → EReal} {k v : S256x256.Idx → EReal}
  (hq : ∀ j, q j = Q (R + (j 0).val) (j 1).val) (hk : ∀ j, k j = K (j 0).val (j 1).val)
  (hv : ∀ j, v j = V (j 0).val (j 1).val) (ho : ∀ j, o j = O (R + (j 0).val) (j 1).val)

/-- The scores, and the products of the output's gradient with the values, from blocks. -/
def raw (M : IVec S1x256 1) (q : S2048x256.Idx → EReal) (k : S256x256.Idx → EReal) (r : Fin 2048) (m : Fin 256) : EReal :=
  ∑ x : Fin 256, Scalar.select (M (ix2 0 x)) (q (ix2 r x) * k (ix2 m x)) 0

include hM hh hq hk in
theorem raw_eq (r : Fin 2048) (m : Fin 256) : raw M q k r m = dotHead Q K h (R + r.val) m.val :=
  masked hM hh _ (fun x => Q (R + r.val) x * K m.val x) fun _ => congrArg₂ (· * ·) (hq _) (hk _)

/-- The probabilities, from blocks. -/
def rawProb (M : IVec S1x256 1) (q : S2048x256.Idx → EReal) (k : S256x256.Idx → EReal) (r : Fin 2048) (m : Fin 256) : EReal :=
  Ideal.div (Ideal.exp (raw M q k r m * eighth - Finset.fold max bottom (fun x => raw M q k r x * eighth) Finset.univ))
    (∑ y : Fin 256, Ideal.exp (raw M q k r y * eighth
      - Finset.fold max bottom (fun x => raw M q k r x * eighth) Finset.univ))

include hM hh hq hk in
theorem rawProb_eq (r : Fin 2048) (m : Fin 256) : rawProb M q k r m = prob Q K h (R + r.val) m.val := by
  unfold rawProb
  simp only [raw_eq hM hh hq hk]
  rfl

variable {P D : S2048x256.Idx → EReal} (hP : ∀ j, P j = prob Q K h (R + (j 0).val) (j 1).val)
  (hD : ∀ j, D j = dscore Q K V O h (R + (j 0).val) (j 1).val)

/-- The gradient of the scores, from blocks. -/
def rawScore (M : IVec S1x256 1) (p : EReal) (P o : S2048x256.Idx → EReal) (v : S256x256.Idx → EReal) (r : Fin 2048)
    (m : Fin 256) : EReal :=
  p * (raw M o v r m - ∑ x : Fin 256, raw M o v r x * P (ix2 r x)) * eighth

include hM hh hv ho hP in
theorem rawScore_row (p : EReal) (r : Fin 2048) (m : Fin 256) : rawScore M p P o v r m
    = p * (dotHead O V h (R + r.val) m.val
      - ∑ x : Fin 256, dotHead O V h (R + r.val) x.val * prob Q K h (R + r.val) x.val) * eighth := by
  unfold rawScore
  simp only [raw_eq hM hh ho hv, hP]
  rfl

include hM hh hv ho hP in
theorem rawScore_eq (i : S2048x256.Idx) :
    rawScore M (P i) P o v (i 0) (i 1) = dscore Q K V O h (R + (i 0).val) (i 1).val := by
  refine (rawScore_row hM hh hv ho hP _ _ _).trans ?_
  rw [hP]
  rfl

include hM hk hD in
theorem query_eq (z : EReal) (i : S2048x256.Idx) :
    z + ∑ x : Fin 256, Scalar.select (M (ix2 0 (i 1))) (D (ix2 (i 0) x) * k (ix2 x (i 1))) 0
      = z + if (i 1).val / 64 = h then ∑ x : Fin 256, dscore Q K V O h (R + (i 0).val) x.val * K x.val (i 1).val else 0 := by
  congr 1
  by_cases hx : (i 1).val / 64 = h
  · rw [if_pos hx]
    refine Finset.sum_congr rfl fun x _ => ?_
    refine (column hM (i 1) _).trans ((if_pos hx).trans (congrArg₂ (· * ·) (hD _) (hk _)))
  · rw [if_neg hx]
    exact Finset.sum_eq_zero fun x _ => (column hM (i 1) _).trans (if_neg hx)

include hM hq hD in
theorem key_eq (a : EReal) (i : S256x256.Idx) :
    a + Scalar.select (M (ix2 0 (i 1))) (∑ r : Fin 2048, D (ix2 r (i 0)) * q (ix2 r (i 1))) 0
      = a + if (i 1).val / 64 = h then ∑ r : Fin 2048, dscore Q K V O h (R + r.val) (i 0).val * Q (R + r.val) (i 1).val else 0 := by
  congr 1
  refine (column hM (i 1) _).trans ?_
  congr 1
  exact Finset.sum_congr rfl fun r _ => congrArg₂ (· * ·) (hD _) (hq _)

include hM ho hP in
theorem value_eq (a : EReal) (i : S256x256.Idx) :
    a + Scalar.select (M (ix2 0 (i 1))) (∑ r : Fin 2048, P (ix2 r (i 0)) * o (ix2 r (i 1))) 0
      = a + if (i 1).val / 64 = h then ∑ r : Fin 2048, prob Q K h (R + r.val) (i 0).val * O (R + r.val) (i 1).val else 0 := by
  congr 1
  refine (column hM (i 1) _).trans ?_
  congr 1
  exact Finset.sum_congr rfl fun r _ => congrArg₂ (· * ·) (hP _) (ho _)

end

section

variable {Q K V O : ℕ → ℕ → EReal} {R : ℕ} {q o : Vec Ideal S2048x256 .f32} {k v a : Vec Ideal S256x256 .f32}
  {z : FVec Ideal S2048x256 .f32}
  (hq : ∀ j, q j = Q (R + (j 0).val) (j 1).val) (hk : ∀ j, k j = K (j 0).val (j 1).val)
  (hv : ∀ j, v j = V (j 0).val (j 1).val) (ho : ∀ j, o j = O (R + (j 0).val) (j 1).val)

theorem probRaw0 (i : S2048x256.Idx) : (k0_pay11 q k) i = rawProb k0_pay10 q k (i 0) (i 1) := by
  unfold k0_pay11 k0_pay6
  pointwise
  rfl

include hq hk in
theorem prob0 (i : S2048x256.Idx) : (k0_pay11 q k) i = prob Q K 0 (R + (i 0).val) (i 1).val :=
  (probRaw0 i).trans (rawProb_eq mask0 (by decide) hq hk _ _)

theorem scoreRaw0 (i : S2048x256.Idx) : (k0_pay13 (k0_pay7 o) (k0_pay11 q k) (k0_pay12 v)) i
    = rawScore k0_pay10 ((k0_pay11 q k) i) (k0_pay11 q k) o v (i 0) (i 1) := by
  generalize k0_pay11 q k = P
  unfold k0_pay13 k0_pay7 k0_pay12
  pointwise
  rfl

include hq hk hv ho in
theorem score0 (i : S2048x256.Idx) : (k0_pay13 (k0_pay7 o) (k0_pay11 q k) (k0_pay12 v)) i = dscore Q K V O 0 (R + (i 0).val) (i 1).val :=
  (scoreRaw0 i).trans (rawScore_eq mask0 (by decide) hv ho (prob0 hq hk) i)

theorem queryRaw0 (i : S2048x256.Idx) : (k0_pay14 k (k0_pay7 o) z k0_pay10 (k0_pay11 q k) (k0_pay12 v)) i
    = z i + ∑ x : Fin 256, Scalar.select (k0_pay10 (ix2 0 (i 1))) ((k0_pay13 (k0_pay7 o) (k0_pay11 q k) (k0_pay12 v)) (ix2 (i 0) x) * k (ix2 x (i 1))) 0 := by
  generalize k0_pay10 = M
  generalize k0_pay11 q k = P
  generalize k0_pay12 v = x
  generalize k0_pay7 o = o'
  unfold k0_pay14
  pointwise

include hq hk hv ho in
theorem query0 (i : S2048x256.Idx) : (k0_pay14 k (k0_pay7 o) z k0_pay10 (k0_pay11 q k) (k0_pay12 v)) i
    = z i + if (i 1).val / 64 = 0 then ∑ x : Fin 256, dscore Q K V O 0 (R + (i 0).val) x.val * K x.val (i 1).val else 0 :=
  (queryRaw0 i).trans (query_eq mask0 hk (score0 hq hk hv ho) _ i)

theorem keyRaw0 (i : S256x256.Idx) : (k0_pay15 (k0_pay7 o) (k0_pay8 q) k0_pay10 (k0_pay11 q k) (k0_pay12 v) a) i
    = a i + Scalar.select (k0_pay10 (ix2 0 (i 1))) (∑ r : Fin 2048, (k0_pay13 (k0_pay7 o) (k0_pay11 q k) (k0_pay12 v)) (ix2 r (i 0)) * q (ix2 r (i 1))) 0 := by
  generalize k0_pay10 = M
  generalize k0_pay11 q k = P
  generalize k0_pay12 v = x
  generalize k0_pay7 o = o'
  unfold k0_pay15 k0_pay8
  pointwise

include hq hk hv ho in
theorem key0 (i : S256x256.Idx) : (k0_pay15 (k0_pay7 o) (k0_pay8 q) k0_pay10 (k0_pay11 q k) (k0_pay12 v) a) i
    = a i + if (i 1).val / 64 = 0 then ∑ r : Fin 2048, dscore Q K V O 0 (R + r.val) (i 0).val * Q (R + r.val) (i 1).val else 0 :=
  (keyRaw0 i).trans (key_eq mask0 hq (score0 hq hk hv ho) _ i)

theorem valueRaw0 (i : S256x256.Idx) : (k0_pay16 (k0_pay7 o) k0_pay10 (k0_pay11 q k) a) i
    = a i + Scalar.select (k0_pay10 (ix2 0 (i 1))) (∑ r : Fin 2048, (k0_pay11 q k) (ix2 r (i 0)) * o (ix2 r (i 1))) 0 := by
  generalize k0_pay10 = M
  generalize k0_pay11 q k = P
  unfold k0_pay16 k0_pay7
  pointwise

include hq hk ho in
theorem value0 (i : S256x256.Idx) : (k0_pay16 (k0_pay7 o) k0_pay10 (k0_pay11 q k) a) i
    = a i + if (i 1).val / 64 = 0 then ∑ r : Fin 2048, prob Q K 0 (R + r.val) (i 0).val * O (R + r.val) (i 1).val else 0 :=
  (valueRaw0 i).trans (value_eq mask0 ho (prob0 hq hk) _ i)

theorem probRaw1 (i : S2048x256.Idx) : (k0_pay19 q (k0_pay6 k) (iota Kind.tc S1x256 32 [1] iota_S1x256_d1_w32) k0_pay17 128#32) i = rawProb (k0_pay18 (iota Kind.tc S1x256 32 [1] iota_S1x256_d1_w32) k0_pay17 128#32) q k (i 0) (i 1) := by
  generalize (iota Kind.tc S1x256 32 [1] iota_S1x256_d1_w32) = v75
  generalize k0_pay17 = v77
  generalize 128#32 = w
  unfold k0_pay19 k0_pay6
  pointwise
  rfl

include hq hk in
theorem prob1 (i : S2048x256.Idx) : (k0_pay19 q (k0_pay6 k) (iota Kind.tc S1x256 32 [1] iota_S1x256_d1_w32) k0_pay17 128#32) i = prob Q K 1 (R + (i 0).val) (i 1).val :=
  (probRaw1 i).trans (rawProb_eq mask1 (by decide) hq hk _ _)

theorem scoreRaw1 (i : S2048x256.Idx) : (k0_pay20 q (k0_pay6 k) v (k0_pay7 o) (iota Kind.tc S1x256 32 [1] iota_S1x256_d1_w32) k0_pay17 128#32) i
    = rawScore (k0_pay18 (iota Kind.tc S1x256 32 [1] iota_S1x256_d1_w32) k0_pay17 128#32) ((k0_pay19 q (k0_pay6 k) (iota Kind.tc S1x256 32 [1] iota_S1x256_d1_w32) k0_pay17 128#32) i) (k0_pay19 q (k0_pay6 k) (iota Kind.tc S1x256 32 [1] iota_S1x256_d1_w32) k0_pay17 128#32) o v (i 0) (i 1) := by
  generalize (iota Kind.tc S1x256 32 [1] iota_S1x256_d1_w32) = v75
  generalize k0_pay17 = v77
  generalize 128#32 = w
  generalize k0_pay6 k = k'
  unfold k0_pay20 k0_pay7
  pointwise
  rfl

include hq hk hv ho in
theorem score1 (i : S2048x256.Idx) : (k0_pay20 q (k0_pay6 k) v (k0_pay7 o) (iota Kind.tc S1x256 32 [1] iota_S1x256_d1_w32) k0_pay17 128#32) i = dscore Q K V O 1 (R + (i 0).val) (i 1).val :=
  (scoreRaw1 i).trans (rawScore_eq mask1 (by decide) hv ho (prob1 hq hk) i)

theorem queryRaw1 (i : S2048x256.Idx) : (k0_pay21 q k (k0_pay6 k) v (k0_pay7 o) z (iota Kind.tc S1x256 32 [1] iota_S1x256_d1_w32) k0_pay17 128#32) i
    = z i + ∑ x : Fin 256, Scalar.select ((k0_pay18 (iota Kind.tc S1x256 32 [1] iota_S1x256_d1_w32) k0_pay17 128#32) (ix2 0 (i 1))) ((k0_pay20 q (k0_pay6 k) v (k0_pay7 o) (iota Kind.tc S1x256 32 [1] iota_S1x256_d1_w32) k0_pay17 128#32) (ix2 (i 0) x) * k (ix2 x (i 1))) 0 := by
  generalize (iota Kind.tc S1x256 32 [1] iota_S1x256_d1_w32) = v75
  generalize k0_pay17 = v77
  generalize 128#32 = w
  generalize k0_pay6 k = k'
  generalize k0_pay7 o = o'
  unfold k0_pay21
  pointwise

include hq hk hv ho in
theorem query1 (i : S2048x256.Idx) : (k0_pay21 q k (k0_pay6 k) v (k0_pay7 o) z (iota Kind.tc S1x256 32 [1] iota_S1x256_d1_w32) k0_pay17 128#32) i
    = z i + if (i 1).val / 64 = 1 then ∑ x : Fin 256, dscore Q K V O 1 (R + (i 0).val) x.val * K x.val (i 1).val else 0 :=
  (queryRaw1 i).trans (query_eq mask1 hk (score1 hq hk hv ho) _ i)

theorem keyRaw1 (i : S256x256.Idx) : (k0_pay24 (k0_pay18 (iota Kind.tc S1x256 32 [1] iota_S1x256_d1_w32) k0_pay17 128#32) (k0_pay22 q (k0_pay6 k) v (k0_pay7 o) (k0_pay8 q) (iota Kind.tc S1x256 32 [1] iota_S1x256_d1_w32) k0_pay17 128#32) a) i
    = a i + Scalar.select ((k0_pay18 (iota Kind.tc S1x256 32 [1] iota_S1x256_d1_w32) k0_pay17 128#32) (ix2 0 (i 1))) (∑ r : Fin 2048, (k0_pay20 q (k0_pay6 k) v (k0_pay7 o) (iota Kind.tc S1x256 32 [1] iota_S1x256_d1_w32) k0_pay17 128#32) (ix2 r (i 0)) * q (ix2 r (i 1))) 0 := by
  generalize (iota Kind.tc S1x256 32 [1] iota_S1x256_d1_w32) = v75
  generalize k0_pay17 = v77
  generalize 128#32 = w
  generalize k0_pay6 k = k'
  generalize k0_pay7 o = o'
  unfold k0_pay24 k0_pay22 k0_pay8
  pointwise

include hq hk hv ho in
theorem key1 (i : S256x256.Idx) : (k0_pay24 (k0_pay18 (iota Kind.tc S1x256 32 [1] iota_S1x256_d1_w32) k0_pay17 128#32) (k0_pay22 q (k0_pay6 k) v (k0_pay7 o) (k0_pay8 q) (iota Kind.tc S1x256 32 [1] iota_S1x256_d1_w32) k0_pay17 128#32) a) i
    = a i + if (i 1).val / 64 = 1 then ∑ r : Fin 2048, dscore Q K V O 1 (R + r.val) (i 0).val * Q (R + r.val) (i 1).val else 0 :=
  (keyRaw1 i).trans (key_eq mask1 hq (score1 hq hk hv ho) _ i)

theorem valueRaw1 (i : S256x256.Idx) : (k0_pay25 (k0_pay18 (iota Kind.tc S1x256 32 [1] iota_S1x256_d1_w32) k0_pay17 128#32) (k0_pay23 q (k0_pay6 k) (k0_pay7 o) (iota Kind.tc S1x256 32 [1] iota_S1x256_d1_w32) k0_pay17 128#32) a) i
    = a i + Scalar.select ((k0_pay18 (iota Kind.tc S1x256 32 [1] iota_S1x256_d1_w32) k0_pay17 128#32) (ix2 0 (i 1))) (∑ r : Fin 2048, (k0_pay19 q (k0_pay6 k) (iota Kind.tc S1x256 32 [1] iota_S1x256_d1_w32) k0_pay17 128#32) (ix2 r (i 0)) * o (ix2 r (i 1))) 0 := by
  generalize (iota Kind.tc S1x256 32 [1] iota_S1x256_d1_w32) = v75
  generalize k0_pay17 = v77
  generalize 128#32 = w
  generalize k0_pay6 k = k'
  unfold k0_pay25 k0_pay23 k0_pay7
  pointwise

include hq hk ho in
theorem value1 (i : S256x256.Idx) : (k0_pay25 (k0_pay18 (iota Kind.tc S1x256 32 [1] iota_S1x256_d1_w32) k0_pay17 128#32) (k0_pay23 q (k0_pay6 k) (k0_pay7 o) (iota Kind.tc S1x256 32 [1] iota_S1x256_d1_w32) k0_pay17 128#32) a) i
    = a i + if (i 1).val / 64 = 1 then ∑ r : Fin 2048, prob Q K 1 (R + r.val) (i 0).val * O (R + r.val) (i 1).val else 0 :=
  (valueRaw1 i).trans (value_eq mask1 ho (prob1 hq hk) _ i)

theorem probRaw2 (i : S2048x256.Idx) : (k0_pay27 q (k0_pay6 k)) i = rawProb k0_pay26 q k (i 0) (i 1) := by
  unfold k0_pay27 k0_pay6
  pointwise
  rfl

include hq hk in
theorem prob2 (i : S2048x256.Idx) : (k0_pay27 q (k0_pay6 k)) i = prob Q K 2 (R + (i 0).val) (i 1).val :=
  (probRaw2 i).trans (rawProb_eq mask2 (by decide) hq hk _ _)

theorem scoreRaw2 (i : S2048x256.Idx) : (k0_pay30 v (k0_pay7 o) (k0_pay27 q (k0_pay6 k)) k0_pay28 k0_pay29) i
    = rawScore k0_pay26 ((k0_pay27 q (k0_pay6 k)) i) (k0_pay27 q (k0_pay6 k)) o v (i 0) (i 1) := by
  generalize k0_pay27 q (k0_pay6 k) = P
  unfold k0_pay30 k0_pay28 k0_pay29 k0_pay7
  pointwise
  rfl

include hq hk hv ho in
theorem score2 (i : S2048x256.Idx) : (k0_pay30 v (k0_pay7 o) (k0_pay27 q (k0_pay6 k)) k0_pay28 k0_pay29) i = dscore Q K V O 2 (R + (i 0).val) (i 1).val :=
  (scoreRaw2 i).trans (rawScore_eq mask2 (by decide) hv ho (prob2 hq hk) i)

theorem queryRaw2 (i : S2048x256.Idx) : (k0_pay31 k v (k0_pay7 o) z k0_pay26 (k0_pay27 q (k0_pay6 k)) k0_pay28 k0_pay29) i
    = z i + ∑ x : Fin 256, Scalar.select (k0_pay26 (ix2 0 (i 1))) ((k0_pay30 v (k0_pay7 o) (k0_pay27 q (k0_pay6 k)) k0_pay28 k0_pay29) (ix2 (i 0) x) * k (ix2 x (i 1))) 0 := by
  generalize k0_pay27 q (k0_pay6 k) = P
  generalize k0_pay26 = M
  generalize k0_pay7 o = o'
  generalize k0_pay28 = b
  generalize k0_pay29 (F := Ideal) = b'
  unfold k0_pay31
  pointwise

include hq hk hv ho in
theorem query2 (i : S2048x256.Idx) : (k0_pay31 k v (k0_pay7 o) z k0_pay26 (k0_pay27 q (k0_pay6 k)) k0_pay28 k0_pay29) i
    = z i + if (i 1).val / 64 = 2 then ∑ x : Fin 256, dscore Q K V O 2 (R + (i 0).val) x.val * K x.val (i 1).val else 0 :=
  (queryRaw2 i).trans (query_eq mask2 hk (score2 hq hk hv ho) _ i)

theorem keyRaw2 (i : S256x256.Idx) : (k0_pay32 v (k0_pay7 o) (k0_pay8 q) k0_pay26 (k0_pay27 q (k0_pay6 k)) k0_pay28 k0_pay29 a) i
    = a i + Scalar.select (k0_pay26 (ix2 0 (i 1))) (∑ r : Fin 2048, (k0_pay30 v (k0_pay7 o) (k0_pay27 q (k0_pay6 k)) k0_pay28 k0_pay29) (ix2 r (i 0)) * q (ix2 r (i 1))) 0 := by
  generalize k0_pay27 q (k0_pay6 k) = P
  generalize k0_pay26 = M
  generalize k0_pay7 o = o'
  generalize k0_pay28 = b
  generalize k0_pay29 (F := Ideal) = b'
  unfold k0_pay32 k0_pay8
  pointwise

include hq hk hv ho in
theorem key2 (i : S256x256.Idx) : (k0_pay32 v (k0_pay7 o) (k0_pay8 q) k0_pay26 (k0_pay27 q (k0_pay6 k)) k0_pay28 k0_pay29 a) i
    = a i + if (i 1).val / 64 = 2 then ∑ r : Fin 2048, dscore Q K V O 2 (R + r.val) (i 0).val * Q (R + r.val) (i 1).val else 0 :=
  (keyRaw2 i).trans (key_eq mask2 hq (score2 hq hk hv ho) _ i)

theorem valueRaw2 (i : S256x256.Idx) : (k0_pay33 (k0_pay7 o) k0_pay26 (k0_pay27 q (k0_pay6 k)) a) i
    = a i + Scalar.select (k0_pay26 (ix2 0 (i 1))) (∑ r : Fin 2048, (k0_pay27 q (k0_pay6 k)) (ix2 r (i 0)) * o (ix2 r (i 1))) 0 := by
  generalize k0_pay27 q (k0_pay6 k) = P
  generalize k0_pay26 = M
  unfold k0_pay33 k0_pay7
  pointwise

include hq hk ho in
theorem value2 (i : S256x256.Idx) : (k0_pay33 (k0_pay7 o) k0_pay26 (k0_pay27 q (k0_pay6 k)) a) i
    = a i + if (i 1).val / 64 = 2 then ∑ r : Fin 2048, prob Q K 2 (R + r.val) (i 0).val * O (R + r.val) (i 1).val else 0 :=
  (valueRaw2 i).trans (value_eq mask2 ho (prob2 hq hk) _ i)

theorem probRaw3 (i : S2048x256.Idx) : (k0_pay36 q (k0_pay6 k) (iota Kind.tc S1x256 32 [1] iota_S1x256_d1_w32) k0_pay34) i = rawProb (k0_pay35 (iota Kind.tc S1x256 32 [1] iota_S1x256_d1_w32) k0_pay34) q k (i 0) (i 1) := by
  generalize (iota Kind.tc S1x256 32 [1] iota_S1x256_d1_w32) = v203
  generalize k0_pay34 = v204
  unfold k0_pay36 k0_pay6
  pointwise
  rfl

include hq hk in
theorem prob3 (i : S2048x256.Idx) : (k0_pay36 q (k0_pay6 k) (iota Kind.tc S1x256 32 [1] iota_S1x256_d1_w32) k0_pay34) i = prob Q K 3 (R + (i 0).val) (i 1).val :=
  (probRaw3 i).trans (rawProb_eq mask3 (by decide) hq hk _ _)

theorem scoreRaw3 (i : S2048x256.Idx) : (k0_pay37 q (k0_pay6 k) v (k0_pay7 o) (iota Kind.tc S1x256 32 [1] iota_S1x256_d1_w32) k0_pay34) i
    = rawScore (k0_pay35 (iota Kind.tc S1x256 32 [1] iota_S1x256_d1_w32) k0_pay34) ((k0_pay36 q (k0_pay6 k) (iota Kind.tc S1x256 32 [1] iota_S1x256_d1_w32) k0_pay34) i) (k0_pay36 q (k0_pay6 k) (iota Kind.tc S1x256 32 [1] iota_S1x256_d1_w32) k0_pay34) o v (i 0) (i 1) := by
  generalize (iota Kind.tc S1x256 32 [1] iota_S1x256_d1_w32) = v203
  generalize k0_pay34 = v204
  generalize k0_pay6 k = k'
  unfold k0_pay37 k0_pay7
  pointwise
  rfl

include hq hk hv ho in
theorem score3 (i : S2048x256.Idx) : (k0_pay37 q (k0_pay6 k) v (k0_pay7 o) (iota Kind.tc S1x256 32 [1] iota_S1x256_d1_w32) k0_pay34) i = dscore Q K V O 3 (R + (i 0).val) (i 1).val :=
  (scoreRaw3 i).trans (rawScore_eq mask3 (by decide) hv ho (prob3 hq hk) i)

theorem queryRaw3 (i : S2048x256.Idx) : (k0_pay38 q k (k0_pay6 k) v (k0_pay7 o) z (iota Kind.tc S1x256 32 [1] iota_S1x256_d1_w32) k0_pay34) i
    = z i + ∑ x : Fin 256, Scalar.select ((k0_pay35 (iota Kind.tc S1x256 32 [1] iota_S1x256_d1_w32) k0_pay34) (ix2 0 (i 1))) ((k0_pay37 q (k0_pay6 k) v (k0_pay7 o) (iota Kind.tc S1x256 32 [1] iota_S1x256_d1_w32) k0_pay34) (ix2 (i 0) x) * k (ix2 x (i 1))) 0 := by
  generalize (iota Kind.tc S1x256 32 [1] iota_S1x256_d1_w32) = v203
  generalize k0_pay34 = v204
  generalize k0_pay6 k = k'
  generalize k0_pay7 o = o'
  unfold k0_pay38
  pointwise

include hq hk hv ho in
theorem query3 (i : S2048x256.Idx) : (k0_pay38 q k (k0_pay6 k) v (k0_pay7 o) z (iota Kind.tc S1x256 32 [1] iota_S1x256_d1_w32) k0_pay34) i
    = z i + if (i 1).val / 64 = 3 then ∑ x : Fin 256, dscore Q K V O 3 (R + (i 0).val) x.val * K x.val (i 1).val else 0 :=
  (queryRaw3 i).trans (query_eq mask3 hk (score3 hq hk hv ho) _ i)

theorem keyRaw3 (i : S256x256.Idx) : (k0_pay1 (k0_pay35 (iota Kind.tc S1x256 32 [1] iota_S1x256_d1_w32) k0_pay34) (k0_pay39 q (k0_pay6 k) v (k0_pay7 o) (k0_pay8 q) (iota Kind.tc S1x256 32 [1] iota_S1x256_d1_w32) k0_pay34) a) i
    = a i + Scalar.select ((k0_pay35 (iota Kind.tc S1x256 32 [1] iota_S1x256_d1_w32) k0_pay34) (ix2 0 (i 1))) (∑ r : Fin 2048, (k0_pay37 q (k0_pay6 k) v (k0_pay7 o) (iota Kind.tc S1x256 32 [1] iota_S1x256_d1_w32) k0_pay34) (ix2 r (i 0)) * q (ix2 r (i 1))) 0 := by
  generalize (iota Kind.tc S1x256 32 [1] iota_S1x256_d1_w32) = v203
  generalize k0_pay34 = v204
  generalize k0_pay6 k = k'
  generalize k0_pay7 o = o'
  unfold k0_pay1 k0_pay39 k0_pay8
  pointwise

include hq hk hv ho in
theorem key3 (i : S256x256.Idx) : (k0_pay1 (k0_pay35 (iota Kind.tc S1x256 32 [1] iota_S1x256_d1_w32) k0_pay34) (k0_pay39 q (k0_pay6 k) v (k0_pay7 o) (k0_pay8 q) (iota Kind.tc S1x256 32 [1] iota_S1x256_d1_w32) k0_pay34) a) i
    = a i + if (i 1).val / 64 = 3 then ∑ r : Fin 2048, dscore Q K V O 3 (R + r.val) (i 0).val * Q (R + r.val) (i 1).val else 0 :=
  (keyRaw3 i).trans (key_eq mask3 hq (score3 hq hk hv ho) _ i)

theorem valueRaw3 (i : S256x256.Idx) : (k0_pay2 (k0_pay35 (iota Kind.tc S1x256 32 [1] iota_S1x256_d1_w32) k0_pay34) (k0_pay40 q (k0_pay6 k) (k0_pay7 o) (iota Kind.tc S1x256 32 [1] iota_S1x256_d1_w32) k0_pay34) a) i
    = a i + Scalar.select ((k0_pay35 (iota Kind.tc S1x256 32 [1] iota_S1x256_d1_w32) k0_pay34) (ix2 0 (i 1))) (∑ r : Fin 2048, (k0_pay36 q (k0_pay6 k) (iota Kind.tc S1x256 32 [1] iota_S1x256_d1_w32) k0_pay34) (ix2 r (i 0)) * o (ix2 r (i 1))) 0 := by
  generalize (iota Kind.tc S1x256 32 [1] iota_S1x256_d1_w32) = v203
  generalize k0_pay34 = v204
  generalize k0_pay6 k = k'
  unfold k0_pay2 k0_pay40 k0_pay7
  pointwise

include hq hk ho in
theorem value3 (i : S256x256.Idx) : (k0_pay2 (k0_pay35 (iota Kind.tc S1x256 32 [1] iota_S1x256_d1_w32) k0_pay34) (k0_pay40 q (k0_pay6 k) (k0_pay7 o) (iota Kind.tc S1x256 32 [1] iota_S1x256_d1_w32) k0_pay34) a) i
    = a i + if (i 1).val / 64 = 3 then ∑ r : Fin 2048, prob Q K 3 (R + r.val) (i 0).val * O (R + r.val) (i 1).val else 0 :=
  (valueRaw3 i).trans (value_eq mask3 ho (prob3 hq hk) _ i)

end

end Cert.Attn
-- ==== Proof.AttnBlocks.lean ====
module

public import proofs.«01_k».proof.Proof.AttnTile
public import Idealize.ShloMosaic.Lib.Pipeline.ReadBack

/-!
The gradient of the attention, block by block: each of the two points writes its rows of the gradient of the queries, and the
gradients of the keys and the values are the sums of what the two points contribute.
-/

@[expose] public section

set_option maxRecDepth 16384

noncomputable section

namespace Cert.Attn

open Cert.Kernel7Ideal Cert.Kernel7Ideal.Gen Cert.Kernel7Ideal.Value Idealize.ShloMosaic Idealize.ShloMosaic.TcCoe
open Idealize.SL Idealize.SL.Sem Cert.Tab Cert.Gmlp

section Pay

variable {Q K V O : ℕ → ℕ → EReal} {R : ℕ} {q o : S2048x256.Idx → EReal} {k v : S256x256.Idx → EReal}
  (hq : ∀ j, q j = Q (R + (j 0).val) (j 1).val) (hk : ∀ j, k j = K (j 0).val (j 1).val)
  (hv : ∀ j, v j = V (j 0).val (j 1).val) (ho : ∀ j, o j = O (R + (j 0).val) (j 1).val)

theorem pay3 (x : Vec Ideal S2048x256 .f32) (i : S2048x256.Idx) : k0_pay3 (F := Ideal) x i = x i := by
  unfold k0_pay3
  pointwise

theorem pay4 (i : S256x256.Idx) : k0_pay4 (F := Ideal) i = 0 := by
  unfold k0_pay4
  pointwise

theorem pay5 (i : S256x256.Idx) : k0_pay5 (F := Ideal) i = 0 := by
  unfold k0_pay5
  pointwise

theorem pay9 (i : S2048x256.Idx) : k0_pay9 (F := Ideal) i = 0 := by
  unfold k0_pay9
  pointwise

include hq hk hv ho in
theorem query_all (i : S2048x256.Idx) :
    k0_pay3 (F := Ideal) (k0_pay38 q k (k0_pay6 k) v (k0_pay7 o) (k0_pay31 k v (k0_pay7 o) (k0_pay21 q k (k0_pay6 k) v (k0_pay7 o)
      (k0_pay14 k (k0_pay7 o) k0_pay9 k0_pay10 (k0_pay11 q k) (k0_pay12 v)) (iota Kind.tc S1x256 32 [1] iota_S1x256_d1_w32)
      k0_pay17 128#32) k0_pay26 (k0_pay27 q (k0_pay6 k)) k0_pay28 k0_pay29) (iota Kind.tc S1x256 32 [1] iota_S1x256_d1_w32)
      k0_pay34) i = dq Q K V O (R + (i 0).val) (i 1).val := by
  refine (pay3 _ i).trans ?_
  rw [query3 hq hk hv ho, query2 hq hk hv ho, query1 hq hk hv ho, query0 hq hk hv ho, pay9]
  refine (heads 0 (fun h => ∑ x : Fin 256, dscore Q K V O h (R + (i 0).val) x.val * K x.val (i 1).val) (i 1).isLt).trans ?_
  exact zero_add _

include hq hk hv ho in
theorem key_all (a : S256x256.Idx → EReal) (i : S256x256.Idx) :
    k0_pay1 (F := Ideal) (k0_pay35 (iota Kind.tc S1x256 32 [1] iota_S1x256_d1_w32) k0_pay34) (k0_pay39 q (k0_pay6 k) v (k0_pay7 o)
      (k0_pay8 q) (iota Kind.tc S1x256 32 [1] iota_S1x256_d1_w32) k0_pay34) (k0_pay32 (F := Ideal) v (k0_pay7 o) (k0_pay8 q) k0_pay26
      (k0_pay27 q (k0_pay6 k)) k0_pay28 k0_pay29 (k0_pay24 (F := Ideal) (k0_pay18 (iota Kind.tc S1x256 32 [1] iota_S1x256_d1_w32) k0_pay17
      128#32) (k0_pay22 q (k0_pay6 k) v (k0_pay7 o) (k0_pay8 q) (iota Kind.tc S1x256 32 [1] iota_S1x256_d1_w32) k0_pay17
      128#32) (k0_pay15 (F := Ideal) (k0_pay7 o) (k0_pay8 q) k0_pay10 (k0_pay11 q k) (k0_pay12 v) a))) i
    = a i + dk Q K V O 2048 R (i 0).val (i 1).val := by
  rw [key3 hq hk hv ho, key2 hq hk hv ho, key1 hq hk hv ho, key0 hq hk hv ho]
  exact heads _ (fun h => ∑ r : Fin 2048, dscore Q K V O h (R + r.val) (i 0).val * Q (R + r.val) (i 1).val) (i 1).isLt

include hq hk ho in
theorem value_all (a : S256x256.Idx → EReal) (i : S256x256.Idx) :
    k0_pay2 (F := Ideal) (k0_pay35 (iota Kind.tc S1x256 32 [1] iota_S1x256_d1_w32) k0_pay34) (k0_pay40 q (k0_pay6 k) (k0_pay7 o)
      (iota Kind.tc S1x256 32 [1] iota_S1x256_d1_w32) k0_pay34) (k0_pay33 (F := Ideal) (k0_pay7 o) k0_pay26 (k0_pay27 q (k0_pay6 k))
      (k0_pay25 (F := Ideal) (k0_pay18 (iota Kind.tc S1x256 32 [1] iota_S1x256_d1_w32) k0_pay17 128#32) (k0_pay23 q (k0_pay6 k)
      (k0_pay7 o) (iota Kind.tc S1x256 32 [1] iota_S1x256_d1_w32) k0_pay17 128#32) (k0_pay16 (F := Ideal) (k0_pay7 o) k0_pay10
      (k0_pay11 q k) a))) i
    = a i + dv Q K O 2048 R (i 0).val (i 1).val := by
  rw [value3 hq hk ho, value2 hq hk ho, value1 hq hk ho, value0 hq hk ho]
  exact heads _ (fun h => ∑ r : Fin 2048, prob Q K h (R + r.val) (i 0).val * O (R + r.val) (i 1).val) (i 1).isLt

end Pay

variable (m : (ℓ : Loc nD τ sig) → Buf (Elt Ideal) ℓ) (c : Dev nD) (t : Fin cfg0.N)

abbrev P : ℕ → ℕ → EReal := tab2 (m ((c : Thread nD τ).loc main_arg0) : S4096x1792.Idx → EReal)
abbrev KV : ℕ → ℕ → EReal := tab2 (m ((c : Thread nD τ).loc main_arg1) : S256x512.Idx → EReal)
abbrev H : ℕ → ℕ → EReal := tab2 (m ((c : Thread nD τ).loc main_arg2) : S4096x1024.Idx → EReal)

/-- The queries, keys and values, and the gradient of the attention's output: columns of the arguments. -/
def qs (r s : ℕ) : EReal := P m c r (1536 + s)
def ks (r s : ℕ) : EReal := KV m c r s
def vs (r s : ℕ) : EReal := KV m c r (256 + s)
def os (r s : ℕ) : EReal := H m c r (768 + s)

theorem index0 : ∀ t : Fin cfg0.N, win0_0.index t = ![t.val, 6] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 1] := (by decide +kernel : ∀ t : Fin grid0.N, _)
theorem index3 : ∀ t : Fin cfg0.N, win0_3.index t = ![t.val, 3] := (by decide +kernel : ∀ t : Fin grid0.N, _)
theorem index4 : ∀ t : Fin cfg0.N, win0_4.index t = ![t.val, 6] := (by decide +kernel : ∀ t : Fin grid0.N, _)

theorem block0 (j : S2048x256.Idx) : iblk m c 0 t j = qs m c (2048 * t.val + (j 0).val) (j 1).val := by
  have e := index0 t
  unfold iblk
  blk_simp
  rw [V_main_arg0]
  refine (eq_tab2 _ _).trans ?_
  blk_simp [e]
  rw [Nat.mul_comm 2048]
  rfl

theorem block1 (j : S256x256.Idx) : iblk m c 1 t j = ks m c (j 0).val (j 1).val := by
  have e := index1 t
  unfold iblk
  blk_simp
  rw [V_main_arg1]
  refine (eq_tab2 _ _).trans ?_
  blk_simp [e]
  rfl

theorem block2 (j : S256x256.Idx) : iblk m c 2 t j = vs m c (j 0).val (j 1).val := by
  have e := index2 t
  unfold iblk
  blk_simp
  rw [V_main_arg1]
  refine (eq_tab2 _ _).trans ?_
  blk_simp [e]
  rfl

theorem block3 (j : S2048x256.Idx) : iblk m c 3 t j = os m c (2048 * t.val + (j 0).val) (j 1).val := by
  have e := index3 t
  unfold iblk
  blk_simp
  rw [V_main_arg2]
  refine (eq_tab2 _ _).trans ?_
  blk_simp [e]
  rw [Nat.mul_comm 2048]
  rfl

theorem query_tile (i : S2048x256.Idx) : ((outsAt0 m c t.val t.isLt).1 i : EReal)
    = dq (qs m c) (ks m c) (vs m c) (os m c) (2048 * t.val + (i 0).val) (i 1).val := by
  by_cases h : t.val % 2 = 0
  · rw [outsAt0_A m c t h]
    dsimp only
    frame_out
    exact query_all (block0 m c t) (block1 m c t) (block2 m c t) (block3 m c t) i
  · rw [outsAt0_B m c t h]
    dsimp only
    frame_out
    exact query_all (block0 m c t) (block1 m c t) (block2 m c t) (block3 m c t) i

theorem key_first (h : 0 < cfg0.N) (i : S256x256.Idx) : ((outsAt0 m c 0 h).2.1 i : EReal)
    = dk (qs m c) (ks m c) (vs m c) (os m c) 2048 0 (i 0).val (i 1).val := by
  rw [outsAt0_A m c ⟨0, h⟩ rfl]
  dsimp only
  frame_out
  refine (key_all (block0 m c ⟨0, h⟩) (block1 m c ⟨0, h⟩) (block2 m c ⟨0, h⟩) (block3 m c ⟨0, h⟩) _ i).trans ?_
  rw [pay4, zero_add]
  rfl

theorem value_first (h : 0 < cfg0.N) (i : S256x256.Idx) : ((outsAt0 m c 0 h).2.2 i : EReal)
    = dv (qs m c) (ks m c) (os m c) 2048 0 (i 0).val (i 1).val := by
  rw [outsAt0_A m c ⟨0, h⟩ rfl]
  dsimp only
  frame_out
  refine (value_all (block0 m c ⟨0, h⟩) (block1 m c ⟨0, h⟩) (block3 m c ⟨0, h⟩) _ i).trans ?_
  rw [pay5, zero_add]
  rfl

theorem key_last (h : 1 < cfg0.N) (i : S256x256.Idx) : ((outsAt0 m c 1 h).2.1 i : EReal)
    = dk (qs m c) (ks m c) (vs m c) (os m c) 2048 0 (i 0).val (i 1).val
      + dk (qs m c) (ks m c) (vs m c) (os m c) 2048 2048 (i 0).val (i 1).val := by
  rw [outsAt0_B m c ⟨1, h⟩ (by dsimp only; omega)]
  dsimp only
  frame_out
  refine (key_all (block0 m c ⟨1, h⟩) (block1 m c ⟨1, h⟩) (block2 m c ⟨1, h⟩) (block3 m c ⟨1, h⟩) _ i).trans ?_
  exact congrArg (· + _) (key_first m c _ i)

theorem value_last (h : 1 < cfg0.N) (i : S256x256.Idx) : ((outsAt0 m c 1 h).2.2 i : EReal)
    = dv (qs m c) (ks m c) (os m c) 2048 0 (i 0).val (i 1).val
      + dv (qs m c) (ks m c) (os m c) 2048 2048 (i 0).val (i 1).val := by
  rw [outsAt0_B m c ⟨1, h⟩ (by dsimp only; omega)]
  dsimp only
  frame_out
  refine (value_all (block0 m c ⟨1, h⟩) (block1 m c ⟨1, h⟩) (block3 m c ⟨1, h⟩) _ i).trans ?_
  exact congrArg (· + _) (value_first m c _ i)

/-- Two sums over 2048 rows each, one over 4096. -/
theorem two_parts (f : ℕ → EReal) : (∑ r : Fin 2048, f (0 + r.val)) + ∑ r : Fin 2048, f (2048 + r.val) = ∑ r : Fin 4096, f r.val := by
  rw [← Finset.sum_range fun r => f (0 + r), ← Finset.sum_range fun r => f (2048 + r), ← Finset.sum_range f]
  simp only [Nat.zero_add]
  exact (Finset.sum_range_add f 2048 2048).symm

theorem query_array (i : S4096x1792.Idx) (hi : 1536 ≤ (i 1).val) : ((dats m 0 c).arrAt 4 cfg0.N i : EReal)
    = dq (qs m c) (ks m c) (vs m c) (os m c) (i 0).val ((i 1).val - 1536) := by
  have hN : cfg0.N = 2 := rfl
  have h0 : (i 0).val < 4096 := (i 0).isLt
  have h1 : (i 1).val < 1792 := (i 1).isLt
  obtain ⟨t, ht⟩ : ∃ t : Fin cfg0.N, t.val = (i 0).val / 2048 := ⟨⟨(i 0).val / 2048, by omega⟩, rfl⟩
  have e := index4 t
  have hm : i ∈ ((cfg0.win 4).blk t).view.set := by
    mem_blk [e]
    omega
  obtain ⟨y, rfl⟩ := View.exists_emb_of_mem_set _ hm
  refine (Pipeline.Dat.arrAt_emb_eq_flushed _ 4 disjoint4 t (flush0_4 t) y).trans ?_
  rw [flushed4]
  have T := query_tile m c t
  generalize (outsAt0 m c t.val t.isLt).1 = z at T ⊢
  refine (T _).trans ?_
  blk_simp [e]
  rw [Nat.mul_comm 2048, show 6 * 256 + (y 1).val - 1536 = (y 1).val by omega]

/-- Outside the queries' columns the gradient of the projection stays as it came. -/
theorem query_rest (i : S4096x1792.Idx) (hi : (i 1).val < 1536) : ((dats m 0 c).arrAt 4 cfg0.N i : EReal)
    = (m ((c : Thread nD τ).loc main_arg3) : S4096x1792.Idx → EReal) i := by
  refine (entry4 m c i fun t _ => ?_).trans ?_
  · have e := index4 t
    mem_blk [e]
    omega
  · show (V m c main_v0_0 : S4096x1792.Idx → EReal) i = _
    entry_read
    rfl

theorem key_array (i : S256x256.Idx) : ((dats m 0 c).arrAt 5 cfg0.N i : EReal)
    = dk (qs m c) (ks m c) (vs m c) (os m c) 4096 0 (i 0).val (i 1).val := by
  refine ((dats m 0 c).arrAt_emb_eq_after_last 5 ⟨1, by decide⟩ (by decide +kernel) i).trans ?_
  rw [after0_5]
  refine (key_last m c (by decide) i).trans ?_
  refine (two_parts fun r => dscore (qs m c) (ks m c) (vs m c) (os m c) ((i 1).val / 64) r (i 0).val * qs m c r (i 1).val).trans ?_
  unfold dk
  simp only [Nat.zero_add]

theorem value_array (i : S256x256.Idx) : ((dats m 0 c).arrAt 6 cfg0.N i : EReal)
    = dv (qs m c) (ks m c) (os m c) 4096 0 (i 0).val (i 1).val := by
  refine ((dats m 0 c).arrAt_emb_eq_after_last 6 ⟨1, by decide⟩ (by decide +kernel) i).trans ?_
  rw [after0_6]
  refine (value_last m c (by decide) i).trans ?_
  refine (two_parts fun r => prob (qs m c) (ks m c) ((i 1).val / 64) r (i 0).val * os m c r (i 1).val).trans ?_
  unfold dv
  simp only [Nat.zero_add]

end Cert.Attn
-- ==== Proof.AttnReal.lean ====
module

public import proofs.«01_k».proof.Proof.AttnSpec
public import proofs.«01_k».proof.Proof.Calc

/-!
On numbers the gradient of the scores is the same in the kernel's order of operations and in the reference's, which takes the
quotient of the exponentials by their sum apart.
-/

@[expose] public section

noncomputable section

namespace Cert.Attn

open Idealize.ShloMosaic Cert.Gmlp

theorem eighth_coe : eighth = ((1 / 8 : ℝ) : EReal) := by
  simp [eighth, Ideal.ofBits, Ideal.ieee, -EReal.coe_mul]; norm_num

theorem bottom_eq : bottom = (⊥ : EReal) := by
  simp [bottom, Ideal.ofBits, Ideal.ieee]

/-- The largest of finitely many numbers, started from the least extended real, is a number. -/
theorem fold_real (f : Fin 256 → ℝ) : ∃ r : ℝ, Finset.fold max bottom (fun m => ((f m : ℝ) : EReal)) Finset.univ = ((r : ℝ) : EReal) := by
  set t := Finset.fold max bottom (fun m => ((f m : ℝ) : EReal)) Finset.univ with ht
  have h1 : t ≠ ⊤ := by
    refine (lt_top_iff_ne_top).1 ((Finset.fold_max_lt _).2 ⟨?_, fun x _ => EReal.coe_lt_top _⟩)
    rw [bottom_eq]
    exact bot_lt_top
  have h2 : t ≠ ⊥ := by
    intro e
    have : ((f 0 : ℝ) : EReal) ≤ t := (Finset.le_fold_max _).2 (Or.inr ⟨0, Finset.mem_univ _, le_rfl⟩)
    rw [e] at this
    exact EReal.coe_ne_bot _ (le_bot_iff.1 this)
  exact ⟨t.toReal, (EReal.coe_toReal h1 h2).symm⟩

/-- The largest is not less than where the search for it began. -/
theorem max_fold (f : Fin 256 → EReal) : max bottom (Finset.fold max bottom f Finset.univ) = Finset.fold max bottom f Finset.univ :=
  max_eq_right ((Finset.le_fold_max _).2 (Or.inl le_rfl))

/-- The reference's gradient of the score. -/
def rscore (Q K V O : ℕ → ℕ → EReal) (h r m : ℕ) : EReal :=
  (Ideal.div (dotHead O V h r m) (tot Q K h r)
    + -∑ x : Fin 256, dotHead O V h r x.val * Ideal.div 1 (tot Q K h r * tot Q K h r) * ex Q K h r x.val) * ex Q K h r m * eighth

section Real

variable {Q K V O : ℕ → ℕ → EReal} (hQ : ∀ r s, ∃ v : ℝ, Q r s = ((v : ℝ) : EReal)) (hK : ∀ r s, ∃ v : ℝ, K r s = ((v : ℝ) : EReal))
  (hV : ∀ r s, ∃ v : ℝ, V r s = ((v : ℝ) : EReal)) (hO : ∀ r s, ∃ v : ℝ, O r s = ((v : ℝ) : EReal))

theorem dotHead_real {X Y : ℕ → ℕ → EReal} (hX : ∀ r s, ∃ v : ℝ, X r s = ((v : ℝ) : EReal))
    (hY : ∀ r s, ∃ v : ℝ, Y r s = ((v : ℝ) : EReal)) (h r m : ℕ) : ∃ v : ℝ, dotHead X Y h r m = ((v : ℝ) : EReal) := by
  choose f hf using hX
  choose g hg using hY
  refine ⟨∑ d : Fin 64, f r (64 * h + d.val) * g m (64 * h + d.val), ?_⟩
  rw [← coe_sum]
  exact Finset.sum_congr rfl fun d _ => by rw [hf, hg, EReal.coe_mul]

include hQ hK in
theorem ex_real (h r : ℕ) : ∃ e : ℕ → ℝ, (∀ m, ex Q K h r m = ((e m : ℝ) : EReal)) ∧ ∀ m, 0 < e m := by
  have s : ∀ m, ∃ v : ℝ, score Q K h r m = ((v : ℝ) : EReal) := fun m => by
    obtain ⟨v, hv⟩ := dotHead_real hQ hK h r m
    exact ⟨v * (1 / 8), by rw [score, hv, eighth_coe, EReal.coe_mul]⟩
  choose f hf using s
  obtain ⟨t, ht⟩ := fold_real fun m => f m.val
  have e : top Q K h r = ((t : ℝ) : EReal) := by
    rw [← ht, top]
    simp only [hf]
  refine ⟨fun m => Real.exp (f m - t), fun m => ?_, fun m => Real.exp_pos _⟩
  rw [ex, hf, e, ← EReal.coe_sub, Ideal.exp_coe]

include hQ hK hV hO in
theorem rscore_eq (h r m : ℕ) : rscore Q K V O h r m = dscore Q K V O h r m := by
  obtain ⟨e, he, hp⟩ := ex_real hQ hK h r
  choose d hd using fun x => dotHead_real hO hV h r x
  have hs : tot Q K h r = ((∑ x : Fin 256, e x.val : ℝ) : EReal) := by
    rw [tot, ← coe_sum]
    exact Finset.sum_congr rfl fun x _ => he _
  have hS : (0 : ℝ) < ∑ x : Fin 256, e x.val := Finset.sum_pos (fun x _ => hp _) ⟨0, Finset.mem_univ _⟩
  generalize (∑ x : Fin 256, e x.val : ℝ) = S at hs hS
  have hS' : S ≠ 0 := hS.ne'
  have l : rscore Q K V O h r m
      = (((d m / S + -∑ x : Fin 256, d x.val * (1 / (S * S)) * e x.val) * e m * (1 / 8) : ℝ) : EReal) := by
    rw [rscore, hs, he, eighth_coe, hd, div_coe_coe _ _ hS', ← EReal.coe_one, ← EReal.coe_mul, div_coe_coe _ _ (mul_ne_zero hS' hS')]
    simp only [hd, he, ← EReal.coe_mul, coe_sum, ← EReal.coe_neg, ← EReal.coe_add]
  have k : dscore Q K V O h r m
      = ((e m / S * (d m - ∑ x : Fin 256, d x.val * (e x.val / S)) * (1 / 8) : ℝ) : EReal) := by
    unfold dscore prob
    rw [hs, eighth_coe]
    simp only [hd, he, div_coe_coe _ _ hS', ← EReal.coe_mul, coe_sum, ← EReal.coe_sub]
  rw [l, k]
  congr 1
  have a : ∑ x : Fin 256, d x.val * (1 / (S * S)) * e x.val = (∑ x : Fin 256, d x.val * e x.val) / (S * S) := by
    rw [Finset.sum_div]
    exact Finset.sum_congr rfl fun x _ => by ring
  have b : ∑ x : Fin 256, d x.val * (e x.val / S) = (∑ x : Fin 256, d x.val * e x.val) / S := by
    rw [Finset.sum_div]
    exact Finset.sum_congr rfl fun x _ => by ring
  rw [a, b]
  field_simp
  ring

end Real

end Cert.Attn
-- ==== Proof.AttnRef.lean ====
module

public import proofs.«01_k».proof.Proof.AttnReal
public import proofs.«01_k».proof.Proof.Gen.Reference7Ideal.Read
public import Idealize.ShloMosaic.Lib.Pointwise.Tactic

/-! The reference's gradient of the attention, entry by entry. -/

@[expose] public section

set_option maxRecDepth 16384

noncomputable section

namespace Cert.Attn.Ref

open Idealize.ShloMosaic Cert.Reference7Ideal Cert.Reference7Ideal.Read Cert.Tab

variable (x0 : (⟨S4096x1792, .f32⟩ : BufTy).Contents (Elt Ideal)) (x1 : (⟨S256x512, .f32⟩ : BufTy).Contents (Elt Ideal))
  (x2 : (⟨S4096x1024, .f32⟩ : BufTy).Contents (Elt Ideal)) (x3 : (⟨S4096x1792, .bf16⟩ : BufTy).Contents (Elt Ideal))

def qx (r s : ℕ) : EReal := tab2 x0 r (1536 + s)
def kx (r s : ℕ) : EReal := tab2 x1 r s
def vx (r s : ℕ) : EReal := tab2 x1 r (256 + s)
def ox (r s : ℕ) : EReal := tab2 x2 r (768 + s)

theorem ofBits_zero' : (FloatOps.ofBits (F := Ideal) .f32 0x00000000#32 : EReal) = 0 :=
  Cert.Gmlp.ofBits_zero.trans EReal.coe_zero

theorem q_apply (i : S1x4096x4x64.Idx) :
    (val_main_v5 (F := Ideal) x0 i : EReal) = qx x0 (i 1).val (64 * (i 2).val + (i 3).val) := by
  have h0 : (i 0).val < 1 := (i 0).isLt
  have h1 : (i 1).val < 4096 := (i 1).isLt
  have h2 : (i 2).val < 4 := (i 2).isLt
  have h3 : (i 3).val < 64 := (i 3).isLt
  rw [val_main_v5_apply, val_main_v4_apply, val_main_v3_apply]
  refine (eq_tab2 x0 _).trans (congrArg₂ (tab2 x0) ?_ ?_)
  · show ((((i 0).val * 4096 + (i 1).val) * 4 + (i 2).val) * 64 + (i 3).val) / 256 % 4096 = (i 1).val
    omega
  · show 1536 + ((((i 0).val * 4096 + (i 1).val) * 4 + (i 2).val) * 64 + (i 3).val) % 256 = 1536 + (64 * (i 2).val + (i 3).val)
    omega

theorem k_apply (i : S1x256x4x64.Idx) :
    (val_main_v6 (F := Ideal) x1 i : EReal) = kx x1 (i 1).val (64 * (i 2).val + (i 3).val) := by
  have h0 : (i 0).val < 1 := (i 0).isLt
  have h1 : (i 1).val < 256 := (i 1).isLt
  have h2 : (i 2).val < 4 := (i 2).isLt
  have h3 : (i 3).val < 64 := (i 3).isLt
  rw [val_main_v6_apply, val_main_v1_apply, val_main_v0_apply]
  refine (eq_tab2 x1 _).trans (congrArg₂ (tab2 x1) ?_ ?_)
  · show ((((i 0).val * 256 + (i 1).val) * 4 + (i 2).val) * 64 + (i 3).val) / 256 % 256 = (i 1).val
    omega
  · show ((((i 0).val * 256 + (i 1).val) * 4 + (i 2).val) * 64 + (i 3).val) % 256 = 64 * (i 2).val + (i 3).val
    omega

theorem v_apply (i : S1x256x4x64.Idx) :
    (val_main_v7 (F := Ideal) x1 i : EReal) = vx x1 (i 1).val (64 * (i 2).val + (i 3).val) := by
  have h0 : (i 0).val < 1 := (i 0).isLt
  have h1 : (i 1).val < 256 := (i 1).isLt
  have h2 : (i 2).val < 4 := (i 2).isLt
  have h3 : (i 3).val < 64 := (i 3).isLt
  rw [val_main_v7_apply, val_main_v2_apply, val_main_v0_apply]
  refine (eq_tab2 x1 _).trans (congrArg₂ (tab2 x1) ?_ ?_)
  · show ((((i 0).val * 256 + (i 1).val) * 4 + (i 2).val) * 64 + (i 3).val) / 256 % 256 = (i 1).val
    omega
  · show 256 + ((((i 0).val * 256 + (i 1).val) * 4 + (i 2).val) * 64 + (i 3).val) % 256 = 256 + (64 * (i 2).val + (i 3).val)
    omega

theorem o_apply (i : S1x4x64x4096.Idx) :
    (val_main_v45 (F := Ideal) x2 i : EReal) = ox x2 (i 3).val (64 * (i 1).val + (i 2).val) := by
  have h0 : (i 0).val < 1 := (i 0).isLt
  have h1 : (i 1).val < 4 := (i 1).isLt
  have h2 : (i 2).val < 64 := (i 2).isLt
  have h3 : (i 3).val < 4096 := (i 3).isLt
  rw [val_main_v45_apply, val_main_v44_apply, val_main_v43_apply, val_main_v42_apply]
  refine (eq_tab2 x2 _).trans (congrArg₂ (tab2 x2) ?_ ?_)
  · show ((((i 0).val * 4096 + (i 3).val) * 4 + (i 1).val) * 64 + (i 2).val) / 256 % 4096 = (i 3).val
    omega
  · show 768 + ((((i 0).val * 4096 + (i 3).val) * 4 + (i 1).val) * 64 + (i 2).val) % 256 = 768 + (64 * (i 1).val + (i 2).val)
    omega

theorem score_apply (i : S1x4x4096x256.Idx) :
    (val_main_v10 (F := Ideal) x0 x1 i : EReal) = score (qx x0) (kx x1) (i 1).val (i 2).val (i 3).val := by
  rw [val_main_v10_apply, val_main_v9_apply, val_main_cst_apply, val_main_v8_apply]
  refine congrArg (· * eighth) (Finset.sum_congr rfl fun k _ => ?_)
  rw [q_apply, k_apply]

theorem top_apply (i : S1x4x4096.Idx) :
    (val_main_v18 (F := Ideal) x0 x1 i : EReal) = top (qx x0) (kx x1) (i 1).val (i 2).val := by
  have e : (val_main_v11 (F := Ideal) x0 x1 i : EReal) = top (qx x0) (kx x1) (i 1).val (i 2).val := by
    have s := score_apply x0 x1
    unfold val_main_v11
    generalize val_main_v10 (F := Ideal) x0 x1 = y at s ⊢
    unfold val_main_cst_0
    pointwise
    simp only [s]
    rfl
  rw [val_main_v18_apply, val_main_v17_apply, val_main_cst_2_apply, e]
  exact max_fold _

theorem ex_apply (i : S1x4x4096x256.Idx) :
    (val_main_v31 (F := Ideal) x0 x1 i : EReal) = ex (qx x0) (kx x1) (i 1).val (i 2).val (i 3).val := by
  rw [val_main_v31_apply, val_main_v30_apply, score_apply, val_main_v29_apply, val_main_v28_apply, top_apply]
  rfl

theorem tot_apply (i : S1x4x4096x1.Idx) :
    (val_main_v33 (F := Ideal) x0 x1 i : EReal) = tot (qx x0) (kx x1) (i 1).val (i 2).val := by
  rw [val_main_v33_apply, val_main_v32_apply, val_main_cst_8_apply, ofBits_zero', zero_add]
  exact Finset.sum_congr rfl fun k _ => ex_apply x0 x1 _

theorem prob_apply (i : S1x4x4096x256.Idx) :
    (val_main_v35 (F := Ideal) x0 x1 i : EReal) = prob (qx x0) (kx x1) (i 1).val (i 2).val (i 3).val := by
  rw [val_main_v35_apply, ex_apply, val_main_v34_apply, tot_apply]
  rfl

theorem dot_apply (i : S1x4x4096x256.Idx) :
    (val_main_v46 (F := Ideal) x1 x2 i : EReal) = dotHead (ox x2) (vx x1) (i 1).val (i 2).val (i 3).val := by
  rw [val_main_v46_apply]
  refine Finset.sum_congr rfl fun k _ => ?_
  rw [o_apply, v_apply]

theorem square_apply (i : S1x4x4096x1.Idx) : (val_main_v38 (F := Ideal) x0 x1 i : EReal)
    = Ideal.div 1 (tot (qx x0) (kx x1) (i 1).val (i 2).val * tot (qx x0) (kx x1) (i 1).val (i 2).val) := by
  have e : (FloatOps.ofBits (F := Ideal) .f32 0x3F800000#32 : EReal) = 1 := Cert.Gmlp.ofBits_one
  rw [val_main_v38_apply, val_main_v37_apply, val_main_cst_9_apply, e, val_main_v36_apply, tot_apply]
  rfl

/-- A sum over two axes of one entry each. -/
theorem sum_ones (w : S1x4x4096x1.ReducesTo [0, 3] S4x4096) (y : S1x4x4096x1.Idx → EReal) (z : EReal) (i : S4x4096.Idx) :
    Ideal.hostReduceAdd w y z i = z + y (ix4 0 (i 0) (i 1) 0) := by
  have h : ∀ j : S1x4x4096x1.Idx, w.drop j = i
      ↔ ∃ k : Unit, (fun _ : Unit => (ix4 0 (i 0) (i 1) 0 : S1x4x4096x1.Idx)) k = j := by
    intro j
    constructor
    · rintro rfl
      refine ⟨(), funext fun a => ?_⟩
      match a with
      | ⟨0, _⟩ => exact Subsingleton.elim (α := Fin 1) _ _
      | ⟨1, _⟩ => rfl
      | ⟨2, _⟩ => rfl
      | ⟨3, _⟩ => exact Subsingleton.elim (α := Fin 1) _ _
    · rintro ⟨_, rfl⟩
      funext b
      match b with
      | ⟨0, _⟩ => rfl
      | ⟨1, _⟩ => rfl
  refine congrArg (z + ·) ?_
  refine (Finset.sum_filter_eq_sum_of_fiber _ _ (fun _ _ _ => rfl) h y).trans ?_
  simp

theorem inner_apply (i : S4x4096.Idx) : (val_main_v57 (F := Ideal) x0 x1 x2 i : EReal)
    = -∑ x : Fin 256, dotHead (ox x2) (vx x1) (i 0).val (i 1).val x.val
        * Ideal.div 1 (tot (qx x0) (kx x1) (i 0).val (i 1).val * tot (qx x0) (kx x1) (i 0).val (i 1).val)
        * ex (qx x0) (kx x1) (i 0).val (i 1).val x.val := by
  have h0 : (i 0).val < 4 := (i 0).isLt
  have h1 : (i 1).val < 4096 := (i 1).isLt
  have e : (val_main_v57 (F := Ideal) x0 x1 x2 i : EReal)
      = (0 : EReal) + val_main_v54 (F := Ideal) x0 x1 x2 (ix4 0 (i 0) (i 1) 0) := by
    unfold val_main_v57
    generalize val_main_v54 (F := Ideal) x0 x1 x2 = y
    refine (sum_ones _ y _ i).trans (congrArg (· + _) ?_)
    exact ofBits_zero'
  rw [e, zero_add, val_main_v54_apply, val_main_v53_apply, val_main_v52_apply, val_main_cst_10_apply, ofBits_zero', zero_add]
  refine congrArg (fun y : EReal => -y) (Finset.sum_congr rfl fun k _ => ?_)
  rw [val_main_v51_apply, val_main_v50_apply, dot_apply, val_main_v49_apply, square_apply, ex_apply]
  have a0 : (((0 * 4 + (i 0).val) * 4096 + (i 1).val) * 1 + 0) / 4096 % 4 = (i 0).val := by omega
  have a1 : (((0 * 4 + (i 0).val) * 4096 + (i 1).val) * 1 + 0) % 4096 = (i 1).val := by omega
  show dotHead _ _ ((((0 * 4 + (i 0).val) * 4096 + (i 1).val) * 1 + 0) / 4096 % 4)
      ((((0 * 4 + (i 0).val) * 4096 + (i 1).val) * 1 + 0) % 4096) k.val
    * Ideal.div 1 (tot _ _ ((((0 * 4 + (i 0).val) * 4096 + (i 1).val) * 1 + 0) / 4096 % 4)
      ((((0 * 4 + (i 0).val) * 4096 + (i 1).val) * 1 + 0) % 4096)
      * tot _ _ ((((0 * 4 + (i 0).val) * 4096 + (i 1).val) * 1 + 0) / 4096 % 4)
      ((((0 * 4 + (i 0).val) * 4096 + (i 1).val) * 1 + 0) % 4096))
    * ex _ _ ((((0 * 4 + (i 0).val) * 4096 + (i 1).val) * 1 + 0) / 4096 % 4)
      ((((0 * 4 + (i 0).val) * 4096 + (i 1).val) * 1 + 0) % 4096) k.val = _
  rw [a0, a1]

theorem rscore_apply (i : S1x4x4096x256.Idx) : (val_main_v63 (F := Ideal) x0 x1 x2 i : EReal)
    = rscore (qx x0) (kx x1) (vx x1) (ox x2) (i 1).val (i 2).val (i 3).val := by
  rw [val_main_v63_apply, val_main_v62_apply, val_main_cst_12_apply, val_main_v61_apply, val_main_v60_apply, val_main_v56_apply,
    dot_apply, val_main_v55_apply, tot_apply, val_main_v59_apply, val_main_v58_apply, inner_apply, ex_apply]
  rfl

theorem dq_apply (i : S4096x256.Idx) : (val_main_v73 (F := Ideal) x0 x1 x2 i : EReal)
    = ∑ m : Fin 256, rscore (qx x0) (kx x1) (vx x1) (ox x2) ((i 1).val / 64) (i 0).val m.val * kx x1 m.val (i 1).val := by
  have h0 : (i 0).val < 4096 := (i 0).isLt
  have h1 : (i 1).val < 256 := (i 1).isLt
  rw [val_main_v73_apply]
  show (val_main_v72 (F := Ideal) x0 x1 x2 i : EReal) = _
  rw [val_main_v72_apply, val_main_v70_apply, val_main_v67_apply, val_main_v66_apply]
  refine Finset.sum_congr rfl fun m _ => ?_
  rw [rscore_apply, k_apply]
  have a0 : ((0 * 4096 + ((i 0).val * 256 + (i 1).val) / 256 % 4096) * 256 + ((i 0).val * 256 + (i 1).val) % 256) / 256 % 4096 = (i 0).val := by
    omega
  have a1 : ((0 * 4096 + ((i 0).val * 256 + (i 1).val) / 256 % 4096) * 256 + ((i 0).val * 256 + (i 1).val) % 256) / 64 % 4 = (i 1).val / 64 := by
    omega
  have a2 : 64 * (((0 * 4096 + ((i 0).val * 256 + (i 1).val) / 256 % 4096) * 256 + ((i 0).val * 256 + (i 1).val) % 256) / 64 % 4)
      + ((0 * 4096 + ((i 0).val * 256 + (i 1).val) / 256 % 4096) * 256 + ((i 0).val * 256 + (i 1).val) % 256) % 64 = (i 1).val := by
    omega
  exact congrArg₂ (· * ·) (congrArg₂ (fun a b => rscore _ _ _ _ a b m.val) a1 a0) (congrArg (kx x1 m.val) a2)

theorem dk_apply (i : S256x256.Idx) : (val_main_v75 (F := Ideal) x0 x1 x2 i : EReal)
    = ∑ r : Fin 4096, rscore (qx x0) (kx x1) (vx x1) (ox x2) ((i 1).val / 64) r.val (i 0).val * qx x0 r.val (i 1).val := by
  have h0 : (i 0).val < 256 := (i 0).isLt
  have h1 : (i 1).val < 256 := (i 1).isLt
  rw [val_main_v75_apply, val_main_v69_apply, val_main_v65_apply, val_main_v64_apply]
  refine Finset.sum_congr rfl fun r _ => ?_
  rw [rscore_apply, q_apply]
  have a0 : ((0 * 256 + ((i 0).val * 256 + (i 1).val) / 256 % 256) * 256 + ((i 0).val * 256 + (i 1).val) % 256) / 256 % 256 = (i 0).val := by
    omega
  have a1 : ((0 * 256 + ((i 0).val * 256 + (i 1).val) / 256 % 256) * 256 + ((i 0).val * 256 + (i 1).val) % 256) / 64 % 4 = (i 1).val / 64 := by
    omega
  have a2 : 64 * (((0 * 256 + ((i 0).val * 256 + (i 1).val) / 256 % 256) * 256 + ((i 0).val * 256 + (i 1).val) % 256) / 64 % 4)
      + ((0 * 256 + ((i 0).val * 256 + (i 1).val) / 256 % 256) * 256 + ((i 0).val * 256 + (i 1).val) % 256) % 64 = (i 1).val := by
    omega
  exact congrArg₂ (· * ·) (congrArg₂ (fun a b => rscore _ _ _ _ a r.val b) a1 a0) (congrArg (qx x0 r.val) a2)

theorem dv_apply (i : S256x256.Idx) : (val_main_v76 (F := Ideal) x0 x1 x2 i : EReal)
    = ∑ r : Fin 4096, prob (qx x0) (kx x1) ((i 1).val / 64) r.val (i 0).val * ox x2 r.val (i 1).val := by
  have h0 : (i 0).val < 256 := (i 0).isLt
  have h1 : (i 1).val < 256 := (i 1).isLt
  rw [val_main_v76_apply, val_main_v68_apply, val_main_v48_apply, val_main_v47_apply]
  refine Finset.sum_congr rfl fun r _ => ?_
  rw [prob_apply, o_apply, mul_comm]
  have a0 : ((0 * 256 + ((i 0).val * 256 + (i 1).val) / 256 % 256) * 256 + ((i 0).val * 256 + (i 1).val) % 256) / 256 % 256 = (i 0).val := by
    omega
  have a1 : ((0 * 256 + ((i 0).val * 256 + (i 1).val) / 256 % 256) * 256 + ((i 0).val * 256 + (i 1).val) % 256) / 64 % 4 = (i 1).val / 64 := by
    omega
  have a2 : 64 * (((0 * 256 + ((i 0).val * 256 + (i 1).val) / 256 % 256) * 256 + ((i 0).val * 256 + (i 1).val) % 256) / 64 % 4)
      + ((0 * 256 + ((i 0).val * 256 + (i 1).val) / 256 % 256) * 256 + ((i 0).val * 256 + (i 1).val) % 256) % 64 = (i 1).val := by
    omega
  exact congrArg₂ (· * ·) (congrArg₂ (fun a b => prob _ _ a r.val b) a1 a0) (congrArg (ox x2 r.val) a2)

/-- In the queries' columns the result is the gradient of the queries, in the others what was handed in. -/
theorem out_query (i : S4096x1792.Idx) (j : S4096x256.Idx) (e0 : (i 0).val = (j 0).val) (e1 : (i 1).val = 1536 + (j 1).val) :
    val_main_v74 (F := Ideal) x0 x1 x2 x3 i = val_main_v73 (F := Ideal) x0 x1 x2 j := by
  refine concatenate_pair_apply_right (t := S4096x1792) (1 : Fin 2) (val_main_v71 (F := Ideal) x3)
    (val_main_v73 (F := Ideal) x0 x1 x2) _ i rfl rfl j (fun a ha => ?_) (by rw [e1]; exact Nat.add_comm _ _)
  match a with
  | ⟨0, _⟩ => exact e0.symm
  | ⟨1, _⟩ => exact absurd rfl ha

theorem out_rest (i : S4096x1792.Idx) (hi : (i 1).val < 1536) : val_main_v74 (F := Ideal) x0 x1 x2 x3 i = x3 i := by
  have e : val_main_v74 (F := Ideal) x0 x1 x2 x3 i = val_main_v71 (F := Ideal) x3 (ValueIdx.ix2 ⟨(i 0).val, (i 0).isLt⟩ ⟨(i 1).val, hi⟩) := by
    refine concatenate_pair_apply_left (t := S4096x1792) (1 : Fin 2) (val_main_v71 (F := Ideal) x3)
      (val_main_v73 (F := Ideal) x0 x1 x2) _ i rfl _ (fun a => ?_)
    match a with
    | ⟨0, _⟩ => rfl
    | ⟨1, _⟩ => rfl
  rw [e, val_main_v71_apply]
  exact congrArg x3 (funext fun a => match a with | ⟨0, _⟩ => rfl | ⟨1, _⟩ => rfl)

end Cert.Attn.Ref
-- ==== Proof.AttnValue.lean ====
module

public import proofs.«01_k».proof.Defs
public import proofs.«01_k».proof.Proof.AttnBlocks
public import proofs.«01_k».proof.Proof.AttnRef
public import proofs.«01_k».proof.Proof.Finite
public import proofs.«01_k».proof.Proof.Gen.Kernel7.Frame
public import proofs.«01_k».proof.Proof.Gen.Kernel7Ideal.Frame
public import proofs.«01_k».proof.Proof.Gen.Reference7Ideal.Run
public import Idealize.ShloMosaic.Init

/-!
The gradient of the attention: on finite queries, keys, values and gradients of the output the kernel's three arrays and the
reference's hold the same numbers, and the three programs leave their arguments as they found them.
-/

@[expose] public section

set_option maxRecDepth 16384

noncomputable section

namespace Cert.Attn

open Idealize.ShloMosaic Idealize.ShloMosaic.TcCoe Idealize.SL.Sem Cert.Tab Cert.Gmlp

instance pre_facts : Cert.Pre_finite_attn.Facts := by constructor <;> decide

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)

/-- A band of columns of an array is its table from the band's first column. -/
theorem band_real {a b n : ℕ} (o : ℕ) (hb : o + n = b) {x : (⟨2, ![a, b]⟩ : Shape).Idx → EReal}
    {y : (⟨2, ![a, n]⟩ : Shape).Idx → EReal} (hy : ∀ j, ∃ r : ℝ, y j = ((r : ℝ) : EReal))
    (e : ∀ (r : Fin a) (s : Fin n), y (ix2 r s) = x (ix2 r ⟨o + s.val, by omega⟩)) (r s : ℕ) :
    ∃ v : ℝ, tab2 x r (o + s) = ((v : ℝ) : EReal) := by
  by_cases h : r < a ∧ s < n
  · obtain ⟨v, hv⟩ := hy (ix2 ⟨r, h.1⟩ ⟨s, h.2⟩)
    refine ⟨v, ?_⟩
    rw [tab2, dif_pos ⟨h.1, by omega⟩]
    exact (e ⟨r, h.1⟩ ⟨s, h.2⟩).symm.trans hv
  · refine ⟨0, ?_⟩
    rw [tab2, dif_neg (fun q => h ⟨q.1, by omega⟩)]
    rfl

section Real

open Cert.Pre_finite_attn

variable {x0 : S4096x1792.Idx → EReal} {x1 : S256x512.Idx → EReal} {x2 : S4096x1024.Idx → EReal} {x3 : S4096x1792.Idx → EReal}

/-- The queries, the keys, the values and the gradient of the output are numbers. -/
theorem numbers (h : Cert.Pre_finite_attn.fn (F := Ideal) x0 x1 x2 x3 = fun _ => 1#1) :
    (∀ r s, ∃ v : ℝ, tab2 x0 r (1536 + s) = ((v : ℝ) : EReal)) ∧ (∀ r s, ∃ v : ℝ, tab2 x1 r s = ((v : ℝ) : EReal))
      ∧ ∀ r s, ∃ v : ℝ, tab2 x2 r (768 + s) = ((v : ℝ) : EReal) := by
  have e := congrFun h (fun k => k.elim0)
  dsimp only [fn] at e
  obtain ⟨e, h2⟩ := IntOp.andi_eq_one.1 e
  obtain ⟨h0, h1⟩ := IntOp.andi_eq_one.1 e
  have n0 : ∀ j, ∃ r : ℝ, (extractStridedSlice S4096x256 ![0, 1536] x0 Facts.slices_S4096x1792_S4096x256_0_1536 j : EReal) = r :=
    fun j => ⟨_, all_real (top_is _ _) _ _ _ _ h0 j⟩
  have n1 : ∀ j, ∃ r : ℝ, x1 j = ((r : ℝ) : EReal) := fun j => ⟨_, all_real (top_is _ _) _ _ _ _ h1 j⟩
  have n2 : ∀ j, ∃ r : ℝ, (extractStridedSlice S4096x256 ![0, 768] x2 Facts.slices_S4096x1024_S4096x256_0_768 j : EReal) = r :=
    fun j => ⟨_, all_real (top_is _ _) _ _ _ _ h2 j⟩
  refine ⟨band_real (n := 256) (b := 1792) 1536 (by decide) n0 fun r s => ?_, fun r s => ?_, band_real (n := 256) (b := 1024) 768 (by decide) n2 fun r s => ?_⟩
  · exact extractStridedSlice_apply ![0, 1536] x0 _ (ix2 r s) (ix2 r ⟨1536 + s.val, by omega⟩) (fun a => match a with
      | ⟨0, _⟩ => (Nat.zero_add _).symm
      | ⟨1, _⟩ => rfl)
  · obtain ⟨f, hf⟩ := tab2_real n1
    exact ⟨_, hf r s⟩
  · exact extractStridedSlice_apply ![0, 768] x2 _ (ix2 r s) (ix2 r ⟨768 + s.val, by omega⟩) (fun a => match a with
      | ⟨0, _⟩ => (Nat.zero_add _).symm
      | ⟨1, _⟩ => rfl)

end Real

section Ref

open Cert.Reference7Ideal Cert.Reference7Ideal.Read

variable {x0 : S4096x1792.Idx → EReal} {x1 : S256x512.Idx → EReal} {x2 : S4096x1024.Idx → EReal} {x3 : S4096x1792.Idx → EReal}
  (h0 : ∀ r s, ∃ v : ℝ, tab2 x0 r (1536 + s) = ((v : ℝ) : EReal)) (h1 : ∀ r s, ∃ v : ℝ, tab2 x1 r s = ((v : ℝ) : EReal))
  (h2 : ∀ r s, ∃ v : ℝ, tab2 x2 r (768 + s) = ((v : ℝ) : EReal))

include h0 h1 h2 in
theorem agree (h r m : ℕ) : rscore (Ref.qx x0) (Ref.kx x1) (Ref.vx x1) (Ref.ox x2) h r m
    = dscore (Ref.qx x0) (Ref.kx x1) (Ref.vx x1) (Ref.ox x2) h r m :=
  rscore_eq h0 h1 (fun r s => h1 r (256 + s)) h2 h r m

include h0 h1 h2 in
theorem ref_query (i : S4096x1792.Idx) (hi : 1536 ≤ (i 1).val) : (val_main_v74 (F := Ideal) x0 x1 x2 x3 i : EReal)
    = dq (Ref.qx x0) (Ref.kx x1) (Ref.vx x1) (Ref.ox x2) (i 0).val ((i 1).val - 1536) := by
  have b0 : (i 0).val < 4096 := (i 0).isLt
  have b1 : (i 1).val < 1792 := (i 1).isLt
  refine (Ref.out_query x0 x1 x2 x3 i (ix2 ⟨(i 0).val, b0⟩ ⟨(i 1).val - 1536, by omega⟩) rfl ?_).trans
    ((Ref.dq_apply x0 x1 x2 _).trans ?_)
  · show (i 1).val = 1536 + ((i 1).val - 1536)
    omega
  · simp only [agree h0 h1 h2]
    rfl

include h0 h1 h2 in
theorem ref_key (i : S256x256.Idx) : (val_main_v75 (F := Ideal) x0 x1 x2 i : EReal)
    = dk (Ref.qx x0) (Ref.kx x1) (Ref.vx x1) (Ref.ox x2) 4096 0 (i 0).val (i 1).val := by
  rw [Ref.dk_apply]
  unfold dk
  simp only [agree h0 h1 h2, Nat.zero_add]

theorem ref_value (i : S256x256.Idx) : (val_main_v76 (F := Ideal) x0 x1 x2 i : EReal)
    = dv (Ref.qx x0) (Ref.kx x1) (Ref.ox x2) 4096 0 (i 0).val (i 1).val := by
  rw [Ref.dv_apply]
  unfold dv
  simp only [Nat.zero_add]

end Ref

theorem preserves : Cert.preserves_Kernel7_Kernel7Ideal := trivial

theorem algebraic : Cert.algebraic_Kernel7Ideal_Reference7Ideal_pre_finite_attn := by
  intro m ρ m' ρ' hpre hag
  refine ⟨fun c => (Cert.Kernel7Ideal.Gen.dats m 0 c).arrAt 4 Cert.Kernel7Ideal.cfg0.N,
    fun c => (Cert.Kernel7Ideal.Gen.dats m 0 c).arrAt 5 Cert.Kernel7Ideal.cfg0.N,
    fun c => (Cert.Kernel7Ideal.Gen.dats m 0 c).arrAt 6 Cert.Kernel7Ideal.cfg0.N,
    Cert.Kernel7Ideal.Value.run_blocks m ρ,
    (θ_run _ _ _).mono (fun r h c => ?_) (Cert.Reference7Ideal.Value.run m' ρ')⟩
  obtain ⟨r0, r1, r2, hk⟩ := h c
  obtain ⟨a0, a1, a2, a3⟩ := hag c
  obtain ⟨n0, n1, n2⟩ := numbers (hpre c)
  refine ⟨funext fun i => ?_, funext fun i => ?_, funext fun i => ?_, hk⟩
  · refine (congrFun (r0.trans (Cert.Reference7Ideal.Read.val_main_v74_eq m' c)) i).trans ?_
    rw [a0, a1, a2, a3]
    by_cases hi : (i 1).val < 1536
    · exact (Ref.out_rest _ _ _ _ i hi).trans (query_rest m c i hi).symm
    · exact (ref_query n0 n1 n2 i (by omega)).trans (query_array m c i (by omega)).symm
  · refine (congrFun (r1.trans (Cert.Reference7Ideal.Read.val_main_v75_eq m' c)) i).trans ?_
    rw [a0, a1, a2]
    exact (ref_key n0 n1 n2 i).trans (key_array m c i).symm
  · refine (congrFun (r2.trans (Cert.Reference7Ideal.Read.val_main_v76_eq m' c)) i).trans ?_
    rw [a0, a1, a2]
    exact (ref_value i).trans (value_array m c i).symm

end Cert.Attn

end
-- ==== Proof.GmNormLoop.lean ====
module

public import proofs.«01_k».proof.Proof.Strip
public import proofs.«01_k».proof.Proof.Part
public import proofs.«01_k».proof.Proof.Gen.Kernel8Ideal.Value
public import Idealize.ShloMosaic.Lib.Pipeline.ReadBack
public import Idealize.ShloMosaic.Lib.Pointwise.Tactic

/-!
The backward pass of the norm inside the gradient of the gMLP layer's input: the loop over the eight strips of
rows of a block, what it leaves in the block, and the sum over the rows it carries.
-/

@[expose] public section

set_option maxRecDepth 16384

noncomputable section

namespace Cert.GmNorm

open Cert.Kernel8Ideal Cert.Kernel8Ideal.Gen Cert.Kernel8Ideal.Value Idealize.ShloMosaic Idealize.ShloMosaic.TcCoe
open Idealize.SL Idealize.SL.Sem Cert.Tab Cert.Gmlp Cert.Part Cert.NormRow Cert.Strip

section Pay

variable (g a : Vec Ideal S1x1024 .f32) (v x o : Vec Ideal S128x1024 .f32) {r : ℕ} {V X O G : ℕ → ℕ → EReal}
  (hv : ∀ j, v j = V (r + (j 0).val) (j 1).val) (hx : ∀ j, x j = X (r + (j 0).val) (j 1).val)
  (ho : ∀ j, o j = O (r + (j 0).val) (j 1).val) (hg : ∀ j, g j = G (j 0).val (j 1).val)

include hv hx ho hg in
theorem strip_out (j : S128x1024.Idx) : k0_pay8 g v x o j
    = grad (O (r + (j 0).val) (j 1).val) (X (r + (j 0).val)) (V (r + (j 0).val)) (G 0) (j 1).val := by
  unfold k0_pay8 k0_pay7 k0_pay6
  pointwise
  simp only [hv, hx, ho, hg]
  rfl

include hv hx in
theorem strip_sum (j : S1x1024.Idx) : k0_pay9 a v x j
    = a j + ∑ k : Fin 128, V (r + k.val) (j 1).val * (X (r + k.val) (j 1).val * inv (X (r + k.val))) := by
  unfold k0_pay9 k0_pay7 k0_pay6
  pointwise
  simp only [hv, hx]
  rfl

end Pay

theorem off_eq : ∀ k : Fin k0_t1_loop.trips, k0_off1 k = ![128 * k.val, 0] := by decide +kernel

theorem trips_eq : k0_t1_loop.trips = 8 := by decide +kernel

section Loop

variable (𝒱 : Variants) (c : Dev nD) (bd : Option 𝒱.V) (i : grid0.Coords) (arg3 : Memref sig .tc .vmem S1024x896 .bf16) (harg3 : arg3.IsWhole) (arg4 : Memref sig .tc .vmem S896x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (k0_h3 : k0_cond3 i = 1#1) (v23 : Vec Ideal S1x1024 .f32) (X_arg5 : BufTy.Contents (Elt Ideal) arg5.view.ty) (X_arg7 : BufTy.Contents (Elt Ideal) arg7.view.ty) (X_arg10 : BufTy.Contents (Elt Ideal) arg10.view.ty) (init : FVec Ideal S1x1024 .f32)
  {V X O G : ℕ → ℕ → EReal}
  (hv : ∀ j : S1024x1024.Idx, (arg10.view.read (Elt Ideal) X_arg10 j : EReal) = V (j 0).val (j 1).val)
  (hx : ∀ j : S1024x1024.Idx, (arg7.view.read (Elt Ideal) X_arg7 j : EReal) = X (j 0).val (j 1).val)
  (ho : ∀ j : S1024x1024.Idx, (arg5.view.read (Elt Ideal) X_arg5 j : EReal) = O (j 0).val (j 1).val)
  (hg : ∀ j : S1x1024.Idx, (v23 j : EReal) = G (j 0).val (j 1).val)

theorem strip {arg : Memref sig .tc .vmem S1024x1024 .f32} {f : BufTy.Contents (Elt Ideal) arg.view.ty} {T : ℕ → ℕ → EReal}
    (h : ∀ j : S1024x1024.Idx, (arg.view.read (Elt Ideal) f j : EReal) = T (j 0).val (j 1).val)
    (k : Fin k0_t1_loop.trips) (inb : ∀ a, k0_off1 k a + (![128, 1024] : Fin 2 → ℕ) a ≤ S1024x1024.size a) (j : S128x1024.Idx) :
    (View.readAt (Elt Ideal) arg.view (Rect.unit (s := S1024x1024) (k0_off1 k) ![128, 1024] inb).toLoadRect f j : EReal)
      = T (128 * k.val + (j 0).val) (j 1).val := by
  refine (ld_band (Val := Elt Ideal) (e := .f32) (off_eq k) inb h j).trans ?_
  rw [Nat.zero_add]

include hv hx in
/-- The sum over the rows of the strips before the `k`-th. -/
theorem carried : ∀ k : ℕ, k ≤ 8 → ∀ j : S1x1024.Idx,
    ((st_k0_t1 𝒱 c bd i arg3 harg3 arg4 harg4 arg5 harg5 arg6 harg6 arg7 harg7 arg8 harg8 arg9 harg9 arg10 harg10 k0_h3 v23 X_arg5 X_arg7 X_arg10 init k).1 j : EReal)
      = init j + part V (fun r s => X r s * inv (X r)) (128 * k) (j 1).val (j 1).val := by
  intro k
  induction k with
  | zero =>
    intro _ j
    rw [st_k0_t1_zero, part, Nat.mul_zero, Finset.range_zero, Finset.sum_empty]
    exact (add_zero _).symm
  | succ k ih =>
    intro hk j
    have hk' : k < k0_t1_loop.trips := by rw [trips_eq]; omega
    rw [show k + 1 = (⟨k, hk'⟩ : Fin k0_t1_loop.trips).val + 1 from rfl, st_k0_t1_succ]
    unfold tripR_k0_t1 trip_k0_t1
    dsimp only
    refine (strip_sum _ _ _ (strip hv ⟨k, hk'⟩ _) (strip hx ⟨k, hk'⟩ _) j).trans ?_
    rw [ih (by omega) j, add_assoc]
    refine congrArg (init j + ·) ?_
    rw [show 128 * (k + 1) = 128 * k + 128 by omega]
    exact part_add (q := 128) (fun _ => rfl) (fun _ => rfl)

include hv hx ho hg in
/-- The rows of the strips before the `k`-th are settled. -/
theorem pieces : ∀ k : ℕ, k ≤ 8 → ∀ j : S1024x1024.Idx, (j 0).val < 128 * k →
    (View.canon (st_k0_t1 𝒱 c bd i arg3 harg3 arg4 harg4 arg5 harg5 arg6 harg6 arg7 harg7 arg8 harg8 arg9 harg9 arg10 harg10 k0_h3 v23 X_arg5 X_arg7 X_arg10 init k).2 j : EReal)
      = grad (O (j 0).val (j 1).val) (X (j 0).val) (V (j 0).val) (G 0) (j 1).val := by
  intro k
  induction k with
  | zero =>
    intro _ j h
    omega
  | succ k ih =>
    intro hk j h
    have hk' : k < k0_t1_loop.trips := by rw [trips_eq]; omega
    rw [show k + 1 = (⟨k, hk'⟩ : Fin k0_t1_loop.trips).val + 1 from rfl, st_k0_t1_succ]
    unfold tripL_k0_t1 trip_k0_t1
    dsimp only
    refine canon_band' (Val := Elt Ideal) (e := .f32) (off_eq ⟨k, hk'⟩) _
      (f := fun r s => grad (O r s) (X r) (V r) (G 0) s) (fun y => ?_) _ j fun hn => ?_
    · refine (strip_out _ _ _ _ (strip hv ⟨k, hk'⟩ _) (strip hx ⟨k, hk'⟩ _) (strip ho ⟨k, hk'⟩ _) hg y).trans ?_
      dsimp only
      rw [Nat.zero_add]
    · have h1 : (j 1).val < 1024 := (j 1).isLt
      dsimp only at hn
      exact ih (by omega) j (by omega)

end Loop

end Cert.GmNorm
-- ==== Proof.GmNormBlocks.lean ====
module

public import proofs.«01_k».proof.Proof.GmNormLoop

/-!
The gradient of the gMLP layer's input: a block of rows of the product is built up over two blocks of columns,
and after the second of them goes through the backward pass of the norm. The gradient of the gain is carried over the
blocks of rows.
-/

@[expose] public section

set_option maxRecDepth 16384

noncomputable section

namespace Cert.GmNorm

open Cert.Kernel8Ideal Cert.Kernel8Ideal.Gen Cert.Kernel8Ideal.Value Idealize.ShloMosaic Idealize.ShloMosaic.TcCoe
open Idealize.SL Idealize.SL.Sem Cert.Tab Cert.Gmlp Cert.Part Cert.NormRow

section Pay

variable (a : Vec Ideal S1024x1024 .f32) (x : Vec Ideal S1024x896 .bf16) (y : Vec Ideal S896x1024 .bf16) (j : S1024x1024.Idx)

theorem pay1 : k0_pay1 x y j = ∑ k : Fin 896, x (ix2 (j 0) k) * y (ix2 k (j 1)) := by
  unfold k0_pay1
  pointwise

theorem pay4 : k0_pay4 a x y j = a j + ∑ k : Fin 896, x (ix2 (j 0) k) * y (ix2 k (j 1)) := by
  unfold k0_pay4
  pointwise

theorem pay3 (j : S1x1024.Idx) : k0_pay3 (F := Ideal) j = 0 := by
  unfold k0_pay3
  pointwise

theorem pay5 (j : S1x1024.Idx) : k0_pay5 (F := Ideal) j = 0 := by
  unfold k0_pay5
  pointwise

theorem pay10 (a b : Vec Ideal S1x1024 .f32) (j : S1x1024.Idx) : k0_pay10 a b j = a j + b j := by
  unfold k0_pay10
  pointwise

end Pay

variable (m : (ℓ : Loc nD τ sig) → Buf (Elt Ideal) ℓ) (c : Dev nD) (t : Fin cfg0.N)

/-- The gradient of the product's result at column `k` and row `r`. -/
def D (k r : ℕ) : EReal := tab2 (m ((c : Thread nD τ).loc main_arg0) : S4096x1792.Idx → EReal) r k

/-- The weights at column `k` and row `u`. -/
def W (k u : ℕ) : EReal := tab2 (m ((c : Thread nD τ).loc main_arg1) : S1024x1792.Idx → EReal) u k

abbrev O : ℕ → ℕ → EReal := tab2 (m ((c : Thread nD τ).loc main_arg2) : S4096x1024.Idx → EReal)
abbrev X : ℕ → ℕ → EReal := tab2 (m ((c : Thread nD τ).loc main_arg3) : S4096x1024.Idx → EReal)
abbrev G : ℕ → ℕ → EReal := tab2 (m ((c : Thread nD τ).loc main_arg4) : S1x1024.Idx → EReal)

/-- The gradient of the norm's result. -/
def U (r u : ℕ) : EReal := part (D m c) (W m c) 1792 r u

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 2, 0] := (by decide +kernel : ∀ t : Fin grid0.N, _)
theorem index5 : ∀ t : Fin cfg0.N, win0_5.index t = ![t.val / 2, 0] := (by decide +kernel : ∀ t : Fin grid0.N, _)

/-- The weights as the host hands them over: transposed. -/
theorem w_apply (j : S1792x1024.Idx) : (V m c main_v1 : S1792x1024.Idx → EReal) j = W m c (j 0).val (j 1).val := by
  have e : (V m c main_v1 : S1792x1024.Idx → EReal) j
      = (m ((c : Thread nD τ).loc main_arg1) : S1024x1792.Idx → EReal) (ix2 (j 1) (j 0)) := by
    entry_read
    pointwise
  exact e.trans (eq_tab2 _ _)

theorem block0 (j : S1024x896.Idx) :
    iblk m c 0 t j = D m c (896 * (t.val % 2) + (j 1).val) (1024 * (t.val / 2) + (j 0).val) := by
  have e := index0 t
  unfold iblk
  blk_simp
  rw [V_main_arg0]
  refine (eq_tab2 _ _).trans ?_
  blk_simp [e]
  unfold D
  rw [Nat.mul_comm 1024, Nat.mul_comm 896]

theorem block1 (j : S896x1024.Idx) : iblk m c 1 t j = W m c (896 * (t.val % 2) + (j 0).val) (j 1).val := by
  have e := index1 t
  unfold iblk
  blk_simp
  refine (w_apply m c _).trans ?_
  blk_simp [e]
  rw [Nat.mul_comm 896]

theorem block2 (j : S1024x1024.Idx) : iblk m c 2 t j = O m c (1024 * (t.val / 2) + (j 0).val) (j 1).val := by
  have e := index2 t
  unfold iblk
  blk_simp
  rw [V_main_arg2]
  refine (eq_tab2 _ _).trans ?_
  blk_simp [e]
  rw [Nat.mul_comm 1024]

theorem block3 (j : S1x1024.Idx) : iblk m c 3 t j = G m c (j 0).val (j 1).val := by
  have e := index3 t
  unfold iblk
  blk_simp
  rw [V_main_arg4]
  refine (eq_tab2 _ _).trans ?_
  blk_simp [e]

theorem block4 (j : S1024x1024.Idx) : iblk m c 4 t j = X m c (1024 * (t.val / 2) + (j 0).val) (j 1).val := by
  have e := index4 t
  unfold iblk
  blk_simp
  rw [V_main_arg3]
  refine (eq_tab2 _ _).trans ?_
  blk_simp [e]
  rw [Nat.mul_comm 1024]

/-- One more block of columns added to the sum over the columns before it. -/
theorem step (n : ℕ) {P : S1024x896.Idx → EReal} {Q : S896x1024.Idx → EReal}
    (hP : ∀ j, P j = D m c (896 * (n % 2) + (j 1).val) (1024 * (n / 2) + (j 0).val))
    (hQ : ∀ j, Q j = W m c (896 * (n % 2) + (j 0).val) (j 1).val) (i : S1024x1024.Idx) :
    part (D m c) (W m c) (896 * (n % 2)) (1024 * (n / 2) + (i 0).val) (i 1).val
      + ∑ k : Fin 896, P (ix2 (i 0) k) * Q (ix2 k (i 1))
    = part (D m c) (W m c) (896 * (n % 2) + 896) (1024 * (n / 2) + (i 0).val) (i 1).val :=
  part_add (fun k => hP (ix2 (i 0) k)) (fun k => hQ (ix2 k (i 1)))

/-- The running sum after the first block of columns. -/
theorem upto (n : ℕ) (h : n < cfg0.N) (hn : n % 2 = 0) (i : S1024x1024.Idx) : ((outsAt0 m c n h).2.2 i : EReal)
    = part (D m c) (W m c) 896 (1024 * (n / 2) + (i 0).val) (i 1).val := by
  rw [outsAt0_A m c ⟨n, h⟩ hn (by dsimp only; omega)]
  dsimp only
  frame_out
  refine (pay1 _ _ i).trans ((zero_add _).symm.trans ?_)
  have e := step m c n (block0 m c ⟨n, h⟩) (block1 m c ⟨n, h⟩) i
  rw [hn, Nat.mul_zero, Nat.zero_add] at e
  exact e

/-- The whole sum over the columns, at the last block of them. -/
theorem full (ht : t.val % 2 = 1) {P : Vec Ideal S1024x1024 .f32}
    (hP : ∀ i, (P i : EReal) = ((outsAt0 m c (t.val - 1) (by omega)).2.2 i : EReal)) (i : S1024x1024.Idx) :
    k0_pay4 P (iblk m c 0 t) (iblk m c 1 t) i = U m c (1024 * (t.val / 2) + (i 0).val) (i 1).val := by
  refine (pay4 _ _ _ i).trans ?_
  have e := step m c t.val (block0 m c t) (block1 m c t) i
  rw [ht, Nat.mul_one] at e
  refine Eq.trans (congrArg (· + _) ?_) e
  refine (hP i).trans ((upto m c (t.val - 1) _ (by omega) i).trans ?_)
  rw [show (t.val - 1) / 2 = t.val / 2 by omega]

/-- What the last block of columns writes back. -/
theorem last (ht : t.val % 2 = 1) (i : S1024x1024.Idx) : ((outsAt0 m c t.val t.isLt).1 i : EReal)
    = grad (O m c (1024 * (t.val / 2) + (i 0).val) (i 1).val) (X m c (1024 * (t.val / 2) + (i 0).val))
        (U m c (1024 * (t.val / 2) + (i 0).val)) (G m c 0) (i 1).val := by
  have h1 : (i 0).val < 1024 := (i 0).isLt
  by_cases h3 : t.val < 2
  · rw [outsAt0_B m c t (by omega) ht h3]
    dsimp only
    frame_out
    refine pieces (V := fun r => U m c (1024 * (t.val / 2) + r)) (X := fun r => X m c (1024 * (t.val / 2) + r))
      (O := fun r => O m c (1024 * (t.val / 2) + r)) (G := G m c) _ _ _ _ _ _ _ _ _ _ _ _ _ _ _ _ _ _ _ _ _ _ _ _ _ _
      (fun j => ?_) (fun j => ?_) (fun j => ?_) (block3 m c t) 8 le_rfl i (by omega)
    · frame_out
      exact full m c t ht (fun i => by rw [(Memref.isWhole_whole _).read_unread]) j
    · rw [Memref.IsWhole.read_unread]
      exact block4 m c t j
    · rw [Memref.IsWhole.read_unread]
      exact block2 m c t j
  · rw [outsAt0_C m c t (by omega) ht h3]
    dsimp only
    frame_out
    refine pieces (V := fun r => U m c (1024 * (t.val / 2) + r)) (X := fun r => X m c (1024 * (t.val / 2) + r))
      (O := fun r => O m c (1024 * (t.val / 2) + r)) (G := G m c) _ _ _ _ _ _ _ _ _ _ _ _ _ _ _ _ _ _ _ _ _ _ _ _ _ _
      (fun j => ?_) (fun j => ?_) (fun j => ?_) (block3 m c t) 8 le_rfl i (by omega)
    · frame_out
      exact full m c t ht (fun i => by rw [(Memref.isWhole_whole _).read_unread]) j
    · rw [Memref.IsWhole.read_unread]
      exact block4 m c t j
    · rw [Memref.IsWhole.read_unread]
      exact block2 m c t j

/-- The normalised row. -/
def N (r u : ℕ) : EReal := X m c r u * inv (X m c r)

/-- The sum over the rows of a block of rows. -/
abbrev rows (b j : ℕ) : EReal := part (fun r => U m c (1024 * b + r)) (fun r => N m c (1024 * b + r)) 1024 j j

theorem first (ht : t.val % 2 = 1) (h3 : t.val < 2) (j : S1x1024.Idx) :
    ((outsAt0 m c t.val t.isLt).2.1 j : EReal) = 0 + rows m c (t.val / 2) (j 1).val := by
    rw [outsAt0_B m c t (by omega) ht h3]
    dsimp only
    frame_out
    refine (pay10 _ _ j).trans ?_
    refine congrArg₂ (· + ·) (pay3 j) ((carried (V := fun r => U m c (1024 * (t.val / 2) + r)) (X := fun r => X m c (1024 * (t.val / 2) + r))
      _ _ _ _ _ _ _ _ _ _ _ _ _ _ _ _ _ _ _ _ _ _ _ _ _ _ (fun j => ?_) (fun j => ?_) 8 le_rfl j).trans ?_)
    · frame_out
      exact full m c t ht (fun i => by rw [(Memref.isWhole_whole _).read_unread]) j
    · rw [Memref.IsWhole.read_unread]
      exact block4 m c t j
    · exact (congrArg (· + _) (pay5 j)).trans (zero_add _)

theorem next (ht : t.val % 2 = 1) (h3 : ¬ t.val < 2) (j : S1x1024.Idx) : ((outsAt0 m c t.val t.isLt).2.1 j : EReal)
    = (outsAt0 m c (t.val - 1) (by omega)).2.1 j + rows m c (t.val / 2) (j 1).val := by
    rw [outsAt0_C m c t (by omega) ht h3]
    dsimp only
    frame_out
    refine (pay10 _ _ j).trans ?_
    refine congrArg (_ + ·) ((carried (V := fun r => U m c (1024 * (t.val / 2) + r)) (X := fun r => X m c (1024 * (t.val / 2) + r))
      _ _ _ _ _ _ _ _ _ _ _ _ _ _ _ _ _ _ _ _ _ _ _ _ _ _ (fun j => ?_) (fun j => ?_) 8 le_rfl j).trans ?_)
    · frame_out
      exact full m c t ht (fun i => by rw [(Memref.isWhole_whole _).read_unread]) j
    · rw [Memref.IsWhole.read_unread]
      exact block4 m c t j
    · exact (congrArg (· + _) (pay5 j)).trans (zero_add _)

theorem keep (n : ℕ) (h : n + 1 < cfg0.N) (hn : (n + 1) % 2 = 0) :
    (outsAt0 m c (n + 1) h).2.1 = (outsAt0 m c n (Nat.lt_of_succ_lt h)).2.1 := by
  rw [outsAt0_A m c ⟨n + 1, h⟩ hn (by dsimp only; omega)]
  rfl

/-- The gradient of the gain after a whole number of blocks of rows. -/
theorem gain : ∀ (b : ℕ) (h : 2 * b + 1 < cfg0.N) (j : S1x1024.Idx), ((outsAt0 m c (2 * b + 1) h).2.1 j : EReal)
    = part (U m c) (N m c) (1024 * b + 1024) (j 1).val (j 1).val := by
  intro b
  induction b with
  | zero =>
    intro h j
    refine (first m c ⟨2 * 0 + 1, h⟩ rfl (by dsimp only; omega) j).trans ((zero_add _).trans ?_)
    simp [part]
  | succ b ih =>
    intro h j
    refine (next m c ⟨2 * (b + 1) + 1, h⟩ (by dsimp only; omega) (by dsimp only; omega) j).trans ?_
    have k : (outsAt0 m c (2 * b + 1 + 1) (by omega)).2.1 = (outsAt0 m c (2 * b + 1) (by omega)).2.1 :=
      keep m c _ _ (by omega)
    have k' := congrFun k j
    have e : (2 * (b + 1) + 1) / 2 = b + 1 := by omega
    dsimp only
    rw [e]
    refine (congrArg (· + _) (k'.trans (ih _ j))).trans ?_
    unfold rows part
    rw [show 1024 * (b + 1) = 1024 * b + 1024 by omega]
    exact (Finset.sum_range_add _ _ _).symm

/-- Two points that write back write to different places. -/
theorem apart (t t' : Fin cfg0.N) (h : (cfg0.win 5).flush t = true) (h' : (cfg0.win 5).flush t' = true) (hne : t ≠ t') :
    Disjoint ((cfg0.win 5).blk t).view.set ((cfg0.win 5).blk t').view.set := by
  refine (cfg0.win 5).disjoint_blk fun e => hne (Fin.ext ?_)
  have q := (flush0_5 t).1 h
  have q' := (flush0_5 t').1 h'
  have e0 : t.val / 2 = t'.val / 2 := congrFun ((index5 t).symm.trans (e.trans (index5 t'))) 0
  omega

/-- The whole array. -/
theorem array (i : S4096x1024.Idx) : ((dats m 0 c).arrAt 5 cfg0.N i : EReal)
    = grad (O m c (i 0).val (i 1).val) (X m c (i 0).val) (U m c (i 0).val) (G m c 0) (i 1).val := by
  have hN : cfg0.N = 8 := rfl
  have h0 : (i 0).val < 4096 := (i 0).isLt
  have h1 : (i 1).val < 1024 := (i 1).isLt
  obtain ⟨t, ht⟩ : ∃ t : Fin cfg0.N, t.val = 2 * ((i 0).val / 1024) + 1 := ⟨⟨_, by omega⟩, rfl⟩
  have e := index5 t
  have hm : i ∈ ((cfg0.win 5).blk t).view.set := by
    mem_blk [e]
    omega
  obtain ⟨y, rfl⟩ := View.exists_emb_of_mem_set _ hm
  refine (Pipeline.Dat.arrAt_emb_eq_flushed _ 5 apart t ((flush0_5 t).2 (by omega)) y).trans ?_
  rw [flushed5]
  have T := last m c t (by omega)
  generalize (outsAt0 m c t.val t.isLt).1 = z at T ⊢
  refine (T _).trans ?_
  blk_simp [e]
  rw [Nat.mul_comm 1024]

/-- The gradient of the gain. -/
theorem gain_array (i : S1x1024.Idx) : ((dats m 0 c).arrAt 6 cfg0.N i : EReal)
    = part (U m c) (N m c) 4096 (i 1).val (i 1).val := by
  refine ((dats m 0 c).arrAt_emb_eq_after_last 6 ⟨7, by decide⟩ (by decide +kernel) i).trans ?_
  rw [after0_6]
  exact gain m c 3 (by decide) i

end Cert.GmNorm
-- ==== Proof.GmNormValue.lean ====
module

public import proofs.«01_k».proof.Defs
public import proofs.«01_k».proof.Proof.GmNormBlocks
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import Idealize.ShloMosaic.Init

/-!
The gradient of the gMLP layer's input with the backward pass of the norm before it. Both programs take
the same product; the reference differentiates the inverse root by itself and the kernel goes through the normalised row.
They agree on all arguments, finite or not.
-/

@[expose] public section

set_option maxRecDepth 16384

noncomputable section

namespace Cert.GmNorm

open Idealize.ShloMosaic Idealize.ShloMosaic.TcCoe Idealize.SL.Sem Cert.Tab Cert.Part Cert.NormRow

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

namespace Ref

open Cert.Reference8Ideal Cert.Reference8Ideal.Read

variable (x0 : (⟨S4096x1792, .bf16⟩ : BufTy).Contents (Elt Ideal)) (x1 : (⟨S1024x1792, .f32⟩ : BufTy).Contents (Elt Ideal))
  (x2 x3 : (⟨S4096x1024, .f32⟩ : BufTy).Contents (Elt Ideal)) (x4 : (⟨S1x1024, .f32⟩ : BufTy).Contents (Elt Ideal))

def D (k r : ℕ) : EReal := tab2 x0 r k
def W (k u : ℕ) : EReal := tab2 x1 u k
def U (r u : ℕ) : EReal := part (D x0) (W x1) 1792 r u
def N (r u : ℕ) : EReal := tab2 x3 r u * inv (tab2 x3 r)

theorem d_apply : ∀ i : S4096x1792.Idx, (val_main_v18 (F := Ideal) x0 i : EReal) = D x0 (i 1).val (i 0).val :=
  fun i => eq_tab2 x0 i

theorem product_apply (i : S4096x1024.Idx) : (val_main_v19 (F := Ideal) x0 x1 i : EReal) = U x0 x1 (i 0).val (i 1).val := by
  rw [val_main_v19_apply, U, part, Finset.sum_range]
  exact Finset.sum_congr rfl fun k _ => congrArg₂ (· * ·) (d_apply x0 _) (eq_tab2 x1 _)

theorem zero_word : Ideal.ofBits .f32 0x00000000#32 = 0 := by rw [Cert.Gmlp.ofBits_zero]; rfl

theorem msq_apply (i : S4096x1.Idx) : (val_main_v7 (F := Ideal) x3 i : EReal) = msq (tab2 x3 (i 0).val) := by
  have e : (val_main_v2 (F := Ideal) x3 (idx_main_v3 i) : EReal)
      = ∑ k : Fin 1024, tab2 x3 (i 0).val k.val * tab2 x3 (i 0).val k.val := by
    rw [val_main_v2_apply]
    refine (congrArg (· + _) zero_word).trans ((zero_add _).trans ?_)
    exact Finset.sum_congr rfl fun k _ => congrArg₂ (· * ·) (eq_tab2 x3 _) (eq_tab2 x3 _)
  rw [val_main_v7_apply, val_main_v5_apply, val_main_v3_apply, val_main_v4_apply, val_main_v6_apply, e]
  rfl

theorem inv_apply (i : S4096x1.Idx) : (val_main_v8 (F := Ideal) x3 i : EReal) = inv (tab2 x3 (i 0).val) :=
  (val_main_v8_apply x3 i).trans (congrArg Ideal.rsqrt (msq_apply x3 i))

theorem slope_apply (i : S4096x1.Idx) : (val_main_v11 (F := Ideal) x3 i : EReal)
    = Ideal.ofBits .f32 0xBF000000#32 * Ideal.div (inv (tab2 x3 (i 0).val)) (msq (tab2 x3 (i 0).val)) := by
  rw [val_main_v11_apply, val_main_v10_apply, val_main_v9_apply]
  exact congrArg (Ideal.ofBits .f32 0xBF000000#32 * ·) (congrArg₂ Ideal.div (inv_apply x3 i) (msq_apply x3 i))

theorem n_apply (i : S4096x1024.Idx) : (val_main_v13 (F := Ideal) x3 i : EReal) = N x3 (i 0).val (i 1).val := by
  rw [val_main_v13_apply, val_main_v12_apply]
  exact congrArg₂ (· * ·) (eq_tab2 x3 i) (inv_apply x3 _)

theorem gain_apply (i : S4096x1024.Idx) : (val_main_v24 (F := Ideal) x0 x1 x4 i : EReal)
    = U x0 x1 (i 0).val (i 1).val * tab2 x4 0 (i 1).val := by
  rw [val_main_v24_apply, val_main_v23_apply, val_main_v14_apply, val_main_v0_apply]
  refine congrArg₂ (· * ·) (product_apply x0 x1 i) ((eq_tab2 x4 _).trans ?_)
  have h1 : (i 1).val < 1024 := (i 1).isLt
  congr 1
  exact Nat.mod_eq_of_lt h1

theorem chain_apply (i : S4096x1.Idx) : (val_main_v34 (F := Ideal) x0 x1 x3 x4 i : EReal)
    = Ideal.div ((∑ k : Fin 1024, tab2 x3 (i 0).val k.val * (U x0 x1 (i 0).val k.val * tab2 x4 0 k.val))
        * (Ideal.ofBits .f32 0xBF000000#32 * Ideal.div (inv (tab2 x3 (i 0).val)) (msq (tab2 x3 (i 0).val)))) width := by
  have h0 : (i 0).val < 4096 := (i 0).isLt
  have h1 : (i 1).val < 1 := (i 1).isLt
  have e : (val_main_v28 (F := Ideal) x0 x1 x3 x4 i : EReal)
      = ∑ k : Fin 1024, tab2 x3 (i 0).val k.val * (U x0 x1 (i 0).val k.val * tab2 x4 0 k.val) := by
    rw [val_main_v28_apply, val_main_v27_apply]
    refine (congrArg (· + _) zero_word).trans ((zero_add _).trans ?_)
    refine Finset.sum_congr rfl fun k _ => ?_
    rw [val_main_v26_apply]
    refine (congrArg₂ (· * ·) (eq_tab2 x3 _) (gain_apply x0 x1 x4 _)).trans ?_
    show tab2 x3 ((i 0).val * 1 + (i 1).val) k.val * (U x0 x1 ((i 0).val * 1 + (i 1).val) k.val * tab2 x4 0 k.val) = _
    rw [show (i 0).val * 1 + (i 1).val = (i 0).val by omega]
  rw [val_main_v34_apply, val_main_v32_apply, val_main_v33_apply, e]
  exact congrArg (fun z => Ideal.div (_ * z) width) (slope_apply x3 i)

theorem row_apply (i : S4096x1024.Idx) : (val_main_v36 (F := Ideal) x0 x1 x3 x4 i : EReal)
    = Ideal.div ((∑ k : Fin 1024, tab2 x3 (i 0).val k.val * (U x0 x1 (i 0).val k.val * tab2 x4 0 k.val))
        * (Ideal.ofBits .f32 0xBF000000#32 * Ideal.div (inv (tab2 x3 (i 0).val)) (msq (tab2 x3 (i 0).val)))) width := by
  rw [val_main_v36_apply, val_main_v35_apply]
  refine (congrArg (· + _) zero_word).trans ((zero_add _).trans ?_)
  rw [Fin.sum_univ_one]
  exact chain_apply x0 x1 x3 x4 _

theorem apply (i : S4096x1024.Idx) : (val_main_v40 (F := Ideal) x0 x1 x2 x3 x4 i : EReal)
    = grad (tab2 x2 (i 0).val (i 1).val) (tab2 x3 (i 0).val) (U x0 x1 (i 0).val) (tab2 x4 0) (i 1).val := by
  rw [grad_eq _ _ _ _ _ (i 1).isLt, val_main_v40_apply, val_main_v38_apply, val_main_v39_apply, val_main_v37_apply, val_main_v31_apply, val_main_v30_apply, val_main_v29_apply]
  exact congrArg₂ (· + ·) (congrArg₂ (· + ·) (congrArg₂ (· + ·) (eq_tab2 x2 i)
    (congrArg₂ (· * ·) (gain_apply x0 x1 x4 i) (inv_apply x3 _)))
    (congrArg₂ (· * ·) (eq_tab2 x3 i) (row_apply x0 x1 x3 x4 i)))
    (congrArg₂ (· * ·) (row_apply x0 x1 x3 x4 i) (eq_tab2 x3 i))

theorem gain_grad_apply (i : S1x1024.Idx) : (val_main_v41 (F := Ideal) x0 x1 x3 i : EReal)
    = part (U x0 x1) (N x3) 4096 (i 1).val (i 1).val := by
  have h1 : (i 1).val < 1024 := (i 1).isLt
  rw [val_main_v41_apply, val_main_v25_apply]
  refine (congrArg (· + _) zero_word).trans ((zero_add _).trans ?_)
  rw [Fin.sum_univ_one, val_main_v22_apply, val_main_v21_apply]
  refine (congrArg (· + _) zero_word).trans ((zero_add _).trans ?_)
  rw [part, Finset.sum_range]
  refine Finset.sum_congr rfl fun k _ => ?_
  rw [val_main_v20_apply]
  refine (congrArg₂ (· * ·) (n_apply x3 _) (product_apply x0 x1 _)).trans ((mul_comm _ _).trans ?_)
  show U x0 x1 k.val (0 * 1024 + (i 1).val) * N x3 k.val (0 * 1024 + (i 1).val) = _
  rw [Nat.zero_mul, Nat.zero_add]

end Ref

theorem preserves : Cert.preserves_Kernel8_Kernel8Ideal := trivial

/-- The kernel's arrays are the reference's. -/
theorem algebraic : Cert.algebraic_Kernel8Ideal_Reference8Ideal := by
  intro m ρ m' ρ' _ hag
  refine ⟨fun c => (Cert.Kernel8Ideal.Gen.dats m 0 c).arrAt 5 Cert.Kernel8Ideal.cfg0.N,
    fun c => (Cert.Kernel8Ideal.Gen.dats m 0 c).arrAt 6 Cert.Kernel8Ideal.cfg0.N,
    Cert.Kernel8Ideal.Value.run_blocks m ρ,
    (θ_run _ _ _).mono (fun r h c => ?_) (Cert.Reference8Ideal.Value.run m' ρ')⟩
  obtain ⟨h0, h1, hk⟩ := h c
  obtain ⟨a0, a1, a2, a3, a4⟩ := hag c
  refine ⟨funext fun i => ?_, funext fun i => ?_, hk⟩
  · refine (congrFun (h0.trans (Cert.Reference8Ideal.Read.val_main_v40_eq _ _)) i).trans ?_
    rw [a0, a1, a2, a3, a4]
    exact (Ref.apply _ _ _ _ _ i).trans (array m c i).symm
  · refine (congrFun (h1.trans (Cert.Reference8Ideal.Read.val_main_v41_eq _ _ _)) i).trans ?_
    rw [a0, a1, a3]
    exact (Ref.gain_grad_apply _ _ _ i).trans (gain_array m c i).symm

end Cert.GmNorm

end
-- ==== Proof.HgNormLoop.lean ====
module

public import proofs.«01_k».proof.Proof.Strip
public import proofs.«01_k».proof.Proof.Part
public import proofs.«01_k».proof.Proof.Gen.Kernel9Ideal.Value
public import Idealize.ShloMosaic.Lib.Pipeline.ReadBack
public import Idealize.ShloMosaic.Lib.Pointwise.Tactic

/-!
The backward pass of the norm inside the gradient of the recurrent layer's input: the loop over the eight strips of
rows of a block, what it leaves in the block, and the sum over the rows it carries.
-/

@[expose] public section

set_option maxRecDepth 16384

noncomputable section

namespace Cert.HgNorm

open Cert.Kernel9Ideal Cert.Kernel9Ideal.Gen Cert.Kernel9Ideal.Value Idealize.ShloMosaic Idealize.ShloMosaic.TcCoe
open Idealize.SL Idealize.SL.Sem Cert.Tab Cert.Gmlp Cert.Part Cert.NormRow Cert.Strip

section Pay

variable (g a : Vec Ideal S1x1024 .f32) (v x o : Vec Ideal S128x1024 .f32) {r : ℕ} {V X O G : ℕ → ℕ → EReal}
  (hv : ∀ j, v j = V (r + (j 0).val) (j 1).val) (hx : ∀ j, x j = X (r + (j 0).val) (j 1).val)
  (ho : ∀ j, o j = O (r + (j 0).val) (j 1).val) (hg : ∀ j, g j = G (j 0).val (j 1).val)

include hv hx ho hg in
theorem strip_out (j : S128x1024.Idx) : k0_pay8 g v x o j
    = grad (O (r + (j 0).val) (j 1).val) (X (r + (j 0).val)) (V (r + (j 0).val)) (G 0) (j 1).val := by
  unfold k0_pay8 k0_pay7 k0_pay6
  pointwise
  simp only [hv, hx, ho, hg]
  rfl

include hv hx in
theorem strip_sum (j : S1x1024.Idx) : k0_pay9 a v x j
    = a j + ∑ k : Fin 128, V (r + k.val) (j 1).val * (X (r + k.val) (j 1).val * inv (X (r + k.val))) := by
  unfold k0_pay9 k0_pay7 k0_pay6
  pointwise
  simp only [hv, hx]
  rfl

end Pay

theorem off_eq : ∀ k : Fin k0_t1_loop.trips, k0_off1 k = ![128 * k.val, 0] := by decide +kernel

theorem trips_eq : k0_t1_loop.trips = 8 := by decide +kernel

section Loop

variable (𝒱 : Variants) (c : Dev nD) (bd : Option 𝒱.V) (i : grid0.Coords) (arg3 : Memref sig .tc .vmem S1024x1664 .bf16) (harg3 : arg3.IsWhole) (arg4 : Memref sig .tc .vmem S1664x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .hbm S8x128 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (k0_h3 : k0_cond3 i = 1#1) (v23 : Vec Ideal S1x1024 .f32) (X_arg5 : BufTy.Contents (Elt Ideal) arg5.view.ty) (X_arg7 : BufTy.Contents (Elt Ideal) arg7.view.ty) (X_arg11 : BufTy.Contents (Elt Ideal) arg11.view.ty) (init : FVec Ideal S1x1024 .f32)
  {V X O G : ℕ → ℕ → EReal}
  (hv : ∀ j : S1024x1024.Idx, (arg11.view.read (Elt Ideal) X_arg11 j : EReal) = V (j 0).val (j 1).val)
  (hx : ∀ j : S1024x1024.Idx, (arg7.view.read (Elt Ideal) X_arg7 j : EReal) = X (j 0).val (j 1).val)
  (ho : ∀ j : S1024x1024.Idx, (arg5.view.read (Elt Ideal) X_arg5 j : EReal) = O (j 0).val (j 1).val)
  (hg : ∀ j : S1x1024.Idx, (v23 j : EReal) = G (j 0).val (j 1).val)

theorem strip {arg : Memref sig .tc .vmem S1024x1024 .f32} {f : BufTy.Contents (Elt Ideal) arg.view.ty} {T : ℕ → ℕ → EReal}
    (h : ∀ j : S1024x1024.Idx, (arg.view.read (Elt Ideal) f j : EReal) = T (j 0).val (j 1).val)
    (k : Fin k0_t1_loop.trips) (inb : ∀ a, k0_off1 k a + (![128, 1024] : Fin 2 → ℕ) a ≤ S1024x1024.size a) (j : S128x1024.Idx) :
    (View.readAt (Elt Ideal) arg.view (Rect.unit (s := S1024x1024) (k0_off1 k) ![128, 1024] inb).toLoadRect f j : EReal)
      = T (128 * k.val + (j 0).val) (j 1).val := by
  refine (ld_band (Val := Elt Ideal) (e := .f32) (off_eq k) inb h j).trans ?_
  rw [Nat.zero_add]

include hv hx in
/-- The sum over the rows of the strips before the `k`-th. -/
theorem carried : ∀ k : ℕ, k ≤ 8 → ∀ j : S1x1024.Idx,
    ((st_k0_t1 𝒱 c bd i arg3 harg3 arg4 harg4 arg5 harg5 arg6 harg6 arg7 harg7 arg8 harg8 arg9 harg9 arg10 harg10 arg11 harg11 k0_h3 v23 X_arg5 X_arg7 X_arg11 init k).1 j : EReal)
      = init j + part V (fun r s => X r s * inv (X r)) (128 * k) (j 1).val (j 1).val := by
  intro k
  induction k with
  | zero =>
    intro _ j
    rw [st_k0_t1_zero, part, Nat.mul_zero, Finset.range_zero, Finset.sum_empty]
    exact (add_zero _).symm
  | succ k ih =>
    intro hk j
    have hk' : k < k0_t1_loop.trips := by rw [trips_eq]; omega
    rw [show k + 1 = (⟨k, hk'⟩ : Fin k0_t1_loop.trips).val + 1 from rfl, st_k0_t1_succ]
    unfold tripR_k0_t1 trip_k0_t1
    dsimp only
    refine (strip_sum _ _ _ (strip hv ⟨k, hk'⟩ _) (strip hx ⟨k, hk'⟩ _) j).trans ?_
    rw [ih (by omega) j, add_assoc]
    refine congrArg (init j + ·) ?_
    rw [show 128 * (k + 1) = 128 * k + 128 by omega]
    exact part_add (q := 128) (fun _ => rfl) (fun _ => rfl)

include hv hx ho hg in
/-- The rows of the strips before the `k`-th are settled. -/
theorem pieces : ∀ k : ℕ, k ≤ 8 → ∀ j : S1024x1024.Idx, (j 0).val < 128 * k →
    (View.canon (st_k0_t1 𝒱 c bd i arg3 harg3 arg4 harg4 arg5 harg5 arg6 harg6 arg7 harg7 arg8 harg8 arg9 harg9 arg10 harg10 arg11 harg11 k0_h3 v23 X_arg5 X_arg7 X_arg11 init k).2 j : EReal)
      = grad (O (j 0).val (j 1).val) (X (j 0).val) (V (j 0).val) (G 0) (j 1).val := by
  intro k
  induction k with
  | zero =>
    intro _ j h
    omega
  | succ k ih =>
    intro hk j h
    have hk' : k < k0_t1_loop.trips := by rw [trips_eq]; omega
    rw [show k + 1 = (⟨k, hk'⟩ : Fin k0_t1_loop.trips).val + 1 from rfl, st_k0_t1_succ]
    unfold tripL_k0_t1 trip_k0_t1
    dsimp only
    refine canon_band' (Val := Elt Ideal) (e := .f32) (off_eq ⟨k, hk'⟩) _
      (f := fun r s => grad (O r s) (X r) (V r) (G 0) s) (fun y => ?_) _ j fun hn => ?_
    · refine (strip_out _ _ _ _ (strip hv ⟨k, hk'⟩ _) (strip hx ⟨k, hk'⟩ _) (strip ho ⟨k, hk'⟩ _) hg y).trans ?_
      dsimp only
      rw [Nat.zero_add]
    · have h1 : (j 1).val < 1024 := (j 1).isLt
      dsimp only at hn
      exact ih (by omega) j (by omega)

end Loop

end Cert.HgNorm
-- ==== Proof.HgNormBlocks.lean ====
module

public import proofs.«01_k».proof.Proof.HgNormLoop

/-!
The gradient of the recurrent layer's input: a block of rows of the product is built up over two blocks of columns,
and after the second of them goes through the backward pass of the norm. The gradient of the gain is carried over the
blocks of rows.
-/

@[expose] public section

set_option maxRecDepth 16384

noncomputable section

namespace Cert.HgNorm

open Cert.Kernel9Ideal Cert.Kernel9Ideal.Gen Cert.Kernel9Ideal.Value Idealize.ShloMosaic Idealize.ShloMosaic.TcCoe
open Idealize.SL Idealize.SL.Sem Cert.Tab Cert.Gmlp Cert.Part Cert.NormRow

section Pay

variable (a : Vec Ideal S1024x1024 .f32) (x : Vec Ideal S1024x1664 .bf16) (y : Vec Ideal S1664x1024 .bf16) (j : S1024x1024.Idx)

theorem pay1 : k0_pay1 x y j = ∑ k : Fin 1664, x (ix2 (j 0) k) * y (ix2 k (j 1)) := by
  unfold k0_pay1
  pointwise

theorem pay4 : k0_pay4 a x y j = a j + ∑ k : Fin 1664, x (ix2 (j 0) k) * y (ix2 k (j 1)) := by
  unfold k0_pay4
  pointwise

theorem pay3 (j : S1x1024.Idx) : k0_pay3 (F := Ideal) j = 0 := by
  unfold k0_pay3
  pointwise

theorem pay5 (j : S1x1024.Idx) : k0_pay5 (F := Ideal) j = 0 := by
  unfold k0_pay5
  pointwise

theorem pay10 (a b : Vec Ideal S1x1024 .f32) (j : S1x1024.Idx) : k0_pay10 a b j = a j + b j := by
  unfold k0_pay10
  pointwise

end Pay

variable (m : (ℓ : Loc nD τ sig) → Buf (Elt Ideal) ℓ) (c : Dev nD) (t : Fin cfg0.N)

/-- The gradient of the product's result at column `k` and row `r`. -/
def D (k r : ℕ) : EReal := tab2 (m ((c : Thread nD τ).loc main_arg0) : S4096x3328.Idx → EReal) r k

/-- The weights at column `k` and row `u`. -/
def W (k u : ℕ) : EReal := tab2 (m ((c : Thread nD τ).loc main_arg1) : S1024x3328.Idx → EReal) u k

abbrev O : ℕ → ℕ → EReal := tab2 (m ((c : Thread nD τ).loc main_arg2) : S4096x1024.Idx → EReal)
abbrev X : ℕ → ℕ → EReal := tab2 (m ((c : Thread nD τ).loc main_arg3) : S4096x1024.Idx → EReal)
abbrev G : ℕ → ℕ → EReal := tab2 (m ((c : Thread nD τ).loc main_arg4) : S1x1024.Idx → EReal)

/-- The gradient of the norm's result. -/
def U (r u : ℕ) : EReal := part (D m c) (W m c) 3328 r u

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 2, 0] := (by decide +kernel : ∀ t : Fin grid0.N, _)
theorem index5 : ∀ t : Fin cfg0.N, win0_5.index t = ![t.val / 2, 0] := (by decide +kernel : ∀ t : Fin grid0.N, _)

/-- The weights as the host hands them over: transposed. -/
theorem w_apply (j : S3328x1024.Idx) : (V m c main_v1 : S3328x1024.Idx → EReal) j = W m c (j 0).val (j 1).val := by
  have e : (V m c main_v1 : S3328x1024.Idx → EReal) j
      = (m ((c : Thread nD τ).loc main_arg1) : S1024x3328.Idx → EReal) (ix2 (j 1) (j 0)) := by
    entry_read
    pointwise
  exact e.trans (eq_tab2 _ _)

theorem block0 (j : S1024x1664.Idx) :
    iblk m c 0 t j = D m c (1664 * (t.val % 2) + (j 1).val) (1024 * (t.val / 2) + (j 0).val) := by
  have e := index0 t
  unfold iblk
  blk_simp
  rw [V_main_arg0]
  refine (eq_tab2 _ _).trans ?_
  blk_simp [e]
  unfold D
  rw [Nat.mul_comm 1024, Nat.mul_comm 1664]

theorem block1 (j : S1664x1024.Idx) : iblk m c 1 t j = W m c (1664 * (t.val % 2) + (j 0).val) (j 1).val := by
  have e := index1 t
  unfold iblk
  blk_simp
  refine (w_apply m c _).trans ?_
  blk_simp [e]
  rw [Nat.mul_comm 1664]

theorem block2 (j : S1024x1024.Idx) : iblk m c 2 t j = O m c (1024 * (t.val / 2) + (j 0).val) (j 1).val := by
  have e := index2 t
  unfold iblk
  blk_simp
  rw [V_main_arg2]
  refine (eq_tab2 _ _).trans ?_
  blk_simp [e]
  rw [Nat.mul_comm 1024]

theorem block3 (j : S1x1024.Idx) : iblk m c 3 t j = G m c (j 0).val (j 1).val := by
  have e := index3 t
  unfold iblk
  blk_simp
  rw [V_main_arg4]
  refine (eq_tab2 _ _).trans ?_
  blk_simp [e]

theorem block4 (j : S1024x1024.Idx) : iblk m c 4 t j = X m c (1024 * (t.val / 2) + (j 0).val) (j 1).val := by
  have e := index4 t
  unfold iblk
  blk_simp
  rw [V_main_arg3]
  refine (eq_tab2 _ _).trans ?_
  blk_simp [e]
  rw [Nat.mul_comm 1024]

/-- One more block of columns added to the sum over the columns before it. -/
theorem step (n : ℕ) {P : S1024x1664.Idx → EReal} {Q : S1664x1024.Idx → EReal}
    (hP : ∀ j, P j = D m c (1664 * (n % 2) + (j 1).val) (1024 * (n / 2) + (j 0).val))
    (hQ : ∀ j, Q j = W m c (1664 * (n % 2) + (j 0).val) (j 1).val) (i : S1024x1024.Idx) :
    part (D m c) (W m c) (1664 * (n % 2)) (1024 * (n / 2) + (i 0).val) (i 1).val
      + ∑ k : Fin 1664, P (ix2 (i 0) k) * Q (ix2 k (i 1))
    = part (D m c) (W m c) (1664 * (n % 2) + 1664) (1024 * (n / 2) + (i 0).val) (i 1).val :=
  part_add (fun k => hP (ix2 (i 0) k)) (fun k => hQ (ix2 k (i 1)))

/-- The running sum after the first block of columns. -/
theorem upto (n : ℕ) (h : n < cfg0.N) (hn : n % 2 = 0) (i : S1024x1024.Idx) : ((outsAt0 m c n h).2.2 i : EReal)
    = part (D m c) (W m c) 1664 (1024 * (n / 2) + (i 0).val) (i 1).val := by
  rw [outsAt0_A m c ⟨n, h⟩ hn (by dsimp only; omega)]
  dsimp only
  frame_out
  refine (pay1 _ _ i).trans ((zero_add _).symm.trans ?_)
  have e := step m c n (block0 m c ⟨n, h⟩) (block1 m c ⟨n, h⟩) i
  rw [hn, Nat.mul_zero, Nat.zero_add] at e
  exact e

/-- The whole sum over the columns, at the last block of them. -/
theorem full (ht : t.val % 2 = 1) {P : Vec Ideal S1024x1024 .f32}
    (hP : ∀ i, (P i : EReal) = ((outsAt0 m c (t.val - 1) (by omega)).2.2 i : EReal)) (i : S1024x1024.Idx) :
    k0_pay4 P (iblk m c 0 t) (iblk m c 1 t) i = U m c (1024 * (t.val / 2) + (i 0).val) (i 1).val := by
  refine (pay4 _ _ _ i).trans ?_
  have e := step m c t.val (block0 m c t) (block1 m c t) i
  rw [ht, Nat.mul_one] at e
  refine Eq.trans (congrArg (· + _) ?_) e
  refine (hP i).trans ((upto m c (t.val - 1) _ (by omega) i).trans ?_)
  rw [show (t.val - 1) / 2 = t.val / 2 by omega]

/-- What the last block of columns writes back. -/
theorem last (ht : t.val % 2 = 1) (i : S1024x1024.Idx) : ((outsAt0 m c t.val t.isLt).1 i : EReal)
    = grad (O m c (1024 * (t.val / 2) + (i 0).val) (i 1).val) (X m c (1024 * (t.val / 2) + (i 0).val))
        (U m c (1024 * (t.val / 2) + (i 0).val)) (G m c 0) (i 1).val := by
  have h1 : (i 0).val < 1024 := (i 0).isLt
  by_cases h3 : t.val < 2
  · rw [outsAt0_B m c t (by omega) ht h3]
    dsimp only
    frame_out
    refine pieces (V := fun r => U m c (1024 * (t.val / 2) + r)) (X := fun r => X m c (1024 * (t.val / 2) + r))
      (O := fun r => O m c (1024 * (t.val / 2) + r)) (G := G m c) _ _ _ _ _ _ _ _ _ _ _ _ _ _ _ _ _ _ _ _ _ _ _ _ _ _ _ _
      (fun j => ?_) (fun j => ?_) (fun j => ?_) (block3 m c t) 8 le_rfl i (by omega)
    · frame_out
      exact full m c t ht (fun i => by rw [(Memref.isWhole_whole _).read_unread]) j
    · rw [Memref.IsWhole.read_unread]
      exact block4 m c t j
    · rw [Memref.IsWhole.read_unread]
      exact block2 m c t j
  · rw [outsAt0_C m c t (by omega) ht h3]
    dsimp only
    frame_out
    refine pieces (V := fun r => U m c (1024 * (t.val / 2) + r)) (X := fun r => X m c (1024 * (t.val / 2) + r))
      (O := fun r => O m c (1024 * (t.val / 2) + r)) (G := G m c) _ _ _ _ _ _ _ _ _ _ _ _ _ _ _ _ _ _ _ _ _ _ _ _ _ _ _ _
      (fun j => ?_) (fun j => ?_) (fun j => ?_) (block3 m c t) 8 le_rfl i (by omega)
    · frame_out
      exact full m c t ht (fun i => by rw [(Memref.isWhole_whole _).read_unread]) j
    · rw [Memref.IsWhole.read_unread]
      exact block4 m c t j
    · rw [Memref.IsWhole.read_unread]
      exact block2 m c t j

/-- The normalised row. -/
def N (r u : ℕ) : EReal := X m c r u * inv (X m c r)

/-- The sum over the rows of a block of rows. -/
abbrev rows (b j : ℕ) : EReal := part (fun r => U m c (1024 * b + r)) (fun r => N m c (1024 * b + r)) 1024 j j

theorem first (ht : t.val % 2 = 1) (h3 : t.val < 2) (j : S1x1024.Idx) :
    ((outsAt0 m c t.val t.isLt).2.1 j : EReal) = 0 + rows m c (t.val / 2) (j 1).val := by
    rw [outsAt0_B m c t (by omega) ht h3]
    dsimp only
    frame_out
    refine (pay10 _ _ j).trans ?_
    refine congrArg₂ (· + ·) (pay3 j) ((carried (V := fun r => U m c (1024 * (t.val / 2) + r)) (X := fun r => X m c (1024 * (t.val / 2) + r))
      _ _ _ _ _ _ _ _ _ _ _ _ _ _ _ _ _ _ _ _ _ _ _ _ _ _ _ _ (fun j => ?_) (fun j => ?_) 8 le_rfl j).trans ?_)
    · frame_out
      exact full m c t ht (fun i => by rw [(Memref.isWhole_whole _).read_unread]) j
    · rw [Memref.IsWhole.read_unread]
      exact block4 m c t j
    · exact (congrArg (· + _) (pay5 j)).trans (zero_add _)

theorem next (ht : t.val % 2 = 1) (h3 : ¬ t.val < 2) (j : S1x1024.Idx) : ((outsAt0 m c t.val t.isLt).2.1 j : EReal)
    = (outsAt0 m c (t.val - 1) (by omega)).2.1 j + rows m c (t.val / 2) (j 1).val := by
    rw [outsAt0_C m c t (by omega) ht h3]
    dsimp only
    frame_out
    refine (pay10 _ _ j).trans ?_
    refine congrArg (_ + ·) ((carried (V := fun r => U m c (1024 * (t.val / 2) + r)) (X := fun r => X m c (1024 * (t.val / 2) + r))
      _ _ _ _ _ _ _ _ _ _ _ _ _ _ _ _ _ _ _ _ _ _ _ _ _ _ _ _ (fun j => ?_) (fun j => ?_) 8 le_rfl j).trans ?_)
    · frame_out
      exact full m c t ht (fun i => by rw [(Memref.isWhole_whole _).read_unread]) j
    · rw [Memref.IsWhole.read_unread]
      exact block4 m c t j
    · exact (congrArg (· + _) (pay5 j)).trans (zero_add _)

theorem keep (n : ℕ) (h : n + 1 < cfg0.N) (hn : (n + 1) % 2 = 0) :
    (outsAt0 m c (n + 1) h).2.1 = (outsAt0 m c n (Nat.lt_of_succ_lt h)).2.1 := by
  rw [outsAt0_A m c ⟨n + 1, h⟩ hn (by dsimp only; omega)]
  rfl

/-- The gradient of the gain after a whole number of blocks of rows. -/
theorem gain : ∀ (b : ℕ) (h : 2 * b + 1 < cfg0.N) (j : S1x1024.Idx), ((outsAt0 m c (2 * b + 1) h).2.1 j : EReal)
    = part (U m c) (N m c) (1024 * b + 1024) (j 1).val (j 1).val := by
  intro b
  induction b with
  | zero =>
    intro h j
    refine (first m c ⟨2 * 0 + 1, h⟩ rfl (by dsimp only; omega) j).trans ((zero_add _).trans ?_)
    simp [part]
  | succ b ih =>
    intro h j
    refine (next m c ⟨2 * (b + 1) + 1, h⟩ (by dsimp only; omega) (by dsimp only; omega) j).trans ?_
    have k : (outsAt0 m c (2 * b + 1 + 1) (by omega)).2.1 = (outsAt0 m c (2 * b + 1) (by omega)).2.1 :=
      keep m c _ _ (by omega)
    have k' := congrFun k j
    have e : (2 * (b + 1) + 1) / 2 = b + 1 := by omega
    dsimp only
    rw [e]
    refine (congrArg (· + _) (k'.trans (ih _ j))).trans ?_
    unfold rows part
    rw [show 1024 * (b + 1) = 1024 * b + 1024 by omega]
    exact (Finset.sum_range_add _ _ _).symm

/-- Two points that write back write to different places. -/
theorem apart (t t' : Fin cfg0.N) (h : (cfg0.win 5).flush t = true) (h' : (cfg0.win 5).flush t' = true) (hne : t ≠ t') :
    Disjoint ((cfg0.win 5).blk t).view.set ((cfg0.win 5).blk t').view.set := by
  refine (cfg0.win 5).disjoint_blk fun e => hne (Fin.ext ?_)
  have q := (flush0_5 t).1 h
  have q' := (flush0_5 t').1 h'
  have e0 : t.val / 2 = t'.val / 2 := congrFun ((index5 t).symm.trans (e.trans (index5 t'))) 0
  omega

/-- The whole array. -/
theorem array (i : S4096x1024.Idx) : ((dats m 0 c).arrAt 5 cfg0.N i : EReal)
    = grad (O m c (i 0).val (i 1).val) (X m c (i 0).val) (U m c (i 0).val) (G m c 0) (i 1).val := by
  have hN : cfg0.N = 8 := rfl
  have h0 : (i 0).val < 4096 := (i 0).isLt
  have h1 : (i 1).val < 1024 := (i 1).isLt
  obtain ⟨t, ht⟩ : ∃ t : Fin cfg0.N, t.val = 2 * ((i 0).val / 1024) + 1 := ⟨⟨_, by omega⟩, rfl⟩
  have e := index5 t
  have hm : i ∈ ((cfg0.win 5).blk t).view.set := by
    mem_blk [e]
    omega
  obtain ⟨y, rfl⟩ := View.exists_emb_of_mem_set _ hm
  refine (Pipeline.Dat.arrAt_emb_eq_flushed _ 5 apart t ((flush0_5 t).2 (by omega)) y).trans ?_
  rw [flushed5]
  have T := last m c t (by omega)
  generalize (outsAt0 m c t.val t.isLt).1 = z at T ⊢
  refine (T _).trans ?_
  blk_simp [e]
  rw [Nat.mul_comm 1024]

/-- The gradient of the gain. -/
theorem gain_array (i : S1x1024.Idx) : ((dats m 0 c).arrAt 6 cfg0.N i : EReal)
    = part (U m c) (N m c) 4096 (i 1).val (i 1).val := by
  refine ((dats m 0 c).arrAt_emb_eq_after_last 6 ⟨7, by decide⟩ (by decide +kernel) i).trans ?_
  rw [after0_6]
  exact gain m c 3 (by decide) i

end Cert.HgNorm
-- ==== Proof.HgNormValue.lean ====
module

public import proofs.«01_k».proof.Defs
public import proofs.«01_k».proof.Proof.HgNormBlocks
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import Idealize.ShloMosaic.Init

/-!
The gradient of the recurrent layer's input with the backward pass of the norm before it. Both programs take
the same product; the reference differentiates the inverse root by itself and the kernel goes through the normalised row.
They agree on all arguments, finite or not.
-/

@[expose] public section

set_option maxRecDepth 16384

noncomputable section

namespace Cert.HgNorm

open Idealize.ShloMosaic Idealize.ShloMosaic.TcCoe Idealize.SL.Sem Cert.Tab Cert.Part Cert.NormRow

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

namespace Ref

open Cert.Reference9Ideal Cert.Reference9Ideal.Read

variable (x0 : (⟨S4096x3328, .bf16⟩ : BufTy).Contents (Elt Ideal)) (x1 : (⟨S1024x3328, .f32⟩ : BufTy).Contents (Elt Ideal))
  (x2 x3 : (⟨S4096x1024, .f32⟩ : BufTy).Contents (Elt Ideal)) (x4 : (⟨S1x1024, .f32⟩ : BufTy).Contents (Elt Ideal))

def D (k r : ℕ) : EReal := tab2 x0 r k
def W (k u : ℕ) : EReal := tab2 x1 u k
def U (r u : ℕ) : EReal := part (D x0) (W x1) 3328 r u
def N (r u : ℕ) : EReal := tab2 x3 r u * inv (tab2 x3 r)

theorem d_apply : ∀ i : S4096x3328.Idx, (val_main_v18 (F := Ideal) x0 i : EReal) = D x0 (i 1).val (i 0).val :=
  fun i => eq_tab2 x0 i

theorem product_apply (i : S4096x1024.Idx) : (val_main_v19 (F := Ideal) x0 x1 i : EReal) = U x0 x1 (i 0).val (i 1).val := by
  rw [val_main_v19_apply, U, part, Finset.sum_range]
  exact Finset.sum_congr rfl fun k _ => congrArg₂ (· * ·) (d_apply x0 _) (eq_tab2 x1 _)

theorem zero_word : Ideal.ofBits .f32 0x00000000#32 = 0 := by rw [Cert.Gmlp.ofBits_zero]; rfl

theorem msq_apply (i : S4096x1.Idx) : (val_main_v7 (F := Ideal) x3 i : EReal) = msq (tab2 x3 (i 0).val) := by
  have e : (val_main_v2 (F := Ideal) x3 (idx_main_v3 i) : EReal)
      = ∑ k : Fin 1024, tab2 x3 (i 0).val k.val * tab2 x3 (i 0).val k.val := by
    rw [val_main_v2_apply]
    refine (congrArg (· + _) zero_word).trans ((zero_add _).trans ?_)
    exact Finset.sum_congr rfl fun k _ => congrArg₂ (· * ·) (eq_tab2 x3 _) (eq_tab2 x3 _)
  rw [val_main_v7_apply, val_main_v5_apply, val_main_v3_apply, val_main_v4_apply, val_main_v6_apply, e]
  rfl

theorem inv_apply (i : S4096x1.Idx) : (val_main_v8 (F := Ideal) x3 i : EReal) = inv (tab2 x3 (i 0).val) :=
  (val_main_v8_apply x3 i).trans (congrArg Ideal.rsqrt (msq_apply x3 i))

theorem slope_apply (i : S4096x1.Idx) : (val_main_v11 (F := Ideal) x3 i : EReal)
    = Ideal.ofBits .f32 0xBF000000#32 * Ideal.div (inv (tab2 x3 (i 0).val)) (msq (tab2 x3 (i 0).val)) := by
  rw [val_main_v11_apply, val_main_v10_apply, val_main_v9_apply]
  exact congrArg (Ideal.ofBits .f32 0xBF000000#32 * ·) (congrArg₂ Ideal.div (inv_apply x3 i) (msq_apply x3 i))

theorem n_apply (i : S4096x1024.Idx) : (val_main_v13 (F := Ideal) x3 i : EReal) = N x3 (i 0).val (i 1).val := by
  rw [val_main_v13_apply, val_main_v12_apply]
  exact congrArg₂ (· * ·) (eq_tab2 x3 i) (inv_apply x3 _)

theorem gain_apply (i : S4096x1024.Idx) : (val_main_v24 (F := Ideal) x0 x1 x4 i : EReal)
    = U x0 x1 (i 0).val (i 1).val * tab2 x4 0 (i 1).val := by
  rw [val_main_v24_apply, val_main_v23_apply, val_main_v14_apply, val_main_v0_apply]
  refine congrArg₂ (· * ·) (product_apply x0 x1 i) ((eq_tab2 x4 _).trans ?_)
  have h1 : (i 1).val < 1024 := (i 1).isLt
  congr 1
  exact Nat.mod_eq_of_lt h1

theorem chain_apply (i : S4096x1.Idx) : (val_main_v34 (F := Ideal) x0 x1 x3 x4 i : EReal)
    = Ideal.div ((∑ k : Fin 1024, tab2 x3 (i 0).val k.val * (U x0 x1 (i 0).val k.val * tab2 x4 0 k.val))
        * (Ideal.ofBits .f32 0xBF000000#32 * Ideal.div (inv (tab2 x3 (i 0).val)) (msq (tab2 x3 (i 0).val)))) width := by
  have h0 : (i 0).val < 4096 := (i 0).isLt
  have h1 : (i 1).val < 1 := (i 1).isLt
  have e : (val_main_v28 (F := Ideal) x0 x1 x3 x4 i : EReal)
      = ∑ k : Fin 1024, tab2 x3 (i 0).val k.val * (U x0 x1 (i 0).val k.val * tab2 x4 0 k.val) := by
    rw [val_main_v28_apply, val_main_v27_apply]
    refine (congrArg (· + _) zero_word).trans ((zero_add _).trans ?_)
    refine Finset.sum_congr rfl fun k _ => ?_
    rw [val_main_v26_apply]
    refine (congrArg₂ (· * ·) (eq_tab2 x3 _) (gain_apply x0 x1 x4 _)).trans ?_
    show tab2 x3 ((i 0).val * 1 + (i 1).val) k.val * (U x0 x1 ((i 0).val * 1 + (i 1).val) k.val * tab2 x4 0 k.val) = _
    rw [show (i 0).val * 1 + (i 1).val = (i 0).val by omega]
  rw [val_main_v34_apply, val_main_v32_apply, val_main_v33_apply, e]
  exact congrArg (fun z => Ideal.div (_ * z) width) (slope_apply x3 i)

theorem row_apply (i : S4096x1024.Idx) : (val_main_v36 (F := Ideal) x0 x1 x3 x4 i : EReal)
    = Ideal.div ((∑ k : Fin 1024, tab2 x3 (i 0).val k.val * (U x0 x1 (i 0).val k.val * tab2 x4 0 k.val))
        * (Ideal.ofBits .f32 0xBF000000#32 * Ideal.div (inv (tab2 x3 (i 0).val)) (msq (tab2 x3 (i 0).val)))) width := by
  rw [val_main_v36_apply, val_main_v35_apply]
  refine (congrArg (· + _) zero_word).trans ((zero_add _).trans ?_)
  rw [Fin.sum_univ_one]
  exact chain_apply x0 x1 x3 x4 _

theorem apply (i : S4096x1024.Idx) : (val_main_v40 (F := Ideal) x0 x1 x2 x3 x4 i : EReal)
    = grad (tab2 x2 (i 0).val (i 1).val) (tab2 x3 (i 0).val) (U x0 x1 (i 0).val) (tab2 x4 0) (i 1).val := by
  rw [grad_eq _ _ _ _ _ (i 1).isLt, val_main_v40_apply, val_main_v38_apply, val_main_v39_apply, val_main_v37_apply, val_main_v31_apply, val_main_v30_apply, val_main_v29_apply]
  exact congrArg₂ (· + ·) (congrArg₂ (· + ·) (congrArg₂ (· + ·) (eq_tab2 x2 i)
    (congrArg₂ (· * ·) (gain_apply x0 x1 x4 i) (inv_apply x3 _)))
    (congrArg₂ (· * ·) (eq_tab2 x3 i) (row_apply x0 x1 x3 x4 i)))
    (congrArg₂ (· * ·) (row_apply x0 x1 x3 x4 i) (eq_tab2 x3 i))

theorem gain_grad_apply (i : S1x1024.Idx) : (val_main_v41 (F := Ideal) x0 x1 x3 i : EReal)
    = part (U x0 x1) (N x3) 4096 (i 1).val (i 1).val := by
  have h1 : (i 1).val < 1024 := (i 1).isLt
  rw [val_main_v41_apply, val_main_v25_apply]
  refine (congrArg (· + _) zero_word).trans ((zero_add _).trans ?_)
  rw [Fin.sum_univ_one, val_main_v22_apply, val_main_v21_apply]
  refine (congrArg (· + _) zero_word).trans ((zero_add _).trans ?_)
  rw [part, Finset.sum_range]
  refine Finset.sum_congr rfl fun k _ => ?_
  rw [val_main_v20_apply]
  refine (congrArg₂ (· * ·) (n_apply x3 _) (product_apply x0 x1 _)).trans ((mul_comm _ _).trans ?_)
  show U x0 x1 k.val (0 * 1024 + (i 1).val) * N x3 k.val (0 * 1024 + (i 1).val) = _
  rw [Nat.zero_mul, Nat.zero_add]

end Ref

theorem preserves : Cert.preserves_Kernel9_Kernel9Ideal := trivial

/-- The kernel's arrays are the reference's. -/
theorem algebraic : Cert.algebraic_Kernel9Ideal_Reference9Ideal := by
  intro m ρ m' ρ' _ hag
  refine ⟨fun c => (Cert.Kernel9Ideal.Gen.dats m 0 c).arrAt 5 Cert.Kernel9Ideal.cfg0.N,
    fun c => (Cert.Kernel9Ideal.Gen.dats m 0 c).arrAt 6 Cert.Kernel9Ideal.cfg0.N,
    Cert.Kernel9Ideal.Value.run_blocks m ρ,
    (θ_run _ _ _).mono (fun r h c => ?_) (Cert.Reference9Ideal.Value.run m' ρ')⟩
  obtain ⟨h0, h1, hk⟩ := h c
  obtain ⟨a0, a1, a2, a3, a4, a5⟩ := hag c
  refine ⟨funext fun i => ?_, funext fun i => ?_, hk⟩
  · refine (congrFun (h0.trans (Cert.Reference9Ideal.Read.val_main_v40_eq _ _)) i).trans ?_
    rw [a0, a1, a2, a3, a4]
    exact (Ref.apply _ _ _ _ _ i).trans (array m c i).symm
  · refine (congrFun (h1.trans (Cert.Reference9Ideal.Read.val_main_v41_eq _ _ _)) i).trans ?_
    rw [a0, a1, a3]
    exact (Ref.gain_grad_apply _ _ _ i).trans (gain_array m c i).symm

end Cert.HgNorm

end
-- ==== Proof.GmDwBlocks.lean ====
module

public import proofs.«01_k».proof.Proof.Part
public import proofs.«01_k».proof.Proof.Gen.Kernel10Ideal.Value
public import Idealize.ShloMosaic.Lib.Pipeline.ReadBack
public import Idealize.ShloMosaic.Lib.Pointwise.Tactic

/-!
The gradient of the gMLP layer's input weights: a block of the result is built up over four blocks of rows, and
after the last of them holds the whole sum over the rows.
-/

@[expose] public section

set_option maxRecDepth 16384

noncomputable section

namespace Cert.GmDw

open Cert.Kernel10Ideal Cert.Kernel10Ideal.Gen Cert.Kernel10Ideal.Value Idealize.ShloMosaic Idealize.ShloMosaic.TcCoe
open Idealize.SL Idealize.SL.Sem Cert.Tab Cert.Gmlp Cert.Part

section Pay

variable (a : Vec Ideal S896x1024 .f32) (x : Vec Ideal S1024x896 .bf16) (y : Vec Ideal S1024x1024 .bf16) (j : S896x1024.Idx)

theorem pay1 : k0_pay1 x y j = ∑ k : Fin 1024, x (ix2 k (j 0)) * y (ix2 k (j 1)) := by
  unfold k0_pay1
  pointwise

theorem pay2 : k0_pay2 a x y j = a j + ∑ k : Fin 1024, x (ix2 k (j 0)) * y (ix2 k (j 1)) := by
  unfold k0_pay2
  pointwise

theorem pay3 : k0_pay3 a x y j = a j + ∑ k : Fin 1024, x (ix2 k (j 0)) * y (ix2 k (j 1)) := by
  unfold k0_pay3
  pointwise

end Pay

variable (m : (ℓ : Loc nD τ sig) → Buf (Elt Ideal) ℓ) (c : Dev nD) (t : Fin cfg0.N)

abbrev A : ℕ → ℕ → EReal := tab2 (m ((c : Thread nD τ).loc main_arg0) : S4096x1792.Idx → EReal)
abbrev D : ℕ → ℕ → EReal := tab2 (m ((c : Thread nD τ).loc main_arg1) : S4096x1024.Idx → EReal)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

theorem block0 (j : S1024x896.Idx) : iblk m c 0 t j = A m c (1024 * (t.val % 4) + (j 0).val) (896 * (t.val / 4) + (j 1).val) := by
  have e := index0 t
  unfold iblk
  blk_simp
  rw [V_main_arg0]
  refine (eq_tab2 _ _).trans ?_
  blk_simp [e]
  rw [Nat.mul_comm 1024, Nat.mul_comm 896]

theorem block1 (j : S1024x1024.Idx) : iblk m c 1 t j = D m c (1024 * (t.val % 4) + (j 0).val) (j 1).val := by
  have e := index1 t
  unfold iblk
  blk_simp
  rw [V_main_arg1]
  refine (eq_tab2 _ _).trans ?_
  blk_simp [e]
  rw [Nat.mul_comm 1024]

/-- One more block of rows added to the sum over the rows above it. -/
theorem step (n : ℕ) {X : S1024x896.Idx → EReal} {Y : S1024x1024.Idx → EReal}
    (hX : ∀ j, X j = A m c (1024 * (n % 4) + (j 0).val) (896 * (n / 4) + (j 1).val))
    (hY : ∀ j, Y j = D m c (1024 * (n % 4) + (j 0).val) (j 1).val) (i : S896x1024.Idx) :
    part (A m c) (D m c) (1024 * (n % 4)) (896 * (n / 4) + (i 0).val) (i 1).val
      + ∑ k : Fin 1024, X (ix2 k (i 0)) * Y (ix2 k (i 1))
    = part (A m c) (D m c) (1024 * (n % 4) + 1024) (896 * (n / 4) + (i 0).val) (i 1).val :=
  part_add (fun k => hX (ix2 k (i 0))) (fun k => hY (ix2 k (i 1)))

/-- The running sum after the first, second and third block of rows. -/
theorem upto : ∀ (n : ℕ) (h : n < cfg0.N), n % 4 ≤ 2 → ∀ i : S896x1024.Idx, ((outsAt0 m c n h).2 i : EReal)
    = part (A m c) (D m c) (1024 * (n % 4) + 1024) (896 * (n / 4) + (i 0).val) (i 1).val := by
  intro n
  induction n with
  | zero =>
    intro h _ i
    rw [outsAt0_A m c ⟨0, h⟩ rfl (by dsimp only; omega) (by dsimp only; omega)]
    dsimp only
    frame_out
    refine (pay1 _ _ i).trans ((zero_add _).symm.trans ?_)
    exact step m c 0 (block0 m c ⟨0, h⟩) (block1 m c ⟨0, h⟩) i
  | succ n ih =>
    intro h hn i
    by_cases h0 : (n + 1) % 4 = 0
    · rw [outsAt0_A m c ⟨n + 1, h⟩ h0 (by dsimp only; omega) (by dsimp only; omega)]
      dsimp only
      frame_out
      refine (pay1 _ _ i).trans ((zero_add _).symm.trans ?_)
      have e := step m c (n + 1) (block0 m c ⟨n + 1, h⟩) (block1 m c ⟨n + 1, h⟩) i
      dsimp only at e
      rw [h0] at e ⊢
      exact e
    · rw [outsAt0_B m c ⟨n + 1, h⟩ h0 (by dsimp only; omega) (by dsimp only; omega)]
      dsimp only
      frame_out
      refine (pay2 _ _ _ i).trans ?_
      have e := step m c (n + 1) (block0 m c ⟨n + 1, h⟩) (block1 m c ⟨n + 1, h⟩) i
      dsimp only at e
      refine Eq.trans (congrArg (· + _) ?_) e
      rw [(Memref.isWhole_whole _).read_unread]
      refine (ih (Nat.lt_of_succ_lt h) (by omega) i).trans ?_
      rw [show 1024 * (n % 4) + 1024 = 1024 * ((n + 1) % 4) by omega, show n / 4 = (n + 1) / 4 by omega]

/-- What the last block of rows writes back. -/
theorem last (ht : t.val % 4 = 3) (i : S896x1024.Idx) : ((outsAt0 m c t.val t.isLt).1 i : EReal)
    = part (A m c) (D m c) 4096 (896 * (t.val / 4) + (i 0).val) (i 1).val := by
  rw [outsAt0_C m c t (by omega) (by omega) ht]
  dsimp only
  frame_out
  refine (pay3 _ _ _ i).trans ?_
  have e := step m c t.val (block0 m c t) (block1 m c t) i
  rw [ht] at e
  refine Eq.trans (congrArg (· + _) ?_) e
  rw [(Memref.isWhole_whole _).read_unread]
  refine (upto m c (t.val - 1) _ (by omega) i).trans ?_
  rw [show 1024 * ((t.val - 1) % 4) + 1024 = 1024 * 3 by omega, show (t.val - 1) / 4 = t.val / 4 by omega]

/-- Two points that write back write to different places. -/
theorem apart (t t' : Fin cfg0.N) (h : (cfg0.win 2).flush t = true) (h' : (cfg0.win 2).flush t' = true) (hne : t ≠ t') :
    Disjoint ((cfg0.win 2).blk t).view.set ((cfg0.win 2).blk t').view.set := by
  refine (cfg0.win 2).disjoint_blk fun e => hne (Fin.ext ?_)
  have q := (flush0_2 t).1 h
  have q' := (flush0_2 t').1 h'
  have e0 : t.val / 4 = t'.val / 4 := congrFun ((index2 t).symm.trans (e.trans (index2 t'))) 0
  omega

/-- The whole array. -/
theorem array (i : S1792x1024.Idx) : ((dats m 0 c).arrAt 2 cfg0.N i : EReal)
    = part (A m c) (D m c) 4096 (i 0).val (i 1).val := by
  have hN : cfg0.N = 8 := rfl
  have h0 : (i 0).val < 1792 := (i 0).isLt
  have h1 : (i 1).val < 1024 := (i 1).isLt
  obtain ⟨t, ht⟩ : ∃ t : Fin cfg0.N, t.val = 4 * ((i 0).val / 896) + 3 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 apart t ((flush0_2 t).2 (by omega)) y).trans ?_
  rw [flushed2]
  have T := last m c t (by omega)
  generalize (outsAt0 m c t.val t.isLt).1 = z at T ⊢
  refine (T _).trans ?_
  blk_simp [e]
  rw [Nat.mul_comm 896]

end Cert.GmDw
-- ==== Proof.GmDwValue.lean ====
module

public import proofs.«01_k».proof.Defs
public import proofs.«01_k».proof.Proof.GmDwBlocks
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import Idealize.ShloMosaic.Init

/-!
The gradient of the gMLP layer's input weights: both programs sum the same products over the 4096 rows, so they agree
on all arguments, finite or not.
-/

@[expose] public section

set_option maxRecDepth 16384

noncomputable section

namespace Cert.GmDw

open Idealize.ShloMosaic Idealize.ShloMosaic.TcCoe Idealize.SL.Sem Cert.Tab Cert.Part

theorem frame_p : Cert.quiescent_Kernel10 := fun m ρ _ => Cert.Kernel10.Gen.frame m ρ

theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

namespace Ref

open Cert.Reference10Ideal Cert.Reference10Ideal.Read

theorem apply (x0 : (⟨S4096x1792, .bf16⟩ : BufTy).Contents (Elt Ideal)) (x1 : (⟨S4096x1024, .bf16⟩ : BufTy).Contents (Elt Ideal))
    (i : S1792x1024.Idx) : (val_main_v7 (F := Ideal) x0 x1 i : EReal) = part (tab2 x0) (tab2 x1) 4096 (i 0).val (i 1).val := by
  rw [part, Finset.sum_range]
  show (val_main_v6 (F := Ideal) x0 x1 i : EReal) = _
  rw [val_main_v6_apply, val_main_v5_apply, val_main_v4_apply]
  exact Finset.sum_congr rfl fun k _ => congrArg₂ (· * ·) (eq_tab2 x0 _) (eq_tab2 x1 _)

end Ref

theorem preserves : Cert.preserves_Kernel10_Kernel10Ideal := trivial

/-- The kernel's array is the reference's. -/
theorem algebraic : Cert.algebraic_Kernel10Ideal_Reference10Ideal := by
  intro m ρ m' ρ' _ hag
  refine ⟨fun c => (Cert.Kernel10Ideal.Gen.dats m 0 c).arrAt 2 Cert.Kernel10Ideal.cfg0.N,
    Cert.Kernel10Ideal.Value.run_blocks m ρ,
    (θ_run _ _ _).mono (fun r h c => ?_) (Cert.Reference10Ideal.Value.run m' ρ')⟩
  obtain ⟨h0, hk⟩ := h c
  obtain ⟨a0, a1⟩ := hag c
  refine ⟨funext fun i => ?_, hk⟩
  refine (congrFun (h0.trans (Cert.Reference10Ideal.Read.val_main_v7_eq _ _)) i).trans ?_
  rw [a0, a1]
  exact (Ref.apply _ _ i).trans (array m c i).symm

end Cert.GmDw

end
-- ==== Proof.HgDwBlocks.lean ====
module

public import proofs.«01_k».proof.Proof.Part
public import proofs.«01_k».proof.Proof.Gen.Kernel11Ideal.Value
public import Idealize.ShloMosaic.Lib.Pipeline.ReadBack
public import Idealize.ShloMosaic.Lib.Pointwise.Tactic

/-!
The gradient of the recurrent layer's input weights: a block of the result is built up over four blocks of rows, and
after the last of them holds the whole sum over the rows.
-/

@[expose] public section

set_option maxRecDepth 16384

noncomputable section

namespace Cert.HgDw

open Cert.Kernel11Ideal Cert.Kernel11Ideal.Gen Cert.Kernel11Ideal.Value Idealize.ShloMosaic Idealize.ShloMosaic.TcCoe
open Idealize.SL Idealize.SL.Sem Cert.Tab Cert.Gmlp Cert.Part

section Pay

variable (a : Vec Ideal S1664x1024 .f32) (x : Vec Ideal S1024x1664 .bf16) (y : Vec Ideal S1024x1024 .bf16) (j : S1664x1024.Idx)

theorem pay1 : k0_pay1 x y j = ∑ k : Fin 1024, x (ix2 k (j 0)) * y (ix2 k (j 1)) := by
  unfold k0_pay1
  pointwise

theorem pay2 : k0_pay2 a x y j = a j + ∑ k : Fin 1024, x (ix2 k (j 0)) * y (ix2 k (j 1)) := by
  unfold k0_pay2
  pointwise

theorem pay3 : k0_pay3 a x y j = a j + ∑ k : Fin 1024, x (ix2 k (j 0)) * y (ix2 k (j 1)) := by
  unfold k0_pay3
  pointwise

end Pay

variable (m : (ℓ : Loc nD τ sig) → Buf (Elt Ideal) ℓ) (c : Dev nD) (t : Fin cfg0.N)

abbrev A : ℕ → ℕ → EReal := tab2 (m ((c : Thread nD τ).loc main_arg0) : S4096x3328.Idx → EReal)
abbrev D : ℕ → ℕ → EReal := tab2 (m ((c : Thread nD τ).loc main_arg1) : S4096x1024.Idx → EReal)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

theorem block0 (j : S1024x1664.Idx) : iblk m c 0 t j = A m c (1024 * (t.val % 4) + (j 0).val) (1664 * (t.val / 4) + (j 1).val) := by
  have e := index0 t
  unfold iblk
  blk_simp
  rw [V_main_arg0]
  refine (eq_tab2 _ _).trans ?_
  blk_simp [e]
  rw [Nat.mul_comm 1024, Nat.mul_comm 1664]

theorem block1 (j : S1024x1024.Idx) : iblk m c 1 t j = D m c (1024 * (t.val % 4) + (j 0).val) (j 1).val := by
  have e := index1 t
  unfold iblk
  blk_simp
  rw [V_main_arg1]
  refine (eq_tab2 _ _).trans ?_
  blk_simp [e]
  rw [Nat.mul_comm 1024]

/-- One more block of rows added to the sum over the rows above it. -/
theorem step (n : ℕ) {X : S1024x1664.Idx → EReal} {Y : S1024x1024.Idx → EReal}
    (hX : ∀ j, X j = A m c (1024 * (n % 4) + (j 0).val) (1664 * (n / 4) + (j 1).val))
    (hY : ∀ j, Y j = D m c (1024 * (n % 4) + (j 0).val) (j 1).val) (i : S1664x1024.Idx) :
    part (A m c) (D m c) (1024 * (n % 4)) (1664 * (n / 4) + (i 0).val) (i 1).val
      + ∑ k : Fin 1024, X (ix2 k (i 0)) * Y (ix2 k (i 1))
    = part (A m c) (D m c) (1024 * (n % 4) + 1024) (1664 * (n / 4) + (i 0).val) (i 1).val :=
  part_add (fun k => hX (ix2 k (i 0))) (fun k => hY (ix2 k (i 1)))

/-- The running sum after the first, second and third block of rows. -/
theorem upto : ∀ (n : ℕ) (h : n < cfg0.N), n % 4 ≤ 2 → ∀ i : S1664x1024.Idx, ((outsAt0 m c n h).2 i : EReal)
    = part (A m c) (D m c) (1024 * (n % 4) + 1024) (1664 * (n / 4) + (i 0).val) (i 1).val := by
  intro n
  induction n with
  | zero =>
    intro h _ i
    rw [outsAt0_A m c ⟨0, h⟩ rfl (by dsimp only; omega) (by dsimp only; omega)]
    dsimp only
    frame_out
    refine (pay1 _ _ i).trans ((zero_add _).symm.trans ?_)
    exact step m c 0 (block0 m c ⟨0, h⟩) (block1 m c ⟨0, h⟩) i
  | succ n ih =>
    intro h hn i
    by_cases h0 : (n + 1) % 4 = 0
    · rw [outsAt0_A m c ⟨n + 1, h⟩ h0 (by dsimp only; omega) (by dsimp only; omega)]
      dsimp only
      frame_out
      refine (pay1 _ _ i).trans ((zero_add _).symm.trans ?_)
      have e := step m c (n + 1) (block0 m c ⟨n + 1, h⟩) (block1 m c ⟨n + 1, h⟩) i
      dsimp only at e
      rw [h0] at e ⊢
      exact e
    · rw [outsAt0_B m c ⟨n + 1, h⟩ h0 (by dsimp only; omega) (by dsimp only; omega)]
      dsimp only
      frame_out
      refine (pay2 _ _ _ i).trans ?_
      have e := step m c (n + 1) (block0 m c ⟨n + 1, h⟩) (block1 m c ⟨n + 1, h⟩) i
      dsimp only at e
      refine Eq.trans (congrArg (· + _) ?_) e
      rw [(Memref.isWhole_whole _).read_unread]
      refine (ih (Nat.lt_of_succ_lt h) (by omega) i).trans ?_
      rw [show 1024 * (n % 4) + 1024 = 1024 * ((n + 1) % 4) by omega, show n / 4 = (n + 1) / 4 by omega]

/-- What the last block of rows writes back. -/
theorem last (ht : t.val % 4 = 3) (i : S1664x1024.Idx) : ((outsAt0 m c t.val t.isLt).1 i : EReal)
    = part (A m c) (D m c) 4096 (1664 * (t.val / 4) + (i 0).val) (i 1).val := by
  rw [outsAt0_C m c t (by omega) (by omega) ht]
  dsimp only
  frame_out
  refine (pay3 _ _ _ i).trans ?_
  have e := step m c t.val (block0 m c t) (block1 m c t) i
  rw [ht] at e
  refine Eq.trans (congrArg (· + _) ?_) e
  rw [(Memref.isWhole_whole _).read_unread]
  refine (upto m c (t.val - 1) _ (by omega) i).trans ?_
  rw [show 1024 * ((t.val - 1) % 4) + 1024 = 1024 * 3 by omega, show (t.val - 1) / 4 = t.val / 4 by omega]

/-- Two points that write back write to different places. -/
theorem apart (t t' : Fin cfg0.N) (h : (cfg0.win 2).flush t = true) (h' : (cfg0.win 2).flush t' = true) (hne : t ≠ t') :
    Disjoint ((cfg0.win 2).blk t).view.set ((cfg0.win 2).blk t').view.set := by
  refine (cfg0.win 2).disjoint_blk fun e => hne (Fin.ext ?_)
  have q := (flush0_2 t).1 h
  have q' := (flush0_2 t').1 h'
  have e0 : t.val / 4 = t'.val / 4 := congrFun ((index2 t).symm.trans (e.trans (index2 t'))) 0
  omega

/-- The whole array. -/
theorem array (i : S3328x1024.Idx) : ((dats m 0 c).arrAt 2 cfg0.N i : EReal)
    = part (A m c) (D m c) 4096 (i 0).val (i 1).val := by
  have hN : cfg0.N = 8 := rfl
  have h0 : (i 0).val < 3328 := (i 0).isLt
  have h1 : (i 1).val < 1024 := (i 1).isLt
  obtain ⟨t, ht⟩ : ∃ t : Fin cfg0.N, t.val = 4 * ((i 0).val / 1664) + 3 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 apart t ((flush0_2 t).2 (by omega)) y).trans ?_
  rw [flushed2]
  have T := last m c t (by omega)
  generalize (outsAt0 m c t.val t.isLt).1 = z at T ⊢
  refine (T _).trans ?_
  blk_simp [e]
  rw [Nat.mul_comm 1664]

end Cert.HgDw
-- ==== Proof.HgDwValue.lean ====
module

public import proofs.«01_k».proof.Defs
public import proofs.«01_k».proof.Proof.HgDwBlocks
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import Idealize.ShloMosaic.Init

/-!
The gradient of the recurrent layer's input weights: both programs sum the same products over the 4096 rows, so they agree
on all arguments, finite or not.
-/

@[expose] public section

set_option maxRecDepth 16384

noncomputable section

namespace Cert.HgDw

open Idealize.ShloMosaic Idealize.ShloMosaic.TcCoe Idealize.SL.Sem Cert.Tab Cert.Part

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

namespace Ref

open Cert.Reference11Ideal Cert.Reference11Ideal.Read

theorem apply (x0 : (⟨S4096x3328, .bf16⟩ : BufTy).Contents (Elt Ideal)) (x1 : (⟨S4096x1024, .bf16⟩ : BufTy).Contents (Elt Ideal))
    (i : S3328x1024.Idx) : (val_main_v7 (F := Ideal) x0 x1 i : EReal) = part (tab2 x0) (tab2 x1) 4096 (i 0).val (i 1).val := by
  rw [part, Finset.sum_range]
  show (val_main_v6 (F := Ideal) x0 x1 i : EReal) = _
  rw [val_main_v6_apply, val_main_v5_apply, val_main_v4_apply]
  exact Finset.sum_congr rfl fun k _ => congrArg₂ (· * ·) (eq_tab2 x0 _) (eq_tab2 x1 _)

end Ref

theorem preserves : Cert.preserves_Kernel11_Kernel11Ideal := trivial

/-- The kernel's array is the reference's. -/
theorem algebraic : Cert.algebraic_Kernel11Ideal_Reference11Ideal := by
  intro m ρ m' ρ' _ hag
  refine ⟨fun c => (Cert.Kernel11Ideal.Gen.dats m 0 c).arrAt 2 Cert.Kernel11Ideal.cfg0.N,
    Cert.Kernel11Ideal.Value.run_blocks m ρ,
    (θ_run _ _ _).mono (fun r h c => ?_) (Cert.Reference11Ideal.Value.run m' ρ')⟩
  obtain ⟨h0, hk⟩ := h c
  obtain ⟨a0, a1⟩ := hag c
  refine ⟨funext fun i => ?_, hk⟩
  refine (congrFun (h0.trans (Cert.Reference11Ideal.Read.val_main_v7_eq _ _)) i).trans ?_
  rw [a0, a1]
  exact (Ref.apply _ _ i).trans (array m c i).symm

end Cert.HgDw

end
-- ==== Proof.ProjDwBlocks.lean ====
module

public import proofs.«01_k».proof.Proof.Part
public import proofs.«01_k».proof.Proof.Gen.Kernel12Ideal.Value
public import Idealize.ShloMosaic.Lib.Pipeline.ReadBack
public import Idealize.ShloMosaic.Lib.Pointwise.Tactic

/-!
The gradient of the heads' output projection's weights: a block of the result is built up over four blocks of rows, and
after the last of them holds the whole sum over the rows.
-/

@[expose] public section

set_option maxRecDepth 16384

noncomputable section

namespace Cert.ProjDw

open Cert.Kernel12Ideal Cert.Kernel12Ideal.Gen Cert.Kernel12Ideal.Value Idealize.ShloMosaic Idealize.ShloMosaic.TcCoe
open Idealize.SL Idealize.SL.Sem Cert.Tab Cert.Gmlp Cert.Part

section Pay

variable (a : Vec Ideal S1024x1024 .f32) (x : Vec Ideal S1024x1024 .bf16) (y : Vec Ideal S1024x1024 .f32) (j : S1024x1024.Idx)

theorem pay1 : k0_pay1 x y j = ∑ k : Fin 1024, x (ix2 k (j 0)) * y (ix2 k (j 1)) := by
  unfold k0_pay1
  pointwise

theorem pay2 : k0_pay2 a x y j = a j + ∑ k : Fin 1024, x (ix2 k (j 0)) * y (ix2 k (j 1)) := by
  unfold k0_pay2
  pointwise

theorem pay3 : k0_pay3 a x y j = a j + ∑ k : Fin 1024, x (ix2 k (j 0)) * y (ix2 k (j 1)) := by
  unfold k0_pay3
  pointwise

end Pay

variable (m : (ℓ : Loc nD τ sig) → Buf (Elt Ideal) ℓ) (c : Dev nD) (t : Fin cfg0.N)

abbrev A : ℕ → ℕ → EReal := tab2 (m ((c : Thread nD τ).loc main_arg0) : S4096x1024.Idx → EReal)
abbrev D : ℕ → ℕ → EReal := tab2 (m ((c : Thread nD τ).loc main_arg1) : S4096x1024.Idx → EReal)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

theorem block0 (j : S1024x1024.Idx) : iblk m c 0 t j = A m c (1024 * (t.val % 4) + (j 0).val) (1024 * (t.val / 4) + (j 1).val) := by
  have e := index0 t
  unfold iblk
  blk_simp
  rw [V_main_arg0]
  refine (eq_tab2 _ _).trans ?_
  blk_simp [e]
  rw [Nat.mul_comm 1024, Nat.mul_comm 1024]

theorem block1 (j : S1024x1024.Idx) : iblk m c 1 t j = D m c (1024 * (t.val % 4) + (j 0).val) (j 1).val := by
  have e := index1 t
  unfold iblk
  blk_simp
  rw [V_main_arg1]
  refine (eq_tab2 _ _).trans ?_
  blk_simp [e]
  rw [Nat.mul_comm 1024]

/-- One more block of rows added to the sum over the rows above it. -/
theorem step (n : ℕ) {X : S1024x1024.Idx → EReal} {Y : S1024x1024.Idx → EReal}
    (hX : ∀ j, X j = A m c (1024 * (n % 4) + (j 0).val) (1024 * (n / 4) + (j 1).val))
    (hY : ∀ j, Y j = D m c (1024 * (n % 4) + (j 0).val) (j 1).val) (i : S1024x1024.Idx) :
    part (A m c) (D m c) (1024 * (n % 4)) (1024 * (n / 4) + (i 0).val) (i 1).val
      + ∑ k : Fin 1024, X (ix2 k (i 0)) * Y (ix2 k (i 1))
    = part (A m c) (D m c) (1024 * (n % 4) + 1024) (1024 * (n / 4) + (i 0).val) (i 1).val :=
  part_add (fun k => hX (ix2 k (i 0))) (fun k => hY (ix2 k (i 1)))

/-- The running sum after the first, second and third block of rows. -/
theorem upto : ∀ (n : ℕ) (h : n < cfg0.N), n % 4 ≤ 2 → ∀ i : S1024x1024.Idx, ((outsAt0 m c n h).2 i : EReal)
    = part (A m c) (D m c) (1024 * (n % 4) + 1024) (1024 * (n / 4) + (i 0).val) (i 1).val := by
  intro n
  induction n with
  | zero =>
    intro h _ i
    rw [outsAt0_A m c ⟨0, h⟩ rfl (by dsimp only; omega) (by dsimp only; omega)]
    dsimp only
    frame_out
    refine (pay1 _ _ i).trans ((zero_add _).symm.trans ?_)
    exact step m c 0 (block0 m c ⟨0, h⟩) (block1 m c ⟨0, h⟩) i
  | succ n ih =>
    intro h hn i
    by_cases h0 : (n + 1) % 4 = 0
    · rw [outsAt0_A m c ⟨n + 1, h⟩ h0 (by dsimp only; omega) (by dsimp only; omega)]
      dsimp only
      frame_out
      refine (pay1 _ _ i).trans ((zero_add _).symm.trans ?_)
      have e := step m c (n + 1) (block0 m c ⟨n + 1, h⟩) (block1 m c ⟨n + 1, h⟩) i
      dsimp only at e
      rw [h0] at e ⊢
      exact e
    · rw [outsAt0_B m c ⟨n + 1, h⟩ h0 (by dsimp only; omega) (by dsimp only; omega)]
      dsimp only
      frame_out
      refine (pay2 _ _ _ i).trans ?_
      have e := step m c (n + 1) (block0 m c ⟨n + 1, h⟩) (block1 m c ⟨n + 1, h⟩) i
      dsimp only at e
      refine Eq.trans (congrArg (· + _) ?_) e
      rw [(Memref.isWhole_whole _).read_unread]
      refine (ih (Nat.lt_of_succ_lt h) (by omega) i).trans ?_
      rw [show 1024 * (n % 4) + 1024 = 1024 * ((n + 1) % 4) by omega, show n / 4 = (n + 1) / 4 by omega]

/-- What the last block of rows writes back. -/
theorem last (ht : t.val % 4 = 3) (i : S1024x1024.Idx) : ((outsAt0 m c t.val t.isLt).1 i : EReal)
    = part (A m c) (D m c) 4096 (1024 * (t.val / 4) + (i 0).val) (i 1).val := by
  rw [outsAt0_C m c t (by omega) (by omega) ht]
  dsimp only
  frame_out
  refine (pay3 _ _ _ i).trans ?_
  have e := step m c t.val (block0 m c t) (block1 m c t) i
  rw [ht] at e
  refine Eq.trans (congrArg (· + _) ?_) e
  rw [(Memref.isWhole_whole _).read_unread]
  refine (upto m c (t.val - 1) _ (by omega) i).trans ?_
  rw [show 1024 * ((t.val - 1) % 4) + 1024 = 1024 * 3 by omega, show (t.val - 1) / 4 = t.val / 4 by omega]

/-- Two points that write back write to different places. -/
theorem apart (t t' : Fin cfg0.N) (h : (cfg0.win 2).flush t = true) (h' : (cfg0.win 2).flush t' = true) (hne : t ≠ t') :
    Disjoint ((cfg0.win 2).blk t).view.set ((cfg0.win 2).blk t').view.set := by
  refine (cfg0.win 2).disjoint_blk fun e => hne (Fin.ext ?_)
  have q := (flush0_2 t).1 h
  have q' := (flush0_2 t').1 h'
  have e0 : t.val / 4 = t'.val / 4 := congrFun ((index2 t).symm.trans (e.trans (index2 t'))) 0
  omega

/-- The whole array. -/
theorem array (i : S1024x1024.Idx) : ((dats m 0 c).arrAt 2 cfg0.N i : EReal)
    = part (A m c) (D m c) 4096 (i 0).val (i 1).val := by
  have hN : cfg0.N = 4 := rfl
  have h0 : (i 0).val < 1024 := (i 0).isLt
  have h1 : (i 1).val < 1024 := (i 1).isLt
  obtain ⟨t, ht⟩ : ∃ t : Fin cfg0.N, t.val = 4 * ((i 0).val / 1024) + 3 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 apart t ((flush0_2 t).2 (by omega)) y).trans ?_
  rw [flushed2]
  have T := last m c t (by omega)
  generalize (outsAt0 m c t.val t.isLt).1 = z at T ⊢
  refine (T _).trans ?_
  blk_simp [e]
  rw [Nat.mul_comm 1024]

end Cert.ProjDw
-- ==== Proof.ProjDwValue.lean ====
module

public import proofs.«01_k».proof.Defs
public import proofs.«01_k».proof.Proof.ProjDwBlocks
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import Idealize.ShloMosaic.Init

/-!
The gradient of the heads' output projection's weights: both programs sum the same products over the 4096 rows, so they agree
on all arguments, finite or not.
-/

@[expose] public section

set_option maxRecDepth 16384

noncomputable section

namespace Cert.ProjDw

open Idealize.ShloMosaic Idealize.ShloMosaic.TcCoe Idealize.SL.Sem Cert.Tab Cert.Part

theorem frame_p : Cert.quiescent_Kernel12 := fun m ρ _ => Cert.Kernel12.Gen.frame m ρ

theorem frame_pi : Cert.quiescent_Kernel12Ideal := fun m ρ _ => Cert.Kernel12Ideal.Gen.frame m ρ

theorem frame_ri : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

namespace Ref

open Cert.Reference12Ideal Cert.Reference12Ideal.Read

theorem apply (x0 : (⟨S4096x1024, .bf16⟩ : BufTy).Contents (Elt Ideal)) (x1 : (⟨S4096x1024, .f32⟩ : BufTy).Contents (Elt Ideal))
    (i : S1024x1024.Idx) : (val_main_v5 (F := Ideal) x0 x1 i : EReal) = part (tab2 x0) (tab2 x1) 4096 (i 0).val (i 1).val := by
  rw [part, Finset.sum_range]
  show (val_main_v4 (F := Ideal) x0 x1 i : EReal) = _
  rw [val_main_v4_apply, val_main_v3_apply]
  refine Finset.sum_congr rfl fun k _ => (mul_comm _ _).trans (congrArg₂ (· * ·) ?_ (eq_tab2 x1 _))
  exact eq_tab2 x0 _

end Ref

theorem preserves : Cert.preserves_Kernel12_Kernel12Ideal := trivial

/-- The kernel's array is the reference's. -/
theorem algebraic : Cert.algebraic_Kernel12Ideal_Reference12Ideal := by
  intro m ρ m' ρ' _ hag
  refine ⟨fun c => (Cert.Kernel12Ideal.Gen.dats m 0 c).arrAt 2 Cert.Kernel12Ideal.cfg0.N,
    Cert.Kernel12Ideal.Value.run_blocks m ρ,
    (θ_run _ _ _).mono (fun r h c => ?_) (Cert.Reference12Ideal.Value.run m' ρ')⟩
  obtain ⟨h0, hk⟩ := h c
  obtain ⟨a0, a1⟩ := hag c
  refine ⟨funext fun i => ?_, hk⟩
  refine (congrFun (h0.trans (Cert.Reference12Ideal.Read.val_main_v5_eq _ _)) i).trans ?_
  rw [a0, a1]
  exact (Ref.apply _ _ i).trans (array m c i).symm

end Cert.ProjDw

end
-- ==== Proof.ProjDxBlocks.lean ====
module

public import proofs.«01_k».proof.Proof.Part
public import proofs.«01_k».proof.Proof.Gen.Kernel13Ideal.Value
public import Idealize.ShloMosaic.Lib.Pipeline.ReadBack
public import Idealize.ShloMosaic.Lib.Pointwise.Tactic

/-!
The gradient of the heads: a block of rows of the result holds the whole sum over the 1024 columns of the left
factor.
-/

@[expose] public section

set_option maxRecDepth 16384

noncomputable section

namespace Cert.ProjDx

open Cert.Kernel13Ideal Cert.Kernel13Ideal.Gen Cert.Kernel13Ideal.Value Idealize.ShloMosaic Idealize.ShloMosaic.TcCoe
open Idealize.SL Idealize.SL.Sem Cert.Tab Cert.Part

theorem pay (x : Vec Ideal S1024x1024 .f32) (y : Vec Ideal S1024x1024 .bf16) (j : S1024x1024.Idx) :
    k0_pay1 x y j = ∑ k : Fin 1024, x (ix2 (j 0) k) * y (ix2 (j 1) k) := by
  unfold k0_pay1
  pointwise

variable (m : (ℓ : Loc nD τ sig) → Buf (Elt Ideal) ℓ) (c : Dev nD) (t : Fin cfg0.N)

/-- The left factor at column `k` and row `r`. -/
def A (k r : ℕ) : EReal := tab2 (m ((c : Thread nD τ).loc main_arg0) : S4096x1024.Idx → EReal) r k

/-- The weights at row `k` and column `u`, taken from the transpose of the projection. -/
abbrev W : ℕ → ℕ → EReal := (fun a b => tab2 (m ((c : Thread nD τ).loc main_arg1) : S1024x1024.Idx → EReal) b a)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The weights as the host hands them over. -/
theorem w_apply (j : S1024x1024.Idx) : (V m c main_v0 : S1024x1024.Idx → EReal) j = W m c (j 1).val (j 0).val := by
  have e : (V m c main_v0 : S1024x1024.Idx → EReal) j
      = (m ((c : Thread nD τ).loc main_arg1) : S1024x1024.Idx → EReal) (ix2 (j 0) (j 1)) := by
    entry_read
    pointwise
  exact e.trans (eq_tab2 _ _)

theorem block0 (j : S1024x1024.Idx) : iblk m c 0 t j = A m c (j 1).val (1024 * (t.val) + (j 0).val) := by
  have e := index0 t
  unfold iblk
  blk_simp
  rw [V_main_arg0]
  refine (eq_tab2 _ _).trans ?_
  blk_simp [e]
  unfold A
  rw [Nat.mul_comm 1024]

theorem block1 (j : S1024x1024.Idx) : iblk m c 1 t j = W m c (j 1).val (1024 * (0) + (j 0).val) := by
  have e := index1 t
  unfold iblk
  blk_simp
  refine (w_apply m c _).trans ?_
  blk_simp [e]
  rw [Nat.mul_comm 1024, Nat.zero_mul, Nat.zero_add]

/-- What a point writes back. -/
theorem tile (i : S1024x1024.Idx) : (out0_2 (iblk m c 0 t) (iblk m c 1 t) i : EReal)
    = part (A m c) (W m c) 1024 (1024 * (t.val) + (i 0).val) (1024 * (0) + (i 1).val) := by
  unfold out0_2
  frame_out
  exact (pay _ _ i).trans (part_first (fun k => block0 m c t (ix2 (i 0) k)) (fun k => block1 m c t (ix2 (i 1) k)))

/-- The whole array. -/
theorem array (i : S4096x1024.Idx) : ((dats m 0 c).arrAt 2 cfg0.N i : EReal)
    = part (A m c) (W m c) 1024 (i 0).val (i 1).val := by
  have hN : cfg0.N = 4 := rfl
  have h0 : (i 0).val < 4096 := (i 0).isLt
  have h1 : (i 1).val < 1024 := (i 1).isLt
  obtain ⟨t, ht⟩ : ∃ t : Fin cfg0.N, t.val = (i 0).val / 1024 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 disjoint2 t (flush0_2 t) y).trans ?_
  rw [flushed2]
  have T := tile m c t
  generalize out0_2 (iblk m c 0 t) (iblk m c 1 t) = z at T ⊢
  refine (T _).trans ?_
  blk_simp [e]
  rw [Nat.mul_comm 1024, Nat.mul_comm 1024, Nat.zero_mul, Nat.zero_add]

end Cert.ProjDx
-- ==== Proof.ProjDxValue.lean ====
module

public import proofs.«01_k».proof.Defs
public import proofs.«01_k».proof.Proof.ProjDxBlocks
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import Idealize.ShloMosaic.Init

/-!
The gradient of the heads: both programs sum the same products over the 1024 columns of the left factor, so they agree
on all arguments, finite or not.
-/

@[expose] public section

set_option maxRecDepth 16384

noncomputable section

namespace Cert.ProjDx

open Idealize.ShloMosaic Idealize.ShloMosaic.TcCoe Idealize.SL.Sem Cert.Tab Cert.Part

theorem frame_p : Cert.quiescent_Kernel13 := fun m ρ _ => Cert.Kernel13.Gen.frame m ρ

theorem frame_pi : Cert.quiescent_Kernel13Ideal := fun m ρ _ => Cert.Kernel13Ideal.Gen.frame m ρ

theorem frame_ri : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

namespace Ref

open Cert.Reference13Ideal Cert.Reference13Ideal.Read

theorem apply (x0 : (⟨S4096x1024, .f32⟩ : BufTy).Contents (Elt Ideal)) (x1 : (⟨S1024x1024, .f32⟩ : BufTy).Contents (Elt Ideal))
    (i : S4096x1024.Idx) : (val_main_v2 (F := Ideal) x0 x1 i : EReal)
      = part (fun k r => tab2 x0 r k) (fun a b => tab2 x1 b a) 1024 (i 0).val (i 1).val := by
  rw [part, Finset.sum_range, val_main_v2_apply]
  exact Finset.sum_congr rfl fun k _ => congrArg₂ (· * ·) (eq_tab2 x0 _) (eq_tab2 x1 _)

end Ref

theorem preserves : Cert.preserves_Kernel13_Kernel13Ideal := trivial

/-- The kernel's array is the reference's. -/
theorem algebraic : Cert.algebraic_Kernel13Ideal_Reference13Ideal := by
  intro m ρ m' ρ' _ hag
  refine ⟨fun c => (Cert.Kernel13Ideal.Gen.dats m 0 c).arrAt 2 Cert.Kernel13Ideal.cfg0.N,
    Cert.Kernel13Ideal.Value.run_blocks m ρ,
    (θ_run _ _ _).mono (fun r h c => ?_) (Cert.Reference13Ideal.Value.run m' ρ')⟩
  obtain ⟨h0, hk⟩ := h c
  obtain ⟨a0, a1⟩ := hag c
  refine ⟨funext fun i => ?_, hk⟩
  refine (congrFun (h0.trans (Cert.Reference13Ideal.Read.val_main_v2_eq _ _)) i).trans ?_
  rw [a0, a1]
  exact (Ref.apply _ _ i).trans (array m c i).symm

end Cert.ProjDx

end
-- ==== Proof.GmInBlocks.lean ====
module

public import proofs.«01_k».proof.Proof.Part
public import proofs.«01_k».proof.Proof.Gen.Kernel14Ideal.Value
public import Idealize.ShloMosaic.Lib.Pipeline.ReadBack
public import Idealize.ShloMosaic.Lib.Pointwise.Tactic

/-!
The gMLP layer's input product: a block of rows of the result holds the whole sum over the 1024 columns of the left
factor.
-/

@[expose] public section

set_option maxRecDepth 16384

noncomputable section

namespace Cert.GmIn

open Cert.Kernel14Ideal Cert.Kernel14Ideal.Gen Cert.Kernel14Ideal.Value Idealize.ShloMosaic Idealize.ShloMosaic.TcCoe
open Idealize.SL Idealize.SL.Sem Cert.Tab Cert.Part

theorem pay (x : Vec Ideal S1024x1024 .bf16) (y : Vec Ideal S1792x1024 .bf16) (j : S1024x1792.Idx) :
    k0_pay1 x y j = ∑ k : Fin 1024, x (ix2 (j 0) k) * y (ix2 (j 1) k) := by
  unfold k0_pay1
  pointwise

variable (m : (ℓ : Loc nD τ sig) → Buf (Elt Ideal) ℓ) (c : Dev nD) (t : Fin cfg0.N)

/-- The left factor at column `k` and row `r`. -/
def A (k r : ℕ) : EReal := tab2 (m ((c : Thread nD τ).loc main_arg0) : S4096x1024.Idx → EReal) r k

/-- The weights. -/
abbrev W : ℕ → ℕ → EReal := (tab2 (m ((c : Thread nD τ).loc main_arg1) : S1024x1792.Idx → EReal))

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The weights as the host hands them over. -/
theorem w_apply (j : S1792x1024.Idx) : (V m c main_v1 : S1792x1024.Idx → EReal) j = W m c (j 1).val (j 0).val := by
  have e : (V m c main_v1 : S1792x1024.Idx → EReal) j
      = (m ((c : Thread nD τ).loc main_arg1) : S1024x1792.Idx → EReal) (ix2 (j 1) (j 0)) := by
    entry_read
    pointwise
  exact e.trans (eq_tab2 _ _)

theorem block0 (j : S1024x1024.Idx) : iblk m c 0 t j = A m c (j 1).val (1024 * (t.val) + (j 0).val) := by
  have e := index0 t
  unfold iblk
  blk_simp
  rw [V_main_arg0]
  refine (eq_tab2 _ _).trans ?_
  blk_simp [e]
  unfold A
  rw [Nat.mul_comm 1024]

theorem block1 (j : S1792x1024.Idx) : iblk m c 1 t j = W m c (j 1).val (1792 * (0) + (j 0).val) := by
  have e := index1 t
  unfold iblk
  blk_simp
  refine (w_apply m c _).trans ?_
  blk_simp [e]
  rw [Nat.mul_comm 1792, Nat.zero_mul, Nat.zero_add]

/-- What a point writes back. -/
theorem tile (i : S1024x1792.Idx) : (out0_2 (iblk m c 0 t) (iblk m c 1 t) i : EReal)
    = part (A m c) (W m c) 1024 (1024 * (t.val) + (i 0).val) (1792 * (0) + (i 1).val) := by
  unfold out0_2
  frame_out
  exact (pay _ _ i).trans (part_first (fun k => block0 m c t (ix2 (i 0) k)) (fun k => block1 m c t (ix2 (i 1) k)))

/-- The whole array. -/
theorem array (i : S4096x1792.Idx) : ((dats m 0 c).arrAt 2 cfg0.N i : EReal)
    = part (A m c) (W m c) 1024 (i 0).val (i 1).val := by
  have hN : cfg0.N = 4 := rfl
  have h0 : (i 0).val < 4096 := (i 0).isLt
  have h1 : (i 1).val < 1792 := (i 1).isLt
  obtain ⟨t, ht⟩ : ∃ t : Fin cfg0.N, t.val = (i 0).val / 1024 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 disjoint2 t (flush0_2 t) y).trans ?_
  rw [flushed2]
  have T := tile m c t
  generalize out0_2 (iblk m c 0 t) (iblk m c 1 t) = z at T ⊢
  refine (T _).trans ?_
  blk_simp [e]
  rw [Nat.mul_comm 1024, Nat.mul_comm 1792, Nat.zero_mul, Nat.zero_add]

end Cert.GmIn
-- ==== Proof.GmInValue.lean ====
module

public import proofs.«01_k».proof.Defs
public import proofs.«01_k».proof.Proof.GmInBlocks
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import Idealize.ShloMosaic.Init

/-!
The gMLP layer's input product: both programs sum the same products over the 1024 columns of the left factor, so they agree
on all arguments, finite or not.
-/

@[expose] public section

set_option maxRecDepth 16384

noncomputable section

namespace Cert.GmIn

open Idealize.ShloMosaic Idealize.ShloMosaic.TcCoe Idealize.SL.Sem Cert.Tab Cert.Part

theorem frame_p : Cert.quiescent_Kernel14 := fun m ρ _ => Cert.Kernel14.Gen.frame m ρ

theorem frame_pi : Cert.quiescent_Kernel14Ideal := fun m ρ _ => Cert.Kernel14Ideal.Gen.frame m ρ

theorem frame_ri : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

namespace Ref

open Cert.Reference14Ideal Cert.Reference14Ideal.Read

theorem apply (x0 : (⟨S4096x1024, .bf16⟩ : BufTy).Contents (Elt Ideal)) (x1 : (⟨S1024x1792, .f32⟩ : BufTy).Contents (Elt Ideal))
    (i : S4096x1792.Idx) : (val_main_v1 (F := Ideal) x0 x1 i : EReal)
      = part (fun k r => tab2 x0 r k) (tab2 x1) 1024 (i 0).val (i 1).val := by
  rw [part, Finset.sum_range, val_main_v1_apply]
  exact Finset.sum_congr rfl fun k _ => congrArg₂ (· * ·) (eq_tab2 x0 _) (eq_tab2 x1 _)

end Ref

theorem preserves : Cert.preserves_Kernel14_Kernel14Ideal := trivial

/-- The kernel's array is the reference's. -/
theorem algebraic : Cert.algebraic_Kernel14Ideal_Reference14Ideal := by
  intro m ρ m' ρ' _ hag
  refine ⟨fun c => (Cert.Kernel14Ideal.Gen.dats m 0 c).arrAt 2 Cert.Kernel14Ideal.cfg0.N,
    Cert.Kernel14Ideal.Value.run_blocks m ρ,
    (θ_run _ _ _).mono (fun r h c => ?_) (Cert.Reference14Ideal.Value.run m' ρ')⟩
  obtain ⟨h0, hk⟩ := h c
  obtain ⟨a0, a1⟩ := hag c
  refine ⟨funext fun i => ?_, hk⟩
  refine (congrFun (h0.trans (Cert.Reference14Ideal.Read.val_main_v1_eq _ _)) i).trans ?_
  rw [a0, a1]
  exact (Ref.apply _ _ i).trans (array m c i).symm

end Cert.GmIn

end
-- ==== Proof.HgInBlocks.lean ====
module

public import proofs.«01_k».proof.Proof.Part
public import proofs.«01_k».proof.Proof.Gen.Kernel15Ideal.Value
public import Idealize.ShloMosaic.Lib.Pipeline.ReadBack
public import Idealize.ShloMosaic.Lib.Pointwise.Tactic

/-!
The recurrent layer's input product: a block of rows of the result holds the whole sum over the 1024 columns of the left
factor.
-/

@[expose] public section

set_option maxRecDepth 16384

noncomputable section

namespace Cert.HgIn

open Cert.Kernel15Ideal Cert.Kernel15Ideal.Gen Cert.Kernel15Ideal.Value Idealize.ShloMosaic Idealize.ShloMosaic.TcCoe
open Idealize.SL Idealize.SL.Sem Cert.Tab Cert.Part

theorem pay (x : Vec Ideal S1024x1024 .bf16) (y : Vec Ideal S1664x1024 .bf16) (j : S1024x1664.Idx) :
    k0_pay1 x y j = ∑ k : Fin 1024, x (ix2 (j 0) k) * y (ix2 (j 1) k) := by
  unfold k0_pay1
  pointwise

variable (m : (ℓ : Loc nD τ sig) → Buf (Elt Ideal) ℓ) (c : Dev nD) (t : Fin cfg0.N)

/-- The left factor at column `k` and row `r`. -/
def A (k r : ℕ) : EReal := tab2 (m ((c : Thread nD τ).loc main_arg0) : S4096x1024.Idx → EReal) r k

/-- The weights. -/
abbrev W : ℕ → ℕ → EReal := (tab2 (m ((c : Thread nD τ).loc main_arg1) : S1024x3328.Idx → EReal))

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

/-- The weights as the host hands them over. -/
theorem w_apply (j : S3328x1024.Idx) : (V m c main_v1 : S3328x1024.Idx → EReal) j = W m c (j 1).val (j 0).val := by
  have e : (V m c main_v1 : S3328x1024.Idx → EReal) j
      = (m ((c : Thread nD τ).loc main_arg1) : S1024x3328.Idx → EReal) (ix2 (j 1) (j 0)) := by
    entry_read
    pointwise
  exact e.trans (eq_tab2 _ _)

theorem block0 (j : S1024x1024.Idx) : iblk m c 0 t j = A m c (j 1).val (1024 * (t.val / 2) + (j 0).val) := by
  have e := index0 t
  unfold iblk
  blk_simp
  rw [V_main_arg0]
  refine (eq_tab2 _ _).trans ?_
  blk_simp [e]
  unfold A
  rw [Nat.mul_comm 1024]

theorem block1 (j : S1664x1024.Idx) : iblk m c 1 t j = W m c (j 1).val (1664 * (t.val % 2) + (j 0).val) := by
  have e := index1 t
  unfold iblk
  blk_simp
  refine (w_apply m c _).trans ?_
  blk_simp [e]
  rw [Nat.mul_comm 1664]

/-- What a point writes back. -/
theorem tile (i : S1024x1664.Idx) : (out0_2 (iblk m c 0 t) (iblk m c 1 t) i : EReal)
    = part (A m c) (W m c) 1024 (1024 * (t.val / 2) + (i 0).val) (1664 * (t.val % 2) + (i 1).val) := by
  unfold out0_2
  frame_out
  exact (pay _ _ i).trans (part_first (fun k => block0 m c t (ix2 (i 0) k)) (fun k => block1 m c t (ix2 (i 1) k)))

/-- The whole array. -/
theorem array (i : S4096x3328.Idx) : ((dats m 0 c).arrAt 2 cfg0.N i : EReal)
    = part (A m c) (W m c) 1024 (i 0).val (i 1).val := by
  have hN : cfg0.N = 8 := rfl
  have h0 : (i 0).val < 4096 := (i 0).isLt
  have h1 : (i 1).val < 3328 := (i 1).isLt
  obtain ⟨t, ht⟩ : ∃ t : Fin cfg0.N, t.val = 2 * ((i 0).val / 1024) + (i 1).val / 1664 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 disjoint2 t (flush0_2 t) y).trans ?_
  rw [flushed2]
  have T := tile m c t
  generalize out0_2 (iblk m c 0 t) (iblk m c 1 t) = z at T ⊢
  refine (T _).trans ?_
  blk_simp [e]
  rw [Nat.mul_comm 1024, Nat.mul_comm 1664]

end Cert.HgIn
-- ==== Proof.HgInValue.lean ====
module

public import proofs.«01_k».proof.Defs
public import proofs.«01_k».proof.Proof.HgInBlocks
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import Idealize.ShloMosaic.Init

/-!
The recurrent layer's input product: both programs sum the same products over the 1024 columns of the left factor, so they agree
on all arguments, finite or not.
-/

@[expose] public section

set_option maxRecDepth 16384

noncomputable section

namespace Cert.HgIn

open Idealize.ShloMosaic Idealize.ShloMosaic.TcCoe Idealize.SL.Sem Cert.Tab Cert.Part

theorem frame_p : Cert.quiescent_Kernel15 := fun m ρ _ => Cert.Kernel15.Gen.frame m ρ

theorem frame_pi : Cert.quiescent_Kernel15Ideal := fun m ρ _ => Cert.Kernel15Ideal.Gen.frame m ρ

theorem frame_ri : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

namespace Ref

open Cert.Reference15Ideal Cert.Reference15Ideal.Read

theorem apply (x0 : (⟨S4096x1024, .bf16⟩ : BufTy).Contents (Elt Ideal)) (x1 : (⟨S1024x3328, .f32⟩ : BufTy).Contents (Elt Ideal))
    (i : S4096x3328.Idx) : (val_main_v1 (F := Ideal) x0 x1 i : EReal)
      = part (fun k r => tab2 x0 r k) (tab2 x1) 1024 (i 0).val (i 1).val := by
  rw [part, Finset.sum_range, val_main_v1_apply]
  exact Finset.sum_congr rfl fun k _ => congrArg₂ (· * ·) (eq_tab2 x0 _) (eq_tab2 x1 _)

end Ref

theorem preserves : Cert.preserves_Kernel15_Kernel15Ideal := trivial

/-- The kernel's array is the reference's. -/
theorem algebraic : Cert.algebraic_Kernel15Ideal_Reference15Ideal := by
  intro m ρ m' ρ' _ hag
  refine ⟨fun c => (Cert.Kernel15Ideal.Gen.dats m 0 c).arrAt 2 Cert.Kernel15Ideal.cfg0.N,
    Cert.Kernel15Ideal.Value.run_blocks m ρ,
    (θ_run _ _ _).mono (fun r h c => ?_) (Cert.Reference15Ideal.Value.run m' ρ')⟩
  obtain ⟨h0, hk⟩ := h c
  obtain ⟨a0, a1⟩ := hag c
  refine ⟨funext fun i => ?_, hk⟩
  refine (congrFun (h0.trans (Cert.Reference15Ideal.Read.val_main_v1_eq _ _)) i).trans ?_
  rw [a0, a1]
  exact (Ref.apply _ _ i).trans (array m c i).symm

end Cert.HgIn

end
-- ==== Proof.ProjBlocks.lean ====
module

public import proofs.«01_k».proof.Proof.NormRow
public import proofs.«01_k».proof.Proof.Part
public import proofs.«01_k».proof.Proof.Gen.Kernel16Ideal.Value
public import Idealize.ShloMosaic.Lib.Pipeline.ReadBack
public import Idealize.ShloMosaic.Lib.Pointwise.Tactic

/-!
The heads' output projection: what is written back is the product with the residual stream added, and the same rows
normalised and scaled by the gain of the next layer.
-/

@[expose] public section

set_option maxRecDepth 16384

noncomputable section

namespace Cert.Proj

open Cert.Kernel16Ideal Cert.Kernel16Ideal.Gen Cert.Kernel16Ideal.Value Idealize.ShloMosaic Idealize.ShloMosaic.TcCoe
open Idealize.SL Idealize.SL.Sem Cert.Tab Cert.Part Cert.NormRow

/-- A row normalised and scaled by the gain. -/
def normed (y g : ℕ → EReal) (j : ℕ) : EReal := y j * inv y * g j

section Pay

variable (a o : Vec Ideal S1024x1024 .f32) (x : Vec Ideal S1024x1024 .bf16) (y : Vec Ideal S1024x1024 .bf16) (g : Vec Ideal S1x1024 .f32)
  (j : S1024x1024.Idx)

theorem pay1 : k0_pay1 x y o j = (∑ k : Fin 1024, x (ix2 (j 0) k) * y (ix2 k (j 1))) + o j := by
  unfold k0_pay1
  pointwise

theorem pay2 {r : ℕ} {Y G : ℕ → ℕ → EReal} (h : ∀ j, (k0_pay1 x y o j : EReal) = Y (r + (j 0).val) (j 1).val)
    (hg : ∀ j, (g j : EReal) = G (j 0).val (j 1).val) :
    (k0_pay2 x y o g j : EReal) = normed (Y (r + (j 0).val)) (G 0) (j 1).val := by
  unfold k0_pay2
  generalize k0_pay1 x y o = p at h ⊢
  pointwise
  simp only [h, hg]
  rfl

end Pay

variable (m : (ℓ : Loc nD τ sig) → Buf (Elt Ideal) ℓ) (c : Dev nD) (t : Fin cfg0.N)

/-- The left factor at column `k` and row `r`. -/
def A (k r : ℕ) : EReal := tab2 (m ((c : Thread nD τ).loc main_arg0) : S4096x1024.Idx → EReal) r k

abbrev W : ℕ → ℕ → EReal := tab2 (m ((c : Thread nD τ).loc main_arg1) : S1024x1024.Idx → EReal)
abbrev O : ℕ → ℕ → EReal := tab2 (m ((c : Thread nD τ).loc main_arg2) : S4096x1024.Idx → EReal)
abbrev G : ℕ → ℕ → EReal := tab2 (m ((c : Thread nD τ).loc main_arg3) : S1x1024.Idx → EReal)

/-- The product with the residual stream added. -/
def Y (r s : ℕ) : EReal := part (A m c) (W m c) 1024 r s + O m c r s

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- The weights as the host hands them over. -/
theorem w_apply (j : S1024x1024.Idx) : (V m c main_v0 : S1024x1024.Idx → EReal) j = W m c (j 0).val (j 1).val := by
  have e : (V m c main_v0 : S1024x1024.Idx → EReal) j
      = (m ((c : Thread nD τ).loc main_arg1) : S1024x1024.Idx → EReal) j := by
    entry_read
    pointwise
  exact e.trans (eq_tab2 _ _)

theorem block0 (j : S1024x1024.Idx) : iblk m c 0 t j = A m c ((j 1).val) (1024 * (t.val) + (j 0).val) := by
  have e := index0 t
  unfold iblk
  blk_simp
  rw [V_main_arg0]
  refine (eq_tab2 _ _).trans ?_
  blk_simp [e]
  unfold A
  rw [Nat.mul_comm 1024]

theorem block1 (j : S1024x1024.Idx) : iblk m c 1 t j = W m c ((j 0).val) (j 1).val := by
  have e := index1 t
  unfold iblk
  blk_simp
  refine (w_apply m c _).trans ?_
  blk_simp [e]

theorem block2 (j : S1024x1024.Idx) : iblk m c 2 t j = O m c (1024 * (t.val) + (j 0).val) (j 1).val := by
  have e := index2 t
  unfold iblk
  blk_simp
  rw [V_main_arg2]
  refine (eq_tab2 _ _).trans ?_
  blk_simp [e]
  rw [Nat.mul_comm 1024]

theorem block3 (j : S1x1024.Idx) : iblk m c 3 t j = G m c (j 0).val (j 1).val := by
  have e := index3 t
  unfold iblk
  blk_simp
  rw [V_main_arg3]
  refine (eq_tab2 _ _).trans ?_
  blk_simp [e]

theorem sum (i : S1024x1024.Idx) : (k0_pay1 (iblk m c 0 t) (iblk m c 1 t) (iblk m c 2 t) i : EReal)
    = Y m c (1024 * (t.val) + (i 0).val) (i 1).val :=
  (pay1 _ _ _ i).trans (congrArg₂ (· + ·)
    (part_first (fun k => block0 m c t (ix2 (i 0) k)) (fun k => block1 m c t (ix2 k (i 1)))) (block2 m c t i))

theorem tile4 (i : S1024x1024.Idx) : (out0_4 (iblk m c 0 t) (iblk m c 1 t) (iblk m c 2 t) (iblk m c 3 t) i : EReal)
    = Y m c (1024 * (t.val) + (i 0).val) (i 1).val := by
  unfold out0_4
  frame_out
  exact sum m c t i

theorem tile5 (i : S1024x1024.Idx) : (out0_5 (iblk m c 0 t) (iblk m c 1 t) (iblk m c 2 t) (iblk m c 3 t) i : EReal)
    = normed (Y m c (1024 * (t.val) + (i 0).val)) (G m c 0) (i 1).val := by
  unfold out0_5
  frame_out
  exact pay2 _ _ _ _ i (sum m c t) (block3 m c t)

/-- The product with the residual stream, as a whole array. -/
theorem array4 (i : S4096x1024.Idx) : ((dats m 0 c).arrAt 4 cfg0.N i : EReal) = Y m c (i 0).val (i 1).val := by
  have hN : cfg0.N = 4 := rfl
  have h0 : (i 0).val < 4096 := (i 0).isLt
  have h1 : (i 1).val < 1024 := (i 1).isLt
  obtain ⟨t, ht⟩ : ∃ t : Fin cfg0.N, t.val = (i 0).val / 1024 := ⟨⟨_, by omega⟩, rfl⟩
  have e := index4 t
  have hm : i ∈ ((cfg0.win 4).blk t).view.set := by
    mem_blk [e]
    omega
  obtain ⟨y, rfl⟩ := View.exists_emb_of_mem_set _ hm
  refine (Pipeline.Dat.arrAt_emb_eq_flushed _ 4 disjoint4 t (flush0_4 t) y).trans ?_
  rw [flushed4]
  have T := tile4 m c t
  generalize out0_4 (iblk m c 0 t) (iblk m c 1 t) (iblk m c 2 t) (iblk m c 3 t) = z at T ⊢
  refine (T _).trans ?_
  blk_simp [e]
  rw [Nat.mul_comm 1024]

/-- The normalised rows as a whole array. -/
theorem array5 (i : S4096x1024.Idx) : ((dats m 0 c).arrAt 5 cfg0.N i : EReal) = normed (Y m c (i 0).val) (G m c 0) (i 1).val := by
  have hN : cfg0.N = 4 := rfl
  have h0 : (i 0).val < 4096 := (i 0).isLt
  have h1 : (i 1).val < 1024 := (i 1).isLt
  obtain ⟨t, ht⟩ : ∃ t : Fin cfg0.N, t.val = (i 0).val / 1024 := ⟨⟨_, by omega⟩, rfl⟩
  have e := index5 t
  have hm : i ∈ ((cfg0.win 5).blk t).view.set := by
    mem_blk [e]
    omega
  obtain ⟨y, rfl⟩ := View.exists_emb_of_mem_set _ hm
  refine (Pipeline.Dat.arrAt_emb_eq_flushed _ 5 disjoint5 t (flush0_5 t) y).trans ?_
  rw [flushed5]
  have T := tile5 m c t
  generalize out0_5 (iblk m c 0 t) (iblk m c 1 t) (iblk m c 2 t) (iblk m c 3 t) = z at T ⊢
  refine (T _).trans ?_
  blk_simp [e]
  rw [Nat.mul_comm 1024]

end Cert.Proj
-- ==== Proof.ProjValue.lean ====
module

public import proofs.«01_k».proof.Defs
public import proofs.«01_k».proof.Proof.ProjBlocks
public import proofs.«01_k».proof.Proof.Consts
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import Idealize.ShloMosaic.Init

/-!
The heads' output projection, with the residual stream added and the rows normalised after it: kernel and reference agree on all
arguments, finite or not.
-/

@[expose] public section

set_option maxRecDepth 16384

noncomputable section

namespace Cert.Proj

open Idealize.ShloMosaic Idealize.ShloMosaic.TcCoe Idealize.SL.Sem Cert.Tab Cert.Part Cert.NormRow

theorem frame_p : Cert.quiescent_Kernel16 := fun m ρ _ => Cert.Kernel16.Gen.frame m ρ

theorem frame_pi : Cert.quiescent_Kernel16Ideal := fun m ρ _ => Cert.Kernel16Ideal.Gen.frame m ρ

theorem frame_ri : Cert.quiescent_Reference16Ideal := fun m ρ _ =>
  (θ_run Cert.Reference16Ideal.defs _ _).mono
    (fun r h => ⟨fun c => (h c).2.2, Idealize.ShloMosaic.sem_eq_zero_of_no_sems (by decide) r.2⟩)
    (Cert.Reference16Ideal.Value.run (F := Ideal) m ρ)

namespace Ref

open Cert.Reference16Ideal Cert.Reference16Ideal.Read

variable (x0 : (⟨S4096x1024, .bf16⟩ : BufTy).Contents (Elt Ideal)) (x1 : (⟨S1024x1024, .f32⟩ : BufTy).Contents (Elt Ideal))
  (x2 : (⟨S4096x1024, .f32⟩ : BufTy).Contents (Elt Ideal)) (x3 : (⟨S1x1024, .f32⟩ : BufTy).Contents (Elt Ideal))

def A (k r : ℕ) : EReal := tab2 x0 r k
def Y (r s : ℕ) : EReal := part (A x0) (tab2 x1) 1024 r s + tab2 x2 r s

theorem zero_word : Ideal.ofBits .f32 0x00000000#32 = 0 := by rw [Cert.Gmlp.ofBits_zero]; rfl

theorem y_apply (i : S4096x1024.Idx) : (val_main_v2 (F := Ideal) x0 x1 x2 i : EReal) = Y x0 x1 x2 (i 0).val (i 1).val := by
  rw [val_main_v2_apply]
  refine (add_comm _ _).trans (congrArg₂ (· + ·) ?_ (eq_tab2 x2 i))
  rw [val_main_v1_apply, part, Finset.sum_range]
  exact Finset.sum_congr rfl fun k _ => congrArg₂ (· * ·) (eq_tab2 x0 _) (eq_tab2 x1 _)

theorem msq_apply (i : S4096x1.Idx) : (val_main_v10 (F := Ideal) x0 x1 x2 i : EReal) = msq (Y x0 x1 x2 (i 0).val) := by
  have e : (val_main_v5 (F := Ideal) x0 x1 x2 (idx_main_v6 i) : EReal)
      = ∑ k : Fin 1024, Y x0 x1 x2 (i 0).val k.val * Y x0 x1 x2 (i 0).val k.val := by
    rw [val_main_v5_apply]
    refine (congrArg (· + _) zero_word).trans ((zero_add _).trans ?_)
    exact Finset.sum_congr rfl fun k _ => congrArg₂ (· * ·) (y_apply x0 x1 x2 _) (y_apply x0 x1 x2 _)
  rw [val_main_v10_apply, val_main_v8_apply, val_main_v6_apply, val_main_v7_apply, val_main_v9_apply, e]
  rfl

theorem inv_apply (i : S4096x1.Idx) : (val_main_v11 (F := Ideal) x0 x1 x2 i : EReal) = inv (Y x0 x1 x2 (i 0).val) :=
  (val_main_v11_apply x0 x1 x2 i).trans (congrArg Ideal.rsqrt (msq_apply x0 x1 x2 i))

theorem normed_apply (i : S4096x1024.Idx) : (val_main_v17 (F := Ideal) x0 x1 x2 x3 i : EReal)
    = normed (Y x0 x1 x2 (i 0).val) (tab2 x3 0) (i 1).val := by
  have h1 : (i 1).val < 1024 := (i 1).isLt
  show (val_main_v16 (F := Ideal) x0 x1 x2 x3 i : EReal) = _
  rw [val_main_v16_apply, val_main_v13_apply, val_main_v12_apply, val_main_v15_apply, val_main_v14_apply, val_main_v3_apply]
  refine congrArg₂ (· * ·) (congrArg₂ (· * ·) (y_apply x0 x1 x2 i) (inv_apply x0 x1 x2 _)) ((eq_tab2 x3 _).trans ?_)
  congr 1
  exact Nat.mod_eq_of_lt h1

end Ref

theorem preserves : Cert.preserves_Kernel16_Kernel16Ideal := trivial

/-- The kernel's arrays are the reference's. -/
theorem algebraic : Cert.algebraic_Kernel16Ideal_Reference16Ideal := by
  intro m ρ m' ρ' _ hag
  refine ⟨fun c => (Cert.Kernel16Ideal.Gen.dats m 0 c).arrAt 4 Cert.Kernel16Ideal.cfg0.N,
    fun c => (Cert.Kernel16Ideal.Gen.dats m 0 c).arrAt 5 Cert.Kernel16Ideal.cfg0.N,
    Cert.Kernel16Ideal.Value.run_blocks m ρ,
    (θ_run _ _ _).mono (fun r h c => ?_) (Cert.Reference16Ideal.Value.run m' ρ')⟩
  obtain ⟨h0, h1, hk⟩ := h c
  obtain ⟨a0, a1, a2, a3⟩ := hag c
  refine ⟨funext fun i => ?_, funext fun i => ?_, hk⟩
  · refine (congrFun (h0.trans (Cert.Reference16Ideal.Read.val_main_v2_eq _ _ _)) i).trans ?_
    rw [a0, a1, a2]
    exact (Ref.y_apply _ _ _ i).trans (array4 m c i).symm
  · refine (congrFun (h1.trans (Cert.Reference16Ideal.Read.val_main_v17_eq _ _ _ _)) i).trans ?_
    rw [a0, a1, a2, a3]
    exact (Ref.normed_apply _ _ _ _ i).trans (array5 m c i).symm

end Cert.Proj

end
-- ==== Proof.FfnOutBlocks.lean ====
module

public import proofs.«01_k».proof.Proof.NormRow
public import proofs.«01_k».proof.Proof.Part
public import proofs.«01_k».proof.Proof.Gen.Kernel17Ideal.Value
public import Idealize.ShloMosaic.Lib.Pipeline.ReadBack
public import Idealize.ShloMosaic.Lib.Pointwise.Tactic

/-!
The feed-forward layer's output product: what is written back is the product with the residual stream added, and the same rows
normalised and scaled by the gain of the next layer.
-/

@[expose] public section

set_option maxRecDepth 16384

noncomputable section

namespace Cert.FfnOut

open Cert.Kernel17Ideal Cert.Kernel17Ideal.Gen Cert.Kernel17Ideal.Value Idealize.ShloMosaic Idealize.ShloMosaic.TcCoe
open Idealize.SL Idealize.SL.Sem Cert.Tab Cert.Part Cert.NormRow

/-- A row normalised and scaled by the gain. -/
def normed (y g : ℕ → EReal) (j : ℕ) : EReal := y j * inv y * g j

section Pay

variable (a o : Vec Ideal S1024x1024 .f32) (x : Vec Ideal S1024x1408 .bf16) (y : Vec Ideal S1408x1024 .bf16) (g : Vec Ideal S1x1024 .f32)
  (j : S1024x1024.Idx)

theorem pay1 : k0_pay1 x y j = ∑ k : Fin 1408, x (ix2 (j 0) k) * y (ix2 k (j 1)) := by
  unfold k0_pay1
  pointwise

theorem pay3 : k0_pay3 a x y o j = a j + (∑ k : Fin 1408, x (ix2 (j 0) k) * y (ix2 k (j 1))) + o j := by
  unfold k0_pay3
  pointwise

theorem pay4 {r : ℕ} {Y G : ℕ → ℕ → EReal} (h : ∀ j, (k0_pay3 a x y o j : EReal) = Y (r + (j 0).val) (j 1).val)
    (hg : ∀ j, (g j : EReal) = G (j 0).val (j 1).val) :
    (k0_pay4 a x y o g j : EReal) = normed (Y (r + (j 0).val)) (G 0) (j 1).val := by
  unfold k0_pay4
  generalize k0_pay3 a x y o = p at h ⊢
  pointwise
  simp only [h, hg]
  rfl

end Pay

variable (m : (ℓ : Loc nD τ sig) → Buf (Elt Ideal) ℓ) (c : Dev nD) (t : Fin cfg0.N)

/-- The left factor at column `k` and row `r`. -/
def A (k r : ℕ) : EReal := tab2 (m ((c : Thread nD τ).loc main_arg0) : S4096x2816.Idx → EReal) r k

abbrev W : ℕ → ℕ → EReal := tab2 (m ((c : Thread nD τ).loc main_arg1) : S2816x1024.Idx → EReal)
abbrev O : ℕ → ℕ → EReal := tab2 (m ((c : Thread nD τ).loc main_arg2) : S4096x1024.Idx → EReal)
abbrev G : ℕ → ℕ → EReal := tab2 (m ((c : Thread nD τ).loc main_arg3) : S1x1024.Idx → EReal)

/-- The product with the residual stream added. -/
def Y (r s : ℕ) : EReal := part (A m c) (W m c) 2816 r s + O m c r s

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 2, 0] := (by decide +kernel : ∀ t : Fin grid0.N, _)
theorem index5 : ∀ t : Fin cfg0.N, win0_5.index t = ![t.val / 2, 0] := (by decide +kernel : ∀ t : Fin grid0.N, _)

/-- The weights as the host hands them over. -/
theorem w_apply (j : S2816x1024.Idx) : (V m c main_v0 : S2816x1024.Idx → EReal) j = W m c (j 0).val (j 1).val := by
  have e : (V m c main_v0 : S2816x1024.Idx → EReal) j
      = (m ((c : Thread nD τ).loc main_arg1) : S2816x1024.Idx → EReal) j := by
    entry_read
    pointwise
  exact e.trans (eq_tab2 _ _)

theorem block0 (j : S1024x1408.Idx) : iblk m c 0 t j = A m c (1408 * (t.val % 2) + (j 1).val) (1024 * (t.val / 2) + (j 0).val) := by
  have e := index0 t
  unfold iblk
  blk_simp
  rw [V_main_arg0]
  refine (eq_tab2 _ _).trans ?_
  blk_simp [e]
  unfold A
  rw [Nat.mul_comm 1024, Nat.mul_comm 1408]

theorem block1 (j : S1408x1024.Idx) : iblk m c 1 t j = W m c (1408 * (t.val % 2) + (j 0).val) (j 1).val := by
  have e := index1 t
  unfold iblk
  blk_simp
  refine (w_apply m c _).trans ?_
  blk_simp [e]
  rw [Nat.mul_comm 1408]

theorem block2 (j : S1024x1024.Idx) : iblk m c 2 t j = O m c (1024 * (t.val / 2) + (j 0).val) (j 1).val := by
  have e := index2 t
  unfold iblk
  blk_simp
  rw [V_main_arg2]
  refine (eq_tab2 _ _).trans ?_
  blk_simp [e]
  rw [Nat.mul_comm 1024]

theorem block3 (j : S1x1024.Idx) : iblk m c 3 t j = G m c (j 0).val (j 1).val := by
  have e := index3 t
  unfold iblk
  blk_simp
  rw [V_main_arg3]
  refine (eq_tab2 _ _).trans ?_
  blk_simp [e]

/-- One more block of columns added to the sum over the columns before it. -/
theorem step (n : ℕ) {P : S1024x1408.Idx → EReal} {Q : S1408x1024.Idx → EReal}
    (hP : ∀ j, P j = A m c (1408 * (n % 2) + (j 1).val) (1024 * (n / 2) + (j 0).val))
    (hQ : ∀ j, Q j = W m c (1408 * (n % 2) + (j 0).val) (j 1).val) (i : S1024x1024.Idx) :
    part (A m c) (W m c) (1408 * (n % 2)) (1024 * (n / 2) + (i 0).val) (i 1).val
      + ∑ k : Fin 1408, P (ix2 (i 0) k) * Q (ix2 k (i 1))
    = part (A m c) (W m c) (1408 * (n % 2) + 1408) (1024 * (n / 2) + (i 0).val) (i 1).val :=
  part_add (fun k => hP (ix2 (i 0) k)) (fun k => hQ (ix2 k (i 1)))

/-- The running sum after the first block of columns. -/
theorem first (n : ℕ) (h : n < cfg0.N) (hn : n % 2 = 0) (i : S1024x1024.Idx) : ((outsAt0 m c n h).2.2 i : EReal)
    = part (A m c) (W m c) 1408 (1024 * (n / 2) + (i 0).val) (i 1).val := by
  rw [outsAt0_A m c ⟨n, h⟩ hn (by dsimp only; omega)]
  dsimp only
  frame_out
  refine (pay1 _ _ i).trans (part_first (fun k => ?_) (fun k => ?_))
  · have e := block0 m c ⟨n, h⟩ (ix2 (i 0) k)
    dsimp only at e
    rw [hn, Nat.mul_zero, Nat.zero_add] at e
    exact e
  · have e := block1 m c ⟨n, h⟩ (ix2 k (i 1))
    dsimp only at e
    rw [hn, Nat.mul_zero, Nat.zero_add] at e
    exact e

/-- The whole sum over the columns, with the residual stream, at the last block of them. -/
theorem full (ht : t.val % 2 = 1) {P : Vec Ideal S1024x1024 .f32}
    (hP : ∀ i, (P i : EReal) = ((outsAt0 m c (t.val - 1) (by omega)).2.2 i : EReal)) (i : S1024x1024.Idx) :
    (k0_pay3 P (iblk m c 0 t) (iblk m c 1 t) (iblk m c 2 t) i : EReal) = Y m c (1024 * (t.val / 2) + (i 0).val) (i 1).val := by
  refine (pay3 _ _ _ _ i).trans (congrArg₂ (· + ·) ?_ (block2 m c t i))
  have e := step m c t.val (block0 m c t) (block1 m c t) i
  rw [ht, Nat.mul_one] at e
  refine Eq.trans (congrArg (· + _) ?_) e
  refine (hP i).trans ((first m c (t.val - 1) _ (by omega) i).trans ?_)
  rw [show (t.val - 1) / 2 = t.val / 2 by omega]

theorem tile4 (ht : t.val % 2 = 1) (i : S1024x1024.Idx) : ((outsAt0 m c t.val t.isLt).1 i : EReal)
    = Y m c (1024 * (t.val / 2) + (i 0).val) (i 1).val := by
  rw [outsAt0_B m c t (by omega) ht]
  dsimp only
  frame_out
  exact full m c t ht (fun i => by rw [(Memref.isWhole_whole _).read_unread]) i

theorem tile5 (ht : t.val % 2 = 1) (i : S1024x1024.Idx) : ((outsAt0 m c t.val t.isLt).2.1 i : EReal)
    = normed (Y m c (1024 * (t.val / 2) + (i 0).val)) (G m c 0) (i 1).val := by
  rw [outsAt0_B m c t (by omega) ht]
  dsimp only
  frame_out
  exact pay4 _ _ _ _ _ i (full m c t ht (fun i => by rw [(Memref.isWhole_whole _).read_unread])) (block3 m c t)

/-- Two points that write back write to different places. -/
theorem apart4 (t t' : Fin cfg0.N) (h : (cfg0.win 4).flush t = true) (h' : (cfg0.win 4).flush t' = true) (hne : t ≠ t') :
    Disjoint ((cfg0.win 4).blk t).view.set ((cfg0.win 4).blk t').view.set := by
  refine (cfg0.win 4).disjoint_blk fun e => hne (Fin.ext ?_)
  have q := (flush0_4 t).1 h
  have q' := (flush0_4 t').1 h'
  have e0 : t.val / 2 = t'.val / 2 := congrFun ((index4 t).symm.trans (e.trans (index4 t'))) 0
  omega

/-- The product with the residual stream, as a whole array. -/
theorem array4 (i : S4096x1024.Idx) : ((dats m 0 c).arrAt 4 cfg0.N i : EReal) = Y m c (i 0).val (i 1).val := by
  have hN : cfg0.N = 8 := rfl
  have h0 : (i 0).val < 4096 := (i 0).isLt
  have h1 : (i 1).val < 1024 := (i 1).isLt
  obtain ⟨t, ht⟩ : ∃ t : Fin cfg0.N, t.val = 2 * ((i 0).val / 1024) + 1 := ⟨⟨_, by omega⟩, rfl⟩
  have e := index4 t
  have hm : i ∈ ((cfg0.win 4).blk t).view.set := by
    mem_blk [e]
    omega
  obtain ⟨y, rfl⟩ := View.exists_emb_of_mem_set _ hm
  refine (Pipeline.Dat.arrAt_emb_eq_flushed _ 4 apart4 t ((flush0_4 t).2 (by omega)) y).trans ?_
  rw [flushed4]
  have T := tile4 m c t (by omega)
  generalize (outsAt0 m c t.val t.isLt).1 = z at T ⊢
  refine (T _).trans ?_
  blk_simp [e]
  rw [Nat.mul_comm 1024]

/-- Two points that write back write to different places. -/
theorem apart5 (t t' : Fin cfg0.N) (h : (cfg0.win 5).flush t = true) (h' : (cfg0.win 5).flush t' = true) (hne : t ≠ t') :
    Disjoint ((cfg0.win 5).blk t).view.set ((cfg0.win 5).blk t').view.set := by
  refine (cfg0.win 5).disjoint_blk fun e => hne (Fin.ext ?_)
  have q := (flush0_5 t).1 h
  have q' := (flush0_5 t').1 h'
  have e0 : t.val / 2 = t'.val / 2 := congrFun ((index5 t).symm.trans (e.trans (index5 t'))) 0
  omega

/-- The normalised rows as a whole array. -/
theorem array5 (i : S4096x1024.Idx) : ((dats m 0 c).arrAt 5 cfg0.N i : EReal) = normed (Y m c (i 0).val) (G m c 0) (i 1).val := by
  have hN : cfg0.N = 8 := rfl
  have h0 : (i 0).val < 4096 := (i 0).isLt
  have h1 : (i 1).val < 1024 := (i 1).isLt
  obtain ⟨t, ht⟩ : ∃ t : Fin cfg0.N, t.val = 2 * ((i 0).val / 1024) + 1 := ⟨⟨_, by omega⟩, rfl⟩
  have e := index5 t
  have hm : i ∈ ((cfg0.win 5).blk t).view.set := by
    mem_blk [e]
    omega
  obtain ⟨y, rfl⟩ := View.exists_emb_of_mem_set _ hm
  refine (Pipeline.Dat.arrAt_emb_eq_flushed _ 5 apart5 t ((flush0_5 t).2 (by omega)) y).trans ?_
  rw [flushed5]
  have T := tile5 m c t (by omega)
  generalize (outsAt0 m c t.val t.isLt).2.1 = z at T ⊢
  refine (T _).trans ?_
  blk_simp [e]
  rw [Nat.mul_comm 1024]

end Cert.FfnOut
-- ==== Proof.FfnOutValue.lean ====
module

public import proofs.«01_k».proof.Defs
public import proofs.«01_k».proof.Proof.FfnOutBlocks
public import proofs.«01_k».proof.Proof.Consts
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import Idealize.ShloMosaic.Init

/-!
The feed-forward layer's output product, with the residual stream added and the rows normalised after it: kernel and reference agree on all
arguments, finite or not.
-/

@[expose] public section

set_option maxRecDepth 16384

noncomputable section

namespace Cert.FfnOut

open Idealize.ShloMosaic Idealize.ShloMosaic.TcCoe Idealize.SL.Sem Cert.Tab Cert.Part Cert.NormRow

theorem frame_p : Cert.quiescent_Kernel17 := fun m ρ _ => Cert.Kernel17.Gen.frame m ρ

theorem frame_pi : Cert.quiescent_Kernel17Ideal := fun m ρ _ => Cert.Kernel17Ideal.Gen.frame m ρ

theorem frame_ri : Cert.quiescent_Reference17Ideal := fun m ρ _ =>
  (θ_run Cert.Reference17Ideal.defs _ _).mono
    (fun r h => ⟨fun c => (h c).2.2, Idealize.ShloMosaic.sem_eq_zero_of_no_sems (by decide) r.2⟩)
    (Cert.Reference17Ideal.Value.run (F := Ideal) m ρ)

namespace Ref

open Cert.Reference17Ideal Cert.Reference17Ideal.Read

variable (x0 : (⟨S4096x2816, .bf16⟩ : BufTy).Contents (Elt Ideal)) (x1 : (⟨S2816x1024, .f32⟩ : BufTy).Contents (Elt Ideal))
  (x2 : (⟨S4096x1024, .f32⟩ : BufTy).Contents (Elt Ideal)) (x3 : (⟨S1x1024, .f32⟩ : BufTy).Contents (Elt Ideal))

def A (k r : ℕ) : EReal := tab2 x0 r k
def Y (r s : ℕ) : EReal := part (A x0) (tab2 x1) 2816 r s + tab2 x2 r s

theorem zero_word : Ideal.ofBits .f32 0x00000000#32 = 0 := by rw [Cert.Gmlp.ofBits_zero]; rfl

theorem y_apply (i : S4096x1024.Idx) : (val_main_v2 (F := Ideal) x0 x1 x2 i : EReal) = Y x0 x1 x2 (i 0).val (i 1).val := by
  rw [val_main_v2_apply]
  refine (add_comm _ _).trans (congrArg₂ (· + ·) ?_ (eq_tab2 x2 i))
  rw [val_main_v1_apply, part, Finset.sum_range]
  exact Finset.sum_congr rfl fun k _ => congrArg₂ (· * ·) (eq_tab2 x0 _) (eq_tab2 x1 _)

theorem msq_apply (i : S4096x1.Idx) : (val_main_v10 (F := Ideal) x0 x1 x2 i : EReal) = msq (Y x0 x1 x2 (i 0).val) := by
  have e : (val_main_v5 (F := Ideal) x0 x1 x2 (idx_main_v6 i) : EReal)
      = ∑ k : Fin 1024, Y x0 x1 x2 (i 0).val k.val * Y x0 x1 x2 (i 0).val k.val := by
    rw [val_main_v5_apply]
    refine (congrArg (· + _) zero_word).trans ((zero_add _).trans ?_)
    exact Finset.sum_congr rfl fun k _ => congrArg₂ (· * ·) (y_apply x0 x1 x2 _) (y_apply x0 x1 x2 _)
  rw [val_main_v10_apply, val_main_v8_apply, val_main_v6_apply, val_main_v7_apply, val_main_v9_apply, e]
  rfl

theorem inv_apply (i : S4096x1.Idx) : (val_main_v11 (F := Ideal) x0 x1 x2 i : EReal) = inv (Y x0 x1 x2 (i 0).val) :=
  (val_main_v11_apply x0 x1 x2 i).trans (congrArg Ideal.rsqrt (msq_apply x0 x1 x2 i))

theorem normed_apply (i : S4096x1024.Idx) : (val_main_v17 (F := Ideal) x0 x1 x2 x3 i : EReal)
    = normed (Y x0 x1 x2 (i 0).val) (tab2 x3 0) (i 1).val := by
  have h1 : (i 1).val < 1024 := (i 1).isLt
  show (val_main_v16 (F := Ideal) x0 x1 x2 x3 i : EReal) = _
  rw [val_main_v16_apply, val_main_v13_apply, val_main_v12_apply, val_main_v15_apply, val_main_v14_apply, val_main_v3_apply]
  refine congrArg₂ (· * ·) (congrArg₂ (· * ·) (y_apply x0 x1 x2 i) (inv_apply x0 x1 x2 _)) ((eq_tab2 x3 _).trans ?_)
  congr 1
  exact Nat.mod_eq_of_lt h1

end Ref

theorem preserves : Cert.preserves_Kernel17_Kernel17Ideal := trivial

/-- The kernel's arrays are the reference's. -/
theorem algebraic : Cert.algebraic_Kernel17Ideal_Reference17Ideal := by
  intro m ρ m' ρ' _ hag
  refine ⟨fun c => (Cert.Kernel17Ideal.Gen.dats m 0 c).arrAt 4 Cert.Kernel17Ideal.cfg0.N,
    fun c => (Cert.Kernel17Ideal.Gen.dats m 0 c).arrAt 5 Cert.Kernel17Ideal.cfg0.N,
    Cert.Kernel17Ideal.Value.run_blocks m ρ,
    (θ_run _ _ _).mono (fun r h c => ?_) (Cert.Reference17Ideal.Value.run m' ρ')⟩
  obtain ⟨h0, h1, hk⟩ := h c
  obtain ⟨a0, a1, a2, a3⟩ := hag c
  refine ⟨funext fun i => ?_, funext fun i => ?_, hk⟩
  · refine (congrFun (h0.trans (Cert.Reference17Ideal.Read.val_main_v2_eq _ _ _)) i).trans ?_
    rw [a0, a1, a2]
    exact (Ref.y_apply _ _ _ i).trans (array4 m c i).symm
  · refine (congrFun (h1.trans (Cert.Reference17Ideal.Read.val_main_v17_eq _ _ _ _)) i).trans ?_
    rw [a0, a1, a2, a3]
    exact (Ref.normed_apply _ _ _ _ i).trans (array5 m c i).symm

end Cert.FfnOut

end
-- ==== Proof.MixTile.lean ====
module

public import proofs.«01_k».proof.Proof.ChunkValue
public import proofs.«01_k».proof.Proof.Table

/-!
The mixing itself, forwards: what a chunk of 128 rows gives, on all extended reals, from tables of the arguments. No
number need be finite: the kernel and the reference differ by the order of three factors and by how the triangle is cut.
-/

@[expose] public section

set_option maxRecDepth 16384

noncomputable section

namespace Cert.Mix

open Cert.KernelIdeal Cert.KernelIdeal.Gen Idealize.ShloMosaic Idealize.ShloMosaic.TcCoe
open Cert.Gmlp

abbrev half : EReal := Ideal.ofBits .f32 0x3F000000#32
abbrev unit : EReal := Ideal.ofBits .f32 0x3F800000#32
abbrev count : EReal := Ideal.ofBits .f32 0x44400000#32
abbrev small : EReal := Ideal.ofBits .f32 0x358637BD#32

def gel (x : EReal) : EReal := x * (half * (unit + Ideal.erf (x * (((Real.sqrt 2)⁻¹ : ℝ) : EReal))))

/-- The mean of a row, the row less its mean, and the normed row. -/
def mean (z : ℕ → EReal) : EReal := Ideal.div (∑ k : Fin 768, z k.val) count
def cen (z : ℕ → EReal) (k : ℕ) : EReal := z k - mean z
def inv (z : ℕ → EReal) : EReal := Ideal.rsqrt (mean (fun k => cen z k * cen z k) + small)
def nrm (z g b : ℕ → EReal) (k : ℕ) : EReal := cen z k * inv z * g k + b k

section Table

variable (P : ℕ → ℕ → EReal) (G B : ℕ → EReal) (W : ℕ → ℕ → ℕ → EReal) (O : ℕ → ℕ → EReal)

/-- The normed second half of the rows. -/
def rowsN (r c : ℕ) : EReal := nrm (fun k => gel (P r (768 + k))) G B c

/-- Row `t` of chunk `n` at column `c` of head `g`: the chunk's rows up to `t`, mixed. -/
def mixed (n t g c : ℕ) : EReal :=
  (∑ s : Fin 128, (if s.val ≤ t then W g t s.val else 0) * rowsN P G B (128 * n + s.val) (128 * g + c)) + O g t

def out (r c : ℕ) : EReal := gel (P r c) * mixed P G B W O (r / 128) (r % 128) (c / 128) (c % 128)

end Table

section Chunk

theorem gel_at (x : FVec Ideal S128x768 .f32) (j : S128x768.Idx) : Chunk.gelu x j = gel (x j) := by
  show x j * (half * (unit + Ideal.erf (x j * Named.named (F := Ideal) κ "inv_sqrt_2" (φ := .f32) 0x3F3504F3#32))) = _
  rw [named_inv_sqrt_2]
  rfl

theorem mean_at (x : FVec Ideal S128x768 .f32) (j : S128x1.Idx) :
    Chunk.mean x j = Ideal.div (∑ c : Fin 768, x (ix2 (j 0) c)) count := by
  unfold Chunk.mean
  pointwise

theorem cols_at (x : FVec Ideal S128x1 .f32) (j : S128x768.Idx) : Chunk.cols x j = x (ix2 (j 0) 0) := by
  unfold Chunk.cols
  pointwise

theorem rows_at (x : FVec Ideal S1x768 .f32) (j : S128x768.Idx) : Chunk.rows x j = x (ix2 0 (j 1)) := by
  unfold Chunk.rows
  pointwise

variable {z : FVec Ideal S128x768 .f32} {Z : ℕ → ℕ → EReal} (hz : ∀ j, z j = Z (j 0).val (j 1).val)
include hz

theorem mean_eq (j : S128x1.Idx) : Chunk.mean z j = mean (Z (j 0).val) := by
  rw [mean_at, Finset.sum_congr rfl fun c _ => hz (ix2 (j 0) c)]
  rfl

theorem cen_eq (j : S128x768.Idx) : Chunk.cen z j = cen (Z (j 0).val) (j 1).val := by
  show z j - Chunk.cols (Chunk.mean z) j = _
  rw [cols_at, mean_eq hz, hz]
  rfl

theorem inv_eq (j : S128x1.Idx) : Chunk.rs z j = inv (Z (j 0).val) := by
  show Ideal.rsqrt (Chunk.mean (mulf (Chunk.cen z) (Chunk.cen z)) j + small) = _
  exact congrArg (fun a => Ideal.rsqrt (a + small)) (mean_eq (z := mulf (Chunk.cen z) (Chunk.cen z))
    (Z := fun r c => cen (Z r) c * cen (Z r) c) (fun j => congrArg₂ (· * ·) (cen_eq hz j) (cen_eq hz j)) j)

theorem vn_eq {lg lb : FVec Ideal S1x768 .f32} {G B : ℕ → EReal} (hg : ∀ j, lg j = G (j 1).val)
    (hb : ∀ j, lb j = B (j 1).val) (j : S128x768.Idx) : Chunk.vn z lg lb j = nrm (Z (j 0).val) G B (j 1).val := by
  show Chunk.cen z j * Chunk.cols (Chunk.rs z) j * Chunk.rows lg j + Chunk.rows lb j = _
  rw [cols_at, rows_at, rows_at, cen_eq hz, inv_eq hz, hg, hb]
  rfl

end Chunk

/-- One head's columns of a chunk, as the kernel computes them. -/
def head {F : FTy → Type} [FloatOps F] [Named F] (o : ℕ) (h : S128x768.Slices ![0, o] S128x128)
    (u v : FVec F S128x768 .f32) (w b : FVec F S1x128x128 .f32) : FVec F S128x128 .bf16 :=
  truncf .bf16 (mulf (Chunk.head o h u) (Chunk.sv o h v w b)) bitsLt_bf16_f32

section Head

variable (o : ℕ) (h : S128x768.Slices ![0, o] S128x128)

include h in
theorem in_row (c : Fin 128) : o + c.val < 768 := by
  have h1 : o + 128 ≤ 768 := h.2 1
  omega

theorem head_at (x : FVec Ideal S128x768 .f32) (j : S128x128.Idx) :
    Chunk.head o h x j = x (ix2 (j 0) ⟨o + (j 1).val, in_row o h (j 1)⟩) := by
  unfold Chunk.head
  pointwise

theorem wm_at (w : FVec Ideal S1x128x128 .f32) (j : S128x128.Idx) : (Chunk.wm w j : EReal)
    = if (j 1).val ≤ (j 0).val then w (ix3 0 (j 0) (j 1)) else 0 := by
  have e : (Chunk.wm w j : EReal) = Scalar.select (IntOp.cmpi .sge (BitVec.ofNat 32 (j 0).val) (BitVec.ofNat 32 (j 1).val))
      (w (ix3 0 (j 0) (j 1))) 0 := by
    unfold Chunk.wm Chunk.low Chunk.tril
    pointwise
  rw [e, Chunk.select_tril (j 0).isLt (j 1).isLt]

theorem sv_at (v : FVec Ideal S128x768 .f32) (w b : FVec Ideal S1x128x128 .f32) (j : S128x128.Idx) :
    (Chunk.sv o h v w b j : EReal) = (∑ s : Fin 128, Chunk.wm w (ix2 (j 0) s) * Chunk.vnx o h v (ix2 s (j 1)))
      + b (ix3 0 (j 0) (j 1)) := by
  unfold Chunk.sv
  generalize Chunk.wm w = x
  generalize Chunk.vnx o h v = y
  pointwise

variable {P : ℕ → ℕ → EReal} {G B : ℕ → EReal} {W : ℕ → ℕ → ℕ → EReal} {O : ℕ → ℕ → EReal} (n g : ℕ) (ho : o = 128 * g)
  {x y : FVec Ideal S128x768 .f32} {lg lb : FVec Ideal S1x768 .f32} {w b : FVec Ideal S1x128x128 .f32}
  (hx : ∀ j, x j = P (128 * n + (j 0).val) (j 1).val) (hy : ∀ j, y j = P (128 * n + (j 0).val) (768 + (j 1).val))
  (hg : ∀ j, lg j = G (j 1).val) (hb : ∀ j, lb j = B (j 1).val) (hw : ∀ j, w j = W g (j 1).val (j 2).val)
  (hO : ∀ j, b j = O g (j 1).val)

include ho hx hy hg hb hw hO

theorem head_eq (j : S128x128.Idx) : (head o h (Chunk.gelu x) (Chunk.vn (Chunk.gelu y) lg lb) w b j : EReal)
    = out P G B W O (128 * n + (j 0).val) (o + (j 1).val) := by
  have j0 : (j 0).val < 128 := (j 0).isLt
  have j1 : (j 1).val < 128 := (j 1).isLt
  show Chunk.head o h (Chunk.gelu x) j * Chunk.sv o h (Chunk.vn (Chunk.gelu y) lg lb) w b j = _
  rw [head_at, gel_at, hx, sv_at]
  unfold out
  refine congrArg₂ (· * ·) rfl ?_
  rw [show (128 * n + (j 0).val) / 128 = n by omega, show (128 * n + (j 0).val) % 128 = (j 0).val by omega,
    show (o + (j 1).val) / 128 = g by omega, show (o + (j 1).val) % 128 = (j 1).val by omega]
  unfold mixed
  refine congrArg₂ (· + ·) (Finset.sum_congr rfl fun s _ => congrArg₂ (· * ·) ?_ ?_) (hO _)
  · rw [wm_at, hw]
    rfl
  · refine (head_at o h (Chunk.vn (Chunk.gelu y) lg lb) (ix2 s (j 1))).trans ?_
    rw [vn_eq (Z := fun r k => gel (P (128 * n + r) (768 + k))) (fun i => (gel_at y i).trans (congrArg gel (hy i))) hg hb]
    rw [← ho]
    rfl

end Head

end Cert.Mix

end
-- ==== Proof.MixBlocks.lean ====
module

public import proofs.«01_k».proof.Proof.MixTile
public import proofs.«01_k».proof.Proof.Gen.Kernel18Ideal.Value
public import Idealize.ShloMosaic.Lib.Pipeline.ReadBack

/-!
The mixing, block by block: each of the eight points writes the 768 columns of its 512 rows, four chunks of 128 rows by
six heads of 128 columns.
-/

@[expose] public section

set_option maxRecDepth 16384

noncomputable section

namespace Cert.Mix

open Cert.Kernel18Ideal Cert.Kernel18Ideal.Gen Cert.Kernel18Ideal.Value Idealize.ShloMosaic Idealize.ShloMosaic.TcCoe
open Idealize.SL Idealize.SL.Sem Cert.Tab
open Cert.Gmlp (ld_band_is ld_head_is canon_band)

variable (m : (ℓ : Loc nD τ sig) → Buf (Elt Ideal) ℓ) (c : Dev nD) (t : Fin cfg0.N)

/-- The arguments' tables. -/
abbrev tP : ℕ → ℕ → EReal := tab2 (m ((c : Thread nD τ).loc main_arg0) : S4096x1792.Idx → EReal)
abbrev tG : ℕ → EReal := tab2 (m ((c : Thread nD τ).loc main_arg1) : S1x768.Idx → EReal) 0
abbrev tB : ℕ → EReal := tab2 (m ((c : Thread nD τ).loc main_arg2) : S1x768.Idx → EReal) 0
abbrev tW : ℕ → ℕ → ℕ → EReal := tab3 (m ((c : Thread nD τ).loc main_arg3) : S6x128x128.Idx → EReal)
abbrev tO : ℕ → ℕ → EReal := tab2 (m ((c : Thread nD τ).loc main_arg4) : S6x128.Idx → EReal)

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![t.val, 0] := (by decide +kernel : ∀ t : Fin grid0.N, _)

theorem block0 (j : S512x768.Idx) : X0_0 m c t j = tP m c (512 * t.val + (j 0).val) (j 1).val := by
  have e := index0 t
  unfold X0_0 Pipeline.Window.fill
  rw [dif_pos (moved0_0 t j)]
  unfold iblk
  blk_simp
  rw [V_main_arg0]
  refine (eq_tab2 _ _).trans ?_
  blk_simp [e]
  rw [Nat.mul_comm 512]

theorem block1 (j : S512x768.Idx) : X0_1 m c t j = tP m c (512 * t.val + (j 0).val) (768 + (j 1).val) := by
  have e := index1 t
  unfold X0_1 Pipeline.Window.fill
  rw [dif_pos (moved0_1 t j)]
  unfold iblk
  blk_simp
  rw [V_main_arg0]
  refine (eq_tab2 _ _).trans ?_
  blk_simp [e]
  rw [Nat.mul_comm 512]

theorem block2 (j : S1x768.Idx) : iblk m c 2 t j = tG m c (j 1).val := by
  have e := index2 t
  unfold iblk
  blk_simp
  rw [V_main_arg1]
  refine (eq_tab2 _ _).trans ?_
  blk_simp [e]

theorem block3 (j : S1x768.Idx) : iblk m c 3 t j = tB m c (j 1).val := by
  have e := index3 t
  unfold iblk
  blk_simp
  rw [V_main_arg2]
  refine (eq_tab2 _ _).trans ?_
  blk_simp [e]

theorem block4 (j : S6x128x128.Idx) : iblk m c 4 t j = tW m c (j 0).val (j 1).val (j 2).val := by
  have e := index4 t
  unfold iblk
  blk_simp
  rw [V_main_arg3]
  refine (eq_tab3 _ _).trans ?_
  blk_simp [e]

/-- The host's broadcast of the offsets over the chunk's columns. -/
theorem offsets (j : S6x128x128.Idx) : (V m c main_v1 : S6x128x128.Idx → EReal) j = tO m c (j 0).val (j 1).val := by
  have e : (V m c main_v1 : S6x128x128.Idx → EReal) j
      = (m ((c : Thread nD τ).loc main_arg4) : S6x128.Idx → EReal) (ix2 (j 0) (j 1)) := by
    entry_read
    pointwise
  exact e.trans (eq_tab2 _ _)

theorem block5 (j : S6x128x128.Idx) : iblk m c 5 t j = tO m c (j 0).val (j 1).val := by
  have e := index5 t
  unfold iblk
  blk_simp
  refine (offsets m c _).trans ?_
  blk_simp [e]

/-- The 128 rows of a point's blocks that begin at row `o`, and head `g` of the mixing parameters. -/
abbrev FitsRows (o : ℕ) : Prop := ∀ a, (![o, 0] : Fin 2 → ℕ) a + (![128, 768] : Fin 2 → ℕ) a ≤ S512x768.size a
abbrev FitsHead (g : ℕ) : Prop := ∀ a, (![g, 0, 0] : Fin 3 → ℕ) a + (![1, 128, 128] : Fin 3 → ℕ) a ≤ S6x128x128.size a

/-- Head `g`'s columns, from column `q` on, of the chunk that begins at row `o` of a point's block. -/
theorem head_block (o g q : ℕ) (ho : o % 128 = 0) (hq : q = 128 * g) (h : FitsRows o) (hw hb : FitsHead g)
    (hs : S128x768.Slices ![0, q] S128x128) (j : S128x128.Idx) :
    (head (F := Ideal) q hs (Gmlp.Chunk.gelu (View.ld (X0_0 m c t) (Rect.unit ![o, 0] ![128, 768] h)))
      (Gmlp.Chunk.vn (Gmlp.Chunk.gelu (View.ld (X0_1 m c t) (Rect.unit ![o, 0] ![128, 768] h))) (iblk m c 2 t) (iblk m c 3 t))
      (View.ld (iblk m c 4 t) (Rect.unit ![g, 0, 0] ![1, 128, 128] hw))
      (View.ld (iblk m c 5 t) (Rect.unit ![g, 0, 0] ![1, 128, 128] hb)) j : EReal)
    = out (tP m c) (tG m c) (tB m c) (tW m c) (tO m c) (512 * t.val + (o + (j 0).val)) (q + (j 1).val) := by
  have hn : 128 * (4 * t.val + o / 128) = 512 * t.val + o := by omega
  refine (head_eq (P := tP m c) (G := tG m c) (B := tB m c) (W := tW m c) (O := tO m c) q hs (4 * t.val + o / 128) g hq
    (fun i => ?_) (fun i => ?_) (block2 m c t) (block3 m c t) (fun i => ?_) (fun i => ?_) j).trans ?_
  · refine (ld_band_is (Val := Elt Ideal) (e := .f32) (f := fun r k => tP m c (512 * t.val + r) k) o 0 h (block0 m c t) i).trans ?_
    dsimp only
    rw [hn, Nat.add_assoc, Nat.zero_add]
  · refine (ld_band_is (Val := Elt Ideal) (e := .f32) (f := fun r k => tP m c (512 * t.val + r) (768 + k)) o 0 h (block1 m c t) i).trans ?_
    dsimp only
    rw [hn, Nat.add_assoc, Nat.zero_add]
  · exact ld_head_is (Val := Elt Ideal) (e := .f32) (f := fun g r s => tW m c g r s) (block4 m c t) g hw i
  · exact ld_head_is (Val := Elt Ideal) (e := .f32) (f := fun g r _ => tO m c g r) (block5 m c t) g hb i
  · rw [hn, Nat.add_assoc]

/-- Six heads fill a chunk's rows. -/
theorem cover {a b o : ℕ} (hb : b < 768) (h5 : ¬ ((o ≤ a ∧ a < o + 128) ∧ 640 ≤ b ∧ b < 640 + 128))
    (h4 : ¬ ((o ≤ a ∧ a < o + 128) ∧ 512 ≤ b ∧ b < 512 + 128)) (h3 : ¬ ((o ≤ a ∧ a < o + 128) ∧ 384 ≤ b ∧ b < 384 + 128))
    (h2 : ¬ ((o ≤ a ∧ a < o + 128) ∧ 256 ≤ b ∧ b < 256 + 128)) (h1 : ¬ ((o ≤ a ∧ a < o + 128) ∧ 128 ≤ b ∧ b < 128 + 128))
    (h0 : ¬ ((o ≤ a ∧ a < o + 128) ∧ 0 ≤ b ∧ b < 0 + 128)) : ¬ (o ≤ a ∧ a < o + 128) := fun h => by
  omega

/-- What a point writes back. -/
theorem tile (i : S512x768.Idx) : (outsAt0 m c t i : EReal)
    = out (tP m c) (tG m c) (tB m c) (tW m c) (tO m c) (512 * t.val + (i 0).val) (i 1).val := by
  have b0 : (i 0).val < 512 := (i 0).isLt
  have b1 : (i 1).val < 768 := (i 1).isLt
  unfold outsAt0
  frame_out
  let f := fun r k => out (tP m c) (tG m c) (tB m c) (tW m c) (tO m c) (512 * t.val + r) k
  refine canon_band (Val := Elt Ideal) (e := .bf16) (f := f) 384 640 _ (fun j => ?_) _ i fun h35 => ?_
  · exact head_block m c t 384 5 640 rfl rfl _ _ _ _ j
  refine canon_band (Val := Elt Ideal) (e := .bf16) (f := f) 384 512 _ (fun j => ?_) _ i fun h34 => ?_
  · exact head_block m c t 384 4 512 rfl rfl _ _ _ _ j
  refine canon_band (Val := Elt Ideal) (e := .bf16) (f := f) 384 384 _ (fun j => ?_) _ i fun h33 => ?_
  · exact head_block m c t 384 3 384 rfl rfl _ _ _ _ j
  refine canon_band (Val := Elt Ideal) (e := .bf16) (f := f) 384 256 _ (fun j => ?_) _ i fun h32 => ?_
  · exact head_block m c t 384 2 256 rfl rfl _ _ _ _ j
  refine canon_band (Val := Elt Ideal) (e := .bf16) (f := f) 384 128 _ (fun j => ?_) _ i fun h31 => ?_
  · exact head_block m c t 384 1 128 rfl rfl _ _ _ _ j
  refine canon_band (Val := Elt Ideal) (e := .bf16) (f := f) 384 0 _ (fun j => ?_) _ i fun h30 => ?_
  · exact head_block m c t 384 0 0 rfl rfl _ _ _ _ j
  refine canon_band (Val := Elt Ideal) (e := .bf16) (f := f) 256 640 _ (fun j => ?_) _ i fun h25 => ?_
  · exact head_block m c t 256 5 640 rfl rfl _ _ _ _ j
  refine canon_band (Val := Elt Ideal) (e := .bf16) (f := f) 256 512 _ (fun j => ?_) _ i fun h24 => ?_
  · exact head_block m c t 256 4 512 rfl rfl _ _ _ _ j
  refine canon_band (Val := Elt Ideal) (e := .bf16) (f := f) 256 384 _ (fun j => ?_) _ i fun h23 => ?_
  · exact head_block m c t 256 3 384 rfl rfl _ _ _ _ j
  refine canon_band (Val := Elt Ideal) (e := .bf16) (f := f) 256 256 _ (fun j => ?_) _ i fun h22 => ?_
  · exact head_block m c t 256 2 256 rfl rfl _ _ _ _ j
  refine canon_band (Val := Elt Ideal) (e := .bf16) (f := f) 256 128 _ (fun j => ?_) _ i fun h21 => ?_
  · exact head_block m c t 256 1 128 rfl rfl _ _ _ _ j
  refine canon_band (Val := Elt Ideal) (e := .bf16) (f := f) 256 0 _ (fun j => ?_) _ i fun h20 => ?_
  · exact head_block m c t 256 0 0 rfl rfl _ _ _ _ j
  refine canon_band (Val := Elt Ideal) (e := .bf16) (f := f) 128 640 _ (fun j => ?_) _ i fun h15 => ?_
  · exact head_block m c t 128 5 640 rfl rfl _ _ _ _ j
  refine canon_band (Val := Elt Ideal) (e := .bf16) (f := f) 128 512 _ (fun j => ?_) _ i fun h14 => ?_
  · exact head_block m c t 128 4 512 rfl rfl _ _ _ _ j
  refine canon_band (Val := Elt Ideal) (e := .bf16) (f := f) 128 384 _ (fun j => ?_) _ i fun h13 => ?_
  · exact head_block m c t 128 3 384 rfl rfl _ _ _ _ j
  refine canon_band (Val := Elt Ideal) (e := .bf16) (f := f) 128 256 _ (fun j => ?_) _ i fun h12 => ?_
  · exact head_block m c t 128 2 256 rfl rfl _ _ _ _ j
  refine canon_band (Val := Elt Ideal) (e := .bf16) (f := f) 128 128 _ (fun j => ?_) _ i fun h11 => ?_
  · exact head_block m c t 128 1 128 rfl rfl _ _ _ _ j
  refine canon_band (Val := Elt Ideal) (e := .bf16) (f := f) 128 0 _ (fun j => ?_) _ i fun h10 => ?_
  · exact head_block m c t 128 0 0 rfl rfl _ _ _ _ j
  refine canon_band (Val := Elt Ideal) (e := .bf16) (f := f) 0 640 _ (fun j => ?_) _ i fun h05 => ?_
  · exact head_block m c t 0 5 640 rfl rfl _ _ _ _ j
  refine canon_band (Val := Elt Ideal) (e := .bf16) (f := f) 0 512 _ (fun j => ?_) _ i fun h04 => ?_
  · exact head_block m c t 0 4 512 rfl rfl _ _ _ _ j
  refine canon_band (Val := Elt Ideal) (e := .bf16) (f := f) 0 384 _ (fun j => ?_) _ i fun h03 => ?_
  · exact head_block m c t 0 3 384 rfl rfl _ _ _ _ j
  refine canon_band (Val := Elt Ideal) (e := .bf16) (f := f) 0 256 _ (fun j => ?_) _ i fun h02 => ?_
  · exact head_block m c t 0 2 256 rfl rfl _ _ _ _ j
  refine canon_band (Val := Elt Ideal) (e := .bf16) (f := f) 0 128 _ (fun j => ?_) _ i fun h01 => ?_
  · exact head_block m c t 0 1 128 rfl rfl _ _ _ _ j
  refine canon_band (Val := Elt Ideal) (e := .bf16) (f := f) 0 0 _ (fun j => ?_) _ i fun h00 => ?_
  · exact head_block m c t 0 0 0 rfl rfl _ _ _ _ j
  have c0 := cover b1 h05 h04 h03 h02 h01 h00
  have c1 := cover b1 h15 h14 h13 h12 h11 h10
  have c2 := cover b1 h25 h24 h23 h22 h21 h20
  have c3 := cover b1 h35 h34 h33 h32 h31 h30
  exact absurd b0 (by omega)

theorem xsize6 : ∀ t : Fin cfg0.N, win0_6.xsize (grid0.coords t) = ![512, 768] := (by decide +kernel : ∀ t : Fin grid0.N, _)

/-- The array the kernel leaves, in the mixing's columns. -/
theorem array (i : S4096x1024.Idx) (hi : (i 1).val < 768) : ((dats m 0 c).arrAt 6 cfg0.N i : EReal)
    = out (tP m c) (tG m c) (tB m c) (tW m c) (tO m c) (i 0).val (i 1).val := by
  have hN : cfg0.N = 8 := rfl
  have h0 : (i 0).val < 4096 := (i 0).isLt
  obtain ⟨t, ht⟩ : ∃ t : Fin cfg0.N, t.val = (i 0).val / 512 := ⟨⟨(i 0).val / 512, by omega⟩, rfl⟩
  have e := index6 t
  have hm : i ∈ ((cfg0.win 6).blk t).view.set := by
    have x0 : win0_6.xsize (grid0.coords t) 0 = 512 := congrFun (xsize6 t) 0
    have x1 : win0_6.xsize (grid0.coords t) 1 = 768 := congrFun (xsize6 t) 1
    mem_blk [e]
    omega
  obtain ⟨y, rfl⟩ := View.exists_emb_of_mem_set _ hm
  refine (Pipeline.Dat.arrAt_emb_eq_flushed _ 6 disjoint6 t (flush0_6 t) y).trans ?_
  rw [flushed6]
  have T := tile m c t
  generalize outsAt0 m c t = z at T ⊢
  refine (T _).trans ?_
  blk_simp [e]
  rw [Nat.mul_comm 512]

end Cert.Mix

end
-- ==== Proof.MixValue.lean ====
module

public import proofs.«01_k».proof.Defs
public import proofs.«01_k».proof.Proof.MixBlocks
public import proofs.«01_k».proof.Proof.RefMix
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import Idealize.ShloMosaic.Lib.KernelVsHost
public import Idealize.ShloMosaic.Lib.WordCmp

/-!
The mixing's value claim: the reference's array holds the same numbers as the kernel's in the columns of the mixing. No
argument need be finite.
-/

@[expose] public section

set_option maxRecDepth 16384

noncomputable section

namespace Cert.Mix

open Idealize.ShloMosaic Idealize.ShloMosaic.TcCoe Idealize.SL.Sem Cert.Tab

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run (F := Ideal) m ρ)

instance written_facts : Cert.On_written_fwd.Facts := by constructor <;> decide

section Ref

open Cert.Reference18Ideal Cert.Reference18Ideal.Gen Cert.Reference18Ideal.Read

variable (x0 : S4096x1792.Idx → EReal) (x1 x2 : S1x768.Idx → EReal) (x3 : S6x128x128.Idx → EReal) (x4 : S6x128.Idx → EReal)

/-- The reference divides by the root of two and multiplies in another order. -/
theorem gel_ref (x : EReal) : half * x * (unit + Ideal.erf (Ideal.div x (Ideal.sqrt (Ideal.ofBits .f32 0x40000000#32)))) = gel x := by
  rw [Gmlp.ofBits_two, Gmlp.sqrt_coe_nonneg _ (by norm_num), Ideal.div_coe Gmlp.sqrt_two_ne, one_div]
  unfold gel
  rw [mul_comm half x, mul_assoc]

theorem v12_eq (i : S1x4096x1536.Idx) : (val_main_v12 (F := Ideal) x0 i : EReal) = gel (tab2 x0 (i 1).val (i 2).val) := by
  have e : (val_main_v1 (F := Ideal) x0 i : EReal) = tab2 x0 (i 1).val (i 2).val :=
    (val_main_v1_apply (F := Ideal) x0 i).trans ((val_main_v0_apply (F := Ideal) x0 _).trans (eq_tab2 x0 _))
  rw [← gel_ref, ← e]
  show (val_main_v4 (F := Ideal) i : EReal) * val_main_v1 (F := Ideal) x0 i * (val_main_v10 (F := Ideal) i
    + Ideal.erf (Ideal.div (val_main_v1 (F := Ideal) x0 i) (val_main_v7 (F := Ideal) i))) = _
  rw [val_main_v4_apply, val_main_v10_apply, val_main_v7_apply]
  rfl

/-- The gate, and the rows that are normed. -/
theorem v13_eq (i : S1x4096x768.Idx) : (val_main_v13 (F := Ideal) x0 i : EReal) = gel (tab2 x0 (i 1).val (i 2).val) :=
  (val_main_v13_apply (F := Ideal) x0 i).trans (v12_eq x0 _)

abbrev row (r : ℕ) : ℕ → EReal := fun k => gel (tab2 x0 r (768 + k))

theorem v14_eq (i : S1x4096x768.Idx) : (val_main_v14 (F := Ideal) x0 i : EReal) = row x0 (i 1).val (i 2).val :=
  (val_main_v14_apply (F := Ideal) x0 i).trans (v12_eq x0 _)

theorem zero_add_word (a : EReal) : Ideal.ofBits .f32 0x00000000#32 + a = a := by
  rw [Gmlp.ofBits_zero, EReal.coe_zero, zero_add]

theorem v18_eq (i : S1x4096x1.Idx) : (val_main_v18 (F := Ideal) x0 i : EReal) = mean (row x0 (i 1).val) := by
  show Ideal.div (val_main_v16 (F := Ideal) x0 i) (val_main_v17 (F := Ideal) i) = _
  rw [val_main_v16_apply, val_main_v17_apply, val_main_v15_apply]
  refine congrArg (fun a => Ideal.div a count) ?_
  exact (zero_add_word _).trans (Finset.sum_congr rfl fun k _ => v14_eq x0 _)

theorem v20_eq (i : S1x4096x768.Idx) : (val_main_v20 (F := Ideal) x0 i : EReal) = cen (row x0 (i 1).val) (i 2).val := by
  show (val_main_v14 (F := Ideal) x0 i : EReal) - val_main_v19 (F := Ideal) x0 i = _
  rw [val_main_v19_apply, v14_eq, v18_eq]
  rfl

theorem v27_eq (i : S1x4096x768.Idx) : (val_main_v27 (F := Ideal) x0 i : EReal) = cen (row x0 (i 1).val) (i 2).val := by
  show (val_main_v14 (F := Ideal) x0 i : EReal) - val_main_v26 (F := Ideal) x0 i = _
  rw [val_main_v26_apply, v14_eq, v18_eq]
  rfl

theorem v30_eq (i : S1x4096x1.Idx) : (val_main_v30 (F := Ideal) x0 i : EReal) = inv (row x0 (i 1).val) := by
  show Ideal.rsqrt (Ideal.div (val_main_v23 (F := Ideal) x0 i) (val_main_v24 (F := Ideal) i) + val_main_v28 (F := Ideal) i) = _
  rw [val_main_v23_apply, val_main_v24_apply, val_main_v28_apply, val_main_v22_apply]
  refine congrArg (fun a => Ideal.rsqrt (Ideal.div a count + small)) ?_
  exact (zero_add_word _).trans (Finset.sum_congr rfl fun k _ => congrArg₂ (· * ·) (v20_eq x0 _) (v20_eq x0 _))

theorem row_eq (x : S1x768.Idx → EReal) (i : S1x768.Idx) {k : ℕ} (h : (i 1).val = k) : x i = tab2 x 0 k := by
  have h0 : (i 0).val < 1 := (i 0).isLt
  rw [eq_tab2 x i, h, show (i 0).val = 0 by omega]

theorem v34_eq (i : S1x4096x768.Idx) : (val_main_v34 (F := Ideal) x1 i : EReal) = tab2 x1 0 (i 2).val :=
  (val_main_v34_apply (F := Ideal) x1 i).trans ((val_main_v33_apply (F := Ideal) x1 _).trans
    ((val_main_v2_apply (F := Ideal) x1 _).trans (row_eq x1 _ (Nat.mod_eq_of_lt (i 2).isLt))))

theorem v37_eq (i : S1x4096x768.Idx) : (val_main_v37 (F := Ideal) x2 i : EReal) = tab2 x2 0 (i 2).val :=
  (val_main_v37_apply (F := Ideal) x2 i).trans ((val_main_v36_apply (F := Ideal) x2 _).trans
    ((val_main_v3_apply (F := Ideal) x2 _).trans (row_eq x2 _ (Nat.mod_eq_of_lt (i 2).isLt))))

theorem v38_eq (i : S1x4096x768.Idx) : (val_main_v38 (F := Ideal) x0 x1 x2 i : EReal)
    = rowsN (tab2 x0) (tab2 x1 0) (tab2 x2 0) (i 1).val (i 2).val := by
  show (val_main_v27 (F := Ideal) x0 i : EReal) * val_main_v31 (F := Ideal) x0 i * val_main_v34 (F := Ideal) x1 i
    + val_main_v37 (F := Ideal) x2 i = _
  rw [val_main_v31_apply, v27_eq, v30_eq, v34_eq, v37_eq]
  rfl

theorem v39_eq (i : S1x32x128x6x128.Idx) : (val_main_v39 (F := Ideal) x0 x1 x2 i : EReal)
    = rowsN (tab2 x0) (tab2 x1 0) (tab2 x2 0) (128 * (i 1).val + (i 2).val) (128 * (i 3).val + (i 4).val) :=
  (val_main_v39_apply (F := Ideal) x0 x1 x2 i).trans ((v38_eq x0 x1 x2 _).trans (congrArg₂ (rowsN _ _ _)
    (Gmlp.chunk_row (i 0).isLt (i 1).isLt (i 2).isLt (i 3).isLt (i 4).isLt)
    (Gmlp.chunk_col (i 0).isLt (i 1).isLt (i 2).isLt (i 3).isLt (i 4).isLt)))

/-- The triangle of ones, and the weights cut by it. -/
theorem v41_eq (i : S128x128.Idx) : (val_main_v41 (F := Ideal) i : EReal) = if (i 1).val ≤ (i 0).val then 1 else 0 := by
  have e : (val_main_v41 (F := Ideal) i : EReal) =
      Scalar.select (IntOp.cmpi .sge (BitVec.ofNat 32 (i 0).val) (BitVec.ofNat 32 (i 1).val)) unit
        (Ideal.ofBits .f32 0x00000000#32) := by
    rw [val_main_v41_apply, val_main_call0_v4_apply, val_main_call0_v2_apply, val_main_call0_v1_apply,
      val_main_call0_c_apply, val_main_call0_v0_apply, val_main_call0_v3_apply, val_main_v40_apply,
      val_main_call0_v5_apply]
    unfold IntOp.addi
    rw [BitVec.add_zero]
    rfl
  rw [e, Gmlp.Chunk.select_tril (i 0).isLt (i 1).isLt, unit, Gmlp.ofBits_one, Gmlp.ofBits_zero]
  rfl

theorem v44_eq (i : S6x128x128.Idx) : (val_main_v44 (F := Ideal) x3 i : EReal)
    = if (i 2).val ≤ (i 1).val then tab3 x3 (i 0).val (i 1).val (i 2).val else 0 := by
  show x3 i * (val_main_v43 (F := Ideal) i : EReal) = _
  rw [val_main_v43_apply, val_main_v42_apply, v41_eq, eq_tab3 x3 i]
  show _ * (if (i 2).val ≤ (i 1).val then (1 : EReal) else 0) = _
  split
  · rw [mul_one]
  · rw [mul_zero]

theorem v49_eq (i : S1x32x128x6x128.Idx) : (val_main_v49 (F := Ideal) x4 i : EReal) = tab2 x4 (i 3).val (i 2).val :=
  (val_main_v49_apply (F := Ideal) x4 i).trans ((val_main_v48_apply (F := Ideal) x4 _).trans
    ((val_main_v47_apply (F := Ideal) x4 _).trans (eq_tab2 x4 _)))

abbrev mixedX := mixed (tab2 x0) (tab2 x1 0) (tab2 x2 0) (tab3 x3) (tab2 x4)

theorem v50_eq (i : S1x32x128x6x128.Idx) : (val_main_v50 (F := Ideal) x0 x1 x2 x3 x4 i : EReal)
    = mixedX x0 x1 x2 x3 x4 (i 1).val (i 2).val (i 3).val (i 4).val := by
  show (val_main_v46 (F := Ideal) x0 x1 x2 x3 i : EReal) + val_main_v49 (F := Ideal) x4 i = _
  rw [val_main_v46_apply, val_main_v45_apply, v49_eq]
  refine congrArg (· + _) (Finset.sum_congr rfl fun s _ => ?_)
  rw [v39_eq, v44_eq, mul_comm]

theorem v51_eq (i : S1x4096x768.Idx) : (val_main_v51 (F := Ideal) x0 x1 x2 x3 x4 i : EReal)
    = mixedX x0 x1 x2 x3 x4 ((i 1).val / 128) ((i 1).val % 128) ((i 2).val / 128) ((i 2).val % 128) := by
  rw [val_main_v51_apply, v50_eq]
  exact congr (congr (congr (congrArg _ (Gmlp.row_chunk (i 0).isLt (i 1).isLt (i 2).isLt))
    (Gmlp.row_row (i 0).isLt (i 1).isLt (i 2).isLt)) (Gmlp.row_head (i 0).isLt (i 1).isLt (i 2).isLt))
    (Gmlp.row_col (i 0).isLt (i 1).isLt (i 2).isLt)

theorem v52_eq (i : S1x4096x768.Idx) : (val_main_v52 (F := Ideal) x0 x1 x2 x3 x4 i : EReal)
    = out (tab2 x0) (tab2 x1 0) (tab2 x2 0) (tab3 x3) (tab2 x4) (i 1).val (i 2).val :=
  congrArg₂ (· * ·) (v13_eq x0 i) (v51_eq x0 x1 x2 x3 x4 i)

/-- The first 768 columns of the result. -/
theorem v55_eq (i : S4096x1024.Idx) (hi : (i 1).val < 768) : (val_main_v55 (F := Ideal) x0 x1 x2 x3 x4 i : EReal)
    = out (tab2 x0) (tab2 x1 0) (tab2 x2 0) (tab3 x3) (tab2 x4) (i 0).val (i 1).val := by
  have b0 : (i 0).val < 4096 := (i 0).isLt
  have e : (val_main_v55 (F := Ideal) x0 x1 x2 x3 x4 i : EReal)
      = val_main_v53 (F := Ideal) x0 x1 x2 x3 x4 (ValueIdx.ix2 ⟨(i 0).val, b0⟩ ⟨(i 1).val, hi⟩) := by
    refine pad_apply_of_inside (t := S4096x1024) ![0, 0] ![0, 256] ![0, 0] (val_main_v53 (F := Ideal) x0 x1 x2 x3 x4)
      (val_main_call1_v0 (F := Ideal)) pads_S4096x768_S4096x1024_000_02560 h_S_ i _ fun a => ?_
    match a with
    | ⟨0, _⟩ => show (i 0).val = 0 + (i 0).val * (0 + 1); omega
    | ⟨1, _⟩ => show (i 1).val = 0 + (i 1).val * (0 + 1); omega
  rw [e, val_main_v53_apply, v52_eq]
  refine congrArg₂ (out _ _ _ _ _) ?_ ?_
  · show ((i 0).val * 768 + (i 1).val) / 768 % 4096 = (i 0).val
    omega
  · show ((i 0).val * 768 + (i 1).val) % 768 = (i 1).val
    omega

end Ref

/-- The result is claimed on its first 768 columns. -/
theorem written_col {x0 : Cert.On_written_fwd.S4096x1792.Idx → EReal} {x1 x2 : Cert.On_written_fwd.S1x768.Idx → EReal}
    {x3 : Cert.On_written_fwd.S6x128x128.Idx → EReal} {x4 : Cert.On_written_fwd.S6x128.Idx → EReal}
    {i : Cert.On_written_fwd.S4096x1024.Idx} (h : Cert.On_written_fwd.fn (F := Ideal) x0 x1 x2 x3 x4 i = 1#1) :
    (i 1).val < 768 := by
  have e : IntOp.cmpi .slt (BitVec.ofNat 32 (i 1).val) (BitVec.ofNat 32 768) = 1#1 := h
  have h1 : (i 1).val < 1024 := (i 1).isLt
  exact (WordCmp.cmpi_slt_ofNat_eq_one_iff (by omega) (by omega)).1 e

theorem preserves : Cert.preserves_Kernel18_Kernel18Ideal :=
  IdealRules.named_const.statement Cert.Kernel18Ideal.κ "inv_sqrt_2" .f32 0x3F3504F3#32 (((Real.sqrt 2)⁻¹ : ℝ) : EReal) rfl

/-- The kernel's array is the reference's, in the mixing's columns. -/
theorem algebraic : Cert.algebraic_Kernel18Ideal_Reference18Ideal_on_written_fwd := by
  intro m ρ m' ρ' _ hag
  refine ⟨fun c => (Cert.Kernel18Ideal.Gen.dats m 0 c).arrAt 6 Cert.Kernel18Ideal.cfg0.N,
    (θ_run _ _ _).mono (fun r h c => ?_) (Cert.Kernel18Ideal.Value.run_blocks m ρ),
    (θ_run _ _ _).mono (fun r h c => ?_) (Cert.Reference18Ideal.Value.run m' ρ')⟩
  · obtain ⟨h0, hk⟩ := h c
    exact ⟨fun i _ => congrFun h0 i, hk⟩
  · obtain ⟨h0, hk⟩ := h c
    obtain ⟨a0, a1, a2, a3, a4⟩ := hag c
    refine ⟨fun i hi => ?_, hk⟩
    have hc := written_col hi
    refine (congrFun (h0.trans (Cert.Reference18Ideal.Read.val_main_v55_eq _ _)) i).trans ?_
    rw [a0, a1, a2, a3, a4]
    exact (v55_eq _ _ _ _ _ i hc).trans (array m c i hc).symm

end Cert.Mix

end
-- ==== Proof.AttnFwdBlocks.lean ====
module

public import proofs.«01_k».proof.Proof.AttnTile
public import proofs.«01_k».proof.Proof.Gen.Kernel19Ideal.Value
public import Idealize.ShloMosaic.Lib.Pipeline.ReadBack

/-!
The attention, block by block: each of the two points writes the attention's columns of its 2048 rows. The kernel adds the four
heads up; in a column of one head the masked values of the others are zeros, and so are their contributions.
-/

@[expose] public section

set_option maxRecDepth 16384

noncomputable section

namespace Cert.AttnFwd

open Cert.Kernel19Ideal Cert.Kernel19Ideal.Gen Cert.Kernel19Ideal.Value Idealize.ShloMosaic Idealize.ShloMosaic.TcCoe
open Idealize.SL Idealize.SL.Sem Cert.Tab
open Cert.Attn (Mask raw rawProb rawProb_eq column prob heads)

/-- Column `c` of the output at row `r`: the values under the probabilities of the column's head. -/
def mix (Q K V : ℕ → ℕ → EReal) (r c : ℕ) : EReal := ∑ x : Fin 256, prob Q K (c / 64) r x.val * V x.val c

/-- The masks of the four heads. -/
def M0 : IVec S1x256 1 :=
  andi (cmpi .sge (iota .tc S1x256 32 [1] iota_S1x256_d1_w32) (broadcast S1x256 0#32))
    (cmpi .slt (iota .tc S1x256 32 [1] iota_S1x256_d1_w32) (broadcast S1x256 64#32))

def M1 : IVec S1x256 1 := andi k0_pay3 k0_pay4

def M3 : IVec S1x256 1 :=
  andi (cmpi .sge (iota .tc S1x256 32 [1] iota_S1x256_d1_w32) (broadcast S1x256 192#32))
    (cmpi .slt (iota .tc S1x256 32 [1] iota_S1x256_d1_w32) (broadcast S1x256 256#32))

theorem mask0 : Mask M0 0 := by
  intro x
  unfold M0
  pointwise
  revert x
  decide +kernel

theorem mask1 : Mask M1 1 := by
  intro x
  unfold M1 k0_pay3 k0_pay4
  pointwise
  revert x
  decide +kernel

theorem mask2 : Mask k0_pay6 2 := by
  intro x
  unfold k0_pay6
  pointwise
  revert x
  decide +kernel

theorem mask3 : Mask M3 3 := by
  intro x
  unfold M3
  pointwise
  revert x
  decide +kernel

theorem entry_first (x : Fin 256) : M0 (ix2 0 x)
    = IntOp.andi (IntOp.cmpi .sge (BitVec.ofNat 32 x.val) 0#32) (IntOp.cmpi .slt (BitVec.ofNat 32 x.val) 64#32) := by
  unfold M0
  pointwise

theorem entry_last (x : Fin 256) : M3 (ix2 0 x)
    = IntOp.andi (IntOp.cmpi .sge (BitVec.ofNat 32 x.val) 192#32) (IntOp.cmpi .slt (BitVec.ofNat 32 x.val) 256#32) := by
  unfold M3
  pointwise

/-- One head's contribution, from blocks. -/
def add (M : IVec S1x256 1) (q : S2048x256.Idx → EReal) (k v : S256x256.Idx → EReal) (i : S2048x256.Idx) : EReal :=
  ∑ x : Fin 256, Scalar.select (M (ix2 0 (i 1))) (rawProb M q k (i 0) x * v (ix2 x (i 1))) 0

section Pay

variable {q : Vec Ideal S2048x256 .f32} {k v : Vec Ideal S256x256 .f32} {z : FVec Ideal S2048x256 .f32}

theorem pay2 (i : S2048x256.Idx) : (k0_pay2 q k v i : EReal) = 0 + add M0 q k v i := by
  unfold k0_pay2 k0_pay1 add rawProb raw
  have e : M0 (ix2 0 (i 1)) = _ := entry_first (i 1)
  simp only [entry_first, e]
  pointwise

theorem pay5 (i : S2048x256.Idx) : (k0_pay5 q (k0_pay1 k) v z k0_pay3 k0_pay4 i : EReal) = z i + add M1 q k v i := by
  unfold k0_pay5 k0_pay1
  pointwise
  rfl

theorem pay9 (i : S2048x256.Idx) :
    (k0_pay9 q (k0_pay1 k) v z k0_pay6 (k0_pay7 q (k0_pay1 k)) (k0_pay8 q (k0_pay1 k)) i : EReal)
      = z i + add k0_pay6 q k v i + add M3 q k v i := by
  unfold k0_pay9 k0_pay8 k0_pay7 k0_pay1
  generalize k0_pay6 = M
  unfold add rawProb raw
  have e : M3 (ix2 0 (i 1)) = _ := entry_last (i 1)
  simp only [entry_last, e]
  pointwise

variable {Q K V : ℕ → ℕ → EReal} {R : ℕ} (hq : ∀ j, q j = Q (R + (j 0).val) (j 1).val)
  (hk : ∀ j, k j = K (j 0).val (j 1).val) (hv : ∀ j, v j = V (j 0).val (j 1).val)

include hq hk hv in
theorem add_eq {M : IVec S1x256 1} {h : ℕ} (hM : Mask M h) (hh : h < 4) (i : S2048x256.Idx) :
    add M q k v i = if (i 1).val / 64 = h then ∑ x : Fin 256, prob Q K h (R + (i 0).val) x.val * V x.val (i 1).val else 0 := by
  unfold add
  by_cases hx : (i 1).val / 64 = h
  · rw [if_pos hx]
    refine Finset.sum_congr rfl fun x _ => ?_
    exact (column hM (i 1) _).trans ((if_pos hx).trans (congrArg₂ (· * ·) (rawProb_eq hM hh hq hk _ _) (hv _)))
  · rw [if_neg hx]
    exact Finset.sum_eq_zero fun x _ => (column hM (i 1) _).trans (if_neg hx)

include hq hk hv in
theorem all (i : S2048x256.Idx) :
    (k0_pay9 q (k0_pay1 k) v (k0_pay5 q (k0_pay1 k) v (k0_pay2 q k v) k0_pay3 k0_pay4) k0_pay6 (k0_pay7 q (k0_pay1 k))
      (k0_pay8 q (k0_pay1 k)) i : EReal) = mix Q K V (R + (i 0).val) (i 1).val := by
  rw [pay9, pay5, pay2, add_eq hq hk hv mask0 (by decide), add_eq hq hk hv mask1 (by decide), add_eq hq hk hv mask2 (by decide),
    add_eq hq hk hv mask3 (by decide)]
  refine (heads 0 (fun h => ∑ x : Fin 256, prob Q K h (R + (i 0).val) x.val * V x.val (i 1).val) (i 1).isLt).trans ?_
  exact zero_add _

end Pay

variable (m : (ℓ : Loc nD τ sig) → Buf (Elt Ideal) ℓ) (c : Dev nD) (t : Fin cfg0.N)

abbrev P : ℕ → ℕ → EReal := tab2 (m ((c : Thread nD τ).loc main_arg0) : S4096x1792.Idx → EReal)
abbrev KV : ℕ → ℕ → EReal := tab2 (m ((c : Thread nD τ).loc main_arg1) : S256x512.Idx → EReal)

/-- The queries, keys and values: columns of the arguments. -/
def qs (r s : ℕ) : EReal := P m c r (1536 + s)
def ks (r s : ℕ) : EReal := KV m c r s
def vs (r s : ℕ) : EReal := KV m c r (256 + s)

theorem index0 : ∀ t : Fin cfg0.N, win0_0.index t = ![t.val, 6] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 1] := (by decide +kernel : ∀ t : Fin grid0.N, _)
theorem index3 : ∀ t : Fin cfg0.N, win0_3.index t = ![t.val, 3] := (by decide +kernel : ∀ t : Fin grid0.N, _)

theorem block0 (j : S2048x256.Idx) : iblk m c 0 t j = qs m c (2048 * t.val + (j 0).val) (j 1).val := by
  have e := index0 t
  unfold iblk
  blk_simp
  rw [V_main_arg0]
  refine (eq_tab2 _ _).trans ?_
  blk_simp [e]
  rw [Nat.mul_comm 2048]
  rfl

theorem block1 (j : S256x256.Idx) : iblk m c 1 t j = ks m c (j 0).val (j 1).val := by
  have e := index1 t
  unfold iblk
  blk_simp
  rw [V_main_arg1]
  refine (eq_tab2 _ _).trans ?_
  blk_simp [e]
  rfl

theorem block2 (j : S256x256.Idx) : iblk m c 2 t j = vs m c (j 0).val (j 1).val := by
  have e := index2 t
  unfold iblk
  blk_simp
  rw [V_main_arg1]
  refine (eq_tab2 _ _).trans ?_
  blk_simp [e]
  rfl

/-- What a point writes back. -/
theorem tile (i : S2048x256.Idx) : (outsAt0 m c t i : EReal)
    = mix (qs m c) (ks m c) (vs m c) (2048 * t.val + (i 0).val) (i 1).val := by
  unfold outsAt0
  frame_out
  exact all (block0 m c t) (block1 m c t) (block2 m c t) i

/-- The attention's columns of the whole array. -/
theorem array (i : S4096x1024.Idx) (hi : 768 ≤ (i 1).val) : ((dats m 0 c).arrAt 3 cfg0.N i : EReal)
    = mix (qs m c) (ks m c) (vs m c) (i 0).val ((i 1).val - 768) := by
  have hN : cfg0.N = 2 := rfl
  have h0 : (i 0).val < 4096 := (i 0).isLt
  have h1 : (i 1).val < 1024 := (i 1).isLt
  obtain ⟨t, ht⟩ : ∃ t : Fin cfg0.N, t.val = (i 0).val / 2048 := ⟨⟨(i 0).val / 2048, by omega⟩, rfl⟩
  have e := index3 t
  have hm : i ∈ ((cfg0.win 3).blk t).view.set := by
    mem_blk [e]
    omega
  obtain ⟨y, rfl⟩ := View.exists_emb_of_mem_set _ hm
  refine (Pipeline.Dat.arrAt_emb_eq_flushed _ 3 disjoint3 t (flush0_3 t) y).trans ?_
  rw [flushed3]
  have T := tile m c t
  generalize outsAt0 m c t = z at T ⊢
  refine (T _).trans ?_
  blk_simp [e]
  rw [Nat.mul_comm 2048, show 3 * 256 + (y 1).val - 768 = (y 1).val by omega]

/-- The other columns stay as they came. -/
theorem rest (i : S4096x1024.Idx) (hi : (i 1).val < 768) : ((dats m 0 c).arrAt 3 cfg0.N i : EReal)
    = (m ((c : Thread nD τ).loc main_arg2) : S4096x1024.Idx → EReal) i := by
  refine (entry3 m c i fun t _ => ?_).trans ?_
  · have e := index3 t
    mem_blk [e]
    omega
  · show (V m c main_v0 : S4096x1024.Idx → EReal) i = _
    entry_read
    rfl

end Cert.AttnFwd

end
-- ==== Proof.AttnFwdValue.lean ====
module

public import proofs.«01_k».proof.Defs
public import proofs.«01_k».proof.Proof.AttnFwdBlocks
public import proofs.«01_k».proof.Proof.AttnReal
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import Idealize.ShloMosaic.Init

/-!
The attention's forward pass: the kernel's array and the reference's hold the same numbers on all arguments, and the three
programs leave their arguments as they found them.
-/

@[expose] public section

set_option maxRecDepth 16384

noncomputable section

namespace Cert.AttnFwd

open Idealize.ShloMosaic Idealize.ShloMosaic.TcCoe Idealize.SL.Sem Cert.Tab

theorem frame_p : Cert.quiescent_Kernel19 := fun m ρ _ => Cert.Kernel19.Gen.frame m ρ

theorem frame_pi : Cert.quiescent_Kernel19Ideal := fun m ρ _ => Cert.Kernel19Ideal.Gen.frame m ρ

theorem frame_ri : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run (F := Ideal) m ρ)

namespace Ref

open Cert.Reference19Ideal Cert.Reference19Ideal.Read
open Cert.Attn (score top ex tot prob eighth max_fold)

variable (x0 : (⟨S4096x1792, .f32⟩ : BufTy).Contents (Elt Ideal)) (x1 : (⟨S256x512, .f32⟩ : BufTy).Contents (Elt Ideal))
  (x2 : (⟨S4096x1024, .bf16⟩ : BufTy).Contents (Elt Ideal))

def qx (r s : ℕ) : EReal := tab2 x0 r (1536 + s)
def kx (r s : ℕ) : EReal := tab2 x1 r s
def vx (r s : ℕ) : EReal := tab2 x1 r (256 + s)

theorem zero_word : (FloatOps.ofBits (F := Ideal) .f32 0x00000000#32 : EReal) = 0 :=
  Cert.Gmlp.ofBits_zero.trans EReal.coe_zero

theorem q_apply (i : S1x4096x4x64.Idx) :
    (val_main_v5 (F := Ideal) x0 i : EReal) = qx x0 (i 1).val (64 * (i 2).val + (i 3).val) := by
  have h0 : (i 0).val < 1 := (i 0).isLt
  have h1 : (i 1).val < 4096 := (i 1).isLt
  have h2 : (i 2).val < 4 := (i 2).isLt
  have h3 : (i 3).val < 64 := (i 3).isLt
  rw [val_main_v5_apply, val_main_v4_apply, val_main_v3_apply]
  refine (eq_tab2 x0 _).trans (congrArg₂ (tab2 x0) ?_ ?_)
  · show ((((i 0).val * 4096 + (i 1).val) * 4 + (i 2).val) * 64 + (i 3).val) / 256 % 4096 = (i 1).val
    omega
  · show 1536 + ((((i 0).val * 4096 + (i 1).val) * 4 + (i 2).val) * 64 + (i 3).val) % 256 = 1536 + (64 * (i 2).val + (i 3).val)
    omega

theorem k_apply (i : S1x256x4x64.Idx) :
    (val_main_v6 (F := Ideal) x1 i : EReal) = kx x1 (i 1).val (64 * (i 2).val + (i 3).val) := by
  have h0 : (i 0).val < 1 := (i 0).isLt
  have h1 : (i 1).val < 256 := (i 1).isLt
  have h2 : (i 2).val < 4 := (i 2).isLt
  have h3 : (i 3).val < 64 := (i 3).isLt
  rw [val_main_v6_apply, val_main_v1_apply, val_main_v0_apply]
  refine (eq_tab2 x1 _).trans (congrArg₂ (tab2 x1) ?_ ?_)
  · show ((((i 0).val * 256 + (i 1).val) * 4 + (i 2).val) * 64 + (i 3).val) / 256 % 256 = (i 1).val
    omega
  · show ((((i 0).val * 256 + (i 1).val) * 4 + (i 2).val) * 64 + (i 3).val) % 256 = 64 * (i 2).val + (i 3).val
    omega

theorem v_apply (i : S1x256x4x64.Idx) :
    (val_main_v7 (F := Ideal) x1 i : EReal) = vx x1 (i 1).val (64 * (i 2).val + (i 3).val) := by
  have h0 : (i 0).val < 1 := (i 0).isLt
  have h1 : (i 1).val < 256 := (i 1).isLt
  have h2 : (i 2).val < 4 := (i 2).isLt
  have h3 : (i 3).val < 64 := (i 3).isLt
  rw [val_main_v7_apply, val_main_v2_apply, val_main_v0_apply]
  refine (eq_tab2 x1 _).trans (congrArg₂ (tab2 x1) ?_ ?_)
  · show ((((i 0).val * 256 + (i 1).val) * 4 + (i 2).val) * 64 + (i 3).val) / 256 % 256 = (i 1).val
    omega
  · show 256 + ((((i 0).val * 256 + (i 1).val) * 4 + (i 2).val) * 64 + (i 3).val) % 256 = 256 + (64 * (i 2).val + (i 3).val)
    omega

theorem score_apply (i : S1x4x4096x256.Idx) :
    (val_main_v10 (F := Ideal) x0 x1 i : EReal) = score (qx x0) (kx x1) (i 1).val (i 2).val (i 3).val := by
  rw [val_main_v10_apply, val_main_v9_apply, val_main_cst_apply, val_main_v8_apply]
  refine congrArg (· * eighth) (Finset.sum_congr rfl fun k _ => ?_)
  rw [q_apply, k_apply]

theorem top_apply (i : S1x4x4096.Idx) :
    (val_main_v13 (F := Ideal) x0 x1 i : EReal) = top (qx x0) (kx x1) (i 1).val (i 2).val := by
  have e : (val_main_v11 (F := Ideal) x0 x1 i : EReal) = top (qx x0) (kx x1) (i 1).val (i 2).val := by
    have s := score_apply x0 x1
    unfold val_main_v11
    generalize val_main_v10 (F := Ideal) x0 x1 = y at s ⊢
    unfold val_main_cst_0
    pointwise
    simp only [s]
    rfl
  rw [val_main_v13_apply, val_main_v12_apply, val_main_cst_1_apply, e]
  exact max_fold _

theorem ex_apply (i : S1x4x4096x256.Idx) :
    (val_main_v17 (F := Ideal) x0 x1 i : EReal) = ex (qx x0) (kx x1) (i 1).val (i 2).val (i 3).val := by
  rw [val_main_v17_apply, val_main_v16_apply, score_apply, val_main_v15_apply, val_main_v14_apply, top_apply]
  rfl

theorem tot_apply (i : S1x4x4096x1.Idx) :
    (val_main_v19 (F := Ideal) x0 x1 i : EReal) = tot (qx x0) (kx x1) (i 1).val (i 2).val := by
  rw [val_main_v19_apply, val_main_v18_apply, val_main_cst_2_apply, zero_word, zero_add]
  exact Finset.sum_congr rfl fun k _ => ex_apply x0 x1 _

theorem prob_apply (i : S1x4x4096x256.Idx) :
    (val_main_v21 (F := Ideal) x0 x1 i : EReal) = prob (qx x0) (kx x1) (i 1).val (i 2).val (i 3).val := by
  rw [val_main_v21_apply, ex_apply, val_main_v20_apply, tot_apply]
  rfl

theorem mix_apply (i : S4096x256.Idx) :
    (val_main_v25 (F := Ideal) x0 x1 i : EReal) = mix (qx x0) (kx x1) (vx x1) (i 0).val (i 1).val := by
  have h0 : (i 0).val < 4096 := (i 0).isLt
  have h1 : (i 1).val < 256 := (i 1).isLt
  rw [val_main_v25_apply, val_main_v24_apply, val_main_v23_apply, val_main_v22_apply]
  refine Finset.sum_congr rfl fun m _ => ?_
  rw [v_apply, prob_apply, mul_comm]
  have a0 : ((0 * 4096 + ((i 0).val * 256 + (i 1).val) / 256 % 4096) * 256 + ((i 0).val * 256 + (i 1).val) % 256) / 256 % 4096 = (i 0).val := by
    omega
  have a1 : ((0 * 4096 + ((i 0).val * 256 + (i 1).val) / 256 % 4096) * 256 + ((i 0).val * 256 + (i 1).val) % 256) / 64 % 4 = (i 1).val / 64 := by
    omega
  have a2 : 64 * (((0 * 4096 + ((i 0).val * 256 + (i 1).val) / 256 % 4096) * 256 + ((i 0).val * 256 + (i 1).val) % 256) / 64 % 4)
      + ((0 * 4096 + ((i 0).val * 256 + (i 1).val) / 256 % 4096) * 256 + ((i 0).val * 256 + (i 1).val) % 256) % 64 = (i 1).val := by
    omega
  exact congrArg₂ (· * ·) (congrArg₂ (fun a b => prob _ _ a b m.val) a1 a0) (congrArg (vx x1 m.val) a2)

/-- The last 256 columns of the result are the attention's, the others are those handed in. -/
theorem out_mix (i : S4096x1024.Idx) (hi : 768 ≤ (i 1).val) : (val_main_v28 (F := Ideal) x0 x1 x2 i : EReal)
    = mix (qx x0) (kx x1) (vx x1) (i 0).val ((i 1).val - 768) := by
  have b0 : (i 0).val < 4096 := (i 0).isLt
  have b1 : (i 1).val < 1024 := (i 1).isLt
  have e : val_main_v28 (F := Ideal) x0 x1 x2 i
      = val_main_v27 (F := Ideal) x0 x1 (ValueIdx.ix2 ⟨(i 0).val, b0⟩ ⟨(i 1).val - 768, by omega⟩) := by
    refine concatenate_pair_apply_right (t := S4096x1024) (1 : Fin 2) (val_main_v26 (F := Ideal) x2)
      (val_main_v27 (F := Ideal) x0 x1) _ i rfl rfl _ (fun a ha => ?_) ?_
    · match a with
      | ⟨0, _⟩ => rfl
      | ⟨1, _⟩ => exact absurd rfl ha
    · show (i 1).val - 768 + 768 = (i 1).val
      omega
  rw [e]
  exact mix_apply x0 x1 _

theorem out_rest (i : S4096x1024.Idx) (hi : (i 1).val < 768) : val_main_v28 (F := Ideal) x0 x1 x2 i = x2 i := by
  have e : val_main_v28 (F := Ideal) x0 x1 x2 i = val_main_v26 (F := Ideal) x2 (ValueIdx.ix2 ⟨(i 0).val, (i 0).isLt⟩ ⟨(i 1).val, hi⟩) := by
    refine concatenate_pair_apply_left (t := S4096x1024) (1 : Fin 2) (val_main_v26 (F := Ideal) x2)
      (val_main_v27 (F := Ideal) x0 x1) _ i rfl _ (fun a => ?_)
    match a with
    | ⟨0, _⟩ => rfl
    | ⟨1, _⟩ => rfl
  rw [e, val_main_v26_apply]
  exact congrArg x2 (funext fun a => match a with | ⟨0, _⟩ => rfl | ⟨1, _⟩ => rfl)

end Ref

theorem preserves : Cert.preserves_Kernel19_Kernel19Ideal := trivial

/-- The kernel's array is the reference's. -/
theorem algebraic : Cert.algebraic_Kernel19Ideal_Reference19Ideal := by
  intro m ρ m' ρ' _ hag
  refine ⟨fun c => (Cert.Kernel19Ideal.Gen.dats m 0 c).arrAt 3 Cert.Kernel19Ideal.cfg0.N,
    Cert.Kernel19Ideal.Value.run_blocks m ρ,
    (θ_run _ _ _).mono (fun r h c => ?_) (Cert.Reference19Ideal.Value.run m' ρ')⟩
  obtain ⟨h0, hk⟩ := h c
  obtain ⟨a0, a1, a2⟩ := hag c
  refine ⟨funext fun i => ?_, hk⟩
  refine (congrFun (h0.trans (Cert.Reference19Ideal.Read.val_main_v28_eq _ _)) i).trans ?_
  rw [a0, a1, a2]
  by_cases hi : (i 1).val < 768
  · exact (Ref.out_rest _ _ _ i hi).trans (rest m c i hi).symm
  · exact (Ref.out_mix _ _ _ i (by omega)).trans (array m c i (by omega)).symm

end Cert.AttnFwd

end
-- ==== Proof.HeadLoop.lean ====
module

public import proofs.«01_k».proof.Proof.Strip
public import proofs.«01_k».proof.Proof.Part
public import proofs.«01_k».proof.Proof.Gen.Kernel20Ideal.Value
public import Idealize.ShloMosaic.Lib.Pipeline.ReadBack
public import Idealize.ShloMosaic.Lib.Pointwise.Tactic

/-!
The loss and the gradient of the final norm inside the last feed-forward layer's output product: the loop over the eight
strips of rows of a block, what it leaves in the block, and the two sums over the rows it carries.
-/

@[expose] public section

set_option maxRecDepth 16384

noncomputable section

namespace Cert.Head

open Cert.Kernel20Ideal Cert.Kernel20Ideal.Gen Cert.Kernel20Ideal.Value Idealize.ShloMosaic Idealize.ShloMosaic.TcCoe
open Idealize.SL Idealize.SL.Sem Cert.Tab Cert.Gmlp Cert.Part Cert.NormRow Cert.Strip

/-- One half and one part in 1024, as they are written down. -/
abbrev half : EReal := Ideal.ofBits .f32 0x3F000000#32
abbrev frac : EReal := Ideal.ofBits .f32 0x3A800000#32

/-- What the normed row misses of the target. -/
def miss (x t g : ℕ → EReal) (j : ℕ) : EReal := x j * inv x * g j - t j

/-- The gradient of the loss in the normed row. -/
def slope (x t g : ℕ → EReal) (j : ℕ) : EReal := miss x t g j * frac

/-- The mean of the squares of what is missed. -/
def cost (x t g : ℕ → EReal) : EReal := Ideal.div (∑ k : Fin 1024, miss x t g k * miss x t g k) width

theorem half_sum {n : ℕ} (f : Fin n → EReal) : half * ∑ k, f k = ∑ k, half * f k := by
  rw [half, ofBits_half, mul_comm, sum_mul_coe _ (by norm_num)]
  exact Finset.sum_congr rfl fun _ _ => mul_comm _ _

section Pay

variable (g : Vec Ideal S1x1024 .f32) (v x : Vec Ideal S128x1024 .f32) {r : ℕ} {V X G : ℕ → ℕ → EReal}
  (hv : ∀ j, v j = V (r + (j 0).val) (j 1).val) (hx : ∀ j, x j = X (r + (j 0).val) (j 1).val)
  (hg : ∀ j, g j = G (j 0).val (j 1).val)

include hv hx hg in
theorem strip_miss (j : S128x1024.Idx) : k0_pay5 g v x j = miss (V (r + (j 0).val)) (X (r + (j 0).val)) (G 0) (j 1).val := by
  unfold k0_pay5 k0_pay4 k0_pay3
  pointwise
  simp only [hv, hx, hg]
  rfl

include hv hx hg in
theorem strip_slope (j : S128x1024.Idx) : k0_pay7 g v x j = slope (V (r + (j 0).val)) (X (r + (j 0).val)) (G 0) (j 1).val := by
  have e := strip_miss g v x hv hx hg j
  unfold k0_pay7
  generalize k0_pay5 g v x = p at e ⊢
  pointwise
  rw [e]
  rfl

include hv hx hg in
theorem strip_out (j : S128x1024.Idx) : k0_pay8 g v x j
    = grad 0 (V (r + (j 0).val)) (slope (V (r + (j 0).val)) (X (r + (j 0).val)) (G 0)) (G 0) (j 1).val := by
  have e := strip_slope g v x hv hx hg
  unfold k0_pay8 k0_pay4 k0_pay3
  generalize k0_pay7 g v x = p at e ⊢
  pointwise
  simp only [hv, hg, e]
  exact (zero_add _).symm

include hv hx hg in
theorem strip_sum (a : Vec Ideal S1x1024 .f32) (j : S1x1024.Idx) : k0_pay14 a (k0_pay4 v) (k0_pay7 g v x) j
    = a j + ∑ k : Fin 128, slope (V (r + k.val)) (X (r + k.val)) (G 0) (j 1).val * (V (r + k.val) (j 1).val * inv (V (r + k.val))) := by
  have e := strip_slope g v x hv hx hg
  unfold k0_pay14 k0_pay4 k0_pay3
  generalize k0_pay7 g v x = p at e ⊢
  pointwise
  simp only [hv, e]
  rfl

include hv hx hg in
theorem strip_cost (a : Vec Ideal S1x1 .f32) (j : S1x1.Idx) : k0_pay6 g a v x j
    = a j + ∑ k : Fin 128, half * cost (V (r + k.val)) (X (r + k.val)) (G 0) := by
  have e := strip_miss g v x hv hx hg
  unfold k0_pay6
  generalize k0_pay5 g v x = p at e ⊢
  pointwise
  simp only [e]
  exact congrArg (a j + ·) (half_sum (fun k : Fin 128 => cost (V (r + k.val)) (X (r + k.val)) (G 0)))

end Pay

theorem off_eq : ∀ k : Fin k0_t1_loop.trips, k0_off1 k = ![128 * k.val, 0] := by decide +kernel

theorem trips_eq : k0_t1_loop.trips = 8 := by decide +kernel

section Loop

variable (𝒱 : Variants) (c : Dev nD) (bd : Option 𝒱.V) (i : grid0.Coords) (arg3 : Memref sig .tc .vmem S1024x1408 .bf16) (harg3 : arg3.IsWhole) (arg4 : Memref sig .tc .vmem S1408x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1024x1024 .f32) (harg11 : arg11.IsWhole) (arg0 : BitVec 32) (k0_h3 : k0_cond3 i = 1#1) (v25 : Vec Ideal S1x1024 .f32) (X_arg7 : BufTy.Contents (Elt Ideal) arg7.view.ty) (X_arg11 : BufTy.Contents (Elt Ideal) arg11.view.ty) (init : FVec Ideal S1x1024 .f32 × FVec Ideal S1x1 .f32)
  {V X G : ℕ → ℕ → EReal}
  (hv : ∀ j : S1024x1024.Idx, (arg11.view.read (Elt Ideal) X_arg11 j : EReal) = V (j 0).val (j 1).val)
  (hx : ∀ j : S1024x1024.Idx, (arg7.view.read (Elt Ideal) X_arg7 j : EReal) = X (j 0).val (j 1).val)
  (hg : ∀ j : S1x1024.Idx, (v25 j : EReal) = G (j 0).val (j 1).val)

theorem strip {arg : Memref sig .tc .vmem S1024x1024 .f32} {f : BufTy.Contents (Elt Ideal) arg.view.ty} {T : ℕ → ℕ → EReal}
    (h : ∀ j : S1024x1024.Idx, (arg.view.read (Elt Ideal) f j : EReal) = T (j 0).val (j 1).val)
    (k : Fin k0_t1_loop.trips) (inb : ∀ a, k0_off1 k a + (![128, 1024] : Fin 2 → ℕ) a ≤ S1024x1024.size a) (j : S128x1024.Idx) :
    (View.readAt (Elt Ideal) arg.view (Rect.unit (s := S1024x1024) (k0_off1 k) ![128, 1024] inb).toLoadRect f j : EReal)
      = T (128 * k.val + (j 0).val) (j 1).val := by
  refine (ld_band (Val := Elt Ideal) (e := .f32) (off_eq k) inb h j).trans ?_
  rw [Nat.zero_add]

include hv hx hg in
/-- The sum for the gain over the rows of the strips before the `k`-th. -/
theorem carried : ∀ k : ℕ, k ≤ 8 → ∀ j : S1x1024.Idx,
    ((st_k0_t1 𝒱 c bd i arg3 harg3 arg4 harg4 arg5 harg5 arg6 harg6 arg7 harg7 arg8 harg8 arg9 harg9 arg10 harg10 arg11 harg11 arg0 k0_h3 v25 X_arg7 X_arg11 init k).1.1 j : EReal)
      = init.1 j + part (fun r => slope (V r) (X r) (G 0)) (fun r s => V r s * inv (V r)) (128 * k) (j 1).val (j 1).val := by
  intro k
  induction k with
  | zero =>
    intro _ j
    rw [st_k0_t1_zero, part, Nat.mul_zero, Finset.range_zero, Finset.sum_empty]
    exact (add_zero _).symm
  | succ k ih =>
    intro hk j
    have hk' : k < k0_t1_loop.trips := by rw [trips_eq]; omega
    rw [show k + 1 = (⟨k, hk'⟩ : Fin k0_t1_loop.trips).val + 1 from rfl, st_k0_t1_succ]
    unfold tripR_k0_t1 trip_k0_t1
    dsimp only
    refine (strip_sum _ _ _ (strip hv ⟨k, hk'⟩ _) (strip hx ⟨k, hk'⟩ _) hg _ j).trans ?_
    rw [ih (by omega) j, add_assoc]
    refine congrArg (init.1 j + ·) ?_
    rw [show 128 * (k + 1) = 128 * k + 128 by omega]
    exact part_add (q := 128) (fun _ => rfl) (fun _ => rfl)

include hv hx hg in
/-- The sum of the losses over the rows of the strips before the `k`-th. -/
theorem carried_cost : ∀ k : ℕ, k ≤ 8 → ∀ j : S1x1.Idx,
    ((st_k0_t1 𝒱 c bd i arg3 harg3 arg4 harg4 arg5 harg5 arg6 harg6 arg7 harg7 arg8 harg8 arg9 harg9 arg10 harg10 arg11 harg11 arg0 k0_h3 v25 X_arg7 X_arg11 init k).1.2 j : EReal)
      = init.2 j + part (fun _ _ => half) (fun r _ => cost (V r) (X r) (G 0)) (128 * k) 0 0 := by
  intro k
  induction k with
  | zero =>
    intro _ j
    rw [st_k0_t1_zero, part, Nat.mul_zero, Finset.range_zero, Finset.sum_empty]
    exact (add_zero _).symm
  | succ k ih =>
    intro hk j
    have hk' : k < k0_t1_loop.trips := by rw [trips_eq]; omega
    rw [show k + 1 = (⟨k, hk'⟩ : Fin k0_t1_loop.trips).val + 1 from rfl, st_k0_t1_succ]
    unfold tripR_k0_t1 trip_k0_t1
    dsimp only
    refine (strip_cost _ _ _ (strip hv ⟨k, hk'⟩ _) (strip hx ⟨k, hk'⟩ _) hg _ j).trans ?_
    rw [ih (by omega) j, add_assoc]
    refine congrArg (init.2 j + ·) ?_
    rw [show 128 * (k + 1) = 128 * k + 128 by omega]
    exact part_add (q := 128) (fun _ => rfl) (fun _ => rfl)

include hv hx hg in
/-- The rows of the strips before the `k`-th are settled. -/
theorem pieces : ∀ k : ℕ, k ≤ 8 → ∀ j : S1024x1024.Idx, (j 0).val < 128 * k →
    (View.canon (st_k0_t1 𝒱 c bd i arg3 harg3 arg4 harg4 arg5 harg5 arg6 harg6 arg7 harg7 arg8 harg8 arg9 harg9 arg10 harg10 arg11 harg11 arg0 k0_h3 v25 X_arg7 X_arg11 init k).2 j : EReal)
      = grad 0 (V (j 0).val) (slope (V (j 0).val) (X (j 0).val) (G 0)) (G 0) (j 1).val := by
  intro k
  induction k with
  | zero =>
    intro _ j h
    omega
  | succ k ih =>
    intro hk j h
    have hk' : k < k0_t1_loop.trips := by rw [trips_eq]; omega
    rw [show k + 1 = (⟨k, hk'⟩ : Fin k0_t1_loop.trips).val + 1 from rfl, st_k0_t1_succ]
    unfold tripL_k0_t1 trip_k0_t1
    dsimp only
    refine canon_band' (Val := Elt Ideal) (e := .f32) (off_eq ⟨k, hk'⟩) _
      (f := fun r s => grad 0 (V r) (slope (V r) (X r) (G 0)) (G 0) s) (fun y => ?_) _ j fun hn => ?_
    · refine (strip_out _ _ _ (strip hv ⟨k, hk'⟩ _) (strip hx ⟨k, hk'⟩ _) hg y).trans ?_
      dsimp only
      rw [Nat.zero_add]
    · have h1 : (j 1).val < 1024 := (j 1).isLt
      dsimp only at hn
      exact ih (by omega) j (by omega)

end Loop

end Cert.Head
-- ==== Proof.HeadBlocks.lean ====
module

public import proofs.«01_k».proof.Proof.HeadLoop

/-!
The last feed-forward layer's output product with the loss: a block of rows of the product is built up over two blocks of
columns, and after the second of them goes through the final norm, the loss and their gradient. The gradient of the gain
and the loss are carried over the blocks of rows.
-/

@[expose] public section

set_option maxRecDepth 16384

noncomputable section

namespace Cert.Head

open Cert.Kernel20Ideal Cert.Kernel20Ideal.Gen Cert.Kernel20Ideal.Value Idealize.ShloMosaic Idealize.ShloMosaic.TcCoe
open Idealize.SL Idealize.SL.Sem Cert.Tab Cert.Gmlp Cert.Part Cert.NormRow

section Pay

variable (a o : Vec Ideal S1024x1024 .f32) (x : Vec Ideal S1024x1408 .bf16) (y : Vec Ideal S1408x1024 .bf16) (j : S1024x1024.Idx)

theorem pay1 : k0_pay1 x y j = ∑ k : Fin 1408, x (ix2 (j 0) k) * y (ix2 k (j 1)) := by
  unfold k0_pay1
  pointwise

theorem pay11 : k0_pay11 a x y o j = a j + (∑ k : Fin 1408, x (ix2 (j 0) k) * y (ix2 k (j 1))) + o j := by
  unfold k0_pay11
  pointwise

theorem pay9 (j : S1x1024.Idx) : k0_pay9 (F := Ideal) j = 0 := by
  unfold k0_pay9
  pointwise

theorem pay10 (j : S1x128.Idx) : k0_pay10 (F := Ideal) j = 0 := by
  unfold k0_pay10
  pointwise

theorem pay12 (j : S1x1024.Idx) : k0_pay12 (F := Ideal) j = 0 := by
  unfold k0_pay12
  pointwise

theorem pay13 (j : S1x1.Idx) : k0_pay13 (F := Ideal) j = 0 := by
  unfold k0_pay13
  pointwise

theorem pay15 (a b : Vec Ideal S1x1024 .f32) (j : S1x1024.Idx) : k0_pay15 a b j = b j + a j := by
  unfold k0_pay15
  pointwise

theorem pay16 (a : Vec Ideal S1x1 .f32) (b : Vec Ideal S1x128 .f32) {z : EReal} (h : ∀ i, (a i : EReal) = z)
    (j : S1x128.Idx) : k0_pay16 a b j = b j + z := by
  unfold k0_pay16
  pointwise
  simp only [h]

end Pay

variable (m : (ℓ : Loc nD τ sig) → Buf (Elt Ideal) ℓ) (c : Dev nD) (t : Fin cfg0.N)

/-- The left factor at column `k` and row `r`. -/
def A (k r : ℕ) : EReal := tab2 (m ((c : Thread nD τ).loc main_arg0) : S4096x2816.Idx → EReal) r k

abbrev W : ℕ → ℕ → EReal := tab2 (m ((c : Thread nD τ).loc main_arg1) : S2816x1024.Idx → EReal)
abbrev O : ℕ → ℕ → EReal := tab2 (m ((c : Thread nD τ).loc main_arg2) : S4096x1024.Idx → EReal)
abbrev G : ℕ → ℕ → EReal := tab2 (m ((c : Thread nD τ).loc main_arg3) : S1x1024.Idx → EReal)
abbrev T : ℕ → ℕ → EReal := tab2 (m ((c : Thread nD τ).loc main_arg4) : S4096x1024.Idx → EReal)

/-- The product with the residual stream added. -/
def Y (r s : ℕ) : EReal := part (A m c) (W m c) 2816 r s + O m c r s

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 2, 0] := (by decide +kernel : ∀ t : Fin grid0.N, _)
theorem index5 : ∀ t : Fin cfg0.N, win0_5.index t = ![t.val / 2, 0] := (by decide +kernel : ∀ t : Fin grid0.N, _)

/-- The weights as the host hands them over. -/
theorem w_apply (j : S2816x1024.Idx) : (V m c main_v0 : S2816x1024.Idx → EReal) j = W m c (j 0).val (j 1).val := by
  have e : (V m c main_v0 : S2816x1024.Idx → EReal) j
      = (m ((c : Thread nD τ).loc main_arg1) : S2816x1024.Idx → EReal) j := by
    entry_read
    pointwise
  exact e.trans (eq_tab2 _ _)

theorem block0 (j : S1024x1408.Idx) : iblk m c 0 t j = A m c (1408 * (t.val % 2) + (j 1).val) (1024 * (t.val / 2) + (j 0).val) := by
  have e := index0 t
  unfold iblk
  blk_simp
  rw [V_main_arg0]
  refine (eq_tab2 _ _).trans ?_
  blk_simp [e]
  unfold A
  rw [Nat.mul_comm 1024, Nat.mul_comm 1408]

theorem block1 (j : S1408x1024.Idx) : iblk m c 1 t j = W m c (1408 * (t.val % 2) + (j 0).val) (j 1).val := by
  have e := index1 t
  unfold iblk
  blk_simp
  refine (w_apply m c _).trans ?_
  blk_simp [e]
  rw [Nat.mul_comm 1408]

theorem block2 (j : S1024x1024.Idx) : iblk m c 2 t j = O m c (1024 * (t.val / 2) + (j 0).val) (j 1).val := by
  have e := index2 t
  unfold iblk
  blk_simp
  rw [V_main_arg2]
  refine (eq_tab2 _ _).trans ?_
  blk_simp [e]
  rw [Nat.mul_comm 1024]

theorem block3 (j : S1x1024.Idx) : iblk m c 3 t j = G m c (j 0).val (j 1).val := by
  have e := index3 t
  unfold iblk
  blk_simp
  rw [V_main_arg3]
  refine (eq_tab2 _ _).trans ?_
  blk_simp [e]

theorem block4 (j : S1024x1024.Idx) : iblk m c 4 t j = T m c (1024 * (t.val / 2) + (j 0).val) (j 1).val := by
  have e := index4 t
  unfold iblk
  blk_simp
  rw [V_main_arg4]
  refine (eq_tab2 _ _).trans ?_
  blk_simp [e]
  rw [Nat.mul_comm 1024]

/-- One more block of columns added to the sum over the columns before it. -/
theorem step (n : ℕ) {P : S1024x1408.Idx → EReal} {Q : S1408x1024.Idx → EReal}
    (hP : ∀ j, P j = A m c (1408 * (n % 2) + (j 1).val) (1024 * (n / 2) + (j 0).val))
    (hQ : ∀ j, Q j = W m c (1408 * (n % 2) + (j 0).val) (j 1).val) (i : S1024x1024.Idx) :
    part (A m c) (W m c) (1408 * (n % 2)) (1024 * (n / 2) + (i 0).val) (i 1).val
      + ∑ k : Fin 1408, P (ix2 (i 0) k) * Q (ix2 k (i 1))
    = part (A m c) (W m c) (1408 * (n % 2) + 1408) (1024 * (n / 2) + (i 0).val) (i 1).val :=
  part_add (fun k => hP (ix2 (i 0) k)) (fun k => hQ (ix2 k (i 1)))

/-- The running sum after the first block of columns. -/
theorem upto (n : ℕ) (h : n < cfg0.N) (hn : n % 2 = 0) (i : S1024x1024.Idx) : ((outsAt0 m c n h).2.2.2 i : EReal)
    = part (A m c) (W m c) 1408 (1024 * (n / 2) + (i 0).val) (i 1).val := by
  rw [outsAt0_A m c ⟨n, h⟩ hn (by dsimp only; omega)]
  dsimp only
  frame_out
  refine (pay1 _ _ i).trans (part_first (fun k => ?_) (fun k => ?_))
  · have e := block0 m c ⟨n, h⟩ (ix2 (i 0) k)
    dsimp only at e
    rw [hn, Nat.mul_zero, Nat.zero_add] at e
    exact e
  · have e := block1 m c ⟨n, h⟩ (ix2 k (i 1))
    dsimp only at e
    rw [hn, Nat.mul_zero, Nat.zero_add] at e
    exact e

/-- The whole sum over the columns, with the residual stream, at the last block of them. -/
theorem full (ht : t.val % 2 = 1) {P : Vec Ideal S1024x1024 .f32}
    (hP : ∀ i, (P i : EReal) = ((outsAt0 m c (t.val - 1) (by omega)).2.2.2 i : EReal)) (i : S1024x1024.Idx) :
    (k0_pay11 P (iblk m c 0 t) (iblk m c 1 t) (iblk m c 2 t) i : EReal) = Y m c (1024 * (t.val / 2) + (i 0).val) (i 1).val := by
  refine (pay11 _ _ _ _ i).trans (congrArg₂ (· + ·) ?_ (block2 m c t i))
  have e := step m c t.val (block0 m c t) (block1 m c t) i
  rw [ht, Nat.mul_one] at e
  refine Eq.trans (congrArg (· + _) ?_) e
  refine (hP i).trans ((upto m c (t.val - 1) _ (by omega) i).trans ?_)
  rw [show (t.val - 1) / 2 = t.val / 2 by omega]

/-- What the last block of columns writes back. -/
theorem last (ht : t.val % 2 = 1) (i : S1024x1024.Idx) : ((outsAt0 m c t.val t.isLt).1 i : EReal)
    = grad 0 (Y m c (1024 * (t.val / 2) + (i 0).val))
        (slope (Y m c (1024 * (t.val / 2) + (i 0).val)) (T m c (1024 * (t.val / 2) + (i 0).val)) (G m c 0)) (G m c 0) (i 1).val := by
  have h1 : (i 0).val < 1024 := (i 0).isLt
  by_cases h3 : t.val < 2
  · rw [outsAt0_B m c t (by omega) ht h3]
    dsimp only
    frame_out
    refine pieces (V := fun r => Y m c (1024 * (t.val / 2) + r)) (X := fun r => T m c (1024 * (t.val / 2) + r))
      (G := G m c) _ _ _ _ _ _ _ _ _ _ _ _ _ _ _ _ _ _ _ _ _ _ _ _ _ _ _ _
      (fun j => ?_) (fun j => ?_) (block3 m c t) 8 le_rfl i (by omega)
    · frame_out
      exact full m c t ht (fun i => by rw [(Memref.isWhole_whole _).read_unread]) j
    · rw [Memref.IsWhole.read_unread]
      exact block4 m c t j
  · rw [outsAt0_C m c t (by omega) ht h3]
    dsimp only
    frame_out
    refine pieces (V := fun r => Y m c (1024 * (t.val / 2) + r)) (X := fun r => T m c (1024 * (t.val / 2) + r))
      (G := G m c) _ _ _ _ _ _ _ _ _ _ _ _ _ _ _ _ _ _ _ _ _ _ _ _ _ _ _ _
      (fun j => ?_) (fun j => ?_) (block3 m c t) 8 le_rfl i (by omega)
    · frame_out
      exact full m c t ht (fun i => by rw [(Memref.isWhole_whole _).read_unread]) j
    · rw [Memref.IsWhole.read_unread]
      exact block4 m c t j

/-- The normalised row, the gradient that comes to it, and its loss. -/
def N (r u : ℕ) : EReal := Y m c r u * inv (Y m c r)
def S (r u : ℕ) : EReal := slope (Y m c r) (T m c r) (G m c 0) u
def L (r : ℕ) : EReal := cost (Y m c r) (T m c r) (G m c 0)

/-- The sums over the rows of a block of rows. -/
abbrev rows (b j : ℕ) : EReal := part (fun r => S m c (1024 * b + r)) (fun r => N m c (1024 * b + r)) 1024 j j
abbrev costs (b : ℕ) : EReal := part (fun _ _ => half) (fun r _ => L m c (1024 * b + r)) 1024 0 0

theorem first (ht : t.val % 2 = 1) (h3 : t.val < 2) (j : S1x1024.Idx) :
    ((outsAt0 m c t.val t.isLt).2.1 j : EReal) = 0 + rows m c (t.val / 2) (j 1).val := by
    rw [outsAt0_B m c t (by omega) ht h3]
    dsimp only
    frame_out
    refine (pay15 _ _ j).trans ?_
    refine congrArg₂ (· + ·) (pay9 j) ((carried (V := fun r => Y m c (1024 * (t.val / 2) + r)) (X := fun r => T m c (1024 * (t.val / 2) + r))
      (G := G m c) _ _ _ _ _ _ _ _ _ _ _ _ _ _ _ _ _ _ _ _ _ _ _ _ _ _ _ _
      (fun j => ?_) (fun j => ?_) (block3 m c t) 8 le_rfl j).trans ?_)
    · frame_out
      exact full m c t ht (fun i => by rw [(Memref.isWhole_whole _).read_unread]) j
    · rw [Memref.IsWhole.read_unread]
      exact block4 m c t j
    · exact (congrArg (· + _) (pay12 j)).trans (zero_add _)

theorem next (ht : t.val % 2 = 1) (h3 : ¬ t.val < 2) (j : S1x1024.Idx) :
    ((outsAt0 m c t.val t.isLt).2.1 j : EReal) = (outsAt0 m c (t.val - 1) (by omega)).2.1 j + rows m c (t.val / 2) (j 1).val := by
    rw [outsAt0_C m c t (by omega) ht h3]
    dsimp only
    frame_out
    refine (pay15 _ _ j).trans ?_
    refine congrArg₂ (· + ·) rfl ((carried (V := fun r => Y m c (1024 * (t.val / 2) + r)) (X := fun r => T m c (1024 * (t.val / 2) + r))
      (G := G m c) _ _ _ _ _ _ _ _ _ _ _ _ _ _ _ _ _ _ _ _ _ _ _ _ _ _ _ _
      (fun j => ?_) (fun j => ?_) (block3 m c t) 8 le_rfl j).trans ?_)
    · frame_out
      exact full m c t ht (fun i => by rw [(Memref.isWhole_whole _).read_unread]) j
    · rw [Memref.IsWhole.read_unread]
      exact block4 m c t j
    · exact (congrArg (· + _) (pay12 j)).trans (zero_add _)

theorem first_cost (ht : t.val % 2 = 1) (h3 : t.val < 2) (j : S1x128.Idx) :
    ((outsAt0 m c t.val t.isLt).2.2.1 j : EReal) = 0 + costs m c (t.val / 2) := by
    rw [outsAt0_B m c t (by omega) ht h3]
    dsimp only
    frame_out
    refine (pay16 _ _ (fun i => (carried_cost (V := fun r => Y m c (1024 * (t.val / 2) + r)) (X := fun r => T m c (1024 * (t.val / 2) + r))
      (G := G m c) _ _ _ _ _ _ _ _ _ _ _ _ _ _ _ _ _ _ _ _ _ _ _ _ _ _ _ _
      (fun j => ?_) (fun j => ?_) (block3 m c t) 8 le_rfl i).trans ((congrArg (· + _) (pay13 i)).trans (zero_add _))) j).trans ?_
    · frame_out
      exact full m c t ht (fun i => by rw [(Memref.isWhole_whole _).read_unread]) j
    · rw [Memref.IsWhole.read_unread]
      exact block4 m c t j
    · exact congrArg (· + _) (pay10 j)

theorem next_cost (ht : t.val % 2 = 1) (h3 : ¬ t.val < 2) (j : S1x128.Idx) :
    ((outsAt0 m c t.val t.isLt).2.2.1 j : EReal) = (outsAt0 m c (t.val - 1) (by omega)).2.2.1 j + costs m c (t.val / 2) := by
    rw [outsAt0_C m c t (by omega) ht h3]
    dsimp only
    frame_out
    refine (pay16 _ _ (fun i => (carried_cost (V := fun r => Y m c (1024 * (t.val / 2) + r)) (X := fun r => T m c (1024 * (t.val / 2) + r))
      (G := G m c) _ _ _ _ _ _ _ _ _ _ _ _ _ _ _ _ _ _ _ _ _ _ _ _ _ _ _ _
      (fun j => ?_) (fun j => ?_) (block3 m c t) 8 le_rfl i).trans ((congrArg (· + _) (pay13 i)).trans (zero_add _))) j).trans ?_
    · frame_out
      exact full m c t ht (fun i => by rw [(Memref.isWhole_whole _).read_unread]) j
    · rw [Memref.IsWhole.read_unread]
      exact block4 m c t j
    · exact congrArg (· + _) rfl

theorem keep (n : ℕ) (h : n + 1 < cfg0.N) (hn : (n + 1) % 2 = 0) :
    (outsAt0 m c (n + 1) h).2.1 = (outsAt0 m c n (Nat.lt_of_succ_lt h)).2.1 := by
  rw [outsAt0_A m c ⟨n + 1, h⟩ hn (by dsimp only; omega)]
  rfl

/-- The gradient of the gain after a whole number of blocks of rows. -/
theorem gain : ∀ (b : ℕ) (h : 2 * b + 1 < cfg0.N) (j : S1x1024.Idx), ((outsAt0 m c (2 * b + 1) h).2.1 j : EReal)
    = part (S m c) (N m c) (1024 * b + 1024) (j 1).val (j 1).val := by
  intro b
  induction b with
  | zero =>
    intro h j
    refine (first m c ⟨2 * 0 + 1, h⟩ rfl (by dsimp only; omega) j).trans ((zero_add _).trans ?_)
    simp [part]
  | succ b ih =>
    intro h j
    refine (next m c ⟨2 * (b + 1) + 1, h⟩ (by dsimp only; omega) (by dsimp only; omega) j).trans ?_
    have k : (outsAt0 m c (2 * b + 1 + 1) (by omega)).2.1 = (outsAt0 m c (2 * b + 1) (by omega)).2.1 :=
      keep m c _ _ (by omega)
    have k' := congrFun k j
    have e : (2 * (b + 1) + 1) / 2 = b + 1 := by omega
    dsimp only
    rw [e]
    refine (congrArg (· + _) (k'.trans (ih _ j))).trans ?_
    unfold rows part
    rw [show 1024 * (b + 1) = 1024 * b + 1024 by omega]
    exact (Finset.sum_range_add _ _ _).symm

theorem keep_cost (n : ℕ) (h : n + 1 < cfg0.N) (hn : (n + 1) % 2 = 0) :
    (outsAt0 m c (n + 1) h).2.2.1 = (outsAt0 m c n (Nat.lt_of_succ_lt h)).2.2.1 := by
  rw [outsAt0_A m c ⟨n + 1, h⟩ hn (by dsimp only; omega)]
  rfl

/-- The loss after a whole number of blocks of rows. -/
theorem loss : ∀ (b : ℕ) (h : 2 * b + 1 < cfg0.N) (j : S1x128.Idx), ((outsAt0 m c (2 * b + 1) h).2.2.1 j : EReal)
    = part (fun _ _ => half) (fun r _ => L m c r) (1024 * b + 1024) 0 0 := by
  intro b
  induction b with
  | zero =>
    intro h j
    refine (first_cost m c ⟨2 * 0 + 1, h⟩ rfl (by dsimp only; omega) j).trans ((zero_add _).trans ?_)
    simp [part]
  | succ b ih =>
    intro h j
    refine (next_cost m c ⟨2 * (b + 1) + 1, h⟩ (by dsimp only; omega) (by dsimp only; omega) j).trans ?_
    have k : (outsAt0 m c (2 * b + 1 + 1) (by omega)).2.2.1 = (outsAt0 m c (2 * b + 1) (by omega)).2.2.1 :=
      keep_cost m c _ _ (by omega)
    have k' := congrFun k j
    have e : (2 * (b + 1) + 1) / 2 = b + 1 := by omega
    dsimp only
    rw [e]
    refine (congrArg (· + _) (k'.trans (ih _ j))).trans ?_
    unfold costs part
    rw [show 1024 * (b + 1) = 1024 * b + 1024 by omega]
    exact (Finset.sum_range_add _ _ _).symm

/-- Two points that write back write to different places. -/
theorem apart (t t' : Fin cfg0.N) (h : (cfg0.win 5).flush t = true) (h' : (cfg0.win 5).flush t' = true) (hne : t ≠ t') :
    Disjoint ((cfg0.win 5).blk t).view.set ((cfg0.win 5).blk t').view.set := by
  refine (cfg0.win 5).disjoint_blk fun e => hne (Fin.ext ?_)
  have q := (flush0_5 t).1 h
  have q' := (flush0_5 t').1 h'
  have e0 : t.val / 2 = t'.val / 2 := congrFun ((index5 t).symm.trans (e.trans (index5 t'))) 0
  omega

/-- The whole array. -/
theorem array (i : S4096x1024.Idx) : ((dats m 0 c).arrAt 5 cfg0.N i : EReal)
    = grad 0 (Y m c (i 0).val) (S m c (i 0).val) (G m c 0) (i 1).val := by
  have hN : cfg0.N = 8 := rfl
  have h0 : (i 0).val < 4096 := (i 0).isLt
  have h1 : (i 1).val < 1024 := (i 1).isLt
  obtain ⟨t, ht⟩ : ∃ t : Fin cfg0.N, t.val = 2 * ((i 0).val / 1024) + 1 := ⟨⟨_, by omega⟩, rfl⟩
  have e := index5 t
  have hm : i ∈ ((cfg0.win 5).blk t).view.set := by
    mem_blk [e]
    omega
  obtain ⟨y, rfl⟩ := View.exists_emb_of_mem_set _ hm
  refine (Pipeline.Dat.arrAt_emb_eq_flushed _ 5 apart t ((flush0_5 t).2 (by omega)) y).trans ?_
  rw [flushed5]
  have z' := last m c t (by omega)
  generalize (outsAt0 m c t.val t.isLt).1 = z at z' ⊢
  refine (z' _).trans ?_
  unfold S
  blk_simp [e]
  rw [Nat.mul_comm 1024]

/-- The gradient of the gain. -/
theorem gain_array (i : S1x1024.Idx) : ((dats m 0 c).arrAt 6 cfg0.N i : EReal)
    = part (S m c) (N m c) 4096 (i 1).val (i 1).val := by
  refine ((dats m 0 c).arrAt_emb_eq_after_last 6 ⟨7, by decide⟩ (by decide +kernel) i).trans ?_
  rw [after0_6]
  exact gain m c 3 (by decide) i

/-- The loss, in every column. -/
theorem loss_array (i : S1x128.Idx) : ((dats m 0 c).arrAt 7 cfg0.N i : EReal)
    = part (fun _ _ => half) (fun r _ => L m c r) 4096 0 0 := by
  refine ((dats m 0 c).arrAt_emb_eq_after_last 7 ⟨7, by decide⟩ (by decide +kernel) i).trans ?_
  rw [after0_7]
  exact loss m c 3 (by decide) i

end Cert.Head
-- ==== Proof.HeadValue.lean ====
module

public import proofs.«01_k».proof.Defs
public import proofs.«01_k».proof.Proof.HeadBlocks
public import proofs.«01_k».proof.Proof.Consts
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import Idealize.ShloMosaic.Init

/-!
The last feed-forward layer's output product with the final norm, the loss and their gradient: kernel and reference agree
on all arguments, finite or not.
-/

@[expose] public section

set_option maxRecDepth 16384

noncomputable section

namespace Cert.Head

open Idealize.ShloMosaic Idealize.ShloMosaic.TcCoe Idealize.SL.Sem Cert.Tab Cert.Part Cert.NormRow Cert.Gmlp

theorem frame_p : Cert.quiescent_Kernel20 := fun m ρ _ => Cert.Kernel20.Gen.frame m ρ

theorem frame_pi : Cert.quiescent_Kernel20Ideal := fun m ρ _ => Cert.Kernel20Ideal.Gen.frame m ρ

theorem frame_ri : Cert.quiescent_Reference20Ideal := fun m ρ _ =>
  (θ_run Cert.Reference20Ideal.defs _ _).mono
    (fun r h => ⟨fun c => (h c).2.2.2, Idealize.ShloMosaic.sem_eq_zero_of_no_sems (by decide) r.2⟩)
    (Cert.Reference20Ideal.Value.run (F := Ideal) m ρ)

/-- Twice the half of a part in 1024 is that part. -/
theorem slope_const (z : EReal) :
    Ideal.div (Ideal.ofBits .f32 0x3F000000#32 * Ideal.ofBits .f32 0x3F800000#32) width * (Ideal.ofBits .f32 0x40000000#32 * z)
      = z * frac := by
  have hf : frac = ((1 / 1024 : ℝ) : EReal) := by
    simp [frac, Ideal.ofBits, Ideal.ieee, -EReal.coe_mul]; norm_num
  rw [div_width, ofBits_half, ofBits_one, ofBits_two, hf, ← EReal.coe_mul, ← EReal.coe_mul, ← mul_assoc, ← EReal.coe_mul,
    mul_comm]
  congr 2
  norm_num

namespace Ref

open Cert.Reference20Ideal Cert.Reference20Ideal.Read

variable (x0 : (⟨S4096x2816, .bf16⟩ : BufTy).Contents (Elt Ideal)) (x1 : (⟨S2816x1024, .f32⟩ : BufTy).Contents (Elt Ideal))
  (x2 : (⟨S4096x1024, .f32⟩ : BufTy).Contents (Elt Ideal)) (x3 : (⟨S1x1024, .f32⟩ : BufTy).Contents (Elt Ideal))
  (x4 : (⟨S4096x1024, .f32⟩ : BufTy).Contents (Elt Ideal))

def A (k r : ℕ) : EReal := tab2 x0 r k
def Y (r s : ℕ) : EReal := part (A x0) (tab2 x1) 2816 r s + tab2 x2 r s
def N (r u : ℕ) : EReal := Y x0 x1 x2 r u * inv (Y x0 x1 x2 r)
def S (r u : ℕ) : EReal := slope (Y x0 x1 x2 r) (tab2 x4 r) (tab2 x3 0) u
def L (r : ℕ) : EReal := cost (Y x0 x1 x2 r) (tab2 x4 r) (tab2 x3 0)

theorem zero_word : Ideal.ofBits .f32 0x00000000#32 = 0 := by rw [Cert.Gmlp.ofBits_zero]; rfl

theorem y_apply (i : S4096x1024.Idx) : (val_main_v2 (F := Ideal) x0 x1 x2 i : EReal) = Y x0 x1 x2 (i 0).val (i 1).val := by
  rw [val_main_v2_apply]
  refine (add_comm _ _).trans (congrArg₂ (· + ·) ?_ (eq_tab2 x2 i))
  rw [val_main_v1_apply, part, Finset.sum_range]
  exact Finset.sum_congr rfl fun k _ => congrArg₂ (· * ·) (eq_tab2 x0 _) (eq_tab2 x1 _)

theorem msq_apply (i : S4096x1.Idx) : (val_main_v10 (F := Ideal) x0 x1 x2 i : EReal) = msq (Y x0 x1 x2 (i 0).val) := by
  have e : (val_main_v5 (F := Ideal) x0 x1 x2 (idx_main_v6 i) : EReal)
      = ∑ k : Fin 1024, Y x0 x1 x2 (i 0).val k.val * Y x0 x1 x2 (i 0).val k.val := by
    rw [val_main_v5_apply]
    refine (congrArg (· + _) zero_word).trans ((zero_add _).trans ?_)
    exact Finset.sum_congr rfl fun k _ => congrArg₂ (· * ·) (y_apply x0 x1 x2 _) (y_apply x0 x1 x2 _)
  rw [val_main_v10_apply, val_main_v8_apply, val_main_v6_apply, val_main_v7_apply, val_main_v9_apply, e]
  rfl

theorem inv_apply (i : S4096x1.Idx) : (val_main_v11 (F := Ideal) x0 x1 x2 i : EReal) = inv (Y x0 x1 x2 (i 0).val) :=
  (val_main_v11_apply x0 x1 x2 i).trans (congrArg Ideal.rsqrt (msq_apply x0 x1 x2 i))

theorem n_apply (i : S4096x1024.Idx) : (val_main_v16 (F := Ideal) x0 x1 x2 i : EReal) = N x0 x1 x2 (i 0).val (i 1).val := by
  rw [val_main_v16_apply, val_main_v15_apply]
  exact congrArg₂ (· * ·) (y_apply x0 x1 x2 i) (inv_apply x0 x1 x2 _)

theorem miss_apply (i : S4096x1024.Idx) : (val_main_v20 (F := Ideal) x0 x1 x2 x3 x4 i : EReal)
    = miss (Y x0 x1 x2 (i 0).val) (tab2 x4 (i 0).val) (tab2 x3 0) (i 1).val := by
  have h1 : (i 1).val < 1024 := (i 1).isLt
  rw [val_main_v20_apply, val_main_v19_apply, val_main_v18_apply, val_main_v17_apply, val_main_v3_apply]
  refine congrArg₂ (· - ·) (congrArg₂ (· * ·) (n_apply x0 x1 x2 i) ((eq_tab2 x3 _).trans ?_)) (eq_tab2 x4 i)
  congr 1
  exact Nat.mod_eq_of_lt h1

theorem slope_apply (i : S4096x1024.Idx) : (val_main_v34 (F := Ideal) x0 x1 x2 x3 x4 i : EReal)
    = S x0 x1 x2 x3 x4 (i 0).val (i 1).val := by
  rw [val_main_v34_apply, val_main_v33_apply, val_main_v32_apply, val_main_v30_apply, val_main_v29_apply, val_main_v31_apply,
    val_main_v23_apply, val_main_v22_apply]
  refine Eq.trans ?_ (slope_const _)
  exact congrArg (fun z => Ideal.div (Ideal.ofBits .f32 0x3F000000#32 * Ideal.ofBits .f32 0x3F800000#32) width
    * (Ideal.ofBits .f32 0x40000000#32 * z)) (miss_apply x0 x1 x2 x3 x4 i)

theorem cost_apply (i : S4096.Idx) : (val_main_v26 (F := Ideal) x0 x1 x2 x3 x4 i : EReal) = L x0 x1 x2 x3 x4 (i 0).val := by
  have e : (val_main_v24 (F := Ideal) x0 x1 x2 x3 x4 i : EReal)
      = ∑ k : Fin 1024, miss (Y x0 x1 x2 (i 0).val) (tab2 x4 (i 0).val) (tab2 x3 0) k.val
          * miss (Y x0 x1 x2 (i 0).val) (tab2 x4 (i 0).val) (tab2 x3 0) k.val := by
    rw [val_main_v24_apply]
    refine (congrArg (· + _) zero_word).trans ((zero_add _).trans ?_)
    refine Finset.sum_congr rfl fun k _ => ?_
    rw [val_main_v21_apply]
    exact congrArg₂ (· * ·) (miss_apply x0 x1 x2 x3 x4 _) (miss_apply x0 x1 x2 x3 x4 _)
  rw [val_main_v26_apply, val_main_v25_apply, e]
  rfl

theorem loss_apply (i : S1x128.Idx) : (val_main_v56 (F := Ideal) x0 x1 x2 x3 x4 i : EReal)
    = part (fun _ _ => half) (fun r _ => L x0 x1 x2 x3 x4 r) 4096 0 0 := by
  rw [val_main_v56_apply, val_main_v28_apply, val_main_v27_apply]
  refine (congrArg (fun z => half * (z + _)) zero_word).trans ?_
  rw [zero_add, part, Finset.sum_range, sum_idx1]
  refine (congrArg (half * ·) (Finset.sum_congr rfl fun k _ => cost_apply x0 x1 x2 x3 x4 _)).trans ?_
  exact half_sum _

theorem gain_apply (i : S4096x1024.Idx) : (val_main_v39 (F := Ideal) x0 x1 x2 x3 x4 i : EReal)
    = S x0 x1 x2 x3 x4 (i 0).val (i 1).val * tab2 x3 0 (i 1).val := by
  have h1 : (i 1).val < 1024 := (i 1).isLt
  rw [val_main_v39_apply, val_main_v38_apply, val_main_v17_apply, val_main_v3_apply]
  refine congrArg₂ (· * ·) (slope_apply x0 x1 x2 x3 x4 i) ((eq_tab2 x3 _).trans ?_)
  congr 1
  exact Nat.mod_eq_of_lt h1

theorem root_apply (i : S4096x1.Idx) : (val_main_v14 (F := Ideal) x0 x1 x2 i : EReal)
    = Ideal.ofBits .f32 0xBF000000#32 * Ideal.div (inv (Y x0 x1 x2 (i 0).val)) (msq (Y x0 x1 x2 (i 0).val)) := by
  rw [val_main_v14_apply, val_main_v13_apply, val_main_v12_apply]
  exact congrArg (Ideal.ofBits .f32 0xBF000000#32 * ·) (congrArg₂ Ideal.div (inv_apply x0 x1 x2 i) (msq_apply x0 x1 x2 i))

theorem chain_apply (i : S4096x1.Idx) : (val_main_v48 (F := Ideal) x0 x1 x2 x3 x4 i : EReal)
    = Ideal.div ((∑ k : Fin 1024, Y x0 x1 x2 (i 0).val k.val * (S x0 x1 x2 x3 x4 (i 0).val k.val * tab2 x3 0 k.val))
        * (Ideal.ofBits .f32 0xBF000000#32 * Ideal.div (inv (Y x0 x1 x2 (i 0).val)) (msq (Y x0 x1 x2 (i 0).val)))) width := by
  have h0 : (i 0).val < 4096 := (i 0).isLt
  have h1 : (i 1).val < 1 := (i 1).isLt
  have e : (val_main_v43 (F := Ideal) x0 x1 x2 x3 x4 i : EReal)
      = ∑ k : Fin 1024, Y x0 x1 x2 (i 0).val k.val * (S x0 x1 x2 x3 x4 (i 0).val k.val * tab2 x3 0 k.val) := by
    rw [val_main_v43_apply, val_main_v42_apply]
    refine (congrArg (· + _) zero_word).trans ((zero_add _).trans ?_)
    refine Finset.sum_congr rfl fun k _ => ?_
    rw [val_main_v41_apply]
    refine (congrArg₂ (· * ·) (y_apply x0 x1 x2 _) (gain_apply x0 x1 x2 x3 x4 _)).trans ?_
    show Y x0 x1 x2 ((i 0).val * 1 + (i 1).val) k.val * (S x0 x1 x2 x3 x4 ((i 0).val * 1 + (i 1).val) k.val * tab2 x3 0 k.val) = _
    rw [show (i 0).val * 1 + (i 1).val = (i 0).val by omega]
  rw [val_main_v48_apply, val_main_v46_apply, val_main_v47_apply, e]
  exact congrArg (fun z => Ideal.div (_ * z) width) (root_apply x0 x1 x2 i)

theorem row_apply (i : S4096x1024.Idx) : (val_main_v50 (F := Ideal) x0 x1 x2 x3 x4 i : EReal)
    = Ideal.div ((∑ k : Fin 1024, Y x0 x1 x2 (i 0).val k.val * (S x0 x1 x2 x3 x4 (i 0).val k.val * tab2 x3 0 k.val))
        * (Ideal.ofBits .f32 0xBF000000#32 * Ideal.div (inv (Y x0 x1 x2 (i 0).val)) (msq (Y x0 x1 x2 (i 0).val)))) width := by
  rw [val_main_v50_apply, val_main_v49_apply]
  refine (congrArg (· + _) zero_word).trans ((zero_add _).trans ?_)
  rw [Fin.sum_univ_one]
  exact chain_apply x0 x1 x2 x3 x4 _

theorem apply (i : S4096x1024.Idx) : (val_main_v54 (F := Ideal) x0 x1 x2 x3 x4 i : EReal)
    = grad 0 (Y x0 x1 x2 (i 0).val) (S x0 x1 x2 x3 x4 (i 0).val) (tab2 x3 0) (i 1).val := by
  rw [grad_eq _ _ _ _ _ (i 1).isLt, grad', zero_add, val_main_v54_apply, val_main_v52_apply, val_main_v53_apply, val_main_v51_apply, val_main_v45_apply, val_main_v44_apply]
  exact congrArg₂ (· + ·) (congrArg₂ (· + ·)
    (congrArg₂ (· * ·) (gain_apply x0 x1 x2 x3 x4 i) (inv_apply x0 x1 x2 _))
    (congrArg₂ (· * ·) (y_apply x0 x1 x2 i) (row_apply x0 x1 x2 x3 x4 i)))
    (congrArg₂ (· * ·) (row_apply x0 x1 x2 x3 x4 i) (y_apply x0 x1 x2 i))

theorem gain_grad_apply (i : S1x1024.Idx) : (val_main_v55 (F := Ideal) x0 x1 x2 x3 x4 i : EReal)
    = part (S x0 x1 x2 x3 x4) (N x0 x1 x2) 4096 (i 1).val (i 1).val := by
  have h1 : (i 1).val < 1024 := (i 1).isLt
  rw [val_main_v55_apply, val_main_v40_apply]
  refine (congrArg (· + _) zero_word).trans ((zero_add _).trans ?_)
  rw [Fin.sum_univ_one, val_main_v37_apply, val_main_v36_apply]
  refine (congrArg (· + _) zero_word).trans ((zero_add _).trans ?_)
  rw [part, Finset.sum_range]
  refine Finset.sum_congr rfl fun k _ => ?_
  rw [val_main_v35_apply]
  refine (congrArg₂ (· * ·) (n_apply x0 x1 x2 _) (slope_apply x0 x1 x2 x3 x4 _)).trans ((mul_comm _ _).trans ?_)
  show S x0 x1 x2 x3 x4 k.val (0 * 1024 + (i 1).val) * N x0 x1 x2 k.val (0 * 1024 + (i 1).val) = _
  rw [Nat.zero_mul, Nat.zero_add]

end Ref

theorem preserves : Cert.preserves_Kernel20_Kernel20Ideal := trivial

/-- The kernel's arrays are the reference's. -/
theorem algebraic : Cert.algebraic_Kernel20Ideal_Reference20Ideal := by
  intro m ρ m' ρ' _ hag
  refine ⟨fun c => (Cert.Kernel20Ideal.Gen.dats m 0 c).arrAt 5 Cert.Kernel20Ideal.cfg0.N,
    fun c => (Cert.Kernel20Ideal.Gen.dats m 0 c).arrAt 6 Cert.Kernel20Ideal.cfg0.N,
    fun c => (Cert.Kernel20Ideal.Gen.dats m 0 c).arrAt 7 Cert.Kernel20Ideal.cfg0.N,
    Cert.Kernel20Ideal.Value.run_blocks m ρ,
    (θ_run _ _ _).mono (fun r h c => ?_) (Cert.Reference20Ideal.Value.run m' ρ')⟩
  obtain ⟨h0, h1, h2, hk⟩ := h c
  obtain ⟨a0, a1, a2, a3, a4⟩ := hag c
  refine ⟨funext fun i => ?_, funext fun i => ?_, funext fun i => ?_, hk⟩
  · refine (congrFun (h0.trans (Cert.Reference20Ideal.Read.val_main_v54_eq _ _)) i).trans ?_
    rw [a0, a1, a2, a3, a4]
    exact (Ref.apply _ _ _ _ _ i).trans (array m c i).symm
  · refine (congrFun (h1.trans (Cert.Reference20Ideal.Read.val_main_v55_eq _ _ _ _ _)) i).trans ?_
    rw [a0, a1, a2, a3, a4]
    exact (Ref.gain_grad_apply _ _ _ _ _ i).trans (gain_array m c i).symm
  · refine (congrFun (h2.trans (Cert.Reference20Ideal.Read.val_main_v56_eq _ _ _ _ _)) i).trans ?_
    rw [a0, a1, a2, a3, a4]
    exact (Ref.loss_apply _ _ _ _ _ i).trans (loss_array m c i).symm

end Cert.Head

end
-- ==== Proof.MemBlocks.lean ====
module

public import proofs.«01_k».proof.Proof.Part
public import proofs.«01_k».proof.Proof.Gen.Kernel21Ideal.Value
public import Idealize.ShloMosaic.Lib.Pipeline.ReadBack
public import Idealize.ShloMosaic.Lib.Pointwise.Tactic

/-!
The keys and values of the memory: one block is the whole result, and holds the whole sum over the 1024 summed places.
-/

@[expose] public section

set_option maxRecDepth 16384

noncomputable section

namespace Cert.Mem

open Cert.Kernel21Ideal Cert.Kernel21Ideal.Gen Cert.Kernel21Ideal.Value Idealize.ShloMosaic Idealize.ShloMosaic.TcCoe
open Idealize.SL Idealize.SL.Sem Cert.Tab Cert.Part

theorem pay (x : Vec Ideal S256x1024 .bf16) (y : Vec Ideal S1024x512 .bf16) (j : S256x512.Idx) :
    k0_pay1 x y j = ∑ k : Fin 1024, x (ix2 (j 0) k) * y (ix2 k (j 1)) := by
  unfold k0_pay1
  pointwise

variable (m : (ℓ : Loc nD τ sig) → Buf (Elt Ideal) ℓ) (c : Dev nD) (t : Fin cfg0.N)

/-- The left factor at summed place `k` and row `r`. -/
def A (k r : ℕ) : EReal := tab2 (m ((c : Thread nD τ).loc main_arg0) : S256x1024.Idx → EReal) r k

/-- The right factor at summed place `k` and column `u`. -/
def W (k u : ℕ) : EReal := tab2 (m ((c : Thread nD τ).loc main_arg1) : S1024x512.Idx → EReal) k u

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- The weights as the host hands them over. -/
theorem w_apply (j : S1024x512.Idx) : (V m c main_v0 : S1024x512.Idx → EReal) j = W m c (j 0).val (j 1).val := by
  have e : (V m c main_v0 : S1024x512.Idx → EReal) j
      = (m ((c : Thread nD τ).loc main_arg1) : S1024x512.Idx → EReal) j := by
    entry_read
    rfl
  exact e.trans (eq_tab2 _ _)

theorem block0 (j : S256x1024.Idx) : iblk m c 0 t j = A m c (j 1).val (j 0).val := by
  have e := index0 t
  unfold iblk
  blk_simp
  rw [V_main_arg0]
  refine (eq_tab2 _ _).trans ?_
  blk_simp [e]
  rfl

theorem block1 (j : S1024x512.Idx) : iblk m c 1 t j = W m c (j 0).val (j 1).val := by
  have e := index1 t
  unfold iblk
  blk_simp
  refine (w_apply m c _).trans ?_
  blk_simp [e]

/-- What the one point writes back. -/
theorem tile (i : S256x512.Idx) : (out0_2 (iblk m c 0 t) (iblk m c 1 t) i : EReal)
    = part (A m c) (W m c) 1024 (i 0).val (i 1).val := by
  unfold out0_2
  frame_out
  exact (pay _ _ i).trans (part_first (fun k => block0 m c t (ix2 (i 0) k)) (fun k => block1 m c t (ix2 k (i 1))))

/-- The whole array. -/
theorem array (i : S256x512.Idx) : ((dats m 0 c).arrAt 2 cfg0.N i : EReal)
    = part (A m c) (W m c) 1024 (i 0).val (i 1).val := by
  have h0 : (i 0).val < 256 := (i 0).isLt
  have h1 : (i 1).val < 512 := (i 1).isLt
  obtain ⟨t⟩ : Nonempty (Fin cfg0.N) := ⟨⟨0, by decide⟩⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 disjoint2 t (flush0_2 t) y).trans ?_
  rw [flushed2]
  have T := tile m c t
  generalize out0_2 (iblk m c 0 t) (iblk m c 1 t) = z at T ⊢
  refine (T _).trans ?_
  blk_simp [e]

end Cert.Mem
-- ==== Proof.MemValue.lean ====
module

public import proofs.«01_k».proof.Defs
public import proofs.«01_k».proof.Proof.MemBlocks
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import Idealize.ShloMosaic.Init

/-!
The keys and values of the memory: both programs sum the same products, so they agree on all arguments,
finite or not.
-/

@[expose] public section

set_option maxRecDepth 16384

noncomputable section

namespace Cert.Mem

open Idealize.ShloMosaic Idealize.ShloMosaic.TcCoe Idealize.SL.Sem Cert.Tab Cert.Part

theorem frame_p : Cert.quiescent_Kernel21 := fun m ρ _ => Cert.Kernel21.Gen.frame m ρ

theorem frame_pi : Cert.quiescent_Kernel21Ideal := fun m ρ _ => Cert.Kernel21Ideal.Gen.frame m ρ

theorem frame_ri : Cert.quiescent_Reference21Ideal := fun m ρ _ =>
  (θ_run Cert.Reference21Ideal.defs _ _).mono
    (fun r h => ⟨fun c => (h c).2, Idealize.ShloMosaic.sem_eq_zero_of_no_sems (by decide) r.2⟩)
    (Cert.Reference21Ideal.Value.run (F := Ideal) m ρ)

namespace Ref

open Cert.Reference21Ideal Cert.Reference21Ideal.Read

theorem apply (x0 : (⟨S256x1024, .bf16⟩ : BufTy).Contents (Elt Ideal)) (x1 : (⟨S1024x512, .f32⟩ : BufTy).Contents (Elt Ideal))
    (i : S256x512.Idx) : (val_main_v1 (F := Ideal) x0 x1 i : EReal)
      = part (fun k r => tab2 x0 r k) (tab2 x1) 1024 (i 0).val (i 1).val := by
  rw [part, Finset.sum_range]
  rw [val_main_v1_apply]
  exact Finset.sum_congr rfl fun k _ => congrArg₂ (· * ·) (eq_tab2 x0 _) (eq_tab2 x1 _)

end Ref

theorem preserves : Cert.preserves_Kernel21_Kernel21Ideal := trivial

/-- The kernel's array is the reference's. -/
theorem algebraic : Cert.algebraic_Kernel21Ideal_Reference21Ideal := by
  intro m ρ m' ρ' _ hag
  refine ⟨fun c => (Cert.Kernel21Ideal.Gen.dats m 0 c).arrAt 2 Cert.Kernel21Ideal.cfg0.N,
    Cert.Kernel21Ideal.Value.run_blocks m ρ,
    (θ_run _ _ _).mono (fun r h c => ?_) (Cert.Reference21Ideal.Value.run m' ρ')⟩
  obtain ⟨h0, hk⟩ := h c
  obtain ⟨a0, a1⟩ := hag c
  refine ⟨funext fun i => ?_, hk⟩
  refine (congrFun (h0.trans (Cert.Reference21Ideal.Read.val_main_v1_eq _ _)) i).trans ?_
  rw [a0, a1]
  exact (Ref.apply _ _ i).trans (array m c i).symm

end Cert.Mem

end
-- ==== Proof.MemDwBlocks.lean ====
module

public import proofs.«01_k».proof.Proof.Part
public import proofs.«01_k».proof.Proof.Gen.Kernel22Ideal.Value
public import Idealize.ShloMosaic.Lib.Pipeline.ReadBack
public import Idealize.ShloMosaic.Lib.Pointwise.Tactic

/-!
The gradient of the weights of the memory's keys and values: one block is the whole result, and holds the whole sum over the 256 summed places.
-/

@[expose] public section

set_option maxRecDepth 16384

noncomputable section

namespace Cert.MemDw

open Cert.Kernel22Ideal Cert.Kernel22Ideal.Gen Cert.Kernel22Ideal.Value Idealize.ShloMosaic Idealize.ShloMosaic.TcCoe
open Idealize.SL Idealize.SL.Sem Cert.Tab Cert.Part

theorem pay (x : Vec Ideal S256x1024 .bf16) (y : Vec Ideal S256x512 .f32) (j : S1024x512.Idx) :
    k0_pay1 x y j = ∑ k : Fin 256, x (ix2 k (j 0)) * y (ix2 k (j 1)) := by
  unfold k0_pay1
  pointwise

variable (m : (ℓ : Loc nD τ sig) → Buf (Elt Ideal) ℓ) (c : Dev nD) (t : Fin cfg0.N)

/-- The left factor at summed place `k` and row `r`. -/
def A (k r : ℕ) : EReal := tab2 (m ((c : Thread nD τ).loc main_arg0) : S256x1024.Idx → EReal) k r

/-- The right factor at summed place `k` and column `u`. -/
def W (k u : ℕ) : EReal := tab2 (m ((c : Thread nD τ).loc main_arg1) : S256x512.Idx → EReal) k u

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

theorem block0 (j : S256x1024.Idx) : iblk m c 0 t j = A m c (j 0).val (j 1).val := by
  have e := index0 t
  unfold iblk
  blk_simp
  rw [V_main_arg0]
  refine (eq_tab2 _ _).trans ?_
  blk_simp [e]
  rfl

theorem block1 (j : S256x512.Idx) : iblk m c 1 t j = W m c (j 0).val (j 1).val := by
  have e := index1 t
  unfold iblk
  blk_simp
  rw [V_main_arg1]
  refine (eq_tab2 _ _).trans ?_
  blk_simp [e]
  rfl

/-- What the one point writes back. -/
theorem tile (i : S1024x512.Idx) : (out0_2 (iblk m c 0 t) (iblk m c 1 t) i : EReal)
    = part (A m c) (W m c) 256 (i 0).val (i 1).val := by
  unfold out0_2
  frame_out
  exact (pay _ _ i).trans (part_first (fun k => block0 m c t (ix2 k (i 0))) (fun k => block1 m c t (ix2 k (i 1))))

/-- The whole array. -/
theorem array (i : S1024x512.Idx) : ((dats m 0 c).arrAt 2 cfg0.N i : EReal)
    = part (A m c) (W m c) 256 (i 0).val (i 1).val := by
  have h0 : (i 0).val < 1024 := (i 0).isLt
  have h1 : (i 1).val < 512 := (i 1).isLt
  obtain ⟨t⟩ : Nonempty (Fin cfg0.N) := ⟨⟨0, by decide⟩⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 disjoint2 t (flush0_2 t) y).trans ?_
  rw [flushed2]
  have T := tile m c t
  generalize out0_2 (iblk m c 0 t) (iblk m c 1 t) = z at T ⊢
  refine (T _).trans ?_
  blk_simp [e]

end Cert.MemDw
-- ==== Proof.MemDwValue.lean ====
module

public import proofs.«01_k».proof.Defs
public import proofs.«01_k».proof.Proof.MemDwBlocks
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import Idealize.ShloMosaic.Init

/-!
The gradient of the weights of the memory's keys and values: both programs sum the same products, so they agree on all arguments,
finite or not.
-/

@[expose] public section

set_option maxRecDepth 16384

noncomputable section

namespace Cert.MemDw

open Idealize.ShloMosaic Idealize.ShloMosaic.TcCoe Idealize.SL.Sem Cert.Tab Cert.Part

theorem frame_p : Cert.quiescent_Kernel22 := fun m ρ _ => Cert.Kernel22.Gen.frame m ρ

theorem frame_pi : Cert.quiescent_Kernel22Ideal := fun m ρ _ => Cert.Kernel22Ideal.Gen.frame m ρ

theorem frame_ri : Cert.quiescent_Reference22Ideal := fun m ρ _ =>
  (θ_run Cert.Reference22Ideal.defs _ _).mono
    (fun r h => ⟨fun c => (h c).2, Idealize.ShloMosaic.sem_eq_zero_of_no_sems (by decide) r.2⟩)
    (Cert.Reference22Ideal.Value.run (F := Ideal) m ρ)

namespace Ref

open Cert.Reference22Ideal Cert.Reference22Ideal.Read

theorem apply (x0 : (⟨S256x1024, .bf16⟩ : BufTy).Contents (Elt Ideal)) (x1 : (⟨S256x512, .f32⟩ : BufTy).Contents (Elt Ideal))
    (i : S1024x512.Idx) : (val_main_v5 (F := Ideal) x0 x1 i : EReal)
      = part (tab2 x0) (tab2 x1) 256 (i 0).val (i 1).val := by
  rw [part, Finset.sum_range]
  show (val_main_v4 (F := Ideal) x0 x1 i : EReal) = _
  rw [val_main_v4_apply, val_main_v3_apply]
  exact Finset.sum_congr rfl fun k _ => (mul_comm _ _).trans (congrArg₂ (· * ·) (eq_tab2 x0 _) (eq_tab2 x1 _))

end Ref

theorem preserves : Cert.preserves_Kernel22_Kernel22Ideal := trivial

/-- The kernel's array is the reference's. -/
theorem algebraic : Cert.algebraic_Kernel22Ideal_Reference22Ideal := by
  intro m ρ m' ρ' _ hag
  refine ⟨fun c => (Cert.Kernel22Ideal.Gen.dats m 0 c).arrAt 2 Cert.Kernel22Ideal.cfg0.N,
    Cert.Kernel22Ideal.Value.run_blocks m ρ,
    (θ_run _ _ _).mono (fun r h c => ?_) (Cert.Reference22Ideal.Value.run m' ρ')⟩
  obtain ⟨h0, hk⟩ := h c
  obtain ⟨a0, a1⟩ := hag c
  refine ⟨funext fun i => ?_, hk⟩
  refine (congrFun (h0.trans (Cert.Reference22Ideal.Read.val_main_v5_eq _ _)) i).trans ?_
  rw [a0, a1]
  exact (Ref.apply _ _ i).trans (array m c i).symm

end Cert.MemDw

end
-- ==== Proof.MemDxBlocks.lean ====
module

public import proofs.«01_k».proof.Proof.Part
public import proofs.«01_k».proof.Proof.Gen.Kernel23Ideal.Value
public import Idealize.ShloMosaic.Lib.Pipeline.ReadBack
public import Idealize.ShloMosaic.Lib.Pointwise.Tactic

/-!
The gradient of the memory: one block is the whole result, and holds the whole sum over the 512 summed places.
-/

@[expose] public section

set_option maxRecDepth 16384

noncomputable section

namespace Cert.MemDx

open Cert.Kernel23Ideal Cert.Kernel23Ideal.Gen Cert.Kernel23Ideal.Value Idealize.ShloMosaic Idealize.ShloMosaic.TcCoe
open Idealize.SL Idealize.SL.Sem Cert.Tab Cert.Part

theorem pay (x : Vec Ideal S256x512 .f32) (y : Vec Ideal S1024x512 .bf16) (j : S256x1024.Idx) :
    k0_pay1 x y j = ∑ k : Fin 512, x (ix2 (j 0) k) * y (ix2 (j 1) k) := by
  unfold k0_pay1
  pointwise

variable (m : (ℓ : Loc nD τ sig) → Buf (Elt Ideal) ℓ) (c : Dev nD) (t : Fin cfg0.N)

/-- The left factor at summed place `k` and row `r`. -/
def A (k r : ℕ) : EReal := tab2 (m ((c : Thread nD τ).loc main_arg0) : S256x512.Idx → EReal) r k

/-- The right factor at summed place `k` and column `u`. -/
def W (k u : ℕ) : EReal := tab2 (m ((c : Thread nD τ).loc main_arg1) : S1024x512.Idx → EReal) u k

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- The weights as the host hands them over. -/
theorem w_apply (j : S1024x512.Idx) : (V m c main_v0 : S1024x512.Idx → EReal) j = W m c (j 1).val (j 0).val := by
  have e : (V m c main_v0 : S1024x512.Idx → EReal) j
      = (m ((c : Thread nD τ).loc main_arg1) : S1024x512.Idx → EReal) j := by
    entry_read
    rfl
  exact e.trans (eq_tab2 _ _)

theorem block0 (j : S256x512.Idx) : iblk m c 0 t j = A m c (j 1).val (j 0).val := by
  have e := index0 t
  unfold iblk
  blk_simp
  rw [V_main_arg0]
  refine (eq_tab2 _ _).trans ?_
  blk_simp [e]
  rfl

theorem block1 (j : S1024x512.Idx) : iblk m c 1 t j = W m c (j 1).val (j 0).val := by
  have e := index1 t
  unfold iblk
  blk_simp
  refine (w_apply m c _).trans ?_
  blk_simp [e]

/-- What the one point writes back. -/
theorem tile (i : S256x1024.Idx) : (out0_2 (iblk m c 0 t) (iblk m c 1 t) i : EReal)
    = part (A m c) (W m c) 512 (i 0).val (i 1).val := by
  unfold out0_2
  frame_out
  exact (pay _ _ i).trans (part_first (fun k => block0 m c t (ix2 (i 0) k)) (fun k => block1 m c t (ix2 (i 1) k)))

/-- The whole array. -/
theorem array (i : S256x1024.Idx) : ((dats m 0 c).arrAt 2 cfg0.N i : EReal)
    = part (A m c) (W m c) 512 (i 0).val (i 1).val := by
  have h0 : (i 0).val < 256 := (i 0).isLt
  have h1 : (i 1).val < 1024 := (i 1).isLt
  obtain ⟨t⟩ : Nonempty (Fin cfg0.N) := ⟨⟨0, by decide⟩⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 disjoint2 t (flush0_2 t) y).trans ?_
  rw [flushed2]
  have T := tile m c t
  generalize out0_2 (iblk m c 0 t) (iblk m c 1 t) = z at T ⊢
  refine (T _).trans ?_
  blk_simp [e]

end Cert.MemDx
-- ==== Proof.MemDxValue.lean ====
module

public import proofs.«01_k».proof.Defs
public import proofs.«01_k».proof.Proof.MemDxBlocks
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import Idealize.ShloMosaic.Init

/-!
The gradient of the memory: both programs sum the same products, so they agree on all arguments,
finite or not.
-/

@[expose] public section

set_option maxRecDepth 16384

noncomputable section

namespace Cert.MemDx

open Idealize.ShloMosaic Idealize.ShloMosaic.TcCoe Idealize.SL.Sem Cert.Tab Cert.Part

theorem frame_p : Cert.quiescent_Kernel23 := fun m ρ _ => Cert.Kernel23.Gen.frame m ρ

theorem frame_pi : Cert.quiescent_Kernel23Ideal := fun m ρ _ => Cert.Kernel23Ideal.Gen.frame m ρ

theorem frame_ri : Cert.quiescent_Reference23Ideal := fun m ρ _ =>
  (θ_run Cert.Reference23Ideal.defs _ _).mono
    (fun r h => ⟨fun c => (h c).2, Idealize.ShloMosaic.sem_eq_zero_of_no_sems (by decide) r.2⟩)
    (Cert.Reference23Ideal.Value.run (F := Ideal) m ρ)

namespace Ref

open Cert.Reference23Ideal Cert.Reference23Ideal.Read

theorem apply (x0 : (⟨S256x512, .f32⟩ : BufTy).Contents (Elt Ideal)) (x1 : (⟨S1024x512, .f32⟩ : BufTy).Contents (Elt Ideal))
    (i : S256x1024.Idx) : (val_main_v2 (F := Ideal) x0 x1 i : EReal)
      = part (fun k r => tab2 x0 r k) (fun k u => tab2 x1 u k) 512 (i 0).val (i 1).val := by
  rw [part, Finset.sum_range]
  rw [val_main_v2_apply]
  exact Finset.sum_congr rfl fun k _ => congrArg₂ (· * ·) (eq_tab2 x0 _) (eq_tab2 x1 _)

end Ref

theorem preserves : Cert.preserves_Kernel23_Kernel23Ideal := trivial

/-- The kernel's array is the reference's. -/
theorem algebraic : Cert.algebraic_Kernel23Ideal_Reference23Ideal := by
  intro m ρ m' ρ' _ hag
  refine ⟨fun c => (Cert.Kernel23Ideal.Gen.dats m 0 c).arrAt 2 Cert.Kernel23Ideal.cfg0.N,
    Cert.Kernel23Ideal.Value.run_blocks m ρ,
    (θ_run _ _ _).mono (fun r h c => ?_) (Cert.Reference23Ideal.Value.run m' ρ')⟩
  obtain ⟨h0, hk⟩ := h c
  obtain ⟨a0, a1⟩ := hag c
  refine ⟨funext fun i => ?_, hk⟩
  refine (congrFun (h0.trans (Cert.Reference23Ideal.Read.val_main_v2_eq _ _)) i).trans ?_
  rw [a0, a1]
  exact (Ref.apply _ _ i).trans (array m c i).symm

end Cert.MemDx

end
-- ==== Proof.RmsBlocks.lean ====
module

public import proofs.«01_k».proof.Proof.NormRow
public import proofs.«01_k».proof.Proof.Gen.Kernel24Ideal.Value
public import Idealize.ShloMosaic.Lib.Pipeline.ReadBack
public import Idealize.ShloMosaic.Lib.Pointwise.Tactic

/-!
The first norm of the step: each point normalises 512 rows and scales them by the gain.
-/

@[expose] public section

set_option maxRecDepth 16384

noncomputable section

namespace Cert.Rms

open Cert.Kernel24Ideal Cert.Kernel24Ideal.Gen Cert.Kernel24Ideal.Value Idealize.ShloMosaic Idealize.ShloMosaic.TcCoe
open Idealize.SL Idealize.SL.Sem Cert.Tab Cert.NormRow

/-- A row normalised and scaled by the gain. -/
def normed (y g : ℕ → EReal) (j : ℕ) : EReal := y j * inv y * g j

theorem pay (x : Vec Ideal S512x1024 .f32) (g : Vec Ideal S1x1024 .f32) {r : ℕ} {X G : ℕ → ℕ → EReal}
    (hx : ∀ j, (x j : EReal) = X (r + (j 0).val) (j 1).val) (hg : ∀ j, (g j : EReal) = G (j 0).val (j 1).val)
    (j : S512x1024.Idx) : (k0_pay1 x g j : EReal) = normed (X (r + (j 0).val)) (G 0) (j 1).val := by
  unfold k0_pay1
  pointwise
  simp only [hx, hg]
  rfl

variable (m : (ℓ : Loc nD τ sig) → Buf (Elt Ideal) ℓ) (c : Dev nD) (t : Fin cfg0.N)

abbrev X : ℕ → ℕ → EReal := tab2 (m ((c : Thread nD τ).loc main_arg0) : S4096x1024.Idx → EReal)
abbrev G : ℕ → ℕ → EReal := tab2 (m ((c : Thread nD τ).loc main_arg1) : S1x1024.Idx → EReal)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (j : S512x1024.Idx) : iblk m c 0 t j = X m c (512 * t.val + (j 0).val) (j 1).val := by
  have e := index0 t
  unfold iblk
  blk_simp
  rw [V_main_arg0]
  refine (eq_tab2 _ _).trans ?_
  blk_simp [e]
  rw [Nat.mul_comm 512]

theorem block1 (j : S1x1024.Idx) : iblk m c 1 t j = G m c (j 0).val (j 1).val := by
  have e := index1 t
  unfold iblk
  blk_simp
  rw [V_main_arg1]
  refine (eq_tab2 _ _).trans ?_
  blk_simp [e]

/-- What a point writes back. -/
theorem tile (i : S512x1024.Idx) : (out0_2 (iblk m c 0 t) (iblk m c 1 t) i : EReal)
    = normed (X m c (512 * t.val + (i 0).val)) (G m c 0) (i 1).val := by
  unfold out0_2
  frame_out
  exact pay _ _ (block0 m c t) (block1 m c t) i

/-- The whole array. -/
theorem array (i : S4096x1024.Idx) : ((dats m 0 c).arrAt 2 cfg0.N i : EReal)
    = normed (X m c (i 0).val) (G m c 0) (i 1).val := by
  have hN : cfg0.N = 8 := rfl
  have h0 : (i 0).val < 4096 := (i 0).isLt
  have h1 : (i 1).val < 1024 := (i 1).isLt
  obtain ⟨t, ht⟩ : ∃ t : Fin cfg0.N, t.val = (i 0).val / 512 := ⟨⟨_, by omega⟩, rfl⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 disjoint2 t (flush0_2 t) y).trans ?_
  rw [flushed2]
  have T := tile m c t
  generalize out0_2 (iblk m c 0 t) (iblk m c 1 t) = z at T ⊢
  refine (T _).trans ?_
  blk_simp [e]
  rw [Nat.mul_comm 512]

end Cert.Rms
-- ==== Proof.RmsValue.lean ====
module

public import proofs.«01_k».proof.Defs
public import proofs.«01_k».proof.Proof.RmsBlocks
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Reference24Ideal.Read
public import Idealize.ShloMosaic.Init

/-!
The first norm of the step: both programs do the same with each row, so they agree on all arguments, finite or not.
-/

@[expose] public section

set_option maxRecDepth 16384

noncomputable section

namespace Cert.Rms

open Idealize.ShloMosaic Idealize.ShloMosaic.TcCoe Idealize.SL.Sem Cert.Tab Cert.NormRow

theorem frame_p : Cert.quiescent_Kernel24 := fun m ρ _ => Cert.Kernel24.Gen.frame m ρ

theorem frame_pi : Cert.quiescent_Kernel24Ideal := fun m ρ _ => Cert.Kernel24Ideal.Gen.frame m ρ

theorem frame_ri : Cert.quiescent_Reference24Ideal := fun m ρ _ =>
  (θ_run Cert.Reference24Ideal.defs _ _).mono
    (fun r h => ⟨fun c => (h c).2, Idealize.ShloMosaic.sem_eq_zero_of_no_sems (by decide) r.2⟩)
    (Cert.Reference24Ideal.Value.run (F := Ideal) m ρ)

namespace Ref

open Cert.Reference24Ideal Cert.Reference24Ideal.Read

variable (x0 : (⟨S4096x1024, .f32⟩ : BufTy).Contents (Elt Ideal)) (x1 : (⟨S1x1024, .f32⟩ : BufTy).Contents (Elt Ideal))

theorem zero_word : Ideal.ofBits .f32 0x00000000#32 = 0 := by
  rw [Cert.Gmlp.ofBits_zero]
  rfl

theorem inv_apply (i : S4096x1.Idx) : (val_main_v8 (F := Ideal) x0 i : EReal) = inv (tab2 x0 (i 0).val) := by
  have e : (val_main_v3 (F := Ideal) x0 i : EReal) = ∑ k : Fin 1024, tab2 x0 (i 0).val k.val * tab2 x0 (i 0).val k.val := by
    rw [val_main_v3_apply, val_main_v2_apply]
    refine (congrArg (· + _) zero_word).trans ((zero_add _).trans ?_)
    refine Finset.sum_congr rfl fun k _ => ?_
    rw [val_main_v1_apply]
    exact congrArg₂ (· * ·) (eq_tab2 x0 _) (eq_tab2 x0 _)
  rw [val_main_v8_apply, val_main_v7_apply, val_main_v6_apply, val_main_v5_apply, val_main_v4_apply, e]
  rfl

theorem apply (i : S4096x1024.Idx) : (val_main_v14 (F := Ideal) x0 x1 i : EReal)
    = normed (tab2 x0 (i 0).val) (tab2 x1 0) (i 1).val := by
  have h1 : (i 1).val < 1024 := (i 1).isLt
  show (val_main_v13 (F := Ideal) x0 x1 i : EReal) = _
  rw [val_main_v13_apply, val_main_v10_apply, val_main_v9_apply, val_main_v12_apply, val_main_v11_apply, val_main_v0_apply]
  refine congrArg₂ (· * ·) (congrArg₂ (· * ·) (eq_tab2 x0 i) (inv_apply x0 _)) ((eq_tab2 x1 _).trans ?_)
  congr 1
  exact Nat.mod_eq_of_lt h1

end Ref

theorem preserves : Cert.preserves_Kernel24_Kernel24Ideal := trivial

/-- The kernel's array is the reference's. -/
theorem algebraic : Cert.algebraic_Kernel24Ideal_Reference24Ideal := by
  intro m ρ m' ρ' _ hag
  refine ⟨fun c => (Cert.Kernel24Ideal.Gen.dats m 0 c).arrAt 2 Cert.Kernel24Ideal.cfg0.N,
    Cert.Kernel24Ideal.Value.run_blocks m ρ,
    (θ_run _ _ _).mono (fun r h c => ?_) (Cert.Reference24Ideal.Value.run m' ρ')⟩
  obtain ⟨h0, hk⟩ := h c
  obtain ⟨a0, a1⟩ := hag c
  refine ⟨funext fun i => ?_, hk⟩
  refine (congrFun (h0.trans (Cert.Reference24Ideal.Read.val_main_v14_eq _ _)) i).trans ?_
  rw [a0, a1]
  exact (Ref.apply _ _ i).trans (array m c i).symm

end Cert.Rms

end
-- ==== Proof.RmsBwdBlocks.lean ====
module

public import proofs.«01_k».proof.Proof.NormRow
public import proofs.«01_k».proof.Proof.Part
public import proofs.«01_k».proof.Proof.Gen.Kernel25Ideal.Value
public import Idealize.ShloMosaic.Lib.Pipeline.ReadBack
public import Idealize.ShloMosaic.Lib.Pointwise.Tactic

/-!
The backward pass of the memory's norm: one block holds all 256 rows, so one point gives the whole gradient and the whole
gradient of the gain. What is added to the gradient is an array of zeros from the host.
-/

@[expose] public section

set_option maxRecDepth 16384

noncomputable section

namespace Cert.RmsBwd

open Cert.Kernel25Ideal Cert.Kernel25Ideal.Gen Cert.Kernel25Ideal.Value Idealize.ShloMosaic Idealize.ShloMosaic.TcCoe
open Idealize.SL Idealize.SL.Sem Cert.Tab Cert.Part Cert.NormRow

theorem zero_word : Ideal.ofBits .f32 0x00000000#32 = 0 := by
  rw [Cert.Gmlp.ofBits_zero]
  rfl

section Pay

variable (x v o : Vec Ideal S256x1024 .f32) (g : Vec Ideal S1x1024 .f32) (a : Vec Ideal S1x1024 .f32) {X V G : ℕ → ℕ → EReal}
  (hx : ∀ j, (x j : EReal) = X (j 0).val (j 1).val) (hv : ∀ j, (v j : EReal) = V (j 0).val (j 1).val)
  (ho : ∀ j, (o j : EReal) = 0) (hg : ∀ j, (g j : EReal) = G (j 0).val (j 1).val)

include hx hv ho hg in
theorem pay_out (j : S256x1024.Idx) : (k0_pay1 (k0_pay6 x v g) (k0_pay7 o) j : EReal)
    = grad 0 (X (j 0).val) (V (j 0).val) (G 0) (j 1).val := by
  unfold k0_pay1 k0_pay6 k0_pay7 k0_pay4 k0_pay3
  pointwise
  simp only [hx, hv, ho, hg]
  rfl

include hx hv in
theorem pay_gain (j : S1x1024.Idx) : (k0_pay5 x v a j : EReal)
    = a j + ∑ k : Fin 256, V k.val (j 1).val * (X k.val (j 1).val * inv (X k.val)) := by
  unfold k0_pay5 k0_pay4 k0_pay3
  pointwise
  simp only [hx, hv]
  rfl

end Pay

theorem pay_zero (j : S1x1024.Idx) : (k0_pay2 (F := Ideal) j : EReal) = 0 := by
  unfold k0_pay2
  exact zero_word

variable (m : (ℓ : Loc nD τ sig) → Buf (Elt Ideal) ℓ) (c : Dev nD) (t : Fin cfg0.N)

abbrev X : ℕ → ℕ → EReal := tab2 (m ((c : Thread nD τ).loc main_arg0) : S256x1024.Idx → EReal)
abbrev G : ℕ → ℕ → EReal := tab2 (m ((c : Thread nD τ).loc main_arg1) : S1x1024.Idx → EReal)
abbrev D : ℕ → ℕ → EReal := tab2 (m ((c : Thread nD τ).loc main_arg2) : S256x1024.Idx → EReal)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

theorem block0 (j : S256x1024.Idx) : iblk m c 0 t j = X m c (j 0).val (j 1).val := by
  have e := index0 t
  unfold iblk
  blk_simp
  rw [V_main_arg0]
  refine (eq_tab2 _ _).trans ?_
  blk_simp [e]

theorem block1 (j : S1x1024.Idx) : iblk m c 1 t j = G m c (j 0).val (j 1).val := by
  have e := index1 t
  unfold iblk
  blk_simp
  rw [V_main_arg1]
  refine (eq_tab2 _ _).trans ?_
  blk_simp [e]

theorem block2 (j : S256x1024.Idx) : iblk m c 2 t j = D m c (j 0).val (j 1).val := by
  have e := index2 t
  unfold iblk
  blk_simp
  rw [V_main_arg2]
  refine (eq_tab2 _ _).trans ?_
  blk_simp [e]

/-- The array of zeros. -/
theorem zeros (j : S256x1024.Idx) : (show EReal from V m c main_v0 j) = 0 := by
  show (V m c main_v0 : S256x1024.Idx → EReal) j = (0 : EReal)
  entry_read
  exact zero_word

theorem block3 (j : S256x1024.Idx) : iblk m c 3 t j = (0 : EReal) := by
  unfold iblk
  blk_simp
  exact zeros m c _

/-- What the one point writes back. -/
theorem tile (j : S256x1024.Idx) : ((outsAt0 m c t).1 j : EReal)
    = grad 0 (X m c (j 0).val) (D m c (j 0).val) (G m c 0) (j 1).val := by
  unfold outsAt0
  dsimp only
  frame_out
  exact pay_out _ _ _ _ (block0 m c t) (block2 m c t) (block3 m c t) (block1 m c t) j

theorem tile_gain (j : S1x1024.Idx) : ((outsAt0 m c t).2 j : EReal)
    = part (D m c) (fun r s => X m c r s * inv (X m c r)) 256 (j 1).val (j 1).val := by
  unfold outsAt0
  dsimp only
  frame_out
  refine (pay_gain _ _ _ (block0 m c t) (block2 m c t) j).trans ?_
  rw [part, Finset.sum_range]
  refine (congrArg (· + _) ?_).trans (zero_add _)
  exact pay_zero j

/-- The whole gradient. -/
theorem array (i : S256x1024.Idx) : ((dats m 0 c).arrAt 4 cfg0.N i : EReal)
    = grad 0 (X m c (i 0).val) (D m c (i 0).val) (G m c 0) (i 1).val := by
  have h0 : (i 0).val < 256 := (i 0).isLt
  have h1 : (i 1).val < 1024 := (i 1).isLt
  obtain ⟨t⟩ : Nonempty (Fin cfg0.N) := ⟨⟨0, by decide⟩⟩
  have e := index4 t
  have hm : i ∈ ((cfg0.win 4).blk t).view.set := by
    mem_blk [e]
    omega
  obtain ⟨y, rfl⟩ := View.exists_emb_of_mem_set _ hm
  refine (Pipeline.Dat.arrAt_emb_eq_flushed _ 4 disjoint4 t (flush0_4 t) y).trans ?_
  rw [flushed4]
  have T := tile m c t
  generalize (outsAt0 m c t).1 = z at T ⊢
  refine (T _).trans ?_
  blk_simp [e]

/-- The gradient of the gain. -/
theorem gain_array (i : S1x1024.Idx) : ((dats m 0 c).arrAt 5 cfg0.N i : EReal)
    = part (D m c) (fun r s => X m c r s * inv (X m c r)) 256 (i 1).val (i 1).val := by
  have h0 : (i 0).val < 1 := (i 0).isLt
  have h1 : (i 1).val < 1024 := (i 1).isLt
  obtain ⟨t⟩ : Nonempty (Fin cfg0.N) := ⟨⟨0, by decide⟩⟩
  have e := index5 t
  have hm : i ∈ ((cfg0.win 5).blk t).view.set := by
    mem_blk [e]
    omega
  obtain ⟨y, rfl⟩ := View.exists_emb_of_mem_set _ hm
  refine (Pipeline.Dat.arrAt_emb_eq_flushed _ 5 disjoint5 t (flush0_5 t) y).trans ?_
  rw [flushed5]
  have T := tile_gain m c t
  generalize (outsAt0 m c t).2 = z at T ⊢
  refine (T _).trans ?_
  blk_simp [e]

end Cert.RmsBwd
-- ==== Proof.RmsBwdValue.lean ====
module

public import proofs.«01_k».proof.Defs
public import proofs.«01_k».proof.Proof.RmsBwdBlocks
public import proofs.«01_k».proof.Proof.Consts
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Reference25Ideal.Read
public import Idealize.ShloMosaic.Init

/-!
The backward pass of the memory's norm: the reference differentiates the inverse root by itself, and agrees with the kernel
on all arguments, finite or not.
-/

@[expose] public section

set_option maxRecDepth 16384

noncomputable section

namespace Cert.RmsBwd

open Idealize.ShloMosaic Idealize.ShloMosaic.TcCoe Idealize.SL.Sem Cert.Tab Cert.Part Cert.NormRow Cert.Gmlp

theorem frame_p : Cert.quiescent_Kernel25 := fun m ρ _ => Cert.Kernel25.Gen.frame m ρ

theorem frame_pi : Cert.quiescent_Kernel25Ideal := fun m ρ _ => Cert.Kernel25Ideal.Gen.frame m ρ

theorem frame_ri : Cert.quiescent_Reference25Ideal := fun m ρ _ =>
  (θ_run Cert.Reference25Ideal.defs _ _).mono
    (fun r h => ⟨fun c => (h c).2.2, Idealize.ShloMosaic.sem_eq_zero_of_no_sems (by decide) r.2⟩)
    (Cert.Reference25Ideal.Value.run (F := Ideal) m ρ)

namespace Ref

open Cert.Reference25Ideal Cert.Reference25Ideal.Read

variable (x0 x2 : (⟨S256x1024, .f32⟩ : BufTy).Contents (Elt Ideal)) (x1 : (⟨S1x1024, .f32⟩ : BufTy).Contents (Elt Ideal))

theorem msq_apply (i : S256x1.Idx) : (val_main_v7 (F := Ideal) x0 i : EReal) = msq (tab2 x0 (i 0).val) := by
  have e : (val_main_v3 (F := Ideal) x0 i : EReal) = ∑ k : Fin 1024, tab2 x0 (i 0).val k.val * tab2 x0 (i 0).val k.val := by
    rw [val_main_v3_apply, val_main_v2_apply]
    refine (congrArg (· + _) zero_word).trans ((zero_add _).trans ?_)
    refine Finset.sum_congr rfl fun k _ => ?_
    rw [val_main_v1_apply]
    exact congrArg₂ (· * ·) (eq_tab2 x0 _) (eq_tab2 x0 _)
  rw [val_main_v7_apply, val_main_v6_apply, val_main_v5_apply, val_main_v4_apply, e]
  rfl

theorem inv_apply (i : S256x1.Idx) : (val_main_v8 (F := Ideal) x0 i : EReal) = inv (tab2 x0 (i 0).val) := by
  rw [val_main_v8_apply]
  exact congrArg Ideal.rsqrt (msq_apply x0 i)

theorem n_apply (i : S256x1024.Idx) : (val_main_v13 (F := Ideal) x0 i : EReal)
    = tab2 x0 (i 0).val (i 1).val * inv (tab2 x0 (i 0).val) := by
  rw [val_main_v13_apply, val_main_v12_apply]
  exact congrArg₂ (· * ·) (eq_tab2 x0 i) (inv_apply x0 _)

theorem gain_apply (i : S256x1024.Idx) : (val_main_v21 (F := Ideal) x1 x2 i : EReal)
    = tab2 x2 (i 0).val (i 1).val * tab2 x1 0 (i 1).val := by
  have h1 : (i 1).val < 1024 := (i 1).isLt
  rw [val_main_v21_apply, val_main_v20_apply, val_main_v14_apply, val_main_v0_apply]
  refine congrArg₂ (· * ·) (eq_tab2 x2 i) ((eq_tab2 x1 _).trans ?_)
  congr 1
  exact Nat.mod_eq_of_lt h1

theorem root_apply (i : S256x1.Idx) : (val_main_v11 (F := Ideal) x0 i : EReal)
    = Ideal.ofBits .f32 0xBF000000#32 * Ideal.div (inv (tab2 x0 (i 0).val)) (msq (tab2 x0 (i 0).val)) := by
  rw [val_main_v11_apply, val_main_v10_apply, val_main_v9_apply]
  exact congrArg (Ideal.ofBits .f32 0xBF000000#32 * ·) (congrArg₂ Ideal.div (inv_apply x0 i) (msq_apply x0 i))

theorem chain_apply (i : S256x1.Idx) : (val_main_v30 (F := Ideal) x0 x1 x2 i : EReal)
    = Ideal.div ((∑ k : Fin 1024, tab2 x0 (i 0).val k.val * (tab2 x2 (i 0).val k.val * tab2 x1 0 k.val))
        * (Ideal.ofBits .f32 0xBF000000#32 * Ideal.div (inv (tab2 x0 (i 0).val)) (msq (tab2 x0 (i 0).val)))) width := by
  have h0 : (i 0).val < 256 := (i 0).isLt
  have h1 : (i 1).val < 1 := (i 1).isLt
  have e : (val_main_v25 (F := Ideal) x0 x1 x2 i : EReal)
      = ∑ k : Fin 1024, tab2 x0 (i 0).val k.val * (tab2 x2 (i 0).val k.val * tab2 x1 0 k.val) := by
    rw [val_main_v25_apply, val_main_v24_apply]
    refine (congrArg (· + _) zero_word).trans ((zero_add _).trans ?_)
    refine Finset.sum_congr rfl fun k _ => ?_
    rw [val_main_v23_apply]
    refine (congrArg₂ (· * ·) (eq_tab2 x0 _) (gain_apply x2 x1 _)).trans ?_
    show tab2 x0 ((i 0).val * 1 + (i 1).val) k.val * (tab2 x2 ((i 0).val * 1 + (i 1).val) k.val * tab2 x1 0 k.val) = _
    rw [show (i 0).val * 1 + (i 1).val = (i 0).val by omega]
  rw [val_main_v30_apply, val_main_v28_apply, val_main_v29_apply, e]
  exact congrArg (fun z => Ideal.div (_ * z) width) (root_apply x0 i)

theorem row_apply (i : S256x1024.Idx) : (val_main_v32 (F := Ideal) x0 x1 x2 i : EReal)
    = Ideal.div ((∑ k : Fin 1024, tab2 x0 (i 0).val k.val * (tab2 x2 (i 0).val k.val * tab2 x1 0 k.val))
        * (Ideal.ofBits .f32 0xBF000000#32 * Ideal.div (inv (tab2 x0 (i 0).val)) (msq (tab2 x0 (i 0).val)))) width := by
  rw [val_main_v32_apply, val_main_v31_apply]
  refine (congrArg (· + _) zero_word).trans ((zero_add _).trans ?_)
  rw [Fin.sum_univ_one]
  exact chain_apply x0 x2 x1 _

theorem apply (i : S256x1024.Idx) : (val_main_v36 (F := Ideal) x0 x1 x2 i : EReal)
    = grad 0 (tab2 x0 (i 0).val) (tab2 x2 (i 0).val) (tab2 x1 0) (i 1).val := by
  rw [grad_eq _ _ _ _ _ (i 1).isLt, grad', zero_add, val_main_v36_apply, val_main_v34_apply, val_main_v35_apply, val_main_v33_apply, val_main_v27_apply, val_main_v26_apply]
  exact congrArg₂ (· + ·) (congrArg₂ (· + ·)
    (congrArg₂ (· * ·) (gain_apply x2 x1 i) (inv_apply x0 _))
    (congrArg₂ (· * ·) (eq_tab2 x0 i) (row_apply x0 x2 x1 i)))
    (congrArg₂ (· * ·) (row_apply x0 x2 x1 i) (eq_tab2 x0 i))

theorem gain_grad_apply (i : S1x1024.Idx) : (val_main_v37 (F := Ideal) x0 x2 i : EReal)
    = part (tab2 x2) (fun r s => tab2 x0 r s * inv (tab2 x0 r)) 256 (i 1).val (i 1).val := by
  have h1 : (i 1).val < 1024 := (i 1).isLt
  rw [val_main_v37_apply, val_main_v22_apply]
  refine (congrArg (· + _) zero_word).trans ((zero_add _).trans ?_)
  rw [Fin.sum_univ_one, val_main_v19_apply, val_main_v18_apply]
  refine (congrArg (· + _) zero_word).trans ((zero_add _).trans ?_)
  rw [part, Finset.sum_range]
  refine Finset.sum_congr rfl fun k _ => ?_
  rw [val_main_v17_apply]
  refine (congrArg₂ (· * ·) (n_apply x0 _) (eq_tab2 x2 _)).trans ((mul_comm _ _).trans ?_)
  show tab2 x2 k.val (0 * 1024 + (i 1).val) * (tab2 x0 k.val (0 * 1024 + (i 1).val) * inv (tab2 x0 k.val)) = _
  rw [Nat.zero_mul, Nat.zero_add]

end Ref

theorem preserves : Cert.preserves_Kernel25_Kernel25Ideal := trivial

/-- The kernel's arrays are the reference's. -/
theorem algebraic : Cert.algebraic_Kernel25Ideal_Reference25Ideal := by
  intro m ρ m' ρ' _ hag
  refine ⟨fun c => (Cert.Kernel25Ideal.Gen.dats m 0 c).arrAt 4 Cert.Kernel25Ideal.cfg0.N,
    fun c => (Cert.Kernel25Ideal.Gen.dats m 0 c).arrAt 5 Cert.Kernel25Ideal.cfg0.N,
    Cert.Kernel25Ideal.Value.run_blocks m ρ,
    (θ_run _ _ _).mono (fun r h c => ?_) (Cert.Reference25Ideal.Value.run m' ρ')⟩
  obtain ⟨h0, h1, hk⟩ := h c
  obtain ⟨a0, a1, a2⟩ := hag c
  refine ⟨funext fun i => ?_, funext fun i => ?_, hk⟩
  · refine (congrFun (h0.trans (Cert.Reference25Ideal.Read.val_main_v36_eq _ _ _)) i).trans ?_
    rw [a0, a1, a2]
    exact (Ref.apply _ _ _ i).trans (array m c i).symm
  · refine (congrFun (h1.trans (Cert.Reference25Ideal.Read.val_main_v37_eq _ _)) i).trans ?_
    rw [a0, a2]
    exact (Ref.gain_grad_apply _ _ i).trans (gain_array m c i).symm

end Cert.RmsBwd

end
-- ==== Proof.MemNormBlocks.lean ====
module

public import proofs.«01_k».proof.Proof.RmsBlocks
public import proofs.«01_k».proof.Proof.Gen.Kernel26Ideal.Value
public import Idealize.ShloMosaic.Lib.Pipeline.ReadBack
public import Idealize.ShloMosaic.Lib.Pointwise.Tactic

/-!
The norm of the memory: the one point normalises its 256 rows and scales them by the gain.
-/

@[expose] public section

set_option maxRecDepth 16384

noncomputable section

namespace Cert.MemNorm

open Cert.Kernel26Ideal Cert.Kernel26Ideal.Gen Cert.Kernel26Ideal.Value Idealize.ShloMosaic Idealize.ShloMosaic.TcCoe
open Idealize.SL Idealize.SL.Sem Cert.Tab Cert.NormRow
open Cert.Rms (normed)

theorem pay (x : Vec Ideal S256x1024 .f32) (g : Vec Ideal S1x1024 .f32) {X G : ℕ → ℕ → EReal}
    (hx : ∀ j, (x j : EReal) = X (j 0).val (j 1).val) (hg : ∀ j, (g j : EReal) = G (j 0).val (j 1).val)
    (j : S256x1024.Idx) : (k0_pay1 x g j : EReal) = normed (X (j 0).val) (G 0) (j 1).val := by
  unfold k0_pay1
  pointwise
  simp only [hx, hg]
  rfl

variable (m : (ℓ : Loc nD τ sig) → Buf (Elt Ideal) ℓ) (c : Dev nD) (t : Fin cfg0.N)

abbrev X : ℕ → ℕ → EReal := tab2 (m ((c : Thread nD τ).loc main_arg0) : S256x1024.Idx → EReal)
abbrev G : ℕ → ℕ → EReal := tab2 (m ((c : Thread nD τ).loc main_arg1) : S1x1024.Idx → EReal)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

theorem block0 (j : S256x1024.Idx) : iblk m c 0 t j = X m c (j 0).val (j 1).val := by
  have e := index0 t
  unfold iblk
  blk_simp
  rw [V_main_arg0]
  refine (eq_tab2 _ _).trans ?_
  blk_simp [e]

theorem block1 (j : S1x1024.Idx) : iblk m c 1 t j = G m c (j 0).val (j 1).val := by
  have e := index1 t
  unfold iblk
  blk_simp
  rw [V_main_arg1]
  refine (eq_tab2 _ _).trans ?_
  blk_simp [e]

/-- What a point writes back. -/
theorem tile (i : S256x1024.Idx) : (out0_2 (iblk m c 0 t) (iblk m c 1 t) i : EReal)
    = normed (X m c (i 0).val) (G m c 0) (i 1).val := by
  unfold out0_2
  frame_out
  exact pay _ _ (block0 m c t) (block1 m c t) i

/-- The whole array. -/
theorem array (i : S256x1024.Idx) : ((dats m 0 c).arrAt 2 cfg0.N i : EReal)
    = normed (X m c (i 0).val) (G m c 0) (i 1).val := by
  have h0 : (i 0).val < 256 := (i 0).isLt
  have h1 : (i 1).val < 1024 := (i 1).isLt
  obtain ⟨t⟩ : Nonempty (Fin cfg0.N) := ⟨⟨0, by decide⟩⟩
  have e := index2 t
  have hm : i ∈ ((cfg0.win 2).blk t).view.set := by
    mem_blk [e]
    omega
  obtain ⟨y, rfl⟩ := View.exists_emb_of_mem_set _ hm
  refine (Pipeline.Dat.arrAt_emb_eq_flushed _ 2 disjoint2 t (flush0_2 t) y).trans ?_
  rw [flushed2]
  have T := tile m c t
  generalize out0_2 (iblk m c 0 t) (iblk m c 1 t) = z at T ⊢
  refine (T _).trans ?_
  blk_simp [e]

end Cert.MemNorm
-- ==== Proof.MemNormValue.lean ====
module

public import proofs.«01_k».proof.Defs
public import proofs.«01_k».proof.Proof.MemNormBlocks
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Reference26Ideal.Read
public import Idealize.ShloMosaic.Init

/-!
The norm of the memory: both programs do the same with each row, so they agree on all arguments, finite or not.
-/

@[expose] public section

set_option maxRecDepth 16384

noncomputable section

namespace Cert.MemNorm

open Idealize.ShloMosaic Idealize.ShloMosaic.TcCoe Idealize.SL.Sem Cert.Tab Cert.NormRow
open Cert.Rms (normed)

theorem frame_p : Cert.quiescent_Kernel26 := fun m ρ _ => Cert.Kernel26.Gen.frame m ρ

theorem frame_pi : Cert.quiescent_Kernel26Ideal := fun m ρ _ => Cert.Kernel26Ideal.Gen.frame m ρ

theorem frame_ri : Cert.quiescent_Reference26Ideal := fun m ρ _ =>
  (θ_run Cert.Reference26Ideal.defs _ _).mono
    (fun r h => ⟨fun c => (h c).2, Idealize.ShloMosaic.sem_eq_zero_of_no_sems (by decide) r.2⟩)
    (Cert.Reference26Ideal.Value.run (F := Ideal) m ρ)

namespace Ref

open Cert.Reference26Ideal Cert.Reference26Ideal.Read

variable (x0 : (⟨S256x1024, .f32⟩ : BufTy).Contents (Elt Ideal)) (x1 : (⟨S1x1024, .f32⟩ : BufTy).Contents (Elt Ideal))

theorem zero_word : Ideal.ofBits .f32 0x00000000#32 = 0 := by
  rw [Cert.Gmlp.ofBits_zero]
  rfl

theorem inv_apply (i : S256x1.Idx) : (val_main_v8 (F := Ideal) x0 i : EReal) = inv (tab2 x0 (i 0).val) := by
  have e : (val_main_v3 (F := Ideal) x0 i : EReal) = ∑ k : Fin 1024, tab2 x0 (i 0).val k.val * tab2 x0 (i 0).val k.val := by
    rw [val_main_v3_apply, val_main_v2_apply]
    refine (congrArg (· + _) zero_word).trans ((zero_add _).trans ?_)
    refine Finset.sum_congr rfl fun k _ => ?_
    rw [val_main_v1_apply]
    exact congrArg₂ (· * ·) (eq_tab2 x0 _) (eq_tab2 x0 _)
  rw [val_main_v8_apply, val_main_v7_apply, val_main_v6_apply, val_main_v5_apply, val_main_v4_apply, e]
  rfl

theorem apply (i : S256x1024.Idx) : (val_main_v14 (F := Ideal) x0 x1 i : EReal)
    = normed (tab2 x0 (i 0).val) (tab2 x1 0) (i 1).val := by
  have h1 : (i 1).val < 1024 := (i 1).isLt
  show (val_main_v13 (F := Ideal) x0 x1 i : EReal) = _
  rw [val_main_v13_apply, val_main_v10_apply, val_main_v9_apply, val_main_v12_apply, val_main_v11_apply, val_main_v0_apply]
  refine congrArg₂ (· * ·) (congrArg₂ (· * ·) (eq_tab2 x0 i) (inv_apply x0 _)) ((eq_tab2 x1 _).trans ?_)
  congr 1
  exact Nat.mod_eq_of_lt h1

end Ref

theorem preserves : Cert.preserves_Kernel26_Kernel26Ideal := trivial

/-- The kernel's array is the reference's. -/
theorem algebraic : Cert.algebraic_Kernel26Ideal_Reference26Ideal := by
  intro m ρ m' ρ' _ hag
  refine ⟨fun c => (Cert.Kernel26Ideal.Gen.dats m 0 c).arrAt 2 Cert.Kernel26Ideal.cfg0.N,
    Cert.Kernel26Ideal.Value.run_blocks m ρ,
    (θ_run _ _ _).mono (fun r h c => ?_) (Cert.Reference26Ideal.Value.run m' ρ')⟩
  obtain ⟨h0, hk⟩ := h c
  obtain ⟨a0, a1⟩ := hag c
  refine ⟨funext fun i => ?_, hk⟩
  refine (congrFun (h0.trans (Cert.Reference26Ideal.Read.val_main_v14_eq _ _)) i).trans ?_
  rw [a0, a1]
  exact (Ref.apply _ _ i).trans (array m c i).symm

end Cert.MemNorm

end
-- ==== Proof.AttnHgFwdBlocks.lean ====
module

public import proofs.«01_k».proof.Proof.AttnFwdBlocks
public import proofs.«01_k».proof.Proof.Gen.Kernel27Ideal.Value

/-! The attention in the recurrent layer, block by block: the other layer's, with the queries in other columns. -/

@[expose] public section

set_option maxRecDepth 16384

noncomputable section

namespace Cert.AttnHgFwd

open Cert.Kernel27Ideal Cert.Kernel27Ideal.Gen Cert.Kernel27Ideal.Value Idealize.ShloMosaic Idealize.ShloMosaic.TcCoe
open Idealize.SL Idealize.SL.Sem Cert.Tab
open Cert.AttnFwd (mix)

variable (m : (ℓ : Loc nD τ sig) → Buf (Elt Ideal) ℓ) (c : Dev nD) (t : Fin cfg0.N)

abbrev P : ℕ → ℕ → EReal := tab2 (m ((c : Thread nD τ).loc main_arg0) : S4096x3328.Idx → EReal)
abbrev KV : ℕ → ℕ → EReal := tab2 (m ((c : Thread nD τ).loc main_arg1) : S256x512.Idx → EReal)

/-- The queries, keys and values: columns of the arguments. -/
def qs (r s : ℕ) : EReal := P m c r (3072 + s)
def ks (r s : ℕ) : EReal := KV m c r s
def vs (r s : ℕ) : EReal := KV m c r (256 + s)

theorem index0 : ∀ t : Fin cfg0.N, win0_0.index t = ![t.val, 12] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 1] := (by decide +kernel : ∀ t : Fin grid0.N, _)
theorem index3 : ∀ t : Fin cfg0.N, win0_3.index t = ![t.val, 3] := (by decide +kernel : ∀ t : Fin grid0.N, _)

theorem block0 (j : S2048x256.Idx) : iblk m c 0 t j = qs m c (2048 * t.val + (j 0).val) (j 1).val := by
  have e := index0 t
  unfold iblk
  blk_simp
  rw [V_main_arg0]
  refine (eq_tab2 _ _).trans ?_
  blk_simp [e]
  rw [Nat.mul_comm 2048]
  rfl

theorem block1 (j : S256x256.Idx) : iblk m c 1 t j = ks m c (j 0).val (j 1).val := by
  have e := index1 t
  unfold iblk
  blk_simp
  rw [V_main_arg1]
  refine (eq_tab2 _ _).trans ?_
  blk_simp [e]
  rfl

theorem block2 (j : S256x256.Idx) : iblk m c 2 t j = vs m c (j 0).val (j 1).val := by
  have e := index2 t
  unfold iblk
  blk_simp
  rw [V_main_arg1]
  refine (eq_tab2 _ _).trans ?_
  blk_simp [e]
  rfl

/-- What a point writes back. -/
theorem tile (i : S2048x256.Idx) : (outsAt0 m c t i : EReal)
    = mix (qs m c) (ks m c) (vs m c) (2048 * t.val + (i 0).val) (i 1).val := by
  unfold outsAt0
  frame_out
  exact AttnFwd.all (block0 m c t) (block1 m c t) (block2 m c t) i

/-- The attention's columns of the whole array. -/
theorem array (i : S4096x1024.Idx) (hi : 768 ≤ (i 1).val) : ((dats m 0 c).arrAt 3 cfg0.N i : EReal)
    = mix (qs m c) (ks m c) (vs m c) (i 0).val ((i 1).val - 768) := by
  have hN : cfg0.N = 2 := rfl
  have h0 : (i 0).val < 4096 := (i 0).isLt
  have h1 : (i 1).val < 1024 := (i 1).isLt
  obtain ⟨t, ht⟩ : ∃ t : Fin cfg0.N, t.val = (i 0).val / 2048 := ⟨⟨(i 0).val / 2048, by omega⟩, rfl⟩
  have e := index3 t
  have hm : i ∈ ((cfg0.win 3).blk t).view.set := by
    mem_blk [e]
    omega
  obtain ⟨y, rfl⟩ := View.exists_emb_of_mem_set _ hm
  refine (Pipeline.Dat.arrAt_emb_eq_flushed _ 3 disjoint3 t (flush0_3 t) y).trans ?_
  rw [flushed3]
  have T := tile m c t
  generalize outsAt0 m c t = z at T ⊢
  refine (T _).trans ?_
  blk_simp [e]
  rw [Nat.mul_comm 2048, show 3 * 256 + (y 1).val - 768 = (y 1).val by omega]

/-- The other columns stay as they came. -/
theorem rest (i : S4096x1024.Idx) (hi : (i 1).val < 768) : ((dats m 0 c).arrAt 3 cfg0.N i : EReal)
    = (m ((c : Thread nD τ).loc main_arg2) : S4096x1024.Idx → EReal) i := by
  refine (entry3 m c i fun t _ => ?_).trans ?_
  · have e := index3 t
    mem_blk [e]
    omega
  · show (V m c main_v0 : S4096x1024.Idx → EReal) i = _
    entry_read
    rfl

end Cert.AttnHgFwd

end
-- ==== Proof.AttnHgFwdValue.lean ====
module

public import proofs.«01_k».proof.Defs
public import proofs.«01_k».proof.Proof.AttnFwdValue
public import proofs.«01_k».proof.Proof.AttnHgFwdBlocks
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Reference27Ideal.Read

/-!
The attention's forward pass in the recurrent layer. Its reference is the other layer's at an array whose last columns are
the queries.
-/

@[expose] public section

set_option maxRecDepth 16384

noncomputable section

namespace Cert.AttnHgFwd

open Idealize.ShloMosaic Idealize.ShloMosaic.TcCoe Idealize.SL.Sem Cert.Tab
open Cert.AttnFwd (mix)

theorem frame_p : Cert.quiescent_Kernel27 := fun m ρ _ => Cert.Kernel27.Gen.frame m ρ

theorem frame_pi : Cert.quiescent_Kernel27Ideal := fun m ρ _ => Cert.Kernel27Ideal.Gen.frame m ρ

theorem frame_ri : Cert.quiescent_Reference27Ideal := fun m ρ _ =>
  (θ_run Cert.Reference27Ideal.defs _ _).mono
    (fun r h => ⟨fun c => (h c).2, Idealize.ShloMosaic.sem_eq_zero_of_no_sems (by decide) r.2⟩)
    (Cert.Reference27Ideal.Value.run (F := Ideal) m ρ)

/-- The columns from 1536 on. -/
def cols (x : (⟨2, ![4096, 3328]⟩ : Shape).Idx → EReal) : (⟨2, ![4096, 1792]⟩ : Shape).Idx → EReal := fun j =>
  x (ValueIdx.ix2 ⟨(j 0).val, (j 0).isLt⟩ ⟨1536 + (j 1).val, Nat.add_lt_add_left (show (j 1).val < 1792 from (j 1).isLt) 1536⟩)

theorem tab_cols (x : (⟨2, ![4096, 3328]⟩ : Shape).Idx → EReal) (r s : ℕ) : tab2 (cols x) r (1536 + s) = tab2 x r (3072 + s) := by
  unfold tab2
  by_cases h : r < 4096 ∧ s < 256
  · rw [dif_pos ⟨h.1, by omega⟩, dif_pos ⟨h.1, by omega⟩]
    exact congrArg x (funext fun a => match a with
      | ⟨0, _⟩ => rfl
      | ⟨1, _⟩ => Fin.ext (show 1536 + (1536 + s) = 3072 + s by omega))
  · rw [dif_neg (fun q => h ⟨q.1, by omega⟩), dif_neg (fun q => h ⟨q.1, by omega⟩)]

section Ref

open Cert.Reference27Ideal Cert.Reference27Ideal.Read

variable (x0 : S4096x3328.Idx → EReal) (x1 : S256x512.Idx → EReal) (x2 : S4096x1024.Idx → EReal)

theorem query : val_main_v3 (F := Ideal) x0 = Reference19Ideal.Read.val_main_v3 (F := Ideal) (cols x0) := by
  funext i
  rw [val_main_v3_apply, Reference19Ideal.Read.val_main_v3_apply]
  exact congrArg x0 (funext fun a => match a with
    | ⟨0, _⟩ => rfl
    | ⟨1, _⟩ => Fin.ext (show 3072 + (i 1).val = 1536 + (1536 + (i 1).val) by omega))

theorem scores : val_main_v10 (F := Ideal) x0 x1 = Reference19Ideal.Read.val_main_v10 (F := Ideal) (cols x0) x1 := by
  unfold val_main_v10 val_main_v8 val_main_v5 val_main_v4 Reference19Ideal.Read.val_main_v10 Reference19Ideal.Read.val_main_v8
    Reference19Ideal.Read.val_main_v5 Reference19Ideal.Read.val_main_v4
  rw [query]
  rfl

theorem exps : val_main_v17 (F := Ideal) x0 x1 = Reference19Ideal.Read.val_main_v17 (F := Ideal) (cols x0) x1 := by
  unfold val_main_v17 val_main_v16 val_main_v15 val_main_v14 val_main_v13 val_main_v11 Reference19Ideal.Read.val_main_v17
    Reference19Ideal.Read.val_main_v16 Reference19Ideal.Read.val_main_v15 Reference19Ideal.Read.val_main_v14
    Reference19Ideal.Read.val_main_v13 Reference19Ideal.Read.val_main_v11
  rw [scores]
  rfl

theorem result : val_main_v28 (F := Ideal) x0 x1 x2 = Reference19Ideal.Read.val_main_v28 (F := Ideal) (cols x0) x1 x2 := by
  unfold val_main_v28 val_main_v27 val_main_v25 val_main_v24 val_main_v23 val_main_v22 val_main_v21 val_main_v20 val_main_v19
    val_main_v18 Reference19Ideal.Read.val_main_v28 Reference19Ideal.Read.val_main_v27 Reference19Ideal.Read.val_main_v25
    Reference19Ideal.Read.val_main_v24 Reference19Ideal.Read.val_main_v23 Reference19Ideal.Read.val_main_v22
    Reference19Ideal.Read.val_main_v21 Reference19Ideal.Read.val_main_v20 Reference19Ideal.Read.val_main_v19
    Reference19Ideal.Read.val_main_v18
  rw [exps]
  rfl

theorem queries : AttnFwd.Ref.qx (cols x0) = fun r s => tab2 x0 r (3072 + s) :=
  funext fun r => funext fun s => tab_cols x0 r s

end Ref

theorem preserves : Cert.preserves_Kernel27_Kernel27Ideal := trivial

/-- The kernel's array is the reference's. -/
theorem algebraic : Cert.algebraic_Kernel27Ideal_Reference27Ideal := by
  intro m ρ m' ρ' _ hag
  refine ⟨fun c => (Cert.Kernel27Ideal.Gen.dats m 0 c).arrAt 3 Cert.Kernel27Ideal.cfg0.N,
    Cert.Kernel27Ideal.Value.run_blocks m ρ,
    (θ_run _ _ _).mono (fun r h c => ?_) (Cert.Reference27Ideal.Value.run m' ρ')⟩
  obtain ⟨r0, hk⟩ := h c
  obtain ⟨a0, a1, a2⟩ := hag c
  refine ⟨funext fun i => ?_, hk⟩
  refine (congrFun (r0.trans (Cert.Reference27Ideal.Read.val_main_v28_eq m' c)) i).trans ?_
  rw [a0, a1, a2]
  refine (congrFun (result _ _ _) i).trans ?_
  by_cases hi : (i 1).val < 768
  · exact (AttnFwd.Ref.out_rest _ _ _ i hi).trans (rest m c i hi).symm
  · refine (AttnFwd.Ref.out_mix _ _ _ i (by omega)).trans ?_
    rw [queries]
    exact (array m c i (by omega)).symm

end Cert.AttnHgFwd

end
-- ==== Proof.AttnHgBlocks.lean ====
module

public import proofs.«01_k».proof.Proof.AttnBlocks
public import proofs.«01_k».proof.Proof.Gen.Kernel28Ideal.Value

/-! The gradient of the attention in the recurrent layer, block by block: the other layer's, with the queries in other columns. -/

@[expose] public section

set_option maxRecDepth 16384

noncomputable section

namespace Cert.AttnHg

open Cert.Kernel28Ideal Cert.Kernel28Ideal.Gen Cert.Kernel28Ideal.Value Idealize.ShloMosaic Idealize.ShloMosaic.TcCoe
open Idealize.SL Idealize.SL.Sem Cert.Tab
open Cert.Attn (dq dk dv dscore prob)

variable (m : (ℓ : Loc nD τ sig) → Buf (Elt Ideal) ℓ) (c : Dev nD) (t : Fin cfg0.N)

abbrev P : ℕ → ℕ → EReal := tab2 (m ((c : Thread nD τ).loc main_arg0) : S4096x3328.Idx → EReal)
abbrev KV : ℕ → ℕ → EReal := tab2 (m ((c : Thread nD τ).loc main_arg1) : S256x512.Idx → EReal)
abbrev H : ℕ → ℕ → EReal := tab2 (m ((c : Thread nD τ).loc main_arg2) : S4096x1024.Idx → EReal)

/-- The queries, keys and values, and the gradient of the attention's output: columns of the arguments. -/
def qs (r s : ℕ) : EReal := P m c r (3072 + s)
def ks (r s : ℕ) : EReal := KV m c r s
def vs (r s : ℕ) : EReal := KV m c r (256 + s)
def os (r s : ℕ) : EReal := H m c r (768 + s)

theorem index0 : ∀ t : Fin cfg0.N, win0_0.index t = ![t.val, 12] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 1] := (by decide +kernel : ∀ t : Fin grid0.N, _)
theorem index3 : ∀ t : Fin cfg0.N, win0_3.index t = ![t.val, 3] := (by decide +kernel : ∀ t : Fin grid0.N, _)
theorem index4 : ∀ t : Fin cfg0.N, win0_4.index t = ![t.val, 12] := (by decide +kernel : ∀ t : Fin grid0.N, _)

theorem block0 (j : S2048x256.Idx) : iblk m c 0 t j = qs m c (2048 * t.val + (j 0).val) (j 1).val := by
  have e := index0 t
  unfold iblk
  blk_simp
  rw [V_main_arg0]
  refine (eq_tab2 _ _).trans ?_
  blk_simp [e]
  rw [Nat.mul_comm 2048]
  rfl

theorem block1 (j : S256x256.Idx) : iblk m c 1 t j = ks m c (j 0).val (j 1).val := by
  have e := index1 t
  unfold iblk
  blk_simp
  rw [V_main_arg1]
  refine (eq_tab2 _ _).trans ?_
  blk_simp [e]
  rfl

theorem block2 (j : S256x256.Idx) : iblk m c 2 t j = vs m c (j 0).val (j 1).val := by
  have e := index2 t
  unfold iblk
  blk_simp
  rw [V_main_arg1]
  refine (eq_tab2 _ _).trans ?_
  blk_simp [e]
  rfl

theorem block3 (j : S2048x256.Idx) : iblk m c 3 t j = os m c (2048 * t.val + (j 0).val) (j 1).val := by
  have e := index3 t
  unfold iblk
  blk_simp
  rw [V_main_arg2]
  refine (eq_tab2 _ _).trans ?_
  blk_simp [e]
  rw [Nat.mul_comm 2048]
  rfl

theorem query_tile (i : S2048x256.Idx) : ((outsAt0 m c t.val t.isLt).1 i : EReal)
    = dq (qs m c) (ks m c) (vs m c) (os m c) (2048 * t.val + (i 0).val) (i 1).val := by
  by_cases h : t.val % 2 = 0
  · rw [outsAt0_A m c t h]
    dsimp only
    frame_out
    exact Attn.query_all (block0 m c t) (block1 m c t) (block2 m c t) (block3 m c t) i
  · rw [outsAt0_B m c t h]
    dsimp only
    frame_out
    exact Attn.query_all (block0 m c t) (block1 m c t) (block2 m c t) (block3 m c t) i

theorem key_first (h : 0 < cfg0.N) (i : S256x256.Idx) : ((outsAt0 m c 0 h).2.1 i : EReal)
    = dk (qs m c) (ks m c) (vs m c) (os m c) 2048 0 (i 0).val (i 1).val := by
  rw [outsAt0_A m c ⟨0, h⟩ rfl]
  dsimp only
  frame_out
  refine (Attn.key_all (block0 m c ⟨0, h⟩) (block1 m c ⟨0, h⟩) (block2 m c ⟨0, h⟩) (block3 m c ⟨0, h⟩) _ i).trans ?_
  exact (congrArg (· + _) (Attn.pay4 i)).trans (zero_add _)

theorem value_first (h : 0 < cfg0.N) (i : S256x256.Idx) : ((outsAt0 m c 0 h).2.2 i : EReal)
    = dv (qs m c) (ks m c) (os m c) 2048 0 (i 0).val (i 1).val := by
  rw [outsAt0_A m c ⟨0, h⟩ rfl]
  dsimp only
  frame_out
  refine (Attn.value_all (block0 m c ⟨0, h⟩) (block1 m c ⟨0, h⟩) (block3 m c ⟨0, h⟩) _ i).trans ?_
  exact (congrArg (· + _) (Attn.pay5 i)).trans (zero_add _)

theorem key_last (h : 1 < cfg0.N) (i : S256x256.Idx) : ((outsAt0 m c 1 h).2.1 i : EReal)
    = dk (qs m c) (ks m c) (vs m c) (os m c) 2048 0 (i 0).val (i 1).val
      + dk (qs m c) (ks m c) (vs m c) (os m c) 2048 2048 (i 0).val (i 1).val := by
  rw [outsAt0_B m c ⟨1, h⟩ (by dsimp only; omega)]
  dsimp only
  frame_out
  refine (Attn.key_all (block0 m c ⟨1, h⟩) (block1 m c ⟨1, h⟩) (block2 m c ⟨1, h⟩) (block3 m c ⟨1, h⟩) _ i).trans ?_
  exact congrArg (· + _) (key_first m c _ i)

theorem value_last (h : 1 < cfg0.N) (i : S256x256.Idx) : ((outsAt0 m c 1 h).2.2 i : EReal)
    = dv (qs m c) (ks m c) (os m c) 2048 0 (i 0).val (i 1).val
      + dv (qs m c) (ks m c) (os m c) 2048 2048 (i 0).val (i 1).val := by
  rw [outsAt0_B m c ⟨1, h⟩ (by dsimp only; omega)]
  dsimp only
  frame_out
  refine (Attn.value_all (block0 m c ⟨1, h⟩) (block1 m c ⟨1, h⟩) (block3 m c ⟨1, h⟩) _ i).trans ?_
  exact congrArg (· + _) (value_first m c _ i)

theorem query_array (i : S4096x3328.Idx) (hi : 3072 ≤ (i 1).val) : ((dats m 0 c).arrAt 4 cfg0.N i : EReal)
    = dq (qs m c) (ks m c) (vs m c) (os m c) (i 0).val ((i 1).val - 3072) := by
  have hN : cfg0.N = 2 := rfl
  have h0 : (i 0).val < 4096 := (i 0).isLt
  have h1 : (i 1).val < 3328 := (i 1).isLt
  obtain ⟨t, ht⟩ : ∃ t : Fin cfg0.N, t.val = (i 0).val / 2048 := ⟨⟨(i 0).val / 2048, by omega⟩, rfl⟩
  have e := index4 t
  have hm : i ∈ ((cfg0.win 4).blk t).view.set := by
    mem_blk [e]
    omega
  obtain ⟨y, rfl⟩ := View.exists_emb_of_mem_set _ hm
  refine (Pipeline.Dat.arrAt_emb_eq_flushed _ 4 disjoint4 t (flush0_4 t) y).trans ?_
  rw [flushed4]
  have T := query_tile m c t
  generalize (outsAt0 m c t.val t.isLt).1 = z at T ⊢
  refine (T _).trans ?_
  blk_simp [e]
  rw [Nat.mul_comm 2048, show 12 * 256 + (y 1).val - 3072 = (y 1).val by omega]

/-- Outside the queries' columns the gradient of the projection stays as it came. -/
theorem query_rest (i : S4096x3328.Idx) (hi : (i 1).val < 3072) : ((dats m 0 c).arrAt 4 cfg0.N i : EReal)
    = (m ((c : Thread nD τ).loc main_arg3) : S4096x3328.Idx → EReal) i := by
  refine (entry4 m c i fun t _ => ?_).trans ?_
  · have e := index4 t
    mem_blk [e]
    omega
  · show (V m c main_v0_0 : S4096x3328.Idx → EReal) i = _
    entry_read
    rfl

theorem key_array (i : S256x256.Idx) : ((dats m 0 c).arrAt 5 cfg0.N i : EReal)
    = dk (qs m c) (ks m c) (vs m c) (os m c) 4096 0 (i 0).val (i 1).val := by
  refine ((dats m 0 c).arrAt_emb_eq_after_last 5 ⟨1, by decide⟩ (by decide +kernel) i).trans ?_
  rw [after0_5]
  refine (key_last m c (by decide) i).trans ?_
  refine (Attn.two_parts fun r => dscore (qs m c) (ks m c) (vs m c) (os m c) ((i 1).val / 64) r (i 0).val * qs m c r (i 1).val).trans ?_
  unfold dk
  simp only [Nat.zero_add]

theorem value_array (i : S256x256.Idx) : ((dats m 0 c).arrAt 6 cfg0.N i : EReal)
    = dv (qs m c) (ks m c) (os m c) 4096 0 (i 0).val (i 1).val := by
  refine ((dats m 0 c).arrAt_emb_eq_after_last 6 ⟨1, by decide⟩ (by decide +kernel) i).trans ?_
  rw [after0_6]
  refine (value_last m c (by decide) i).trans ?_
  refine (Attn.two_parts fun r => prob (qs m c) (ks m c) ((i 1).val / 64) r (i 0).val * os m c r (i 1).val).trans ?_
  unfold dv
  simp only [Nat.zero_add]

end Cert.AttnHg
-- ==== Proof.AttnHgValue.lean ====
module

public import proofs.«01_k».proof.Defs
public import proofs.«01_k».proof.Proof.AttnValue
public import proofs.«01_k».proof.Proof.AttnHgFwdValue
public import proofs.«01_k».proof.Proof.AttnHgBlocks
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Reference28Ideal.Read

/-!
The gradient of the attention in the recurrent layer. Its reference is the other layer's at an array whose last columns are
the queries.
-/

@[expose] public section

set_option maxRecDepth 16384

noncomputable section

namespace Cert.AttnHg

open Idealize.ShloMosaic Idealize.ShloMosaic.TcCoe Idealize.SL.Sem Cert.Tab Cert.Gmlp
open Cert.Attn (dq dk dv band_real)
open Cert.AttnHgFwd (cols tab_cols)

instance pre_facts : Cert.Pre_finite_attn0.Facts := by constructor <;> decide

theorem frame_p : Cert.quiescent_Kernel28 := fun m ρ _ => Cert.Kernel28.Gen.frame m ρ

theorem frame_pi : Cert.quiescent_Kernel28Ideal := fun m ρ _ => Cert.Kernel28Ideal.Gen.frame m ρ

theorem frame_ri : Cert.quiescent_Reference28Ideal := fun m ρ _ =>
  (θ_run Cert.Reference28Ideal.defs _ _).mono
    (fun r h => ⟨fun c => (h c).2.2.2, Idealize.ShloMosaic.sem_eq_zero_of_no_sems (by decide) r.2⟩)
    (Cert.Reference28Ideal.Value.run (F := Ideal) m ρ)

section Real

open Cert.Pre_finite_attn0

variable {x0 : S4096x3328.Idx → EReal} {x1 : S256x512.Idx → EReal} {x2 : S4096x1024.Idx → EReal} {x3 : S4096x3328.Idx → EReal}

/-- The queries, the keys, the values and the gradient of the output are numbers. -/
theorem numbers (h : Cert.Pre_finite_attn0.fn (F := Ideal) x0 x1 x2 x3 = fun _ => 1#1) :
    (∀ r s, ∃ v : ℝ, tab2 (cols x0) r (1536 + s) = ((v : ℝ) : EReal)) ∧ (∀ r s, ∃ v : ℝ, tab2 x1 r s = ((v : ℝ) : EReal))
      ∧ ∀ r s, ∃ v : ℝ, tab2 x2 r (768 + s) = ((v : ℝ) : EReal) := by
  have e := congrFun h (fun k => k.elim0)
  dsimp only [fn] at e
  obtain ⟨e, h2⟩ := IntOp.andi_eq_one.1 e
  obtain ⟨h0, h1⟩ := IntOp.andi_eq_one.1 e
  have n0 : ∀ j, ∃ r : ℝ, (extractStridedSlice S4096x256 ![0, 3072] x0 Facts.slices_S4096x3328_S4096x256_0_3072 j : EReal) = r :=
    fun j => ⟨_, all_real (top_is _ _) _ _ _ _ h0 j⟩
  have n1 : ∀ j, ∃ r : ℝ, x1 j = ((r : ℝ) : EReal) := fun j => ⟨_, all_real (top_is _ _) _ _ _ _ h1 j⟩
  have n2 : ∀ j, ∃ r : ℝ, (extractStridedSlice S4096x256 ![0, 768] x2 Facts.slices_S4096x1024_S4096x256_0_768 j : EReal) = r :=
    fun j => ⟨_, all_real (top_is _ _) _ _ _ _ h2 j⟩
  refine ⟨fun r s => ?_, fun r s => ?_, band_real (n := 256) (b := 1024) 768 (by decide) n2 fun r s => ?_⟩
  · rw [tab_cols]
    exact band_real (n := 256) (b := 3328) 3072 (by decide) n0 (fun r s => extractStridedSlice_apply ![0, 3072] x0 _ (ix2 r s)
      (ix2 r ⟨3072 + s.val, by omega⟩) (fun a => match a with
      | ⟨0, _⟩ => (Nat.zero_add _).symm
      | ⟨1, _⟩ => rfl)) r s
  · obtain ⟨f, hf⟩ := tab2_real n1
    exact ⟨_, hf r s⟩
  · exact extractStridedSlice_apply ![0, 768] x2 _ (ix2 r s) (ix2 r ⟨768 + s.val, by omega⟩) (fun a => match a with
      | ⟨0, _⟩ => (Nat.zero_add _).symm
      | ⟨1, _⟩ => rfl)

end Real

section Ref

open Cert.Reference28Ideal Cert.Reference28Ideal.Read

variable (x0 : S4096x3328.Idx → EReal) (x1 : S256x512.Idx → EReal) (x2 : S4096x1024.Idx → EReal) (x3 : S4096x3328.Idx → EReal)

theorem heads_eq : val_main_v5 (F := Ideal) x0 = Reference7Ideal.Read.val_main_v5 (F := Ideal) (cols x0) := by
  have e : val_main_v3 (F := Ideal) x0 = Reference7Ideal.Read.val_main_v3 (F := Ideal) (cols x0) := by
    funext i
    rw [val_main_v3_apply, Reference7Ideal.Read.val_main_v3_apply]
    exact congrArg x0 (funext fun a => match a with
      | ⟨0, _⟩ => rfl
      | ⟨1, _⟩ => Fin.ext (show 3072 + (i 1).val = 1536 + (1536 + (i 1).val) by omega))
  unfold val_main_v5 val_main_v4 Reference7Ideal.Read.val_main_v5 Reference7Ideal.Read.val_main_v4
  rw [e]

theorem scores : val_main_v10 (F := Ideal) x0 x1 = Reference7Ideal.Read.val_main_v10 (F := Ideal) (cols x0) x1 := by
  unfold val_main_v10 val_main_v8 Reference7Ideal.Read.val_main_v10 Reference7Ideal.Read.val_main_v8
  rw [heads_eq]
  rfl

theorem exps : val_main_v31 (F := Ideal) x0 x1 = Reference7Ideal.Read.val_main_v31 (F := Ideal) (cols x0) x1 := by
  unfold val_main_v31 val_main_v30 val_main_v29 val_main_v28 val_main_v18 val_main_v11 Reference7Ideal.Read.val_main_v31
    Reference7Ideal.Read.val_main_v30 Reference7Ideal.Read.val_main_v29 Reference7Ideal.Read.val_main_v28
    Reference7Ideal.Read.val_main_v18 Reference7Ideal.Read.val_main_v11
  rw [scores]
  rfl

theorem tots : val_main_v33 (F := Ideal) x0 x1 = Reference7Ideal.Read.val_main_v33 (F := Ideal) (cols x0) x1 := by
  unfold val_main_v33 val_main_v32 Reference7Ideal.Read.val_main_v33 Reference7Ideal.Read.val_main_v32
  rw [exps]
  rfl

theorem inner : val_main_v54 (F := Ideal) x0 x1 x2 = Reference7Ideal.Read.val_main_v54 (F := Ideal) (cols x0) x1 x2 := by
  unfold val_main_v54 val_main_v53 val_main_v52 val_main_v51 val_main_v50 val_main_v49 val_main_v38 val_main_v36
    Reference7Ideal.Read.val_main_v54 Reference7Ideal.Read.val_main_v53 Reference7Ideal.Read.val_main_v52
    Reference7Ideal.Read.val_main_v51 Reference7Ideal.Read.val_main_v50 Reference7Ideal.Read.val_main_v49
    Reference7Ideal.Read.val_main_v38 Reference7Ideal.Read.val_main_v36
  rw [exps, tots]
  rfl

theorem dscores : val_main_v63 (F := Ideal) x0 x1 x2 = Reference7Ideal.Read.val_main_v63 (F := Ideal) (cols x0) x1 x2 := by
  unfold val_main_v63 val_main_v61 val_main_v60 val_main_v59 val_main_v58 val_main_v57 val_main_v56 val_main_v55
    Reference7Ideal.Read.val_main_v63 Reference7Ideal.Read.val_main_v61 Reference7Ideal.Read.val_main_v60
    Reference7Ideal.Read.val_main_v59 Reference7Ideal.Read.val_main_v58 Reference7Ideal.Read.val_main_v57
    Reference7Ideal.Read.val_main_v56 Reference7Ideal.Read.val_main_v55
  rw [exps, tots, inner]
  rfl

theorem query : val_main_v73 (F := Ideal) x0 x1 x2 = Reference7Ideal.Read.val_main_v73 (F := Ideal) (cols x0) x1 x2 := by
  unfold val_main_v73 val_main_v72 val_main_v70 val_main_v67 val_main_v66 Reference7Ideal.Read.val_main_v73
    Reference7Ideal.Read.val_main_v72 Reference7Ideal.Read.val_main_v70 Reference7Ideal.Read.val_main_v67
    Reference7Ideal.Read.val_main_v66
  rw [dscores]
  rfl

theorem key : val_main_v75 (F := Ideal) x0 x1 x2 = Reference7Ideal.Read.val_main_v75 (F := Ideal) (cols x0) x1 x2 := by
  unfold val_main_v75 val_main_v69 val_main_v65 val_main_v64 Reference7Ideal.Read.val_main_v75 Reference7Ideal.Read.val_main_v69
    Reference7Ideal.Read.val_main_v65 Reference7Ideal.Read.val_main_v64
  rw [dscores, heads_eq]
  rfl

theorem value : val_main_v76 (F := Ideal) x0 x1 x2 = Reference7Ideal.Read.val_main_v76 (F := Ideal) (cols x0) x1 x2 := by
  unfold val_main_v76 val_main_v68 val_main_v48 val_main_v47 val_main_v35 val_main_v34 Reference7Ideal.Read.val_main_v76
    Reference7Ideal.Read.val_main_v68 Reference7Ideal.Read.val_main_v48 Reference7Ideal.Read.val_main_v47
    Reference7Ideal.Read.val_main_v35 Reference7Ideal.Read.val_main_v34
  rw [exps, tots]
  rfl

theorem queries : Attn.Ref.qx (cols x0) = fun r s => tab2 x0 r (3072 + s) :=
  funext fun r => funext fun s => tab_cols x0 r s

/-- In the queries' columns the result is the gradient of the queries, in the others what was handed in. -/
theorem out_query (i : S4096x3328.Idx) (j : S4096x256.Idx) (e0 : (i 0).val = (j 0).val) (e1 : (i 1).val = 3072 + (j 1).val) :
    val_main_v74 (F := Ideal) x0 x1 x2 x3 i = val_main_v73 (F := Ideal) x0 x1 x2 j := by
  refine concatenate_pair_apply_right (t := S4096x3328) (1 : Fin 2) (val_main_v71 (F := Ideal) x3)
    (val_main_v73 (F := Ideal) x0 x1 x2) _ i rfl rfl j (fun a ha => ?_) (by rw [e1]; exact Nat.add_comm _ _)
  match a with
  | ⟨0, _⟩ => exact e0.symm
  | ⟨1, _⟩ => exact absurd rfl ha

theorem out_rest (i : S4096x3328.Idx) (hi : (i 1).val < 3072) : val_main_v74 (F := Ideal) x0 x1 x2 x3 i = x3 i := by
  have e : val_main_v74 (F := Ideal) x0 x1 x2 x3 i = val_main_v71 (F := Ideal) x3 (ValueIdx.ix2 ⟨(i 0).val, (i 0).isLt⟩ ⟨(i 1).val, hi⟩) := by
    refine concatenate_pair_apply_left (t := S4096x3328) (1 : Fin 2) (val_main_v71 (F := Ideal) x3)
      (val_main_v73 (F := Ideal) x0 x1 x2) _ i rfl _ (fun a => ?_)
    match a with
    | ⟨0, _⟩ => rfl
    | ⟨1, _⟩ => rfl
  rw [e, val_main_v71_apply]
  exact congrArg x3 (funext fun a => match a with | ⟨0, _⟩ => rfl | ⟨1, _⟩ => rfl)

end Ref

theorem preserves : Cert.preserves_Kernel28_Kernel28Ideal := trivial

/-- The kernel's arrays are the reference's. -/
theorem algebraic : Cert.algebraic_Kernel28Ideal_Reference28Ideal_pre_finite_attn0 := by
  intro m ρ m' ρ' hpre hag
  refine ⟨fun c => (Cert.Kernel28Ideal.Gen.dats m 0 c).arrAt 4 Cert.Kernel28Ideal.cfg0.N,
    fun c => (Cert.Kernel28Ideal.Gen.dats m 0 c).arrAt 5 Cert.Kernel28Ideal.cfg0.N,
    fun c => (Cert.Kernel28Ideal.Gen.dats m 0 c).arrAt 6 Cert.Kernel28Ideal.cfg0.N,
    Cert.Kernel28Ideal.Value.run_blocks m ρ,
    (θ_run _ _ _).mono (fun r h c => ?_) (Cert.Reference28Ideal.Value.run m' ρ')⟩
  obtain ⟨r0, r1, r2, hk⟩ := h c
  obtain ⟨a0, a1, a2, a3⟩ := hag c
  obtain ⟨n0, n1, n2⟩ := numbers (hpre c)
  refine ⟨funext fun i => ?_, funext fun i => ?_, funext fun i => ?_, hk⟩
  · refine (congrFun (r0.trans (Cert.Reference28Ideal.Read.val_main_v74_eq m' c)) i).trans ?_
    rw [a0, a1, a2, a3]
    by_cases hi : (i 1).val < 3072
    · exact (out_rest _ _ _ _ i hi).trans (query_rest m c i hi).symm
    · have b0 : (i 0).val < 4096 := (i 0).isLt
      have b1 : (i 1).val < 3328 := (i 1).isLt
      refine (out_query _ _ _ _ i (ix2 ⟨(i 0).val, b0⟩ ⟨(i 1).val - 3072, by omega⟩) rfl
        (show (i 1).val = 3072 + ((i 1).val - 3072) by omega)).trans ?_
      refine (congrFun (query _ _ _) _).trans ((Attn.Ref.dq_apply _ _ _ _).trans ?_)
      simp only [Attn.agree n0 n1 n2]
      rw [queries]
      exact (query_array m c i (by omega)).symm
  · refine (congrFun (r1.trans (Cert.Reference28Ideal.Read.val_main_v75_eq m' c)) i).trans ?_
    rw [a0, a1, a2]
    refine (congrFun (key _ _ _) i).trans ((Attn.ref_key n0 n1 n2 i).trans ?_)
    rw [queries]
    exact (key_array m c i).symm
  · refine (congrFun (r2.trans (Cert.Reference28Ideal.Read.val_main_v76_eq m' c)) i).trans ?_
    rw [a0, a1, a2]
    refine (congrFun (value _ _ _) i).trans ((Attn.ref_value i).trans ?_)
    rw [queries]
    exact (value_array m c i).symm

end Cert.AttnHg

end
-- ==== Proof.AdamBlocks.lean ====
module

public import proofs.«01_k».proof.Proof.Table
public import proofs.«01_k».proof.Proof.Gen.Kernel29Ideal.Value
public import Idealize.ShloMosaic.Lib.Pipeline.ReadBack
public import Idealize.ShloMosaic.Lib.Pointwise.Tactic

/-!
One step of the optimiser, block by block: each of the two points updates 352 of the 704 rows, entry by entry.
-/

@[expose] public section

set_option maxRecDepth 16384

noncomputable section

namespace Cert.Adam

open Cert.Kernel29Ideal Cert.Kernel29Ideal.Gen Cert.Kernel29Ideal.Value Idealize.ShloMosaic Idealize.ShloMosaic.TcCoe
open Idealize.SL Idealize.SL.Sem Cert.Tab

/-- A number of the step, by its word. -/
abbrev w (b : BitVec 32) : Ideal .f32 := FloatOps.ofBits .f32 b

/-- The first moment after the step. -/
def first (g m : Ideal .f32) : Ideal .f32 :=
  FloatOps.addf (FloatOps.mulf (w 0x3F666666#32) m) (FloatOps.mulf (w 0x3DCCCCCD#32) g)

/-- The second moment after the step. -/
def second (g v : Ideal .f32) : Ideal .f32 :=
  FloatOps.addf (FloatOps.mulf (w 0x3F7FBE77#32) v) (FloatOps.mulf (w 0x3A83126F#32) (FloatOps.mulf g g))

/-- What the step adds to the weight: the corrected first moment over the root of the corrected second, and the decay. -/
def delta (x g m v : Ideal .f32) : Ideal .f32 :=
  FloatOps.mulf (w 0xBA83126F#32) (FloatOps.addf
    (FloatOps.divf (FloatOps.divf (first g m) (w 0x3F26BD02#32))
      (FloatOps.addf (FloatOps.sqrt (FloatOps.divf (second g v) (w 0x3C231ACC#32))) (w 0x322BCC77#32)))
    (FloatOps.mulf (w 0x3C23D70A#32) x))

/-- The table of the two layers' rows, one layer below the other. -/
def rows (x : S2x352x1024.Idx → EReal) (r s : ℕ) : EReal :=
  tab3 x ((r * 1024 + s) / 360448) ((r * 1024 + s) / 1024 % 352) ((r * 1024 + s) % 1024)

theorem rows_eq (x : FVec Ideal S2x352x1024 .f32) (i : S704x1024.Idx) :
    (shapeCast S704x1024 x shapeCasts_S2x352x1024_S704x1024 i : EReal) = rows x (i 0).val (i 1).val := by
  have h0 : (i 0).val < 704 := (i 0).isLt
  have h1 : (i 1).val < 1024 := (i 1).isLt
  refine (shapeCast_apply x shapeCasts_S2x352x1024_S704x1024 i
    (ix3 ⟨((i 0).val * 1024 + (i 1).val) / 360448, by omega⟩ ⟨((i 0).val * 1024 + (i 1).val) / 1024 % 352, by omega⟩
      ⟨((i 0).val * 1024 + (i 1).val) % 1024, by omega⟩) ?_).trans (eq_tab3 x _)
  rw [Shape.rowMajor_val_three, Shape.rowMajor_val_two]
  show (((i 0).val * 1024 + (i 1).val) / 360448 * 352 + ((i 0).val * 1024 + (i 1).val) / 1024 % 352) * 1024
    + ((i 0).val * 1024 + (i 1).val) % 1024 = (i 0).val * 1024 + (i 1).val
  omega

section Payloads

variable (x g m v : Vec Ideal S352x1024 .f32) (j : S352x1024.Idx)

theorem pay_first : (k0_pay2 g m j : Ideal .f32) = first (g j) (m j) := by
  unfold k0_pay2 k0_pay1
  pointwise
  rfl

theorem pay_second : (k0_pay3 g v j : Ideal .f32) = second (g j) (v j) := by
  unfold k0_pay3 k0_pay1
  pointwise
  rfl

theorem pay_delta : (k0_pay4 g m v x j : Ideal .f32) = delta (x j) (g j) (m j) (v j) := by
  unfold delta
  rw [← pay_first, ← pay_second]
  unfold k0_pay4
  generalize k0_pay2 g m = a
  generalize k0_pay3 g v = b
  pointwise

end Payloads

variable (m : (ℓ : Loc nD τ sig) → Buf (Elt Ideal) ℓ) (c : Dev nD) (t : Fin cfg0.N)

abbrev W : ℕ → ℕ → EReal := rows (m ((c : Thread nD τ).loc main_arg0))
abbrev G : ℕ → ℕ → EReal := rows (m ((c : Thread nD τ).loc main_arg1))
abbrev M : ℕ → ℕ → EReal := rows (m ((c : Thread nD τ).loc main_arg2))
abbrev N : ℕ → ℕ → EReal := rows (m ((c : Thread nD τ).loc main_arg3))

theorem host0 (i : S704x1024.Idx) : (V m c main_v0 : S704x1024.Idx → EReal) i = W m c (i 0).val (i 1).val := by
  refine Eq.trans ?_ (rows_eq _ i)
  entry_read
  rfl

theorem host1 (i : S704x1024.Idx) : (V m c main_v1 : S704x1024.Idx → EReal) i = G m c (i 0).val (i 1).val := by
  refine Eq.trans ?_ (rows_eq _ i)
  entry_read
  rfl

theorem host2 (i : S704x1024.Idx) : (V m c main_v2 : S704x1024.Idx → EReal) i = M m c (i 0).val (i 1).val := by
  refine Eq.trans ?_ (rows_eq _ i)
  entry_read
  rfl

theorem host3 (i : S704x1024.Idx) : (V m c main_v3 : S704x1024.Idx → EReal) i = N m c (i 0).val (i 1).val := by
  refine Eq.trans ?_ (rows_eq _ i)
  entry_read
  rfl

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel

theorem block0 (j : S352x1024.Idx) : iblk m c 0 t j = W m c (t.val * 352 + (j 0).val) (j 1).val := by
  have e := index0 t
  unfold iblk
  blk_simp
  refine (host0 m c _).trans ?_
  blk_simp [e]

theorem block1 (j : S352x1024.Idx) : iblk m c 1 t j = G m c (t.val * 352 + (j 0).val) (j 1).val := by
  have e := index1 t
  unfold iblk
  blk_simp
  refine (host1 m c _).trans ?_
  blk_simp [e]

theorem block2 (j : S352x1024.Idx) : iblk m c 2 t j = M m c (t.val * 352 + (j 0).val) (j 1).val := by
  have e := index2 t
  unfold iblk
  blk_simp
  refine (host2 m c _).trans ?_
  blk_simp [e]

theorem block3 (j : S352x1024.Idx) : iblk m c 3 t j = N m c (t.val * 352 + (j 0).val) (j 1).val := by
  have e := index3 t
  unfold iblk
  blk_simp
  refine (host3 m c _).trans ?_
  blk_simp [e]

/-- What a step leaves at row `r` and column `s` of its three results. -/
abbrev deltaAt (r s : ℕ) : Ideal .f32 := delta (W m c r s) (G m c r s) (M m c r s) (N m c r s)
abbrev firstAt (r s : ℕ) : Ideal .f32 := first (G m c r s) (M m c r s)
abbrev secondAt (r s : ℕ) : Ideal .f32 := second (G m c r s) (N m c r s)

theorem tile4 (i : S352x1024.Idx) : out0_4 (iblk m c 0 t) (iblk m c 1 t) (iblk m c 2 t) (iblk m c 3 t) i
    = deltaAt m c (t.val * 352 + (i 0).val) (i 1).val := by
  unfold out0_4
  frame_out
  refine (pay_delta _ _ _ _ i).trans ?_
  simp only [block0, block1, block2, block3]

theorem array4 (i : S704x1024.Idx) : (dats m 0 c).arrAt 4 cfg0.N i = deltaAt m c (i 0).val (i 1).val := by
  have h0 : (i 0).val < 704 := (i 0).isLt
  have h1 : (i 1).val < 1024 := (i 1).isLt
  obtain ⟨t, ht⟩ : ∃ t : Fin cfg0.N, t.val = (i 0).val / 352 := ⟨⟨(i 0).val / 352, by show _ < 2; omega⟩, rfl⟩
  have e := index4 t
  have hm : i ∈ ((cfg0.win 4).blk t).view.set := by
    mem_blk [e]
    omega
  obtain ⟨y, rfl⟩ := View.exists_emb_of_mem_set _ hm
  refine (Pipeline.Dat.arrAt_emb_eq_flushed _ 4 disjoint4 t (flush0_4 t) y).trans ?_
  rw [flushed4]
  have T := tile4 m c t
  generalize out0_4 (iblk m c 0 t) (iblk m c 1 t) (iblk m c 2 t) (iblk m c 3 t) = z at T ⊢
  refine (T _).trans ?_
  blk_simp [e]

theorem tile5 (i : S352x1024.Idx) : out0_5 (iblk m c 0 t) (iblk m c 1 t) (iblk m c 2 t) (iblk m c 3 t) i
    = firstAt m c (t.val * 352 + (i 0).val) (i 1).val := by
  unfold out0_5
  frame_out
  refine (pay_first _ _ i).trans ?_
  simp only [block1, block2]

theorem array5 (i : S704x1024.Idx) : (dats m 0 c).arrAt 5 cfg0.N i = firstAt m c (i 0).val (i 1).val := by
  have h0 : (i 0).val < 704 := (i 0).isLt
  have h1 : (i 1).val < 1024 := (i 1).isLt
  obtain ⟨t, ht⟩ : ∃ t : Fin cfg0.N, t.val = (i 0).val / 352 := ⟨⟨(i 0).val / 352, by show _ < 2; omega⟩, rfl⟩
  have e := index5 t
  have hm : i ∈ ((cfg0.win 5).blk t).view.set := by
    mem_blk [e]
    omega
  obtain ⟨y, rfl⟩ := View.exists_emb_of_mem_set _ hm
  refine (Pipeline.Dat.arrAt_emb_eq_flushed _ 5 disjoint5 t (flush0_5 t) y).trans ?_
  rw [flushed5]
  have T := tile5 m c t
  generalize out0_5 (iblk m c 0 t) (iblk m c 1 t) (iblk m c 2 t) (iblk m c 3 t) = z at T ⊢
  refine (T _).trans ?_
  blk_simp [e]

theorem tile6 (i : S352x1024.Idx) : out0_6 (iblk m c 0 t) (iblk m c 1 t) (iblk m c 2 t) (iblk m c 3 t) i
    = secondAt m c (t.val * 352 + (i 0).val) (i 1).val := by
  unfold out0_6
  frame_out
  refine (pay_second _ _ i).trans ?_
  simp only [block1, block3]

theorem array6 (i : S704x1024.Idx) : (dats m 0 c).arrAt 6 cfg0.N i = secondAt m c (i 0).val (i 1).val := by
  have h0 : (i 0).val < 704 := (i 0).isLt
  have h1 : (i 1).val < 1024 := (i 1).isLt
  obtain ⟨t, ht⟩ : ∃ t : Fin cfg0.N, t.val = (i 0).val / 352 := ⟨⟨(i 0).val / 352, by show _ < 2; omega⟩, rfl⟩
  have e := index6 t
  have hm : i ∈ ((cfg0.win 6).blk t).view.set := by
    mem_blk [e]
    omega
  obtain ⟨y, rfl⟩ := View.exists_emb_of_mem_set _ hm
  refine (Pipeline.Dat.arrAt_emb_eq_flushed _ 6 disjoint6 t (flush0_6 t) y).trans ?_
  rw [flushed6]
  have T := tile6 m c t
  generalize out0_6 (iblk m c 0 t) (iblk m c 1 t) (iblk m c 2 t) (iblk m c 3 t) = z at T ⊢
  refine (T _).trans ?_
  blk_simp [e]

end Cert.Adam

end
-- ==== Proof.AdamValue.lean ====
module

public import proofs.«01_k».proof.Defs
public import proofs.«01_k».proof.Proof.AdamBlocks
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Reference29Ideal.Read
public import Idealize.ShloMosaic.Init

/-!
One step of the optimiser: both programs update each entry alike, so they agree on all arguments, finite or not.
-/

@[expose] public section

set_option maxRecDepth 16384

noncomputable section

namespace Cert.Adam

open Idealize.ShloMosaic Idealize.ShloMosaic.TcCoe Idealize.SL.Sem Cert.Tab

theorem frame_p : Cert.quiescent_Kernel29 := fun m ρ _ => Cert.Kernel29.Gen.frame m ρ

theorem frame_pi : Cert.quiescent_Kernel29Ideal := fun m ρ _ => Cert.Kernel29Ideal.Gen.frame m ρ

theorem frame_ri : Cert.quiescent_Reference29Ideal := fun m ρ _ =>
  (θ_run Cert.Reference29Ideal.defs _ _).mono
    (fun r h => ⟨fun c => (h c).2.2.2, Idealize.ShloMosaic.sem_eq_zero_of_no_sems (by decide) r.2⟩)
    (Cert.Reference29Ideal.Value.run (F := Ideal) m ρ)

namespace Ref

open Cert.Reference29Ideal Cert.Reference29Ideal.Read

variable (x0 x1 x2 x3 : (⟨S2x352x1024, .f32⟩ : BufTy).Contents (Elt Ideal))

theorem first_apply (j : S2x352x1024.Idx) : val_main_v4 (F := Ideal) x1 x2 j = first (x1 j) (x2 j) := by
  rw [val_main_v4_apply, val_main_v1_apply, val_main_v3_apply, val_main_v0_apply, val_main_v2_apply]
  rfl

theorem second_apply (j : S2x352x1024.Idx) : val_main_v10 (F := Ideal) x1 x3 j = second (x1 j) (x3 j) := by
  rw [val_main_v10_apply, val_main_v6_apply, val_main_v9_apply, val_main_v5_apply, val_main_v8_apply, val_main_v7_apply]
  rfl

theorem delta_apply (j : S2x352x1024.Idx) : val_main_v23 (F := Ideal) x0 x1 x2 x3 j
    = delta (x0 j) (x1 j) (x2 j) (x3 j) := by
  rw [val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, first_apply, second_apply]
  rfl

/-- An argument's entry under an entry of the results. -/
theorem under (x : (⟨S2x352x1024, .f32⟩ : BufTy).Contents (Elt Ideal)) (i : S704x1024.Idx) :
    (x (idx_main_v24 i) : EReal) = rows x (i 0).val (i 1).val := eq_tab3 x _

theorem delta_at (i : S704x1024.Idx) : val_main_v24 (F := Ideal) x0 x1 x2 x3 i = delta (rows x0 (i 0).val (i 1).val)
    (rows x1 (i 0).val (i 1).val) (rows x2 (i 0).val (i 1).val) (rows x3 (i 0).val (i 1).val) := by
  rw [val_main_v24_apply, delta_apply]
  exact congr (congr (congrArg₂ delta (under x0 i) (under x1 i)) (under x2 i)) (under x3 i)

theorem first_at (i : S704x1024.Idx) : val_main_v25 (F := Ideal) x1 x2 i
    = first (rows x1 (i 0).val (i 1).val) (rows x2 (i 0).val (i 1).val) := by
  rw [val_main_v25_apply, first_apply]
  exact congrArg₂ first (under x1 i) (under x2 i)

theorem second_at (i : S704x1024.Idx) : val_main_v26 (F := Ideal) x1 x3 i
    = second (rows x1 (i 0).val (i 1).val) (rows x3 (i 0).val (i 1).val) := by
  rw [val_main_v26_apply, second_apply]
  exact congrArg₂ second (under x1 i) (under x3 i)

end Ref

theorem preserves : Cert.preserves_Kernel29_Kernel29Ideal := trivial

/-- The kernel's three arrays are the reference's. -/
theorem algebraic : Cert.algebraic_Kernel29Ideal_Reference29Ideal := by
  intro m ρ m' ρ' _ hag
  refine ⟨fun c => (Cert.Kernel29Ideal.Gen.dats m 0 c).arrAt 4 Cert.Kernel29Ideal.cfg0.N,
    fun c => (Cert.Kernel29Ideal.Gen.dats m 0 c).arrAt 5 Cert.Kernel29Ideal.cfg0.N,
    fun c => (Cert.Kernel29Ideal.Gen.dats m 0 c).arrAt 6 Cert.Kernel29Ideal.cfg0.N,
    Cert.Kernel29Ideal.Value.run_blocks m ρ,
    (θ_run _ _ _).mono (fun r h c => ?_) (Cert.Reference29Ideal.Value.run m' ρ')⟩
  obtain ⟨h0, h1, h2, hk⟩ := h c
  obtain ⟨a0, a1, a2, a3⟩ := hag c
  refine ⟨funext fun i => ?_, funext fun i => ?_, funext fun i => ?_, hk⟩
  · refine (congrFun (h0.trans (Cert.Reference29Ideal.Read.val_main_v24_eq _ _ _ _)) i).trans ?_
    rw [a0, a1, a2, a3]
    exact (Ref.delta_at _ _ _ _ i).trans (array4 m c i).symm
  · refine (congrFun (h1.trans (Cert.Reference29Ideal.Read.val_main_v25_eq _ _)) i).trans ?_
    rw [a1, a2]
    exact (Ref.first_at _ _ i).trans (array5 m c i).symm
  · refine (congrFun (h2.trans (Cert.Reference29Ideal.Read.val_main_v26_eq _ _)) i).trans ?_
    rw [a1, a3]
    exact (Ref.second_at _ _ i).trans (array6 m c i).symm

end Cert.Adam

end
-- ==== Proof.lean ====
/- The certificate: the calls of the training step that are claimed, each kernel against its reference. Each claim is
   proved in a module of its own under Proof/; this file only puts them together behind the side conditions the printed
   programs state. -/
module

public import proofs.«01_k».proof.Defs
public import proofs.«01_k».proof.Proof.Frames
public import proofs.«01_k».proof.Proof.Value
public import proofs.«01_k».proof.Proof.GateValue
public import proofs.«01_k».proof.Proof.NormValue
public import proofs.«01_k».proof.Proof.InDwValue
public import proofs.«01_k».proof.Proof.OutDwValue
public import proofs.«01_k».proof.Proof.FwdValue
public import proofs.«01_k».proof.Proof.AttnValue
public import proofs.«01_k».proof.Proof.GmNormValue
public import proofs.«01_k».proof.Proof.HgNormValue
public import proofs.«01_k».proof.Proof.GmDwValue
public import proofs.«01_k».proof.Proof.HgDwValue
public import proofs.«01_k».proof.Proof.ProjDwValue
public import proofs.«01_k».proof.Proof.ProjDxValue
public import proofs.«01_k».proof.Proof.GmInValue
public import proofs.«01_k».proof.Proof.HgInValue
public import proofs.«01_k».proof.Proof.ProjValue
public import proofs.«01_k».proof.Proof.FfnOutValue
public import proofs.«01_k».proof.Proof.MixValue
public import proofs.«01_k».proof.Proof.AttnFwdValue
public import proofs.«01_k».proof.Proof.HeadValue
public import proofs.«01_k».proof.Proof.MemValue
public import proofs.«01_k».proof.Proof.MemDwValue
public import proofs.«01_k».proof.Proof.MemDxValue
public import proofs.«01_k».proof.Proof.RmsValue
public import proofs.«01_k».proof.Proof.RmsBwdValue
public import proofs.«01_k».proof.Proof.MemNormValue
public import proofs.«01_k».proof.Proof.AttnHgFwdValue
public import proofs.«01_k».proof.Proof.AttnHgValue
public import proofs.«01_k».proof.Proof.AdamValue
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Gmlp.pre_facts, Gate.pre_facts, Attn.pre_facts, AttnHg.pre_facts, Gmlp.written_facts, Mix.written_facts,
    Gmlp.frame_p, Gmlp.frame_pi, fun m ρ _ => Gmlp.frame_pi m ρ trivial, Gmlp.frame_ri, fun m ρ _ => Gmlp.frame_ri m ρ trivial,
    Gate.frame_p, Gate.frame_pi, fun m ρ _ => Gate.frame_pi m ρ trivial, Gate.frame_ri, fun m ρ _ => Gate.frame_ri m ρ trivial,
    Norm.frame_p, Norm.frame_pi, Norm.frame_ri,
    InDw.frame_p, InDw.frame_pi, InDw.frame_ri,
    OutDw.frame_p, OutDw.frame_pi, OutDw.frame_ri,
    Fwd.frame_p, Fwd.frame_pi, Fwd.frame_ri,
    Attn.frame_p, Attn.frame_pi, fun m ρ _ => Attn.frame_pi m ρ trivial, Attn.frame_ri, fun m ρ _ => Attn.frame_ri m ρ trivial,
    GmNorm.frame_p, GmNorm.frame_pi, GmNorm.frame_ri,
    HgNorm.frame_p, HgNorm.frame_pi, HgNorm.frame_ri,
    GmDw.frame_p, GmDw.frame_pi, GmDw.frame_ri,
    HgDw.frame_p, HgDw.frame_pi, HgDw.frame_ri,
    ProjDw.frame_p, ProjDw.frame_pi, ProjDw.frame_ri,
    ProjDx.frame_p, ProjDx.frame_pi, ProjDx.frame_ri,
    GmIn.frame_p, GmIn.frame_pi, GmIn.frame_ri,
    HgIn.frame_p, HgIn.frame_pi, HgIn.frame_ri,
    Proj.frame_p, Proj.frame_pi, Proj.frame_ri,
    FfnOut.frame_p, FfnOut.frame_pi, FfnOut.frame_ri,
    Mix.frame_p, Mix.frame_pi, Mix.frame_ri,
    AttnFwd.frame_p, AttnFwd.frame_pi, AttnFwd.frame_ri,
    Head.frame_p, Head.frame_pi, Head.frame_ri,
    Mem.frame_p, Mem.frame_pi, Mem.frame_ri,
    MemDw.frame_p, MemDw.frame_pi, MemDw.frame_ri,
    MemDx.frame_p, MemDx.frame_pi, MemDx.frame_ri,
    Rms.frame_p, Rms.frame_pi, Rms.frame_ri,
    RmsBwd.frame_p, RmsBwd.frame_pi, RmsBwd.frame_ri,
    MemNorm.frame_p, MemNorm.frame_pi, MemNorm.frame_ri,
    AttnHgFwd.frame_p, AttnHgFwd.frame_pi, AttnHgFwd.frame_ri,
    AttnHg.frame_p, AttnHg.frame_pi, fun m ρ _ => AttnHg.frame_pi m ρ trivial, AttnHg.frame_ri, fun m ρ _ => AttnHg.frame_ri m ρ trivial,
    Adam.frame_p, Adam.frame_pi, Adam.frame_ri,
    Gmlp.preserves, Gmlp.algebraic,
    Gate.preserves, Gate.algebraic,
    Norm.preserves, Norm.algebraic,
    InDw.preserves, InDw.algebraic,
    OutDw.preserves, OutDw.algebraic,
    Fwd.preserves, Fwd.algebraic,
    Attn.preserves, Attn.algebraic,
    GmNorm.preserves, GmNorm.algebraic,
    HgNorm.preserves, HgNorm.algebraic,
    GmDw.preserves, GmDw.algebraic,
    HgDw.preserves, HgDw.algebraic,
    ProjDw.preserves, ProjDw.algebraic,
    ProjDx.preserves, ProjDx.algebraic,
    GmIn.preserves, GmIn.algebraic,
    HgIn.preserves, HgIn.algebraic,
    Proj.preserves, Proj.algebraic,
    FfnOut.preserves, FfnOut.algebraic,
    Mix.preserves, Mix.algebraic,
    AttnFwd.preserves, AttnFwd.algebraic,
    Head.preserves, Head.algebraic,
    Mem.preserves, Mem.algebraic,
    MemDw.preserves, MemDw.algebraic,
    MemDx.preserves, MemDx.algebraic,
    Rms.preserves, Rms.algebraic,
    RmsBwd.preserves, RmsBwd.algebraic,
    MemNorm.preserves, MemNorm.algebraic,
    AttnHgFwd.preserves, AttnHgFwd.algebraic,
    AttnHg.preserves, AttnHg.algebraic,
    Adam.preserves, Adam.algebraic⟩

end Cert.Proof

end
